-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_decaying [hPre_finite_and_decaying : Cert.Pre_finite_and_decaying.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_decaying.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_and_decaying.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_and_decaying.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_and_decaying.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_and_decaying.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_decaying [hPre_finite_and_decaying : Cert.Pre_finite_and_decaying.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_decaying.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_and_decaying.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_and_decaying.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_and_decaying.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_and_decaying.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_and_decaying [hKernelIdeal : Cert.KernelIdeal.Facts] [hPre_finite_and_decaying : Cert.Pre_finite_and_decaying.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_decaying m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_and_decaying [hReferenceIdeal : Cert.ReferenceIdeal.Facts] [hPre_finite_and_decaying : Cert.Pre_finite_and_decaying.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_decaying m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)

def algebraic_KernelIdeal_ReferenceIdeal_pre_finite_and_decaying [hKernelIdeal : Cert.KernelIdeal.Facts] [hReferenceIdeal : Cert.ReferenceIdeal.Facts] [hPre_finite_and_decaying : Cert.Pre_finite_and_decaying.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_decaying m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "neg_log2_e" .f32 0xBFB8AA3B#32 ((-((Real.log 2)⁻¹) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "neg_log2_e" .f32 0xBFB8AA3B#32 ((-((Real.log 2)⁻¹) : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)) (v2 : (c : Dev Cert.Kernel3Ideal.nD) → Buf (Elt Ideal) ((c.tc : Thread Cert.Kernel3Ideal.nD Cert.Kernel3Ideal.τ).loc Cert.Kernel3Ideal.main_v14_2)) (v3 : (c : Dev Cert.Kernel3Ideal.nD) → Buf (Elt Ideal) ((c.tc : Thread Cert.Kernel3Ideal.nD Cert.Kernel3Ideal.τ).loc Cert.Kernel3Ideal.main_v14_3)) (v4 : (c : Dev Cert.Kernel3Ideal.nD) → Buf (Elt Ideal) ((c.tc : Thread Cert.Kernel3Ideal.nD Cert.Kernel3Ideal.τ).loc Cert.Kernel3Ideal.main_v14_4)) (v5 : (c : Dev Cert.Kernel3Ideal.nD) → Buf (Elt Ideal) ((c.tc : Thread Cert.Kernel3Ideal.nD Cert.Kernel3Ideal.τ).loc Cert.Kernel3Ideal.main_v14_5)) (v6 : (c : Dev Cert.Kernel3Ideal.nD) → Buf (Elt Ideal) ((c.tc : Thread Cert.Kernel3Ideal.nD Cert.Kernel3Ideal.τ).loc Cert.Kernel3Ideal.main_v14_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_v14_2) = v2 c
          ∧ r.2.mem ((c.tc : Thread Cert.Kernel3Ideal.nD Cert.Kernel3Ideal.τ).loc Cert.Kernel3Ideal.main_v14_3) = v3 c
          ∧ r.2.mem ((c.tc : Thread Cert.Kernel3Ideal.nD Cert.Kernel3Ideal.τ).loc Cert.Kernel3Ideal.main_v14_4) = v4 c
          ∧ r.2.mem ((c.tc : Thread Cert.Kernel3Ideal.nD Cert.Kernel3Ideal.τ).loc Cert.Kernel3Ideal.main_v14_5) = v5 c
          ∧ r.2.mem ((c.tc : Thread Cert.Kernel3Ideal.nD Cert.Kernel3Ideal.τ).loc Cert.Kernel3Ideal.main_v14_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v99) = v0 c
          ∧ r.2.mem ((c.tc : Thread Cert.Reference3Ideal.nD Cert.Reference3Ideal.τ).loc Cert.Reference3Ideal.main_v100) = v1 c
          ∧ r.2.mem ((c.tc : Thread Cert.Reference3Ideal.nD Cert.Reference3Ideal.τ).loc Cert.Reference3Ideal.main_v101) = v2 c
          ∧ r.2.mem ((c.tc : Thread Cert.Reference3Ideal.nD Cert.Reference3Ideal.τ).loc Cert.Reference3Ideal.main_v102) = v3 c
          ∧ r.2.mem ((c.tc : Thread Cert.Reference3Ideal.nD Cert.Reference3Ideal.τ).loc Cert.Reference3Ideal.main_v98) = v4 c
          ∧ r.2.mem ((c.tc : Thread Cert.Reference3Ideal.nD Cert.Reference3Ideal.τ).loc Cert.Reference3Ideal.main_v103) = v5 c
          ∧ r.2.mem ((c.tc : Thread Cert.Reference3Ideal.nD Cert.Reference3Ideal.τ).loc Cert.Reference3Ideal.main_v104) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_and_decaying : Cert.Pre_finite_and_decaying.Facts),
    quiescent_Kernel (hKernel := hKernel)
    ∧ quiescent_KernelIdeal (hKernelIdeal := hKernelIdeal)
    ∧ quiescent_KernelIdeal_pre_finite_and_decaying (hKernelIdeal := hKernelIdeal) (hPre_finite_and_decaying := hPre_finite_and_decaying)
    ∧ quiescent_ReferenceIdeal (hReferenceIdeal := hReferenceIdeal)
    ∧ quiescent_ReferenceIdeal_pre_finite_and_decaying (hReferenceIdeal := hReferenceIdeal) (hPre_finite_and_decaying := hPre_finite_and_decaying)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_and_decaying (hKernelIdeal := hKernelIdeal) (hReferenceIdeal := hReferenceIdeal) (hPre_finite_and_decaying := hPre_finite_and_decaying)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_and_decaying.lean ====
abbrev S32768x1024 : Shape := ⟨2, ![32768, 1024]⟩
abbrev S32768x8 : Shape := ⟨2, ![32768, 8]⟩
abbrev S128 : Shape := ⟨1, ![128]⟩
abbrev S_ : Shape := ⟨0, ![]⟩

class Facts : Prop where
  bcast_S_S32768x1024 : S_.BroadcastsInDim S32768x1024 (![] : Fin 0 → Fin S32768x1024.rank)
  bcast_S_S32768x8 : S_.BroadcastsInDim S32768x8 (![] : Fin 0 → Fin S32768x8.rank)

variable [Facts]

def fn {F : FTy → Type} [FloatOps F] (main_arg0 : FVec F S32768x1024 .f32) (main_arg1 : FVec F S32768x1024 .f32) (main_arg2 : FVec F S32768x1024 .f32) (main_arg3 : FVec F S32768x1024 .f32) (main_arg4 : FVec F S32768x8 .f32) (main_arg5 : FVec F S32768x8 .f32) (main_arg6 : FVec F S128 .f32) : IVec S32768x1024 1 × IVec S32768x1024 1 × IVec S32768x1024 1 × IVec S32768x8 1 × IVec S32768x8 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_v3 : FVec F S32768x1024 .f32 := Host.absf main_arg1
  let main_cst_0 : FVec F S_ .f32 := constant S_ .f32 0x7F800000#32
  let main_v4 : FVec F S32768x1024 .f32 := broadcastInDim S32768x1024 ![] bcast_S_S32768x1024 main_cst_0
  let main_v5 : IVec S32768x1024 1 := cmpf .olt main_v3 main_v4
  let main_v6 : FVec F S32768x1024 .f32 := Host.absf main_arg2
  let main_cst_1 : FVec F S_ .f32 := constant S_ .f32 0x7F800000#32
  let main_v7 : FVec F S32768x1024 .f32 := broadcastInDim S32768x1024 ![] bcast_S_S32768x1024 main_cst_1
  let main_v8 : IVec S32768x1024 1 := cmpf .olt main_v6 main_v7
  let main_v9 : FVec F S32768x8 .f32 := Host.absf main_arg4
  let main_cst_2 : FVec F S_ .f32 := constant S_ .f32 0x7F800000#32
  let main_v10 : FVec F S32768x8 .f32 := broadcastInDim S32768x8 ![] bcast_S_S32768x8 main_cst_2
  let main_v11 : IVec S32768x8 1 := cmpf .olt main_v9 main_v10
  let main_v12 : FVec F S32768x8 .f32 := Host.absf main_arg5
  let main_cst_3 : FVec F S_ .f32 := constant S_ .f32 0x7F800000#32
  let main_v13 : FVec F S32768x8 .f32 := broadcastInDim S32768x8 ![] bcast_S_S32768x8 main_cst_3
  let main_v14 : IVec S32768x8 1 := cmpf .olt main_v12 main_v13
  let main_cst_4 : FVec F S_ .f32 := constant S_ .f32 0x00000000#32
  let main_v15 : FVec F S32768x8 .f32 := broadcastInDim S32768x8 ![] bcast_S_S32768x8 main_cst_4
  let main_v16 : IVec S32768x8 1 := cmpf .ole main_arg5 main_v15
  let main_v17 : IVec S32768x8 1 := andi main_v14 main_v16
  (main_v2, main_v5, main_v8, main_v11, main_v17)
-- ==== Kernel.lean ====
abbrev S32768x1024 : Shape := ⟨2, ![32768, 1024]⟩
abbrev S32768x8 : Shape := ⟨2, ![32768, 8]⟩
abbrev S128 : Shape := ⟨1, ![128]⟩
abbrev S8x32768 : Shape := ⟨2, ![8, 32768]⟩
abbrev S1x128 : Shape := ⟨2, ![1, 128]⟩
abbrev S256x1024 : Shape := ⟨2, ![256, 1024]⟩
abbrev S256x8 : Shape := ⟨2, ![256, 8]⟩
abbrev S8x256 : Shape := ⟨2, ![8, 256]⟩
abbrev S8x128x128 : Shape := ⟨3, ![8, 128, 128]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S256x128 : Shape := ⟨2, ![256, 128]⟩
abbrev S512x128 : Shape := ⟨2, ![512, 128]⟩
abbrev S512x256 : Shape := ⟨2, ![512, 256]⟩
abbrev S128x256 : Shape := ⟨2, ![128, 256]⟩
abbrev S16x2x8x256 : Shape := ⟨4, ![16, 2, 8, 256]⟩
abbrev S16x1x8x256 : Shape := ⟨4, ![16, 1, 8, 256]⟩
abbrev S16x8x256 : Shape := ⟨3, ![16, 8, 256]⟩
abbrev S8x2x16x256 : Shape := ⟨4, ![8, 2, 16, 256]⟩
abbrev S8x1x16x256 : Shape := ⟨4, ![8, 1, 16, 256]⟩
abbrev S8x16x256 : Shape := ⟨3, ![8, 16, 256]⟩
abbrev S4x2x32x256 : Shape := ⟨4, ![4, 2, 32, 256]⟩
abbrev S4x1x32x256 : Shape := ⟨4, ![4, 1, 32, 256]⟩
abbrev S4x32x256 : Shape := ⟨3, ![4, 32, 256]⟩
abbrev S64x128 : Shape := ⟨2, ![64, 128]⟩
abbrev S64x256 : Shape := ⟨2, ![64, 256]⟩
abbrev S1x128x128 : Shape := ⟨3, ![1, 128, 128]⟩
abbrev S128x128 : Shape := ⟨2, ![128, 128]⟩
abbrev S192x128 : Shape := ⟨2, ![192, 128]⟩
abbrev S1x1 : Shape := ⟨2, ![1, 1]⟩

abbrev nBuf : Space → Nat
  | .hbm => 10
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x1024, .f32⟩
  | .hbm, ⟨4, _⟩ => ⟨S32768x8, .f32⟩
  | .hbm, ⟨5, _⟩ => ⟨S32768x8, .f32⟩
  | .hbm, ⟨6, _⟩ => ⟨S128, .f32⟩
  | .hbm, ⟨7, _⟩ => ⟨S8x32768, .f32⟩
  | .hbm, ⟨8, _⟩ => ⟨S1x128, .f32⟩
  | .hbm, ⟨9, _⟩ => ⟨S32768x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x8, .f32⟩
  | .local _ .vmem, ⟨9, _⟩ => ⟨S256x8, .f32⟩
  | .local _ .vmem, ⟨10, _⟩ => ⟨S256x8, .f32⟩
  | .local _ .vmem, ⟨11, _⟩ => ⟨S256x8, .f32⟩
  | .local _ .vmem, ⟨12, _⟩ => ⟨S8x256, .f32⟩
  | .local _ .vmem, ⟨13, _⟩ => ⟨S8x256, .f32⟩
  | .local _ .vmem, ⟨14, _⟩ => ⟨S1x128, .f32⟩
  | .local _ .vmem, ⟨15, _⟩ => ⟨S256x1024, .bf16⟩
  | .local _ .vmem, ⟨16, _⟩ => ⟨S256x1024, .bf16⟩
  | .local _ .vmem, ⟨17, _⟩ => ⟨S8x128x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![16, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S256x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "neg_log2_e" => some ((-((Real.log 2)⁻¹) : ℝ) : EReal)
  | _ => none
-- ==== ReferenceIdeal.lean ====
abbrev S32768x1024 : Shape := ⟨2, ![32768, 1024]⟩
abbrev S32768x8 : Shape := ⟨2, ![32768, 8]⟩
abbrev S128 : Shape := ⟨1, ![128]⟩
abbrev S16x2048x8x128 : Shape := ⟨4, ![16, 2048, 8, 128]⟩
abbrev S16x2048x8 : Shape := ⟨3, ![16, 2048, 8]⟩
abbrev S16x32x64x8x128 : Shape := ⟨5, ![16, 32, 64, 8, 128]⟩
abbrev S16x8x32x64x128 : Shape := ⟨5, ![16, 8, 32, 64, 128]⟩
abbrev S16x32x64x8 : Shape := ⟨4, ![16, 32, 64, 8]⟩
abbrev S16x8x32x64 : Shape := ⟨4, ![16, 8, 32, 64]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S16x8x32x64x1 : Shape := ⟨5, ![16, 8, 32, 64, 1]⟩
abbrev S16x8x32x1x64 : Shape := ⟨5, ![16, 8, 32, 1, 64]⟩
abbrev S16x8x32x64x64 : Shape := ⟨5, ![16, 8, 32, 64, 64]⟩
abbrev S16x8x32x64x256 : Shape := ⟨5, ![16, 8, 32, 64, 256]⟩
abbrev S16x8x32x1x256 : Shape := ⟨5, ![16, 8, 32, 1, 256]⟩
abbrev S16x8x32x1 : Shape := ⟨4, ![16, 8, 32, 1]⟩
abbrev S16x8x32 : Shape := ⟨3, ![16, 8, 32]⟩
abbrev S32x16x8x64x128 : Shape := ⟨5, ![32, 16, 8, 64, 128]⟩
abbrev S32x16x8x64x64 : Shape := ⟨5, ![32, 16, 8, 64, 64]⟩
abbrev S32x16x8 : Shape := ⟨3, ![32, 16, 8]⟩
abbrev S16x8x128x128 : Shape := ⟨4, ![16, 8, 128, 128]⟩
abbrev S1x16x8x64x128 : Shape := ⟨5, ![1, 16, 8, 64, 128]⟩
abbrev S16x8x64x128 : Shape := ⟨4, ![16, 8, 64, 128]⟩
abbrev S1x16x8x64x64 : Shape := ⟨5, ![1, 16, 8, 64, 64]⟩
abbrev S16x8x64x64 : Shape := ⟨4, ![16, 8, 64, 64]⟩
abbrev S1x16x8 : Shape := ⟨3, ![1, 16, 8]⟩
abbrev S16x8 : Shape := ⟨2, ![16, 8]⟩
abbrev S16x8x1x1 : Shape := ⟨4, ![16, 8, 1, 1]⟩
abbrev S16x2048x8x1 : Shape := ⟨4, ![16, 2048, 8, 1]⟩
abbrev S1x1x1x128 : Shape := ⟨4, ![1, 1, 1, 128]⟩

abbrev nBuf : Space → Nat
  | .hbm => 247
  | .vmem => 0
  | .smem => 0
  | _ => 0

abbrev hbmTy0_0 (i : Nat) : BufTy := match i % 128 with
  | 0 => ⟨S32768x1024, .f32⟩
  | 1 => ⟨S32768x1024, .f32⟩
  | 2 => ⟨S32768x1024, .f32⟩
  | 3 => ⟨S32768x1024, .f32⟩
  | 4 => ⟨S32768x8, .f32⟩
  | 5 => ⟨S32768x8, .f32⟩
  | 6 => ⟨S128, .f32⟩
  | 7 => ⟨S16x2048x8x128, .f32⟩
  | 8 => ⟨S16x2048x8x128, .f32⟩
  | 9 => ⟨S16x2048x8x128, .f32⟩
  | 10 => ⟨S16x2048x8, .f32⟩
  | 11 => ⟨S16x2048x8, .f32⟩
  | 12 => ⟨S16x32x64x8x128, .f32⟩
  | 13 => ⟨S16x8x32x64x128, .f32⟩
  | 14 => ⟨S16x32x64x8x128, .f32⟩
  | 15 => ⟨S16x8x32x64x128, .f32⟩
  | 16 => ⟨S16x32x64x8x128, .f32⟩
  | 17 => ⟨S16x8x32x64x128, .f32⟩
  | 18 => ⟨S16x32x64x8, .f32⟩
  | 19 => ⟨S16x8x32x64, .f32⟩
  | 20 => ⟨S_, .f32⟩
  | 21 => ⟨S_, .f32⟩
  | 22 => ⟨S16x8x32x64, .f32⟩
  | 23 => ⟨S16x32x64x8, .f32⟩
  | 24 => ⟨S16x8x32x64, .f32⟩
  | 25 => ⟨S64, .i32⟩
  | 26 => ⟨S64x1, .i32⟩
  | 27 => ⟨S1x64, .i32⟩
  | 28 => ⟨S64x64, .i32⟩
  | 29 => ⟨S64x64, .i32⟩
  | 30 => ⟨S64x64, .i1⟩
  | 31 => ⟨S64x1, .i32⟩
  | 32 => ⟨S1x64, .i32⟩
  | 33 => ⟨S64x64, .i32⟩
  | 34 => ⟨S64x64, .i32⟩
  | 35 => ⟨S64x64, .i1⟩
  | 36 => ⟨S16x8x32x64x1, .f32⟩
  | 37 => ⟨S16x8x32x1x64, .f32⟩
  | 38 => ⟨S16x8x32x64x64, .f32⟩
  | 39 => ⟨S16x8x32x64x64, .f32⟩
  | 40 => ⟨S16x8x32x64x64, .f32⟩
  | 41 => ⟨S_, .f32⟩
  | 42 => ⟨S_, .f32⟩
  | 43 => ⟨S16x8x32x64x64, .i1⟩
  | 44 => ⟨S16x8x32x64x64, .f32⟩
  | 45 => ⟨S16x8x32x64x64, .f32⟩
  | 46 => ⟨S16x8x32x64x64, .f32⟩
  | 47 => ⟨S_, .f32⟩
  | 48 => ⟨S_, .f32⟩
  | 49 => ⟨S16x8x32x64x64, .i1⟩
  | 50 => ⟨S16x8x32x64x64, .f32⟩
  | 51 => ⟨S16x8x32x64x64, .f32⟩
  | 52 => ⟨S16x8x32x64x1, .f32⟩
  | 53 => ⟨S16x8x32x64x128, .f32⟩
  | 54 => ⟨S16x8x32x64x128, .f32⟩
  | 55 => ⟨S16x8x32x64x64, .f32⟩
  | 56 => ⟨S16x8x32x64x64, .f32⟩
  | 57 => ⟨S_, .f32⟩
  | 58 => ⟨S_, .f32⟩
  | 59 => ⟨S16x8x32x64x64, .i1⟩
  | 60 => ⟨S16x8x32x64x64, .f32⟩
  | 61 => ⟨S16x8x32x64x64, .f32⟩
  | 62 => ⟨S16x8x32x64x1, .f32⟩
  | 63 => ⟨S16x8x32x64x128, .f32⟩
  | 64 => ⟨S16x8x32x64x128, .f32⟩
  | 65 => ⟨S16x8x32x64, .f32⟩
  | 66 => ⟨S16x8x32x64x1, .f32⟩
  | 67 => ⟨S16x8x32x64x128, .f32⟩
  | 68 => ⟨S16x8x32x64x128, .f32⟩
  | 69 => ⟨S16x8x32x64x256, .f32⟩
  | 70 => ⟨S_, .f32⟩
  | 71 => ⟨S16x8x32x64x256, .f32⟩
  | 72 => ⟨S_, .i32⟩
  | 73 => ⟨S_, .i32⟩
  | 74 => ⟨S16x8x32x64x64, .f32⟩
  | 75 => ⟨S16x8x32x64x256, .f32⟩
  | 76 => ⟨S_, .i32⟩
  | 77 => ⟨S_, .i32⟩
  | 78 => ⟨S16x8x32x64x256, .f32⟩
  | 79 => ⟨S_, .i32⟩
  | 80 => ⟨S_, .i1⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S16x8x32x1x64, .f32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S16x8x32x1x256, .f32⟩
  | 105 => ⟨S16x8x32x1x256, .f32⟩
  | 106 => ⟨S16x8x32x1x256, .f32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S16x8x32x64x256, .f32⟩
  | 118 => ⟨S_, .i32⟩
  | 119 => ⟨S_, .i32⟩
  | 120 => ⟨S16x8x32x64x128, .f32⟩
  | 121 => ⟨S16x8x32x64x128, .f32⟩
  | 122 => ⟨S16x8x32x64x64, .f32⟩
  | 123 => ⟨S16x8x32x64x64, .f32⟩
  | 124 => ⟨S_, .f32⟩
  | 125 => ⟨S_, .f32⟩
  | 126 => ⟨S16x8x32x64x64, .i1⟩
  | 127 => ⟨S16x8x32x64x64, .f32⟩
  | _ => ⟨S32768x1024, .f32⟩

abbrev hbmTy0_1 (i : Nat) : BufTy := match i % 128 with
  | 0 => ⟨S16x8x32x64x64, .f32⟩
  | 1 => ⟨S16x8x32x64, .f32⟩
  | 2 => ⟨S16x8x32x64x1, .f32⟩
  | 3 => ⟨S16x8x32x64x128, .f32⟩
  | 4 => ⟨S16x8x32x64x128, .f32⟩
  | 5 => ⟨S16x8x32x1, .f32⟩
  | 6 => ⟨S16x8x32x64, .f32⟩
  | 7 => ⟨S16x8x32x64, .f32⟩
  | 8 => ⟨S16x8x32x64, .f32⟩
  | 9 => ⟨S16x8x32x64x1, .f32⟩
  | 10 => ⟨S16x8x32x64x128, .f32⟩
  | 11 => ⟨S16x8x32x64x128, .f32⟩
  | 12 => ⟨S16x8x32x1, .f32⟩
  | 13 => ⟨S16x8x32, .f32⟩
  | 14 => ⟨S16x8x32, .f32⟩
  | 15 => ⟨S32x16x8x64x128, .f32⟩
  | 16 => ⟨S32x16x8x64x128, .f32⟩
  | 17 => ⟨S32x16x8x64x64, .f32⟩
  | 18 => ⟨S32x16x8x64x128, .f32⟩
  | 19 => ⟨S32x16x8x64x128, .f32⟩
  | 20 => ⟨S32x16x8, .f32⟩
  | 21 => ⟨S_, .f32⟩
  | 22 => ⟨S16x8x128x128, .f32⟩
  | 23 => ⟨S_, .f32⟩
  | 24 => ⟨S32x16x8x64x128, .f32⟩
  | 25 => ⟨S_, .i32⟩
  | 26 => ⟨S32x16x8x64x128, .f32⟩
  | 27 => ⟨S32x16x8x64x128, .f32⟩
  | 28 => ⟨S32x16x8x64x64, .f32⟩
  | 29 => ⟨S32x16x8x64x128, .f32⟩
  | 30 => ⟨S32x16x8x64x128, .f32⟩
  | 31 => ⟨S32x16x8, .f32⟩
  | 32 => ⟨S_, .i32⟩
  | 33 => ⟨S16x8x128x128, .f32⟩
  | 34 => ⟨S32x16x8x64x128, .f32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S1x16x8x64x128, .f32⟩
  | 42 => ⟨S16x8x64x128, .f32⟩
  | 43 => ⟨S_, .i32⟩
  | 44 => ⟨S_, .i32⟩
  | 45 => ⟨S_, .i32⟩
  | 46 => ⟨S_, .i32⟩
  | 47 => ⟨S1x16x8x64x128, .f32⟩
  | 48 => ⟨S16x8x64x128, .f32⟩
  | 49 => ⟨S_, .i32⟩
  | 50 => ⟨S_, .i32⟩
  | 51 => ⟨S_, .i32⟩
  | 52 => ⟨S_, .i32⟩
  | 53 => ⟨S1x16x8x64x64, .f32⟩
  | 54 => ⟨S16x8x64x64, .f32⟩
  | 55 => ⟨S_, .i32⟩
  | 56 => ⟨S_, .i32⟩
  | 57 => ⟨S_, .i32⟩
  | 58 => ⟨S_, .i32⟩
  | 59 => ⟨S1x16x8x64x128, .f32⟩
  | 60 => ⟨S16x8x64x128, .f32⟩
  | 61 => ⟨S_, .i32⟩
  | 62 => ⟨S_, .i32⟩
  | 63 => ⟨S_, .i32⟩
  | 64 => ⟨S_, .i32⟩
  | 65 => ⟨S1x16x8x64x128, .f32⟩
  | 66 => ⟨S16x8x64x128, .f32⟩
  | 67 => ⟨S_, .i32⟩
  | 68 => ⟨S_, .i32⟩
  | 69 => ⟨S1x16x8, .f32⟩
  | 70 => ⟨S16x8, .f32⟩
  | 71 => ⟨S16x8x64x128, .f32⟩
  | 72 => ⟨S16x8x64x128, .f32⟩
  | 73 => ⟨S16x8x64x128, .f32⟩
  | 74 => ⟨S16x8x64x128, .f32⟩
  | 75 => ⟨S16x8x64x128, .f32⟩
  | 76 => ⟨S16x8x1x1, .f32⟩
  | 77 => ⟨S16x8x128x128, .f32⟩
  | 78 => ⟨S16x8x128x128, .f32⟩
  | 79 => ⟨S16x8x128x128, .f32⟩
  | 80 => ⟨S16x8x128x128, .f32⟩
  | 81 => ⟨S1x16x8x64x128, .f32⟩
  | 82 => ⟨S_, .i32⟩
  | 83 => ⟨S_, .i32⟩
  | 84 => ⟨S_, .i32⟩
  | 85 => ⟨S_, .i32⟩
  | 86 => ⟨S32x16x8x64x128, .f32⟩
  | 87 => ⟨S_, .i32⟩
  | 88 => ⟨S_, .i32⟩
  | 89 => ⟨S16x32x64x8x128, .f32⟩
  | 90 => ⟨S16x2048x8x128, .f32⟩
  | 91 => ⟨S16x2048x8x128, .f32⟩
  | 92 => ⟨S_, .f32⟩
  | 93 => ⟨S16x2048x8, .f32⟩
  | 94 => ⟨S16x2048x8x1, .f32⟩
  | 95 => ⟨S_, .f32⟩
  | 96 => ⟨S16x2048x8x1, .f32⟩
  | 97 => ⟨S16x2048x8x1, .f32⟩
  | 98 => ⟨S_, .f32⟩
  | 99 => ⟨S16x2048x8x1, .f32⟩
  | 100 => ⟨S16x2048x8x1, .f32⟩
  | 101 => ⟨S16x2048x8x1, .f32⟩
  | 102 => ⟨S16x2048x8x128, .f32⟩
  | 103 => ⟨S16x2048x8x128, .f32⟩
  | 104 => ⟨S1x1x1x128, .f32⟩
  | 105 => ⟨S16x2048x8x128, .f32⟩
  | 106 => ⟨S16x2048x8x128, .f32⟩
  | 107 => ⟨S32768x1024, .f32⟩
  | 108 => ⟨S32768x1024, .f32⟩
  | 109 => ⟨S32768x1024, .f32⟩
  | 110 => ⟨S_, .f32⟩
  | 111 => ⟨S32768x1024, .f32⟩
  | 112 => ⟨S32768x1024, .f32⟩
  | 113 => ⟨S_, .f32⟩
  | 114 => ⟨S32768x1024, .f32⟩
  | 115 => ⟨S32768x1024, .f32⟩
  | 116 => ⟨S32768x1024, .f32⟩
  | 117 => ⟨S32768x1024, .f32⟩
  | 118 => ⟨S32768x1024, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_call0_cst : Ref sig .tc := ⟨.hbm, 20, rfl⟩
abbrev main_call0_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v32 : Ref sig .tc := ⟨.hbm, 45, rfl⟩
abbrev main_v33 : Ref sig .tc := ⟨.hbm, 46, rfl⟩
abbrev main_cst_0 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_1 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_2 : Ref sig .tc := ⟨.hbm, 70, rfl⟩
abbrev main_v49 : Ref sig .tc := ⟨.hbm, 71, rfl⟩
abbrev main_c : Ref sig .tc := ⟨.hbm, 72, rfl⟩
abbrev main_c_3 : Ref sig .tc := ⟨.hbm, 73, rfl⟩
abbrev main_v50_0 : Ref sig .tc := ⟨.hbm, 74, rfl⟩
abbrev main_v50_1 : Ref sig .tc := ⟨.hbm, 75, rfl⟩
abbrev main_v50_2 : Ref sig .tc := ⟨.hbm, 76, rfl⟩
abbrev main_v50_3 : Ref sig .tc := ⟨.hbm, 77, rfl⟩
abbrev main_v50_4 : Ref sig .tc := ⟨.hbm, 78, rfl⟩
abbrev main_while0c_c_15 : Ref sig .tc := ⟨.hbm, 79, rfl⟩
abbrev main_while0c_v98 : Ref sig .tc := ⟨.hbm, 80, rfl⟩
abbrev main_while0b_c_15 : Ref sig .tc := ⟨.hbm, 81, rfl⟩
abbrev main_while0b_v98 : Ref sig .tc := ⟨.hbm, 82, rfl⟩
abbrev main_while0b_c_16 : Ref sig .tc := ⟨.hbm, 83, rfl⟩
abbrev main_while0b_v99 : Ref sig .tc := ⟨.hbm, 84, rfl⟩
abbrev main_while0b_v100 : Ref sig .tc := ⟨.hbm, 85, rfl⟩
abbrev main_while0b_c_17 : Ref sig .tc := ⟨.hbm, 86, rfl⟩
abbrev main_while0b_v101 : Ref sig .tc := ⟨.hbm, 87, rfl⟩
abbrev main_while0b_v102 : Ref sig .tc := ⟨.hbm, 88, rfl⟩
abbrev main_while0b_c_18 : Ref sig .tc := ⟨.hbm, 89, rfl⟩
abbrev main_while0b_c_19 : Ref sig .tc := ⟨.hbm, 90, rfl⟩
abbrev main_while0b_c_20 : Ref sig .tc := ⟨.hbm, 91, rfl⟩
abbrev main_while0b_c_21 : Ref sig .tc := ⟨.hbm, 92, rfl⟩
abbrev main_while0b_v103 : Ref sig .tc := ⟨.hbm, 93, rfl⟩
abbrev main_while0b_c_22 : Ref sig .tc := ⟨.hbm, 94, rfl⟩
abbrev main_while0b_v104 : Ref sig .tc := ⟨.hbm, 95, rfl⟩
abbrev main_while0b_v105 : Ref sig .tc := ⟨.hbm, 96, rfl⟩
abbrev main_while0b_c_23 : Ref sig .tc := ⟨.hbm, 97, rfl⟩
abbrev main_while0b_v106 : Ref sig .tc := ⟨.hbm, 98, rfl⟩
abbrev main_while0b_v107 : Ref sig .tc := ⟨.hbm, 99, rfl⟩
abbrev main_while0b_c_24 : Ref sig .tc := ⟨.hbm, 100, rfl⟩
abbrev main_while0b_c_25 : Ref sig .tc := ⟨.hbm, 101, rfl⟩
abbrev main_while0b_c_26 : Ref sig .tc := ⟨.hbm, 102, rfl⟩
abbrev main_while0b_c_27 : Ref sig .tc := ⟨.hbm, 103, rfl⟩
abbrev main_while0b_v108 : Ref sig .tc := ⟨.hbm, 104, rfl⟩
abbrev main_while0b_v109 : Ref sig .tc := ⟨.hbm, 105, rfl⟩
abbrev main_while0b_v110 : Ref sig .tc := ⟨.hbm, 106, rfl⟩
abbrev main_while0b_c_28 : Ref sig .tc := ⟨.hbm, 107, rfl⟩
abbrev main_while0b_v111 : Ref sig .tc := ⟨.hbm, 108, rfl⟩
abbrev main_while0b_v112 : Ref sig .tc := ⟨.hbm, 109, rfl⟩
abbrev main_while0b_c_29 : Ref sig .tc := ⟨.hbm, 110, rfl⟩
abbrev main_while0b_v113 : Ref sig .tc := ⟨.hbm, 111, rfl⟩
abbrev main_while0b_v114 : Ref sig .tc := ⟨.hbm, 112, rfl⟩
abbrev main_while0b_c_30 : Ref sig .tc := ⟨.hbm, 113, rfl⟩
abbrev main_while0b_c_31 : Ref sig .tc := ⟨.hbm, 114, rfl⟩
abbrev main_while0b_c_32 : Ref sig .tc := ⟨.hbm, 115, rfl⟩
abbrev main_while0b_c_33 : Ref sig .tc := ⟨.hbm, 116, rfl⟩
abbrev main_while0b_v115 : Ref sig .tc := ⟨.hbm, 117, rfl⟩
abbrev main_while0b_c_34 : Ref sig .tc := ⟨.hbm, 118, rfl⟩
abbrev main_while0b_v116 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_cst_4 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_cst_5 : Ref sig .tc := ⟨.hbm, 149, rfl⟩
abbrev main_v76 : Ref sig .tc := ⟨.hbm, 150, rfl⟩
abbrev main_cst_6 : Ref sig .tc := ⟨.hbm, 151, rfl⟩
abbrev main_v77 : Ref sig .tc := ⟨.hbm, 152, rfl⟩
abbrev main_c_7 : Ref sig .tc := ⟨.hbm, 153, rfl⟩
abbrev main_v78_0 : Ref sig .tc := ⟨.hbm, 154, rfl⟩
abbrev main_v78_1 : Ref sig .tc := ⟨.hbm, 155, rfl⟩
abbrev main_v78_2 : Ref sig .tc := ⟨.hbm, 156, rfl⟩
abbrev main_v78_3 : Ref sig .tc := ⟨.hbm, 157, rfl⟩
abbrev main_v78_4 : Ref sig .tc := ⟨.hbm, 158, rfl⟩
abbrev main_v78_5 : Ref sig .tc := ⟨.hbm, 159, rfl⟩
abbrev main_v78_6 : Ref sig .tc := ⟨.hbm, 160, rfl⟩
abbrev main_v78_7 : Ref sig .tc := ⟨.hbm, 161, rfl⟩
abbrev main_v78_8 : Ref sig .tc := ⟨.hbm, 162, rfl⟩
abbrev main_while1c_c_19 : Ref sig .tc := ⟨.hbm, 163, rfl⟩
abbrev main_while1c_v98 : Ref sig .tc := ⟨.hbm, 164, rfl⟩
abbrev main_while1b_call5_c : Ref sig .tc := ⟨.hbm, 165, rfl⟩
abbrev main_while1b_call5_c_0 : Ref sig .tc := ⟨.hbm, 166, rfl⟩
abbrev main_while1b_call5_c_1 : Ref sig .tc := ⟨.hbm, 167, rfl⟩
abbrev main_while1b_call5_c_2 : Ref sig .tc := ⟨.hbm, 168, rfl⟩
abbrev main_while1b_call5_v0 : Ref sig .tc := ⟨.hbm, 169, rfl⟩
abbrev main_while1b_v98 : Ref sig .tc := ⟨.hbm, 170, rfl⟩
abbrev main_while1b_call6_c : Ref sig .tc := ⟨.hbm, 171, rfl⟩
abbrev main_while1b_call6_c_0 : Ref sig .tc := ⟨.hbm, 172, rfl⟩
abbrev main_while1b_call6_c_1 : Ref sig .tc := ⟨.hbm, 173, rfl⟩
abbrev main_while1b_call6_c_2 : Ref sig .tc := ⟨.hbm, 174, rfl⟩
abbrev main_while1b_call6_v0 : Ref sig .tc := ⟨.hbm, 175, rfl⟩
abbrev main_while1b_v99 : Ref sig .tc := ⟨.hbm, 176, rfl⟩
abbrev main_while1b_call7_c : Ref sig .tc := ⟨.hbm, 177, rfl⟩
abbrev main_while1b_call7_c_0 : Ref sig .tc := ⟨.hbm, 178, rfl⟩
abbrev main_while1b_call7_c_1 : Ref sig .tc := ⟨.hbm, 179, rfl⟩
abbrev main_while1b_call7_c_2 : Ref sig .tc := ⟨.hbm, 180, rfl⟩
abbrev main_while1b_call7_v0 : Ref sig .tc := ⟨.hbm, 181, rfl⟩
abbrev main_while1b_v100 : Ref sig .tc := ⟨.hbm, 182, rfl⟩
abbrev main_while1b_call8_c : Ref sig .tc := ⟨.hbm, 183, rfl⟩
abbrev main_while1b_call8_c_0 : Ref sig .tc := ⟨.hbm, 184, rfl⟩
abbrev main_while1b_call8_c_1 : Ref sig .tc := ⟨.hbm, 185, rfl⟩
abbrev main_while1b_call8_c_2 : Ref sig .tc := ⟨.hbm, 186, rfl⟩
abbrev main_while1b_call8_v0 : Ref sig .tc := ⟨.hbm, 187, rfl⟩
abbrev main_while1b_v101 : Ref sig .tc := ⟨.hbm, 188, rfl⟩
abbrev main_while1b_call9_c : Ref sig .tc := ⟨.hbm, 189, rfl⟩
abbrev main_while1b_call9_c_0 : Ref sig .tc := ⟨.hbm, 190, rfl⟩
abbrev main_while1b_call9_c_1 : Ref sig .tc := ⟨.hbm, 191, rfl⟩
abbrev main_while1b_call9_c_2 : Ref sig .tc := ⟨.hbm, 192, rfl⟩
abbrev main_while1b_call9_v0 : Ref sig .tc := ⟨.hbm, 193, rfl⟩
abbrev main_while1b_v102 : Ref sig .tc := ⟨.hbm, 194, rfl⟩
abbrev main_while1b_call10_c : Ref sig .tc := ⟨.hbm, 195, rfl⟩
abbrev main_while1b_call10_c_0 : Ref sig .tc := ⟨.hbm, 196, rfl⟩
abbrev main_while1b_call10_v0 : Ref sig .tc := ⟨.hbm, 197, rfl⟩
abbrev main_while1b_v103 : Ref sig .tc := ⟨.hbm, 198, rfl⟩
abbrev main_while1b_v104 : Ref sig .tc := ⟨.hbm, 199, rfl⟩
abbrev main_while1b_v105 : Ref sig .tc := ⟨.hbm, 200, rfl⟩
abbrev main_while1b_v106 : Ref sig .tc := ⟨.hbm, 201, rfl⟩
abbrev main_while1b_v107 : Ref sig .tc := ⟨.hbm, 202, rfl⟩
abbrev main_while1b_v108 : Ref sig .tc := ⟨.hbm, 203, rfl⟩
abbrev main_while1b_v109 : Ref sig .tc := ⟨.hbm, 204, rfl⟩
abbrev main_while1b_v110 : Ref sig .tc := ⟨.hbm, 205, rfl⟩
abbrev main_while1b_v111 : Ref sig .tc := ⟨.hbm, 206, rfl⟩
abbrev main_while1b_v112 : Ref sig .tc := ⟨.hbm, 207, rfl⟩
abbrev main_while1b_v113 : Ref sig .tc := ⟨.hbm, 208, rfl⟩
abbrev main_while1b_call11_v0 : Ref sig .tc := ⟨.hbm, 209, rfl⟩
abbrev main_while1b_call11_c : Ref sig .tc := ⟨.hbm, 210, rfl⟩
abbrev main_while1b_call11_c_0 : Ref sig .tc := ⟨.hbm, 211, rfl⟩
abbrev main_while1b_call11_c_1 : Ref sig .tc := ⟨.hbm, 212, rfl⟩
abbrev main_while1b_call11_c_2 : Ref sig .tc := ⟨.hbm, 213, rfl⟩
abbrev main_while1b_v114 : Ref sig .tc := ⟨.hbm, 214, rfl⟩
abbrev main_while1b_c_19 : Ref sig .tc := ⟨.hbm, 215, rfl⟩
abbrev main_while1b_v115 : Ref sig .tc := ⟨.hbm, 216, rfl⟩
abbrev main_v79 : Ref sig .tc := ⟨.hbm, 217, rfl⟩
abbrev main_v80 : Ref sig .tc := ⟨.hbm, 218, rfl⟩
abbrev main_v81 : Ref sig .tc := ⟨.hbm, 219, rfl⟩
abbrev main_cst_8 : Ref sig .tc := ⟨.hbm, 220, rfl⟩
abbrev main_v82 : Ref sig .tc := ⟨.hbm, 221, rfl⟩
abbrev main_v83 : Ref sig .tc := ⟨.hbm, 222, rfl⟩
abbrev main_cst_9 : Ref sig .tc := ⟨.hbm, 223, rfl⟩
abbrev main_v84 : Ref sig .tc := ⟨.hbm, 224, rfl⟩
abbrev main_v85 : Ref sig .tc := ⟨.hbm, 225, rfl⟩
abbrev main_cst_10 : Ref sig .tc := ⟨.hbm, 226, rfl⟩
abbrev main_v86 : Ref sig .tc := ⟨.hbm, 227, rfl⟩
abbrev main_v87 : Ref sig .tc := ⟨.hbm, 228, rfl⟩
abbrev main_v88 : Ref sig .tc := ⟨.hbm, 229, rfl⟩
abbrev main_v89 : Ref sig .tc := ⟨.hbm, 230, rfl⟩
abbrev main_v90 : Ref sig .tc := ⟨.hbm, 231, rfl⟩
abbrev main_v91 : Ref sig .tc := ⟨.hbm, 232, rfl⟩
abbrev main_v92 : Ref sig .tc := ⟨.hbm, 233, rfl⟩
abbrev main_v93 : Ref sig .tc := ⟨.hbm, 234, rfl⟩
abbrev main_v94 : Ref sig .tc := ⟨.hbm, 235, rfl⟩
abbrev main_call12_v0 : Ref sig .tc := ⟨.hbm, 236, rfl⟩
abbrev main_call12_v1 : Ref sig .tc := ⟨.hbm, 237, rfl⟩
abbrev main_call12_cst : Ref sig .tc := ⟨.hbm, 238, rfl⟩
abbrev main_call12_v2 : Ref sig .tc := ⟨.hbm, 239, rfl⟩
abbrev main_call12_v3 : Ref sig .tc := ⟨.hbm, 240, rfl⟩
abbrev main_call12_cst_0 : Ref sig .tc := ⟨.hbm, 241, rfl⟩
abbrev main_call12_v4 : Ref sig .tc := ⟨.hbm, 242, rfl⟩
abbrev main_call12_v5 : Ref sig .tc := ⟨.hbm, 243, rfl⟩
abbrev main_v95 : Ref sig .tc := ⟨.hbm, 244, rfl⟩
abbrev main_v96 : Ref sig .tc := ⟨.hbm, 245, rfl⟩
abbrev main_v97 : Ref sig .tc := ⟨.hbm, 246, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 32#32, 1#32⟩
-- ==== Kernel2.lean ====
abbrev S32768x1024 : Shape := ⟨2, ![32768, 1024]⟩
abbrev S4x32768x256 : Shape := ⟨3, ![4, 32768, 256]⟩
abbrev S2x1024x1024 : Shape := ⟨3, ![2, 1024, 1024]⟩
abbrev S4x1024 : Shape := ⟨2, ![4, 1024]⟩
abbrev S4x1024x1024 : Shape := ⟨3, ![4, 1024, 1024]⟩
abbrev S4x256x1024 : Shape := ⟨3, ![4, 256, 1024]⟩
abbrev S131072x256 : Shape := ⟨2, ![131072, 256]⟩
abbrev S4x1x1024 : Shape := ⟨3, ![4, 1, 1024]⟩
abbrev S1024x1024 : Shape := ⟨2, ![1024, 1024]⟩
abbrev S1024x256 : Shape := ⟨2, ![1024, 256]⟩
abbrev S1x1024x1024 : Shape := ⟨3, ![1, 1024, 1024]⟩
abbrev S1x1x1024 : Shape := ⟨3, ![1, 1, 1024]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 10
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S4x32768x256, .f32⟩
  | .hbm, ⟨3, _⟩ => ⟨S2x1024x1024, .f32⟩
  | .hbm, ⟨4, _⟩ => ⟨S4x1024, .f32⟩
  | .hbm, ⟨5, _⟩ => ⟨S4x1024x1024, .f32⟩
  | .hbm, ⟨6, _⟩ => ⟨S4x256x1024, .f32⟩
  | .hbm, ⟨7, _⟩ => ⟨S131072x256, .f32⟩
  | .hbm, ⟨8, _⟩ => ⟨S4x1x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x256, .f32⟩
  | .local _ .vmem, ⟨5, _⟩ => ⟨S1024x256, .f32⟩
  | .local _ .vmem, ⟨6, _⟩ => ⟨S1x1024x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x256x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S256x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel2Ideal.lean ====
variable {F : FTy → Type} [FloatOps F] [Named F]
def κ : String → Option EReal := fun
  | "neg_log2_e" => some ((-((Real.log 2)⁻¹) : ℝ) : EReal)
  | _ => none
-- ==== Reference2Ideal.lean ====
abbrev S32768x1024 : Shape := ⟨2, ![32768, 1024]⟩
abbrev S4x32768x256 : Shape := ⟨3, ![4, 32768, 256]⟩
abbrev S2x1024x1024 : Shape := ⟨3, ![2, 1024, 1024]⟩
abbrev S4x1024 : Shape := ⟨2, ![4, 1024]⟩
abbrev S4x1024x1024 : Shape := ⟨3, ![4, 1024, 1024]⟩
abbrev S4x256x1024 : Shape := ⟨3, ![4, 256, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x32768x256 : Shape := ⟨3, ![1, 32768, 256]⟩
abbrev S32768x256 : Shape := ⟨2, ![32768, 256]⟩
abbrev S1x256x1024 : Shape := ⟨3, ![1, 256, 1024]⟩
abbrev S256x1024 : Shape := ⟨2, ![256, 1024]⟩

abbrev nBuf : Space → Nat
  | .hbm => 48
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S4x32768x256, .f32⟩
  | .hbm, ⟨3, _⟩ => ⟨S2x1024x1024, .f32⟩
  | .hbm, ⟨4, _⟩ => ⟨S4x1024, .f32⟩
  | .hbm, ⟨5, _⟩ => ⟨S4x1024x1024, .f32⟩
  | .hbm, ⟨6, _⟩ => ⟨S4x256x1024, .f32⟩
  | .hbm, ⟨7, _⟩ => ⟨S32768x1024, .f32⟩
  | .hbm, ⟨8, _⟩ => ⟨S1x1024x1024, .f32⟩
  | .hbm, ⟨9, _⟩ => ⟨S1024x1024, .f32⟩
  | .hbm, ⟨10, _⟩ => ⟨S32768x1024, .f32⟩
  | .hbm, ⟨11, _⟩ => ⟨S32768x1024, .f32⟩
  | .hbm, ⟨12, _⟩ => ⟨S1x1024, .f32⟩
  | .hbm, ⟨13, _⟩ => ⟨S1024, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S1x1024, .f32⟩
  | .hbm, ⟨28, _⟩ => ⟨S32768x1024, .f32⟩
  | .hbm, ⟨29, _⟩ => ⟨S32768x1024, .f32⟩
  | .hbm, ⟨30, _⟩ => ⟨S1x1024x1024, .f32⟩
  | .hbm, ⟨31, _⟩ => ⟨S1024x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S_, .f32⟩
  | .hbm, ⟨39, _⟩ => ⟨S32768x1024, .f32⟩
  | .hbm, ⟨40, _⟩ => ⟨S32768x1024, .f32⟩
  | .hbm, ⟨41, _⟩ => ⟨S1x32768x256, .f32⟩
  | .hbm, ⟨42, _⟩ => ⟨S32768x256, .f32⟩
  | .hbm, ⟨43, _⟩ => ⟨S1x256x1024, .f32⟩
  | .hbm, ⟨44, _⟩ => ⟨S256x1024, .f32⟩
  | .hbm, ⟨45, _⟩ => ⟨S32768x1024, .f32⟩
  | .hbm, ⟨46, _⟩ => ⟨S32768x1024, .f32⟩
  | .hbm, ⟨47, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel3.lean ====
abbrev S32768x1024 : Shape := ⟨2, ![32768, 1024]⟩
abbrev S4x1024 : Shape := ⟨2, ![4, 1024]⟩
abbrev S2x1024x4112 : Shape := ⟨3, ![2, 1024, 4112]⟩
abbrev S2x4x3072 : Shape := ⟨3, ![2, 4, 3072]⟩
abbrev S2x8 : Shape := ⟨2, ![2, 8]⟩
abbrev S1x1024 : Shape := ⟨2, ![1, 1024]⟩
abbrev S1024 : Shape := ⟨1, ![1024]⟩
abbrev S2x4112x1024 : Shape := ⟨3, ![2, 4112, 1024]⟩
abbrev S1x4x3072 : Shape := ⟨3, ![1, 4, 3072]⟩
abbrev S4x3072 : Shape := ⟨2, ![4, 3072]⟩
abbrev S1x8 : Shape := ⟨2, ![1, 8]⟩
abbrev S8 : Shape := ⟨1, ![8]⟩
abbrev S8x1 : Shape := ⟨2, ![8, 1]⟩
abbrev S32768x8 : Shape := ⟨2, ![32768, 8]⟩
abbrev S8x32768 : Shape := ⟨2, ![8, 32768]⟩
abbrev S512x1024 : Shape := ⟨2, ![512, 1024]⟩
abbrev S1x4112x1024 : Shape := ⟨3, ![1, 4112, 1024]⟩
abbrev S512x8 : Shape := ⟨2, ![512, 8]⟩
abbrev S8x512 : Shape := ⟨2, ![8, 512]⟩
abbrev S520x3072 : Shape := ⟨2, ![520, 3072]⟩
abbrev S1024x3072 : Shape := ⟨2, ![1024, 3072]⟩
abbrev S1024x128 : Shape := ⟨2, ![1024, 128]⟩
abbrev S128x1024 : Shape := ⟨2, ![128, 1024]⟩
abbrev S1024x1024 : Shape := ⟨2, ![1024, 1024]⟩
abbrev S1x256x1024 : Shape := ⟨3, ![1, 256, 1024]⟩
abbrev S256x1024 : Shape := ⟨2, ![256, 1024]⟩
abbrev S1024x256 : Shape := ⟨2, ![1024, 256]⟩
abbrev S1x128x1024 : Shape := ⟨3, ![1, 128, 1024]⟩
abbrev S512 : Shape := ⟨1, ![512]⟩
abbrev S512x1 : Shape := ⟨2, ![512, 1]⟩
abbrev S512x128 : Shape := ⟨2, ![512, 128]⟩
abbrev S16x1024 : Shape := ⟨2, ![16, 1024]⟩
abbrev S16x512 : Shape := ⟨2, ![16, 512]⟩
abbrev S8x3072 : Shape := ⟨2, ![8, 3072]⟩
abbrev S8x1024 : Shape := ⟨2, ![8, 1024]⟩

abbrev nBuf : Space → Nat
  | .hbm => 27
  | .vmem => 28
  | .smem => 0
  | _ => 0

abbrev bufTy : (tb : Table) → Fin (tcTables nBuf tb) → BufTy
  | .hbm, ⟨0, _⟩ => ⟨S32768x1024, .f32⟩
  | .hbm, ⟨1, _⟩ => ⟨S4x1024, .f32⟩
  | .hbm, ⟨2, _⟩ => ⟨S2x1024x4112, .f32⟩
  | .hbm, ⟨3, _⟩ => ⟨S2x4x3072, .f32⟩
  | .hbm, ⟨4, _⟩ => ⟨S2x8, .f32⟩
  | .hbm, ⟨5, _⟩ => ⟨S2x8, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S2x4112x1024, .f32⟩
  | .hbm, ⟨10, _⟩ => ⟨S1x4x3072, .f32⟩
  | .hbm, ⟨11, _⟩ => ⟨S4x3072, .f32⟩
  | .hbm, ⟨12, _⟩ => ⟨S1x8, .f32⟩
  | .hbm, ⟨13, _⟩ => ⟨S8, .f32⟩
  | .hbm, ⟨14, _⟩ => ⟨S1x8, .f32⟩
  | .hbm, ⟨15, _⟩ => ⟨S8, .f32⟩
  | .hbm, ⟨16, _⟩ => ⟨S1x8, .f32⟩
  | .hbm, ⟨17, _⟩ => ⟨S1x8, .f32⟩
  | .hbm, ⟨18, _⟩ => ⟨S8x1, .f32⟩
  | .hbm, ⟨19, _⟩ => ⟨S8x1, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x8, .f32⟩
  | .hbm, ⟨24, _⟩ => ⟨S32768x8, .f32⟩
  | .hbm, ⟨25, _⟩ => ⟨S8x32768, .f32⟩
  | .hbm, ⟨26, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x4112x1024, .f32⟩
  | .local _ .vmem, ⟨4, _⟩ => ⟨S4x3072, .f32⟩
  | .local _ .vmem, ⟨5, _⟩ => ⟨S1x8, .f32⟩
  | .local _ .vmem, ⟨6, _⟩ => ⟨S1x8, .f32⟩
  | .local _ .vmem, ⟨7, _⟩ => ⟨S8x1, .f32⟩
  | .local _ .vmem, ⟨8, _⟩ => ⟨S8x1, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x8, .f32⟩
  | .local _ .vmem, ⟨16, _⟩ => ⟨S512x8, .f32⟩
  | .local _ .vmem, ⟨17, _⟩ => ⟨S512x8, .f32⟩
  | .local _ .vmem, ⟨18, _⟩ => ⟨S512x8, .f32⟩
  | .local _ .vmem, ⟨19, _⟩ => ⟨S8x512, .f32⟩
  | .local _ .vmem, ⟨20, _⟩ => ⟨S8x512, .f32⟩
  | .local _ .vmem, ⟨21, _⟩ => ⟨S512x1024, .f32⟩
  | .local _ .vmem, ⟨22, _⟩ => ⟨S512x1024, .f32⟩
  | .local _ .vmem, ⟨23, _⟩ => ⟨S520x3072, .f32⟩
  | .local _ .vmem, ⟨24, _⟩ => ⟨S1024x3072, .bf16⟩
  | .local _ .vmem, ⟨25, _⟩ => ⟨S1024x128, .bf16⟩
  | .local _ .vmem, ⟨26, _⟩ => ⟨S128x1024, .bf16⟩
  | .local _ .vmem, ⟨27, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev main_v14_4 : Ref sig .tc := ⟨.hbm, 24, rfl⟩
abbrev main_v14_5 : Ref sig .tc := ⟨.hbm, 25, rfl⟩
abbrev main_v14_6 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4112x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Kernel3Ideal.lean ====
variable {F : FTy → Type} [FloatOps F] [Named F]
def κ : String → Option EReal := fun
  | "neg_log2_e" => some ((-((Real.log 2)⁻¹) : ℝ) : EReal)
  | _ => none
-- ==== Reference3Ideal.lean ====
abbrev S32768x1024 : Shape := ⟨2, ![32768, 1024]⟩
abbrev S4x1024 : Shape := ⟨2, ![4, 1024]⟩
abbrev S2x1024x4112 : Shape := ⟨3, ![2, 1024, 4112]⟩
abbrev S2x4x3072 : Shape := ⟨3, ![2, 4, 3072]⟩
abbrev S2x8 : Shape := ⟨2, ![2, 8]⟩
abbrev S16x2048x1024 : Shape := ⟨3, ![16, 2048, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x4112 : Shape := ⟨3, ![1, 1024, 4112]⟩
abbrev S1024x4112 : Shape := ⟨2, ![1024, 4112]⟩
abbrev S16x2048x4112 : Shape := ⟨3, ![16, 2048, 4112]⟩
abbrev S16x2048x3072 : Shape := ⟨3, ![16, 2048, 3072]⟩
abbrev S16x2048x8 : Shape := ⟨3, ![16, 2048, 8]⟩
abbrev S1x4x3072 : Shape := ⟨3, ![1, 4, 3072]⟩
abbrev S4x3072 : Shape := ⟨2, ![4, 3072]⟩
abbrev S16x2051x3072 : Shape := ⟨3, ![16, 2051, 3072]⟩
abbrev S1x3072 : Shape := ⟨2, ![1, 3072]⟩
abbrev S3072 : Shape := ⟨1, ![3072]⟩
abbrev S1x1x3072 : Shape := ⟨3, ![1, 1, 3072]⟩
abbrev S16x2048x8x128 : Shape := ⟨4, ![16, 2048, 8, 128]⟩
abbrev S16x2048x8x1 : Shape := ⟨4, ![16, 2048, 8, 1]⟩
abbrev S1x8 : Shape := ⟨2, ![1, 8]⟩
abbrev S8 : Shape := ⟨1, ![8]⟩
abbrev S1x1x8 : Shape := ⟨3, ![1, 1, 8]⟩
abbrev S32768x8 : Shape := ⟨2, ![32768, 8]⟩
abbrev S8x32768 : Shape := ⟨2, ![8, 32768]⟩

abbrev nBuf : Space → Nat
  | .hbm => 145
  | .vmem => 0
  | .smem => 0
  | _ => 0

abbrev hbmTy0_0 (i : Nat) : BufTy := match i % 128 with
  | 0 => ⟨S32768x1024, .f32⟩
  | 1 => ⟨S4x1024, .f32⟩
  | 2 => ⟨S2x1024x4112, .f32⟩
  | 3 => ⟨S2x4x3072, .f32⟩
  | 4 => ⟨S2x8, .f32⟩
  | 5 => ⟨S2x8, .f32⟩
  | 6 => ⟨S16x2048x1024, .f32⟩
  | 7 => ⟨S1x1024, .f32⟩
  | 8 => ⟨S1024, .f32⟩
  | 9 => ⟨S16x2048x1024, .f32⟩
  | 10 => ⟨S_, .f32⟩
  | 11 => ⟨S16x2048, .f32⟩
  | 12 => ⟨S16x2048x1, .f32⟩
  | 13 => ⟨S_, .f32⟩
  | 14 => ⟨S16x2048x1, .f32⟩
  | 15 => ⟨S16x2048x1, .f32⟩
  | 16 => ⟨S_, .f32⟩
  | 17 => ⟨S16x2048x1, .f32⟩
  | 18 => ⟨S16x2048x1, .f32⟩
  | 19 => ⟨S16x2048x1, .f32⟩
  | 20 => ⟨S16x2048x1024, .f32⟩
  | 21 => ⟨S16x2048x1024, .f32⟩
  | 22 => ⟨S1x1x1024, .f32⟩
  | 23 => ⟨S16x2048x1024, .f32⟩
  | 24 => ⟨S16x2048x1024, .f32⟩
  | 25 => ⟨S1x1024x4112, .f32⟩
  | 26 => ⟨S1024x4112, .f32⟩
  | 27 => ⟨S16x2048x4112, .f32⟩
  | 28 => ⟨S16x2048x3072, .f32⟩
  | 29 => ⟨S16x2048x8, .f32⟩
  | 30 => ⟨S16x2048x8, .f32⟩
  | 31 => ⟨S16x2048x1024, .f32⟩
  | 32 => ⟨S1x4x3072, .f32⟩
  | 33 => ⟨S4x3072, .f32⟩
  | 34 => ⟨S_, .i32⟩
  | 35 => ⟨S_, .f32⟩
  | 36 => ⟨S16x2051x3072, .f32⟩
  | 37 => ⟨S16x2048x3072, .f32⟩
  | 38 => ⟨S1x3072, .f32⟩
  | 39 => ⟨S3072, .f32⟩
  | 40 => ⟨S1x1x3072, .f32⟩
  | 41 => ⟨S16x2048x3072, .f32⟩
  | 42 => ⟨S16x2048x3072, .f32⟩
  | 43 => ⟨S_, .f32⟩
  | 44 => ⟨S16x2048x3072, .f32⟩
  | 45 => ⟨S16x2048x3072, .f32⟩
  | 46 => ⟨S16x2048x3072, .f32⟩
  | 47 => ⟨S1x3072, .f32⟩
  | 48 => ⟨S3072, .f32⟩
  | 49 => ⟨S1x1x3072, .f32⟩
  | 50 => ⟨S16x2048x3072, .f32⟩
  | 51 => ⟨S16x2048x3072, .f32⟩
  | 52 => ⟨S16x2048x3072, .f32⟩
  | 53 => ⟨S16x2048x3072, .f32⟩
  | 54 => ⟨S1x3072, .f32⟩
  | 55 => ⟨S3072, .f32⟩
  | 56 => ⟨S1x1x3072, .f32⟩
  | 57 => ⟨S16x2048x3072, .f32⟩
  | 58 => ⟨S16x2048x3072, .f32⟩
  | 59 => ⟨S16x2048x3072, .f32⟩
  | 60 => ⟨S16x2048x3072, .f32⟩
  | 61 => ⟨S1x3072, .f32⟩
  | 62 => ⟨S3072, .f32⟩
  | 63 => ⟨S1x1x3072, .f32⟩
  | 64 => ⟨S16x2048x3072, .f32⟩
  | 65 => ⟨S16x2048x3072, .f32⟩
  | 66 => ⟨S16x2048x3072, .f32⟩
  | 67 => ⟨S16x2048x3072, .f32⟩
  | 68 => ⟨S16x2048x3072, .f32⟩
  | 69 => ⟨S_, .f32⟩
  | 70 => ⟨S16x2048x3072, .f32⟩
  | 71 => ⟨S16x2048x3072, .f32⟩
  | 72 => ⟨S_, .f32⟩
  | 73 => ⟨S16x2048x3072, .f32⟩
  | 74 => ⟨S16x2048x3072, .f32⟩
  | 75 => ⟨S16x2048x3072, .f32⟩
  | 76 => ⟨S16x2048x1024, .f32⟩
  | 77 => ⟨S16x2048x1024, .f32⟩
  | 78 => ⟨S16x2048x1024, .f32⟩
  | 79 => ⟨S16x2048x8x128, .f32⟩
  | 80 => ⟨S16x2048x8x128, .f32⟩
  | 81 => ⟨S_, .f32⟩
  | 82 => ⟨S16x2048x8, .f32⟩
  | 83 => ⟨S16x2048x8x1, .f32⟩
  | 84 => ⟨S_, .f32⟩
  | 85 => ⟨S16x2048x8x1, .f32⟩
  | 86 => ⟨S16x2048x8x1, .f32⟩
  | 87 => ⟨S16x2048x8x1, .f32⟩
  | 88 => ⟨S16x2048x8x128, .f32⟩
  | 89 => ⟨S16x2048x8x128, .f32⟩
  | 90 => ⟨S_, .f32⟩
  | 91 => ⟨S16x2048x8x128, .f32⟩
  | 92 => ⟨S16x2048x8x128, .f32⟩
  | 93 => ⟨S16x2048x8x128, .f32⟩
  | 94 => ⟨S16x2048x8x128, .f32⟩
  | 95 => ⟨S_, .f32⟩
  | 96 => ⟨S16x2048x8, .f32⟩
  | 97 => ⟨S16x2048x8x1, .f32⟩
  | 98 => ⟨S_, .f32⟩
  | 99 => ⟨S16x2048x8x1, .f32⟩
  | 100 => ⟨S16x2048x8x1, .f32⟩
  | 101 => ⟨S16x2048x8x1, .f32⟩
  | 102 => ⟨S16x2048x8x128, .f32⟩
  | 103 => ⟨S16x2048x8x128, .f32⟩
  | 104 => ⟨S16x2048x8, .f32⟩
  | 105 => ⟨S16x2048x8, .f32⟩
  | 106 => ⟨S_, .f32⟩
  | 107 => ⟨S16x2048x8, .f32⟩
  | 108 => ⟨S16x2048x8, .f32⟩
  | 109 => ⟨S_, .f32⟩
  | 110 => ⟨S16x2048x8, .f32⟩
  | 111 => ⟨S16x2048x8, .f32⟩
  | 112 => ⟨S1x8, .f32⟩
  | 113 => ⟨S8, .f32⟩
  | 114 => ⟨S8, .f32⟩
  | 115 => ⟨S8, .f32⟩
  | 116 => ⟨S1x8, .f32⟩
  | 117 => ⟨S8, .f32⟩
  | 118 => ⟨S1x1x8, .f32⟩
  | 119 => ⟨S16x2048x8, .f32⟩
  | 120 => ⟨S16x2048x8, .f32⟩
  | 121 => ⟨S_, .f32⟩
  | 122 => ⟨S16x2048x8, .f32⟩
  | 123 => ⟨S16x2048x8, .f32⟩
  | 124 => ⟨S16x2048x8, .f32⟩
  | 125 => ⟨S16x2048x8, .f32⟩
  | 126 => ⟨S16x2048x8, .i1⟩
  | 127 => ⟨S16x2048x8, .f32⟩
  | _ => ⟨S32768x1024, .f32⟩

abbrev hbmTy0_1 (i : Nat) : BufTy := match i % 128 with
  | 0 => ⟨S16x2048x8, .f32⟩
  | 1 => ⟨S16x2048x8, .f32⟩
  | 2 => ⟨S16x2048x8, .f32⟩
  | 3 => ⟨S16x2048x8, .f32⟩
  | 4 => ⟨S16x2048x8, .f32⟩
  | 5 => ⟨S16x2048x8, .f32⟩
  | 6 => ⟨S16x2048x8, .f32⟩
  | 7 => ⟨S1x1x8, .f32⟩
  | 8 => ⟨S16x2048x8, .f32⟩
  | 9 => ⟨S16x2048x8, .f32⟩
  | 10 => ⟨S32768x8, .f32⟩
  | 11 => ⟨S32768x1024, .f32⟩
  | 12 => ⟨S32768x1024, .f32⟩
  | 13 => ⟨S32768x1024, .f32⟩
  | 14 => ⟨S32768x8, .f32⟩
  | 15 => ⟨S8x32768, .f32⟩
  | 16 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_call0_v0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_3 : Ref sig .tc := ⟨.hbm, 81, rfl⟩
abbrev main_v61 : Ref sig .tc := ⟨.hbm, 82, rfl⟩
abbrev main_v62 : Ref sig .tc := ⟨.hbm, 83, rfl⟩
abbrev main_cst_4 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_5 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_6 : Ref sig .tc := ⟨.hbm, 95, rfl⟩
abbrev main_v72 : Ref sig .tc := ⟨.hbm, 96, rfl⟩
abbrev main_v73 : Ref sig .tc := ⟨.hbm, 97, rfl⟩
abbrev main_cst_7 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_8 : Ref sig .tc := ⟨.hbm, 106, rfl⟩
abbrev main_v81 : Ref sig .tc := ⟨.hbm, 107, rfl⟩
abbrev main_v82 : Ref sig .tc := ⟨.hbm, 108, rfl⟩
abbrev main_cst_9 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_call2_cst : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_v6 : Ref sig .tc := ⟨.hbm, 128, rfl⟩
abbrev main_call2_v7 : Ref sig .tc := ⟨.hbm, 129, rfl⟩
abbrev main_call2_v8 : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩

abbrev nD : Nat := 1
abbrev τ : Topo := Topo.v7x

variable {F : FTy → Type} [FloatOps F]
-- ==== Proof.RefLists.lean ====
/- The reference's operation lists: its host operations as stretches, the chain of stretches and loops that its main is, and
   that no stretch allocates a buffer and which buffers each writes. Launch set-up, in the form the library's launch modules have. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 1300

noncomputable section

namespace Cert.ReferenceIdeal.Lists

open Cert.ReferenceIdeal Cert.ReferenceIdeal.Gen
open Idealize.ShloMosaic Idealize.ShloMosaic.StableHlo Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 13 host operations of @main, in order. -/
abbrev hostOps0 : List (HloOp τ sig (Elt F)) :=
  [ StableHlo.reshape main_arg0 main_v0 (rfl : (.f32 : EltTy) = .f32) shapeCasts_S32768x1024_S16x2048x8x128,
    StableHlo.reshape main_arg1 main_v1 (rfl : (.f32 : EltTy) = .f32) shapeCasts_S32768x1024_S16x2048x8x128,
    StableHlo.reshape main_arg2 main_v2 (rfl : (.f32 : EltTy) = .f32) shapeCasts_S32768x1024_S16x2048x8x128,
    StableHlo.reshape main_arg5 main_v3 (rfl : (.f32 : EltTy) = .f32) shapeCasts_S32768x8_S16x2048x8,
    StableHlo.reshape main_arg4 main_v4 (rfl : (.f32 : EltTy) = .f32) shapeCasts_S32768x8_S16x2048x8,
    StableHlo.reshape main_v0 main_v5 (rfl : (.f32 : EltTy) = .f32) shapeCasts_S16x2048x8x128_S16x32x64x8x128,
    StableHlo.unary main_v5 main_v6 ((transpose S16x8x32x64x128 [0, 3, 1, 2, 4] · transposes_S16x32x64x8x128_S16x8x32x64x128_0_3_1_2_4) : (⟨S16x32x64x8x128, .f32⟩ : BufTy).Contents (Elt F) → (⟨S16x8x32x64x128, .f32⟩ : BufTy).Contents (Elt F)),
    StableHlo.reshape main_v1 main_v7 (rfl : (.f32 : EltTy) = .f32) shapeCasts_S16x2048x8x128_S16x32x64x8x128,
    StableHlo.unary main_v7 main_v8 ((transpose S16x8x32x64x128 [0, 3, 1, 2, 4] · transposes_S16x32x64x8x128_S16x8x32x64x128_0_3_1_2_4) : (⟨S16x32x64x8x128, .f32⟩ : BufTy).Contents (Elt F) → (⟨S16x8x32x64x128, .f32⟩ : BufTy).Contents (Elt F)),
    StableHlo.reshape main_v2 main_v9 (rfl : (.f32 : EltTy) = .f32) shapeCasts_S16x2048x8x128_S16x32x64x8x128,
    StableHlo.unary main_v9 main_v10 ((transpose S16x8x32x64x128 [0, 3, 1, 2, 4] · transposes_S16x32x64x8x128_S16x8x32x64x128_0_3_1_2_4) : (⟨S16x32x64x8x128, .f32⟩ : BufTy).Contents (Elt F) → (⟨S16x8x32x64x128, .f32⟩ : BufTy).Contents (Elt F)),
    StableHlo.reshape main_v3 main_v11 (rfl : (.f32 : EltTy) = .f32) shapeCasts_S16x2048x8_S16x32x64x8,
    StableHlo.unary main_v11 main_v12 ((transpose S16x8x32x64 [0, 3, 1, 2] · transposes_S16x32x64x8_S16x8x32x64_0_3_1_2) : (⟨S16x32x64x8, .f32⟩ : BufTy).Contents (Elt F) → (⟨S16x8x32x64, .f32⟩ : BufTy).Contents (Elt F)) ]
/-- Each touches TensorCore references only (`HostSeg.ofOps` over `tcRefs`, or a subset by `sub_ucRefs`). -/
theorem hostOps0_sub : (hostOps0 : List (HloOp τ sig (Elt F))).Forall fun op => op.bufs ⊆ tcRefs τ sig :=
  ⟨reshape_bufs_sub .., reshape_bufs_sub .., reshape_bufs_sub .., reshape_bufs_sub .., reshape_bufs_sub .., reshape_bufs_sub .., unary_bufs_sub .., reshape_bufs_sub .., unary_bufs_sub .., reshape_bufs_sub .., unary_bufs_sub .., reshape_bufs_sub .., unary_bufs_sub ..⟩
/-- 3 host operations of @cumsum (main_call0), in order. -/
abbrev hostOps0_1 : List (HloOp τ sig (Elt F)) :=
  [ TRef.nullary (.of main_call0_call0_cst : TRef sig ⟨S_, .f32⟩) (constant S_ .f32 0x00000000#32),
    TRef.unary (.of main_call0_call0_cst : TRef sig ⟨S_, .f32⟩) (.of main_call0_call0_v0 : TRef sig ⟨S_, .f32⟩) (broadcastInDim S_ ![] bcast_S_S_),
    TRef.binary (.of main_v12 : TRef sig ⟨S16x8x32x64, .f32⟩) (.of main_call0_call0_v0 : TRef sig ⟨S_, .f32⟩) (.of main_v13 : TRef sig ⟨S16x8x32x64, .f32⟩) (fun x v => Host.reduceWindowAdd ![1, 1, 1, 64] ![1, 1, 1, 1] ![0, 0, 0, 63] ![0, 0, 0, 0] x v reduceWindows_S16x8x32x64_S16x8x32x64_w1s1p0_0_w1s1p0_0_w1s1p0_0_w64s1p63_0 h_S_) ]
/-- Each touches TensorCore references only (`HostSeg.ofOps` over `tcRefs`, or a subset by `sub_ucRefs`). -/
theorem hostOps0_1_sub : (hostOps0_1 : List (HloOp τ sig (Elt F))).Forall fun op => op.bufs ⊆ tcRefs τ sig :=
  ⟨nullary_bufs_sub .., unary_bufs_sub .., binary_bufs_sub ..⟩
/-- 19 host operations of @main, in order. -/
abbrev hostOps0_2 : List (HloOp τ sig (Elt F)) :=
  [ StableHlo.reshape main_v4 main_v14 (rfl : (.f32 : EltTy) = .f32) shapeCasts_S16x2048x8_S16x32x64x8,
    StableHlo.unary main_v14 main_v15 ((transpose S16x8x32x64 [0, 3, 1, 2] · transposes_S16x32x64x8_S16x8x32x64_0_3_1_2) : (⟨S16x32x64x8, .f32⟩ : BufTy).Contents (Elt F) → (⟨S16x8x32x64, .f32⟩ : BufTy).Contents (Elt F)),
    StableHlo.nullary main_v16 (iotaInDim S64 32 0),
    StableHlo.unary main_v16 main_v17 (broadcastInDim S64x1 ![0] bcast_S64_S64x1_0 : (⟨S64, .i32⟩ : BufTy).Contents (Elt F) → (⟨S64x1, .i32⟩ : BufTy).Contents (Elt F)),
    StableHlo.unary main_v16 main_v18 (broadcastInDim S1x64 ![1] bcast_S64_S1x64_1 : (⟨S64, .i32⟩ : BufTy).Contents (Elt F) → (⟨S1x64, .i32⟩ : BufTy).Contents (Elt F)),
    StableHlo.unary main_v17 main_v19 (broadcastInDim S64x64 ![0, 1] bcast_S64x1_S64x64_0_1 : (⟨S64x1, .i32⟩ : BufTy).Contents (Elt F) → (⟨S64x64, .i32⟩ : BufTy).Contents (Elt F)),
    StableHlo.unary main_v18 main_v20 (broadcastInDim S64x64 ![0, 1] bcast_S1x64_S64x64_0_1 : (⟨S1x64, .i32⟩ : BufTy).Contents (Elt F) → (⟨S64x64, .i32⟩ : BufTy).Contents (Elt F)),
    StableHlo.binary main_v19 main_v20 main_v21 (cmpi .sge : (⟨S64x64, .i32⟩ : BufTy).Contents (Elt F) → (⟨S64x64, .i32⟩ : BufTy).Contents (Elt F) → (⟨S64x64, .i1⟩ : BufTy).Contents (Elt F)),
    StableHlo.unary main_v16 main_v22 (broadcastInDim S64x1 ![0] bcast_S64_S64x1_0 : (⟨S64, .i32⟩ : BufTy).Contents (Elt F) → (⟨S64x1, .i32⟩ : BufTy).Contents (Elt F)),
    StableHlo.unary main_v16 main_v23 (broadcastInDim S1x64 ![1] bcast_S64_S1x64_1 : (⟨S64, .i32⟩ : BufTy).Contents (Elt F) → (⟨S1x64, .i32⟩ : BufTy).Contents (Elt F)),
    StableHlo.unary main_v22 main_v24 (broadcastInDim S64x64 ![0, 1] bcast_S64x1_S64x64_0_1 : (⟨S64x1, .i32⟩ : BufTy).Contents (Elt F) → (⟨S64x64, .i32⟩ : BufTy).Contents (Elt F)),
    StableHlo.unary main_v23 main_v25 (broadcastInDim S64x64 ![0, 1] bcast_S1x64_S64x64_0_1 : (⟨S1x64, .i32⟩ : BufTy).Contents (Elt F) → (⟨S64x64, .i32⟩ : BufTy).Contents (Elt F)),
    StableHlo.binary main_v24 main_v25 main_v26 (cmpi .sgt : (⟨S64x64, .i32⟩ : BufTy).Contents (Elt F) → (⟨S64x64, .i32⟩ : BufTy).Contents (Elt F) → (⟨S64x64, .i1⟩ : BufTy).Contents (Elt F)),
    StableHlo.unary main_v13 main_v27 (broadcastInDim S16x8x32x64x1 ![0, 1, 2, 3] bcast_S16x8x32x64_S16x8x32x64x1_0_1_2_3 : (⟨S16x8x32x64, .f32⟩ : BufTy).Contents (Elt F) → (⟨S16x8x32x64x1, .f32⟩ : BufTy).Contents (Elt F)),
    StableHlo.unary main_v13 main_v28 (broadcastInDim S16x8x32x1x64 ![0, 1, 2, 4] bcast_S16x8x32x64_S16x8x32x1x64_0_1_2_4 : (⟨S16x8x32x64, .f32⟩ : BufTy).Contents (Elt F) → (⟨S16x8x32x1x64, .f32⟩ : BufTy).Contents (Elt F)),
    StableHlo.unary main_v27 main_v29 (broadcastInDim S16x8x32x64x64 ![0, 1, 2, 3, 4] bcast_S16x8x32x64x1_S16x8x32x64x64_0_1_2_3_4 : (⟨S16x8x32x64x1, .f32⟩ : BufTy).Contents (Elt F) → (⟨S16x8x32x64x64, .f32⟩ : BufTy).Contents (Elt F)),
    StableHlo.unary main_v28 main_v30 (broadcastInDim S16x8x32x64x64 ![0, 1, 2, 3, 4] bcast_S16x8x32x1x64_S16x8x32x64x64_0_1_2_3_4 : (⟨S16x8x32x1x64, .f32⟩ : BufTy).Contents (Elt F) → (⟨S16x8x32x64x64, .f32⟩ : BufTy).Contents (Elt F)),
    StableHlo.binary main_v29 main_v30 main_v31 (subf : (⟨S16x8x32x64x64, .f32⟩ : BufTy).Contents (Elt F) → (⟨S16x8x32x64x64, .f32⟩ : BufTy).Contents (Elt F) → (⟨S16x8x32x64x64, .f32⟩ : BufTy).Contents (Elt F)),
    StableHlo.nullary main_cst (constant S_ .f32 0x00000000#32) ]
/-- Each touches TensorCore references only (`HostSeg.ofOps` over `tcRefs`, or a subset by `sub_ucRefs`). -/
theorem hostOps0_2_sub : (hostOps0_2 : List (HloOp τ sig (Elt F))).Forall fun op => op.bufs ⊆ tcRefs τ sig :=
  ⟨reshape_bufs_sub .., unary_bufs_sub .., nullary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., nullary_bufs_sub ..⟩
/-- 4 host operations of @_where (main_call1), in order. -/
abbrev hostOps0_3 : List (HloOp τ sig (Elt F)) :=
  [ TRef.unary (.of main_cst : TRef sig ⟨S_, .f32⟩) (.of main_call1_v0 : TRef sig ⟨S_, .f32⟩) id,
    TRef.unary (.of main_v21 : TRef sig ⟨S64x64, .i1⟩) (.of main_call1_v1 : TRef sig ⟨S16x8x32x64x64, .i1⟩) (broadcastInDim S16x8x32x64x64 ![3, 4] bcast_S64x64_S16x8x32x64x64_3_4),
    TRef.unary (.of main_call1_v0 : TRef sig ⟨S_, .f32⟩) (.of main_call1_v2 : TRef sig ⟨S16x8x32x64x64, .f32⟩) (broadcastInDim S16x8x32x64x64 ![] bcast_S_S16x8x32x64x64),
    TRef.ternary (.of main_call1_v1 : TRef sig ⟨S16x8x32x64x64, .i1⟩) (.of main_v31 : TRef sig ⟨S16x8x32x64x64, .f32⟩) (.of main_call1_v2 : TRef sig ⟨S16x8x32x64x64, .f32⟩) (.of main_v32 : TRef sig ⟨S16x8x32x64x64, .f32⟩) select ]
/-- Each touches TensorCore references only (`HostSeg.ofOps` over `tcRefs`, or a subset by `sub_ucRefs`). -/
theorem hostOps0_3_sub : (hostOps0_3 : List (HloOp τ sig (Elt F))).Forall fun op => op.bufs ⊆ tcRefs τ sig :=
  ⟨unary_bufs_sub .., unary_bufs_sub .., unary_bufs_sub .., ternary_bufs_sub ..⟩
/-- 2 host operations of @main, in order. -/
abbrev hostOps0_4 : List (HloOp τ sig (Elt F)) :=
  [ StableHlo.unary main_v32 main_v33 (Host.exp : (⟨S16x8x32x64x64, .f32⟩ : BufTy).Contents (Elt F) → (⟨S16x8x32x64x64, .f32⟩ : BufTy).Contents (Elt F)),
    StableHlo.nullary main_cst_0 (constant S_ .f32 0x00000000#32) ]
/-- Each touches TensorCore references only (`HostSeg.ofOps` over `tcRefs`, or a subset by `sub_ucRefs`). -/
theorem hostOps0_4_sub : (hostOps0_4 : List (HloOp τ sig (Elt F))).Forall fun op => op.bufs ⊆ tcRefs τ sig :=
  ⟨unary_bufs_sub .., nullary_bufs_sub ..⟩
/-- 4 host operations of @_where (main_call2), in order. -/
abbrev hostOps0_5 : List (HloOp τ sig (Elt F)) :=
  [ TRef.unary (.of main_cst_0 : TRef sig ⟨S_, .f32⟩) (.of main_call2_v0 : TRef sig ⟨S_, .f32⟩) id,
    TRef.unary (.of main_v21 : TRef sig ⟨S64x64, .i1⟩) (.of main_call2_v1 : TRef sig ⟨S16x8x32x64x64, .i1⟩) (broadcastInDim S16x8x32x64x64 ![3, 4] bcast_S64x64_S16x8x32x64x64_3_4),
    TRef.unary (.of main_call2_v0 : TRef sig ⟨S_, .f32⟩) (.of main_call2_v2 : TRef sig ⟨S16x8x32x64x64, .f32⟩) (broadcastInDim S16x8x32x64x64 ![] bcast_S_S16x8x32x64x64),
    TRef.ternary (.of main_call2_v1 : TRef sig ⟨S16x8x32x64x64, .i1⟩) (.of main_v33 : TRef sig ⟨S16x8x32x64x64, .f32⟩) (.of main_call2_v2 : TRef sig ⟨S16x8x32x64x64, .f32⟩) (.of main_v34 : TRef sig ⟨S16x8x32x64x64, .f32⟩) select ]
/-- Each touches TensorCore references only (`HostSeg.ofOps` over `tcRefs`, or a subset by `sub_ucRefs`). -/
theorem hostOps0_5_sub : (hostOps0_5 : List (HloOp τ sig (Elt F))).Forall fun op => op.bufs ⊆ tcRefs τ sig :=
  ⟨unary_bufs_sub .., unary_bufs_sub .., unary_bufs_sub .., ternary_bufs_sub ..⟩
/-- 6 host operations of @main, in order. -/
abbrev hostOps0_6 : List (HloOp τ sig (Elt F)) :=
  [ StableHlo.unary main_v15 main_v35 (broadcastInDim S16x8x32x64x1 ![0, 1, 2, 3] bcast_S16x8x32x64_S16x8x32x64x1_0_1_2_3 : (⟨S16x8x32x64, .f32⟩ : BufTy).Contents (Elt F) → (⟨S16x8x32x64x1, .f32⟩ : BufTy).Contents (Elt F)),
    StableHlo.unary main_v35 main_v36 (broadcastInDim S16x8x32x64x128 ![0, 1, 2, 3, 4] bcast_S16x8x32x64x1_S16x8x32x64x128_0_1_2_3_4 : (⟨S16x8x32x64x1, .f32⟩ : BufTy).Contents (Elt F) → (⟨S16x8x32x64x128, .f32⟩ : BufTy).Contents (Elt F)),
    StableHlo.binary main_v8 main_v36 main_v37 (mulf : (⟨S16x8x32x64x128, .f32⟩ : BufTy).Contents (Elt F) → (⟨S16x8x32x64x128, .f32⟩ : BufTy).Contents (Elt F) → (⟨S16x8x32x64x128, .f32⟩ : BufTy).Contents (Elt F)),
    StableHlo.binary main_v37 main_v8 main_v38 ((fun l r => Host.dotGeneral dot_S16x8x32x64x128_S16x8x32x64x128_S16x8x32x64x64_4_4_3_3_012_012 none l r) : (⟨S16x8x32x64x128, .f32⟩ : BufTy).Contents (Elt F) → (⟨S16x8x32x64x128, .f32⟩ : BufTy).Contents (Elt F) → (⟨S16x8x32x64x64, .f32⟩ : BufTy).Contents (Elt F)),
    StableHlo.binary main_v38 main_v34 main_v39 (mulf : (⟨S16x8x32x64x64, .f32⟩ : BufTy).Contents (Elt F) → (⟨S16x8x32x64x64, .f32⟩ : BufTy).Contents (Elt F) → (⟨S16x8x32x64x64, .f32⟩ : BufTy).Contents (Elt F)),
    StableHlo.nullary main_cst_1 (constant S_ .f32 0x00000000#32) ]
/-- Each touches TensorCore references only (`HostSeg.ofOps` over `tcRefs`, or a subset by `sub_ucRefs`). -/
theorem hostOps0_6_sub : (hostOps0_6 : List (HloOp τ sig (Elt F))).Forall fun op => op.bufs ⊆ tcRefs τ sig :=
  ⟨unary_bufs_sub .., unary_bufs_sub .., binary_bufs_sub .., binary_bufs_sub .., binary_bufs_sub .., nullary_bufs_sub ..⟩
/-- 4 host operations of @_where (main_call3), in order. -/
abbrev hostOps0_7 : List (HloOp τ sig (Elt F)) :=
  [ TRef.unary (.of main_cst_1 : TRef sig ⟨S_, .f32⟩) (.of main_call3_v0 : TRef sig ⟨S_, .f32⟩) id,
    TRef.unary (.of main_v26 : TRef sig ⟨S64x64, .i1⟩) (.of main_call3_v1 : TRef sig ⟨S16x8x32x64x64, .i1⟩) (broadcastInDim S16x8x32x64x64 ![3, 4] bcast_S64x64_S16x8x32x64x64_3_4),
    TRef.unary (.of main_call3_v0 : TRef sig ⟨S_, .f32⟩) (.of main_call3_v2 : TRef sig ⟨S16x8x32x64x64, .f32⟩) (broadcastInDim S16x8x32x64x64 ![] bcast_S_S16x8x32x64x64),
    TRef.ternary (.of main_call3_v1 : TRef sig ⟨S16x8x32x64x64, .i1⟩) (.of main_v39 : TRef sig ⟨S16x8x32x64x64, .f32⟩) (.of main_call3_v2 : TRef sig ⟨S16x8x32x64x64, .f32⟩) (.of main_v40 : TRef sig ⟨S16x8x32x64x64, .f32⟩) select ]
/-- Each touches TensorCore references only (`HostSeg.ofOps` over `tcRefs`, or a subset by `sub_ucRefs`). -/
theorem hostOps0_7_sub : (hostOps0_7 : List (HloOp τ sig (Elt F))).Forall fun op => op.bufs ⊆ tcRefs τ sig :=
  ⟨unary_bufs_sub .., unary_bufs_sub .., unary_bufs_sub .., ternary_bufs_sub ..⟩
/-- 17 host operations of @main, in order. -/
abbrev hostOps0_8 : List (HloOp τ sig (Elt F)) :=
  [ StableHlo.unary main_v15 main_v41 (broadcastInDim S16x8x32x64x1 ![0, 1, 2, 3] bcast_S16x8x32x64_S16x8x32x64x1_0_1_2_3 : (⟨S16x8x32x64, .f32⟩ : BufTy).Contents (Elt F) → (⟨S16x8x32x64x1, .f32⟩ : BufTy).Contents (Elt F)),
    StableHlo.unary main_v41 main_v42 (broadcastInDim S16x8x32x64x128 ![0, 1, 2, 3, 4] bcast_S16x8x32x64x1_S16x8x32x64x128_0_1_2_3_4 : (⟨S16x8x32x64x1, .f32⟩ : BufTy).Contents (Elt F) → (⟨S16x8x32x64x128, .f32⟩ : BufTy).Contents (Elt F)),
    StableHlo.binary main_v10 main_v42 main_v43 (mulf : (⟨S16x8x32x64x128, .f32⟩ : BufTy).Contents (Elt F) → (⟨S16x8x32x64x128, .f32⟩ : BufTy).Contents (Elt F) → (⟨S16x8x32x64x128, .f32⟩ : BufTy).Contents (Elt F)),
    StableHlo.unary main_v13 main_v44 (Host.exp : (⟨S16x8x32x64, .f32⟩ : BufTy).Contents (Elt F) → (⟨S16x8x32x64, .f32⟩ : BufTy).Contents (Elt F)),
    StableHlo.unary main_v44 main_v45 (broadcastInDim S16x8x32x64x1 ![0, 1, 2, 3] bcast_S16x8x32x64_S16x8x32x64x1_0_1_2_3 : (⟨S16x8x32x64, .f32⟩ : BufTy).Contents (Elt F) → (⟨S16x8x32x64x1, .f32⟩ : BufTy).Contents (Elt F)),
    StableHlo.unary main_v45 main_v46 (broadcastInDim S16x8x32x64x128 ![0, 1, 2, 3, 4] bcast_S16x8x32x64x1_S16x8x32x64x128_0_1_2_3_4 : (⟨S16x8x32x64x1, .f32⟩ : BufTy).Contents (Elt F) → (⟨S16x8x32x64x128, .f32⟩ : BufTy).Contents (Elt F)),
    StableHlo.binary main_v37 main_v46 main_v47 (mulf : (⟨S16x8x32x64x128, .f32⟩ : BufTy).Contents (Elt F) → (⟨S16x8x32x64x128, .f32⟩ : BufTy).Contents (Elt F) → (⟨S16x8x32x64x128, .f32⟩ : BufTy).Contents (Elt F)),
    StableHlo.binary main_v43 main_v47 main_v48 ((fun a b => concatenate S16x8x32x64x256 4 [⟨S16x8x32x64x128, a⟩, ⟨S16x8x32x64x128, b⟩] concatenates_S16x8x32x64x128_S16x8x32x64x128_S16x8x32x64x256_d4) : (⟨S16x8x32x64x128, .f32⟩ : BufTy).Contents (Elt F) → (⟨S16x8x32x64x128, .f32⟩ : BufTy).Contents (Elt F) → (⟨S16x8x32x64x256, .f32⟩ : BufTy).Contents (Elt F)),
    StableHlo.nullary main_cst_2 (constant S_ .f32 0x00000000#32),
    StableHlo.unary main_cst_2 main_v49 (broadcastInDim S16x8x32x64x256 ![] bcast_S_S16x8x32x64x256 : (⟨S_, .f32⟩ : BufTy).Contents (Elt F) → (⟨S16x8x32x64x256, .f32⟩ : BufTy).Contents (Elt F)),
    StableHlo.nullary main_c (constantI S_ 32 0#32),
    StableHlo.nullary main_c_3 (constantI S_ 32 0#32),
    StableHlo.unary main_v40 main_v50_0 id,
    StableHlo.unary main_v48 main_v50_1 id,
    StableHlo.unary main_c_3 main_v50_2 id,
    StableHlo.unary main_c main_v50_3 id,
    StableHlo.unary main_v49 main_v50_4 id ]
/-- Each touches TensorCore references only (`HostSeg.ofOps` over `tcRefs`, or a subset by `sub_ucRefs`). -/
theorem hostOps0_8_sub : (hostOps0_8 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., binary_bufs_sub .., nullary_bufs_sub .., unary_bufs_sub .., nullary_bufs_sub .., nullary_bufs_sub .., unary_bufs_sub .., unary_bufs_sub .., unary_bufs_sub .., unary_bufs_sub .., unary_bufs_sub ..⟩
/-- 5 host operations of @main, in order. -/
abbrev hostOps0_9 : List (HloOp τ sig (Elt F)) :=
  [ StableHlo.unary main_v50_4 main_v51 ((extractStridedSlice S16x8x32x64x128 ![0, 0, 0, 0, 0] · slices_S16x8x32x64x256_S16x8x32x64x128_0_0_0_0_0) : (⟨S16x8x32x64x256, .f32⟩ : BufTy).Contents (Elt F) → (⟨S16x8x32x64x128, .f32⟩ : BufTy).Contents (Elt F)),
    StableHlo.unary main_v50_4 main_v52 ((extractStridedSlice S16x8x32x64x128 ![0, 0, 0, 0, 128] · slices_S16x8x32x64x256_S16x8x32x64x128_0_0_0_0_128) : (⟨S16x8x32x64x256, .f32⟩ : BufTy).Contents (Elt F) → (⟨S16x8x32x64x128, .f32⟩ : BufTy).Contents (Elt F)),
    StableHlo.binary main_v6 main_v8 main_v53 ((fun l r => Host.dotGeneral dot_S16x8x32x64x128_S16x8x32x64x128_S16x8x32x64x64_4_4_3_3_012_012 none l r) : (⟨S16x8x32x64x128, .f32⟩ : BufTy).Contents (Elt F) → (⟨S16x8x32x64x128, .f32⟩ : BufTy).Contents (Elt F) → (⟨S16x8x32x64x64, .f32⟩ : BufTy).Contents (Elt F)),
    StableHlo.binary main_v53 main_v34 main_v54 (mulf : (⟨S16x8x32x64x64, .f32⟩ : BufTy).Contents (Elt F) → (⟨S16x8x32x64x64, .f32⟩ : BufTy).Contents (Elt F) → (⟨S16x8x32x64x64, .f32⟩ : BufTy).Contents (Elt F)),
    StableHlo.nullary main_cst_4 (constant S_ .f32 0x00000000#32) ]
/-- Each touches TensorCore references only (`HostSeg.ofOps` over `tcRefs`, or a subset by `sub_ucRefs`). -/
theorem hostOps0_9_sub : (hostOps0_9 : List (HloOp τ sig (Elt F))).Forall fun op => op.bufs ⊆ tcRefs τ sig :=
  ⟨unary_bufs_sub .., unary_bufs_sub .., binary_bufs_sub .., binary_bufs_sub .., nullary_bufs_sub ..⟩
/-- 4 host operations of @_where (main_call4), in order. -/
abbrev hostOps0_10 : List (HloOp τ sig (Elt F)) :=
  [ TRef.unary (.of main_cst_4 : TRef sig ⟨S_, .f32⟩) (.of main_call4_v0 : TRef sig ⟨S_, .f32⟩) id,
    TRef.unary (.of main_v21 : TRef sig ⟨S64x64, .i1⟩) (.of main_call4_v1 : TRef sig ⟨S16x8x32x64x64, .i1⟩) (broadcastInDim S16x8x32x64x64 ![3, 4] bcast_S64x64_S16x8x32x64x64_3_4),
    TRef.unary (.of main_call4_v0 : TRef sig ⟨S_, .f32⟩) (.of main_call4_v2 : TRef sig ⟨S16x8x32x64x64, .f32⟩) (broadcastInDim S16x8x32x64x64 ![] bcast_S_S16x8x32x64x64),
    TRef.ternary (.of main_call4_v1 : TRef sig ⟨S16x8x32x64x64, .i1⟩) (.of main_v54 : TRef sig ⟨S16x8x32x64x64, .f32⟩) (.of main_call4_v2 : TRef sig ⟨S16x8x32x64x64, .f32⟩) (.of main_v55 : TRef sig ⟨S16x8x32x64x64, .f32⟩) select ]
/-- Each touches TensorCore references only (`HostSeg.ofOps` over `tcRefs`, or a subset by `sub_ucRefs`). -/
theorem hostOps0_10_sub : (hostOps0_10 : List (HloOp τ sig (Elt F))).Forall fun op => op.bufs ⊆ tcRefs τ sig :=
  ⟨unary_bufs_sub .., unary_bufs_sub .., unary_bufs_sub .., ternary_bufs_sub ..⟩
/-- 34 host operations of @main, in order. -/
abbrev hostOps0_11 : List (HloOp τ sig (Elt F)) :=
  ( StableHlo.unary main_v13 main_v56 (Host.exp : (⟨S16x8x32x64, .f32⟩ : BufTy).Contents (Elt F) → (⟨S16x8x32x64, .f32⟩ : BufTy).Contents (Elt F))
  :: StableHlo.unary main_v56 main_v57 (broadcastInDim S16x8x32x64x1 ![0, 1, 2, 3] bcast_S16x8x32x64_S16x8x32x64x1_0_1_2_3 : (⟨S16x8x32x64, .f32⟩ : BufTy).Contents (Elt F) → (⟨S16x8x32x64x1, .f32⟩ : BufTy).Contents (Elt F))
  :: StableHlo.unary main_v57 main_v58 (broadcastInDim S16x8x32x64x128 ![0, 1, 2, 3, 4] bcast_S16x8x32x64x1_S16x8x32x64x128_0_1_2_3_4 : (⟨S16x8x32x64x1, .f32⟩ : BufTy).Contents (Elt F) → (⟨S16x8x32x64x128, .f32⟩ : BufTy).Contents (Elt F))
  :: StableHlo.binary main_v6 main_v58 main_v59 (mulf : (⟨S16x8x32x64x128, .f32⟩ : BufTy).Contents (Elt F) → (⟨S16x8x32x64x128, .f32⟩ : BufTy).Contents (Elt F) → (⟨S16x8x32x64x128, .f32⟩ : BufTy).Contents (Elt F))
  :: StableHlo.unary main_v13 main_v60 ((extractStridedSlice S16x8x32x1 ![0, 0, 0, 63] · slices_S16x8x32x64_S16x8x32x1_0_0_0_63) : (⟨S16x8x32x64, .f32⟩ : BufTy).Contents (Elt F) → (⟨S16x8x32x1, .f32⟩ : BufTy).Contents (Elt F))
  :: StableHlo.unary main_v60 main_v61 (broadcastInDim S16x8x32x64 ![0, 1, 2, 3] bcast_S16x8x32x1_S16x8x32x64_0_1_2_3 : (⟨S16x8x32x1, .f32⟩ : BufTy).Contents (Elt F) → (⟨S16x8x32x64, .f32⟩ : BufTy).Contents (Elt F))
  :: StableHlo.binary main_v61 main_v13 main_v62 (subf : (⟨S16x8x32x64, .f32⟩ : BufTy).Contents (Elt F) → (⟨S16x8x32x64, .f32⟩ : BufTy).Contents (Elt F) → (⟨S16x8x32x64, .f32⟩ : BufTy).Contents (Elt F))
  :: StableHlo.unary main_v62 main_v63 (Host.exp : (⟨S16x8x32x64, .f32⟩ : BufTy).Contents (Elt F) → (⟨S16x8x32x64, .f32⟩ : BufTy).Contents (Elt F))
  :: StableHlo.unary main_v63 main_v64 (broadcastInDim S16x8x32x64x1 ![0, 1, 2, 3] bcast_S16x8x32x64_S16x8x32x64x1_0_1_2_3 : (⟨S16x8x32x64, .f32⟩ : BufTy).Contents (Elt F) → (⟨S16x8x32x64x1, .f32⟩ : BufTy).Contents (Elt F))
  :: StableHlo.unary main_v64 main_v65 (broadcastInDim S16x8x32x64x128 ![0, 1, 2, 3, 4] bcast_S16x8x32x64x1_S16x8x32x64x128_0_1_2_3_4 : (⟨S16x8x32x64x1, .f32⟩ : BufTy).Contents (Elt F) → (⟨S16x8x32x64x128, .f32⟩ : BufTy).Contents (Elt F))
  :: StableHlo.binary main_v8 main_v65 main_v66 (mulf : (⟨S16x8x32x64x128, .f32⟩ : BufTy).Contents (Elt F) → (⟨S16x8x32x64x128, .f32⟩ : BufTy).Contents (Elt F) → (⟨S16x8x32x64x128, .f32⟩ : BufTy).Contents (Elt F))
  :: StableHlo.unary main_v13 main_v67 ((extractStridedSlice S16x8x32x1 ![0, 0, 0, 63] · slices_S16x8x32x64_S16x8x32x1_0_0_0_63) : (⟨S16x8x32x64, .f32⟩ : BufTy).Contents (Elt F) → (⟨S16x8x32x1, .f32⟩ : BufTy).Contents (Elt F))
  :: StableHlo.reshape main_v67 main_v68 (rfl : (.f32 : EltTy) = .f32) shapeCasts_S16x8x32x1_S16x8x32
  :: StableHlo.unary main_v68 main_v69 (Host.exp : (⟨S16x8x32, .f32⟩ : BufTy).Contents (Elt F) → (⟨S16x8x32, .f32⟩ : BufTy).Contents (Elt F))
  :: StableHlo.unary main_v51 main_v70 ((transpose S32x16x8x64x128 [2, 0, 1, 3, 4] · transposes_S16x8x32x64x128_S32x16x8x64x128_2_0_1_3_4) : (⟨S16x8x32x64x128, .f32⟩ : BufTy).Contents (Elt F) → (⟨S32x16x8x64x128, .f32⟩ : BufTy).Contents (Elt F))
  :: StableHlo.unary main_v52 main_v71 ((transpose S32x16x8x64x128 [2, 0, 1, 3, 4] · transposes_S16x8x32x64x128_S32x16x8x64x128_2_0_1_3_4) : (⟨S16x8x32x64x128, .f32⟩ : BufTy).Contents (Elt F) → (⟨S32x16x8x64x128, .f32⟩ : BufTy).Contents (Elt F))
  :: StableHlo.unary main_v55 main_v72 ((transpose S32x16x8x64x64 [2, 0, 1, 3, 4] · transposes_S16x8x32x64x64_S32x16x8x64x64_2_0_1_3_4) : (⟨S16x8x32x64x64, .f32⟩ : BufTy).Contents (Elt F) → (⟨S32x16x8x64x64, .f32⟩ : BufTy).Contents (Elt F))
  :: StableHlo.unary main_v59 main_v73 ((transpose S32x16x8x64x128 [2, 0, 1, 3, 4] · transposes_S16x8x32x64x128_S32x16x8x64x128_2_0_1_3_4) : (⟨S16x8x32x64x128, .f32⟩ : BufTy).Contents (Elt F) → (⟨S32x16x8x64x128, .f32⟩ : BufTy).Contents (Elt F))
  :: StableHlo.unary main_v66 main_v74 ((transpose S32x16x8x64x128 [2, 0, 1, 3, 4] · transposes_S16x8x32x64x128_S32x16x8x64x128_2_0_1_3_4) : (⟨S16x8x32x64x128, .f32⟩ : BufTy).Contents (Elt F) → (⟨S32x16x8x64x128, .f32⟩ : BufTy).Contents (Elt F))
  :: StableHlo.unary main_v69 main_v75 ((transpose S32x16x8 [2, 0, 1] · transposes_S16x8x32_S32x16x8_2_0_1) : (⟨S16x8x32, .f32⟩ : BufTy).Contents (Elt F) → (⟨S32x16x8, .f32⟩ : BufTy).Contents (Elt F))
  :: StableHlo.nullary main_cst_5 (constant S_ .f32 0x00000000#32)
  :: StableHlo.unary main_cst_5 main_v76 (broadcastInDim S16x8x128x128 ![] bcast_S_S16x8x128x128 : (⟨S_, .f32⟩ : BufTy).Contents (Elt F) → (⟨S16x8x128x128, .f32⟩ : BufTy).Contents (Elt F))
  :: StableHlo.nullary main_cst_6 (constant S_ .f32 0x00000000#32)
  :: StableHlo.unary main_cst_6 main_v77 (broadcastInDim S32x16x8x64x128 ![] bcast_S_S32x16x8x64x128 : (⟨S_, .f32⟩ : BufTy).Contents (Elt F) → (⟨S32x16x8x64x128, .f32⟩ : BufTy).Contents (Elt F))
  :: StableHlo.nullary main_c_7 (constantI S_ 32 0#32)
  :: StableHlo.unary main_v70 main_v78_0 id
  :: StableHlo.unary main_v71 main_v78_1 id
  :: StableHlo.unary main_v72 main_v78_2 id
  :: StableHlo.unary main_v73 main_v78_3 id
  :: StableHlo.unary main_v74 main_v78_4 id
  :: StableHlo.unary main_v75 main_v78_5 id
  :: StableHlo.unary main_c_7 main_v78_6 id
  :: StableHlo.unary main_v76 main_v78_7 id
  :: StableHlo.unary main_v77 main_v78_8 id
  :: [] )
/-- Each touches TensorCore references only (`HostSeg.ofOps` over `tcRefs`, or a subset by `sub_ucRefs`). -/
theorem hostOps0_11_sub : (hostOps0_11 : List (HloOp τ sig (Elt F))).Forall fun op => op.bufs ⊆ tcRefs τ sig :=
  ⟨unary_bufs_sub .., unary_bufs_sub .., unary_bufs_sub .., binary_bufs_sub .., unary_bufs_sub .., unary_bufs_sub .., binary_bufs_sub .., unary_bufs_sub .., unary_bufs_sub .., unary_bufs_sub .., binary_bufs_sub .., unary_bufs_sub .., reshape_bufs_sub .., unary_bufs_sub .., unary_bufs_sub .., unary_bufs_sub .., unary_bufs_sub .., unary_bufs_sub .., unary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub ..⟩
/-- 19 host operations of @main, in order. -/
abbrev hostOps0_12 : List (HloOp τ sig (Elt F)) :=
  [ StableHlo.unary main_v78_8 main_v79 ((transpose S16x32x64x8x128 [1, 0, 3, 2, 4] · transposes_S32x16x8x64x128_S16x32x64x8x128_1_0_3_2_4) : (⟨S32x16x8x64x128, .f32⟩ : BufTy).Contents (Elt F) → (⟨S16x32x64x8x128, .f32⟩ : BufTy).Contents (Elt F)),
    StableHlo.reshape main_v79 main_v80 (rfl : (.f32 : EltTy) = .f32) shapeCasts_S16x32x64x8x128_S16x2048x8x128,
    StableHlo.binary main_v80 main_v80 main_v81 (mulf : (⟨S16x2048x8x128, .f32⟩ : BufTy).Contents (Elt F) → (⟨S16x2048x8x128, .f32⟩ : BufTy).Contents (Elt F) → (⟨S16x2048x8x128, .f32⟩ : BufTy).Contents (Elt F)),
    StableHlo.nullary main_cst_8 (constant S_ .f32 0x00000000#32),
    StableHlo.binary main_v81 main_cst_8 main_v82 ((fun x v => Host.reduceAdd x v reducesTo_S16x2048x8x128_S16x2048x8_d3 h_S_) : (⟨S16x2048x8x128, .f32⟩ : BufTy).Contents (Elt F) → (⟨S_, .f32⟩ : BufTy).Contents (Elt F) → (⟨S16x2048x8, .f32⟩ : BufTy).Contents (Elt F)),
    StableHlo.unary main_v82 main_v83 (broadcastInDim S16x2048x8x1 ![0, 1, 2] bcast_S16x2048x8_S16x2048x8x1_0_1_2 : (⟨S16x2048x8, .f32⟩ : BufTy).Contents (Elt F) → (⟨S16x2048x8x1, .f32⟩ : BufTy).Contents (Elt F)),
    StableHlo.nullary main_cst_9 (constant S_ .f32 0x43000000#32),
    StableHlo.unary main_cst_9 main_v84 (broadcastInDim S16x2048x8x1 ![] bcast_S_S16x2048x8x1 : (⟨S_, .f32⟩ : BufTy).Contents (Elt F) → (⟨S16x2048x8x1, .f32⟩ : BufTy).Contents (Elt F)),
    StableHlo.binary main_v83 main_v84 main_v85 (Host.divf : (⟨S16x2048x8x1, .f32⟩ : BufTy).Contents (Elt F) → (⟨S16x2048x8x1, .f32⟩ : BufTy).Contents (Elt F) → (⟨S16x2048x8x1, .f32⟩ : BufTy).Contents (Elt F)),
    StableHlo.nullary main_cst_10 (constant S_ .f32 0x358637BD#32),
    StableHlo.unary main_cst_10 main_v86 (broadcastInDim S16x2048x8x1 ![] bcast_S_S16x2048x8x1 : (⟨S_, .f32⟩ : BufTy).Contents (Elt F) → (⟨S16x2048x8x1, .f32⟩ : BufTy).Contents (Elt F)),
    StableHlo.binary main_v85 main_v86 main_v87 (addf : (⟨S16x2048x8x1, .f32⟩ : BufTy).Contents (Elt F) → (⟨S16x2048x8x1, .f32⟩ : BufTy).Contents (Elt F) → (⟨S16x2048x8x1, .f32⟩ : BufTy).Contents (Elt F)),
    StableHlo.unary main_v87 main_v88 (Host.rsqrt : (⟨S16x2048x8x1, .f32⟩ : BufTy).Contents (Elt F) → (⟨S16x2048x8x1, .f32⟩ : BufTy).Contents (Elt F)),
    StableHlo.unary main_v88 main_v89 (broadcastInDim S16x2048x8x128 ![0, 1, 2, 3] bcast_S16x2048x8x1_S16x2048x8x128_0_1_2_3 : (⟨S16x2048x8x1, .f32⟩ : BufTy).Contents (Elt F) → (⟨S16x2048x8x128, .f32⟩ : BufTy).Contents (Elt F)),
    StableHlo.binary main_v80 main_v89 main_v90 (mulf : (⟨S16x2048x8x128, .f32⟩ : BufTy).Contents (Elt F) → (⟨S16x2048x8x128, .f32⟩ : BufTy).Contents (Elt F) → (⟨S16x2048x8x128, .f32⟩ : BufTy).Contents (Elt F)),
    StableHlo.unary main_arg6 main_v91 (broadcastInDim S1x1x1x128 ![3] bcast_S128_S1x1x1x128_3 : (⟨S128, .f32⟩ : BufTy).Contents (Elt F) → (⟨S1x1x1x128, .f32⟩ : BufTy).Contents (Elt F)),
    StableHlo.unary main_v91 main_v92 (broadcastInDim S16x2048x8x128 ![0, 1, 2, 3] bcast_S1x1x1x128_S16x2048x8x128_0_1_2_3 : (⟨S1x1x1x128, .f32⟩ : BufTy).Contents (Elt F) → (⟨S16x2048x8x128, .f32⟩ : BufTy).Contents (Elt F)),
    StableHlo.binary main_v90 main_v92 main_v93 (mulf : (⟨S16x2048x8x128, .f32⟩ : BufTy).Contents (Elt F) → (⟨S16x2048x8x128, .f32⟩ : BufTy).Contents (Elt F) → (⟨S16x2048x8x128, .f32⟩ : BufTy).Contents (Elt F)),
    StableHlo.reshape main_v93 main_v94 (rfl : (.f32 : EltTy) = .f32) shapeCasts_S16x2048x8x128_S32768x1024 ]
/-- Each touches TensorCore references only (`HostSeg.ofOps` over `tcRefs`, or a subset by `sub_ucRefs`). -/
theorem hostOps0_12_sub : (hostOps0_12 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub ..⟩
/-- 9 host operations of @silu (main_call12), in order. -/
abbrev hostOps0_13 : List (HloOp τ sig (Elt F)) :=
  [ TRef.unary (.of main_arg3 : TRef sig ⟨S32768x1024, .f32⟩) (.of main_call12_v0 : TRef sig ⟨S32768x1024, .f32⟩) Host.negf,
    TRef.unary (.of main_call12_v0 : TRef sig ⟨S32768x1024, .f32⟩) (.of main_call12_v1 : TRef sig ⟨S32768x1024, .f32⟩) Host.exp,
    TRef.nullary (.of main_call12_cst : TRef sig ⟨S_, .f32⟩) (constant S_ .f32 0x3F800000#32),
    TRef.unary (.of main_call12_cst : TRef sig ⟨S_, .f32⟩) (.of main_call12_v2 : TRef sig ⟨S32768x1024, .f32⟩) (broadcastInDim S32768x1024 ![] bcast_S_S32768x1024),
    TRef.binary (.of main_call12_v2 : TRef sig ⟨S32768x1024, .f32⟩) (.of main_call12_v1 : TRef sig ⟨S32768x1024, .f32⟩) (.of main_call12_v3 : TRef sig ⟨S32768x1024, .f32⟩) addf,
    TRef.nullary (.of main_call12_cst_0 : TRef sig ⟨S_, .f32⟩) (constant S_ .f32 0x3F800000#32),
    TRef.unary (.of main_call12_cst_0 : TRef sig ⟨S_, .f32⟩) (.of main_call12_v4 : TRef sig ⟨S32768x1024, .f32⟩) (broadcastInDim S32768x1024 ![] bcast_S_S32768x1024),
    TRef.binary (.of main_call12_v4 : TRef sig ⟨S32768x1024, .f32⟩) (.of main_call12_v3 : TRef sig ⟨S32768x1024, .f32⟩) (.of main_call12_v5 : TRef sig ⟨S32768x1024, .f32⟩) Host.divf,
    TRef.binary (.of main_arg3 : TRef sig ⟨S32768x1024, .f32⟩) (.of main_call12_v5 : TRef sig ⟨S32768x1024, .f32⟩) (.of main_v95 : TRef sig ⟨S32768x1024, .f32⟩) mulf ]
/-- Each touches TensorCore references only (`HostSeg.ofOps` over `tcRefs`, or a subset by `sub_ucRefs`). -/
theorem hostOps0_13_sub : (hostOps0_13 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub ..⟩
/-- 2 host operations of @main, in order. -/
abbrev hostOps0_14 : List (HloOp τ sig (Elt F)) :=
  [ StableHlo.binary main_v94 main_v95 main_v96 (mulf : (⟨S32768x1024, .f32⟩ : BufTy).Contents (Elt F) → (⟨S32768x1024, .f32⟩ : BufTy).Contents (Elt F) → (⟨S32768x1024, .f32⟩ : BufTy).Contents (Elt F)),
    StableHlo.unary main_v96 main_v97 ((truncf .bf16 · bitsLt_bf16_f32) : (⟨S32768x1024, .f32⟩ : BufTy).Contents (Elt F) → (⟨S32768x1024, .bf16⟩ : BufTy).Contents (Elt F)) ]
/-- Each touches TensorCore references only (`HostSeg.ofOps` over `tcRefs`, or a subset by `sub_ucRefs`). -/
theorem hostOps0_14_sub : (hostOps0_14 : List (HloOp τ sig (Elt F))).Forall fun op => op.bufs ⊆ tcRefs τ sig :=
  ⟨binary_bufs_sub .., unary_bufs_sub ..⟩
/-- 13 host operations of @main, window 0 (statements 1 … 60), in order. -/
abbrev main_part0_ops0 : List (HloOp τ sig (Elt F)) :=
  [ StableHlo.reshape main_arg0 main_v0 (rfl : (.f32 : EltTy) = .f32) shapeCasts_S32768x1024_S16x2048x8x128,
    StableHlo.reshape main_arg1 main_v1 (rfl : (.f32 : EltTy) = .f32) shapeCasts_S32768x1024_S16x2048x8x128,
    StableHlo.reshape main_arg2 main_v2 (rfl : (.f32 : EltTy) = .f32) shapeCasts_S32768x1024_S16x2048x8x128,
    StableHlo.reshape main_arg5 main_v3 (rfl : (.f32 : EltTy) = .f32) shapeCasts_S32768x8_S16x2048x8,
    StableHlo.reshape main_arg4 main_v4 (rfl : (.f32 : EltTy) = .f32) shapeCasts_S32768x8_S16x2048x8,
    StableHlo.reshape main_v0 main_v5 (rfl : (.f32 : EltTy) = .f32) shapeCasts_S16x2048x8x128_S16x32x64x8x128,
    StableHlo.unary main_v5 main_v6 ((transpose S16x8x32x64x128 [0, 3, 1, 2, 4] · transposes_S16x32x64x8x128_S16x8x32x64x128_0_3_1_2_4) : (⟨S16x32x64x8x128, .f32⟩ : BufTy).Contents (Elt F) → (⟨S16x8x32x64x128, .f32⟩ : BufTy).Contents (Elt F)),
    StableHlo.reshape main_v1 main_v7 (rfl : (.f32 : EltTy) = .f32) shapeCasts_S16x2048x8x128_S16x32x64x8x128,
    StableHlo.unary main_v7 main_v8 ((transpose S16x8x32x64x128 [0, 3, 1, 2, 4] · transposes_S16x32x64x8x128_S16x8x32x64x128_0_3_1_2_4) : (⟨S16x32x64x8x128, .f32⟩ : BufTy).Contents (Elt F) → (⟨S16x8x32x64x128, .f32⟩ : BufTy).Contents (Elt F)),
    StableHlo.reshape main_v2 main_v9 (rfl : (.f32 : EltTy) = .f32) shapeCasts_S16x2048x8x128_S16x32x64x8x128,
    StableHlo.unary main_v9 main_v10 ((transpose S16x8x32x64x128 [0, 3, 1, 2, 4] · transposes_S16x32x64x8x128_S16x8x32x64x128_0_3_1_2_4) : (⟨S16x32x64x8x128, .f32⟩ : BufTy).Contents (Elt F) → (⟨S16x8x32x64x128, .f32⟩ : BufTy).Contents (Elt F)),
    StableHlo.reshape main_v3 main_v11 (rfl : (.f32 : EltTy) = .f32) shapeCasts_S16x2048x8_S16x32x64x8,
    StableHlo.unary main_v11 main_v12 ((transpose S16x8x32x64 [0, 3, 1, 2] · transposes_S16x32x64x8_S16x8x32x64_0_3_1_2) : (⟨S16x32x64x8, .f32⟩ : BufTy).Contents (Elt F) → (⟨S16x8x32x64, .f32⟩ : BufTy).Contents (Elt F)) ]
/-- Each touches TensorCore references only (`HostSeg.ofOps` over `tcRefs`, or a subset by `sub_ucRefs`). -/
theorem main_part0_ops0_sub : (main_part0_ops0 : List (HloOp τ sig (Elt F))).Forall fun op => op.bufs ⊆ tcRefs τ sig :=
  ⟨reshape_bufs_sub .., reshape_bufs_sub .., reshape_bufs_sub .., reshape_bufs_sub .., reshape_bufs_sub .., reshape_bufs_sub .., unary_bufs_sub .., reshape_bufs_sub .., unary_bufs_sub .., reshape_bufs_sub .., unary_bufs_sub .., reshape_bufs_sub .., unary_bufs_sub ..⟩
/-- 3 host operations of @cumsum (main_call0), window 0 (statements 1 … 60), in order. -/
abbrev main_part0_ops1 : List (HloOp τ sig (Elt F)) :=
  [ TRef.nullary (.of main_call0_call0_cst : TRef sig ⟨S_, .f32⟩) (constant S_ .f32 0x00000000#32),
    TRef.unary (.of main_call0_call0_cst : TRef sig ⟨S_, .f32⟩) (.of main_call0_call0_v0 : TRef sig ⟨S_, .f32⟩) (broadcastInDim S_ ![] bcast_S_S_),
    TRef.binary (.of main_v12 : TRef sig ⟨S16x8x32x64, .f32⟩) (.of main_call0_call0_v0 : TRef sig ⟨S_, .f32⟩) (.of main_v13 : TRef sig ⟨S16x8x32x64, .f32⟩) (fun x v => Host.reduceWindowAdd ![1, 1, 1, 64] ![1, 1, 1, 1] ![0, 0, 0, 63] ![0, 0, 0, 0] x v reduceWindows_S16x8x32x64_S16x8x32x64_w1s1p0_0_w1s1p0_0_w1s1p0_0_w64s1p63_0 h_S_) ]
/-- Each touches TensorCore references only (`HostSeg.ofOps` over `tcRefs`, or a subset by `sub_ucRefs`). -/
theorem main_part0_ops1_sub : (main_part0_ops1 : List (HloOp τ sig (Elt F))).Forall fun op => op.bufs ⊆ tcRefs τ sig :=
  ⟨nullary_bufs_sub .., unary_bufs_sub .., binary_bufs_sub ..⟩
/-- 19 host operations of @main, window 0 (statements 1 … 60), in order. -/
abbrev main_part0_ops2 : List (HloOp τ sig (Elt F)) :=
  [ StableHlo.reshape main_v4 main_v14 (rfl : (.f32 : EltTy) = .f32) shapeCasts_S16x2048x8_S16x32x64x8,
    StableHlo.unary main_v14 main_v15 ((transpose S16x8x32x64 [0, 3, 1, 2] · transposes_S16x32x64x8_S16x8x32x64_0_3_1_2) : (⟨S16x32x64x8, .f32⟩ : BufTy).Contents (Elt F) → (⟨S16x8x32x64, .f32⟩ : BufTy).Contents (Elt F)),
    StableHlo.nullary main_v16 (iotaInDim S64 32 0),
    StableHlo.unary main_v16 main_v17 (broadcastInDim S64x1 ![0] bcast_S64_S64x1_0 : (⟨S64, .i32⟩ : BufTy).Contents (Elt F) → (⟨S64x1, .i32⟩ : BufTy).Contents (Elt F)),
    StableHlo.unary main_v16 main_v18 (broadcastInDim S1x64 ![1] bcast_S64_S1x64_1 : (⟨S64, .i32⟩ : BufTy).Contents (Elt F) → (⟨S1x64, .i32⟩ : BufTy).Contents (Elt F)),
    StableHlo.unary main_v17 main_v19 (broadcastInDim S64x64 ![0, 1] bcast_S64x1_S64x64_0_1 : (⟨S64x1, .i32⟩ : BufTy).Contents (Elt F) → (⟨S64x64, .i32⟩ : BufTy).Contents (Elt F)),
    StableHlo.unary main_v18 main_v20 (broadcastInDim S64x64 ![0, 1] bcast_S1x64_S64x64_0_1 : (⟨S1x64, .i32⟩ : BufTy).Contents (Elt F) → (⟨S64x64, .i32⟩ : BufTy).Contents (Elt F)),
    StableHlo.binary main_v19 main_v20 main_v21 (cmpi .sge : (⟨S64x64, .i32⟩ : BufTy).Contents (Elt F) → (⟨S64x64, .i32⟩ : BufTy).Contents (Elt F) → (⟨S64x64, .i1⟩ : BufTy).Contents (Elt F)),
    StableHlo.unary main_v16 main_v22 (broadcastInDim S64x1 ![0] bcast_S64_S64x1_0 : (⟨S64, .i32⟩ : BufTy).Contents (Elt F) → (⟨S64x1, .i32⟩ : BufTy).Contents (Elt F)),
    StableHlo.unary main_v16 main_v23 (broadcastInDim S1x64 ![1] bcast_S64_S1x64_1 : (⟨S64, .i32⟩ : BufTy).Contents (Elt F) → (⟨S1x64, .i32⟩ : BufTy).Contents (Elt F)),
    StableHlo.unary main_v22 main_v24 (broadcastInDim S64x64 ![0, 1] bcast_S64x1_S64x64_0_1 : (⟨S64x1, .i32⟩ : BufTy).Contents (Elt F) → (⟨S64x64, .i32⟩ : BufTy).Contents (Elt F)),
    StableHlo.unary main_v23 main_v25 (broadcastInDim S64x64 ![0, 1] bcast_S1x64_S64x64_0_1 : (⟨S1x64, .i32⟩ : BufTy).Contents (Elt F) → (⟨S64x64, .i32⟩ : BufTy).Contents (Elt F)),
    StableHlo.binary main_v24 main_v25 main_v26 (cmpi .sgt : (⟨S64x64, .i32⟩ : BufTy).Contents (Elt F) → (⟨S64x64, .i32⟩ : BufTy).Contents (Elt F) → (⟨S64x64, .i1⟩ : BufTy).Contents (Elt F)),
    StableHlo.unary main_v13 main_v27 (broadcastInDim S16x8x32x64x1 ![0, 1, 2, 3] bcast_S16x8x32x64_S16x8x32x64x1_0_1_2_3 : (⟨S16x8x32x64, .f32⟩ : BufTy).Contents (Elt F) → (⟨S16x8x32x64x1, .f32⟩ : BufTy).Contents (Elt F)),
    StableHlo.unary main_v13 main_v28 (broadcastInDim S16x8x32x1x64 ![0, 1, 2, 4] bcast_S16x8x32x64_S16x8x32x1x64_0_1_2_4 : (⟨S16x8x32x64, .f32⟩ : BufTy).Contents (Elt F) → (⟨S16x8x32x1x64, .f32⟩ : BufTy).Contents (Elt F)),
    StableHlo.unary main_v27 main_v29 (broadcastInDim S16x8x32x64x64 ![0, 1, 2, 3, 4] bcast_S16x8x32x64x1_S16x8x32x64x64_0_1_2_3_4 : (⟨S16x8x32x64x1, .f32⟩ : BufTy).Contents (Elt F) → (⟨S16x8x32x64x64, .f32⟩ : BufTy).Contents (Elt F)),
    StableHlo.unary main_v28 main_v30 (broadcastInDim S16x8x32x64x64 ![0, 1, 2, 3, 4] bcast_S16x8x32x1x64_S16x8x32x64x64_0_1_2_3_4 : (⟨S16x8x32x1x64, .f32⟩ : BufTy).Contents (Elt F) → (⟨S16x8x32x64x64, .f32⟩ : BufTy).Contents (Elt F)),
    StableHlo.binary main_v29 main_v30 main_v31 (subf : (⟨S16x8x32x64x64, .f32⟩ : BufTy).Contents (Elt F) → (⟨S16x8x32x64x64, .f32⟩ : BufTy).Contents (Elt F) → (⟨S16x8x32x64x64, .f32⟩ : BufTy).Contents (Elt F)),
    StableHlo.nullary main_cst (constant S_ .f32 0x00000000#32) ]
/-- Each touches TensorCore references only (`HostSeg.ofOps` over `tcRefs`, or a subset by `sub_ucRefs`). -/
theorem main_part0_ops2_sub : (main_part0_ops2 : List (HloOp τ sig (Elt F))).Forall fun op => op.bufs ⊆ tcRefs τ sig :=
  ⟨reshape_bufs_sub .., unary_bufs_sub .., nullary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., nullary_bufs_sub ..⟩
/-- 4 host operations of @_where (main_call1), window 0 (statements 1 … 60), in order. -/
abbrev main_part0_ops3 : List (HloOp τ sig (Elt F)) :=
  [ TRef.unary (.of main_cst : TRef sig ⟨S_, .f32⟩) (.of main_call1_v0 : TRef sig ⟨S_, .f32⟩) id,
    TRef.unary (.of main_v21 : TRef sig ⟨S64x64, .i1⟩) (.of main_call1_v1 : TRef sig ⟨S16x8x32x64x64, .i1⟩) (broadcastInDim S16x8x32x64x64 ![3, 4] bcast_S64x64_S16x8x32x64x64_3_4),
    TRef.unary (.of main_call1_v0 : TRef sig ⟨S_, .f32⟩) (.of main_call1_v2 : TRef sig ⟨S16x8x32x64x64, .f32⟩) (broadcastInDim S16x8x32x64x64 ![] bcast_S_S16x8x32x64x64),
    TRef.ternary (.of main_call1_v1 : TRef sig ⟨S16x8x32x64x64, .i1⟩) (.of main_v31 : TRef sig ⟨S16x8x32x64x64, .f32⟩) (.of main_call1_v2 : TRef sig ⟨S16x8x32x64x64, .f32⟩) (.of main_v32 : TRef sig ⟨S16x8x32x64x64, .f32⟩) select ]
/-- Each touches TensorCore references only (`HostSeg.ofOps` over `tcRefs`, or a subset by `sub_ucRefs`). -/
theorem main_part0_ops3_sub : (main_part0_ops3 : List (HloOp τ sig (Elt F))).Forall fun op => op.bufs ⊆ tcRefs τ sig :=
  ⟨unary_bufs_sub .., unary_bufs_sub .., unary_bufs_sub .., ternary_bufs_sub ..⟩
/-- 2 host operations of @main, window 0 (statements 1 … 60), in order. -/
abbrev main_part0_ops4 : List (HloOp τ sig (Elt F)) :=
  [ StableHlo.unary main_v32 main_v33 (Host.exp : (⟨S16x8x32x64x64, .f32⟩ : BufTy).Contents (Elt F) → (⟨S16x8x32x64x64, .f32⟩ : BufTy).Contents (Elt F)),
    StableHlo.nullary main_cst_0 (constant S_ .f32 0x00000000#32) ]
/-- Each touches TensorCore references only (`HostSeg.ofOps` over `tcRefs`, or a subset by `sub_ucRefs`). -/
theorem main_part0_ops4_sub : (main_part0_ops4 : List (HloOp τ sig (Elt F))).Forall fun op => op.bufs ⊆ tcRefs τ sig :=
  ⟨unary_bufs_sub .., nullary_bufs_sub ..⟩
/-- 4 host operations of @_where (main_call2), window 0 (statements 1 … 60), in order. -/
abbrev main_part0_ops5 : List (HloOp τ sig (Elt F)) :=
  [ TRef.unary (.of main_cst_0 : TRef sig ⟨S_, .f32⟩) (.of main_call2_v0 : TRef sig ⟨S_, .f32⟩) id,
    TRef.unary (.of main_v21 : TRef sig ⟨S64x64, .i1⟩) (.of main_call2_v1 : TRef sig ⟨S16x8x32x64x64, .i1⟩) (broadcastInDim S16x8x32x64x64 ![3, 4] bcast_S64x64_S16x8x32x64x64_3_4),
    TRef.unary (.of main_call2_v0 : TRef sig ⟨S_, .f32⟩) (.of main_call2_v2 : TRef sig ⟨S16x8x32x64x64, .f32⟩) (broadcastInDim S16x8x32x64x64 ![] bcast_S_S16x8x32x64x64),
    TRef.ternary (.of main_call2_v1 : TRef sig ⟨S16x8x32x64x64, .i1⟩) (.of main_v33 : TRef sig ⟨S16x8x32x64x64, .f32⟩) (.of main_call2_v2 : TRef sig ⟨S16x8x32x64x64, .f32⟩) (.of main_v34 : TRef sig ⟨S16x8x32x64x64, .f32⟩) select ]
/-- Each touches TensorCore references only (`HostSeg.ofOps` over `tcRefs`, or a subset by `sub_ucRefs`). -/
theorem main_part0_ops5_sub : (main_part0_ops5 : List (HloOp τ sig (Elt F))).Forall fun op => op.bufs ⊆ tcRefs τ sig :=
  ⟨unary_bufs_sub .., unary_bufs_sub .., unary_bufs_sub .., ternary_bufs_sub ..⟩
/-- 6 host operations of @main, window 0 (statements 1 … 60), in order. -/
abbrev main_part0_ops6 : List (HloOp τ sig (Elt F)) :=
  [ StableHlo.unary main_v15 main_v35 (broadcastInDim S16x8x32x64x1 ![0, 1, 2, 3] bcast_S16x8x32x64_S16x8x32x64x1_0_1_2_3 : (⟨S16x8x32x64, .f32⟩ : BufTy).Contents (Elt F) → (⟨S16x8x32x64x1, .f32⟩ : BufTy).Contents (Elt F)),
    StableHlo.unary main_v35 main_v36 (broadcastInDim S16x8x32x64x128 ![0, 1, 2, 3, 4] bcast_S16x8x32x64x1_S16x8x32x64x128_0_1_2_3_4 : (⟨S16x8x32x64x1, .f32⟩ : BufTy).Contents (Elt F) → (⟨S16x8x32x64x128, .f32⟩ : BufTy).Contents (Elt F)),
    StableHlo.binary main_v8 main_v36 main_v37 (mulf : (⟨S16x8x32x64x128, .f32⟩ : BufTy).Contents (Elt F) → (⟨S16x8x32x64x128, .f32⟩ : BufTy).Contents (Elt F) → (⟨S16x8x32x64x128, .f32⟩ : BufTy).Contents (Elt F)),
    StableHlo.binary main_v37 main_v8 main_v38 ((fun l r => Host.dotGeneral dot_S16x8x32x64x128_S16x8x32x64x128_S16x8x32x64x64_4_4_3_3_012_012 none l r) : (⟨S16x8x32x64x128, .f32⟩ : BufTy).Contents (Elt F) → (⟨S16x8x32x64x128, .f32⟩ : BufTy).Contents (Elt F) → (⟨S16x8x32x64x64, .f32⟩ : BufTy).Contents (Elt F)),
    StableHlo.binary main_v38 main_v34 main_v39 (mulf : (⟨S16x8x32x64x64, .f32⟩ : BufTy).Contents (Elt F) → (⟨S16x8x32x64x64, .f32⟩ : BufTy).Contents (Elt F) → (⟨S16x8x32x64x64, .f32⟩ : BufTy).Contents (Elt F)),
    StableHlo.nullary main_cst_1 (constant S_ .f32 0x00000000#32) ]
/-- Each touches TensorCore references only (`HostSeg.ofOps` over `tcRefs`, or a subset by `sub_ucRefs`). -/
theorem main_part0_ops6_sub : (main_part0_ops6 : List (HloOp τ sig (Elt F))).Forall fun op => op.bufs ⊆ tcRefs τ sig :=
  ⟨unary_bufs_sub .., unary_bufs_sub .., binary_bufs_sub .., binary_bufs_sub .., binary_bufs_sub .., nullary_bufs_sub ..⟩
/-- 4 host operations of @_where (main_call3), window 0 (statements 1 … 60), in order. -/
abbrev main_part0_ops7 : List (HloOp τ sig (Elt F)) :=
  [ TRef.unary (.of main_cst_1 : TRef sig ⟨S_, .f32⟩) (.of main_call3_v0 : TRef sig ⟨S_, .f32⟩) id,
    TRef.unary (.of main_v26 : TRef sig ⟨S64x64, .i1⟩) (.of main_call3_v1 : TRef sig ⟨S16x8x32x64x64, .i1⟩) (broadcastInDim S16x8x32x64x64 ![3, 4] bcast_S64x64_S16x8x32x64x64_3_4),
    TRef.unary (.of main_call3_v0 : TRef sig ⟨S_, .f32⟩) (.of main_call3_v2 : TRef sig ⟨S16x8x32x64x64, .f32⟩) (broadcastInDim S16x8x32x64x64 ![] bcast_S_S16x8x32x64x64),
    TRef.ternary (.of main_call3_v1 : TRef sig ⟨S16x8x32x64x64, .i1⟩) (.of main_v39 : TRef sig ⟨S16x8x32x64x64, .f32⟩) (.of main_call3_v2 : TRef sig ⟨S16x8x32x64x64, .f32⟩) (.of main_v40 : TRef sig ⟨S16x8x32x64x64, .f32⟩) select ]
/-- Each touches TensorCore references only (`HostSeg.ofOps` over `tcRefs`, or a subset by `sub_ucRefs`). -/
theorem main_part0_ops7_sub : (main_part0_ops7 : List (HloOp τ sig (Elt F))).Forall fun op => op.bufs ⊆ tcRefs τ sig :=
  ⟨unary_bufs_sub .., unary_bufs_sub .., unary_bufs_sub .., ternary_bufs_sub ..⟩
/-- 16 host operations of @main, window 0 (statements 1 … 60), in order. -/
abbrev main_part0_ops8 : List (HloOp τ sig (Elt F)) :=
  [ StableHlo.unary main_v15 main_v41 (broadcastInDim S16x8x32x64x1 ![0, 1, 2, 3] bcast_S16x8x32x64_S16x8x32x64x1_0_1_2_3 : (⟨S16x8x32x64, .f32⟩ : BufTy).Contents (Elt F) → (⟨S16x8x32x64x1, .f32⟩ : BufTy).Contents (Elt F)),
    StableHlo.unary main_v41 main_v42 (broadcastInDim S16x8x32x64x128 ![0, 1, 2, 3, 4] bcast_S16x8x32x64x1_S16x8x32x64x128_0_1_2_3_4 : (⟨S16x8x32x64x1, .f32⟩ : BufTy).Contents (Elt F) → (⟨S16x8x32x64x128, .f32⟩ : BufTy).Contents (Elt F)),
    StableHlo.binary main_v10 main_v42 main_v43 (mulf : (⟨S16x8x32x64x128, .f32⟩ : BufTy).Contents (Elt F) → (⟨S16x8x32x64x128, .f32⟩ : BufTy).Contents (Elt F) → (⟨S16x8x32x64x128, .f32⟩ : BufTy).Contents (Elt F)),
    StableHlo.unary main_v13 main_v44 (Host.exp : (⟨S16x8x32x64, .f32⟩ : BufTy).Contents (Elt F) → (⟨S16x8x32x64, .f32⟩ : BufTy).Contents (Elt F)),
    StableHlo.unary main_v44 main_v45 (broadcastInDim S16x8x32x64x1 ![0, 1, 2, 3] bcast_S16x8x32x64_S16x8x32x64x1_0_1_2_3 : (⟨S16x8x32x64, .f32⟩ : BufTy).Contents (Elt F) → (⟨S16x8x32x64x1, .f32⟩ : BufTy).Contents (Elt F)),
    StableHlo.unary main_v45 main_v46 (broadcastInDim S16x8x32x64x128 ![0, 1, 2, 3, 4] bcast_S16x8x32x64x1_S16x8x32x64x128_0_1_2_3_4 : (⟨S16x8x32x64x1, .f32⟩ : BufTy).Contents (Elt F) → (⟨S16x8x32x64x128, .f32⟩ : BufTy).Contents (Elt F)),
    StableHlo.binary main_v37 main_v46 main_v47 (mulf : (⟨S16x8x32x64x128, .f32⟩ : BufTy).Contents (Elt F) → (⟨S16x8x32x64x128, .f32⟩ : BufTy).Contents (Elt F) → (⟨S16x8x32x64x128, .f32⟩ : BufTy).Contents (Elt F)),
    StableHlo.binary main_v43 main_v47 main_v48 ((fun a b => concatenate S16x8x32x64x256 4 [⟨S16x8x32x64x128, a⟩, ⟨S16x8x32x64x128, b⟩] concatenates_S16x8x32x64x128_S16x8x32x64x128_S16x8x32x64x256_d4) : (⟨S16x8x32x64x128, .f32⟩ : BufTy).Contents (Elt F) → (⟨S16x8x32x64x128, .f32⟩ : BufTy).Contents (Elt F) → (⟨S16x8x32x64x256, .f32⟩ : BufTy).Contents (Elt F)),
    StableHlo.nullary main_cst_2 (constant S_ .f32 0x00000000#32),
    StableHlo.unary main_cst_2 main_v49 (broadcastInDim S16x8x32x64x256 ![] bcast_S_S16x8x32x64x256 : (⟨S_, .f32⟩ : BufTy).Contents (Elt F) → (⟨S16x8x32x64x256, .f32⟩ : BufTy).Contents (Elt F)),
    StableHlo.nullary main_c (constantI S_ 32 0#32),
    StableHlo.nullary main_c_3 (constantI S_ 32 0#32),
    StableHlo.unary main_v40 main_v50_0 id,
    StableHlo.unary main_v48 main_v50_1 id,
    StableHlo.unary main_c_3 main_v50_2 id,
    StableHlo.unary main_c main_v50_3 id ]
/-- Each touches TensorCore references only (`HostSeg.ofOps` over `tcRefs`, or a subset by `sub_ucRefs`). -/
theorem main_part0_ops8_sub : (main_part0_ops8 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., binary_bufs_sub .., nullary_bufs_sub .., unary_bufs_sub .., nullary_bufs_sub .., nullary_bufs_sub .., unary_bufs_sub .., unary_bufs_sub .., unary_bufs_sub .., unary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7 ]
  (StableHlo.seq main_part0_ops8) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

/-- 1 host operation of @main, window 1 (statements 61 … 120), in order. -/
abbrev main_part1_ops0 : List (HloOp τ sig (Elt F)) :=
  [ StableHlo.unary main_v49 main_v50_4 id ]
/-- Each touches TensorCore references only (`HostSeg.ofOps` over `tcRefs`, or a subset by `sub_ucRefs`). -/
theorem main_part1_ops0_sub : (main_part1_ops0 : List (HloOp τ sig (Elt F))).Forall fun op => op.bufs ⊆ tcRefs τ sig :=
  unary_bufs_sub ..
/-- 5 host operations of @main, window 1 (statements 61 … 120), in order. -/
abbrev main_part1_ops1 : List (HloOp τ sig (Elt F)) :=
  [ StableHlo.unary main_v50_4 main_v51 ((extractStridedSlice S16x8x32x64x128 ![0, 0, 0, 0, 0] · slices_S16x8x32x64x256_S16x8x32x64x128_0_0_0_0_0) : (⟨S16x8x32x64x256, .f32⟩ : BufTy).Contents (Elt F) → (⟨S16x8x32x64x128, .f32⟩ : BufTy).Contents (Elt F)),
    StableHlo.unary main_v50_4 main_v52 ((extractStridedSlice S16x8x32x64x128 ![0, 0, 0, 0, 128] · slices_S16x8x32x64x256_S16x8x32x64x128_0_0_0_0_128) : (⟨S16x8x32x64x256, .f32⟩ : BufTy).Contents (Elt F) → (⟨S16x8x32x64x128, .f32⟩ : BufTy).Contents (Elt F)),
    StableHlo.binary main_v6 main_v8 main_v53 ((fun l r => Host.dotGeneral dot_S16x8x32x64x128_S16x8x32x64x128_S16x8x32x64x64_4_4_3_3_012_012 none l r) : (⟨S16x8x32x64x128, .f32⟩ : BufTy).Contents (Elt F) → (⟨S16x8x32x64x128, .f32⟩ : BufTy).Contents (Elt F) → (⟨S16x8x32x64x64, .f32⟩ : BufTy).Contents (Elt F)),
    StableHlo.binary main_v53 main_v34 main_v54 (mulf : (⟨S16x8x32x64x64, .f32⟩ : BufTy).Contents (Elt F) → (⟨S16x8x32x64x64, .f32⟩ : BufTy).Contents (Elt F) → (⟨S16x8x32x64x64, .f32⟩ : BufTy).Contents (Elt F)),
    StableHlo.nullary main_cst_4 (constant S_ .f32 0x00000000#32) ]
/-- Each touches TensorCore references only (`HostSeg.ofOps` over `tcRefs`, or a subset by `sub_ucRefs`). -/
theorem main_part1_ops1_sub : (main_part1_ops1 : List (HloOp τ sig (Elt F))).Forall fun op => op.bufs ⊆ tcRefs τ sig :=
  ⟨unary_bufs_sub .., unary_bufs_sub .., binary_bufs_sub .., binary_bufs_sub .., nullary_bufs_sub ..⟩
/-- 4 host operations of @_where (main_call4), window 1 (statements 61 … 120), in order. -/
abbrev main_part1_ops2 : List (HloOp τ sig (Elt F)) :=
  [ TRef.unary (.of main_cst_4 : TRef sig ⟨S_, .f32⟩) (.of main_call4_v0 : TRef sig ⟨S_, .f32⟩) id,
    TRef.unary (.of main_v21 : TRef sig ⟨S64x64, .i1⟩) (.of main_call4_v1 : TRef sig ⟨S16x8x32x64x64, .i1⟩) (broadcastInDim S16x8x32x64x64 ![3, 4] bcast_S64x64_S16x8x32x64x64_3_4),
    TRef.unary (.of main_call4_v0 : TRef sig ⟨S_, .f32⟩) (.of main_call4_v2 : TRef sig ⟨S16x8x32x64x64, .f32⟩) (broadcastInDim S16x8x32x64x64 ![] bcast_S_S16x8x32x64x64),
    TRef.ternary (.of main_call4_v1 : TRef sig ⟨S16x8x32x64x64, .i1⟩) (.of main_v54 : TRef sig ⟨S16x8x32x64x64, .f32⟩) (.of main_call4_v2 : TRef sig ⟨S16x8x32x64x64, .f32⟩) (.of main_v55 : TRef sig ⟨S16x8x32x64x64, .f32⟩) select ]
/-- Each touches TensorCore references only (`HostSeg.ofOps` over `tcRefs`, or a subset by `sub_ucRefs`). -/
theorem main_part1_ops2_sub : (main_part1_ops2 : List (HloOp τ sig (Elt F))).Forall fun op => op.bufs ⊆ tcRefs τ sig :=
  ⟨unary_bufs_sub .., unary_bufs_sub .., unary_bufs_sub .., ternary_bufs_sub ..⟩
/-- 34 host operations of @main, window 1 (statements 61 … 120), in order. -/
abbrev main_part1_ops3 : List (HloOp τ sig (Elt F)) :=
  ( StableHlo.unary main_v13 main_v56 (Host.exp : (⟨S16x8x32x64, .f32⟩ : BufTy).Contents (Elt F) → (⟨S16x8x32x64, .f32⟩ : BufTy).Contents (Elt F))
  :: StableHlo.unary main_v56 main_v57 (broadcastInDim S16x8x32x64x1 ![0, 1, 2, 3] bcast_S16x8x32x64_S16x8x32x64x1_0_1_2_3 : (⟨S16x8x32x64, .f32⟩ : BufTy).Contents (Elt F) → (⟨S16x8x32x64x1, .f32⟩ : BufTy).Contents (Elt F))
  :: StableHlo.unary main_v57 main_v58 (broadcastInDim S16x8x32x64x128 ![0, 1, 2, 3, 4] bcast_S16x8x32x64x1_S16x8x32x64x128_0_1_2_3_4 : (⟨S16x8x32x64x1, .f32⟩ : BufTy).Contents (Elt F) → (⟨S16x8x32x64x128, .f32⟩ : BufTy).Contents (Elt F))
  :: StableHlo.binary main_v6 main_v58 main_v59 (mulf : (⟨S16x8x32x64x128, .f32⟩ : BufTy).Contents (Elt F) → (⟨S16x8x32x64x128, .f32⟩ : BufTy).Contents (Elt F) → (⟨S16x8x32x64x128, .f32⟩ : BufTy).Contents (Elt F))
  :: StableHlo.unary main_v13 main_v60 ((extractStridedSlice S16x8x32x1 ![0, 0, 0, 63] · slices_S16x8x32x64_S16x8x32x1_0_0_0_63) : (⟨S16x8x32x64, .f32⟩ : BufTy).Contents (Elt F) → (⟨S16x8x32x1, .f32⟩ : BufTy).Contents (Elt F))
  :: StableHlo.unary main_v60 main_v61 (broadcastInDim S16x8x32x64 ![0, 1, 2, 3] bcast_S16x8x32x1_S16x8x32x64_0_1_2_3 : (⟨S16x8x32x1, .f32⟩ : BufTy).Contents (Elt F) → (⟨S16x8x32x64, .f32⟩ : BufTy).Contents (Elt F))
  :: StableHlo.binary main_v61 main_v13 main_v62 (subf : (⟨S16x8x32x64, .f32⟩ : BufTy).Contents (Elt F) → (⟨S16x8x32x64, .f32⟩ : BufTy).Contents (Elt F) → (⟨S16x8x32x64, .f32⟩ : BufTy).Contents (Elt F))
  :: StableHlo.unary main_v62 main_v63 (Host.exp : (⟨S16x8x32x64, .f32⟩ : BufTy).Contents (Elt F) → (⟨S16x8x32x64, .f32⟩ : BufTy).Contents (Elt F))
  :: StableHlo.unary main_v63 main_v64 (broadcastInDim S16x8x32x64x1 ![0, 1, 2, 3] bcast_S16x8x32x64_S16x8x32x64x1_0_1_2_3 : (⟨S16x8x32x64, .f32⟩ : BufTy).Contents (Elt F) → (⟨S16x8x32x64x1, .f32⟩ : BufTy).Contents (Elt F))
  :: StableHlo.unary main_v64 main_v65 (broadcastInDim S16x8x32x64x128 ![0, 1, 2, 3, 4] bcast_S16x8x32x64x1_S16x8x32x64x128_0_1_2_3_4 : (⟨S16x8x32x64x1, .f32⟩ : BufTy).Contents (Elt F) → (⟨S16x8x32x64x128, .f32⟩ : BufTy).Contents (Elt F))
  :: StableHlo.binary main_v8 main_v65 main_v66 (mulf : (⟨S16x8x32x64x128, .f32⟩ : BufTy).Contents (Elt F) → (⟨S16x8x32x64x128, .f32⟩ : BufTy).Contents (Elt F) → (⟨S16x8x32x64x128, .f32⟩ : BufTy).Contents (Elt F))
  :: StableHlo.unary main_v13 main_v67 ((extractStridedSlice S16x8x32x1 ![0, 0, 0, 63] · slices_S16x8x32x64_S16x8x32x1_0_0_0_63) : (⟨S16x8x32x64, .f32⟩ : BufTy).Contents (Elt F) → (⟨S16x8x32x1, .f32⟩ : BufTy).Contents (Elt F))
  :: StableHlo.reshape main_v67 main_v68 (rfl : (.f32 : EltTy) = .f32) shapeCasts_S16x8x32x1_S16x8x32
  :: StableHlo.unary main_v68 main_v69 (Host.exp : (⟨S16x8x32, .f32⟩ : BufTy).Contents (Elt F) → (⟨S16x8x32, .f32⟩ : BufTy).Contents (Elt F))
  :: StableHlo.unary main_v51 main_v70 ((transpose S32x16x8x64x128 [2, 0, 1, 3, 4] · transposes_S16x8x32x64x128_S32x16x8x64x128_2_0_1_3_4) : (⟨S16x8x32x64x128, .f32⟩ : BufTy).Contents (Elt F) → (⟨S32x16x8x64x128, .f32⟩ : BufTy).Contents (Elt F))
  :: StableHlo.unary main_v52 main_v71 ((transpose S32x16x8x64x128 [2, 0, 1, 3, 4] · transposes_S16x8x32x64x128_S32x16x8x64x128_2_0_1_3_4) : (⟨S16x8x32x64x128, .f32⟩ : BufTy).Contents (Elt F) → (⟨S32x16x8x64x128, .f32⟩ : BufTy).Contents (Elt F))
  :: StableHlo.unary main_v55 main_v72 ((transpose S32x16x8x64x64 [2, 0, 1, 3, 4] · transposes_S16x8x32x64x64_S32x16x8x64x64_2_0_1_3_4) : (⟨S16x8x32x64x64, .f32⟩ : BufTy).Contents (Elt F) → (⟨S32x16x8x64x64, .f32⟩ : BufTy).Contents (Elt F))
  :: StableHlo.unary main_v59 main_v73 ((transpose S32x16x8x64x128 [2, 0, 1, 3, 4] · transposes_S16x8x32x64x128_S32x16x8x64x128_2_0_1_3_4) : (⟨S16x8x32x64x128, .f32⟩ : BufTy).Contents (Elt F) → (⟨S32x16x8x64x128, .f32⟩ : BufTy).Contents (Elt F))
  :: StableHlo.unary main_v66 main_v74 ((transpose S32x16x8x64x128 [2, 0, 1, 3, 4] · transposes_S16x8x32x64x128_S32x16x8x64x128_2_0_1_3_4) : (⟨S16x8x32x64x128, .f32⟩ : BufTy).Contents (Elt F) → (⟨S32x16x8x64x128, .f32⟩ : BufTy).Contents (Elt F))
  :: StableHlo.unary main_v69 main_v75 ((transpose S32x16x8 [2, 0, 1] · transposes_S16x8x32_S32x16x8_2_0_1) : (⟨S16x8x32, .f32⟩ : BufTy).Contents (Elt F) → (⟨S32x16x8, .f32⟩ : BufTy).Contents (Elt F))
  :: StableHlo.nullary main_cst_5 (constant S_ .f32 0x00000000#32)
  :: StableHlo.unary main_cst_5 main_v76 (broadcastInDim S16x8x128x128 ![] bcast_S_S16x8x128x128 : (⟨S_, .f32⟩ : BufTy).Contents (Elt F) → (⟨S16x8x128x128, .f32⟩ : BufTy).Contents (Elt F))
  :: StableHlo.nullary main_cst_6 (constant S_ .f32 0x00000000#32)
  :: StableHlo.unary main_cst_6 main_v77 (broadcastInDim S32x16x8x64x128 ![] bcast_S_S32x16x8x64x128 : (⟨S_, .f32⟩ : BufTy).Contents (Elt F) → (⟨S32x16x8x64x128, .f32⟩ : BufTy).Contents (Elt F))
  :: StableHlo.nullary main_c_7 (constantI S_ 32 0#32)
  :: StableHlo.unary main_v70 main_v78_0 id
  :: StableHlo.unary main_v71 main_v78_1 id
  :: StableHlo.unary main_v72 main_v78_2 id
  :: StableHlo.unary main_v73 main_v78_3 id
  :: StableHlo.unary main_v74 main_v78_4 id
  :: StableHlo.unary main_v75 main_v78_5 id
  :: StableHlo.unary main_c_7 main_v78_6 id
  :: StableHlo.unary main_v76 main_v78_7 id
  :: StableHlo.unary main_v77 main_v78_8 id
  :: [] )
/-- Each touches TensorCore references only (`HostSeg.ofOps` over `tcRefs`, or a subset by `sub_ucRefs`). -/
theorem main_part1_ops3_sub : (main_part1_ops3 : List (HloOp τ sig (Elt F))).Forall fun op => op.bufs ⊆ tcRefs τ sig :=
  ⟨unary_bufs_sub .., unary_bufs_sub .., unary_bufs_sub .., binary_bufs_sub .., unary_bufs_sub .., unary_bufs_sub .., binary_bufs_sub .., unary_bufs_sub .., unary_bufs_sub .., unary_bufs_sub .., binary_bufs_sub .., unary_bufs_sub .., reshape_bufs_sub .., unary_bufs_sub .., unary_bufs_sub .., unary_bufs_sub .., unary_bufs_sub .., unary_bufs_sub .., unary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub ..⟩
/-- 17 host operations of @main, window 1 (statements 61 … 120), in order. -/
abbrev main_part1_ops4 : List (HloOp τ sig (Elt F)) :=
  [ StableHlo.unary main_v78_8 main_v79 ((transpose S16x32x64x8x128 [1, 0, 3, 2, 4] · transposes_S32x16x8x64x128_S16x32x64x8x128_1_0_3_2_4) : (⟨S32x16x8x64x128, .f32⟩ : BufTy).Contents (Elt F) → (⟨S16x32x64x8x128, .f32⟩ : BufTy).Contents (Elt F)),
    StableHlo.reshape main_v79 main_v80 (rfl : (.f32 : EltTy) = .f32) shapeCasts_S16x32x64x8x128_S16x2048x8x128,
    StableHlo.binary main_v80 main_v80 main_v81 (mulf : (⟨S16x2048x8x128, .f32⟩ : BufTy).Contents (Elt F) → (⟨S16x2048x8x128, .f32⟩ : BufTy).Contents (Elt F) → (⟨S16x2048x8x128, .f32⟩ : BufTy).Contents (Elt F)),
    StableHlo.nullary main_cst_8 (constant S_ .f32 0x00000000#32),
    StableHlo.binary main_v81 main_cst_8 main_v82 ((fun x v => Host.reduceAdd x v reducesTo_S16x2048x8x128_S16x2048x8_d3 h_S_) : (⟨S16x2048x8x128, .f32⟩ : BufTy).Contents (Elt F) → (⟨S_, .f32⟩ : BufTy).Contents (Elt F) → (⟨S16x2048x8, .f32⟩ : BufTy).Contents (Elt F)),
    StableHlo.unary main_v82 main_v83 (broadcastInDim S16x2048x8x1 ![0, 1, 2] bcast_S16x2048x8_S16x2048x8x1_0_1_2 : (⟨S16x2048x8, .f32⟩ : BufTy).Contents (Elt F) → (⟨S16x2048x8x1, .f32⟩ : BufTy).Contents (Elt F)),
    StableHlo.nullary main_cst_9 (constant S_ .f32 0x43000000#32),
    StableHlo.unary main_cst_9 main_v84 (broadcastInDim S16x2048x8x1 ![] bcast_S_S16x2048x8x1 : (⟨S_, .f32⟩ : BufTy).Contents (Elt F) → (⟨S16x2048x8x1, .f32⟩ : BufTy).Contents (Elt F)),
    StableHlo.binary main_v83 main_v84 main_v85 (Host.divf : (⟨S16x2048x8x1, .f32⟩ : BufTy).Contents (Elt F) → (⟨S16x2048x8x1, .f32⟩ : BufTy).Contents (Elt F) → (⟨S16x2048x8x1, .f32⟩ : BufTy).Contents (Elt F)),
    StableHlo.nullary main_cst_10 (constant S_ .f32 0x358637BD#32),
    StableHlo.unary main_cst_10 main_v86 (broadcastInDim S16x2048x8x1 ![] bcast_S_S16x2048x8x1 : (⟨S_, .f32⟩ : BufTy).Contents (Elt F) → (⟨S16x2048x8x1, .f32⟩ : BufTy).Contents (Elt F)),
    StableHlo.binary main_v85 main_v86 main_v87 (addf : (⟨S16x2048x8x1, .f32⟩ : BufTy).Contents (Elt F) → (⟨S16x2048x8x1, .f32⟩ : BufTy).Contents (Elt F) → (⟨S16x2048x8x1, .f32⟩ : BufTy).Contents (Elt F)),
    StableHlo.unary main_v87 main_v88 (Host.rsqrt : (⟨S16x2048x8x1, .f32⟩ : BufTy).Contents (Elt F) → (⟨S16x2048x8x1, .f32⟩ : BufTy).Contents (Elt F)),
    StableHlo.unary main_v88 main_v89 (broadcastInDim S16x2048x8x128 ![0, 1, 2, 3] bcast_S16x2048x8x1_S16x2048x8x128_0_1_2_3 : (⟨S16x2048x8x1, .f32⟩ : BufTy).Contents (Elt F) → (⟨S16x2048x8x128, .f32⟩ : BufTy).Contents (Elt F)),
    StableHlo.binary main_v80 main_v89 main_v90 (mulf : (⟨S16x2048x8x128, .f32⟩ : BufTy).Contents (Elt F) → (⟨S16x2048x8x128, .f32⟩ : BufTy).Contents (Elt F) → (⟨S16x2048x8x128, .f32⟩ : BufTy).Contents (Elt F)),
    StableHlo.unary main_arg6 main_v91 (broadcastInDim S1x1x1x128 ![3] bcast_S128_S1x1x1x128_3 : (⟨S128, .f32⟩ : BufTy).Contents (Elt F) → (⟨S1x1x1x128, .f32⟩ : BufTy).Contents (Elt F)),
    StableHlo.unary main_v91 main_v92 (broadcastInDim S16x2048x8x128 ![0, 1, 2, 3] bcast_S1x1x1x128_S16x2048x8x128_0_1_2_3 : (⟨S1x1x1x128, .f32⟩ : BufTy).Contents (Elt F) → (⟨S16x2048x8x128, .f32⟩ : BufTy).Contents (Elt F)) ]
/-- Each touches TensorCore references only (`HostSeg.ofOps` over `tcRefs`, or a subset by `sub_ucRefs`). -/
theorem main_part1_ops4_sub : (main_part1_ops4 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub ..⟩
/-- Window 1 of `main` (`main_part1`, statements 61 … 120) is the chain of ITS items ending in the last
    (`Pipeline.chainK`: no closing `pure`, the window's last statement being in tail position), each item but the last aligned with the
    window's statements, then `chain_rfl`. -/
theorem main_part1_chain (c : Dev nD) : main_part1 (F := F) c = (Pipeline.chainK
  [ StableHlo.seq main_part1_ops0,
    HostLoop.enter 0,
    StableHlo.seq main_part1_ops1,
    StableHlo.seq main_part1_ops2,
    StableHlo.seq main_part1_ops3,
    HostLoop.enter 1 ]
  (StableHlo.seq main_part1_ops4) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons, Pipeline.chainK_cons]
  chain_rfl

/-- 2 host operations of @main, window 2 (statements 121 … 126), in order. -/
abbrev main_part2_ops0 : List (HloOp τ sig (Elt F)) :=
  [ StableHlo.binary main_v90 main_v92 main_v93 (mulf : (⟨S16x2048x8x128, .f32⟩ : BufTy).Contents (Elt F) → (⟨S16x2048x8x128, .f32⟩ : BufTy).Contents (Elt F) → (⟨S16x2048x8x128, .f32⟩ : BufTy).Contents (Elt F)),
    StableHlo.reshape main_v93 main_v94 (rfl : (.f32 : EltTy) = .f32) shapeCasts_S16x2048x8x128_S32768x1024 ]
/-- Each touches TensorCore references only (`HostSeg.ofOps` over `tcRefs`, or a subset by `sub_ucRefs`). -/
theorem main_part2_ops0_sub : (main_part2_ops0 : List (HloOp τ sig (Elt F))).Forall fun op => op.bufs ⊆ tcRefs τ sig :=
  ⟨binary_bufs_sub .., reshape_bufs_sub ..⟩
/-- 9 host operations of @silu (main_call12), window 2 (statements 121 … 126), in order. -/
abbrev main_part2_ops1 : List (HloOp τ sig (Elt F)) :=
  [ TRef.unary (.of main_arg3 : TRef sig ⟨S32768x1024, .f32⟩) (.of main_call12_v0 : TRef sig ⟨S32768x1024, .f32⟩) Host.negf,
    TRef.unary (.of main_call12_v0 : TRef sig ⟨S32768x1024, .f32⟩) (.of main_call12_v1 : TRef sig ⟨S32768x1024, .f32⟩) Host.exp,
    TRef.nullary (.of main_call12_cst : TRef sig ⟨S_, .f32⟩) (constant S_ .f32 0x3F800000#32),
    TRef.unary (.of main_call12_cst : TRef sig ⟨S_, .f32⟩) (.of main_call12_v2 : TRef sig ⟨S32768x1024, .f32⟩) (broadcastInDim S32768x1024 ![] bcast_S_S32768x1024),
    TRef.binary (.of main_call12_v2 : TRef sig ⟨S32768x1024, .f32⟩) (.of main_call12_v1 : TRef sig ⟨S32768x1024, .f32⟩) (.of main_call12_v3 : TRef sig ⟨S32768x1024, .f32⟩) addf,
    TRef.nullary (.of main_call12_cst_0 : TRef sig ⟨S_, .f32⟩) (constant S_ .f32 0x3F800000#32),
    TRef.unary (.of main_call12_cst_0 : TRef sig ⟨S_, .f32⟩) (.of main_call12_v4 : TRef sig ⟨S32768x1024, .f32⟩) (broadcastInDim S32768x1024 ![] bcast_S_S32768x1024),
    TRef.binary (.of main_call12_v4 : TRef sig ⟨S32768x1024, .f32⟩) (.of main_call12_v3 : TRef sig ⟨S32768x1024, .f32⟩) (.of main_call12_v5 : TRef sig ⟨S32768x1024, .f32⟩) Host.divf,
    TRef.binary (.of main_arg3 : TRef sig ⟨S32768x1024, .f32⟩) (.of main_call12_v5 : TRef sig ⟨S32768x1024, .f32⟩) (.of main_v95 : TRef sig ⟨S32768x1024, .f32⟩) mulf ]
/-- Each touches TensorCore references only (`HostSeg.ofOps` over `tcRefs`, or a subset by `sub_ucRefs`). -/
theorem main_part2_ops1_sub : (main_part2_ops1 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub ..⟩
/-- 2 host operations of @main, window 2 (statements 121 … 126), in order. -/
abbrev main_part2_ops2 : List (HloOp τ sig (Elt F)) :=
  [ StableHlo.binary main_v94 main_v95 main_v96 (mulf : (⟨S32768x1024, .f32⟩ : BufTy).Contents (Elt F) → (⟨S32768x1024, .f32⟩ : BufTy).Contents (Elt F) → (⟨S32768x1024, .f32⟩ : BufTy).Contents (Elt F)),
    StableHlo.unary main_v96 main_v97 ((truncf .bf16 · bitsLt_bf16_f32) : (⟨S32768x1024, .f32⟩ : BufTy).Contents (Elt F) → (⟨S32768x1024, .bf16⟩ : BufTy).Contents (Elt F)) ]
/-- Each touches TensorCore references only (`HostSeg.ofOps` over `tcRefs`, or a subset by `sub_ucRefs`). -/
theorem main_part2_ops2_sub : (main_part2_ops2 : List (HloOp τ sig (Elt F))).Forall fun op => op.bufs ⊆ tcRefs τ sig :=
  ⟨binary_bufs_sub .., unary_bufs_sub ..⟩
/-- The last window of `main` (`main_part2`, statements 121 … 126) is the chain of ITS items, each item aligned with the window's
    statements, then `chain_rfl`. -/
theorem main_part2_chain (c : Dev nD) : main_part2 (F := F) c = (Pipeline.chain
  [ StableHlo.seq main_part2_ops0,
    StableHlo.seq main_part2_ops1,
    StableHlo.seq main_part2_ops2 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part1_ops0,
    HostLoop.enter 0,
    StableHlo.seq main_part1_ops1,
    StableHlo.seq main_part1_ops2,
    StableHlo.seq main_part1_ops3,
    HostLoop.enter 1,
    StableHlo.seq main_part1_ops4,
    StableHlo.seq main_part2_ops0,
    StableHlo.seq main_part2_ops1,
    StableHlo.seq main_part2_ops2 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 2)) :=
  [ .ops [main_part0_ops0],
    .ops [main_part0_ops1],
    .ops [main_part0_ops2],
    .ops [main_part0_ops3],
    .ops [main_part0_ops4],
    .ops [main_part0_ops5],
    .ops [main_part0_ops6],
    .ops [main_part0_ops7],
    .ops [main_part0_ops8, main_part1_ops0],
    .prog (HostLoop.enter 0),
    .ops [main_part1_ops1],
    .ops [main_part1_ops2],
    .ops [main_part1_ops3],
    .prog (HostLoop.enter 1),
    .ops [main_part1_ops4, main_part2_ops0],
    .ops [main_part2_ops1],
    .ops [main_part2_ops2] ]

/-- The windows' item list is `main_groups` with each stretch cut into its window pieces (`StableHlo.Group.cut`): the two
    lists are the same, by `chain_rfl`. -/
theorem main_chain_cut (c : Dev nD) : (Pipeline.chain
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part1_ops0,
    HostLoop.enter 0,
    StableHlo.seq main_part1_ops1,
    StableHlo.seq main_part1_ops2,
    StableHlo.seq main_part1_ops3,
    HostLoop.enter 1,
    StableHlo.seq main_part1_ops4,
    StableHlo.seq main_part2_ops0,
    StableHlo.seq main_part2_ops1,
    StableHlo.seq main_part2_ops2 ] : Prog (TpuEff nD τ sig (Elt F) (HostLoop.Sig (Pipeline.Sig Λ₀ (Fin 0) fun p => (pcfgs (F := F) p).Adm) 2) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    HostLoop.enter 0,
    StableHlo.seq hostOps0_9,
    StableHlo.seq hostOps0_10,
    StableHlo.seq hostOps0_11,
    HostLoop.enter 1,
    StableHlo.seq hostOps0_12,
    StableHlo.seq hostOps0_13,
    StableHlo.seq hostOps0_14 ] : Prog (TpuEff nD τ sig (Elt F) (HostLoop.Sig (Pipeline.Sig Λ₀ (Fin 0) fun p => (pcfgs (F := F) p).Adm) 2) .tc) PUnit) := by
  chain_rfl

/-- `main` is the chain of its items (`Pipeline.chain`): operation stretches, regions, loops and branches in
    order, a module-local function called from it a stretch of its own. Assembled from its 3 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    HostLoop.enter 0,
    StableHlo.seq hostOps0_9,
    StableHlo.seq hostOps0_10,
    StableHlo.seq hostOps0_11,
    HostLoop.enter 1,
    StableHlo.seq hostOps0_12,
    StableHlo.seq hostOps0_13,
    StableHlo.seq hostOps0_14 ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 42 host operations of host loop 0's body region, in order. -/
abbrev while0Ops0 : List (HloOp τ sig (Elt F)) :=
  ( StableHlo.nullary main_while0b_c_15 (constantI S_ 32 1#32)
  :: StableHlo.binary main_v50_3 main_while0b_c_15 main_while0b_v98 (addi : (⟨S_, .i32⟩ : BufTy).Contents (Elt F) → (⟨S_, .i32⟩ : BufTy).Contents (Elt F) → (⟨S_, .i32⟩ : BufTy).Contents (Elt F))
  :: StableHlo.nullary main_while0b_c_16 (constantI S_ 32 0#32)
  :: StableHlo.binary main_v50_3 main_while0b_c_16 main_while0b_v99 (cmpi .slt : (⟨S_, .i32⟩ : BufTy).Contents (Elt F) → (⟨S_, .i32⟩ : BufTy).Contents (Elt F) → (⟨S_, .i1⟩ : BufTy).Contents (Elt F))
  :: StableHlo.unary main_v50_3 main_while0b_v100 (id : (⟨S_, .i32⟩ : BufTy).Contents (Elt F) → (⟨S_, .i32⟩ : BufTy).Contents (Elt F))
  :: StableHlo.nullary main_while0b_c_17 (constantI S_ 32 64#32)
  :: StableHlo.binary main_while0b_v100 main_while0b_c_17 main_while0b_v101 (addi : (⟨S_, .i32⟩ : BufTy).Contents (Elt F) → (⟨S_, .i32⟩ : BufTy).Contents (Elt F) → (⟨S_, .i32⟩ : BufTy).Contents (Elt F))
  :: StableHlo.ternary main_while0b_v99 main_while0b_v101 main_v50_3 main_while0b_v102 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_18 (constantI S_ 32 0#32)
  :: StableHlo.nullary main_while0b_c_19 (constantI S_ 32 0#32)
  :: StableHlo.nullary main_while0b_c_20 (constantI S_ 32 0#32)
  :: StableHlo.nullary main_while0b_c_21 (constantI S_ 32 0#32)
  :: StableHlo.unaryIndexed main_v50_0 ![main_while0b_c_18, main_while0b_c_19, main_while0b_c_20, main_while0b_v102, main_while0b_c_21] ⟨S_, .i32⟩ main_while0b_v103 ((fun x i => Host.dynamicSlice S16x8x32x1x64 x (fun k => (i k (Shape.Idx.first h_S_)).toInt) sliceFits_S16x8x32x64x64_S16x8x32x1x64) : (⟨S16x8x32x64x64, .f32⟩ : BufTy).Contents (Elt F) → (Fin 5 → (⟨S_, .i32⟩ : BufTy).Contents (Elt F)) → (⟨S16x8x32x1x64, .f32⟩ : BufTy).Contents (Elt F))
  :: StableHlo.nullary main_while0b_c_22 (constantI S_ 32 0#32)
  :: StableHlo.binary main_v50_3 main_while0b_c_22 main_while0b_v104 (cmpi .slt : (⟨S_, .i32⟩ : BufTy).Contents (Elt F) → (⟨S_, .i32⟩ : BufTy).Contents (Elt F) → (⟨S_, .i1⟩ : BufTy).Contents (Elt F))
  :: StableHlo.unary main_v50_3 main_while0b_v105 (id : (⟨S_, .i32⟩ : BufTy).Contents (Elt F) → (⟨S_, .i32⟩ : BufTy).Contents (Elt F))
  :: StableHlo.nullary main_while0b_c_23 (constantI S_ 32 64#32)
  :: StableHlo.binary main_while0b_v105 main_while0b_c_23 main_while0b_v106 (addi : (⟨S_, .i32⟩ : BufTy).Contents (Elt F) → (⟨S_, .i32⟩ : BufTy).Contents (Elt F) → (⟨S_, .i32⟩ : BufTy).Contents (Elt F))
  :: StableHlo.ternary main_while0b_v104 main_while0b_v106 main_v50_3 main_while0b_v107 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_24 (constantI S_ 32 0#32)
  :: StableHlo.nullary main_while0b_c_25 (constantI S_ 32 0#32)
  :: StableHlo.nullary main_while0b_c_26 (constantI S_ 32 0#32)
  :: StableHlo.nullary main_while0b_c_27 (constantI S_ 32 0#32)
  :: StableHlo.unaryIndexed main_v50_1 ![main_while0b_c_24, main_while0b_c_25, main_while0b_c_26, main_while0b_v107, main_while0b_c_27] ⟨S_, .i32⟩ main_while0b_v108 ((fun x i => Host.dynamicSlice S16x8x32x1x256 x (fun k => (i k (Shape.Idx.first h_S_)).toInt) sliceFits_S16x8x32x64x256_S16x8x32x1x256) : (⟨S16x8x32x64x256, .f32⟩ : BufTy).Contents (Elt F) → (Fin 5 → (⟨S_, .i32⟩ : BufTy).Contents (Elt F)) → (⟨S16x8x32x1x256, .f32⟩ : BufTy).Contents (Elt F))
  :: StableHlo.binary main_while0b_v103 main_v50_4 main_while0b_v109 ((fun l r => Host.dotGeneral dot_S16x8x32x1x64_S16x8x32x64x256_S16x8x32x1x256_4_3_3_4_012_012 none l r) : (⟨S16x8x32x1x64, .f32⟩ : BufTy).Contents (Elt F) → (⟨S16x8x32x64x256, .f32⟩ : BufTy).Contents (Elt F) → (⟨S16x8x32x1x256, .f32⟩ : BufTy).Contents (Elt F))
  :: StableHlo.binary main_while0b_v108 main_while0b_v109 main_while0b_v110 (subf : (⟨S16x8x32x1x256, .f32⟩ : BufTy).Contents (Elt F) → (⟨S16x8x32x1x256, .f32⟩ : BufTy).Contents (Elt F) → (⟨S16x8x32x1x256, .f32⟩ : BufTy).Contents (Elt F))
  :: StableHlo.nullary main_while0b_c_28 (constantI S_ 32 0#32)
  :: StableHlo.binary main_v50_3 main_while0b_c_28 main_while0b_v111 (cmpi .slt : (⟨S_, .i32⟩ : BufTy).Contents (Elt F) → (⟨S_, .i32⟩ : BufTy).Contents (Elt F) → (⟨S_, .i1⟩ : BufTy).Contents (Elt F))
  :: StableHlo.unary main_v50_3 main_while0b_v112 (id : (⟨S_, .i32⟩ : BufTy).Contents (Elt F) → (⟨S_, .i32⟩ : BufTy).Contents (Elt F))
  :: StableHlo.nullary main_while0b_c_29 (constantI S_ 32 64#32)
  :: StableHlo.binary main_while0b_v112 main_while0b_c_29 main_while0b_v113 (addi : (⟨S_, .i32⟩ : BufTy).Contents (Elt F) → (⟨S_, .i32⟩ : BufTy).Contents (Elt F) → (⟨S_, .i32⟩ : BufTy).Contents (Elt F))
  :: StableHlo.ternary main_while0b_v111 main_while0b_v113 main_v50_3 main_while0b_v114 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_30 (constantI S_ 32 0#32)
  :: StableHlo.nullary main_while0b_c_31 (constantI S_ 32 0#32)
  :: StableHlo.nullary main_while0b_c_32 (constantI S_ 32 0#32)
  :: StableHlo.nullary main_while0b_c_33 (constantI S_ 32 0#32)
  :: StableHlo.binaryIndexed main_v50_4 main_while0b_v110 ![main_while0b_c_30, main_while0b_c_31, main_while0b_c_32, main_while0b_v114, main_while0b_c_33] ⟨S_, .i32⟩ main_while0b_v115 ((fun x u i => Host.dynamicUpdateSlice x u (fun k => (i k (Shape.Idx.first h_S_)).toInt) updateFits_S16x8x32x64x256_S16x8x32x1x256) : (⟨S16x8x32x64x256, .f32⟩ : BufTy).Contents (Elt F) → (⟨S16x8x32x1x256, .f32⟩ : BufTy).Contents (Elt F) → (Fin 5 → (⟨S_, .i32⟩ : BufTy).Contents (Elt F)) → (⟨S16x8x32x64x256, .f32⟩ : BufTy).Contents (Elt F))
  :: StableHlo.nullary main_while0b_c_34 (constantI S_ 32 1#32)
  :: StableHlo.binary main_v50_2 main_while0b_c_34 main_while0b_v116 (addi : (⟨S_, .i32⟩ : BufTy).Contents (Elt F) → (⟨S_, .i32⟩ : BufTy).Contents (Elt F) → (⟨S_, .i32⟩ : BufTy).Contents (Elt F))
  :: StableHlo.unary main_while0b_v116 main_v50_2 id
  :: StableHlo.unary main_while0b_v98 main_v50_3 id
  :: StableHlo.unary main_while0b_v115 main_v50_4 id
  :: [] )
/-- Each touches TensorCore references only (`HostSeg.ofOps` over `tcRefs`, or a subset by `sub_ucRefs`). -/
theorem while0Ops0_sub : (while0Ops0 : List (HloOp τ sig (Elt F))).Forall fun op => op.bufs ⊆ tcRefs τ sig :=
  ⟨nullary_bufs_sub .., binary_bufs_sub .., nullary_bufs_sub .., binary_bufs_sub .., unary_bufs_sub .., nullary_bufs_sub .., binary_bufs_sub .., ternary_bufs_sub .., nullary_bufs_sub .., nullary_bufs_sub .., nullary_bufs_sub .., nullary_bufs_sub .., unaryIndexed_bufs_sub .., nullary_bufs_sub .., binary_bufs_sub .., unary_bufs_sub .., nullary_bufs_sub .., binary_bufs_sub .., ternary_bufs_sub .., nullary_bufs_sub .., nullary_bufs_sub .., nullary_bufs_sub .., nullary_bufs_sub .., unaryIndexed_bufs_sub .., binary_bufs_sub .., binary_bufs_sub .., nullary_bufs_sub .., binary_bufs_sub .., unary_bufs_sub .., nullary_bufs_sub .., binary_bufs_sub .., ternary_bufs_sub .., nullary_bufs_sub .., nullary_bufs_sub .., nullary_bufs_sub .., nullary_bufs_sub .., binaryIndexed_bufs_sub .., nullary_bufs_sub .., binary_bufs_sub .., unary_bufs_sub .., unary_bufs_sub .., unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0 ] : Prog (TpuEff nD τ sig (Elt F) (HostLoop.Sig (Pipeline.Sig Λ₀ (Fin 0) fun p => (pcfgs (F := F) p).Adm) 2) .tc) PUnit) := by
  rewrite [StableHlo.chain_seq_cons]
  chain_rfl

/-- 6 host operations of @dynamic_index_in_dim (main_while1b_call5), in order. -/
abbrev while1Ops0 : List (HloOp τ sig (Elt F)) :=
  [ TRef.nullary (.of main_while1b_call5_c : TRef sig ⟨S_, .i32⟩) (constantI S_ 32 0#32),
    TRef.nullary (.of main_while1b_call5_c_0 : TRef sig ⟨S_, .i32⟩) (constantI S_ 32 0#32),
    TRef.nullary (.of main_while1b_call5_c_1 : TRef sig ⟨S_, .i32⟩) (constantI S_ 32 0#32),
    TRef.nullary (.of main_while1b_call5_c_2 : TRef sig ⟨S_, .i32⟩) (constantI S_ 32 0#32),
    TRef.unaryIndexed (.of main_v78_0 : TRef sig ⟨S32x16x8x64x128, .f32⟩) ![(.of main_v78_6 : TRef sig ⟨S_, .i32⟩), (.of main_while1b_call5_c : TRef sig ⟨S_, .i32⟩), (.of main_while1b_call5_c_0 : TRef sig ⟨S_, .i32⟩), (.of main_while1b_call5_c_1 : TRef sig ⟨S_, .i32⟩), (.of main_while1b_call5_c_2 : TRef sig ⟨S_, .i32⟩)] (.of main_while1b_call5_v0 : TRef sig ⟨S1x16x8x64x128, .f32⟩) (fun x i => Host.dynamicSlice S1x16x8x64x128 x (fun k => (i k (Shape.Idx.first h_S_)).toInt) sliceFits_S32x16x8x64x128_S1x16x8x64x128),
    TRef.reshape (.of main_while1b_call5_v0 : TRef sig ⟨S1x16x8x64x128, .f32⟩) (.of main_while1b_v98 : TRef sig ⟨S16x8x64x128, .f32⟩) (rfl : (.f32 : EltTy) = .f32) shapeCasts_S1x16x8x64x128_S16x8x64x128 ]
/-- Each touches TensorCore references only (`HostSeg.ofOps` over `tcRefs`, or a subset by `sub_ucRefs`). -/
theorem while1Ops0_sub : (while1Ops0 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
/-- 6 host operations of @dynamic_index_in_dim (main_while1b_call6), in order. -/
abbrev while1Ops0_1 : List (HloOp τ sig (Elt F)) :=
  [ TRef.nullary (.of main_while1b_call6_c : TRef sig ⟨S_, .i32⟩) (constantI S_ 32 0#32),
    TRef.nullary (.of main_while1b_call6_c_0 : TRef sig ⟨S_, .i32⟩) (constantI S_ 32 0#32),
    TRef.nullary (.of main_while1b_call6_c_1 : TRef sig ⟨S_, .i32⟩) (constantI S_ 32 0#32),
    TRef.nullary (.of main_while1b_call6_c_2 : TRef sig ⟨S_, .i32⟩) (constantI S_ 32 0#32),
    TRef.unaryIndexed (.of main_v78_1 : TRef sig ⟨S32x16x8x64x128, .f32⟩) ![(.of main_v78_6 : TRef sig ⟨S_, .i32⟩), (.of main_while1b_call6_c : TRef sig ⟨S_, .i32⟩), (.of main_while1b_call6_c_0 : TRef sig ⟨S_, .i32⟩), (.of main_while1b_call6_c_1 : TRef sig ⟨S_, .i32⟩), (.of main_while1b_call6_c_2 : TRef sig ⟨S_, .i32⟩)] (.of main_while1b_call6_v0 : TRef sig ⟨S1x16x8x64x128, .f32⟩) (fun x i => Host.dynamicSlice S1x16x8x64x128 x (fun k => (i k (Shape.Idx.first h_S_)).toInt) sliceFits_S32x16x8x64x128_S1x16x8x64x128),
    TRef.reshape (.of main_while1b_call6_v0 : TRef sig ⟨S1x16x8x64x128, .f32⟩) (.of main_while1b_v99 : TRef sig ⟨S16x8x64x128, .f32⟩) (rfl : (.f32 : EltTy) = .f32) shapeCasts_S1x16x8x64x128_S16x8x64x128 ]
/-- Each touches TensorCore references only (`HostSeg.ofOps` over `tcRefs`, or a subset by `sub_ucRefs`). -/
theorem while1Ops0_1_sub : (while1Ops0_1 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
/-- 6 host operations of @dynamic_index_in_dim_1 (main_while1b_call7), in order. -/
abbrev while1Ops0_2 : List (HloOp τ sig (Elt F)) :=
  [ TRef.nullary (.of main_while1b_call7_c : TRef sig ⟨S_, .i32⟩) (constantI S_ 32 0#32),
    TRef.nullary (.of main_while1b_call7_c_0 : TRef sig ⟨S_, .i32⟩) (constantI S_ 32 0#32),
    TRef.nullary (.of main_while1b_call7_c_1 : TRef sig ⟨S_, .i32⟩) (constantI S_ 32 0#32),
    TRef.nullary (.of main_while1b_call7_c_2 : TRef sig ⟨S_, .i32⟩) (constantI S_ 32 0#32),
    TRef.unaryIndexed (.of main_v78_2 : TRef sig ⟨S32x16x8x64x64, .f32⟩) ![(.of main_v78_6 : TRef sig ⟨S_, .i32⟩), (.of main_while1b_call7_c : TRef sig ⟨S_, .i32⟩), (.of main_while1b_call7_c_0 : TRef sig ⟨S_, .i32⟩), (.of main_while1b_call7_c_1 : TRef sig ⟨S_, .i32⟩), (.of main_while1b_call7_c_2 : TRef sig ⟨S_, .i32⟩)] (.of main_while1b_call7_v0 : TRef sig ⟨S1x16x8x64x64, .f32⟩) (fun x i => Host.dynamicSlice S1x16x8x64x64 x (fun k => (i k (Shape.Idx.first h_S_)).toInt) sliceFits_S32x16x8x64x64_S1x16x8x64x64),
    TRef.reshape (.of main_while1b_call7_v0 : TRef sig ⟨S1x16x8x64x64, .f32⟩) (.of main_while1b_v100 : TRef sig ⟨S16x8x64x64, .f32⟩) (rfl : (.f32 : EltTy) = .f32) shapeCasts_S1x16x8x64x64_S16x8x64x64 ]
/-- Each touches TensorCore references only (`HostSeg.ofOps` over `tcRefs`, or a subset by `sub_ucRefs`). -/
theorem while1Ops0_2_sub : (while1Ops0_2 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
/-- 6 host operations of @dynamic_index_in_dim (main_while1b_call8), in order. -/
abbrev while1Ops0_3 : List (HloOp τ sig (Elt F)) :=
  [ TRef.nullary (.of main_while1b_call8_c : TRef sig ⟨S_, .i32⟩) (constantI S_ 32 0#32),
    TRef.nullary (.of main_while1b_call8_c_0 : TRef sig ⟨S_, .i32⟩) (constantI S_ 32 0#32),
    TRef.nullary (.of main_while1b_call8_c_1 : TRef sig ⟨S_, .i32⟩) (constantI S_ 32 0#32),
    TRef.nullary (.of main_while1b_call8_c_2 : TRef sig ⟨S_, .i32⟩) (constantI S_ 32 0#32),
    TRef.unaryIndexed (.of main_v78_3 : TRef sig ⟨S32x16x8x64x128, .f32⟩) ![(.of main_v78_6 : TRef sig ⟨S_, .i32⟩), (.of main_while1b_call8_c : TRef sig ⟨S_, .i32⟩), (.of main_while1b_call8_c_0 : TRef sig ⟨S_, .i32⟩), (.of main_while1b_call8_c_1 : TRef sig ⟨S_, .i32⟩), (.of main_while1b_call8_c_2 : TRef sig ⟨S_, .i32⟩)] (.of main_while1b_call8_v0 : TRef sig ⟨S1x16x8x64x128, .f32⟩) (fun x i => Host.dynamicSlice S1x16x8x64x128 x (fun k => (i k (Shape.Idx.first h_S_)).toInt) sliceFits_S32x16x8x64x128_S1x16x8x64x128),
    TRef.reshape (.of main_while1b_call8_v0 : TRef sig ⟨S1x16x8x64x128, .f32⟩) (.of main_while1b_v101 : TRef sig ⟨S16x8x64x128, .f32⟩) (rfl : (.f32 : EltTy) = .f32) shapeCasts_S1x16x8x64x128_S16x8x64x128 ]
/-- Each touches TensorCore references only (`HostSeg.ofOps` over `tcRefs`, or a subset by `sub_ucRefs`). -/
theorem while1Ops0_3_sub : (while1Ops0_3 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
/-- 6 host operations of @dynamic_index_in_dim (main_while1b_call9), in order. -/
abbrev while1Ops0_4 : List (HloOp τ sig (Elt F)) :=
  [ TRef.nullary (.of main_while1b_call9_c : TRef sig ⟨S_, .i32⟩) (constantI S_ 32 0#32),
    TRef.nullary (.of main_while1b_call9_c_0 : TRef sig ⟨S_, .i32⟩) (constantI S_ 32 0#32),
    TRef.nullary (.of main_while1b_call9_c_1 : TRef sig ⟨S_, .i32⟩) (constantI S_ 32 0#32),
    TRef.nullary (.of main_while1b_call9_c_2 : TRef sig ⟨S_, .i32⟩) (constantI S_ 32 0#32),
    TRef.unaryIndexed (.of main_v78_4 : TRef sig ⟨S32x16x8x64x128, .f32⟩) ![(.of main_v78_6 : TRef sig ⟨S_, .i32⟩), (.of main_while1b_call9_c : TRef sig ⟨S_, .i32⟩), (.of main_while1b_call9_c_0 : TRef sig ⟨S_, .i32⟩), (.of main_while1b_call9_c_1 : TRef sig ⟨S_, .i32⟩), (.of main_while1b_call9_c_2 : TRef sig ⟨S_, .i32⟩)] (.of main_while1b_call9_v0 : TRef sig ⟨S1x16x8x64x128, .f32⟩) (fun x i => Host.dynamicSlice S1x16x8x64x128 x (fun k => (i k (Shape.Idx.first h_S_)).toInt) sliceFits_S32x16x8x64x128_S1x16x8x64x128),
    TRef.reshape (.of main_while1b_call9_v0 : TRef sig ⟨S1x16x8x64x128, .f32⟩) (.of main_while1b_v102 : TRef sig ⟨S16x8x64x128, .f32⟩) (rfl : (.f32 : EltTy) = .f32) shapeCasts_S1x16x8x64x128_S16x8x64x128 ]
/-- Each touches TensorCore references only (`HostSeg.ofOps` over `tcRefs`, or a subset by `sub_ucRefs`). -/
theorem while1Ops0_4_sub : (while1Ops0_4 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
/-- 4 host operations of @dynamic_index_in_dim_2 (main_while1b_call10), in order. -/
abbrev while1Ops0_5 : List (HloOp τ sig (Elt F)) :=
  [ TRef.nullary (.of main_while1b_call10_c : TRef sig ⟨S_, .i32⟩) (constantI S_ 32 0#32),
    TRef.nullary (.of main_while1b_call10_c_0 : TRef sig ⟨S_, .i32⟩) (constantI S_ 32 0#32),
    TRef.unaryIndexed (.of main_v78_5 : TRef sig ⟨S32x16x8, .f32⟩) ![(.of main_v78_6 : TRef sig ⟨S_, .i32⟩), (.of main_while1b_call10_c : TRef sig ⟨S_, .i32⟩), (.of main_while1b_call10_c_0 : TRef sig ⟨S_, .i32⟩)] (.of main_while1b_call10_v0 : TRef sig ⟨S1x16x8, .f32⟩) (fun x i => Host.dynamicSlice S1x16x8 x (fun k => (i k (Shape.Idx.first h_S_)).toInt) sliceFits_S32x16x8_S1x16x8),
    TRef.reshape (.of main_while1b_call10_v0 : TRef sig ⟨S1x16x8, .f32⟩) (.of main_while1b_v103 : TRef sig ⟨S16x8, .f32⟩) (rfl : (.f32 : EltTy) = .f32) shapeCasts_S1x16x8_S16x8 ]
/-- Each touches TensorCore references only (`HostSeg.ofOps` over `tcRefs`, or a subset by `sub_ucRefs`). -/
theorem while1Ops0_5_sub : (while1Ops0_5 : List (HloOp τ sig (Elt F))).Forall fun op => op.bufs ⊆ tcRefs τ sig :=
  ⟨nullary_bufs_sub .., nullary_bufs_sub .., unaryIndexed_bufs_sub .., reshape_bufs_sub ..⟩
/-- 10 host operations of host loop 1's body region, in order. -/
abbrev while1Ops0_6 : List (HloOp τ sig (Elt F)) :=
  [ StableHlo.binary main_while1b_v99 main_v78_7 main_while1b_v104 ((fun l r => Host.dotGeneral dot_S16x8x64x128_S16x8x128x128_S16x8x64x128_3_2_2_3_01_01 none l r) : (⟨S16x8x64x128, .f32⟩ : BufTy).Contents (Elt F) → (⟨S16x8x128x128, .f32⟩ : BufTy).Contents (Elt F) → (⟨S16x8x64x128, .f32⟩ : BufTy).Contents (Elt F)),
    StableHlo.binary main_while1b_v98 main_while1b_v104 main_while1b_v105 (subf : (⟨S16x8x64x128, .f32⟩ : BufTy).Contents (Elt F) → (⟨S16x8x64x128, .f32⟩ : BufTy).Contents (Elt F) → (⟨S16x8x64x128, .f32⟩ : BufTy).Contents (Elt F)),
    StableHlo.binary main_while1b_v101 main_v78_7 main_while1b_v106 ((fun l r => Host.dotGeneral dot_S16x8x64x128_S16x8x128x128_S16x8x64x128_3_2_2_3_01_01 none l r) : (⟨S16x8x64x128, .f32⟩ : BufTy).Contents (Elt F) → (⟨S16x8x128x128, .f32⟩ : BufTy).Contents (Elt F) → (⟨S16x8x64x128, .f32⟩ : BufTy).Contents (Elt F)),
    StableHlo.binary main_while1b_v100 main_while1b_v105 main_while1b_v107 ((fun l r => Host.dotGeneral dot_S16x8x64x64_S16x8x64x128_S16x8x64x128_3_2_2_3_01_01 none l r) : (⟨S16x8x64x64, .f32⟩ : BufTy).Contents (Elt F) → (⟨S16x8x64x128, .f32⟩ : BufTy).Contents (Elt F) → (⟨S16x8x64x128, .f32⟩ : BufTy).Contents (Elt F)),
    StableHlo.binary main_while1b_v106 main_while1b_v107 main_while1b_v108 (addf : (⟨S16x8x64x128, .f32⟩ : BufTy).Contents (Elt F) → (⟨S16x8x64x128, .f32⟩ : BufTy).Contents (Elt F) → (⟨S16x8x64x128, .f32⟩ : BufTy).Contents (Elt F)),
    StableHlo.unary main_while1b_v103 main_while1b_v109 (broadcastInDim S16x8x1x1 ![0, 1] bcast_S16x8_S16x8x1x1_0_1 : (⟨S16x8, .f32⟩ : BufTy).Contents (Elt F) → (⟨S16x8x1x1, .f32⟩ : BufTy).Contents (Elt F)),
    StableHlo.unary main_while1b_v109 main_while1b_v110 (broadcastInDim S16x8x128x128 ![0, 1, 2, 3] bcast_S16x8x1x1_S16x8x128x128_0_1_2_3 : (⟨S16x8x1x1, .f32⟩ : BufTy).Contents (Elt F) → (⟨S16x8x128x128, .f32⟩ : BufTy).Contents (Elt F)),
    StableHlo.binary main_v78_7 main_while1b_v110 main_while1b_v111 (mulf : (⟨S16x8x128x128, .f32⟩ : BufTy).Contents (Elt F) → (⟨S16x8x128x128, .f32⟩ : BufTy).Contents (Elt F) → (⟨S16x8x128x128, .f32⟩ : BufTy).Contents (Elt F)),
    StableHlo.binary main_while1b_v102 main_while1b_v105 main_while1b_v112 ((fun l r => Host.dotGeneral dot_S16x8x64x128_S16x8x64x128_S16x8x128x128_2_2_3_3_01_01 none l r) : (⟨S16x8x64x128, .f32⟩ : BufTy).Contents (Elt F) → (⟨S16x8x64x128, .f32⟩ : BufTy).Contents (Elt F) → (⟨S16x8x128x128, .f32⟩ : BufTy).Contents (Elt F)),
    StableHlo.binary main_while1b_v111 main_while1b_v112 main_while1b_v113 (addf : (⟨S16x8x128x128, .f32⟩ : BufTy).Contents (Elt F) → (⟨S16x8x128x128, .f32⟩ : BufTy).Contents (Elt F) → (⟨S16x8x128x128, .f32⟩ : BufTy).Contents (Elt F)) ]
/-- Each touches TensorCore references only (`HostSeg.ofOps` over `tcRefs`, or a subset by `sub_ucRefs`). -/
theorem while1Ops0_6_sub : (while1Ops0_6 : List (HloOp τ sig (Elt F))).Forall fun op => op.bufs ⊆ tcRefs τ sig :=
  ⟨binary_bufs_sub .., binary_bufs_sub .., binary_bufs_sub .., binary_bufs_sub .., binary_bufs_sub .., unary_bufs_sub .., unary_bufs_sub .., binary_bufs_sub .., binary_bufs_sub .., binary_bufs_sub ..⟩
/-- 6 host operations of @dynamic_update_index_in_dim (main_while1b_call11), in order. -/
abbrev while1Ops0_7 : List (HloOp τ sig (Elt F)) :=
  [ TRef.unary (.of main_while1b_v108 : TRef sig ⟨S16x8x64x128, .f32⟩) (.of main_while1b_call11_v0 : TRef sig ⟨S1x16x8x64x128, .f32⟩) (broadcastInDim S1x16x8x64x128 ![1, 2, 3, 4] bcast_S16x8x64x128_S1x16x8x64x128_1_2_3_4),
    TRef.nullary (.of main_while1b_call11_c : TRef sig ⟨S_, .i32⟩) (constantI S_ 32 0#32),
    TRef.nullary (.of main_while1b_call11_c_0 : TRef sig ⟨S_, .i32⟩) (constantI S_ 32 0#32),
    TRef.nullary (.of main_while1b_call11_c_1 : TRef sig ⟨S_, .i32⟩) (constantI S_ 32 0#32),
    TRef.nullary (.of main_while1b_call11_c_2 : TRef sig ⟨S_, .i32⟩) (constantI S_ 32 0#32),
    TRef.binaryIndexed (.of main_v78_8 : TRef sig ⟨S32x16x8x64x128, .f32⟩) (.of main_while1b_call11_v0 : TRef sig ⟨S1x16x8x64x128, .f32⟩) ![(.of main_v78_6 : TRef sig ⟨S_, .i32⟩), (.of main_while1b_call11_c : TRef sig ⟨S_, .i32⟩), (.of main_while1b_call11_c_0 : TRef sig ⟨S_, .i32⟩), (.of main_while1b_call11_c_1 : TRef sig ⟨S_, .i32⟩), (.of main_while1b_call11_c_2 : TRef sig ⟨S_, .i32⟩)] (.of main_while1b_v114 : TRef sig ⟨S32x16x8x64x128, .f32⟩) (fun x u i => Host.dynamicUpdateSlice x u (fun k => (i k (Shape.Idx.first h_S_)).toInt) updateFits_S32x16x8x64x128_S1x16x8x64x128) ]
/-- Each touches TensorCore references only (`HostSeg.ofOps` over `tcRefs`, or a subset by `sub_ucRefs`). -/
theorem while1Ops0_7_sub : (while1Ops0_7 : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩
/-- 5 host operations of host loop 1's body region, in order. -/
abbrev while1Ops0_8 : List (HloOp τ sig (Elt F)) :=
  [ StableHlo.nullary main_while1b_c_19 (constantI S_ 32 1#32),
    StableHlo.binary main_v78_6 main_while1b_c_19 main_while1b_v115 (addi : (⟨S_, .i32⟩ : BufTy).Contents (Elt F) → (⟨S_, .i32⟩ : BufTy).Contents (Elt F) → (⟨S_, .i32⟩ : BufTy).Contents (Elt F)),
    StableHlo.unary main_while1b_v115 main_v78_6 id,
    StableHlo.unary main_while1b_v113 main_v78_7 id,
    StableHlo.unary main_while1b_v114 main_v78_8 id ]
/-- Each touches TensorCore references only (`HostSeg.ofOps` over `tcRefs`, or a subset by `sub_ucRefs`). -/
theorem while1Ops0_8_sub : (while1Ops0_8 : List (HloOp τ sig (Elt F))).Forall fun op => op.bufs ⊆ tcRefs τ sig :=
  ⟨nullary_bufs_sub .., binary_bufs_sub .., unary_bufs_sub .., unary_bufs_sub .., unary_bufs_sub ..⟩
/-- `main_while1_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5,
    StableHlo.seq while1Ops0_6,
    StableHlo.seq while1Ops0_7,
    StableHlo.seq while1Ops0_8 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, Pipeline.chain_cons, StableHlo.chain_seq_cons, Pipeline.chain_cons, StableHlo.chain_seq_cons]
  chain_rfl

/-- No operation of `hostOps0` allocates a buffer. -/
theorem hostOps0_fresh : (hostOps0 : List (HloOp τ sig (Elt F))).Forall fun op => op.fresh = ∅ :=
  forall_fresh_of_map rfl
/-- The reference each operation of `hostOps0` writes, in order. -/
abbrev hostOps0_W : List (Ref sig .tc) := [main_v0, main_v1, main_v2, main_v3, main_v4, main_v5, main_v6, main_v7, main_v8, main_v9, main_v10, main_v11, main_v12]
theorem hostOps0_writes : (hostOps0 : List (HloOp τ sig (Elt F))).Forall fun op => op.writes ⊆ (hostOps0_W.map (Proc.devRef (τ := τ) .tc)).toFinset :=
  forall_writes_sub_of_map rfl
/-- No operation of `hostOps0_1` allocates a buffer. -/
theorem hostOps0_1_fresh : (hostOps0_1 : List (HloOp τ sig (Elt F))).Forall fun op => op.fresh = ∅ :=
  forall_fresh_of_map rfl
/-- The reference each operation of `hostOps0_1` writes, in order. -/
abbrev hostOps0_1_W : List (Ref sig .tc) := [main_call0_call0_cst, main_call0_call0_v0, main_v13]
theorem hostOps0_1_writes : (hostOps0_1 : List (HloOp τ sig (Elt F))).Forall fun op => op.writes ⊆ (hostOps0_1_W.map (Proc.devRef (τ := τ) .tc)).toFinset :=
  forall_writes_sub_of_map rfl
/-- No operation of `hostOps0_2` allocates a buffer. -/
theorem hostOps0_2_fresh : (hostOps0_2 : List (HloOp τ sig (Elt F))).Forall fun op => op.fresh = ∅ :=
  forall_fresh_of_map rfl
/-- The reference each operation of `hostOps0_2` writes, in order. -/
abbrev hostOps0_2_W : List (Ref sig .tc) := [main_v14, main_v15, main_v16, main_v17, main_v18, main_v19, main_v20, main_v21, main_v22, main_v23, main_v24, main_v25, main_v26, main_v27, main_v28, main_v29, main_v30, main_v31, main_cst]
theorem hostOps0_2_writes : (hostOps0_2 : List (HloOp τ sig (Elt F))).Forall fun op => op.writes ⊆ (hostOps0_2_W.map (Proc.devRef (τ := τ) .tc)).toFinset :=
  forall_writes_sub_of_map rfl
/-- No operation of `hostOps0_3` allocates a buffer. -/
theorem hostOps0_3_fresh : (hostOps0_3 : List (HloOp τ sig (Elt F))).Forall fun op => op.fresh = ∅ :=
  forall_fresh_of_map rfl
/-- The reference each operation of `hostOps0_3` writes, in order. -/
abbrev hostOps0_3_W : List (Ref sig .tc) := [main_call1_v0, main_call1_v1, main_call1_v2, main_v32]
theorem hostOps0_3_writes : (hostOps0_3 : List (HloOp τ sig (Elt F))).Forall fun op => op.writes ⊆ (hostOps0_3_W.map (Proc.devRef (τ := τ) .tc)).toFinset :=
  forall_writes_sub_of_map rfl
/-- No operation of `hostOps0_4` allocates a buffer. -/
theorem hostOps0_4_fresh : (hostOps0_4 : List (HloOp τ sig (Elt F))).Forall fun op => op.fresh = ∅ :=
  forall_fresh_of_map rfl
/-- The reference each operation of `hostOps0_4` writes, in order. -/
abbrev hostOps0_4_W : List (Ref sig .tc) := [main_v33, main_cst_0]
theorem hostOps0_4_writes : (hostOps0_4 : List (HloOp τ sig (Elt F))).Forall fun op => op.writes ⊆ (hostOps0_4_W.map (Proc.devRef (τ := τ) .tc)).toFinset :=
  forall_writes_sub_of_map rfl
/-- No operation of `hostOps0_5` allocates a buffer. -/
theorem hostOps0_5_fresh : (hostOps0_5 : List (HloOp τ sig (Elt F))).Forall fun op => op.fresh = ∅ :=
  forall_fresh_of_map rfl
/-- The reference each operation of `hostOps0_5` writes, in order. -/
abbrev hostOps0_5_W : List (Ref sig .tc) := [main_call2_v0, main_call2_v1, main_call2_v2, main_v34]
theorem hostOps0_5_writes : (hostOps0_5 : List (HloOp τ sig (Elt F))).Forall fun op => op.writes ⊆ (hostOps0_5_W.map (Proc.devRef (τ := τ) .tc)).toFinset :=
  forall_writes_sub_of_map rfl
/-- No operation of `hostOps0_6` allocates a buffer. -/
theorem hostOps0_6_fresh : (hostOps0_6 : List (HloOp τ sig (Elt F))).Forall fun op => op.fresh = ∅ :=
  forall_fresh_of_map rfl
/-- The reference each operation of `hostOps0_6` writes, in order. -/
abbrev hostOps0_6_W : List (Ref sig .tc) := [main_v35, main_v36, main_v37, main_v38, main_v39, main_cst_1]
theorem hostOps0_6_writes : (hostOps0_6 : List (HloOp τ sig (Elt F))).Forall fun op => op.writes ⊆ (hostOps0_6_W.map (Proc.devRef (τ := τ) .tc)).toFinset :=
  forall_writes_sub_of_map rfl
/-- No operation of `hostOps0_7` allocates a buffer. -/
theorem hostOps0_7_fresh : (hostOps0_7 : List (HloOp τ sig (Elt F))).Forall fun op => op.fresh = ∅ :=
  forall_fresh_of_map rfl
/-- The reference each operation of `hostOps0_7` writes, in order. -/
abbrev hostOps0_7_W : List (Ref sig .tc) := [main_call3_v0, main_call3_v1, main_call3_v2, main_v40]
theorem hostOps0_7_writes : (hostOps0_7 : List (HloOp τ sig (Elt F))).Forall fun op => op.writes ⊆ (hostOps0_7_W.map (Proc.devRef (τ := τ) .tc)).toFinset :=
  forall_writes_sub_of_map rfl
/-- No operation of `hostOps0_8` allocates a buffer. -/
theorem hostOps0_8_fresh : (hostOps0_8 : List (HloOp τ sig (Elt F))).Forall fun op => op.fresh = ∅ :=
  forall_fresh_of_map rfl
/-- The reference each operation of `hostOps0_8` writes, in order. -/
abbrev hostOps0_8_W : List (Ref sig .tc) := [main_v41, main_v42, main_v43, main_v44, main_v45, main_v46, main_v47, main_v48, main_cst_2, main_v49, main_c, main_c_3, main_v50_0, main_v50_1, main_v50_2, main_v50_3, main_v50_4]
theorem hostOps0_8_writes : (hostOps0_8 : List (HloOp τ sig (Elt F))).Forall fun op => op.writes ⊆ (hostOps0_8_W.map (Proc.devRef (τ := τ) .tc)).toFinset :=
  forall_writes_sub_of_map rfl
/-- No operation of `hostOps0_9` allocates a buffer. -/
theorem hostOps0_9_fresh : (hostOps0_9 : List (HloOp τ sig (Elt F))).Forall fun op => op.fresh = ∅ :=
  forall_fresh_of_map rfl
/-- The reference each operation of `hostOps0_9` writes, in order. -/
abbrev hostOps0_9_W : List (Ref sig .tc) := [main_v51, main_v52, main_v53, main_v54, main_cst_4]
theorem hostOps0_9_writes : (hostOps0_9 : List (HloOp τ sig (Elt F))).Forall fun op => op.writes ⊆ (hostOps0_9_W.map (Proc.devRef (τ := τ) .tc)).toFinset :=
  forall_writes_sub_of_map rfl
/-- No operation of `hostOps0_10` allocates a buffer. -/
theorem hostOps0_10_fresh : (hostOps0_10 : List (HloOp τ sig (Elt F))).Forall fun op => op.fresh = ∅ :=
  forall_fresh_of_map rfl
/-- The reference each operation of `hostOps0_10` writes, in order. -/
abbrev hostOps0_10_W : List (Ref sig .tc) := [main_call4_v0, main_call4_v1, main_call4_v2, main_v55]
theorem hostOps0_10_writes : (hostOps0_10 : List (HloOp τ sig (Elt F))).Forall fun op => op.writes ⊆ (hostOps0_10_W.map (Proc.devRef (τ := τ) .tc)).toFinset :=
  forall_writes_sub_of_map rfl
/-- No operation of `hostOps0_11` allocates a buffer. -/
theorem hostOps0_11_fresh : (hostOps0_11 : List (HloOp τ sig (Elt F))).Forall fun op => op.fresh = ∅ :=
  forall_fresh_of_map rfl
/-- The reference each operation of `hostOps0_11` writes, in order. -/
abbrev hostOps0_11_W : List (Ref sig .tc) := [main_v56, main_v57, main_v58, main_v59, main_v60, main_v61, main_v62, main_v63, main_v64, main_v65, main_v66, main_v67, main_v68, main_v69, main_v70, main_v71, main_v72, main_v73, main_v74, main_v75, main_cst_5, main_v76, main_cst_6, main_v77, main_c_7, main_v78_0, main_v78_1, main_v78_2, main_v78_3, main_v78_4, main_v78_5, main_v78_6, main_v78_7, main_v78_8]
theorem hostOps0_11_writes : (hostOps0_11 : List (HloOp τ sig (Elt F))).Forall fun op => op.writes ⊆ (hostOps0_11_W.map (Proc.devRef (τ := τ) .tc)).toFinset :=
  forall_writes_sub_of_map rfl
/-- No operation of `hostOps0_12` allocates a buffer. -/
theorem hostOps0_12_fresh : (hostOps0_12 : List (HloOp τ sig (Elt F))).Forall fun op => op.fresh = ∅ :=
  forall_fresh_of_map rfl
/-- The reference each operation of `hostOps0_12` writes, in order. -/
abbrev hostOps0_12_W : List (Ref sig .tc) := [main_v79, main_v80, main_v81, main_cst_8, main_v82, main_v83, main_cst_9, main_v84, main_v85, main_cst_10, main_v86, main_v87, main_v88, main_v89, main_v90, main_v91, main_v92, main_v93, main_v94]
theorem hostOps0_12_writes : (hostOps0_12 : List (HloOp τ sig (Elt F))).Forall fun op => op.writes ⊆ (hostOps0_12_W.map (Proc.devRef (τ := τ) .tc)).toFinset :=
  forall_writes_sub_of_map rfl
/-- No operation of `hostOps0_13` allocates a buffer. -/
theorem hostOps0_13_fresh : (hostOps0_13 : List (HloOp τ sig (Elt F))).Forall fun op => op.fresh = ∅ :=
  forall_fresh_of_map rfl
/-- The reference each operation of `hostOps0_13` writes, in order. -/
abbrev hostOps0_13_W : List (Ref sig .tc) := [main_call12_v0, main_call12_v1, main_call12_cst, main_call12_v2, main_call12_v3, main_call12_cst_0, main_call12_v4, main_call12_v5, main_v95]
theorem hostOps0_13_writes : (hostOps0_13 : List (HloOp τ sig (Elt F))).Forall fun op => op.writes ⊆ (hostOps0_13_W.map (Proc.devRef (τ := τ) .tc)).toFinset :=
  forall_writes_sub_of_map rfl
/-- No operation of `hostOps0_14` allocates a buffer. -/
theorem hostOps0_14_fresh : (hostOps0_14 : List (HloOp τ sig (Elt F))).Forall fun op => op.fresh = ∅ :=
  forall_fresh_of_map rfl
/-- The reference each operation of `hostOps0_14` writes, in order. -/
abbrev hostOps0_14_W : List (Ref sig .tc) := [main_v96, main_v97]
theorem hostOps0_14_writes : (hostOps0_14 : List (HloOp τ sig (Elt F))).Forall fun op => op.writes ⊆ (hostOps0_14_W.map (Proc.devRef (τ := τ) .tc)).toFinset :=
  forall_writes_sub_of_map rfl
/-- No operation of `while0Ops0` allocates a buffer. -/
theorem while0Ops0_fresh : (while0Ops0 : List (HloOp τ sig (Elt F))).Forall fun op => op.fresh = ∅ :=
  forall_fresh_of_map rfl
/-- The reference each operation of `while0Ops0` writes, in order. -/
abbrev while0Ops0_W : List (Ref sig .tc) := [main_while0b_c_15, main_while0b_v98, main_while0b_c_16, main_while0b_v99, main_while0b_v100, main_while0b_c_17, main_while0b_v101, main_while0b_v102, main_while0b_c_18, main_while0b_c_19, main_while0b_c_20, main_while0b_c_21, main_while0b_v103, main_while0b_c_22, main_while0b_v104, main_while0b_v105, main_while0b_c_23, main_while0b_v106, main_while0b_v107, main_while0b_c_24, main_while0b_c_25, main_while0b_c_26, main_while0b_c_27, main_while0b_v108, main_while0b_v109, main_while0b_v110, main_while0b_c_28, main_while0b_v111, main_while0b_v112, main_while0b_c_29, main_while0b_v113, main_while0b_v114, main_while0b_c_30, main_while0b_c_31, main_while0b_c_32, main_while0b_c_33, main_while0b_v115, main_while0b_c_34, main_while0b_v116, main_v50_2, main_v50_3, main_v50_4]
theorem while0Ops0_writes : (while0Ops0 : List (HloOp τ sig (Elt F))).Forall fun op => op.writes ⊆ (while0Ops0_W.map (Proc.devRef (τ := τ) .tc)).toFinset :=
  forall_writes_sub_of_map rfl
/-- No operation of `while1Ops0` allocates a buffer. -/
theorem while1Ops0_fresh : (while1Ops0 : List (HloOp τ sig (Elt F))).Forall fun op => op.fresh = ∅ :=
  forall_fresh_of_map rfl
/-- The reference each operation of `while1Ops0` writes, in order. -/
abbrev while1Ops0_W : List (Ref sig .tc) := [main_while1b_call5_c, main_while1b_call5_c_0, main_while1b_call5_c_1, main_while1b_call5_c_2, main_while1b_call5_v0, main_while1b_v98]
theorem while1Ops0_writes : (while1Ops0 : List (HloOp τ sig (Elt F))).Forall fun op => op.writes ⊆ (while1Ops0_W.map (Proc.devRef (τ := τ) .tc)).toFinset :=
  forall_writes_sub_of_map rfl
/-- No operation of `while1Ops0_1` allocates a buffer. -/
theorem while1Ops0_1_fresh : (while1Ops0_1 : List (HloOp τ sig (Elt F))).Forall fun op => op.fresh = ∅ :=
  forall_fresh_of_map rfl
/-- The reference each operation of `while1Ops0_1` writes, in order. -/
abbrev while1Ops0_1_W : List (Ref sig .tc) := [main_while1b_call6_c, main_while1b_call6_c_0, main_while1b_call6_c_1, main_while1b_call6_c_2, main_while1b_call6_v0, main_while1b_v99]
theorem while1Ops0_1_writes : (while1Ops0_1 : List (HloOp τ sig (Elt F))).Forall fun op => op.writes ⊆ (while1Ops0_1_W.map (Proc.devRef (τ := τ) .tc)).toFinset :=
  forall_writes_sub_of_map rfl
/-- No operation of `while1Ops0_2` allocates a buffer. -/
theorem while1Ops0_2_fresh : (while1Ops0_2 : List (HloOp τ sig (Elt F))).Forall fun op => op.fresh = ∅ :=
  forall_fresh_of_map rfl
/-- The reference each operation of `while1Ops0_2` writes, in order. -/
abbrev while1Ops0_2_W : List (Ref sig .tc) := [main_while1b_call7_c, main_while1b_call7_c_0, main_while1b_call7_c_1, main_while1b_call7_c_2, main_while1b_call7_v0, main_while1b_v100]
theorem while1Ops0_2_writes : (while1Ops0_2 : List (HloOp τ sig (Elt F))).Forall fun op => op.writes ⊆ (while1Ops0_2_W.map (Proc.devRef (τ := τ) .tc)).toFinset :=
  forall_writes_sub_of_map rfl
/-- No operation of `while1Ops0_3` allocates a buffer. -/
theorem while1Ops0_3_fresh : (while1Ops0_3 : List (HloOp τ sig (Elt F))).Forall fun op => op.fresh = ∅ :=
  forall_fresh_of_map rfl
/-- The reference each operation of `while1Ops0_3` writes, in order. -/
abbrev while1Ops0_3_W : List (Ref sig .tc) := [main_while1b_call8_c, main_while1b_call8_c_0, main_while1b_call8_c_1, main_while1b_call8_c_2, main_while1b_call8_v0, main_while1b_v101]
theorem while1Ops0_3_writes : (while1Ops0_3 : List (HloOp τ sig (Elt F))).Forall fun op => op.writes ⊆ (while1Ops0_3_W.map (Proc.devRef (τ := τ) .tc)).toFinset :=
  forall_writes_sub_of_map rfl
/-- No operation of `while1Ops0_4` allocates a buffer. -/
theorem while1Ops0_4_fresh : (while1Ops0_4 : List (HloOp τ sig (Elt F))).Forall fun op => op.fresh = ∅ :=
  forall_fresh_of_map rfl
/-- The reference each operation of `while1Ops0_4` writes, in order. -/
abbrev while1Ops0_4_W : List (Ref sig .tc) := [main_while1b_call9_c, main_while1b_call9_c_0, main_while1b_call9_c_1, main_while1b_call9_c_2, main_while1b_call9_v0, main_while1b_v102]
theorem while1Ops0_4_writes : (while1Ops0_4 : List (HloOp τ sig (Elt F))).Forall fun op => op.writes ⊆ (while1Ops0_4_W.map (Proc.devRef (τ := τ) .tc)).toFinset :=
  forall_writes_sub_of_map rfl
/-- No operation of `while1Ops0_5` allocates a buffer. -/
theorem while1Ops0_5_fresh : (while1Ops0_5 : List (HloOp τ sig (Elt F))).Forall fun op => op.fresh = ∅ :=
  forall_fresh_of_map rfl
/-- The reference each operation of `while1Ops0_5` writes, in order. -/
abbrev while1Ops0_5_W : List (Ref sig .tc) := [main_while1b_call10_c, main_while1b_call10_c_0, main_while1b_call10_v0, main_while1b_v103]
theorem while1Ops0_5_writes : (while1Ops0_5 : List (HloOp τ sig (Elt F))).Forall fun op => op.writes ⊆ (while1Ops0_5_W.map (Proc.devRef (τ := τ) .tc)).toFinset :=
  forall_writes_sub_of_map rfl
/-- No operation of `while1Ops0_6` allocates a buffer. -/
theorem while1Ops0_6_fresh : (while1Ops0_6 : List (HloOp τ sig (Elt F))).Forall fun op => op.fresh = ∅ :=
  forall_fresh_of_map rfl
/-- The reference each operation of `while1Ops0_6` writes, in order. -/
abbrev while1Ops0_6_W : List (Ref sig .tc) := [main_while1b_v104, main_while1b_v105, main_while1b_v106, main_while1b_v107, main_while1b_v108, main_while1b_v109, main_while1b_v110, main_while1b_v111, main_while1b_v112, main_while1b_v113]
theorem while1Ops0_6_writes : (while1Ops0_6 : List (HloOp τ sig (Elt F))).Forall fun op => op.writes ⊆ (while1Ops0_6_W.map (Proc.devRef (τ := τ) .tc)).toFinset :=
  forall_writes_sub_of_map rfl
/-- No operation of `while1Ops0_7` allocates a buffer. -/
theorem while1Ops0_7_fresh : (while1Ops0_7 : List (HloOp τ sig (Elt F))).Forall fun op => op.fresh = ∅ :=
  forall_fresh_of_map rfl
/-- The reference each operation of `while1Ops0_7` writes, in order. -/
abbrev while1Ops0_7_W : List (Ref sig .tc) := [main_while1b_call11_v0, main_while1b_call11_c, main_while1b_call11_c_0, main_while1b_call11_c_1, main_while1b_call11_c_2, main_while1b_v114]
theorem while1Ops0_7_writes : (while1Ops0_7 : List (HloOp τ sig (Elt F))).Forall fun op => op.writes ⊆ (while1Ops0_7_W.map (Proc.devRef (τ := τ) .tc)).toFinset :=
  forall_writes_sub_of_map rfl
/-- No operation of `while1Ops0_8` allocates a buffer. -/
theorem while1Ops0_8_fresh : (while1Ops0_8 : List (HloOp τ sig (Elt F))).Forall fun op => op.fresh = ∅ :=
  forall_fresh_of_map rfl
/-- The reference each operation of `while1Ops0_8` writes, in order. -/
abbrev while1Ops0_8_W : List (Ref sig .tc) := [main_while1b_c_19, main_while1b_v115, main_v78_6, main_v78_7, main_v78_8]
theorem while1Ops0_8_writes : (while1Ops0_8 : List (HloOp τ sig (Elt F))).Forall fun op => op.writes ⊆ (while1Ops0_8_W.map (Proc.devRef (τ := τ) .tc)).toFinset :=
  forall_writes_sub_of_map rfl

end Cert.ReferenceIdeal.Lists

end
-- ==== Proof.RefRun.lean ====
/- The run of the reference: its main is stretches of host operations, the forward substitution's loop of 64 trips, more stretches,
   the chunks' loop of 32 trips, and more stretches. Every execution ends with every buffer at the fold of the operations,
   and with every semaphore counter at zero. -/
module

public import proofs.«01_k».proof.Proof.RefLists

@[expose] public section

set_option maxRecDepth 1300

noncomputable section

namespace Cert.ReferenceIdeal.RefRun

open Cert.ReferenceIdeal Cert.ReferenceIdeal.Gen Cert.ReferenceIdeal.Lists
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs unscopedBufs_held sub_ucRefs)

variable {F : FTy → Type} [FloatOps F]

/-- The two operations of the substitution loop's condition. -/
abbrev cond0 : List (HloOp τ sig (Elt F)) :=
  [ StableHlo.nullary main_while0c_c_15 (constantI S_ 32 64#32),
    StableHlo.binary main_v50_2 main_while0c_c_15 main_while0c_v98 (cmpi .slt) ]
/-- The two operations of the chunk loop's condition. -/
abbrev cond1 : List (HloOp τ sig (Elt F)) :=
  [ StableHlo.nullary main_while1c_c_19 (constantI S_ 32 32#32),
    StableHlo.binary main_v78_6 main_while1c_c_19 main_while1c_v98 (cmpi .slt) ]

/-- The stretches before the first loop, of its body, between the loops, of the second loop's body, and after it. -/
abbrev preI : List (List (HloOp τ sig (Elt F))) := [hostOps0, hostOps0_1, hostOps0_2, hostOps0_3, hostOps0_4, hostOps0_5, hostOps0_6, hostOps0_7, hostOps0_8]
abbrev body0 : List (List (HloOp τ sig (Elt F))) := [while0Ops0]
abbrev midI : List (List (HloOp τ sig (Elt F))) := [hostOps0_9, hostOps0_10, hostOps0_11]
abbrev body1 : List (List (HloOp τ sig (Elt F))) := [while1Ops0, while1Ops0_1, while1Ops0_2, while1Ops0_3, while1Ops0_4, while1Ops0_5, while1Ops0_6, while1Ops0_7, while1Ops0_8]
abbrev postI : List (List (HloOp τ sig (Elt F))) := [hostOps0_12, hostOps0_13, hostOps0_14]

/-- A stretch that touches TensorCore buffers only and allocates none, before such a list. -/
theorem plain_cons {ops : List (HloOp τ sig (Elt F))} {rest : List (List (HloOp τ sig (Elt F)))}
    (hs : ops.Forall fun op => op.bufs ⊆ tcRefs τ sig) (hf : ops.Forall fun op => op.fresh = ∅) (h : Plain rest) : Plain (ops :: rest) :=
  .cons hs h (List.forall_iff_forall_mem.mp hf)

theorem hpre : Plain (preI (F := F)) :=
  plain_cons hostOps0_sub hostOps0_fresh <| plain_cons hostOps0_1_sub hostOps0_1_fresh <| plain_cons hostOps0_2_sub hostOps0_2_fresh <|
  plain_cons hostOps0_3_sub hostOps0_3_fresh <| plain_cons hostOps0_4_sub hostOps0_4_fresh <| plain_cons hostOps0_5_sub hostOps0_5_fresh <|
  plain_cons hostOps0_6_sub hostOps0_6_fresh <| plain_cons hostOps0_7_sub hostOps0_7_fresh <| plain_cons hostOps0_8_sub hostOps0_8_fresh .nil
theorem hbody0 : Plain (body0 (F := F)) := plain_cons while0Ops0_sub while0Ops0_fresh .nil
theorem hmid : Plain (midI (F := F)) :=
  plain_cons hostOps0_9_sub hostOps0_9_fresh <| plain_cons hostOps0_10_sub hostOps0_10_fresh <| plain_cons hostOps0_11_sub hostOps0_11_fresh .nil
theorem hbody1 : Plain (body1 (F := F)) :=
  plain_cons while1Ops0_sub while1Ops0_fresh <| plain_cons while1Ops0_1_sub while1Ops0_1_fresh <| plain_cons while1Ops0_2_sub while1Ops0_2_fresh <|
  plain_cons while1Ops0_3_sub while1Ops0_3_fresh <| plain_cons while1Ops0_4_sub while1Ops0_4_fresh <| plain_cons while1Ops0_5_sub while1Ops0_5_fresh <|
  plain_cons while1Ops0_6_sub while1Ops0_6_fresh <| plain_cons while1Ops0_7_sub while1Ops0_7_fresh <| plain_cons while1Ops0_8_sub while1Ops0_8_fresh .nil
theorem hpost : Plain (postI (F := F)) :=
  plain_cons hostOps0_12_sub hostOps0_12_fresh <| plain_cons hostOps0_13_sub hostOps0_13_fresh <| plain_cons hostOps0_14_sub hostOps0_14_fresh .nil

theorem cond0_writes : (cond0 : List (HloOp τ sig (Elt F))).Forall fun op =>
    op.writes ⊆ (([main_while0c_c_15, main_while0c_v98] : List (Ref sig .tc)).map (Proc.devRef (τ := τ) .tc)).toFinset :=
  StableHlo.forall_writes_sub_of_map rfl
theorem cond1_writes : (cond1 : List (HloOp τ sig (Elt F))).Forall fun op =>
    op.writes ⊆ (([main_while1c_c_19, main_while1c_v98] : List (Ref sig .tc)).map (Proc.devRef (τ := τ) .tc)).toFinset :=
  StableHlo.forall_writes_sub_of_map rfl

variable (m : (ℓ : Loc nD τ sig) → Buf (Elt F) ℓ) (ρ : Dev nD → PrngReg)

/-- Every buffer where the first loop is entered; before the k-th test of its condition; where the second loop is entered;
    before the k-th test of its condition; and at the end of main. -/
abbrev ent0 (c : Dev nD) : Valuation τ sig (Elt F) := afterL preI (launchContents m c)
abbrev at0 (k : ℕ) (c : Dev nD) : Valuation τ sig (Elt F) := atTrip cond0 body0 (ent0 m) k c
abbrev ent1 (c : Dev nD) : Valuation τ sig (Elt F) := afterL midI (after cond0 (at0 m 64 c))
abbrev at1 (k : ℕ) (c : Dev nD) : Valuation τ sig (Elt F) := atTrip cond1 body1 (ent1 m) k c
abbrev fin (c : Dev nD) : Valuation τ sig (Elt F) := afterL postI (after cond1 (at1 m 32 c))

/-! ## The trip counters -/

set_option maxRecDepth 100000 in
theorem ctr0_step (X : Valuation τ sig (Elt F)) :
    after while0Ops0 X (Proc.devRef .tc main_v50_2) = addi (X (Proc.devRef .tc main_v50_2)) (constantI S_ 32 1#32) := by
  after_reads_simp
  rfl

theorem ctr0_entry (c : Dev nD) : ent0 m c (Proc.devRef .tc main_v50_2) = fun _ => (0#32 : BitVec 32) := by
  simp only [ent0, afterL_cons, afterL_nil]
  after_reads_simp
  rfl

/-- Before the k-th test the substitution loop's counter is k. -/
theorem at0_ctr (c : Dev nD) : ∀ k, at0 m k c (Proc.devRef .tc main_v50_2) = fun _ => Scf.iv 0#32 1#32 k
  | 0 => by rw [show at0 m 0 c = ent0 m c from rfl, ctr0_entry, Scf.iv_zero]
  | k + 1 => by
    rw [show at0 m (k + 1) c = afterL body0 (after cond0 (at0 m k c)) from rfl]
    simp only [afterL_cons, afterL_nil]
    rw [ctr0_step, after_of_writes_sub cond0 _ cond0_writes (by decide +kernel), at0_ctr c k, Scf.iv_succ]
    rfl

set_option maxRecDepth 100000 in
theorem ctr1_step (X : Valuation τ sig (Elt F)) :
    after while1Ops0_8 X (Proc.devRef .tc main_v78_6) = addi (X (Proc.devRef .tc main_v78_6)) (constantI S_ 32 1#32) := by
  after_reads_simp
  rfl

theorem ctr1_entry (c : Dev nD) : ent1 m c (Proc.devRef .tc main_v78_6) = fun _ => (0#32 : BitVec 32) := by
  simp only [ent1, afterL_cons, afterL_nil]
  generalize after cond0 (at0 m 64 c) = V
  after_reads_simp
  rfl

/-- Before the k-th test the chunk loop's counter is k. -/
theorem at1_ctr (c : Dev nD) : ∀ k, at1 m k c (Proc.devRef .tc main_v78_6) = fun _ => Scf.iv 0#32 1#32 k
  | 0 => by rw [show at1 m 0 c = ent1 m c from rfl, ctr1_entry, Scf.iv_zero]
  | k + 1 => by
    rw [show at1 m (k + 1) c = afterL body1 (after cond1 (at1 m k c)) from rfl]
    simp only [afterL_cons, afterL_nil]
    rw [ctr1_step, after_of_writes_sub while1Ops0_7 _ while1Ops0_7_writes (by decide +kernel),
      after_of_writes_sub while1Ops0_6 _ while1Ops0_6_writes (by decide +kernel), after_of_writes_sub while1Ops0_5 _ while1Ops0_5_writes (by decide +kernel),
      after_of_writes_sub while1Ops0_4 _ while1Ops0_4_writes (by decide +kernel), after_of_writes_sub while1Ops0_3 _ while1Ops0_3_writes (by decide +kernel),
      after_of_writes_sub while1Ops0_2 _ while1Ops0_2_writes (by decide +kernel), after_of_writes_sub while1Ops0_1 _ while1Ops0_1_writes (by decide +kernel),
      after_of_writes_sub while1Ops0 _ while1Ops0_writes (by decide +kernel), after_of_writes_sub cond1 _ cond1_writes (by decide +kernel), at1_ctr c k, Scf.iv_succ]
    rfl

/-! ## The run -/

local notation "𝕄" => MT nD τ sig Unit (Elt F) ℕ (Option PUnit) ℕ

/-- No kernel is launched: no admission, ticket, level or staging cell. -/
abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0
theorem hinj : Function.Injective (Pipeline.cellOf (nD := nD) (τ := τ) (Pipeline.pin (pcfgs (F := F)) adm)) := fun k => k.1.elim0
/-- What rides beside the buffers: the core owes nothing. -/
abbrev R (c : Dev nD) : sProp 𝕄 := iprop(∃ W, owes (c : Thread nD τ) (0 : CellTallies nD τ sig Unit) W)

set_option backward.isDefEq.respectTransparency.types false in
/-- The substitution loop's condition answers whether the counter is below 64. -/
theorem cond0_spec : LoopCond (pcfgs (F := F)) defs₀ Variants.none loops R (main_while0_cond (F := F)) cond0 body0 (ent0 m) 64 := by
  intro k hk c bd
  have hctr := at0_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v50_2 HostLoop.idx0)
        (HloOp.result _ (at0 m k c) main_while0c_c_15 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  isplitl [Hh]; · rw [after_cons, after_cons, after_nil]; iexact Hh
  iexact HR

set_option backward.isDefEq.respectTransparency.types false in
/-- The chunk loop's condition answers whether the counter is below 32. -/
theorem cond1_spec : LoopCond (pcfgs (F := F)) defs₀ Variants.none loops R (main_while1_cond (F := F)) cond1 body1 (ent1 m) 32 := by
  intro k hk c bd
  have hctr := at1_ctr m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v78_6 HostLoop.idx0)
        (HloOp.result _ (at1 m k c) main_while1c_c_19 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  isplitl [Hh]; · rw [after_cons, after_cons, after_nil]; iexact Hh
  iexact HR

/-- The segments of main. -/
def segs : List (CSeg (pcfgs (F := F)) adm defs₀ Variants.none L lv loops tk) :=
  segsOf _ _ _ _ _ _ _ _ R preI hpre (launchContents m)
    ++ loopSeg _ _ _ _ _ _ _ _ 0 main_while0_cond main_while0_body rfl cond0 body0 hbody0 (by rw [while0_body_chain]; rfl) 64 (ent0 m) R (cond0_spec m)
      :: (segsOf _ _ _ _ _ _ _ _ R midI hmid (fun c => after cond0 (at0 m 64 c))
    ++ loopSeg _ _ _ _ _ _ _ _ 1 main_while1_cond main_while1_body rfl cond1 body1 hbody1 (by rw [while1_body_chain]; rfl) 32 (ent1 m) R (cond1_spec m)
      :: segsOf _ _ _ _ _ _ _ _ R postI hpost (fun c => after cond1 (at1 m 32 c)))

theorem segs_prog : (segs m).map CSeg.prog
    = (preI.map fun ops => (seq ops : Prog _ PUnit)) ++ HostLoop.enter 0 :: ((midI.map fun ops => (seq ops : Prog _ PUnit))
      ++ HostLoop.enter 1 :: postI.map fun ops => (seq ops : Prog _ PUnit)) := by
  unfold segs
  rw [List.map_append, List.map_cons, List.map_append, List.map_cons, segsOf_prog, segsOf_prog, segsOf_prog]
  rfl

theorem segs_chains : CSeg.Chains (fun c => iprop(held (c : Thread nD τ) (ucRefs τ sig) (launchContents m c) ∗ R c)) (segs m)
    (fun c => iprop(iprop(held (c : Thread nD τ) (ucRefs τ sig) (fin m c)) ∗ ∃ W, owes (c : Thread nD τ) (0 : CellTallies nD τ sig Unit) W)) := by
  unfold segs
  exact CSeg.Chains.append (segsOf_chains _ _ _ _ _ _ _ _ R preI hpre _) ⟨fun _ => .rfl,
    CSeg.Chains.append (segsOf_chains _ _ _ _ _ _ _ _ R midI hmid _) ⟨fun _ => .rfl, segsOf_chains _ _ _ _ _ _ _ _ R postI hpost _⟩⟩

set_option maxRecDepth 100000 in
/-- Every execution ends, with every buffer that holds a tensor value of the program at the fold, and every counter at zero. -/
theorem run_fold [∀ e, Nonempty (Elt F e)] : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = fin m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm hinj defs₀ Variants.none L lv loops tk m ρ main (segs m)
    (fun c Q => by
      rw [main_chain c]
      show wp _ _ _ (Pipeline.chain ((segs m).map CSeg.prog)) Q ⊢ _
      rw [segs_prog]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ R c))
    (Tₙ := fun c => iprop(held (c : Thread nD τ) (ucRefs τ sig) (fin m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = fin m c b)
    (hfin := fun c s' => by
      unfold held
      iintro ⟨Hh, HSI⟩
      ihave Hr := (pointsTo_read_all (ucRefs τ sig) (fun b => ((c : Dev nD), b)) (fun b => fin m c b) s') $$ [Hh HSI]
      · isplitl [Hh] <;> iassumption
      icases Hr with ⟨%h, HSI⟩
      imodintro
      isplitr; · ipureintro; exact h
      iexact HSI)
    (hQ := fun s h hs => ⟨fun c b hb => h c _ (devRef_mem_ucRefs b hb), sem_eq_zero hs fun c sm hsm => absurd hsm (by revert sm; decide)⟩)

/-! ## The arguments are kept -/

/-- A buffer that no stretch and no condition writes ends as it began. -/
theorem fin_keep (c : Dev nD) (b : Ref sig .tc)
    (hp : ∀ V : Valuation τ sig (Elt F), afterL preI V (Proc.devRef .tc b) = V (Proc.devRef .tc b))
    (h0 : ∀ V : Valuation τ sig (Elt F), afterL body0 (after cond0 V) (Proc.devRef .tc b) = V (Proc.devRef .tc b))
    (hm : ∀ V : Valuation τ sig (Elt F), afterL midI (after cond0 V) (Proc.devRef .tc b) = V (Proc.devRef .tc b))
    (h1 : ∀ V : Valuation τ sig (Elt F), afterL body1 (after cond1 V) (Proc.devRef .tc b) = V (Proc.devRef .tc b))
    (he : ∀ V : Valuation τ sig (Elt F), afterL postI (after cond1 V) (Proc.devRef .tc b) = V (Proc.devRef .tc b)) :
    fin m c (Proc.devRef .tc b) = launchContents m c (Proc.devRef .tc b) := by
  have a0 : ∀ k, at0 m k c (Proc.devRef .tc b) = launchContents m c (Proc.devRef .tc b) := fun k => by
    induction k with
    | zero => exact hp _
    | succ k ih => exact (h0 _).trans ih
  have a1 : ∀ k, at1 m k c (Proc.devRef .tc b) = launchContents m c (Proc.devRef .tc b) := fun k => by
    induction k with
    | zero => exact (hm _).trans (a0 64)
    | succ k ih => exact (h1 _).trans ih
  exact (he _).trans (a1 32)

/-- A buffer none of a list of stretches writes is kept by them, given the writes of each stretch. -/
theorem afterL_keep (b : Ref sig .tc) : ∀ (ls : List (List (HloOp τ sig (Elt F)) × List (Ref sig .tc))) (V : Valuation τ sig (Elt F)),
    (∀ x ∈ ls, x.1.Forall fun op => op.writes ⊆ (x.2.map (Proc.devRef (τ := τ) .tc)).toFinset) → (∀ x ∈ ls.map Prod.snd, b ∉ x) →
    afterL (ls.map Prod.fst) V (Proc.devRef .tc b) = V (Proc.devRef .tc b)
  | [], _, _, _ => rfl
  | (ops, W) :: rest, V, hw, hb => by
    have h1 := after_of_writes_sub (r := b) ops V (hw _ (List.mem_cons_self ..)) (hb W (by simp))
    rw [List.map_cons, afterL_cons, afterL_keep b rest _ (fun x hx => hw x (List.mem_cons_of_mem _ hx)) (fun x hx => hb x (by simp at hx ⊢; exact .inr hx)), h1]

/-- A buffer no stretch before the first loop writes is kept by them. -/
theorem preI_keep (V : Valuation τ sig (Elt F)) (b : Ref sig .tc) (hb : ∀ x ∈ ([hostOps0_W, hostOps0_1_W, hostOps0_2_W, hostOps0_3_W, hostOps0_4_W, hostOps0_5_W, hostOps0_6_W, hostOps0_7_W, hostOps0_8_W] : List (List (Ref sig .tc))), b ∉ x) :
    afterL preI V (Proc.devRef .tc b) = V (Proc.devRef .tc b) :=
  afterL_keep b [(hostOps0, hostOps0_W), (hostOps0_1, hostOps0_1_W), (hostOps0_2, hostOps0_2_W), (hostOps0_3, hostOps0_3_W), (hostOps0_4, hostOps0_4_W), (hostOps0_5, hostOps0_5_W), (hostOps0_6, hostOps0_6_W), (hostOps0_7, hostOps0_7_W), (hostOps0_8, hostOps0_8_W)] V (by
    rintro x hx
    simp only [List.mem_cons, List.not_mem_nil, or_false] at hx
    rcases hx with rfl | rfl | rfl | rfl | rfl | rfl | rfl | rfl | rfl
    exacts [hostOps0_writes, hostOps0_1_writes, hostOps0_2_writes, hostOps0_3_writes, hostOps0_4_writes, hostOps0_5_writes, hostOps0_6_writes, hostOps0_7_writes, hostOps0_8_writes]) hb

/-- A buffer the substitution loop's body does not write is kept by it. -/
theorem body0_keep (V : Valuation τ sig (Elt F)) (b : Ref sig .tc) (hb : ∀ x ∈ ([while0Ops0_W] : List (List (Ref sig .tc))), b ∉ x) :
    afterL body0 V (Proc.devRef .tc b) = V (Proc.devRef .tc b) :=
  afterL_keep b [(while0Ops0, while0Ops0_W)] V (by
    rintro x hx
    simp only [List.mem_cons, List.not_mem_nil, or_false] at hx
    rcases hx with rfl
    exacts [while0Ops0_writes]) hb

/-- A buffer no stretch between the loops writes is kept by them. -/
theorem midI_keep (V : Valuation τ sig (Elt F)) (b : Ref sig .tc) (hb : ∀ x ∈ ([hostOps0_9_W, hostOps0_10_W, hostOps0_11_W] : List (List (Ref sig .tc))), b ∉ x) :
    afterL midI V (Proc.devRef .tc b) = V (Proc.devRef .tc b) :=
  afterL_keep b [(hostOps0_9, hostOps0_9_W), (hostOps0_10, hostOps0_10_W), (hostOps0_11, hostOps0_11_W)] V (by
    rintro x hx
    simp only [List.mem_cons, List.not_mem_nil, or_false] at hx
    rcases hx with rfl | rfl | rfl
    exacts [hostOps0_9_writes, hostOps0_10_writes, hostOps0_11_writes]) hb

/-- A buffer no stretch of the chunk loop's body writes is kept by them. -/
theorem body1_keep (V : Valuation τ sig (Elt F)) (b : Ref sig .tc) (hb : ∀ x ∈ ([while1Ops0_W, while1Ops0_1_W, while1Ops0_2_W, while1Ops0_3_W, while1Ops0_4_W, while1Ops0_5_W, while1Ops0_6_W, while1Ops0_7_W, while1Ops0_8_W] : List (List (Ref sig .tc))), b ∉ x) :
    afterL body1 V (Proc.devRef .tc b) = V (Proc.devRef .tc b) :=
  afterL_keep b [(while1Ops0, while1Ops0_W), (while1Ops0_1, while1Ops0_1_W), (while1Ops0_2, while1Ops0_2_W), (while1Ops0_3, while1Ops0_3_W), (while1Ops0_4, while1Ops0_4_W), (while1Ops0_5, while1Ops0_5_W), (while1Ops0_6, while1Ops0_6_W), (while1Ops0_7, while1Ops0_7_W), (while1Ops0_8, while1Ops0_8_W)] V (by
    rintro x hx
    simp only [List.mem_cons, List.not_mem_nil, or_false] at hx
    rcases hx with rfl | rfl | rfl | rfl | rfl | rfl | rfl | rfl | rfl
    exacts [while1Ops0_writes, while1Ops0_1_writes, while1Ops0_2_writes, while1Ops0_3_writes, while1Ops0_4_writes, while1Ops0_5_writes, while1Ops0_6_writes, while1Ops0_7_writes, while1Ops0_8_writes]) hb

/-- A buffer no stretch after the loops writes is kept by them. -/
theorem postI_keep (V : Valuation τ sig (Elt F)) (b : Ref sig .tc) (hb : ∀ x ∈ ([hostOps0_12_W, hostOps0_13_W, hostOps0_14_W] : List (List (Ref sig .tc))), b ∉ x) :
    afterL postI V (Proc.devRef .tc b) = V (Proc.devRef .tc b) :=
  afterL_keep b [(hostOps0_12, hostOps0_12_W), (hostOps0_13, hostOps0_13_W), (hostOps0_14, hostOps0_14_W)] V (by
    rintro x hx
    simp only [List.mem_cons, List.not_mem_nil, or_false] at hx
    rcases hx with rfl | rfl | rfl
    exacts [hostOps0_12_writes, hostOps0_13_writes, hostOps0_14_writes]) hb

/-- The two conditions keep every buffer but the two they write. -/
theorem cond0_keep (V : Valuation τ sig (Elt F)) (b : Ref sig .tc) (hb : b ∉ ([main_while0c_c_15, main_while0c_v98] : List (Ref sig .tc))) :
    after cond0 V (Proc.devRef .tc b) = V (Proc.devRef .tc b) := after_of_writes_sub cond0 _ cond0_writes hb
theorem cond1_keep (V : Valuation τ sig (Elt F)) (b : Ref sig .tc) (hb : b ∉ ([main_while1c_c_19, main_while1c_v98] : List (Ref sig .tc))) :
    after cond1 V (Proc.devRef .tc b) = V (Proc.devRef .tc b) := after_of_writes_sub cond1 _ cond1_writes hb

set_option maxRecDepth 100000 in
/-- The arguments end as they began. -/
theorem fin_args (c : Dev nD) (b : Ref sig .tc) (hb : b ∈ ([main_arg0, main_arg1, main_arg2, main_arg3, main_arg4, main_arg5, main_arg6] : List (Ref sig .tc))) :
    fin m c (Proc.devRef .tc b) = launchContents m c (Proc.devRef .tc b) := by
  refine fin_keep m c b (fun V => preI_keep V b ?_) (fun V => (body0_keep _ b ?_).trans (cond0_keep V b ?_)) (fun V => (midI_keep _ b ?_).trans (cond0_keep V b ?_))
    (fun V => (body1_keep _ b ?_).trans (cond1_keep V b ?_)) (fun V => (postI_keep _ b ?_).trans (cond1_keep V b ?_)) <;> revert b <;> decide +kernel

/-- Every execution of the reference ends with its result at the fold, its arguments unchanged, and every counter at zero. -/
theorem run [∀ e, Nonempty (Elt F e)] : θ_run (defs (F := F)) (onTc (τ := τ) (main (F := F))) ⟨m, fun _ => 0, ρ⟩ (fun r => (∀ c : Dev nD,
      r.2.mem ((c.tc : Thread nD τ).loc main_v97) = fin m c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c => ⟨h.1 c main_v97 rfl,
    (h.1 c main_arg0 rfl).trans (fin_args m c main_arg0 (by decide)), (h.1 c main_arg1 rfl).trans (fin_args m c main_arg1 (by decide)),
    (h.1 c main_arg2 rfl).trans (fin_args m c main_arg2 (by decide)), (h.1 c main_arg3 rfl).trans (fin_args m c main_arg3 (by decide)),
    (h.1 c main_arg4 rfl).trans (fin_args m c main_arg4 (by decide)), (h.1 c main_arg5 rfl).trans (fin_args m c main_arg5 (by decide)),
    (h.1 c main_arg6 rfl).trans (fin_args m c main_arg6 (by decide))⟩, h.2⟩) (run_fold m ρ)

end Cert.ReferenceIdeal.RefRun

end
-- ==== Proof.Frames.lean ====
/- The frames of the three programs and the one named constant. -/
module

public import proofs.«01_k».proof.Defs
public import proofs.«01_k».proof.Proof.Gen.Kernel.Frame
public import proofs.«01_k».proof.Proof.Gen.KernelIdeal.Frame
public import proofs.«01_k».proof.Proof.RefRun

@[expose] public section

noncomputable section

namespace Cert.Proof

open Idealize.ShloMosaic Idealize.SL.Sem

/-- The reference runs to an end with its arguments unchanged and every counter at zero. -/
theorem frame_reference : Cert.quiescent_ReferenceIdeal (hReferenceIdeal := Cert.ReferenceIdeal.Gen.facts) := fun m ρ _ =>
  (θ_run _ _ _).mono (fun _ h => ⟨fun c => (h.1 c).2, h.2⟩) (Cert.ReferenceIdeal.RefRun.run (F := Ideal) m ρ)

/-- The one named constant's word is the rounding of -1/log 2. -/
theorem preserves : Cert.preserves_Kernel_KernelIdeal :=
  IdealRules.named_const.statement Cert.KernelIdeal.κ "neg_log2_e" .f32 0xBFB8AA3B#32 ((-((Real.log 2)⁻¹) : ℝ) : EReal) rfl

end Cert.Proof

end
-- ==== Proof.Tile.lean ====
module

public import proofs.«01_k».proof.Proof.Gen.KernelIdeal.Value
public import Idealize.ShloMosaic.Lib.Pipeline.ValueKit
public import Idealize.ShloMosaic.Lib.Pipeline.Regions

/-! The work of one grid point for one head, as functions of the tiles it loads: the kernel's own
operations in the kernel's own order, at a head word `w` and at the head's own slices. -/

@[expose] public section

set_option maxRecDepth 16384

noncomputable section

namespace Cert.KernelIdeal.Tile

open Cert.KernelIdeal Cert.KernelIdeal.Gen
open Idealize.ShloMosaic Idealize.ShloMosaic.TcCoe Idealize.SL.Sem

variable {F : FTy → Type} [FloatOps F] [Named F]

/-- The zero every mask selects. -/
def zero : F .f32 := Scalar.ofBits .f32 0x00000000#32

/-- Row numbers of the tile. -/
def rowIx : IVec S256x256 32 := iota .tc S256x256 32 [0] iota_S256x256_d0_w32

/-- Column numbers of the tile. -/
def colIx : IVec S256x256 32 := iota .tc S256x256 32 [1] iota_S256x256_d1_w32

/-- Row number exclusive-or column number. -/
def xorIx : IVec S256x256 32 := xori rowIx colIx

/-- Row and column in the same chunk of 64. -/
def inChunk : IVec S256x256 1 := cmpi .slt xorIx (broadcast S256x256 64#32)

/-- Same chunk, column not after row. -/
def incl : IVec S256x256 1 := andi inChunk (cmpi .sge rowIx colIx)

/-- Same chunk, row not after column. -/
def upper : IVec S256x256 1 := andi inChunk (cmpi .sle rowIx colIx)

/-- The identity matrix. -/
def eye : FVec F S256x256 .f32 := sitofp .f32 (extui 32 (cmpi .eq rowIx colIx) natLt_1_32)

/-- The lower-left quarter of each block of one doubling level. -/
def lev (b p : BitVec 32) : IVec S256x256 1 :=
  andi (cmpi .eq (shrui xorIx (broadcast S256x256 b)) (broadcast S256x256 1#32))
    (cmpi .ne (andi rowIx (broadcast S256x256 p)) (broadcast S256x256 0#32))

/-- A head's column of a block of per-head scalars. -/
def headCol (w : BitVec 32) (x : FVec F S256x8 .f32) : FVec F S256x1 .f32 :=
  shapeCast S256x1 (multiReduction .add [1] S256
    (select (cmpi .eq (iota .tc S256x8 32 [1] iota_S256x8_d1_w32) (broadcast S256x8 w)) x (broadcast S256x8 zero))
    0x00000000#32 reduces_S256x8_S256 (.inl rfl) rfl) shapeCasts_S256_S256x1

/-- A head's row of the transposed block of per-head scalars, repeated down the tile. -/
def headRow (w : BitVec 32) (x : FVec F S8x256 .f32) : FVec F S256x256 .f32 :=
  broadcastTo S256x256 (shapeCast S1x256 (shapeCast S1x256 (multiReduction .add [0] S256
    (select (cmpi .eq (iota .tc S8x256 32 [0] iota_S8x256_d0_w32) (broadcast S8x256 w))
      (shapeCast S8x256 x shapeCasts_S8x256_S8x256) (broadcast S8x256 zero))
    0x00000000#32 reduces_S8x256_S256 (.inl rfl) rfl) shapeCasts_S256_S1x256) shapeCasts_S1x256_S1x256)
    broadcasts_S1x256_S256x256

/-- Sums along the rows of the part of a matrix under a mask, as a column. -/
def maskSum (b : IVec S256x256 1) (x : FVec F S256x256 .f32) : FVec F S256x1 .f32 :=
  shapeCast S256x1 (multiReduction .add [1] S256 (select b x (broadcast S256x256 zero))
    0x00000000#32 reduces_S256x256_S256 (.inl rfl) rfl) shapeCasts_S256_S256x1

/-- The running decay exponent, laid out as a row. -/
def gcRow (g : FVec F S256x1 .f32) : FVec F S1x256 .f32 :=
  shapeCast S1x256 (multiReduction .add [0] S256
    (select upper (broadcastTo S256x256 (shapeCast S256x1 g shapeCasts_S256x1_S256x1) broadcasts_S256x1_S256x256)
      (broadcast S256x256 zero))
    0x00000000#32 reduces_S256x256_S256_2 (.inl rfl) rfl) shapeCasts_S256_S1x256

/-- The decay between two tokens of one chunk. -/
def decay (gc : FVec F S256x1 .f32) (gr : FVec F S1x256 .f32) : FVec F S256x256 .f32 :=
  select incl (exp (minimumf (subf (broadcastTo S256x256 gc broadcasts_S256x1_S256x256)
    (broadcastTo S256x256 gr broadcasts_S1x256_S256x256)) (broadcast S256x256 zero))) (broadcast S256x256 zero)

/-- A tile with each row scaled. -/
def rowScale (x : FVec F S256x128 .f32) (s : FVec F S256x1 .f32) : FVec F S256x128 .f32 :=
  mulf x (broadcastTo S256x128 s broadcasts_S256x1_S256x128)

/-- Rounding a tile. -/
def round {s : Shape} (x : FVec F s .f32) : FVec F s .bf16 := truncf .bf16 x bitsLt_bf16_f32

/-- Scaled keys over queries, against the keys. -/
def gram (kb q k : FVec F S256x128 .f32) : FVec F S512x256 .f32 :=
  matmul dot_S512x128_S256x128_S512x256_1_1_0_0_n_n none
    (concatenate S512x128 0 [⟨S256x128, round kb⟩, ⟨S256x128, round q⟩] concatenates_S256x128_S256x128_S512x128_d0)
    (round k) (constant S512x256 .f32 0x00000000#32)

/-- The matrix of the triangular system, before its mask. -/
def lmat (gm : FVec F S512x256 .f32) (d : FVec F S256x256 .f32) : FVec F S256x256 .f32 :=
  mulf (extractStridedSlice S256x256 ![0, 0] gm slices_S512x256_o0_0_S256x256) d

/-- The decayed attention of the queries. -/
def aqk (gm : FVec F S512x256 .f32) (d : FVec F S256x256 .f32) : FVec F S256x256 .bf16 :=
  round (select incl (mulf (extractStridedSlice S256x256 ![256, 0] gm slices_S512x256_o256_0_S256x256) d)
    (broadcast S256x256 zero))

/-- The right-hand sides of the triangular system. -/
def rhs (v kb : FVec F S256x128 .f32) (b eg : FVec F S256x1 .f32) : FVec F S256x256 .bf16 :=
  concatenate S256x256 1 [⟨S256x128, round (rowScale v b)⟩, ⟨S256x128, round (rowScale kb eg)⟩]
    concatenates_S256x128_S256x128_S256x256_d1

/-- The inverse at level 0. -/
def inv0 (l : FVec F S256x256 .f32) : FVec F S256x256 .f32 :=
  subf eye (select (lev 0#32 1#32) l (broadcast S256x256 zero))

/-- One doubling of the inverse on whole matrices. -/
def invStep (b : IVec S256x256 1) (l t : FVec F S256x256 .f32) : FVec F S256x256 .f32 :=
  subf t (matmul dot_S256x256_S256x256_S256x256_1_0_0_1_n_n none (round t)
    (round (matmul dot_S256x256_S256x256_S256x256_1_0_0_1_n_n none
      (round (select b l (broadcast S256x256 zero))) (round t) (constant S256x256 .f32 0x00000000#32)))
    (constant S256x256 .f32 0x00000000#32))

/-- The lower-left mask of one doubling level, on the lower half rows alone. -/
def halfMask (b b1 p p1 : BitVec 32) : IVec S128x256 1 :=
  cmpi .eq (shrui (xori (addi (addi (shli (shrui (iota .tc S128x256 32 [0] iota_S128x256_d0_w32) (broadcast S128x256 b))
      (broadcast S128x256 b1)) (broadcast S128x256 p))
      (andi (iota .tc S128x256 32 [0] iota_S128x256_d0_w32) (broadcast S128x256 p1)))
    (iota .tc S128x256 32 [1] iota_S128x256_d1_w32)) (broadcast S128x256 b)) (broadcast S128x256 1#32)

/-- The lower-half rows of a matrix, at level 3. -/
def low3 (x : FVec F S256x256 .f32) : FVec F S128x256 .f32 :=
  shapeCast S128x256 (shapeCast S16x8x256 (extractStridedSlice S16x1x8x256 ![0, 1, 0, 0]
    (shapeCast S16x2x8x256 x shapeCasts_S256x256_S16x2x8x256) slices_S16x2x8x256_o0_1_0_0_S16x1x8x256)
    shapeCasts_S16x1x8x256_S16x8x256) shapeCasts_S16x8x256_S128x256

/-- Upper-half rows and lower-half rows put back together, at level 3. -/
def stack3 (x : FVec F S16x8x256 .f32) (y : FVec F S128x256 .f32) : FVec F S256x256 .f32 :=
  shapeCast S256x256 (concatenate S16x2x8x256 1
    [⟨S16x1x8x256, shapeCast S16x1x8x256 x shapeCasts_S16x8x256_S16x1x8x256⟩,
     ⟨S16x1x8x256, shapeCast S16x1x8x256 (shapeCast S16x8x256 y shapeCasts_S128x256_S16x8x256) shapeCasts_S16x8x256_S16x1x8x256⟩]
    concatenates_S16x1x8x256_S16x1x8x256_S16x2x8x256_d1) shapeCasts_S16x2x8x256_S256x256

/-- One doubling of the inverse on the lower-half rows, at level 3. -/
def invHalf3 (l t : FVec F S256x256 .f32) : FVec F S256x256 .f32 :=
  stack3 (shapeCast S16x8x256 (extractStridedSlice S16x1x8x256 ![0, 0, 0, 0]
      (shapeCast S16x2x8x256 t shapeCasts_S256x256_S16x2x8x256) slices_S16x2x8x256_o0_0_0_0_S16x1x8x256) shapeCasts_S16x1x8x256_S16x8x256)
    (subf (low3 t) (matmul dot_S128x256_S256x256_S128x256_1_0_0_1_n_n none (round (low3 t))
      (round (stack3 (broadcast S16x8x256 zero)
        (matmul dot_S128x256_S256x256_S128x256_1_0_0_1_n_n none
          (round (select (halfMask 3#32 4#32 8#32 7#32) (low3 l) (broadcast S128x256 zero))) (round t)
          (constant S128x256 .f32 0x00000000#32))))
      (constant S128x256 .f32 0x00000000#32)))

/-- The lower-half rows of a matrix, at level 4. -/
def low4 (x : FVec F S256x256 .f32) : FVec F S128x256 .f32 :=
  shapeCast S128x256 (shapeCast S8x16x256 (extractStridedSlice S8x1x16x256 ![0, 1, 0, 0]
    (shapeCast S8x2x16x256 x shapeCasts_S256x256_S8x2x16x256) slices_S8x2x16x256_o0_1_0_0_S8x1x16x256)
    shapeCasts_S8x1x16x256_S8x16x256) shapeCasts_S8x16x256_S128x256

/-- Upper-half rows and lower-half rows put back together, at level 4. -/
def stack4 (x : FVec F S8x16x256 .f32) (y : FVec F S128x256 .f32) : FVec F S256x256 .f32 :=
  shapeCast S256x256 (concatenate S8x2x16x256 1
    [⟨S8x1x16x256, shapeCast S8x1x16x256 x shapeCasts_S8x16x256_S8x1x16x256⟩,
     ⟨S8x1x16x256, shapeCast S8x1x16x256 (shapeCast S8x16x256 y shapeCasts_S128x256_S8x16x256) shapeCasts_S8x16x256_S8x1x16x256⟩]
    concatenates_S8x1x16x256_S8x1x16x256_S8x2x16x256_d1) shapeCasts_S8x2x16x256_S256x256

/-- One doubling of the inverse on the lower-half rows, at level 4. -/
def invHalf4 (l t : FVec F S256x256 .f32) : FVec F S256x256 .f32 :=
  stack4 (shapeCast S8x16x256 (extractStridedSlice S8x1x16x256 ![0, 0, 0, 0]
      (shapeCast S8x2x16x256 t shapeCasts_S256x256_S8x2x16x256) slices_S8x2x16x256_o0_0_0_0_S8x1x16x256) shapeCasts_S8x1x16x256_S8x16x256)
    (subf (low4 t) (matmul dot_S128x256_S256x256_S128x256_1_0_0_1_n_n none (round (low4 t))
      (round (stack4 (broadcast S8x16x256 zero)
        (matmul dot_S128x256_S256x256_S128x256_1_0_0_1_n_n none
          (round (select (halfMask 4#32 5#32 16#32 15#32) (low4 l) (broadcast S128x256 zero))) (round t)
          (constant S128x256 .f32 0x00000000#32))))
      (constant S128x256 .f32 0x00000000#32)))

/-- The lower-half rows of a matrix, at level 5. -/
def low5 (x : FVec F S256x256 .f32) : FVec F S128x256 .f32 :=
  shapeCast S128x256 (shapeCast S4x32x256 (extractStridedSlice S4x1x32x256 ![0, 1, 0, 0]
    (shapeCast S4x2x32x256 x shapeCasts_S256x256_S4x2x32x256) slices_S4x2x32x256_o0_1_0_0_S4x1x32x256)
    shapeCasts_S4x1x32x256_S4x32x256) shapeCasts_S4x32x256_S128x256

/-- Upper-half rows and lower-half rows put back together, at level 5. -/
def stack5 (x : FVec F S4x32x256 .f32) (y : FVec F S128x256 .f32) : FVec F S256x256 .f32 :=
  shapeCast S256x256 (concatenate S4x2x32x256 1
    [⟨S4x1x32x256, shapeCast S4x1x32x256 x shapeCasts_S4x32x256_S4x1x32x256⟩,
     ⟨S4x1x32x256, shapeCast S4x1x32x256 (shapeCast S4x32x256 y shapeCasts_S128x256_S4x32x256) shapeCasts_S4x32x256_S4x1x32x256⟩]
    concatenates_S4x1x32x256_S4x1x32x256_S4x2x32x256_d1) shapeCasts_S4x2x32x256_S256x256

/-- One doubling of the inverse on the lower-half rows, at level 5. -/
def invHalf5 (l t : FVec F S256x256 .f32) : FVec F S256x256 .f32 :=
  stack5 (shapeCast S4x32x256 (extractStridedSlice S4x1x32x256 ![0, 0, 0, 0]
      (shapeCast S4x2x32x256 t shapeCasts_S256x256_S4x2x32x256) slices_S4x2x32x256_o0_0_0_0_S4x1x32x256) shapeCasts_S4x1x32x256_S4x32x256)
    (subf (low5 t) (matmul dot_S128x256_S256x256_S128x256_1_0_0_1_n_n none (round (low5 t))
      (round (stack5 (broadcast S4x32x256 zero)
        (matmul dot_S128x256_S256x256_S128x256_1_0_0_1_n_n none
          (round (select (halfMask 5#32 6#32 32#32 31#32) (low5 l) (broadcast S128x256 zero))) (round t)
          (constant S128x256 .f32 0x00000000#32))))
      (constant S128x256 .f32 0x00000000#32)))

/-- The inverse of the unit triangular matrix, by six doublings. -/
def inv (l : FVec F S256x256 .f32) : FVec F S256x256 .f32 :=
  invHalf5 l (invHalf4 l (invHalf3 l (invStep (lev 2#32 4#32) l (invStep (lev 1#32 2#32) l (inv0 l)))))

/-- A rounded tile product. -/
def mm (x y : FVec F S256x256 .bf16) : FVec F S256x256 .f32 :=
  matmul dot_S256x256_S256x256_S256x256_1_0_0_1_n_n none x y (constant S256x256 .f32 0x00000000#32)

/-- The queries the carried state is read by. -/
def qEff (qd : FVec F S256x128 .f32) (aux : FVec F S256x256 .f32) : FVec F S256x128 .bf16 :=
  round (subf qd (extractStridedSlice S256x128 ![0, 128] aux slices_S256x256_o0_128_S256x128))

/-- One chunk's keys against its solutions. -/
def kw (o : Nat) (h1 : S256x128.Slices ![o, 0] S64x128) (h2 : S256x256.Slices ![o, 0] S64x256)
    (kd : FVec F S256x128 .bf16) (s : FVec F S256x256 .bf16) : FVec F S128x256 .f32 :=
  matmul dot_S64x128_S64x256_S128x256_0_0_1_1_n_n none (extractStridedSlice S64x128 ![o, 0] kd h1)
    (extractStridedSlice S64x256 ![o, 0] s h2) (constant S128x256 .f32 0x00000000#32)

/-- One chunk's reads of the carried state. -/
def both (o : Nat) (h1 : S256x128.Slices ![o, 0] S64x128) (qe : FVec F S256x128 .bf16)
    (w : FVec F S128x256 .f32) (s : FVec F S128x128 .f32) : FVec F S192x128 .f32 :=
  matmul dot_S192x128_S128x128_S192x128_1_0_0_1_n_n none
    (concatenate S192x128 0 [⟨S64x128, extractStridedSlice S64x128 ![o, 0] qe h1⟩,
      ⟨S128x128, round (extractStridedSlice S128x128 ![0, 128] w slices_S128x256_o0_128_S128x128)⟩]
      concatenates_S64x128_S128x128_S192x128_d0)
    (round s) (constant S192x128 .f32 0x00000000#32)

/-- One chunk's output. -/
def chunkOut (o : Nat) (h : S256x256.Slices ![o, 0] S64x128) (b : FVec F S192x128 .f32)
    (aux : FVec F S256x256 .f32) : FVec F S64x128 .f32 :=
  addf (extractStridedSlice S64x128 ![0, 0] b slices_S192x128_o0_0_S64x128)
    (extractStridedSlice S64x128 ![o, 0] aux h)

/-- The carried state after one chunk. -/
def chunkState (o : Nat) (h : S256x1.Slices ![o, 0] S1x1) (b : FVec F S192x128 .f32) (el : FVec F S256x1 .f32)
    (w : FVec F S128x256 .f32) (s : FVec F S128x128 .f32) : FVec F S128x128 .f32 :=
  subf (addf (mulf s (broadcastTo S128x128 (extractStridedSlice S1x1 ![o, 0] el h) broadcasts_S1x1_S128x128))
      (extractStridedSlice S128x128 ![0, 0] w slices_S128x256_o0_0_S128x128))
    (extractStridedSlice S128x128 ![64, 0] b slices_S192x128_o64_0_S128x128)

/-- The rms norm and the gate of a head's tile. -/
def gate (o z : FVec F S256x128 .f32) (go : FVec F S1x128 .f32) : FVec F S256x128 .bf16 :=
  round (mulf
    (mulf (mulf o (broadcastTo S256x128 (rsqrt (addf (divf
        (shapeCast S256x1 (multiReduction .add [1] S256 (mulf o o) 0x00000000#32 reduces_S256x128_S256 (.inl rfl) rfl)
          shapeCasts_S256_S256x1) (broadcast S256x1 (Scalar.ofBits .f32 0x43000000#32)))
        (broadcast S256x1 (Scalar.ofBits .f32 0x358637BD#32)))) broadcasts_S256x1_S256x128))
      (broadcastTo S256x128 (shapeCast S1x128 go shapeCasts_S1x128_S1x128) broadcasts_S1x128_S256x128))
    (mulf z (divf (broadcast S256x128 (Scalar.ofBits .f32 0x3F800000#32))
      (addf (broadcast S256x128 (Scalar.ofBits .f32 0x3F800000#32))
        (exp2 (mulf z (broadcast S256x128 (Named.named κ "neg_log2_e" 0xBFB8AA3B#32))))))))

/-- What a head's tile is computed from besides the carried state: the decayed exponents, the
    solutions, the products with them. -/
structure Parts (F : FTy → Type) where
  el : FVec F S256x1 .f32
  qe : FVec F S256x128 .bf16
  aux : FVec F S256x256 .f32
  kw0 : FVec F S128x256 .f32
  kw1 : FVec F S128x256 .f32
  kw2 : FVec F S128x256 .f32
  kw3 : FVec F S128x256 .f32

/-- The triangular system's matrix of a head. -/
def headL (w : BitVec 32) (k : FVec F S256x128 .f32) (q : FVec F S256x128 .f32) (be g : FVec F S256x8 .f32)
    (gt : FVec F S8x256 .f32) : FVec F S256x256 .f32 :=
  lmat (gram (rowScale k (headCol w be)) q k) (decay (maskSum incl (headRow w gt)) (gcRow (headCol w g)))

/-- The decayed attention of a head. -/
def headA (w : BitVec 32) (k : FVec F S256x128 .f32) (q : FVec F S256x128 .f32) (be g : FVec F S256x8 .f32)
    (gt : FVec F S8x256 .f32) : FVec F S256x256 .bf16 :=
  aqk (gram (rowScale k (headCol w be)) q k) (decay (maskSum incl (headRow w gt)) (gcRow (headCol w g)))

/-- The solutions of a head. -/
def headSol (w : BitVec 32) (q k v : FVec F S256x128 .f32) (be g : FVec F S256x8 .f32)
    (gt : FVec F S8x256 .f32) : FVec F S256x256 .bf16 :=
  round (mm (round (inv (headL w k q be g gt)))
    (rhs v (rowScale k (headCol w be)) (headCol w be) (exp (maskSum incl (headRow w gt)))))

/-- The keys decayed to the end of their chunk. -/
def headKd (w : BitVec 32) (k : FVec F S256x128 .f32) (gt : FVec F S8x256 .f32) : FVec F S256x128 .bf16 :=
  round (rowScale k (exp (subf (maskSum inChunk (headRow w gt)) (maskSum incl (headRow w gt)))))

/-- The products of a head. -/
def headAux (w : BitVec 32) (q k v : FVec F S256x128 .f32) (be g : FVec F S256x8 .f32)
    (gt : FVec F S8x256 .f32) : FVec F S256x256 .f32 :=
  mm (headA w k q be g gt) (headSol w q k v be g gt)

/-- The effective queries of a head. -/
def headQe (w : BitVec 32) (q k v : FVec F S256x128 .f32) (be g : FVec F S256x8 .f32)
    (gt : FVec F S8x256 .f32) : FVec F S256x128 .bf16 :=
  qEff (rowScale q (exp (maskSum incl (headRow w gt)))) (headAux w q k v be g gt)

/-- The decay over a whole chunk. -/
def headEl (w : BitVec 32) (gt : FVec F S8x256 .f32) : FVec F S256x1 .f32 :=
  exp (maskSum inChunk (headRow w gt))

/-- Chunk 0 to 3 of the keys against the solutions. -/
def headKw (o : Nat) (h1 : S256x128.Slices ![o, 0] S64x128) (h2 : S256x256.Slices ![o, 0] S64x256)
    (w : BitVec 32) (q k v : FVec F S256x128 .f32) (be g : FVec F S256x8 .f32)
    (gt : FVec F S8x256 .f32) : FVec F S128x256 .f32 :=
  kw o h1 h2 (headKd w k gt) (headSol w q k v be g gt)

/-- The parts of a head. -/
def parts (w : BitVec 32) (q k v : FVec F S256x128 .f32) (be g : FVec F S256x8 .f32)
    (gt : FVec F S8x256 .f32) : Parts F where
  el := headEl w gt
  qe := headQe w q k v be g gt
  aux := headAux w q k v be g gt
  kw0 := headKw 0 slices_S256x128_o0_0_S64x128 slices_S256x256_o0_0_S64x256 w q k v be g gt
  kw1 := headKw 64 slices_S256x128_o64_0_S64x128 slices_S256x256_o64_0_S64x256 w q k v be g gt
  kw2 := headKw 128 slices_S256x128_o128_0_S64x128 slices_S256x256_o128_0_S64x256 w q k v be g gt
  kw3 := headKw 192 slices_S256x128_o192_0_S64x128 slices_S256x256_o192_0_S64x256 w q k v be g gt

/-- The state after the first chunk. -/
def st1 (p : Parts F) (s : FVec F S128x128 .f32) : FVec F S128x128 .f32 :=
  chunkState 0 slices_S256x1_o0_0_S1x1 (both 0 slices_S256x128_o0_0_S64x128 p.qe p.kw0 s) p.el p.kw0 s

/-- The state after the second chunk. -/
def st2 (p : Parts F) (s : FVec F S128x128 .f32) : FVec F S128x128 .f32 :=
  chunkState 64 slices_S256x1_o64_0_S1x1 (both 64 slices_S256x128_o64_0_S64x128 p.qe p.kw1 (st1 p s)) p.el p.kw1 (st1 p s)

/-- The state after the third chunk. -/
def st3 (p : Parts F) (s : FVec F S128x128 .f32) : FVec F S128x128 .f32 :=
  chunkState 128 slices_S256x1_o128_0_S1x1 (both 128 slices_S256x128_o128_0_S64x128 p.qe p.kw2 (st2 p s)) p.el p.kw2 (st2 p s)

/-- The state after the fourth chunk. -/
def st4 (p : Parts F) (s : FVec F S128x128 .f32) : FVec F S128x128 .f32 :=
  chunkState 192 slices_S256x1_o192_0_S1x1 (both 192 slices_S256x128_o192_0_S64x128 p.qe p.kw3 (st3 p s)) p.el p.kw3 (st3 p s)

/-- The four chunks' outputs, one under the other. -/
def rows (p : Parts F) (s : FVec F S128x128 .f32) : FVec F S256x128 .f32 :=
  concatenate S256x128 0
    [⟨S64x128, chunkOut 0 slices_S256x256_o0_0_S64x128 (both 0 slices_S256x128_o0_0_S64x128 p.qe p.kw0 s) p.aux⟩,
     ⟨S64x128, chunkOut 64 slices_S256x256_o64_0_S64x128 (both 64 slices_S256x128_o64_0_S64x128 p.qe p.kw1 (st1 p s)) p.aux⟩,
     ⟨S64x128, chunkOut 128 slices_S256x256_o128_0_S64x128 (both 128 slices_S256x128_o128_0_S64x128 p.qe p.kw2 (st2 p s)) p.aux⟩,
     ⟨S64x128, chunkOut 192 slices_S256x256_o192_0_S64x128 (both 192 slices_S256x128_o192_0_S64x128 p.qe p.kw3 (st3 p s)) p.aux⟩]
    concatenates_S64x128_S64x128_S64x128_S64x128_S256x128_d0

/-- The state a head's tile leaves, from the one it found. -/
def newState (p : Parts F) (s : FVec F S1x128x128 .f32) : FVec F S1x128x128 .f32 :=
  shapeCast S1x128x128 (st4 p (shapeCast S128x128 s shapeCasts_S1x128x128_S128x128)) shapeCasts_S128x128_S1x128x128

/-- The output tile of a head. -/
def newOut (p : Parts F) (s : FVec F S1x128x128 .f32) (z : FVec F S256x128 .f32) (go : FVec F S1x128 .f32) :
    FVec F S256x128 .bf16 :=
  gate (rows p (shapeCast S128x128 s shapeCasts_S1x128x128_S128x128)) z go

end Cert.KernelIdeal.Tile
end
-- ==== Proof.TileRun.lean ====
module

public import proofs.«01_k».proof.Proof.Tile

/-! What one grid point stores, head by head: the pieces the run of the body records are the
functions of `Tile` at the head words and the heads' own slices. -/

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic Idealize.SL.Sem

variable {F : FTy → Type} [FloatOps F] [Named F]

/-- The state tiles stored by a grid point that continues a sequence. -/
theorem state_B (c : Dev nD) (i : grid0.Coords) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x8 .f32) (harg7 : arg7.IsWhole) (arg8 : Memref sig .tc .vmem S256x8 .f32) (harg8 : arg8.IsWhole) (arg9 : Memref sig .tc .vmem S8x256 .f32) (harg9 : arg9.IsWhole) (arg10 : Memref sig .tc .vmem S1x128 .f32) (harg10 : arg10.IsWhole) (arg11 : Memref sig .tc .vmem S256x1024 .bf16) (harg11 : arg11.IsWhole) (arg12 : Memref sig .tc .vmem S8x128x128 .f32) (harg12 : arg12.IsWhole) (hc0 : ¬cond0_0 i)
    (x0 : Vec F S256x1024 .f32) (x1 : Vec F S256x1024 .f32) (x2 : Vec F S256x1024 .f32) (x3 : Vec F S256x1024 .f32) (x4 : Vec F S256x8 .f32) (x5 : Vec F S256x8 .f32) (x6 : Vec F S8x256 .f32) (x7 : Vec F S1x128 .f32) (xs0 : Vec F S8x128x128 .f32) :
    (kernelRun0_B c i arg3 harg3 arg4 harg4 arg5 harg5 arg6 harg6 arg7 harg7 arg8 harg8 arg9 harg9 arg10 harg10 arg11 harg11 arg12 harg12 hc0 x0 x1 x2 x3 x4 x5 x6 x7 xs0).2.1 = [
      ⟨Rect.unit (s := S8x128x128) ![7, 0, 0] S1x128x128.size inb_S8x128x128_S1x128x128_7_0_0, newState (parts (Scalar.addi (Scalar.muli (BitVec.ofNat 32 (i 1).val) 8#32) 7#32) (View.readAt (Elt F) arg3.view (Rect.unit (s := S256x1024) ![0, 896] S256x128.size inb_S256x1024_S256x128_0_896).toLoadRect (harg3.unread x0)) (View.readAt (Elt F) arg4.view (Rect.unit (s := S256x1024) ![0, 896] S256x128.size inb_S256x1024_S256x128_0_896).toLoadRect (harg4.unread x1)) (View.readAt (Elt F) arg5.view (Rect.unit (s := S256x1024) ![0, 896] S256x128.size inb_S256x1024_S256x128_0_896).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readAt (Elt F) arg12.view (Rect.unit (s := S8x128x128) ![7, 0, 0] S1x128x128.size inb_S8x128x128_S1x128x128_7_0_0).toLoadRect (harg12.unread xs0))⟩,
      ⟨Rect.unit (s := S8x128x128) ![6, 0, 0] S1x128x128.size inb_S8x128x128_S1x128x128_6_0_0, newState (parts (Scalar.addi (Scalar.muli (BitVec.ofNat 32 (i 1).val) 8#32) 6#32) (View.readAt (Elt F) arg3.view (Rect.unit (s := S256x1024) ![0, 768] S256x128.size inb_S256x1024_S256x128_0_768).toLoadRect (harg3.unread x0)) (View.readAt (Elt F) arg4.view (Rect.unit (s := S256x1024) ![0, 768] S256x128.size inb_S256x1024_S256x128_0_768).toLoadRect (harg4.unread x1)) (View.readAt (Elt F) arg5.view (Rect.unit (s := S256x1024) ![0, 768] S256x128.size inb_S256x1024_S256x128_0_768).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readAt (Elt F) arg12.view (Rect.unit (s := S8x128x128) ![6, 0, 0] S1x128x128.size inb_S8x128x128_S1x128x128_6_0_0).toLoadRect (harg12.unread xs0))⟩,
      ⟨Rect.unit (s := S8x128x128) ![5, 0, 0] S1x128x128.size inb_S8x128x128_S1x128x128_5_0_0, newState (parts (Scalar.addi (Scalar.muli (BitVec.ofNat 32 (i 1).val) 8#32) 5#32) (View.readAt (Elt F) arg3.view (Rect.unit (s := S256x1024) ![0, 640] S256x128.size inb_S256x1024_S256x128_0_640).toLoadRect (harg3.unread x0)) (View.readAt (Elt F) arg4.view (Rect.unit (s := S256x1024) ![0, 640] S256x128.size inb_S256x1024_S256x128_0_640).toLoadRect (harg4.unread x1)) (View.readAt (Elt F) arg5.view (Rect.unit (s := S256x1024) ![0, 640] S256x128.size inb_S256x1024_S256x128_0_640).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readAt (Elt F) arg12.view (Rect.unit (s := S8x128x128) ![5, 0, 0] S1x128x128.size inb_S8x128x128_S1x128x128_5_0_0).toLoadRect (harg12.unread xs0))⟩,
      ⟨Rect.unit (s := S8x128x128) ![4, 0, 0] S1x128x128.size inb_S8x128x128_S1x128x128_4_0_0, newState (parts (Scalar.addi (Scalar.muli (BitVec.ofNat 32 (i 1).val) 8#32) 4#32) (View.readAt (Elt F) arg3.view (Rect.unit (s := S256x1024) ![0, 512] S256x128.size inb_S256x1024_S256x128_0_512).toLoadRect (harg3.unread x0)) (View.readAt (Elt F) arg4.view (Rect.unit (s := S256x1024) ![0, 512] S256x128.size inb_S256x1024_S256x128_0_512).toLoadRect (harg4.unread x1)) (View.readAt (Elt F) arg5.view (Rect.unit (s := S256x1024) ![0, 512] S256x128.size inb_S256x1024_S256x128_0_512).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readAt (Elt F) arg12.view (Rect.unit (s := S8x128x128) ![4, 0, 0] S1x128x128.size inb_S8x128x128_S1x128x128_4_0_0).toLoadRect (harg12.unread xs0))⟩,
      ⟨Rect.unit (s := S8x128x128) ![3, 0, 0] S1x128x128.size inb_S8x128x128_S1x128x128_3_0_0, newState (parts (Scalar.addi (Scalar.muli (BitVec.ofNat 32 (i 1).val) 8#32) 3#32) (View.readAt (Elt F) arg3.view (Rect.unit (s := S256x1024) ![0, 384] S256x128.size inb_S256x1024_S256x128_0_384).toLoadRect (harg3.unread x0)) (View.readAt (Elt F) arg4.view (Rect.unit (s := S256x1024) ![0, 384] S256x128.size inb_S256x1024_S256x128_0_384).toLoadRect (harg4.unread x1)) (View.readAt (Elt F) arg5.view (Rect.unit (s := S256x1024) ![0, 384] S256x128.size inb_S256x1024_S256x128_0_384).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readAt (Elt F) arg12.view (Rect.unit (s := S8x128x128) ![3, 0, 0] S1x128x128.size inb_S8x128x128_S1x128x128_3_0_0).toLoadRect (harg12.unread xs0))⟩,
      ⟨Rect.unit (s := S8x128x128) ![2, 0, 0] S1x128x128.size inb_S8x128x128_S1x128x128_2_0_0, newState (parts (Scalar.addi (Scalar.muli (BitVec.ofNat 32 (i 1).val) 8#32) 2#32) (View.readAt (Elt F) arg3.view (Rect.unit (s := S256x1024) ![0, 256] S256x128.size inb_S256x1024_S256x128_0_256).toLoadRect (harg3.unread x0)) (View.readAt (Elt F) arg4.view (Rect.unit (s := S256x1024) ![0, 256] S256x128.size inb_S256x1024_S256x128_0_256).toLoadRect (harg4.unread x1)) (View.readAt (Elt F) arg5.view (Rect.unit (s := S256x1024) ![0, 256] S256x128.size inb_S256x1024_S256x128_0_256).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readAt (Elt F) arg12.view (Rect.unit (s := S8x128x128) ![2, 0, 0] S1x128x128.size inb_S8x128x128_S1x128x128_2_0_0).toLoadRect (harg12.unread xs0))⟩,
      ⟨Rect.unit (s := S8x128x128) ![1, 0, 0] S1x128x128.size inb_S8x128x128_S1x128x128_1_0_0, newState (parts (Scalar.addi (Scalar.muli (BitVec.ofNat 32 (i 1).val) 8#32) 1#32) (View.readAt (Elt F) arg3.view (Rect.unit (s := S256x1024) ![0, 128] S256x128.size inb_S256x1024_S256x128_0_128).toLoadRect (harg3.unread x0)) (View.readAt (Elt F) arg4.view (Rect.unit (s := S256x1024) ![0, 128] S256x128.size inb_S256x1024_S256x128_0_128).toLoadRect (harg4.unread x1)) (View.readAt (Elt F) arg5.view (Rect.unit (s := S256x1024) ![0, 128] S256x128.size inb_S256x1024_S256x128_0_128).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readAt (Elt F) arg12.view (Rect.unit (s := S8x128x128) ![1, 0, 0] S1x128x128.size inb_S8x128x128_S1x128x128_1_0_0).toLoadRect (harg12.unread xs0))⟩,
      ⟨Rect.unit (s := S8x128x128) ![0, 0, 0] S1x128x128.size inb_S8x128x128_S1x128x128_0_0_0, newState (parts (Scalar.addi (Scalar.muli (BitVec.ofNat 32 (i 1).val) 8#32) 0#32) (View.readAt (Elt F) arg3.view (Rect.unit (s := S256x1024) ![0, 0] S256x128.size inb_S256x1024_S256x128_0_0).toLoadRect (harg3.unread x0)) (View.readAt (Elt F) arg4.view (Rect.unit (s := S256x1024) ![0, 0] S256x128.size inb_S256x1024_S256x128_0_0).toLoadRect (harg4.unread x1)) (View.readAt (Elt F) arg5.view (Rect.unit (s := S256x1024) ![0, 0] S256x128.size inb_S256x1024_S256x128_0_0).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readAt (Elt F) arg12.view (Rect.unit (s := S8x128x128) ![0, 0, 0] S1x128x128.size inb_S8x128x128_S1x128x128_0_0_0).toLoadRect (harg12.unread xs0))⟩] := by
  chain_rfl

/-- The output tiles stored by a grid point that continues a sequence. -/
theorem out_B (c : Dev nD) (i : grid0.Coords) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x8 .f32) (harg7 : arg7.IsWhole) (arg8 : Memref sig .tc .vmem S256x8 .f32) (harg8 : arg8.IsWhole) (arg9 : Memref sig .tc .vmem S8x256 .f32) (harg9 : arg9.IsWhole) (arg10 : Memref sig .tc .vmem S1x128 .f32) (harg10 : arg10.IsWhole) (arg11 : Memref sig .tc .vmem S256x1024 .bf16) (harg11 : arg11.IsWhole) (arg12 : Memref sig .tc .vmem S8x128x128 .f32) (harg12 : arg12.IsWhole) (hc0 : ¬cond0_0 i)
    (x0 : Vec F S256x1024 .f32) (x1 : Vec F S256x1024 .f32) (x2 : Vec F S256x1024 .f32) (x3 : Vec F S256x1024 .f32) (x4 : Vec F S256x8 .f32) (x5 : Vec F S256x8 .f32) (x6 : Vec F S8x256 .f32) (x7 : Vec F S1x128 .f32) (xs0 : Vec F S8x128x128 .f32) :
    (kernelRun0_B c i arg3 harg3 arg4 harg4 arg5 harg5 arg6 harg6 arg7 harg7 arg8 harg8 arg9 harg9 arg10 harg10 arg11 harg11 arg12 harg12 hc0 x0 x1 x2 x3 x4 x5 x6 x7 xs0).1 = [
      ⟨Rect.unit (s := S256x1024) ![0, 896] S256x128.size inb_S256x1024_S256x128_0_896, newOut (parts (Scalar.addi (Scalar.muli (BitVec.ofNat 32 (i 1).val) 8#32) 7#32) (View.readAt (Elt F) arg3.view (Rect.unit (s := S256x1024) ![0, 896] S256x128.size inb_S256x1024_S256x128_0_896).toLoadRect (harg3.unread x0)) (View.readAt (Elt F) arg4.view (Rect.unit (s := S256x1024) ![0, 896] S256x128.size inb_S256x1024_S256x128_0_896).toLoadRect (harg4.unread x1)) (View.readAt (Elt F) arg5.view (Rect.unit (s := S256x1024) ![0, 896] S256x128.size inb_S256x1024_S256x128_0_896).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readAt (Elt F) arg12.view (Rect.unit (s := S8x128x128) ![7, 0, 0] S1x128x128.size inb_S8x128x128_S1x128x128_7_0_0).toLoadRect (harg12.unread xs0)) (View.readAt (Elt F) arg6.view (Rect.unit (s := S256x1024) ![0, 896] S256x128.size inb_S256x1024_S256x128_0_896).toLoadRect (harg6.unread x3)) (View.readAt (Elt F) arg10.view (Rect.unit (s := S1x128) ![0, 0] S1x128.size inb_S1x128_S1x128_0_0).toLoadRect (harg10.unread x7))⟩,
      ⟨Rect.unit (s := S256x1024) ![0, 768] S256x128.size inb_S256x1024_S256x128_0_768, newOut (parts (Scalar.addi (Scalar.muli (BitVec.ofNat 32 (i 1).val) 8#32) 6#32) (View.readAt (Elt F) arg3.view (Rect.unit (s := S256x1024) ![0, 768] S256x128.size inb_S256x1024_S256x128_0_768).toLoadRect (harg3.unread x0)) (View.readAt (Elt F) arg4.view (Rect.unit (s := S256x1024) ![0, 768] S256x128.size inb_S256x1024_S256x128_0_768).toLoadRect (harg4.unread x1)) (View.readAt (Elt F) arg5.view (Rect.unit (s := S256x1024) ![0, 768] S256x128.size inb_S256x1024_S256x128_0_768).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readAt (Elt F) arg12.view (Rect.unit (s := S8x128x128) ![6, 0, 0] S1x128x128.size inb_S8x128x128_S1x128x128_6_0_0).toLoadRect (harg12.unread xs0)) (View.readAt (Elt F) arg6.view (Rect.unit (s := S256x1024) ![0, 768] S256x128.size inb_S256x1024_S256x128_0_768).toLoadRect (harg6.unread x3)) (View.readAt (Elt F) arg10.view (Rect.unit (s := S1x128) ![0, 0] S1x128.size inb_S1x128_S1x128_0_0).toLoadRect (harg10.unread x7))⟩,
      ⟨Rect.unit (s := S256x1024) ![0, 640] S256x128.size inb_S256x1024_S256x128_0_640, newOut (parts (Scalar.addi (Scalar.muli (BitVec.ofNat 32 (i 1).val) 8#32) 5#32) (View.readAt (Elt F) arg3.view (Rect.unit (s := S256x1024) ![0, 640] S256x128.size inb_S256x1024_S256x128_0_640).toLoadRect (harg3.unread x0)) (View.readAt (Elt F) arg4.view (Rect.unit (s := S256x1024) ![0, 640] S256x128.size inb_S256x1024_S256x128_0_640).toLoadRect (harg4.unread x1)) (View.readAt (Elt F) arg5.view (Rect.unit (s := S256x1024) ![0, 640] S256x128.size inb_S256x1024_S256x128_0_640).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readAt (Elt F) arg12.view (Rect.unit (s := S8x128x128) ![5, 0, 0] S1x128x128.size inb_S8x128x128_S1x128x128_5_0_0).toLoadRect (harg12.unread xs0)) (View.readAt (Elt F) arg6.view (Rect.unit (s := S256x1024) ![0, 640] S256x128.size inb_S256x1024_S256x128_0_640).toLoadRect (harg6.unread x3)) (View.readAt (Elt F) arg10.view (Rect.unit (s := S1x128) ![0, 0] S1x128.size inb_S1x128_S1x128_0_0).toLoadRect (harg10.unread x7))⟩,
      ⟨Rect.unit (s := S256x1024) ![0, 512] S256x128.size inb_S256x1024_S256x128_0_512, newOut (parts (Scalar.addi (Scalar.muli (BitVec.ofNat 32 (i 1).val) 8#32) 4#32) (View.readAt (Elt F) arg3.view (Rect.unit (s := S256x1024) ![0, 512] S256x128.size inb_S256x1024_S256x128_0_512).toLoadRect (harg3.unread x0)) (View.readAt (Elt F) arg4.view (Rect.unit (s := S256x1024) ![0, 512] S256x128.size inb_S256x1024_S256x128_0_512).toLoadRect (harg4.unread x1)) (View.readAt (Elt F) arg5.view (Rect.unit (s := S256x1024) ![0, 512] S256x128.size inb_S256x1024_S256x128_0_512).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readAt (Elt F) arg12.view (Rect.unit (s := S8x128x128) ![4, 0, 0] S1x128x128.size inb_S8x128x128_S1x128x128_4_0_0).toLoadRect (harg12.unread xs0)) (View.readAt (Elt F) arg6.view (Rect.unit (s := S256x1024) ![0, 512] S256x128.size inb_S256x1024_S256x128_0_512).toLoadRect (harg6.unread x3)) (View.readAt (Elt F) arg10.view (Rect.unit (s := S1x128) ![0, 0] S1x128.size inb_S1x128_S1x128_0_0).toLoadRect (harg10.unread x7))⟩,
      ⟨Rect.unit (s := S256x1024) ![0, 384] S256x128.size inb_S256x1024_S256x128_0_384, newOut (parts (Scalar.addi (Scalar.muli (BitVec.ofNat 32 (i 1).val) 8#32) 3#32) (View.readAt (Elt F) arg3.view (Rect.unit (s := S256x1024) ![0, 384] S256x128.size inb_S256x1024_S256x128_0_384).toLoadRect (harg3.unread x0)) (View.readAt (Elt F) arg4.view (Rect.unit (s := S256x1024) ![0, 384] S256x128.size inb_S256x1024_S256x128_0_384).toLoadRect (harg4.unread x1)) (View.readAt (Elt F) arg5.view (Rect.unit (s := S256x1024) ![0, 384] S256x128.size inb_S256x1024_S256x128_0_384).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readAt (Elt F) arg12.view (Rect.unit (s := S8x128x128) ![3, 0, 0] S1x128x128.size inb_S8x128x128_S1x128x128_3_0_0).toLoadRect (harg12.unread xs0)) (View.readAt (Elt F) arg6.view (Rect.unit (s := S256x1024) ![0, 384] S256x128.size inb_S256x1024_S256x128_0_384).toLoadRect (harg6.unread x3)) (View.readAt (Elt F) arg10.view (Rect.unit (s := S1x128) ![0, 0] S1x128.size inb_S1x128_S1x128_0_0).toLoadRect (harg10.unread x7))⟩,
      ⟨Rect.unit (s := S256x1024) ![0, 256] S256x128.size inb_S256x1024_S256x128_0_256, newOut (parts (Scalar.addi (Scalar.muli (BitVec.ofNat 32 (i 1).val) 8#32) 2#32) (View.readAt (Elt F) arg3.view (Rect.unit (s := S256x1024) ![0, 256] S256x128.size inb_S256x1024_S256x128_0_256).toLoadRect (harg3.unread x0)) (View.readAt (Elt F) arg4.view (Rect.unit (s := S256x1024) ![0, 256] S256x128.size inb_S256x1024_S256x128_0_256).toLoadRect (harg4.unread x1)) (View.readAt (Elt F) arg5.view (Rect.unit (s := S256x1024) ![0, 256] S256x128.size inb_S256x1024_S256x128_0_256).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readAt (Elt F) arg12.view (Rect.unit (s := S8x128x128) ![2, 0, 0] S1x128x128.size inb_S8x128x128_S1x128x128_2_0_0).toLoadRect (harg12.unread xs0)) (View.readAt (Elt F) arg6.view (Rect.unit (s := S256x1024) ![0, 256] S256x128.size inb_S256x1024_S256x128_0_256).toLoadRect (harg6.unread x3)) (View.readAt (Elt F) arg10.view (Rect.unit (s := S1x128) ![0, 0] S1x128.size inb_S1x128_S1x128_0_0).toLoadRect (harg10.unread x7))⟩,
      ⟨Rect.unit (s := S256x1024) ![0, 128] S256x128.size inb_S256x1024_S256x128_0_128, newOut (parts (Scalar.addi (Scalar.muli (BitVec.ofNat 32 (i 1).val) 8#32) 1#32) (View.readAt (Elt F) arg3.view (Rect.unit (s := S256x1024) ![0, 128] S256x128.size inb_S256x1024_S256x128_0_128).toLoadRect (harg3.unread x0)) (View.readAt (Elt F) arg4.view (Rect.unit (s := S256x1024) ![0, 128] S256x128.size inb_S256x1024_S256x128_0_128).toLoadRect (harg4.unread x1)) (View.readAt (Elt F) arg5.view (Rect.unit (s := S256x1024) ![0, 128] S256x128.size inb_S256x1024_S256x128_0_128).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readAt (Elt F) arg12.view (Rect.unit (s := S8x128x128) ![1, 0, 0] S1x128x128.size inb_S8x128x128_S1x128x128_1_0_0).toLoadRect (harg12.unread xs0)) (View.readAt (Elt F) arg6.view (Rect.unit (s := S256x1024) ![0, 128] S256x128.size inb_S256x1024_S256x128_0_128).toLoadRect (harg6.unread x3)) (View.readAt (Elt F) arg10.view (Rect.unit (s := S1x128) ![0, 0] S1x128.size inb_S1x128_S1x128_0_0).toLoadRect (harg10.unread x7))⟩,
      ⟨Rect.unit (s := S256x1024) ![0, 0] S256x128.size inb_S256x1024_S256x128_0_0, newOut (parts (Scalar.addi (Scalar.muli (BitVec.ofNat 32 (i 1).val) 8#32) 0#32) (View.readAt (Elt F) arg3.view (Rect.unit (s := S256x1024) ![0, 0] S256x128.size inb_S256x1024_S256x128_0_0).toLoadRect (harg3.unread x0)) (View.readAt (Elt F) arg4.view (Rect.unit (s := S256x1024) ![0, 0] S256x128.size inb_S256x1024_S256x128_0_0).toLoadRect (harg4.unread x1)) (View.readAt (Elt F) arg5.view (Rect.unit (s := S256x1024) ![0, 0] S256x128.size inb_S256x1024_S256x128_0_0).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readAt (Elt F) arg12.view (Rect.unit (s := S8x128x128) ![0, 0, 0] S1x128x128.size inb_S8x128x128_S1x128x128_0_0_0).toLoadRect (harg12.unread xs0)) (View.readAt (Elt F) arg6.view (Rect.unit (s := S256x1024) ![0, 0] S256x128.size inb_S256x1024_S256x128_0_0).toLoadRect (harg6.unread x3)) (View.readAt (Elt F) arg10.view (Rect.unit (s := S1x128) ![0, 0] S1x128.size inb_S1x128_S1x128_0_0).toLoadRect (harg10.unread x7))⟩] := by
  chain_rfl

/-- The state tiles stored by a grid point that starts a sequence. -/
theorem state_A (c : Dev nD) (i : grid0.Coords) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x8 .f32) (harg7 : arg7.IsWhole) (arg8 : Memref sig .tc .vmem S256x8 .f32) (harg8 : arg8.IsWhole) (arg9 : Memref sig .tc .vmem S8x256 .f32) (harg9 : arg9.IsWhole) (arg10 : Memref sig .tc .vmem S1x128 .f32) (harg10 : arg10.IsWhole) (arg11 : Memref sig .tc .vmem S256x1024 .bf16) (harg11 : arg11.IsWhole) (arg12 : Memref sig .tc .vmem S8x128x128 .f32) (harg12 : arg12.IsWhole) (hc0 : cond0_0 i)
    (x0 : Vec F S256x1024 .f32) (x1 : Vec F S256x1024 .f32) (x2 : Vec F S256x1024 .f32) (x3 : Vec F S256x1024 .f32) (x4 : Vec F S256x8 .f32) (x5 : Vec F S256x8 .f32) (x6 : Vec F S8x256 .f32) (x7 : Vec F S1x128 .f32) :
    (kernelRun0_A c i arg3 harg3 arg4 harg4 arg5 harg5 arg6 harg6 arg7 harg7 arg8 harg8 arg9 harg9 arg10 harg10 arg11 harg11 arg12 harg12 hc0 x0 x1 x2 x3 x4 x5 x6 x7).2.1 = [
      ⟨Rect.unit (s := S8x128x128) ![7, 0, 0] S1x128x128.size inb_S8x128x128_S1x128x128_7_0_0, newState (parts (Scalar.addi (Scalar.muli (BitVec.ofNat 32 (i 1).val) 8#32) 7#32) (View.readAt (Elt F) arg3.view (Rect.unit (s := S256x1024) ![0, 896] S256x128.size inb_S256x1024_S256x128_0_896).toLoadRect (harg3.unread x0)) (View.readAt (Elt F) arg4.view (Rect.unit (s := S256x1024) ![0, 896] S256x128.size inb_S256x1024_S256x128_0_896).toLoadRect (harg4.unread x1)) (View.readAt (Elt F) arg5.view (Rect.unit (s := S256x1024) ![0, 896] S256x128.size inb_S256x1024_S256x128_0_896).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readCov (Val := Elt F) arg12.view [⟨Rect.unit (s := S8x128x128) ![0, 0, 0] S8x128x128.size inb_S8x128x128_S8x128x128_0_0_0, (k0_pay1 (F := F))⟩] (Rect.unit (s := S8x128x128) ![7, 0, 0] S1x128x128.size inb_S8x128x128_S1x128x128_7_0_0).toLoadRect)⟩,
      ⟨Rect.unit (s := S8x128x128) ![6, 0, 0] S1x128x128.size inb_S8x128x128_S1x128x128_6_0_0, newState (parts (Scalar.addi (Scalar.muli (BitVec.ofNat 32 (i 1).val) 8#32) 6#32) (View.readAt (Elt F) arg3.view (Rect.unit (s := S256x1024) ![0, 768] S256x128.size inb_S256x1024_S256x128_0_768).toLoadRect (harg3.unread x0)) (View.readAt (Elt F) arg4.view (Rect.unit (s := S256x1024) ![0, 768] S256x128.size inb_S256x1024_S256x128_0_768).toLoadRect (harg4.unread x1)) (View.readAt (Elt F) arg5.view (Rect.unit (s := S256x1024) ![0, 768] S256x128.size inb_S256x1024_S256x128_0_768).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readCov (Val := Elt F) arg12.view [⟨Rect.unit (s := S8x128x128) ![0, 0, 0] S8x128x128.size inb_S8x128x128_S8x128x128_0_0_0, (k0_pay1 (F := F))⟩] (Rect.unit (s := S8x128x128) ![6, 0, 0] S1x128x128.size inb_S8x128x128_S1x128x128_6_0_0).toLoadRect)⟩,
      ⟨Rect.unit (s := S8x128x128) ![5, 0, 0] S1x128x128.size inb_S8x128x128_S1x128x128_5_0_0, newState (parts (Scalar.addi (Scalar.muli (BitVec.ofNat 32 (i 1).val) 8#32) 5#32) (View.readAt (Elt F) arg3.view (Rect.unit (s := S256x1024) ![0, 640] S256x128.size inb_S256x1024_S256x128_0_640).toLoadRect (harg3.unread x0)) (View.readAt (Elt F) arg4.view (Rect.unit (s := S256x1024) ![0, 640] S256x128.size inb_S256x1024_S256x128_0_640).toLoadRect (harg4.unread x1)) (View.readAt (Elt F) arg5.view (Rect.unit (s := S256x1024) ![0, 640] S256x128.size inb_S256x1024_S256x128_0_640).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readCov (Val := Elt F) arg12.view [⟨Rect.unit (s := S8x128x128) ![0, 0, 0] S8x128x128.size inb_S8x128x128_S8x128x128_0_0_0, (k0_pay1 (F := F))⟩] (Rect.unit (s := S8x128x128) ![5, 0, 0] S1x128x128.size inb_S8x128x128_S1x128x128_5_0_0).toLoadRect)⟩,
      ⟨Rect.unit (s := S8x128x128) ![4, 0, 0] S1x128x128.size inb_S8x128x128_S1x128x128_4_0_0, newState (parts (Scalar.addi (Scalar.muli (BitVec.ofNat 32 (i 1).val) 8#32) 4#32) (View.readAt (Elt F) arg3.view (Rect.unit (s := S256x1024) ![0, 512] S256x128.size inb_S256x1024_S256x128_0_512).toLoadRect (harg3.unread x0)) (View.readAt (Elt F) arg4.view (Rect.unit (s := S256x1024) ![0, 512] S256x128.size inb_S256x1024_S256x128_0_512).toLoadRect (harg4.unread x1)) (View.readAt (Elt F) arg5.view (Rect.unit (s := S256x1024) ![0, 512] S256x128.size inb_S256x1024_S256x128_0_512).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readCov (Val := Elt F) arg12.view [⟨Rect.unit (s := S8x128x128) ![0, 0, 0] S8x128x128.size inb_S8x128x128_S8x128x128_0_0_0, (k0_pay1 (F := F))⟩] (Rect.unit (s := S8x128x128) ![4, 0, 0] S1x128x128.size inb_S8x128x128_S1x128x128_4_0_0).toLoadRect)⟩,
      ⟨Rect.unit (s := S8x128x128) ![3, 0, 0] S1x128x128.size inb_S8x128x128_S1x128x128_3_0_0, newState (parts (Scalar.addi (Scalar.muli (BitVec.ofNat 32 (i 1).val) 8#32) 3#32) (View.readAt (Elt F) arg3.view (Rect.unit (s := S256x1024) ![0, 384] S256x128.size inb_S256x1024_S256x128_0_384).toLoadRect (harg3.unread x0)) (View.readAt (Elt F) arg4.view (Rect.unit (s := S256x1024) ![0, 384] S256x128.size inb_S256x1024_S256x128_0_384).toLoadRect (harg4.unread x1)) (View.readAt (Elt F) arg5.view (Rect.unit (s := S256x1024) ![0, 384] S256x128.size inb_S256x1024_S256x128_0_384).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readCov (Val := Elt F) arg12.view [⟨Rect.unit (s := S8x128x128) ![0, 0, 0] S8x128x128.size inb_S8x128x128_S8x128x128_0_0_0, (k0_pay1 (F := F))⟩] (Rect.unit (s := S8x128x128) ![3, 0, 0] S1x128x128.size inb_S8x128x128_S1x128x128_3_0_0).toLoadRect)⟩,
      ⟨Rect.unit (s := S8x128x128) ![2, 0, 0] S1x128x128.size inb_S8x128x128_S1x128x128_2_0_0, newState (parts (Scalar.addi (Scalar.muli (BitVec.ofNat 32 (i 1).val) 8#32) 2#32) (View.readAt (Elt F) arg3.view (Rect.unit (s := S256x1024) ![0, 256] S256x128.size inb_S256x1024_S256x128_0_256).toLoadRect (harg3.unread x0)) (View.readAt (Elt F) arg4.view (Rect.unit (s := S256x1024) ![0, 256] S256x128.size inb_S256x1024_S256x128_0_256).toLoadRect (harg4.unread x1)) (View.readAt (Elt F) arg5.view (Rect.unit (s := S256x1024) ![0, 256] S256x128.size inb_S256x1024_S256x128_0_256).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readCov (Val := Elt F) arg12.view [⟨Rect.unit (s := S8x128x128) ![0, 0, 0] S8x128x128.size inb_S8x128x128_S8x128x128_0_0_0, (k0_pay1 (F := F))⟩] (Rect.unit (s := S8x128x128) ![2, 0, 0] S1x128x128.size inb_S8x128x128_S1x128x128_2_0_0).toLoadRect)⟩,
      ⟨Rect.unit (s := S8x128x128) ![1, 0, 0] S1x128x128.size inb_S8x128x128_S1x128x128_1_0_0, newState (parts (Scalar.addi (Scalar.muli (BitVec.ofNat 32 (i 1).val) 8#32) 1#32) (View.readAt (Elt F) arg3.view (Rect.unit (s := S256x1024) ![0, 128] S256x128.size inb_S256x1024_S256x128_0_128).toLoadRect (harg3.unread x0)) (View.readAt (Elt F) arg4.view (Rect.unit (s := S256x1024) ![0, 128] S256x128.size inb_S256x1024_S256x128_0_128).toLoadRect (harg4.unread x1)) (View.readAt (Elt F) arg5.view (Rect.unit (s := S256x1024) ![0, 128] S256x128.size inb_S256x1024_S256x128_0_128).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readCov (Val := Elt F) arg12.view [⟨Rect.unit (s := S8x128x128) ![0, 0, 0] S8x128x128.size inb_S8x128x128_S8x128x128_0_0_0, (k0_pay1 (F := F))⟩] (Rect.unit (s := S8x128x128) ![1, 0, 0] S1x128x128.size inb_S8x128x128_S1x128x128_1_0_0).toLoadRect)⟩,
      ⟨Rect.unit (s := S8x128x128) ![0, 0, 0] S1x128x128.size inb_S8x128x128_S1x128x128_0_0_0, newState (parts (Scalar.addi (Scalar.muli (BitVec.ofNat 32 (i 1).val) 8#32) 0#32) (View.readAt (Elt F) arg3.view (Rect.unit (s := S256x1024) ![0, 0] S256x128.size inb_S256x1024_S256x128_0_0).toLoadRect (harg3.unread x0)) (View.readAt (Elt F) arg4.view (Rect.unit (s := S256x1024) ![0, 0] S256x128.size inb_S256x1024_S256x128_0_0).toLoadRect (harg4.unread x1)) (View.readAt (Elt F) arg5.view (Rect.unit (s := S256x1024) ![0, 0] S256x128.size inb_S256x1024_S256x128_0_0).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readCov (Val := Elt F) arg12.view [⟨Rect.unit (s := S8x128x128) ![0, 0, 0] S8x128x128.size inb_S8x128x128_S8x128x128_0_0_0, (k0_pay1 (F := F))⟩] (Rect.unit (s := S8x128x128) ![0, 0, 0] S1x128x128.size inb_S8x128x128_S1x128x128_0_0_0).toLoadRect)⟩,
      ⟨Rect.unit (s := S8x128x128) ![0, 0, 0] S8x128x128.size inb_S8x128x128_S8x128x128_0_0_0, k0_pay1⟩] := by
  chain_rfl

/-- The output tiles stored by a grid point that starts a sequence. -/
theorem out_A (c : Dev nD) (i : grid0.Coords) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x8 .f32) (harg7 : arg7.IsWhole) (arg8 : Memref sig .tc .vmem S256x8 .f32) (harg8 : arg8.IsWhole) (arg9 : Memref sig .tc .vmem S8x256 .f32) (harg9 : arg9.IsWhole) (arg10 : Memref sig .tc .vmem S1x128 .f32) (harg10 : arg10.IsWhole) (arg11 : Memref sig .tc .vmem S256x1024 .bf16) (harg11 : arg11.IsWhole) (arg12 : Memref sig .tc .vmem S8x128x128 .f32) (harg12 : arg12.IsWhole) (hc0 : cond0_0 i)
    (x0 : Vec F S256x1024 .f32) (x1 : Vec F S256x1024 .f32) (x2 : Vec F S256x1024 .f32) (x3 : Vec F S256x1024 .f32) (x4 : Vec F S256x8 .f32) (x5 : Vec F S256x8 .f32) (x6 : Vec F S8x256 .f32) (x7 : Vec F S1x128 .f32) :
    (kernelRun0_A c i arg3 harg3 arg4 harg4 arg5 harg5 arg6 harg6 arg7 harg7 arg8 harg8 arg9 harg9 arg10 harg10 arg11 harg11 arg12 harg12 hc0 x0 x1 x2 x3 x4 x5 x6 x7).1 = [
      ⟨Rect.unit (s := S256x1024) ![0, 896] S256x128.size inb_S256x1024_S256x128_0_896, newOut (parts (Scalar.addi (Scalar.muli (BitVec.ofNat 32 (i 1).val) 8#32) 7#32) (View.readAt (Elt F) arg3.view (Rect.unit (s := S256x1024) ![0, 896] S256x128.size inb_S256x1024_S256x128_0_896).toLoadRect (harg3.unread x0)) (View.readAt (Elt F) arg4.view (Rect.unit (s := S256x1024) ![0, 896] S256x128.size inb_S256x1024_S256x128_0_896).toLoadRect (harg4.unread x1)) (View.readAt (Elt F) arg5.view (Rect.unit (s := S256x1024) ![0, 896] S256x128.size inb_S256x1024_S256x128_0_896).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readCov (Val := Elt F) arg12.view [⟨Rect.unit (s := S8x128x128) ![0, 0, 0] S8x128x128.size inb_S8x128x128_S8x128x128_0_0_0, (k0_pay1 (F := F))⟩] (Rect.unit (s := S8x128x128) ![7, 0, 0] S1x128x128.size inb_S8x128x128_S1x128x128_7_0_0).toLoadRect) (View.readAt (Elt F) arg6.view (Rect.unit (s := S256x1024) ![0, 896] S256x128.size inb_S256x1024_S256x128_0_896).toLoadRect (harg6.unread x3)) (View.readAt (Elt F) arg10.view (Rect.unit (s := S1x128) ![0, 0] S1x128.size inb_S1x128_S1x128_0_0).toLoadRect (harg10.unread x7))⟩,
      ⟨Rect.unit (s := S256x1024) ![0, 768] S256x128.size inb_S256x1024_S256x128_0_768, newOut (parts (Scalar.addi (Scalar.muli (BitVec.ofNat 32 (i 1).val) 8#32) 6#32) (View.readAt (Elt F) arg3.view (Rect.unit (s := S256x1024) ![0, 768] S256x128.size inb_S256x1024_S256x128_0_768).toLoadRect (harg3.unread x0)) (View.readAt (Elt F) arg4.view (Rect.unit (s := S256x1024) ![0, 768] S256x128.size inb_S256x1024_S256x128_0_768).toLoadRect (harg4.unread x1)) (View.readAt (Elt F) arg5.view (Rect.unit (s := S256x1024) ![0, 768] S256x128.size inb_S256x1024_S256x128_0_768).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readCov (Val := Elt F) arg12.view [⟨Rect.unit (s := S8x128x128) ![0, 0, 0] S8x128x128.size inb_S8x128x128_S8x128x128_0_0_0, (k0_pay1 (F := F))⟩] (Rect.unit (s := S8x128x128) ![6, 0, 0] S1x128x128.size inb_S8x128x128_S1x128x128_6_0_0).toLoadRect) (View.readAt (Elt F) arg6.view (Rect.unit (s := S256x1024) ![0, 768] S256x128.size inb_S256x1024_S256x128_0_768).toLoadRect (harg6.unread x3)) (View.readAt (Elt F) arg10.view (Rect.unit (s := S1x128) ![0, 0] S1x128.size inb_S1x128_S1x128_0_0).toLoadRect (harg10.unread x7))⟩,
      ⟨Rect.unit (s := S256x1024) ![0, 640] S256x128.size inb_S256x1024_S256x128_0_640, newOut (parts (Scalar.addi (Scalar.muli (BitVec.ofNat 32 (i 1).val) 8#32) 5#32) (View.readAt (Elt F) arg3.view (Rect.unit (s := S256x1024) ![0, 640] S256x128.size inb_S256x1024_S256x128_0_640).toLoadRect (harg3.unread x0)) (View.readAt (Elt F) arg4.view (Rect.unit (s := S256x1024) ![0, 640] S256x128.size inb_S256x1024_S256x128_0_640).toLoadRect (harg4.unread x1)) (View.readAt (Elt F) arg5.view (Rect.unit (s := S256x1024) ![0, 640] S256x128.size inb_S256x1024_S256x128_0_640).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readCov (Val := Elt F) arg12.view [⟨Rect.unit (s := S8x128x128) ![0, 0, 0] S8x128x128.size inb_S8x128x128_S8x128x128_0_0_0, (k0_pay1 (F := F))⟩] (Rect.unit (s := S8x128x128) ![5, 0, 0] S1x128x128.size inb_S8x128x128_S1x128x128_5_0_0).toLoadRect) (View.readAt (Elt F) arg6.view (Rect.unit (s := S256x1024) ![0, 640] S256x128.size inb_S256x1024_S256x128_0_640).toLoadRect (harg6.unread x3)) (View.readAt (Elt F) arg10.view (Rect.unit (s := S1x128) ![0, 0] S1x128.size inb_S1x128_S1x128_0_0).toLoadRect (harg10.unread x7))⟩,
      ⟨Rect.unit (s := S256x1024) ![0, 512] S256x128.size inb_S256x1024_S256x128_0_512, newOut (parts (Scalar.addi (Scalar.muli (BitVec.ofNat 32 (i 1).val) 8#32) 4#32) (View.readAt (Elt F) arg3.view (Rect.unit (s := S256x1024) ![0, 512] S256x128.size inb_S256x1024_S256x128_0_512).toLoadRect (harg3.unread x0)) (View.readAt (Elt F) arg4.view (Rect.unit (s := S256x1024) ![0, 512] S256x128.size inb_S256x1024_S256x128_0_512).toLoadRect (harg4.unread x1)) (View.readAt (Elt F) arg5.view (Rect.unit (s := S256x1024) ![0, 512] S256x128.size inb_S256x1024_S256x128_0_512).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readCov (Val := Elt F) arg12.view [⟨Rect.unit (s := S8x128x128) ![0, 0, 0] S8x128x128.size inb_S8x128x128_S8x128x128_0_0_0, (k0_pay1 (F := F))⟩] (Rect.unit (s := S8x128x128) ![4, 0, 0] S1x128x128.size inb_S8x128x128_S1x128x128_4_0_0).toLoadRect) (View.readAt (Elt F) arg6.view (Rect.unit (s := S256x1024) ![0, 512] S256x128.size inb_S256x1024_S256x128_0_512).toLoadRect (harg6.unread x3)) (View.readAt (Elt F) arg10.view (Rect.unit (s := S1x128) ![0, 0] S1x128.size inb_S1x128_S1x128_0_0).toLoadRect (harg10.unread x7))⟩,
      ⟨Rect.unit (s := S256x1024) ![0, 384] S256x128.size inb_S256x1024_S256x128_0_384, newOut (parts (Scalar.addi (Scalar.muli (BitVec.ofNat 32 (i 1).val) 8#32) 3#32) (View.readAt (Elt F) arg3.view (Rect.unit (s := S256x1024) ![0, 384] S256x128.size inb_S256x1024_S256x128_0_384).toLoadRect (harg3.unread x0)) (View.readAt (Elt F) arg4.view (Rect.unit (s := S256x1024) ![0, 384] S256x128.size inb_S256x1024_S256x128_0_384).toLoadRect (harg4.unread x1)) (View.readAt (Elt F) arg5.view (Rect.unit (s := S256x1024) ![0, 384] S256x128.size inb_S256x1024_S256x128_0_384).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readCov (Val := Elt F) arg12.view [⟨Rect.unit (s := S8x128x128) ![0, 0, 0] S8x128x128.size inb_S8x128x128_S8x128x128_0_0_0, (k0_pay1 (F := F))⟩] (Rect.unit (s := S8x128x128) ![3, 0, 0] S1x128x128.size inb_S8x128x128_S1x128x128_3_0_0).toLoadRect) (View.readAt (Elt F) arg6.view (Rect.unit (s := S256x1024) ![0, 384] S256x128.size inb_S256x1024_S256x128_0_384).toLoadRect (harg6.unread x3)) (View.readAt (Elt F) arg10.view (Rect.unit (s := S1x128) ![0, 0] S1x128.size inb_S1x128_S1x128_0_0).toLoadRect (harg10.unread x7))⟩,
      ⟨Rect.unit (s := S256x1024) ![0, 256] S256x128.size inb_S256x1024_S256x128_0_256, newOut (parts (Scalar.addi (Scalar.muli (BitVec.ofNat 32 (i 1).val) 8#32) 2#32) (View.readAt (Elt F) arg3.view (Rect.unit (s := S256x1024) ![0, 256] S256x128.size inb_S256x1024_S256x128_0_256).toLoadRect (harg3.unread x0)) (View.readAt (Elt F) arg4.view (Rect.unit (s := S256x1024) ![0, 256] S256x128.size inb_S256x1024_S256x128_0_256).toLoadRect (harg4.unread x1)) (View.readAt (Elt F) arg5.view (Rect.unit (s := S256x1024) ![0, 256] S256x128.size inb_S256x1024_S256x128_0_256).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readCov (Val := Elt F) arg12.view [⟨Rect.unit (s := S8x128x128) ![0, 0, 0] S8x128x128.size inb_S8x128x128_S8x128x128_0_0_0, (k0_pay1 (F := F))⟩] (Rect.unit (s := S8x128x128) ![2, 0, 0] S1x128x128.size inb_S8x128x128_S1x128x128_2_0_0).toLoadRect) (View.readAt (Elt F) arg6.view (Rect.unit (s := S256x1024) ![0, 256] S256x128.size inb_S256x1024_S256x128_0_256).toLoadRect (harg6.unread x3)) (View.readAt (Elt F) arg10.view (Rect.unit (s := S1x128) ![0, 0] S1x128.size inb_S1x128_S1x128_0_0).toLoadRect (harg10.unread x7))⟩,
      ⟨Rect.unit (s := S256x1024) ![0, 128] S256x128.size inb_S256x1024_S256x128_0_128, newOut (parts (Scalar.addi (Scalar.muli (BitVec.ofNat 32 (i 1).val) 8#32) 1#32) (View.readAt (Elt F) arg3.view (Rect.unit (s := S256x1024) ![0, 128] S256x128.size inb_S256x1024_S256x128_0_128).toLoadRect (harg3.unread x0)) (View.readAt (Elt F) arg4.view (Rect.unit (s := S256x1024) ![0, 128] S256x128.size inb_S256x1024_S256x128_0_128).toLoadRect (harg4.unread x1)) (View.readAt (Elt F) arg5.view (Rect.unit (s := S256x1024) ![0, 128] S256x128.size inb_S256x1024_S256x128_0_128).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readCov (Val := Elt F) arg12.view [⟨Rect.unit (s := S8x128x128) ![0, 0, 0] S8x128x128.size inb_S8x128x128_S8x128x128_0_0_0, (k0_pay1 (F := F))⟩] (Rect.unit (s := S8x128x128) ![1, 0, 0] S1x128x128.size inb_S8x128x128_S1x128x128_1_0_0).toLoadRect) (View.readAt (Elt F) arg6.view (Rect.unit (s := S256x1024) ![0, 128] S256x128.size inb_S256x1024_S256x128_0_128).toLoadRect (harg6.unread x3)) (View.readAt (Elt F) arg10.view (Rect.unit (s := S1x128) ![0, 0] S1x128.size inb_S1x128_S1x128_0_0).toLoadRect (harg10.unread x7))⟩,
      ⟨Rect.unit (s := S256x1024) ![0, 0] S256x128.size inb_S256x1024_S256x128_0_0, newOut (parts (Scalar.addi (Scalar.muli (BitVec.ofNat 32 (i 1).val) 8#32) 0#32) (View.readAt (Elt F) arg3.view (Rect.unit (s := S256x1024) ![0, 0] S256x128.size inb_S256x1024_S256x128_0_0).toLoadRect (harg3.unread x0)) (View.readAt (Elt F) arg4.view (Rect.unit (s := S256x1024) ![0, 0] S256x128.size inb_S256x1024_S256x128_0_0).toLoadRect (harg4.unread x1)) (View.readAt (Elt F) arg5.view (Rect.unit (s := S256x1024) ![0, 0] S256x128.size inb_S256x1024_S256x128_0_0).toLoadRect (harg5.unread x2)) (View.readAt (Elt F) arg7.view (Rect.unit (s := S256x8) ![0, 0] S256x8.size inb_S256x8_S256x8_0_0).toLoadRect (harg7.unread x4)) (View.readAt (Elt F) arg8.view (Rect.unit (s := S256x8) ![0, 0] S256x8.size inb_S256x8_S256x8_0_0).toLoadRect (harg8.unread x5)) (View.readAt (Elt F) arg9.view (Rect.unit (s := S8x256) ![0, 0] S8x256.size inb_S8x256_S8x256_0_0).toLoadRect (harg9.unread x6))) (View.readCov (Val := Elt F) arg12.view [⟨Rect.unit (s := S8x128x128) ![0, 0, 0] S8x128x128.size inb_S8x128x128_S8x128x128_0_0_0, (k0_pay1 (F := F))⟩] (Rect.unit (s := S8x128x128) ![0, 0, 0] S1x128x128.size inb_S8x128x128_S1x128x128_0_0_0).toLoadRect) (View.readAt (Elt F) arg6.view (Rect.unit (s := S256x1024) ![0, 0] S256x128.size inb_S256x1024_S256x128_0_0).toLoadRect (harg6.unread x3)) (View.readAt (Elt F) arg10.view (Rect.unit (s := S1x128) ![0, 0] S1x128.size inb_S1x128_S1x128_0_0).toLoadRect (harg10.unread x7))⟩] := by
  chain_rfl

end Cert.KernelIdeal.Tile
end
-- ==== Proof.Spec.lean ====
module

public import Mathlib.LinearAlgebra.Matrix.NonsingularInverse
public import Mathlib.LinearAlgebra.Matrix.Block
public import Mathlib.Analysis.SpecialFunctions.Exp
public import Mathlib.Data.EReal.Operations

/-! The gated delta rule over the reals: one chunk's arithmetic in the reference's form and in the
kernel's, and the inverse of a unit lower triangular matrix by doubling. -/

@[expose] public section

noncomputable section

namespace Gdn

open Matrix

/-- A sum of reals, as an extended real. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A choice of reals, as an extended real. -/
theorem coe_ite (p : Prop) [Decidable p] (a b : ℝ) :
    (if p then ((a : ℝ) : EReal) else ((b : ℝ) : EReal)) = ((if p then a else b : ℝ) : EReal) := by
  split <;> rfl

/-! ### The doubling -/

section Doubling

variable {N : ℕ}

/-- The strictly lower part of a matrix inside diagonal blocks of size `h`. -/
def blockLow (h : ℕ) (l : Matrix (Fin N) (Fin N) ℝ) : Matrix (Fin N) (Fin N) ℝ :=
  fun r c => if r.val / h = c.val / h ∧ c.val < r.val then l r c else 0

/-- The lower-left quarters of the diagonal blocks of size `2 h`. -/
def quarter (h : ℕ) (l : Matrix (Fin N) (Fin N) ℝ) : Matrix (Fin N) (Fin N) ℝ :=
  fun r c => if r.val / (2 * h) = c.val / (2 * h) ∧ r.val / h = c.val / h + 1 then l r c else 0

theorem div_two_mul (h r : ℕ) : r / (2 * h) = r / h / 2 := by
  rw [Nat.mul_comm, Nat.div_div_eq_div_mul]

theorem blockLow_succ (h : ℕ) (l : Matrix (Fin N) (Fin N) ℝ) :
    blockLow (2 * h) l = blockLow h l + quarter h l := by
  funext r c
  simp only [Matrix.add_apply, blockLow, quarter, div_two_mul]
  have h1 : c.val ≤ r.val → c.val / h ≤ r.val / h := fun e => Nat.div_le_div_right e
  have h2 : r.val ≤ c.val → r.val / h ≤ c.val / h := fun e => Nat.div_le_div_right e
  by_cases hcr : c.val < r.val
  · have h1 := h1 hcr.le
    by_cases e : r.val / h = c.val / h
    · have e2 : r.val / h / 2 = c.val / h / 2 := by rw [e]
      have e3 : ¬ r.val / h = c.val / h + 1 := by omega
      rw [if_pos ⟨e2, hcr⟩, if_pos ⟨e, hcr⟩, if_neg (fun x => e3 x.2), add_zero]
    · by_cases e2 : r.val / h / 2 = c.val / h / 2
      · rw [if_pos ⟨e2, hcr⟩, if_neg (fun x => e x.1), if_pos ⟨e2, by omega⟩, zero_add]
      · rw [if_neg (fun x => e2 x.1), if_neg (fun x => e x.1), if_neg (fun x => e2 x.1), zero_add]
  · have h2 := h2 (by omega)
    rw [if_neg (fun x => hcr x.2), if_neg (fun x => hcr x.2), if_neg (fun x => by omega), zero_add]

/-- What the doubling keeps at block size `h`: an inverse, inside the blocks. -/
def Inv (h : ℕ) (l t : Matrix (Fin N) (Fin N) ℝ) : Prop :=
  t * (1 + blockLow h l) = 1 ∧ ∀ r c, r.val / h ≠ c.val / h → t r c = 0

theorem inv_one (l : Matrix (Fin N) (Fin N) ℝ) : Inv 1 l 1 := by
  have : blockLow 1 l = 0 := by
    funext r c
    simp only [blockLow, Nat.div_one, Matrix.zero_apply]
    rw [if_neg (by omega)]
  refine ⟨by rw [this, add_zero, mul_one], fun r c e => Matrix.one_apply_ne fun x => e (by rw [x])⟩

theorem quarter_mul_quarter (h : ℕ) (l t : Matrix (Fin N) (Fin N) ℝ)
    (ht : ∀ r c : Fin N, r.val / h ≠ c.val / h → t r c = 0) : quarter h l * t * quarter h l = 0 := by
  funext r c
  rw [Matrix.mul_apply, Matrix.zero_apply]
  refine Finset.sum_eq_zero fun k _ => ?_
  by_cases hk : k.val / (2 * h) = c.val / (2 * h) ∧ k.val / h = c.val / h + 1
  · rw [Matrix.mul_apply]
    refine mul_eq_zero_of_left (Finset.sum_eq_zero fun a _ => ?_) _
    by_cases ha : r.val / (2 * h) = a.val / (2 * h) ∧ r.val / h = a.val / h + 1
    · rw [ht a k, mul_zero]
      intro e
      simp only [div_two_mul] at hk ha
      omega
    · simp only [quarter, if_neg ha, zero_mul]
  · simp only [quarter, if_neg hk, mul_zero]

theorem inv_step (h : ℕ) (l t : Matrix (Fin N) (Fin N) ℝ) (ht : Inv h l t) :
    Inv (2 * h) l (t - t * (quarter h l * t)) := by
  obtain ⟨h1, h2⟩ := ht
  constructor
  · have e := quarter_mul_quarter h l t h2
    rw [blockLow_succ, ← add_assoc]
    generalize quarter h l = b at *
    generalize 1 + blockLow h l = a at *
    have : (t - t * (b * t)) * (a + b) = t * a + t * b - t * b * (t * a) - t * (b * t * b) := by noncomm_ring
    rw [this, h1, e]
    simp
  · intro r c hrc
    simp only [div_two_mul] at hrc
    rw [Matrix.sub_apply, h2 r c (fun e => hrc (by rw [e])), Matrix.mul_apply, zero_sub, neg_eq_zero]
    refine Finset.sum_eq_zero fun k _ => ?_
    by_cases hk : r.val / h = k.val / h
    · rw [Matrix.mul_apply]
      refine mul_eq_zero_of_right _ (Finset.sum_eq_zero fun a _ => ?_)
      by_cases ha : k.val / (2 * h) = a.val / (2 * h) ∧ k.val / h = a.val / h + 1
      · rw [h2 a c, mul_zero]
        intro e
        simp only [div_two_mul] at ha
        rw [← hk, e] at ha
        omega
      · simp only [quarter, if_neg ha, zero_mul]
    · rw [h2 r k hk, zero_mul]

/-- The update touches no upper-half row. -/
theorem step_upper (h : ℕ) (l t : Matrix (Fin N) (Fin N) ℝ)
    (ht : ∀ r c : Fin N, r.val / h ≠ c.val / h → t r c = 0) (r c : Fin N) (hr : r.val / h % 2 = 0) :
    (t * (quarter h l * t)) r c = 0 := by
  rw [Matrix.mul_apply]
  refine Finset.sum_eq_zero fun k _ => ?_
  by_cases hk : r.val / h = k.val / h
  · rw [Matrix.mul_apply]
    refine mul_eq_zero_of_right _ (Finset.sum_eq_zero fun a _ => ?_)
    have : ¬ (k.val / (2 * h) = a.val / (2 * h) ∧ k.val / h = a.val / h + 1) := by
      simp only [div_two_mul]; omega
    simp only [quarter, if_neg this, zero_mul]
  · rw [ht r k hk, zero_mul]

end Doubling

/-! ### One chunk -/

section Chunk

variable (q k : Fin 64 → Fin 128 → ℝ) (v : Fin 64 → Fin 128 → ℝ) (be g : Fin 64 → ℝ)

/-- The running decay exponent. -/
def gc (t : Fin 64) : ℝ := ∑ j : Fin 64, if j.val ≤ t.val then g j else 0

/-- The decay exponent of a whole chunk. -/
def gl : ℝ := ∑ j : Fin 64, g j

/-- The strictly lower triangular matrix of the chunk's system. -/
def low : Matrix (Fin 64) (Fin 64) ℝ := fun t j =>
  if j.val < t.val then (∑ d : Fin 128, k t d * be t * k j d) * Real.exp (gc g t - gc g j) else 0

/-- The decayed attention of a chunk. -/
def att : Matrix (Fin 64) (Fin 64) ℝ := fun t j =>
  if j.val ≤ t.val then (∑ d : Fin 128, q t d * k j d) * Real.exp (gc g t - gc g j) else 0

/-- The right-hand sides of a chunk's system: scaled values, then scaled decayed keys. -/
def rhs : Matrix (Fin 64) (Fin 256) ℝ := fun t e =>
  if h : e.val < 128 then v t ⟨e.val, h⟩ * be t else k t ⟨e.val - 128, by omega⟩ * be t * Real.exp (gc g t)

/-- The solutions of a unit lower triangular system. -/
def solve (l : Matrix (Fin 64) (Fin 64) ℝ) (r : Matrix (Fin 64) (Fin 256) ℝ) : Matrix (Fin 64) (Fin 256) ℝ :=
  (1 + l)⁻¹ * r

theorem solve_unique (l : Matrix (Fin 64) (Fin 64) ℝ) (hl : ∀ t j : Fin 64, t.val ≤ j.val → l t j = 0)
    (r x : Matrix (Fin 64) (Fin 256) ℝ) (hx : ∀ t e, x t e + ∑ j, l t j * x j e = r t e) : x = solve l r := by
  have hx' : (1 + l) * x = r := by
    rw [Matrix.add_mul, Matrix.one_mul]
    funext t e
    rw [Matrix.add_apply, Matrix.mul_apply, hx]
  have hd : (1 + l).det = 1 := by
    rw [Matrix.det_of_lowerTriangular]
    · refine Finset.prod_eq_one fun i _ => ?_
      rw [Matrix.add_apply, Matrix.one_apply_eq, hl i i le_rfl, add_zero]
    · intro i j hij
      have hij : i < j := hij
      rw [Matrix.add_apply, Matrix.one_apply_ne hij.ne, hl i j hij.le, add_zero]
  rw [solve, ← hx', ← Matrix.mul_assoc, Matrix.nonsing_inv_mul _ (by rw [hd]; exact isUnit_one), Matrix.one_mul]

/-- The chunk's solutions. -/
def sol : Matrix (Fin 64) (Fin 256) ℝ := solve (low k be g) (rhs k v be g)

/-- The first 128 columns of a chunk's solutions. -/
def lo (e : Fin 128) : Fin 256 := ⟨e.val, by omega⟩

/-- The last 128 columns of a chunk's solutions. -/
def hi (e : Fin 128) : Fin 256 := ⟨128 + e.val, by omega⟩

variable (S : Fin 128 → Fin 128 → ℝ)

/-- The values a chunk adds, corrected by what the state already holds. -/
def upd (t : Fin 64) (e : Fin 128) : ℝ :=
  sol k v be g t (lo e) - ∑ d : Fin 128, sol k v be g t (hi d) * S d e

/-- A chunk's output. -/
def out (t : Fin 64) (e : Fin 128) : ℝ :=
  (∑ d : Fin 128, q t d * Real.exp (gc g t) * S d e) + ∑ j : Fin 64, att q k g t j * upd k v be g S j e

/-- The state after a chunk. -/
def next (d e : Fin 128) : ℝ :=
  S d e * Real.exp (gl g) + ∑ t : Fin 64, k t d * Real.exp (gl g - gc g t) * upd k v be g S t e

/-- A chunk's output as the kernel computes it. -/
theorem out_eq (t : Fin 64) (e : Fin 128) :
    (∑ d : Fin 128, (q t d * Real.exp (gc g t) - ∑ j : Fin 64, att q k g t j * sol k v be g j (hi d)) * S d e)
      + ∑ j : Fin 64, att q k g t j * sol k v be g j (lo e) = out q k v be g S t e := by
  simp only [out, upd, sub_mul, mul_sub, Finset.sum_sub_distrib, Finset.sum_mul, Finset.mul_sum]
  rw [Finset.sum_comm]
  simp only [mul_assoc]
  ring

/-- The state after a chunk as the kernel computes it. -/
theorem next_eq (d e : Fin 128) :
    S d e * Real.exp (gl g) + (∑ t : Fin 64, k t d * Real.exp (gl g - gc g t) * sol k v be g t (lo e))
      - (∑ d' : Fin 128, (∑ t : Fin 64, k t d * Real.exp (gl g - gc g t) * sol k v be g t (hi d')) * S d' e)
    = next k v be g S d e := by
  simp only [next, upd, mul_sub, Finset.sum_sub_distrib, Finset.sum_mul, Finset.mul_sum]
  rw [Finset.sum_comm]
  simp only [mul_assoc]
  ring

end Chunk

end Gdn
end
-- ==== Proof.TileVal.lean ====
module

public import proofs.«01_k».proof.Proof.Tile
public import proofs.«01_k».proof.Proof.Spec
public import Idealize.ShloMosaic.Lib.Pointwise
public import Mathlib.Data.Nat.Bitwise

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic Idealize.SL.Sem

/-! ### Masks -/

/-- A choice by a decided mask bit. -/
theorem select_ite {α : Type} (p : Prop) [Decidable p] (a b : α) :
    Scalar.select (if p then 1#1 else 0#1) a b = if p then a else b := by
  split <;> rfl

theorem xor_word (r c : Nat) (hr : r < 256) (hc : c < 256) :
    IntOp.xori (BitVec.ofNat 32 r) (BitVec.ofNat 32 c) = BitVec.ofNat 32 (r ^^^ c) := by
  apply BitVec.eq_of_toNat_eq
  have h : r ^^^ c < 2 ^ 8 := Nat.xor_lt_two_pow hr hc
  simp only [IntOp.xori, BitVec.toNat_xor, BitVec.toNat_ofNat]
  rw [Nat.mod_eq_of_lt (by omega), Nat.mod_eq_of_lt (by omega), Nat.mod_eq_of_lt (by omega)]

theorem slt_word : ∀ x : Fin 256, IntOp.cmpi .slt (BitVec.ofNat 32 x.val) 64#32 = if x.val / 2 ^ 6 = 0 then 1#1 else 0#1 := by
  decide +kernel

theorem shr_word : ∀ (b : Fin 6) (x : Fin 256),
    IntOp.cmpi .eq (IntOp.shrui ArithUnit.vector (BitVec.ofNat 32 x.val) (BitVec.ofNat 32 b.val)) 1#32
      = if x.val / 2 ^ b.val = 1 then 1#1 else 0#1 := by
  decide +kernel

theorem bit_word : ∀ (b : Fin 6) (x : Fin 256),
    IntOp.cmpi .ne (IntOp.andi (BitVec.ofNat 32 x.val) (BitVec.ofNat 32 (2 ^ b.val))) 0#32
      = if x.val / 2 ^ b.val % 2 = 1 then 1#1 else 0#1 := by
  decide +kernel

theorem ofBool_ite (p : Prop) [Decidable p] : BitVec.ofBool (decide p) = if p then 1#1 else 0#1 := by
  by_cases p <;> simp [*]

theorem sge_word (r c : Fin 256) : IntOp.cmpi .sge (BitVec.ofNat 32 r.val) (BitVec.ofNat 32 c.val)
    = if c.val ≤ r.val then 1#1 else 0#1 := by
  word_cmp; exact ofBool_ite _

theorem sle_word (r c : Fin 256) : IntOp.cmpi .sle (BitVec.ofNat 32 r.val) (BitVec.ofNat 32 c.val)
    = if r.val ≤ c.val then 1#1 else 0#1 := by
  word_cmp; exact ofBool_ite _

theorem eq_word (r c : Fin 256) : IntOp.cmpi .eq (BitVec.ofNat 32 r.val) (BitVec.ofNat 32 c.val)
    = if r.val = c.val then 1#1 else 0#1 := by
  word_cmp; exact ofBool_ite _

theorem andi_ite (p q : Prop) [Decidable p] [Decidable q] :
    IntOp.andi (if p then 1#1 else 0#1) (if q then 1#1 else 0#1) = if p ∧ q then 1#1 else 0#1 := by
  by_cases p <;> by_cases q <;> simp [*, IntOp.andi]

theorem ite_word (p q : Prop) [Decidable p] [Decidable q] (h : p ↔ q) :
    (if p then 1#1 else 0#1) = if q then 1#1 else 0#1 := by
  by_cases q <;> simp [*]

theorem xor_zero_iff (x y : Nat) : x ^^^ y = 0 ↔ x = y :=
  ⟨fun h => by have := congrArg (· ^^^ y) h; simpa [Nat.xor_assoc] using this, fun h => by rw [h, Nat.xor_self]⟩

theorem xor_div_zero (r c b : Nat) : (r ^^^ c) / 2 ^ b = 0 ↔ r / 2 ^ b = c / 2 ^ b := by
  rw [Nat.xor_div_two_pow, xor_zero_iff]

theorem xor_div_one (r c b : Nat) : (r ^^^ c) / 2 ^ b = 1 ∧ r / 2 ^ b % 2 = 1 ↔
    r / (2 * 2 ^ b) = c / (2 * 2 ^ b) ∧ r / 2 ^ b = c / 2 ^ b + 1 := by
  rw [Nat.xor_div_two_pow, Gdn.div_two_mul, Gdn.div_two_mul]
  generalize r / 2 ^ b = x
  generalize c / 2 ^ b = y
  have h1 : (x ^^^ y) / 2 = x / 2 ^^^ y / 2 := Nat.xor_div_two
  have h2 : (x ^^^ y) % 2 = (x + y) % 2 := Nat.xor_mod_two_eq
  have h3 : x / 2 ^^^ y / 2 = 0 ↔ x / 2 = y / 2 := xor_zero_iff _ _
  generalize x ^^^ y = z at *
  generalize x / 2 ^^^ y / 2 = u at *
  omega

theorem inChunk_at (r c : Fin 256) : inChunk (ix2 r c) = if r.val / 64 = c.val / 64 then 1#1 else 0#1 := by
  pointwise [inChunk, xorIx, rowIx, colIx]
  rw [xor_word _ _ r.isLt c.isLt, slt_word ⟨_, Nat.xor_lt_two_pow (n := 8) r.isLt c.isLt⟩]
  exact ite_word _ _ (xor_div_zero r c 6)

theorem incl_at (r c : Fin 256) : incl (ix2 r c) = if r.val / 64 = c.val / 64 ∧ c.val ≤ r.val then 1#1 else 0#1 := by
  pointwise [incl, rowIx, colIx, inChunk_at]
  rw [sge_word, andi_ite]

theorem upper_at (r c : Fin 256) : upper (ix2 r c) = if r.val / 64 = c.val / 64 ∧ r.val ≤ c.val then 1#1 else 0#1 := by
  pointwise [upper, rowIx, colIx, inChunk_at]
  rw [sle_word, andi_ite]

theorem lev_at (b : Fin 6) (r c : Fin 256) : lev (BitVec.ofNat 32 b.val) (BitVec.ofNat 32 (2 ^ b.val)) (ix2 r c)
    = if r.val / (2 * 2 ^ b.val) = c.val / (2 * 2 ^ b.val) ∧ r.val / 2 ^ b.val = c.val / 2 ^ b.val + 1 then 1#1 else 0#1 := by
  pointwise [lev, xorIx, rowIx, colIx]
  rw [xor_word _ _ r.isLt c.isLt, shr_word b ⟨_, Nat.xor_lt_two_pow (n := 8) r.isLt c.isLt⟩, bit_word b r, andi_ite]
  exact ite_word _ _ (xor_div_one r c b)

/-! ### Columns and rows of per-head scalars -/

theorem headCol_at (j : Fin 8) (w : BitVec 32) (hw : w = BitVec.ofNat 32 j.val) (x : FVec Ideal S256x8 .f32) (r : Fin 256) :
    headCol w x (ix2 r 0) = x (ix2 r j) := by
  pointwise [headCol, zero]
  refine (Finset.sum_eq_single j (fun k _ hk => ?_) (fun h => absurd (Finset.mem_univ _) h)).trans ?_
  · have : IntOp.cmpi .eq (BitVec.ofNat 32 k.val) w = 0#1 := by
      subst hw; revert j k; decide
    rw [this]; rfl
  · have : IntOp.cmpi .eq (BitVec.ofNat 32 j.val) w = 1#1 := by
      subst hw; revert j; decide
    rw [this]; rfl

theorem headRow_at (j : Fin 8) (w : BitVec 32) (hw : w = BitVec.ofNat 32 j.val) (x : FVec Ideal S8x256 .f32) (r c : Fin 256) :
    headRow w x (ix2 r c) = x (ix2 j c) := by
  pointwise [headRow, zero]
  refine (Finset.sum_eq_single j (fun k _ hk => ?_) (fun h => absurd (Finset.mem_univ _) h)).trans ?_
  · have : IntOp.cmpi .eq (BitVec.ofNat 32 k.val) w = 0#1 := by
      subst hw; revert j k; decide
    rw [this]; rfl
  · have : IntOp.cmpi .eq (BitVec.ofNat 32 j.val) w = 1#1 := by
      subst hw; revert j; decide
    rw [this]; rfl

theorem maskSum_at (b : IVec S256x256 1) (p : Fin 256 → Fin 256 → Prop) [∀ r c, Decidable (p r c)]
    (hb : ∀ r c, b (ix2 r c) = if p r c then 1#1 else 0#1)
    (x : FVec Ideal S256x256 .f32) (r : Fin 256) :
    maskSum b x (ix2 r 0) = ∑ c : Fin 256, if p r c then x (ix2 r c) else 0 := by
  pointwise [maskSum, zero]
  refine Finset.sum_congr rfl fun c _ => ?_
  rw [hb, select_ite]

theorem gcRow_at (x : FVec Ideal S256x1 .f32) (c : Fin 256) :
    gcRow x (ix2 0 c) = ∑ r : Fin 256, if r.val / 64 = c.val / 64 ∧ r.val ≤ c.val then x (ix2 r 0) else 0 := by
  pointwise [gcRow, zero]
  refine Finset.sum_congr rfl fun r _ => ?_
  rw [upper_at, select_ite]

theorem decay_at (a : FVec Ideal S256x1 .f32) (b : FVec Ideal S1x256 .f32) (r c : Fin 256) :
    decay a b (ix2 r c) = if r.val / 64 = c.val / 64 ∧ c.val ≤ r.val then
      Ideal.exp (min (a (ix2 r 0) - b (ix2 0 c)) 0) else 0 := by
  pointwise [decay, zero]
  rw [incl_at, select_ite]

theorem lmat_at (kb q k : FVec Ideal S256x128 .f32) (d : FVec Ideal S256x256 .f32) (r c : Fin 256) :
    lmat (gram kb q k) d (ix2 r c) = (∑ e : Fin 128, kb (ix2 r e) * k (ix2 c e)) * d (ix2 r c) := by
  pointwise [lmat, gram, round]

theorem aqk_at (kb q k : FVec Ideal S256x128 .f32) (d : FVec Ideal S256x256 .f32) (r c : Fin 256) :
    aqk (gram kb q k) d (ix2 r c) = if r.val / 64 = c.val / 64 ∧ c.val ≤ r.val then
      (∑ e : Fin 128, q (ix2 r e) * k (ix2 c e)) * d (ix2 r c) else 0 := by
  pointwise [aqk, gram, round, zero]
  rw [incl_at, select_ite]

theorem rhs_at (v kb : FVec Ideal S256x128 .f32) (b eg : FVec Ideal S256x1 .f32) (r e : Fin 256) :
    rhs v kb b eg (ix2 r e) = if h : e.val < 128 then v (ix2 r ⟨e.val, h⟩) * b (ix2 r 0)
      else kb (ix2 r ⟨e.val - 128, by omega⟩) * eg (ix2 r 0) := by
  pointwise [rhs, round, rowScale]

theorem mm_at (x y : FVec Ideal S256x256 .bf16) (r c : Fin 256) :
    mm x y (ix2 r c) = ∑ k : Fin 256, x (ix2 r k) * y (ix2 k c) := by
  pointwise [mm]

/-! ### The inverse -/

/-- A tile of extended reals holding a real matrix. -/
def IsMat {φ : FTy} (X : FVec Ideal S256x256 φ) (x : Matrix (Fin 256) (Fin 256) ℝ) : Prop :=
  ∀ r c : Fin 256, X (ix2 r c) = ((x r c : ℝ) : EReal)

theorem eye_at (r c : Fin 256) : eye (F := Ideal) (ix2 r c) = (((1 : Matrix (Fin 256) (Fin 256) ℝ) r c : ℝ) : EReal) := by
  pointwise [eye, rowIx, colIx]
  rw [eq_word, Matrix.one_apply]
  by_cases h : r = c
  · rw [if_pos (by rw [h]), if_pos h]
    change (((BitVec.setWidth 32 1#1).toInt : ℝ) : EReal) = _
    norm_num
  · rw [if_neg (fun e => h (Fin.ext e)), if_neg h]
    change (((BitVec.setWidth 32 0#1).toInt : ℝ) : EReal) = _
    norm_num

theorem quarter_select (n : Nat) (l : Matrix (Fin 256) (Fin 256) ℝ) (r c : Fin 256) (x : ℝ) :
    Scalar.select (if r.val / (2 * n) = c.val / (2 * n) ∧ r.val / n = c.val / n + 1 then 1#1 else 0#1)
      (((l r c : ℝ) : EReal) * ((x : ℝ) : EReal)) 0 = ((Gdn.quarter n l r c * x : ℝ) : EReal) := by
  rw [select_ite, ← EReal.coe_mul, ← EReal.coe_zero, Gdn.coe_ite]
  congr 1
  unfold Gdn.quarter
  split <;> simp

theorem inv0_at (L : FVec Ideal S256x256 .f32) (l : Matrix (Fin 256) (Fin 256) ℝ) (hL : IsMat L l) :
    IsMat (inv0 L) (1 - 1 * (Gdn.quarter 1 l * 1)) := by
  intro r c
  have h := lev_at 0 r c
  pointwise [inv0, zero]
  rw [eye_at, show lev 0#32 1#32 (ix2 r c) = _ from h, hL]
  have := quarter_select 1 l r c 1
  rw [EReal.coe_one, mul_one, mul_one] at this
  have e : (1 - Gdn.quarter 1 l : Matrix (Fin 256) (Fin 256) ℝ) r c = (1 : Matrix (Fin 256) (Fin 256) ℝ) r c - Gdn.quarter 1 l r c := rfl
  refine Eq.trans ?_ (congrArg ((↑) : ℝ → EReal) e.symm)
  rw [EReal.coe_sub]
  rw [mul_one] at this
  exact congrArg _ this

/-- A doubled inverse, entry by entry. -/
theorem step_sum (n : Nat) (l t : Matrix (Fin 256) (Fin 256) ℝ) (r c : Fin 256) :
    ((t r c : ℝ) : EReal) - ∑ x : Fin 256, ((t r x : ℝ) : EReal) * ∑ y : Fin 256, ((Gdn.quarter n l x y * t y c : ℝ) : EReal)
      = (((t - t * (Gdn.quarter n l * t)) r c : ℝ) : EReal) := by
  simp only [Gdn.coe_sum, ← EReal.coe_mul, ← EReal.coe_sub]
  rw [Matrix.sub_apply, Matrix.mul_apply]
  simp only [Matrix.mul_apply]

theorem invStep_at (b : Fin 6) (L T : FVec Ideal S256x256 .f32) (l t : Matrix (Fin 256) (Fin 256) ℝ)
    (hL : IsMat L l) (hT : IsMat T t) :
    IsMat (invStep (lev (BitVec.ofNat 32 b.val) (BitVec.ofNat 32 (2 ^ b.val))) L T)
      (t - t * (Gdn.quarter (2 ^ b.val) l * t)) := by
  intro r c
  pointwise [invStep, round, zero]
  simp only [hT _ _, hL _ _, lev_at, quarter_select]
  exact step_sum _ l t r c

theorem low3_at (x : FVec Ideal S256x256 .f32) (i : Fin 128) (c : Fin 256) :
    low3 x (ix2 i c) = x (ix2 ⟨i.val / 8 * 16 + 8 + i.val % 8, by omega⟩ c) := by
  pointwise [low3]

theorem low4_at (x : FVec Ideal S256x256 .f32) (i : Fin 128) (c : Fin 256) :
    low4 x (ix2 i c) = x (ix2 ⟨i.val / 16 * 32 + 16 + i.val % 16, by omega⟩ c) := by
  pointwise [low4]

theorem low5_at (x : FVec Ideal S256x256 .f32) (i : Fin 128) (c : Fin 256) :
    low5 x (ix2 i c) = x (ix2 ⟨i.val / 32 * 64 + 32 + i.val % 32, by omega⟩ c) := by
  pointwise [low5]

theorem halfMask_word (n : Fin 6) (W : BitVec 32) (R : Nat) (hW : W = BitVec.ofNat 32 R) (hR : R < 256) (ho : R / 2 ^ n.val % 2 = 1) (c : Fin 256) (p : Prop) [Decidable p]
    (hp : p ↔ R / (2 * 2 ^ n.val) = c.val / (2 * 2 ^ n.val) ∧ R / 2 ^ n.val = c.val / 2 ^ n.val + 1) :
    IntOp.cmpi .eq (IntOp.shrui ArithUnit.vector (IntOp.xori W (BitVec.ofNat 32 c.val)) (BitVec.ofNat 32 n.val)) 1#32
      = if p then 1#1 else 0#1 := by
  rw [hW, xor_word _ _ hR c.isLt, shr_word n ⟨_, Nat.xor_lt_two_pow (n := 8) hR c.isLt⟩]
  refine ite_word _ _ (Iff.trans ?_ ((xor_div_one R c n.val).trans hp.symm))
  exact ⟨fun h => ⟨h, ho⟩, fun h => h.1⟩

/-- The row number of a lower-half row, as a word. -/
abbrev halfRow (b b1 p p1 : BitVec 32) (i : Nat) : BitVec 32 :=
  IntOp.addi (IntOp.addi (IntOp.shli ArithUnit.vector (IntOp.shrui ArithUnit.vector (BitVec.ofNat 32 i) b) b1) p)
    (IntOp.andi (BitVec.ofNat 32 i) p1)

theorem halfRow3 : ∀ i : Fin 128, halfRow 3#32 4#32 8#32 7#32 i.val = BitVec.ofNat 32 (i.val / 8 * 16 + 8 + i.val % 8) := by
  decide +kernel

theorem halfRow4 : ∀ i : Fin 128, halfRow 4#32 5#32 16#32 15#32 i.val = BitVec.ofNat 32 (i.val / 16 * 32 + 16 + i.val % 16) := by
  decide +kernel

theorem halfRow5 : ∀ i : Fin 128, halfRow 5#32 6#32 32#32 31#32 i.val = BitVec.ofNat 32 (i.val / 32 * 64 + 32 + i.val % 32) := by
  decide +kernel

theorem halfMask3_at (i : Fin 128) (c : Fin 256) : halfMask 3#32 4#32 8#32 7#32 (ix2 i c)
    = if (i.val / 8 * 16 + 8 + i.val % 8) / 16 = c.val / 16 ∧ (i.val / 8 * 16 + 8 + i.val % 8) / 8 = c.val / 8 + 1 then 1#1 else 0#1 := by
  pointwise [halfMask]
  exact halfMask_word 3 _ _ (halfRow3 i) (by omega) (by show _ / 8 % 2 = 1; omega) c _ Iff.rfl

theorem halfMask4_at (i : Fin 128) (c : Fin 256) : halfMask 4#32 5#32 16#32 15#32 (ix2 i c)
    = if (i.val / 16 * 32 + 16 + i.val % 16) / 32 = c.val / 32 ∧ (i.val / 16 * 32 + 16 + i.val % 16) / 16 = c.val / 16 + 1 then 1#1 else 0#1 := by
  pointwise [halfMask]
  exact halfMask_word 4 _ _ (halfRow4 i) (by omega) (by show _ / 16 % 2 = 1; omega) c _ Iff.rfl

theorem halfMask5_at (i : Fin 128) (c : Fin 256) : halfMask 5#32 6#32 32#32 31#32 (ix2 i c)
    = if (i.val / 32 * 64 + 32 + i.val % 32) / 64 = c.val / 64 ∧ (i.val / 32 * 64 + 32 + i.val % 32) / 32 = c.val / 32 + 1 then 1#1 else 0#1 := by
  pointwise [halfMask]
  exact halfMask_word 5 _ _ (halfRow5 i) (by omega) (by show _ / 32 % 2 = 1; omega) c _ Iff.rfl

/-- The doubling on lower-half rows is the doubling on whole matrices. -/
theorem half_core (n : Nat) (T L : FVec Ideal S256x256 .f32) (l t : Matrix (Fin 256) (Fin 256) ℝ)
    (hL : IsMat L l) (hT : IsMat T t) (ht : Gdn.Inv n l t) (u f : Fin 256 → Fin 256)
    (hu : ∀ r : Fin 256, r.val / n % 2 = 0 → u r = r) (hf : ∀ r : Fin 256, ¬ r.val / n % 2 = 0 → f r = r) (r c : Fin 256) :
    (if r.val / n % 2 = 0 then T (ix2 (u r) c) else
      T (ix2 (f r) c) - ∑ x : Fin 256, T (ix2 (f r) x) * (if x.val / n % 2 = 0 then 0 else
        ∑ y : Fin 256, Scalar.select (if (f x).val / (2 * n) = y.val / (2 * n) ∧ (f x).val / n = y.val / n + 1 then 1#1 else 0#1)
          (L (ix2 (f x) y) * T (ix2 y c)) 0))
      = (((t - t * (Gdn.quarter n l * t)) r c : ℝ) : EReal) := by
  by_cases hr : r.val / n % 2 = 0
  · rw [if_pos hr, hu r hr, hT, Matrix.sub_apply, Gdn.step_upper n l t ht.2 r c hr, sub_zero]
  · rw [if_neg hr, hf r hr, hT, ← step_sum]
    congr 1
    refine Finset.sum_congr rfl fun x _ => ?_
    rw [hT]
    congr 1
    by_cases hx : x.val / n % 2 = 0
    · rw [if_pos hx]
      refine (Finset.sum_eq_zero fun y _ => ?_).symm
      have : ¬ (x.val / (2 * n) = y.val / (2 * n) ∧ x.val / n = y.val / n + 1) := by
        simp only [Gdn.div_two_mul]; omega
      simp only [Gdn.quarter, if_neg this, zero_mul, EReal.coe_zero]
    · rw [if_neg hx, hf x hx]
      refine Finset.sum_congr rfl fun y _ => ?_
      rw [hT, hL, quarter_select]

theorem stack3_at (x : FVec Ideal S16x8x256 .f32) (y : FVec Ideal S128x256 .f32) (r c : Fin 256) :
    stack3 x y (ix2 r c) = if r.val / 8 % 2 = 0 then x (ix3 ⟨r.val / 16, by omega⟩ ⟨r.val % 8, by omega⟩ c)
      else y (ix2 ⟨r.val / 16 * 8 + r.val % 8, by omega⟩ c) := by
  pointwise [stack3]
  by_cases h : r.val / 8 % 2 = 0 <;> simp [h]

theorem stack4_at (x : FVec Ideal S8x16x256 .f32) (y : FVec Ideal S128x256 .f32) (r c : Fin 256) :
    stack4 x y (ix2 r c) = if r.val / 16 % 2 = 0 then x (ix3 ⟨r.val / 32, by omega⟩ ⟨r.val % 16, by omega⟩ c)
      else y (ix2 ⟨r.val / 32 * 16 + r.val % 16, by omega⟩ c) := by
  pointwise [stack4]
  by_cases h : r.val / 16 % 2 = 0 <;> simp [h]

theorem stack5_at (x : FVec Ideal S4x32x256 .f32) (y : FVec Ideal S128x256 .f32) (r c : Fin 256) :
    stack5 x y (ix2 r c) = if r.val / 32 % 2 = 0 then x (ix3 ⟨r.val / 64, by omega⟩ ⟨r.val % 32, by omega⟩ c)
      else y (ix2 ⟨r.val / 64 * 32 + r.val % 32, by omega⟩ c) := by
  pointwise [stack5]
  by_cases h : r.val / 32 % 2 = 0 <;> simp [h]

theorem invHalf3_at (L T : FVec Ideal S256x256 .f32) (l t : Matrix (Fin 256) (Fin 256) ℝ)
    (hL : IsMat L l) (hT : IsMat T t) (ht : Gdn.Inv 8 l t) :
    IsMat (invHalf3 L T) (t - t * (Gdn.quarter 8 l * t)) := by
  intro r c
  pointwise [invHalf3, round, zero, stack3_at, low3_at, halfMask3_at]
  exact half_core 8 T L l t hL hT ht (fun r => ⟨r.val / 16 * 16 + r.val % 8, by omega⟩)
    (fun r => ⟨(r.val / 16 * 8 + r.val % 8) / 8 * 16 + 8 + (r.val / 16 * 8 + r.val % 8) % 8, by omega⟩)
    (fun r h => Fin.ext (by dsimp only; omega)) (fun r h => Fin.ext (by dsimp only; omega)) r c

theorem invHalf4_at (L T : FVec Ideal S256x256 .f32) (l t : Matrix (Fin 256) (Fin 256) ℝ)
    (hL : IsMat L l) (hT : IsMat T t) (ht : Gdn.Inv 16 l t) :
    IsMat (invHalf4 L T) (t - t * (Gdn.quarter 16 l * t)) := by
  intro r c
  pointwise [invHalf4, round, zero, stack4_at, low4_at, halfMask4_at]
  exact half_core 16 T L l t hL hT ht (fun r => ⟨r.val / 32 * 32 + r.val % 16, by omega⟩)
    (fun r => ⟨(r.val / 32 * 16 + r.val % 16) / 16 * 32 + 16 + (r.val / 32 * 16 + r.val % 16) % 16, by omega⟩)
    (fun r h => Fin.ext (by dsimp only; omega)) (fun r h => Fin.ext (by dsimp only; omega)) r c

theorem invHalf5_at (L T : FVec Ideal S256x256 .f32) (l t : Matrix (Fin 256) (Fin 256) ℝ)
    (hL : IsMat L l) (hT : IsMat T t) (ht : Gdn.Inv 32 l t) :
    IsMat (invHalf5 L T) (t - t * (Gdn.quarter 32 l * t)) := by
  intro r c
  pointwise [invHalf5, round, zero, stack5_at, low5_at, halfMask5_at]
  exact half_core 32 T L l t hL hT ht (fun r => ⟨r.val / 64 * 64 + r.val % 32, by omega⟩)
    (fun r => ⟨(r.val / 64 * 32 + r.val % 32) / 32 * 64 + 32 + (r.val / 64 * 32 + r.val % 32) % 32, by omega⟩)
    (fun r h => Fin.ext (by dsimp only; omega)) (fun r h => Fin.ext (by dsimp only; omega)) r c

/-- The six doublings invert the unit lower triangular matrix of each chunk. -/
theorem inv_at (L : FVec Ideal S256x256 .f32) (l : Matrix (Fin 256) (Fin 256) ℝ) (hL : IsMat L l) :
    ∃ t, IsMat (inv L) t ∧ t * (1 + Gdn.blockLow 64 l) = 1 := by
  have i1 := Gdn.inv_step 1 l 1 (Gdn.inv_one l)
  have i2 := Gdn.inv_step 2 l _ i1
  have i4 := Gdn.inv_step 4 l _ i2
  have i8 := Gdn.inv_step 8 l _ i4
  have i16 := Gdn.inv_step 16 l _ i8
  have i32 := Gdn.inv_step 32 l _ i16
  have m1 := inv0_at L l hL
  have m2 := invStep_at 1 L _ l _ hL m1
  have m4 := invStep_at 2 L _ l _ hL m2
  have m8 := invHalf3_at L _ l _ hL m4 i4
  have m16 := invHalf4_at L _ l _ hL m8 i8
  have m32 := invHalf5_at L _ l _ hL m16 i16
  exact ⟨_, m32, i32.1⟩

end Cert.KernelIdeal.Tile
end
-- ==== Proof.Rows.lean ====
module

public import proofs.«01_k».proof.Proof.Spec
public import Idealize.ShloMosaic.PureOps.Ideal

/-! The whole call over the reals: the sequences' chunks one after the other, every state, every output row. -/

@[expose] public section

noncomputable section

namespace Gdn

open Idealize.ShloMosaic

/-- Column `d` of head `j`. -/
abbrev col (j : Fin 8) (d : Fin 128) : Fin 1024 := ⟨j.val * 128 + d.val, by omega⟩

/-- Row `t` of chunk `N`. -/
def row (N : ℕ) (t : Fin 64) : Fin 32768 := Fin.ofNat 32768 (N * 64 + t.val)

theorem row_val (N : ℕ) (hN : N < 512) (t : Fin 64) : (row N t).val = N * 64 + t.val := by
  show (N * 64 + t.val) % 32768 = _
  exact Nat.mod_eq_of_lt (by omega)

/-- The call's arguments that the rule reads, as reals. -/
structure Rows where
  q : Fin 32768 → Fin 1024 → ℝ
  k : Fin 32768 → Fin 1024 → ℝ
  v : Fin 32768 → Fin 1024 → ℝ
  be : Fin 32768 → Fin 8 → ℝ
  g : Fin 32768 → Fin 8 → ℝ
  neg : ∀ r j, g r j ≤ 0

variable (X : Rows) (j : Fin 8) (N : ℕ)

def Rows.cq (t : Fin 64) (d : Fin 128) : ℝ := X.q (row N t) (col j d)
def Rows.ck (t : Fin 64) (d : Fin 128) : ℝ := X.k (row N t) (col j d)
def Rows.cv (t : Fin 64) (d : Fin 128) : ℝ := X.v (row N t) (col j d)
def Rows.cb (t : Fin 64) : ℝ := X.be (row N t) j
def Rows.cg (t : Fin 64) : ℝ := X.g (row N t) j

/-- The state after chunk `N` of head `j`, from the state before it. -/
def Rows.step (S : Fin 128 → Fin 128 → ℝ) : Fin 128 → Fin 128 → ℝ :=
  next (X.ck j N) (X.cv j N) (X.cb j N) (X.cg j N) S

/-- The state before a chunk: a sequence of 32 chunks starts from zero. -/
def Rows.st : ℕ → Fin 128 → Fin 128 → ℝ
  | 0 => 0
  | N + 1 => if (N + 1) % 32 = 0 then 0 else X.step j N (Rows.st N)

/-- The output of chunk `N` of head `j`. -/
def Rows.o : Fin 64 → Fin 128 → ℝ :=
  out (X.cq j N) (X.ck j N) (X.cv j N) (X.cb j N) (X.cg j N) (X.st j N)

theorem Rows.st_start (h : N % 32 = 0) : X.st j N = 0 := by
  cases N with
  | zero => rfl
  | succ N => exact if_pos h

theorem Rows.st_next (h : (N + 1) % 32 ≠ 0) : X.st j (N + 1) = X.step j N (X.st j N) := if_neg h

/-- A row's output: rms norm, weight, gate. -/
def gated (o : Fin 128 → ℝ) (go z : EReal) (e : Fin 128) : EReal :=
  ((o e : ℝ) : EReal) * Ideal.rsqrt (Ideal.div (((∑ x : Fin 128, o x * o x : ℝ) : ℝ) : EReal) (Ideal.ofBits .f32 0x43000000#32)
    + Ideal.ofBits .f32 0x358637BD#32) * go * (z * Ideal.div 1 (1 + Ideal.exp (-z)))

/-- The head of a column. -/
abbrev hd (c : Fin 1024) : Fin 8 := ⟨c.val / 128, by omega⟩

/-- A column's place in its head. -/
abbrev lc (c : Fin 1024) : Fin 128 := ⟨c.val % 128, by omega⟩

/-- The call's result at a row and a column. -/
def Rows.result (go : Fin 128 → EReal) (z : Fin 32768 → Fin 1024 → EReal) (r : Fin 32768) (c : Fin 1024) : EReal :=
  gated (X.o (hd c) (r.val / 64) ⟨r.val % 64, by omega⟩) (go (lc c)) (z r c) (lc c)

theorem col_parts (c : Fin 1024) : col (hd c) (lc c) = c := Fin.ext (by show c.val / 128 * 128 + c.val % 128 = c.val; omega)

theorem result_at (go : Fin 128 → EReal) (z : Fin 32768 → Fin 1024 → EReal) (hN : N < 512) (t : Fin 64) (e : Fin 128) :
    X.result go z (row N t) (col j e) = gated (X.o j N t) (go e) (z (row N t) (col j e)) e := by
  have h1 : hd (col j e) = j := Fin.ext (by show (j.val * 128 + e.val) / 128 = j.val; omega)
  have h2 : lc (col j e) = e := Fin.ext (by show (j.val * 128 + e.val) % 128 = e.val; omega)
  have h3 : (row N t).val / 64 = N := by rw [row_val N hN]; omega
  have h4 : (⟨(row N t).val % 64, by omega⟩ : Fin 64) = t := Fin.ext (by show (row N t).val % 64 = t.val; rw [row_val N hN]; omega)
  unfold Rows.result
  rw [h1, h2, h3, h4]

end Gdn
end
-- ==== Proof.TileHead.lean ====
module

public import proofs.«01_k».proof.Proof.TileVal
public import proofs.«01_k».proof.Proof.Rows

/-! One head's tile over the reals: the kernel's values are the chunk arithmetic of `Spec`. -/

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic Idealize.SL.Sem

/-- Row `t` of chunk `n` of a tile. -/
abbrev cat (n : Fin 4) (t : Fin 64) : Fin 256 := ⟨n.val * 64 + t.val, by omega⟩

theorem cat_div (n : Fin 4) (t : Fin 64) : (cat n t).val / 64 = n.val := by
  show (n.val * 64 + t.val) / 64 = n.val; omega

/-- Chunk `n` of a tile's rows. -/
abbrev ch {α : Type} (x : Fin 256 → α) (n : Fin 4) (t : Fin 64) : α := x (cat n t)

/-- A sum over a tile's rows that is zero outside one chunk. -/
theorem sum_chunk {M : Type} [AddCommMonoid M] (n : Fin 4) (f : Fin 256 → M) (hf : ∀ c : Fin 256, c.val / 64 ≠ n.val → f c = 0) :
    ∑ c : Fin 256, f c = ∑ j : Fin 64, f (cat n j) := by
  rw [Fin.sum_univ_tiles 4 64 rfl f]
  refine Finset.sum_eq_single n (fun m _ hm => Finset.sum_eq_zero fun j _ => hf _ ?_) (fun h => absurd (Finset.mem_univ _) h)
  intro e
  exact hm (Fin.ext ((cat_div m j).symm.trans e))

/-- The data of one head's tile, as reals. -/
structure Data where
  q : Fin 256 → Fin 128 → ℝ
  k : Fin 256 → Fin 128 → ℝ
  v : Fin 256 → Fin 128 → ℝ
  be : Fin 256 → ℝ
  g : Fin 256 → ℝ
  neg : ∀ r, g r ≤ 0

/-- The tiles a head loads hold the data. -/
structure Holds (D : Data) (j : Fin 8) (w : BitVec 32) (q k v : FVec Ideal S256x128 .f32) (be g : FVec Ideal S256x8 .f32)
    (gt : FVec Ideal S8x256 .f32) : Prop where
  w : w = BitVec.ofNat 32 j.val
  q : ∀ (r : Fin 256) (d : Fin 128), q (ix2 r d) = ((D.q r d : ℝ) : EReal)
  k : ∀ (r : Fin 256) (d : Fin 128), k (ix2 r d) = ((D.k r d : ℝ) : EReal)
  v : ∀ (r : Fin 256) (d : Fin 128), v (ix2 r d) = ((D.v r d : ℝ) : EReal)
  be : ∀ r : Fin 256, be (ix2 r j) = ((D.be r : ℝ) : EReal)
  g : ∀ r : Fin 256, g (ix2 r j) = ((D.g r : ℝ) : EReal)
  gt : ∀ r : Fin 256, gt (ix2 j r) = ((D.g r : ℝ) : EReal)

variable {D : Data} {j : Fin 8} {w : BitVec 32} {q k v : FVec Ideal S256x128 .f32} {be g : FVec Ideal S256x8 .f32}
  {gt : FVec Ideal S8x256 .f32} (H : Holds D j w q k v be g gt)

/-- The running decay exponent of a tile's row. -/
def Data.gc (D : Data) (r : Fin 256) : ℝ := ∑ c : Fin 256, if r.val / 64 = c.val / 64 ∧ c.val ≤ r.val then D.g c else 0

theorem Data.gc_cat (D : Data) (n : Fin 4) (t : Fin 64) : D.gc (cat n t) = Gdn.gc (ch D.g n) t := by
  unfold Data.gc Gdn.gc
  rw [sum_chunk n]
  · refine Finset.sum_congr rfl fun j _ => ?_
    rw [cat_div, cat_div]
    simp only [true_and, ch]
    by_cases h : j.val ≤ t.val
    · rw [if_pos h, if_pos (by omega)]
    · rw [if_neg h, if_neg (by omega)]
  · intro c hc
    rw [cat_div, if_neg (fun e => hc e.1.symm)]

theorem Data.gc_anti (D : Data) (r c : Fin 256) (h : r.val / 64 = c.val / 64) (hc : c.val ≤ r.val) : D.gc r ≤ D.gc c := by
  refine Finset.sum_le_sum fun x _ => ?_
  have := D.neg x
  by_cases h1 : c.val / 64 = x.val / 64 ∧ x.val ≤ c.val
  · rw [if_pos h1, if_pos ⟨h.trans h1.1, h1.2.trans hc⟩]
  · rw [if_neg h1]; split <;> simp [this]

include H

theorem gcCol_at (r : Fin 256) : maskSum incl (headRow w gt) (ix2 r 0) = ((D.gc r : ℝ) : EReal) := by
  rw [maskSum_at incl _ incl_at]
  simp only [headRow_at j w H.w, H.gt, ← EReal.coe_zero, Gdn.coe_ite, Gdn.coe_sum]
  rfl

theorem glCol_at (n : Fin 4) (t : Fin 64) : maskSum inChunk (headRow w gt) (ix2 (cat n t) 0) = ((Gdn.gl (ch D.g n) : ℝ) : EReal) := by
  rw [maskSum_at inChunk _ inChunk_at]
  simp only [headRow_at j w H.w, H.gt, ← EReal.coe_zero, Gdn.coe_ite, Gdn.coe_sum]
  rw [sum_chunk n]
  · exact congrArg _ (Finset.sum_congr rfl fun i _ => if_pos ((cat_div n t).trans (cat_div n i).symm))
  · intro c hc
    rw [cat_div, if_neg (fun e => hc e.symm)]

theorem gcRow_at' (c : Fin 256) : gcRow (headCol w g) (ix2 0 c) = ((D.gc c : ℝ) : EReal) := by
  rw [gcRow_at]
  simp only [headCol_at j w H.w, H.g, ← EReal.coe_zero, Gdn.coe_ite, Gdn.coe_sum]
  unfold Data.gc
  congr 1
  refine Finset.sum_congr rfl fun x _ => ?_
  simp only [eq_comm]

/-- The decay between two rows of a tile. -/
def Data.dec (D : Data) (r c : Fin 256) : ℝ := if r.val / 64 = c.val / 64 ∧ c.val ≤ r.val then Real.exp (D.gc r - D.gc c) else 0

theorem decay_at' (r c : Fin 256) :
    decay (maskSum incl (headRow w gt)) (gcRow (headCol w g)) (ix2 r c) = ((D.dec r c : ℝ) : EReal) := by
  rw [decay_at, gcCol_at H, gcRow_at' H, Data.dec]
  by_cases h : r.val / 64 = c.val / 64 ∧ c.val ≤ r.val
  · rw [if_pos h, if_pos h]
    have := D.gc_anti r c h.1 h.2
    rw [← EReal.coe_sub, min_eq_left (by exact_mod_cast sub_nonpos.2 this), Ideal.exp_coe]
  · rw [if_neg h, if_neg h]; rfl

/-- The triangular system's matrix, before its mask. -/
def Data.l (D : Data) : Matrix (Fin 256) (Fin 256) ℝ := fun r c => (∑ e : Fin 128, D.k r e * D.be r * D.k c e) * D.dec r c

theorem kb_at (r : Fin 256) (d : Fin 128) : rowScale k (headCol w be) (ix2 r d) = ((D.k r d * D.be r : ℝ) : EReal) := by
  pointwise [rowScale]
  rw [headCol_at j w H.w, H.k, H.be, EReal.coe_mul]

theorem headL_at : IsMat (headL w k q be g gt) D.l := by
  intro r c
  unfold headL
  rw [lmat_at, decay_at' H]
  simp only [kb_at H, H.k, ← EReal.coe_mul, Gdn.coe_sum]
  rfl

/-- The decayed attention of a tile. -/
def Data.a (D : Data) : Matrix (Fin 256) (Fin 256) ℝ := fun r c => if r.val / 64 = c.val / 64 ∧ c.val ≤ r.val then
    (∑ e : Fin 128, D.q r e * D.k c e) * D.dec r c else 0

theorem headA_at : IsMat (headA w k q be g gt) D.a := by
  intro r c
  unfold headA
  rw [aqk_at, decay_at' H]
  simp only [H.q, H.k, ← EReal.coe_mul, Gdn.coe_sum, ← EReal.coe_zero, Gdn.coe_ite]
  rfl

/-- The right-hand sides of a tile. -/
def Data.r (D : Data) : Matrix (Fin 256) (Fin 256) ℝ := fun r e =>
  if h : e.val < 128 then D.v r ⟨e.val, h⟩ * D.be r else D.k r ⟨e.val - 128, by omega⟩ * D.be r * Real.exp (D.gc r)

theorem rhs_at' : IsMat (rhs v (rowScale k (headCol w be)) (headCol w be) (exp (maskSum incl (headRow w gt)))) D.r := by
  intro r e
  rw [rhs_at]
  unfold Data.r
  have he : exp (maskSum incl (headRow w gt)) (ix2 r 0) = ((Real.exp (D.gc r) : ℝ) : EReal) := by
    have := gcCol_at H r
    pointwise
    rw [this, Ideal.exp_coe]
  by_cases h : e.val < 128
  · rw [dif_pos h, dif_pos h, H.v, headCol_at j w H.w, H.be, EReal.coe_mul]
  · rw [dif_neg h, dif_neg h, kb_at H, he, EReal.coe_mul, EReal.coe_mul, EReal.coe_mul]

omit H in
theorem mm_mat (X Y : FVec Ideal S256x256 .bf16) (x y : Matrix (Fin 256) (Fin 256) ℝ) (hX : IsMat X x) (hY : IsMat Y y) :
    IsMat (mm X Y) (x * y) := by
  intro r c
  rw [mm_at]
  simp only [hX _ _, hY _ _, ← EReal.coe_mul, Gdn.coe_sum]
  rfl

omit H in
theorem round_mat (X : FVec Ideal S256x256 .f32) (x : Matrix (Fin 256) (Fin 256) ℝ) (hX : IsMat X x) : IsMat (round X) x := by
  intro r c
  pointwise [round]
  exact hX r c

/-- The chunks' solutions, as one tile. -/
def Data.x (D : Data) : Matrix (Fin 256) (Fin 256) ℝ := fun r e =>
  Gdn.sol (ch D.k ⟨r.val / 64, by omega⟩) (ch D.v ⟨r.val / 64, by omega⟩) (ch D.be ⟨r.val / 64, by omega⟩)
    (ch D.g ⟨r.val / 64, by omega⟩) ⟨r.val % 64, by omega⟩ e

omit H in
theorem Data.x_cat (D : Data) (n : Fin 4) (t : Fin 64) (e : Fin 256) :
    D.x (cat n t) e = Gdn.sol (ch D.k n) (ch D.v n) (ch D.be n) (ch D.g n) t e := by
  have h1 : (⟨(cat n t).val / 64, by omega⟩ : Fin 4) = n := Fin.ext (cat_div n t)
  have h2 : (⟨(cat n t).val % 64, by omega⟩ : Fin 64) = t := Fin.ext (by show (n.val * 64 + t.val) % 64 = t.val; omega)
  unfold Data.x
  rw [h1, h2]

omit H in
theorem Data.low_cat (D : Data) (n : Fin 4) (t i : Fin 64) :
    Gdn.blockLow 64 D.l (cat n t) (cat n i) = Gdn.low (ch D.k n) (ch D.be n) (ch D.g n) t i := by
  unfold Gdn.blockLow Gdn.low
  rw [cat_div, cat_div]
  by_cases h : i.val < t.val
  · rw [if_pos ⟨rfl, by show n.val * 64 + i.val < n.val * 64 + t.val; omega⟩, if_pos h, Data.l, Data.dec, cat_div, cat_div,
      if_pos ⟨rfl, by show n.val * 64 + i.val ≤ n.val * 64 + t.val; omega⟩, D.gc_cat, D.gc_cat]
  · rw [if_neg (fun e => h (by have := e.2; simp only at this; omega)), if_neg h]

omit H in
theorem Data.solve_eq (D : Data) (t : Matrix (Fin 256) (Fin 256) ℝ) (ht : t * (1 + Gdn.blockLow 64 D.l) = 1) : t * D.r = D.x := by
  have h1 : (1 + Gdn.blockLow 64 D.l) * (t * D.r) = D.r := by
    rw [← Matrix.mul_assoc, mul_eq_one_comm.1 ht, Matrix.one_mul]
  generalize t * D.r = X at *
  funext r e
  have hr : cat ⟨r.val / 64, by omega⟩ ⟨r.val % 64, by omega⟩ = r := Fin.ext (by show r.val / 64 * 64 + r.val % 64 = r.val; omega)
  rw [← hr, D.x_cat]
  generalize (⟨r.val / 64, by omega⟩ : Fin 4) = n
  generalize (⟨r.val % 64, by omega⟩ : Fin 64) = t'
  refine congrFun (congrFun (Gdn.solve_unique _ ?_ _ (fun t e => X (cat n t) e) ?_) t') e
  · intro t i hti
    unfold Gdn.low
    rw [if_neg (by omega)]
  · intro t e
    have := congrFun (congrFun h1 (cat n t)) e
    rw [Matrix.add_mul, Matrix.one_mul, Matrix.add_apply, Matrix.mul_apply, sum_chunk n] at this
    · simp only [D.low_cat] at this
      rw [this]
      unfold Data.r Gdn.rhs
      simp only [D.gc_cat]
    · intro c hc
      unfold Gdn.blockLow
      rw [cat_div, if_neg (fun e => hc e.1.symm), zero_mul]

theorem headSol_at : IsMat (headSol w q k v be g gt) D.x := by
  obtain ⟨t, ht, h1⟩ := inv_at _ _ (headL_at H)
  rw [← D.solve_eq t h1]
  exact round_mat _ _ (mm_mat _ _ _ _ (round_mat _ _ ht) (rhs_at' H))

omit H in
theorem Data.a_cat (D : Data) (n : Fin 4) (t i : Fin 64) :
    D.a (cat n t) (cat n i) = Gdn.att (ch D.q n) (ch D.k n) (ch D.g n) t i := by
  unfold Data.a Gdn.att
  rw [cat_div, cat_div]
  by_cases h : i.val ≤ t.val
  · have h' : (cat n i).val ≤ (cat n t).val := by show n.val * 64 + i.val ≤ n.val * 64 + t.val; omega
    rw [if_pos ⟨rfl, h'⟩, if_pos h, Data.dec, cat_div, cat_div, if_pos ⟨rfl, h'⟩, D.gc_cat, D.gc_cat]
  · rw [if_neg (fun e => h (by have := e.2; simp only at this; omega)), if_neg h]

theorem headAux_at (n : Fin 4) (t : Fin 64) (e : Fin 256) : headAux w q k v be g gt (ix2 (cat n t) e)
    = ((∑ i : Fin 64, Gdn.att (ch D.q n) (ch D.k n) (ch D.g n) t i
        * Gdn.sol (ch D.k n) (ch D.v n) (ch D.be n) (ch D.g n) i e : ℝ) : EReal) := by
  unfold headAux
  rw [mm_mat _ _ _ _ (headA_at H) (headSol_at H), Matrix.mul_apply, sum_chunk n]
  · simp only [D.a_cat, D.x_cat]
  · intro c hc
    unfold Data.a
    rw [cat_div, if_neg (fun e => hc e.1.symm), zero_mul]

theorem headQe_at (n : Fin 4) (t : Fin 64) (d : Fin 128) : headQe w q k v be g gt (ix2 (cat n t) d)
    = ((D.q (cat n t) d * Real.exp (Gdn.gc (ch D.g n) t) - ∑ i : Fin 64, Gdn.att (ch D.q n) (ch D.k n) (ch D.g n) t i
        * Gdn.sol (ch D.k n) (ch D.v n) (ch D.be n) (ch D.g n) i (Gdn.hi d) : ℝ) : EReal) := by
  have h1 := headAux_at H n t (Gdn.hi d)
  have h2 := gcCol_at H (cat n t)
  unfold headQe
  pointwise [qEff, round, rowScale]
  rw [H.q, h2, Ideal.exp_coe]
  refine Eq.trans (congrArg _ h1) ?_
  rw [← EReal.coe_mul, ← EReal.coe_sub, D.gc_cat]

theorem headKd_at (n : Fin 4) (t : Fin 64) (d : Fin 128) : headKd w k gt (ix2 (cat n t) d)
    = ((D.k (cat n t) d * Real.exp (Gdn.gl (ch D.g n) - Gdn.gc (ch D.g n) t) : ℝ) : EReal) := by
  have h1 := glCol_at H n t
  have h2 := gcCol_at H (cat n t)
  pointwise [headKd, round, rowScale]
  rw [H.k, h2, h1, ← EReal.coe_sub, Ideal.exp_coe, ← EReal.coe_mul, D.gc_cat]

theorem headEl_at (n : Fin 4) (t : Fin 64) : headEl w gt (ix2 (cat n t) 0) = ((Real.exp (Gdn.gl (ch D.g n)) : ℝ) : EReal) := by
  have h1 := glCol_at H n t
  pointwise [headEl]
  rw [h1, Ideal.exp_coe]

theorem headKw_at (n : Fin 4) (o : Nat) (h1 h2) (ho : o = n.val * 64) (d : Fin 128) (e : Fin 256) :
    headKw o h1 h2 w q k v be g gt (ix2 d e)
    = ((∑ t : Fin 64, D.k (cat n t) d * Real.exp (Gdn.gl (ch D.g n) - Gdn.gc (ch D.g n) t)
        * Gdn.sol (ch D.k n) (ch D.v n) (ch D.be n) (ch D.g n) t e : ℝ) : EReal) := by
  subst ho
  pointwise [headKw, kw]
  rw [← Gdn.coe_sum]
  exact Finset.sum_congr rfl fun t _ => (congrArg₂ (· * ·) (headKd_at H n t d) ((headSol_at H (cat n t) e).trans (congrArg _ (D.x_cat n t e)))).trans
    (EReal.coe_mul _ _).symm

omit H

/-- A tile holds a state. -/
def IsState (s : FVec Ideal S128x128 .f32) (S : Fin 128 → Fin 128 → ℝ) : Prop := ∀ d e : Fin 128, s (ix2 d e) = ((S d e : ℝ) : EReal)

/-- The state after chunk `n` of a tile. -/
def Data.step (D : Data) (n : Fin 4) (S : Fin 128 → Fin 128 → ℝ) : Fin 128 → Fin 128 → ℝ :=
  Gdn.next (ch D.k n) (ch D.v n) (ch D.be n) (ch D.g n) S

/-- The output of chunk `n` of a tile. -/
def Data.out (D : Data) (n : Fin 4) (S : Fin 128 → Fin 128 → ℝ) : Fin 64 → Fin 128 → ℝ :=
  Gdn.out (ch D.q n) (ch D.k n) (ch D.v n) (ch D.be n) (ch D.g n) S

/-- The first rows of a chunk's reads: the effective queries against the state. -/
theorem both_top (n : Fin 4) (o : Nat) (ho : o = n.val * 64) (h1) (qe : FVec Ideal S256x128 .bf16) (w : FVec Ideal S128x256 .f32)
    (s : FVec Ideal S128x128 .f32) (t : Fin 64) (e : Fin 128) :
    both o h1 qe w s (ix2 ⟨t.val, by omega⟩ e) = ∑ d : Fin 128, qe (ix2 (cat n t) d) * s (ix2 d e) := by
  subst ho
  pointwise [both, round]

/-- The last rows of a chunk's reads: the keys against the state. -/
theorem both_bot (o : Nat) (h1) (qe : FVec Ideal S256x128 .bf16) (w : FVec Ideal S128x256 .f32)
    (s : FVec Ideal S128x128 .f32) (d : Fin 128) (e : Fin 128) :
    both o h1 qe w s (ix2 ⟨64 + d.val, by omega⟩ e) = ∑ d' : Fin 128, w (ix2 d (Gdn.hi d')) * s (ix2 d' e) := by
  pointwise [both, round]
  rfl

theorem chunkOut_at (n : Fin 4) (o : Nat) (ho : o = n.val * 64) (h) (b : FVec Ideal S192x128 .f32) (aux : FVec Ideal S256x256 .f32)
    (t : Fin 64) (e : Fin 128) :
    chunkOut o h b aux (ix2 t e) = b (ix2 ⟨t.val, by omega⟩ e) + aux (ix2 (cat n t) (Gdn.lo e)) := by
  subst ho
  pointwise [chunkOut]
  rfl

theorem chunkState_at (n : Fin 4) (o : Nat) (ho : o = n.val * 64) (h) (b : FVec Ideal S192x128 .f32) (el : FVec Ideal S256x1 .f32)
    (w : FVec Ideal S128x256 .f32) (s : FVec Ideal S128x128 .f32) (d e : Fin 128) :
    chunkState o h b el w s (ix2 d e)
      = s (ix2 d e) * el (ix2 (cat n 0) 0) + w (ix2 d (Gdn.lo e)) - b (ix2 ⟨64 + d.val, by omega⟩ e) := by
  subst ho
  pointwise [chunkState]
  rfl

/-- What a head's parts hold, over the reals. -/
structure Parts.Holds (p : Parts Ideal) (D : Data) : Prop where
  el : ∀ n : Fin 4, p.el (ix2 (cat n 0) 0) = ((Real.exp (Gdn.gl (ch D.g n)) : ℝ) : EReal)
  qe : ∀ (n : Fin 4) (t : Fin 64) (d : Fin 128), p.qe (ix2 (cat n t) d)
    = ((D.q (cat n t) d * Real.exp (Gdn.gc (ch D.g n) t) - ∑ i : Fin 64, Gdn.att (ch D.q n) (ch D.k n) (ch D.g n) t i
        * Gdn.sol (ch D.k n) (ch D.v n) (ch D.be n) (ch D.g n) i (Gdn.hi d) : ℝ) : EReal)
  aux : ∀ (n : Fin 4) (t : Fin 64) (e : Fin 256), p.aux (ix2 (cat n t) e)
    = ((∑ i : Fin 64, Gdn.att (ch D.q n) (ch D.k n) (ch D.g n) t i
        * Gdn.sol (ch D.k n) (ch D.v n) (ch D.be n) (ch D.g n) i e : ℝ) : EReal)
  kw : ∀ (n : Fin 4) (d : Fin 128) (e : Fin 256), (![p.kw0, p.kw1, p.kw2, p.kw3] n) (ix2 d e)
    = ((∑ t : Fin 64, D.k (cat n t) d * Real.exp (Gdn.gl (ch D.g n) - Gdn.gc (ch D.g n) t)
        * Gdn.sol (ch D.k n) (ch D.v n) (ch D.be n) (ch D.g n) t e : ℝ) : EReal)

include H in
/-- The parts computed from a tile that holds the data hold them too. -/
theorem parts_holds : (parts w q k v be g gt).Holds D where
  el n := headEl_at H n 0
  qe n t d := headQe_at H n t d
  aux n t e := headAux_at H n t e
  kw n d e := by
    fin_cases n
    · exact headKw_at H 0 _ _ _ rfl d e
    · exact headKw_at H 1 _ _ _ rfl d e
    · exact headKw_at H 2 _ _ _ rfl d e
    · exact headKw_at H 3 _ _ _ rfl d e

variable {p : Parts Ideal} (hp : p.Holds D) {s : FVec Ideal S128x128 .f32} {S : Fin 128 → Fin 128 → ℝ} (hs : IsState s S)

include hp hs

/-- One chunk's state is the chunk arithmetic's. -/
theorem state_chunk (n : Fin 4) (o : Nat) (ho : o = n.val * 64) (h h1) (kw : FVec Ideal S128x256 .f32)
    (hkw : kw = ![p.kw0, p.kw1, p.kw2, p.kw3] n) :
    IsState (chunkState o h (both o h1 p.qe kw s) p.el kw s) (D.step n S) := by
  intro d e
  rw [chunkState_at n o ho, both_bot, hkw]
  simp only [hp.kw, hp.el, hs _ _, ← EReal.coe_mul, Gdn.coe_sum, ← EReal.coe_add, ← EReal.coe_sub]
  exact congrArg _ (Gdn.next_eq (ch D.k n) (ch D.v n) (ch D.be n) (ch D.g n) S d e)

/-- One chunk's output is the chunk arithmetic's. -/
theorem out_chunk (n : Fin 4) (o : Nat) (ho : o = n.val * 64) (h h1) (kw : FVec Ideal S128x256 .f32) (t : Fin 64) (e : Fin 128) :
    chunkOut o h (both o h1 p.qe kw s) p.aux (ix2 t e) = ((D.out n S t e : ℝ) : EReal) := by
  rw [chunkOut_at n o ho, both_top n o ho]
  simp only [hp.qe, hp.aux, hs _ _, ← EReal.coe_mul, Gdn.coe_sum, ← EReal.coe_add]
  exact congrArg _ (Gdn.out_eq (ch D.q n) (ch D.k n) (ch D.v n) (ch D.be n) (ch D.g n) S t e)

omit hp hs

/-- The state before chunk `n` of a tile that starts from `S`. -/
def Data.pre (D : Data) (S : Fin 128 → Fin 128 → ℝ) : Nat → Fin 128 → Fin 128 → ℝ
  | 0 => S
  | n + 1 => D.step (Fin.ofNat 4 n) (Data.pre D S n)

include hp hs

theorem st1_at : IsState (st1 p s) (D.pre S 1) := state_chunk hp hs 0 _ rfl _ _ _ rfl
theorem st2_at : IsState (st2 p s) (D.pre S 2) := state_chunk hp (st1_at hp hs) 1 _ rfl _ _ _ rfl
theorem st3_at : IsState (st3 p s) (D.pre S 3) := state_chunk hp (st2_at hp hs) 2 _ rfl _ _ _ rfl
/-- The state after a tile. -/
theorem st4_at : IsState (st4 p s) (D.pre S 4) := state_chunk hp (st3_at hp hs) 3 _ rfl _ _ _ rfl

/-- The rows of a tile are its chunks' outputs. -/
theorem rows_at (n : Fin 4) (t : Fin 64) (e : Fin 128) :
    rows p s (ix2 (cat n t) e) = ((D.out n (D.pre S n.val) t e : ℝ) : EReal) := by
  fin_cases n
  · pointwise [rows]
    exact out_chunk hp hs 0 _ rfl _ _ _ t e
  · pointwise [rows]
    exact out_chunk hp (st1_at hp hs) 1 _ rfl _ _ _ t e
  · pointwise [rows]
    rw [dif_neg (by omega), dif_neg (by omega), dif_pos (by omega)]
    refine Eq.trans ?_ (out_chunk hp (st2_at hp hs) 2 128 rfl slices_S256x256_o128_0_S64x128 slices_S256x128_o128_0_S64x128 p.kw2 t e)
    exact congrArg (fun i => chunkOut _ _ _ _ (ix2 i e)) (Fin.ext (by dsimp only; omega))
  · pointwise [rows]
    rw [dif_neg (by omega), dif_neg (by omega), dif_neg (by omega)]
    refine Eq.trans ?_ (out_chunk hp (st3_at hp hs) 3 192 rfl slices_S256x256_o192_0_S64x128 slices_S256x128_o192_0_S64x128 p.kw3 t e)
    exact congrArg (fun i => chunkOut _ _ _ _ (ix2 i e)) (Fin.ext (by dsimp only; omega))

omit hp hs

/-- Two to the power of a multiple of the named constant is the exponential of the negation. -/
theorem exp2_named (z : EReal) : Ideal.exp2 (z * Named.named (F := Ideal) (φ := .f32) κ "neg_log2_e" 0xBFB8AA3B#32) = Ideal.exp (-z) := by
  have hk : (Named.named (F := Ideal) (φ := .f32) κ "neg_log2_e" 0xBFB8AA3B#32 : EReal) = ((-((Real.log 2)⁻¹) : ℝ) : EReal) :=
    IdealRules.named_const.ideal_named_scalar _ _ _ _ rfl
  have hl : 0 < Real.log 2 := Real.log_pos (by norm_num)
  rw [hk]
  induction z with
  | bot => rw [EReal.bot_mul_coe_of_neg (by simpa using hl)]; rfl
  | top => rw [EReal.top_mul_coe_of_neg (by simpa using hl)]; rfl
  | coe r =>
    rw [← EReal.coe_mul, ← EReal.coe_neg, Ideal.exp2_coe, Ideal.exp_coe]
    congr 1
    show (2 : ℝ) ^ (r * -(Real.log 2)⁻¹) = _
    rw [Real.rpow_def_of_pos (by norm_num)]
    congr 1
    field_simp

theorem gate_at (o z : FVec Ideal S256x128 .f32) (go : FVec Ideal S1x128 .f32) (r : Fin 256) (e : Fin 128) (y : Fin 128 → ℝ)
    (ho : ∀ e : Fin 128, o (ix2 r e) = ((y e : ℝ) : EReal)) :
    gate o z go (ix2 r e) = Gdn.gated y (go (ix2 0 e)) (z (ix2 r e)) e := by
  pointwise [gate, round]
  have hz := exp2_named (z (ix2 r e))
  simp only [ho, ← EReal.coe_mul, Gdn.coe_sum]
  refine Eq.trans (congrArg (fun x => _ * (_ * Ideal.div 1 (1 + x))) hz) ?_
  rfl

include hp in
/-- A head's output tile. -/
theorem newOut_at (s' : FVec Ideal S1x128x128 .f32) (hs' : ∀ d e : Fin 128, s' (ix3 0 d e) = ((S d e : ℝ) : EReal))
    (z : FVec Ideal S256x128 .f32) (go : FVec Ideal S1x128 .f32) (n : Fin 4) (t : Fin 64) (e : Fin 128) :
    newOut p s' z go (ix2 (cat n t) e) = Gdn.gated (D.out n (D.pre S n.val) t) (go (ix2 0 e)) (z (ix2 (cat n t) e)) e := by
  refine gate_at _ z go (cat n t) e _ fun e => rows_at hp ?_ n t e
  intro d e
  pointwise
  exact hs' d e

include hp in
/-- The state a head's tile leaves. -/
theorem newState_at (s' : FVec Ideal S1x128x128 .f32) (hs' : ∀ d e : Fin 128, s' (ix3 0 d e) = ((S d e : ℝ) : EReal)) (d e : Fin 128) :
    newState p s' (ix3 0 d e) = ((D.pre S 4 d e : ℝ) : EReal) := by
  have : IsState (shapeCast S128x128 s' shapeCasts_S1x128x128_S128x128) S := by
    intro d e
    pointwise
    exact hs' d e
  have h := st4_at hp this d e
  pointwise [newState]
  exact h

end Cert.KernelIdeal.Tile
end
-- ==== Proof.Point.lean ====
module

public import proofs.«01_k».proof.Proof.TileRun
public import proofs.«01_k».proof.Proof.TileHead

/-! One grid point over the reals: the blocks it leaves, entry by entry. -/

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic Idealize.SL.Sem

open Gdn (col gated)

/-- The blocks of a grid point hold the heads' data. -/
structure BHolds (D : Fin 8 → Data) (x0 x1 x2 : FVec Ideal S256x1024 .f32) (x4 x5 : FVec Ideal S256x8 .f32)
    (x6 : FVec Ideal S8x256 .f32) : Prop where
  q : ∀ (j : Fin 8) (r : Fin 256) (d : Fin 128), x0 (ix2 r (col j d)) = (((D j).q r d : ℝ) : EReal)
  k : ∀ (j : Fin 8) (r : Fin 256) (d : Fin 128), x1 (ix2 r (col j d)) = (((D j).k r d : ℝ) : EReal)
  v : ∀ (j : Fin 8) (r : Fin 256) (d : Fin 128), x2 (ix2 r (col j d)) = (((D j).v r d : ℝ) : EReal)
  be : ∀ (j : Fin 8) (r : Fin 256), x4 (ix2 r j) = (((D j).be r : ℝ) : EReal)
  g : ∀ (j : Fin 8) (r : Fin 256), x5 (ix2 r j) = (((D j).g r : ℝ) : EReal)
  gt : ∀ (j : Fin 8) (r : Fin 256), x6 (ix2 j r) = (((D j).g r : ℝ) : EReal)

variable {D : Fin 8 → Data} {x0 x1 x2 x3 : FVec Ideal S256x1024 .f32} {x4 x5 : FVec Ideal S256x8 .f32}
    {x6 : FVec Ideal S8x256 .f32} {x7 : FVec Ideal S1x128 .f32} {xs0 : FVec Ideal S8x128x128 .f32}

/-- The state a point finds. -/
def SHolds (xs : FVec Ideal S8x128x128 .f32) (S : Fin 8 → Fin 128 → Fin 128 → ℝ) : Prop :=
  ∀ (j : Fin 8) (d e : Fin 128), xs (ix3 j d e) = ((S j d e : ℝ) : EReal)

/-- Writes under a cover leave nothing. -/
theorem canon_drop {S : Shape} {Val : EltTy → Type} [∀ e, Nonempty (Val e)] {e : EltTy} (L' L : List (View.Piece Val S e)) (y : S.Idx)
    (hc : ∃ p ∈ L, y ∈ p.1.set) : View.canon (L ++ L') y = View.canon L y := by
  induction L with
  | nil => obtain ⟨p, hp, _⟩ := hc; exact absurd hp List.not_mem_nil
  | cons p L ih =>
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem p _ hm, View.canon_cons_of_not_mem p _ hm]
      refine ih ?_
      obtain ⟨q, hq, hy⟩ := hc
      rcases List.mem_cons.1 hq with rfl | hq
      · exact absurd hy hm
      · exact ⟨q, hq, hy⟩

theorem canon_drop8 {S : Shape} {Val : EltTy → Type} [∀ e, Nonempty (Val e)] {e : EltTy} (p0 p1 p2 p3 p4 p5 p6 p7 p8 : View.Piece Val S e)
    (y : S.Idx) (hc : ∃ p ∈ [p0, p1, p2, p3, p4, p5, p6, p7], y ∈ p.1.set) :
    View.canon [p0, p1, p2, p3, p4, p5, p6, p7, p8] y = View.canon [p0, p1, p2, p3, p4, p5, p6, p7] y :=
  canon_drop [p8] [p0, p1, p2, p3, p4, p5, p6, p7] y hc

/-- The heads' state tiles cover the state. -/
theorem cover_state (w0 w1 w2 w3 w4 w5 w6 w7 : FVec Ideal S1x128x128 .f32) (y : S8x128x128.Idx) :
    ∃ p ∈ ([⟨Rect.unit (s := S8x128x128) ![7, 0, 0] S1x128x128.size inb_S8x128x128_S1x128x128_7_0_0, w7⟩,
      ⟨Rect.unit (s := S8x128x128) ![6, 0, 0] S1x128x128.size inb_S8x128x128_S1x128x128_6_0_0, w6⟩,
      ⟨Rect.unit (s := S8x128x128) ![5, 0, 0] S1x128x128.size inb_S8x128x128_S1x128x128_5_0_0, w5⟩,
      ⟨Rect.unit (s := S8x128x128) ![4, 0, 0] S1x128x128.size inb_S8x128x128_S1x128x128_4_0_0, w4⟩,
      ⟨Rect.unit (s := S8x128x128) ![3, 0, 0] S1x128x128.size inb_S8x128x128_S1x128x128_3_0_0, w3⟩,
      ⟨Rect.unit (s := S8x128x128) ![2, 0, 0] S1x128x128.size inb_S8x128x128_S1x128x128_2_0_0, w2⟩,
      ⟨Rect.unit (s := S8x128x128) ![1, 0, 0] S1x128x128.size inb_S8x128x128_S1x128x128_1_0_0, w1⟩,
      ⟨Rect.unit (s := S8x128x128) ![0, 0, 0] S1x128x128.size inb_S8x128x128_S1x128x128_0_0_0, w0⟩] :
        List (View.Piece (Elt Ideal) S8x128x128 .f32)), y ∈ p.1.set :=
  View.cover_of_tiledL (s := S8x128x128) _ S1x128x128.size (by sl_kernel_rfl) y

theorem load_tile (arg : Memref sig .tc .vmem S256x1024 .f32) (harg : arg.IsWhole) (x : FVec Ideal S256x1024 .f32) (j : Fin 8)
    (o : Nat) (ho : o = j.val * 128) (inb : ∀ a, (![0, o] : Fin 2 → Nat) a + S256x128.size a ≤ S256x1024.size a) (r : Fin 256) (d : Fin 128) :
    View.readAt (Elt Ideal) arg.view (Rect.unit (s := S256x1024) ![0, o] S256x128.size inb).toLoadRect (harg.unread x) (ix2 r d)
      = x (ix2 r (col j d)) := by
  subst ho
  rw [View.readAt_eq_ld, harg.read_unread]
  pointwise

theorem load_col (arg : Memref sig .tc .vmem S256x8 .f32) (harg : arg.IsWhole) (x : FVec Ideal S256x8 .f32)
    (inb : ∀ a, (![0, 0] : Fin 2 → Nat) a + S256x8.size a ≤ S256x8.size a) :
    View.readAt (Elt Ideal) arg.view (Rect.unit (s := S256x8) ![0, 0] S256x8.size inb).toLoadRect (harg.unread x) = x := by
  rw [View.readAt_eq_ld, harg.read_unread]
  simp (disch := decide) only [View.ld_unit_lit']

theorem load_row (arg : Memref sig .tc .vmem S8x256 .f32) (harg : arg.IsWhole) (x : FVec Ideal S8x256 .f32)
    (inb : ∀ a, (![0, 0] : Fin 2 → Nat) a + S8x256.size a ≤ S8x256.size a) :
    View.readAt (Elt Ideal) arg.view (Rect.unit (s := S8x256) ![0, 0] S8x256.size inb).toLoadRect (harg.unread x) = x := by
  rw [View.readAt_eq_ld, harg.read_unread]
  simp (disch := decide) only [View.ld_unit_lit']

theorem load_vec (arg : Memref sig .tc .vmem S1x128 .f32) (harg : arg.IsWhole) (x : FVec Ideal S1x128 .f32)
    (inb : ∀ a, (![0, 0] : Fin 2 → Nat) a + S1x128.size a ≤ S1x128.size a) :
    View.readAt (Elt Ideal) arg.view (Rect.unit (s := S1x128) ![0, 0] S1x128.size inb).toLoadRect (harg.unread x) = x := by
  rw [View.readAt_eq_ld, harg.read_unread]
  simp (disch := decide) only [View.ld_unit_lit']

theorem load_state (arg : Memref sig .tc .vmem S8x128x128 .f32) (harg : arg.IsWhole) (x : FVec Ideal S8x128x128 .f32) (j : Fin 8)
    (o : Nat) (ho : o = j.val) (inb : ∀ a, (![o, 0, 0] : Fin 3 → Nat) a + S1x128x128.size a ≤ S8x128x128.size a) (d e : Fin 128) :
    View.readAt (Elt Ideal) arg.view (Rect.unit (s := S8x128x128) ![o, 0, 0] S1x128x128.size inb).toLoadRect (harg.unread x) (ix3 0 d e)
      = x (ix3 j d e) := by
  subst ho
  rw [View.readAt_eq_ld, harg.read_unread]
  pointwise

theorem load_zero (arg : Memref sig .tc .vmem S8x128x128 .f32) (o : Nat) (inb0 : ∀ a, (![0, 0, 0] : Fin 3 → Nat) a + S8x128x128.size a ≤ S8x128x128.size a)
    (inb : ∀ a, (![o, 0, 0] : Fin 3 → Nat) a + S1x128x128.size a ≤ S8x128x128.size a) (d e : Fin 128) :
    View.readCov (Val := Elt Ideal) arg.view [⟨Rect.unit (s := S8x128x128) ![0, 0, 0] S8x128x128.size inb0, (k0_pay1 (F := Ideal))⟩]
      (Rect.unit (s := S8x128x128) ![o, 0, 0] S1x128x128.size inb).toLoadRect (ix3 0 d e) = 0 := by
  rw [View.readCov_eq_canon']
  rw [View.canon_cons_unit_lit' inb0 _ _ (by decide)]
  pointwise [k0_pay1]

theorem word_at (i : grid0.Coords) (hi : (i 1).val = 0) (b : BitVec 32) :
    Scalar.addi (Scalar.muli (BitVec.ofNat 32 (i 1).val) 8#32) b = b := by
  rw [hi]
  show 0#32 * 8#32 + b = b
  simp

/-- The parts a head computes from the blocks. -/
theorem head_parts (H : BHolds D x0 x1 x2 x4 x5 x6) (j : Fin 8) (w : BitVec 32) (hw : w = BitVec.ofNat 32 j.val)
    (q k v : FVec Ideal S256x128 .f32) (hq : ∀ r d, q (ix2 r d) = x0 (ix2 r (col j d))) (hk : ∀ r d, k (ix2 r d) = x1 (ix2 r (col j d)))
    (hv : ∀ r d, v (ix2 r d) = x2 (ix2 r (col j d))) (be g : FVec Ideal S256x8 .f32) (hb : be = x4) (hg : g = x5)
    (gt : FVec Ideal S8x256 .f32) (ht : gt = x6) : (parts w q k v be g gt).Holds (D j) := by
  subst hb hg ht
  exact parts_holds (j := j) ⟨hw, fun r d => (hq r d).trans (H.q j r d), fun r d => (hk r d).trans (H.k j r d),
    fun r d => (hv r d).trans (H.v j r d), H.be j, H.g j, H.gt j⟩

/-- The piece of head `n` at the state index it lands on. -/
theorem piece_state {p : Parts Ideal} (n : Fin 8) (hp : p.Holds (D n)) {S : Fin 8 → Fin 128 → Fin 128 → ℝ}
    (s : FVec Ideal S1x128x128 .f32) (hs : ∀ d e : Fin 128, s (ix3 0 d e) = ((S n d e : ℝ) : EReal)) (j : Fin 8) (d e : Fin 128)
    (x : S1x128x128.Idx) (h0 : j.val = n.val) (h1 : d.val = (x 1).val) (h2 : e.val = (x 2).val) :
    newState p s x = (((D j).pre (S j) 4 d e : ℝ) : EReal) := by
  obtain rfl : j = n := Fin.ext h0
  idx_vars x
  obtain rfl := Fin.ext h1
  obtain rfl := Fin.ext h2
  obtain rfl : x0 = 0 := Subsingleton.elim _ _
  exact newState_at hp s hs _ _

/-- The parts a head computes from what it loads. -/
theorem head_loads (H : BHolds D x0 x1 x2 x4 x5 x6) {i : grid0.Coords} (hi : (i 1).val = 0) (n : Fin 8) {o : Nat} (ho : o = n.val * 128)
    {b : BitVec 32} (hb : b = BitVec.ofNat 32 n.val) {arg3 : Memref sig .tc .vmem S256x1024 .f32} {harg3 : arg3.IsWhole} {arg4 : Memref sig .tc .vmem S256x1024 .f32} {harg4 : arg4.IsWhole} {arg5 : Memref sig .tc .vmem S256x1024 .f32} {harg5 : arg5.IsWhole} {arg7 : Memref sig .tc .vmem S256x8 .f32} {harg7 : arg7.IsWhole} {arg8 : Memref sig .tc .vmem S256x8 .f32} {harg8 : arg8.IsWhole} {arg9 : Memref sig .tc .vmem S8x256 .f32} {harg9 : arg9.IsWhole}
    {inb : ∀ a, (![0, o] : Fin 2 → Nat) a + S256x128.size a ≤ S256x1024.size a}
    {inb1 : ∀ a, (![0, 0] : Fin 2 → Nat) a + S256x8.size a ≤ S256x8.size a} {inb2 : ∀ a, (![0, 0] : Fin 2 → Nat) a + S8x256.size a ≤ S8x256.size a} :
    (parts (Scalar.addi (Scalar.muli (BitVec.ofNat 32 (i 1).val) 8#32) b) (View.readAt (Elt Ideal) arg3.view (Rect.unit (s := S256x1024) ![0, o] S256x128.size inb).toLoadRect (harg3.unread x0)) (View.readAt (Elt Ideal) arg4.view (Rect.unit (s := S256x1024) ![0, o] S256x128.size inb).toLoadRect (harg4.unread x1)) (View.readAt (Elt Ideal) arg5.view (Rect.unit (s := S256x1024) ![0, o] S256x128.size inb).toLoadRect (harg5.unread x2)) (View.readAt (Elt Ideal) arg7.view (Rect.unit (s := S256x8) ![0, 0] S256x8.size inb1).toLoadRect (harg7.unread x4)) (View.readAt (Elt Ideal) arg8.view (Rect.unit (s := S256x8) ![0, 0] S256x8.size inb1).toLoadRect (harg8.unread x5)) (View.readAt (Elt Ideal) arg9.view (Rect.unit (s := S8x256) ![0, 0] S8x256.size inb2).toLoadRect (harg9.unread x6))).Holds (D n) :=
  head_parts H n _ ((word_at i hi b).trans hb) _ _ _ (load_tile _ _ _ n _ ho _) (load_tile _ _ _ n _ ho _) (load_tile _ _ _ n _ ho _)
    _ _ (load_col _ _ _ _) (load_col _ _ _ _) _ (load_row _ _ _ _)

/-- The state a continuing point leaves. -/
theorem sout_B (c : Dev nD) (i : grid0.Coords) {arg3 : Memref sig .tc .vmem S256x1024 .f32} {harg3 : arg3.IsWhole} {arg4 : Memref sig .tc .vmem S256x1024 .f32} {harg4 : arg4.IsWhole} {arg5 : Memref sig .tc .vmem S256x1024 .f32} {harg5 : arg5.IsWhole} {arg6 : Memref sig .tc .vmem S256x1024 .f32} {harg6 : arg6.IsWhole} {arg7 : Memref sig .tc .vmem S256x8 .f32} {harg7 : arg7.IsWhole} {arg8 : Memref sig .tc .vmem S256x8 .f32} {harg8 : arg8.IsWhole} {arg9 : Memref sig .tc .vmem S8x256 .f32} {harg9 : arg9.IsWhole} {arg10 : Memref sig .tc .vmem S1x128 .f32} {harg10 : arg10.IsWhole} {arg11 : Memref sig .tc .vmem S256x1024 .bf16} {harg11 : arg11.IsWhole} {arg12 : Memref sig .tc .vmem S8x128x128 .f32} {harg12 : arg12.IsWhole} (hc0 : ¬ cond0_0 i) (hi : (i 1).val = 0)
    (H : BHolds D x0 x1 x2 x4 x5 x6) {S : Fin 8 → Fin 128 → Fin 128 → ℝ} (hS : SHolds xs0 S) :
    SHolds (sout0_B_0 (F := Ideal) c i arg3 harg3 arg4 harg4 arg5 harg5 arg6 harg6 arg7 harg7 arg8 harg8 arg9 harg9 arg10 harg10 arg11 harg11 arg12 harg12 hc0 x0 x1 x2 x3 x4 x5 x6 x7 xs0)
      (fun j => (D j).pre (S j) 4) := by
  intro j d e
  unfold sout0_B_0
  rw [state_B, View.read_writes_junk_eq_canon]
  canon_tiles x h
  case piece0 => exact piece_state 7 (head_loads H hi 7 (by rfl) (by rfl)) _ (fun d e => (load_state _ _ _ 7 _ (by rfl) _ d e).trans (hS 7 d e)) j d e x (h0.trans (by omega)) h1 h2
  case piece1 => exact piece_state 6 (head_loads H hi 6 (by rfl) (by rfl)) _ (fun d e => (load_state _ _ _ 6 _ (by rfl) _ d e).trans (hS 6 d e)) j d e x (h0.trans (by omega)) h1 h2
  case piece2 => exact piece_state 5 (head_loads H hi 5 (by rfl) (by rfl)) _ (fun d e => (load_state _ _ _ 5 _ (by rfl) _ d e).trans (hS 5 d e)) j d e x (h0.trans (by omega)) h1 h2
  case piece3 => exact piece_state 4 (head_loads H hi 4 (by rfl) (by rfl)) _ (fun d e => (load_state _ _ _ 4 _ (by rfl) _ d e).trans (hS 4 d e)) j d e x (h0.trans (by omega)) h1 h2
  case piece4 => exact piece_state 3 (head_loads H hi 3 (by rfl) (by rfl)) _ (fun d e => (load_state _ _ _ 3 _ (by rfl) _ d e).trans (hS 3 d e)) j d e x (h0.trans (by omega)) h1 h2
  case piece5 => exact piece_state 2 (head_loads H hi 2 (by rfl) (by rfl)) _ (fun d e => (load_state _ _ _ 2 _ (by rfl) _ d e).trans (hS 2 d e)) j d e x (h0.trans (by omega)) h1 h2
  case piece6 => exact piece_state 1 (head_loads H hi 1 (by rfl) (by rfl)) _ (fun d e => (load_state _ _ _ 1 _ (by rfl) _ d e).trans (hS 1 d e)) j d e x (h0.trans (by omega)) h1 h2
  case piece7 => exact piece_state 0 (head_loads H hi 0 (by rfl) (by rfl)) _ (fun d e => (load_state _ _ _ 0 _ (by rfl) _ d e).trans (hS 0 d e)) j d e x (h0.trans (by omega)) h1 h2

/-- The state a starting point leaves. -/
theorem sout_A (c : Dev nD) (i : grid0.Coords) {arg3 : Memref sig .tc .vmem S256x1024 .f32} {harg3 : arg3.IsWhole} {arg4 : Memref sig .tc .vmem S256x1024 .f32} {harg4 : arg4.IsWhole} {arg5 : Memref sig .tc .vmem S256x1024 .f32} {harg5 : arg5.IsWhole} {arg6 : Memref sig .tc .vmem S256x1024 .f32} {harg6 : arg6.IsWhole} {arg7 : Memref sig .tc .vmem S256x8 .f32} {harg7 : arg7.IsWhole} {arg8 : Memref sig .tc .vmem S256x8 .f32} {harg8 : arg8.IsWhole} {arg9 : Memref sig .tc .vmem S8x256 .f32} {harg9 : arg9.IsWhole} {arg10 : Memref sig .tc .vmem S1x128 .f32} {harg10 : arg10.IsWhole} {arg11 : Memref sig .tc .vmem S256x1024 .bf16} {harg11 : arg11.IsWhole} {arg12 : Memref sig .tc .vmem S8x128x128 .f32} {harg12 : arg12.IsWhole} (hc0 : cond0_0 i) (hi : (i 1).val = 0)
    (H : BHolds D x0 x1 x2 x4 x5 x6) :
    SHolds (sout0_A_0 (F := Ideal) c i arg3 harg3 arg4 harg4 arg5 harg5 arg6 harg6 arg7 harg7 arg8 harg8 arg9 harg9 arg10 harg10 arg11 harg11 arg12 harg12 hc0 x0 x1 x2 x3 x4 x5 x6 x7)
      (fun j => (D j).pre 0 4) := by
  intro j d e
  unfold sout0_A_0
  rw [state_A, View.read_writes_junk_eq_canon]
  refine (canon_drop8 (S := S8x128x128) (Val := Elt Ideal) (e := .f32) _ _ _ _ _ _ _ _ _ _ ?hc).trans ?_
  case hc => exact cover_state _ _ _ _ _ _ _ _ _
  canon_tiles x h
  case piece0 => exact piece_state (S := fun _ => 0) 7 (head_loads H hi 7 (by rfl) (by rfl)) _ (fun d e => load_zero _ _ _ _ d e) j d e x (h0.trans (by omega)) h1 h2
  case piece1 => exact piece_state (S := fun _ => 0) 6 (head_loads H hi 6 (by rfl) (by rfl)) _ (fun d e => load_zero _ _ _ _ d e) j d e x (h0.trans (by omega)) h1 h2
  case piece2 => exact piece_state (S := fun _ => 0) 5 (head_loads H hi 5 (by rfl) (by rfl)) _ (fun d e => load_zero _ _ _ _ d e) j d e x (h0.trans (by omega)) h1 h2
  case piece3 => exact piece_state (S := fun _ => 0) 4 (head_loads H hi 4 (by rfl) (by rfl)) _ (fun d e => load_zero _ _ _ _ d e) j d e x (h0.trans (by omega)) h1 h2
  case piece4 => exact piece_state (S := fun _ => 0) 3 (head_loads H hi 3 (by rfl) (by rfl)) _ (fun d e => load_zero _ _ _ _ d e) j d e x (h0.trans (by omega)) h1 h2
  case piece5 => exact piece_state (S := fun _ => 0) 2 (head_loads H hi 2 (by rfl) (by rfl)) _ (fun d e => load_zero _ _ _ _ d e) j d e x (h0.trans (by omega)) h1 h2
  case piece6 => exact piece_state (S := fun _ => 0) 1 (head_loads H hi 1 (by rfl) (by rfl)) _ (fun d e => load_zero _ _ _ _ d e) j d e x (h0.trans (by omega)) h1 h2
  case piece7 => exact piece_state (S := fun _ => 0) 0 (head_loads H hi 0 (by rfl) (by rfl)) _ (fun d e => load_zero _ _ _ _ d e) j d e x (h0.trans (by omega)) h1 h2

/-- The piece of head `m` at the output index it lands on. -/
theorem piece_out {p : Parts Ideal} (m : Fin 8) (hp : p.Holds (D m)) {S : Fin 8 → Fin 128 → Fin 128 → ℝ}
    (s : FVec Ideal S1x128x128 .f32) (hs : ∀ d e : Fin 128, s (ix3 0 d e) = ((S m d e : ℝ) : EReal))
    (z : FVec Ideal S256x128 .f32) (hz : ∀ r d, z (ix2 r d) = x3 (ix2 r (col m d))) (go : FVec Ideal S1x128 .f32) (hgo : go = x7)
    (n : Fin 4) (t : Fin 64) (j : Fin 8) (e : Fin 128)
    (x : S256x128.Idx) (h0 : (cat n t).val = (x 0).val) (h1 : (col j e).val = m.val * 128 + (x 1).val) :
    newOut p s z go x = gated ((D j).out n ((D j).pre (S j) n.val) t) (x7 (ix2 0 e)) (x3 (ix2 (cat n t) (col j e))) e := by
  subst hgo
  idx_vars x
  obtain rfl : cat n t = x0 := Fin.ext h0
  have hx : x1.val < 128 := x1.isLt
  have hj : j.val = m.val := by have := e.isLt; have : j.val * 128 + e.val = m.val * 128 + x1.val := h1; omega
  have he : e.val = x1.val := by have : j.val * 128 + e.val = m.val * 128 + x1.val := h1; omega
  obtain rfl : j = m := Fin.ext hj
  obtain rfl : e = x1 := Fin.ext he
  exact (newOut_at hp s hs z go n t e).trans (congrArg (fun y => gated _ _ y e) (hz _ _))

/-- The output a continuing point leaves. -/
theorem out_B' (c : Dev nD) (i : grid0.Coords) {arg3 : Memref sig .tc .vmem S256x1024 .f32} {harg3 : arg3.IsWhole} {arg4 : Memref sig .tc .vmem S256x1024 .f32} {harg4 : arg4.IsWhole} {arg5 : Memref sig .tc .vmem S256x1024 .f32} {harg5 : arg5.IsWhole} {arg6 : Memref sig .tc .vmem S256x1024 .f32} {harg6 : arg6.IsWhole} {arg7 : Memref sig .tc .vmem S256x8 .f32} {harg7 : arg7.IsWhole} {arg8 : Memref sig .tc .vmem S256x8 .f32} {harg8 : arg8.IsWhole} {arg9 : Memref sig .tc .vmem S8x256 .f32} {harg9 : arg9.IsWhole} {arg10 : Memref sig .tc .vmem S1x128 .f32} {harg10 : arg10.IsWhole} {arg11 : Memref sig .tc .vmem S256x1024 .bf16} {harg11 : arg11.IsWhole} {arg12 : Memref sig .tc .vmem S8x128x128 .f32} {harg12 : arg12.IsWhole} (hc0 : ¬ cond0_0 i) (hi : (i 1).val = 0)
    (H : BHolds D x0 x1 x2 x4 x5 x6) {S : Fin 8 → Fin 128 → Fin 128 → ℝ} (hS : SHolds xs0 S) (n : Fin 4) (t : Fin 64) (j : Fin 8) (e : Fin 128) :
    out0_B_8 (F := Ideal) c i arg3 harg3 arg4 harg4 arg5 harg5 arg6 harg6 arg7 harg7 arg8 harg8 arg9 harg9 arg10 harg10 arg11 harg11 arg12 harg12 hc0 x0 x1 x2 x3 x4 x5 x6 x7 xs0 (ix2 (cat n t) (col j e))
      = gated ((D j).out n ((D j).pre (S j) n.val) t) (x7 (ix2 0 e)) (x3 (ix2 (cat n t) (col j e))) e := by
  unfold out0_B_8
  rw [out_B, View.read_writes_junk_eq_canon]
  canon_tiles x h
  case piece0 => exact piece_out 7 (head_loads H hi 7 (by rfl) (by rfl)) _ (fun d e => (load_state _ _ _ 7 _ (by rfl) _ d e).trans (hS 7 d e)) _ (load_tile _ _ _ 7 _ (by rfl) _) _ (load_vec _ _ _ _) n t j e x h0 (h1.trans (by omega))
  case piece1 => exact piece_out 6 (head_loads H hi 6 (by rfl) (by rfl)) _ (fun d e => (load_state _ _ _ 6 _ (by rfl) _ d e).trans (hS 6 d e)) _ (load_tile _ _ _ 6 _ (by rfl) _) _ (load_vec _ _ _ _) n t j e x h0 (h1.trans (by omega))
  case piece2 => exact piece_out 5 (head_loads H hi 5 (by rfl) (by rfl)) _ (fun d e => (load_state _ _ _ 5 _ (by rfl) _ d e).trans (hS 5 d e)) _ (load_tile _ _ _ 5 _ (by rfl) _) _ (load_vec _ _ _ _) n t j e x h0 (h1.trans (by omega))
  case piece3 => exact piece_out 4 (head_loads H hi 4 (by rfl) (by rfl)) _ (fun d e => (load_state _ _ _ 4 _ (by rfl) _ d e).trans (hS 4 d e)) _ (load_tile _ _ _ 4 _ (by rfl) _) _ (load_vec _ _ _ _) n t j e x h0 (h1.trans (by omega))
  case piece4 => exact piece_out 3 (head_loads H hi 3 (by rfl) (by rfl)) _ (fun d e => (load_state _ _ _ 3 _ (by rfl) _ d e).trans (hS 3 d e)) _ (load_tile _ _ _ 3 _ (by rfl) _) _ (load_vec _ _ _ _) n t j e x h0 (h1.trans (by omega))
  case piece5 => exact piece_out 2 (head_loads H hi 2 (by rfl) (by rfl)) _ (fun d e => (load_state _ _ _ 2 _ (by rfl) _ d e).trans (hS 2 d e)) _ (load_tile _ _ _ 2 _ (by rfl) _) _ (load_vec _ _ _ _) n t j e x h0 (h1.trans (by omega))
  case piece6 => exact piece_out 1 (head_loads H hi 1 (by rfl) (by rfl)) _ (fun d e => (load_state _ _ _ 1 _ (by rfl) _ d e).trans (hS 1 d e)) _ (load_tile _ _ _ 1 _ (by rfl) _) _ (load_vec _ _ _ _) n t j e x h0 (h1.trans (by omega))
  case piece7 => exact piece_out 0 (head_loads H hi 0 (by rfl) (by rfl)) _ (fun d e => (load_state _ _ _ 0 _ (by rfl) _ d e).trans (hS 0 d e)) _ (load_tile _ _ _ 0 _ (by rfl) _) _ (load_vec _ _ _ _) n t j e x h0 (h1.trans (by omega))

/-- The output a starting point leaves. -/
theorem out_A' (c : Dev nD) (i : grid0.Coords) {arg3 : Memref sig .tc .vmem S256x1024 .f32} {harg3 : arg3.IsWhole} {arg4 : Memref sig .tc .vmem S256x1024 .f32} {harg4 : arg4.IsWhole} {arg5 : Memref sig .tc .vmem S256x1024 .f32} {harg5 : arg5.IsWhole} {arg6 : Memref sig .tc .vmem S256x1024 .f32} {harg6 : arg6.IsWhole} {arg7 : Memref sig .tc .vmem S256x8 .f32} {harg7 : arg7.IsWhole} {arg8 : Memref sig .tc .vmem S256x8 .f32} {harg8 : arg8.IsWhole} {arg9 : Memref sig .tc .vmem S8x256 .f32} {harg9 : arg9.IsWhole} {arg10 : Memref sig .tc .vmem S1x128 .f32} {harg10 : arg10.IsWhole} {arg11 : Memref sig .tc .vmem S256x1024 .bf16} {harg11 : arg11.IsWhole} {arg12 : Memref sig .tc .vmem S8x128x128 .f32} {harg12 : arg12.IsWhole} (hc0 : cond0_0 i) (hi : (i 1).val = 0)
    (H : BHolds D x0 x1 x2 x4 x5 x6) (n : Fin 4) (t : Fin 64) (j : Fin 8) (e : Fin 128) :
    out0_A_8 (F := Ideal) c i arg3 harg3 arg4 harg4 arg5 harg5 arg6 harg6 arg7 harg7 arg8 harg8 arg9 harg9 arg10 harg10 arg11 harg11 arg12 harg12 hc0 x0 x1 x2 x3 x4 x5 x6 x7 (ix2 (cat n t) (col j e))
      = gated ((D j).out n ((D j).pre 0 n.val) t) (x7 (ix2 0 e)) (x3 (ix2 (cat n t) (col j e))) e := by
  unfold out0_A_8
  rw [out_A, View.read_writes_junk_eq_canon]
  canon_tiles x h
  case piece0 => exact piece_out (S := fun _ => 0) 7 (head_loads H hi 7 (by rfl) (by rfl)) _ (fun d e => load_zero _ _ _ _ d e) _ (load_tile _ _ _ 7 _ (by rfl) _) _ (load_vec _ _ _ _) n t j e x h0 (h1.trans (by omega))
  case piece1 => exact piece_out (S := fun _ => 0) 6 (head_loads H hi 6 (by rfl) (by rfl)) _ (fun d e => load_zero _ _ _ _ d e) _ (load_tile _ _ _ 6 _ (by rfl) _) _ (load_vec _ _ _ _) n t j e x h0 (h1.trans (by omega))
  case piece2 => exact piece_out (S := fun _ => 0) 5 (head_loads H hi 5 (by rfl) (by rfl)) _ (fun d e => load_zero _ _ _ _ d e) _ (load_tile _ _ _ 5 _ (by rfl) _) _ (load_vec _ _ _ _) n t j e x h0 (h1.trans (by omega))
  case piece3 => exact piece_out (S := fun _ => 0) 4 (head_loads H hi 4 (by rfl) (by rfl)) _ (fun d e => load_zero _ _ _ _ d e) _ (load_tile _ _ _ 4 _ (by rfl) _) _ (load_vec _ _ _ _) n t j e x h0 (h1.trans (by omega))
  case piece4 => exact piece_out (S := fun _ => 0) 3 (head_loads H hi 3 (by rfl) (by rfl)) _ (fun d e => load_zero _ _ _ _ d e) _ (load_tile _ _ _ 3 _ (by rfl) _) _ (load_vec _ _ _ _) n t j e x h0 (h1.trans (by omega))
  case piece5 => exact piece_out (S := fun _ => 0) 2 (head_loads H hi 2 (by rfl) (by rfl)) _ (fun d e => load_zero _ _ _ _ d e) _ (load_tile _ _ _ 2 _ (by rfl) _) _ (load_vec _ _ _ _) n t j e x h0 (h1.trans (by omega))
  case piece6 => exact piece_out (S := fun _ => 0) 1 (head_loads H hi 1 (by rfl) (by rfl)) _ (fun d e => load_zero _ _ _ _ d e) _ (load_tile _ _ _ 1 _ (by rfl) _) _ (load_vec _ _ _ _) n t j e x h0 (h1.trans (by omega))
  case piece7 => exact piece_out (S := fun _ => 0) 0 (head_loads H hi 0 (by rfl) (by rfl)) _ (fun d e => load_zero _ _ _ _ d e) _ (load_tile _ _ _ 0 _ (by rfl) _) _ (load_vec _ _ _ _) n t j e x h0 (h1.trans (by omega))

end Cert.KernelIdeal.Tile
end
-- ==== Proof.KernelVal.lean ====
module

public import proofs.«01_k».proof.Proof.Point

/-! The kernel's result array over the reals. -/

@[expose] public section

set_option maxRecDepth 16384

noncomputable section

namespace Cert.KernelIdeal.Whole

open Cert.KernelIdeal Cert.KernelIdeal.Gen Cert.KernelIdeal.Tile
open Idealize.ShloMosaic Idealize.ShloMosaic.TcCoe Idealize.ShloMosaic.Tactic Idealize.SL.Sem
open Gdn (col gated Rows row)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, t.val]
    ∧ win0_7.index t = ![0, 0] ∧ win0_8.index t = ![t.val, 0] ∧ (grid0.coords t 1).val = 0 :=
  (by decide +kernel : ∀ t : Fin grid0.N, _)

/-- Row `r` of tile `T`. -/
def trow (T : ℕ) (r : Fin 256) : Fin 32768 := Fin.ofNat 32768 (T * 256 + r.val)

theorem trow_val (T : ℕ) (hT : T < 128) (r : Fin 256) : (trow T r).val = T * 256 + r.val := by
  show (T * 256 + r.val) % 32768 = _
  exact Nat.mod_eq_of_lt (by omega)

theorem lt128 (t : Fin cfg0.N) : t.val < 128 := t.isLt

theorem blk0_at (t : Fin cfg0.N) (r : Fin 256) (e : Fin 1024) :
    iblk m c 0 t (ix2 r e) = m ((c : Thread nD τ).loc main_arg0) (ix2 (trow t.val r) e) := by
  have h := trow_val t.val (lt128 t) r
  blk_ext [iblk, V, idx t]

theorem blk1_at (t : Fin cfg0.N) (r : Fin 256) (e : Fin 1024) :
    iblk m c 1 t (ix2 r e) = m ((c : Thread nD τ).loc main_arg1) (ix2 (trow t.val r) e) := by
  have h := trow_val t.val (lt128 t) r
  blk_ext [iblk, V, idx t]

theorem blk2_at (t : Fin cfg0.N) (r : Fin 256) (e : Fin 1024) :
    iblk m c 2 t (ix2 r e) = m ((c : Thread nD τ).loc main_arg2) (ix2 (trow t.val r) e) := by
  have h := trow_val t.val (lt128 t) r
  blk_ext [iblk, V, idx t]

theorem blk3_at (t : Fin cfg0.N) (r : Fin 256) (e : Fin 1024) :
    iblk m c 3 t (ix2 r e) = m ((c : Thread nD τ).loc main_arg3) (ix2 (trow t.val r) e) := by
  have h := trow_val t.val (lt128 t) r
  blk_ext [iblk, V, idx t]

theorem blk4_at (t : Fin cfg0.N) (r : Fin 256) (e : Fin 8) :
    iblk m c 4 t (ix2 r e) = m ((c : Thread nD τ).loc main_arg4) (ix2 (trow t.val r) e) := by
  have h := trow_val t.val (lt128 t) r
  blk_ext [iblk, V, idx t]

theorem blk5_at (t : Fin cfg0.N) (r : Fin 256) (e : Fin 8) :
    iblk m c 5 t (ix2 r e) = m ((c : Thread nD τ).loc main_arg5) (ix2 (trow t.val r) e) := by
  have h := trow_val t.val (lt128 t) r
  blk_ext [iblk, V, idx t]

theorem blk6_at (t : Fin cfg0.N) (j : Fin 8) (r : Fin 256) :
    iblk m c 6 t (ix2 j r) = m ((c : Thread nD τ).loc main_arg5) (ix2 (trow t.val r) j) := by
  have h := trow_val t.val (lt128 t) r
  blk_simp [iblk]
  entry_read
  refine Eq.trans (congrArg (transpose S8x32768 [1, 0] (m ((c : Thread nD τ).loc main_arg5)) transposes_S32768x8_S8x32768_1_0)
    (show _ = (ix2 j (trow t.val r) : S8x32768.Idx) by blk_ext [idx t])) ?_
  pointwise

theorem blk7_at (t : Fin cfg0.N) (e : Fin 128) :
    iblk m c 7 t (ix2 0 e) = m ((c : Thread nD τ).loc main_arg6) (ix1 e) := by
  blk_simp [iblk]
  entry_read
  refine Eq.trans (congrArg (shapeCast S1x128 (m ((c : Thread nD τ).loc main_arg6)) shapeCasts_S128_S1x128)
    (show _ = (ix2 0 e : S1x128.Idx) by blk_ext [idx t])) ?_
  pointwise

/-- The call's arguments hold the real rows. -/
structure ArgsHold (X : Rows) : Prop where
  q : ∀ (r : Fin 32768) (e : Fin 1024), m ((c : Thread nD τ).loc main_arg0) (ix2 r e) = ((X.q r e : ℝ) : EReal)
  k : ∀ (r : Fin 32768) (e : Fin 1024), m ((c : Thread nD τ).loc main_arg1) (ix2 r e) = ((X.k r e : ℝ) : EReal)
  v : ∀ (r : Fin 32768) (e : Fin 1024), m ((c : Thread nD τ).loc main_arg2) (ix2 r e) = ((X.v r e : ℝ) : EReal)
  be : ∀ (r : Fin 32768) (j : Fin 8), m ((c : Thread nD τ).loc main_arg4) (ix2 r j) = ((X.be r j : ℝ) : EReal)
  g : ∀ (r : Fin 32768) (j : Fin 8), m ((c : Thread nD τ).loc main_arg5) (ix2 r j) = ((X.g r j : ℝ) : EReal)

variable {X : Rows}

/-- The data of head `j` in tile `T`. -/
def tile (X : Rows) (T : ℕ) (j : Fin 8) : Data where
  q r d := X.q (trow T r) (col j d)
  k r d := X.k (trow T r) (col j d)
  v r d := X.v (trow T r) (col j d)
  be r := X.be (trow T r) j
  g r := X.g (trow T r) j
  neg r := X.neg _ _

variable {m c}

theorem bholds (h : ArgsHold m c X) (t : Fin cfg0.N) :
    BHolds (tile X t.val) (iblk m c 0 t) (iblk m c 1 t) (iblk m c 2 t) (iblk m c 4 t) (iblk m c 5 t) (iblk m c 6 t) where
  q j r d := (blk0_at m c t r (col j d)).trans (h.q _ _)
  k j r d := (blk1_at m c t r (col j d)).trans (h.k _ _)
  v j r d := (blk2_at m c t r (col j d)).trans (h.v _ _)
  be j r := (blk4_at m c t r j).trans (h.be _ _)
  g j r := (blk5_at m c t r j).trans (h.g _ _)
  gt j r := (blk6_at m c t j r).trans (h.g _ _)

/-- A chunk of a tile is a chunk of the call. -/
theorem trow_cat (T : ℕ) (n : Fin 4) (t : Fin 64) : trow T (cat n t) = row (T * 4 + n.val) t := by
  show Fin.ofNat 32768 (T * 256 + (n.val * 64 + t.val)) = Fin.ofNat 32768 ((T * 4 + n.val) * 64 + t.val)
  congr 1; ring

theorem ch_q (T : ℕ) (j : Fin 8) (n : Fin 4) : ch (tile X T j).q n = X.cq j (T * 4 + n.val) := by
  funext t d; show X.q (trow T (cat n t)) _ = _; rw [trow_cat]; rfl
theorem ch_k (T : ℕ) (j : Fin 8) (n : Fin 4) : ch (tile X T j).k n = X.ck j (T * 4 + n.val) := by
  funext t d; show X.k (trow T (cat n t)) _ = _; rw [trow_cat]; rfl
theorem ch_v (T : ℕ) (j : Fin 8) (n : Fin 4) : ch (tile X T j).v n = X.cv j (T * 4 + n.val) := by
  funext t d; show X.v (trow T (cat n t)) _ = _; rw [trow_cat]; rfl
theorem ch_be (T : ℕ) (j : Fin 8) (n : Fin 4) : ch (tile X T j).be n = X.cb j (T * 4 + n.val) := by
  funext t; show X.be (trow T (cat n t)) _ = _; rw [trow_cat]; rfl
theorem ch_g (T : ℕ) (j : Fin 8) (n : Fin 4) : ch (tile X T j).g n = X.cg j (T * 4 + n.val) := by
  funext t; show X.g (trow T (cat n t)) _ = _; rw [trow_cat]; rfl

theorem step_eq (T : ℕ) (j : Fin 8) (n : Fin 4) (S : Fin 128 → Fin 128 → ℝ) :
    (tile X T j).step n S = X.step j (T * 4 + n.val) S := by
  unfold Data.step Rows.step
  rw [ch_k, ch_v, ch_be, ch_g]

/-- The states inside a tile are the states between the call's chunks. -/
theorem pre_eq (T : ℕ) (j : Fin 8) : ∀ n : ℕ, n < 4 → (tile X T j).pre (X.st j (T * 4)) n = X.st j (T * 4 + n)
  | 0, _ => rfl
  | n + 1, h => by
    show (tile X T j).step (Fin.ofNat 4 n) ((tile X T j).pre (X.st j (T * 4)) n) = _
    rw [pre_eq T j n (by omega), step_eq]
    have h4 : (Fin.ofNat 4 n).val = n := Nat.mod_eq_of_lt (by omega)
    rw [h4]
    exact (X.st_next j (T * 4 + n) (by omega)).symm

/-- The state after a tile that does not end its sequence. -/
theorem pre_last (T : ℕ) (j : Fin 8) (h : (T + 1) % 8 ≠ 0) :
    (tile X T j).pre (X.st j (T * 4)) 4 = X.st j ((T + 1) * 4) := by
  show (tile X T j).step (Fin.ofNat 4 3) ((tile X T j).pre (X.st j (T * 4)) 3) = _
  rw [pre_eq T j 3 (by omega), step_eq]
  exact (X.st_next j (T * 4 + 3) (by omega)).symm.trans (congrArg (X.st j) (by ring))

theorem out_eq (T : ℕ) (j : Fin 8) (n : Fin 4) :
    (tile X T j).out n ((tile X T j).pre (X.st j (T * 4)) n.val) = X.o j (T * 4 + n.val) := by
  rw [pre_eq T j n.val n.isLt]
  unfold Data.out Rows.o
  rw [ch_q, ch_k, ch_v, ch_be, ch_g]

/-- A sequence's first tile: the state starts from zero. -/
theorem carried_A (h : ArgsHold m c X) (t : Fin cfg0.N) (h0 : t.val % 8 = 0) :
    ∀ (j : Fin 8) (d e : Fin 128), (outsAt0 m c t.val t.isLt).2 (ix3 j d e) = (((tile X t.val j).pre 0 4 d e : ℝ) : EReal) := by
  intro j d e
  rw [congrArg Prod.snd (outsAt0_A m c t h0)]
  have key := sout_A (D := tile X t.val) c (grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := ms0_4 t) (harg7 := hs0_4 t) (arg8 := ms0_5 t) (harg8 := hs0_5 t) (arg9 := ms0_6 t) (harg9 := hs0_6 t) (arg10 := ms0_7 t) (harg10 := hs0_7 t) (arg11 := ms0_8 t) (harg11 := hs0_8 t) (arg12 := scM0_0) (harg12 := Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) ((hcond0_0 t).mpr h0) (idx t).2.2.2.2.2.2.2.2.2 (bholds h t)
  have k2 := key j d e
  dsimp only at k2 ⊢
  exact Eq.trans rfl k2

/-- A later tile: the state goes on from the tile before. -/
theorem carried_B (h : ArgsHold m c X) (t : Fin cfg0.N) (h0 : ¬t.val % 8 = 0) {S : Fin 8 → Fin 128 → Fin 128 → ℝ}
    (hS : SHolds (outsAt0 m c (t.val - 1) (Nat.lt_of_le_of_lt (Nat.sub_le _ _) t.isLt)).2 S) :
    ∀ (j : Fin 8) (d e : Fin 128), (outsAt0 m c t.val t.isLt).2 (ix3 j d e) = (((tile X t.val j).pre (S j) 4 d e : ℝ) : EReal) := by
  intro j d e
  rw [congrArg Prod.snd (outsAt0_B m c t h0)]
  have key := sout_B (D := tile X t.val) c (grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := ms0_4 t) (harg7 := hs0_4 t) (arg8 := ms0_5 t) (harg8 := hs0_5 t) (arg9 := ms0_6 t) (harg9 := hs0_6 t) (arg10 := ms0_7 t) (harg10 := hs0_7 t) (arg11 := ms0_8 t) (harg11 := hs0_8 t) (arg12 := scM0_0) (harg12 := Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (fun h => h0 ((hcond0_0 t).mp h)) (idx t).2.2.2.2.2.2.2.2.2 (bholds h t) hS
  have k2 := key j d e
  dsimp only at k2 ⊢
  exact Eq.trans rfl k2

/-- The scratch after a point holds the states after its tile. -/
theorem carried (h : ArgsHold m c X) : ∀ (n : ℕ) (hn : n < cfg0.N),
    SHolds (outsAt0 m c n hn).2 (fun j => (tile X n j).pre (X.st j (n * 4)) 4) := by
  intro n
  induction n with
  | zero => exact fun hn => carried_A h ⟨0, hn⟩ rfl
  | succ n ih =>
    intro hn
    by_cases h0 : (n + 1) % 8 = 0
    · have hs : (fun j => (tile X (n + 1) j).pre (X.st j ((n + 1) * 4)) 4) = fun j => (tile X (n + 1) j).pre 0 4 :=
        funext fun j => by rw [X.st_start j _ (by omega)]
      rw [hs]
      exact carried_A h ⟨n + 1, hn⟩ h0
    · have hs := ih (Nat.lt_of_succ_lt hn)
      have he : (fun j => (tile X n j).pre (X.st j (n * 4)) 4) = fun j => X.st j ((n + 1) * 4) := funext fun j => pre_last n j h0
      rw [he] at hs
      exact carried_B h ⟨n + 1, hn⟩ h0 hs

/-- What a sequence's first point writes back. -/
theorem written_A (h : ArgsHold m c X) (t : Fin cfg0.N) (h0 : t.val % 8 = 0) (n : Fin 4) (i : Fin 64) (j : Fin 8) (e : Fin 128) :
    (outsAt0 m c t.val t.isLt).1 (ix2 (cat n i) (col j e))
      = gated ((tile X t.val j).out n ((tile X t.val j).pre 0 n.val) i) (iblk m c 7 t (ix2 0 e))
        (iblk m c 3 t (ix2 (cat n i) (col j e))) e := by
  rw [congrArg Prod.fst (outsAt0_A m c t h0)]
  have key := out_A' (D := tile X t.val) c (grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := ms0_4 t) (harg7 := hs0_4 t) (arg8 := ms0_5 t) (harg8 := hs0_5 t) (arg9 := ms0_6 t) (harg9 := hs0_6 t) (arg10 := ms0_7 t) (harg10 := hs0_7 t) (arg11 := ms0_8 t) (harg11 := hs0_8 t) (arg12 := scM0_0) (harg12 := Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) ((hcond0_0 t).mpr h0) (idx t).2.2.2.2.2.2.2.2.2 (bholds h t) n i j e
  exact key

/-- What a later point writes back. -/
theorem written_B (h : ArgsHold m c X) (t : Fin cfg0.N) (h0 : ¬t.val % 8 = 0) {S : Fin 8 → Fin 128 → Fin 128 → ℝ}
    (hS : SHolds (outsAt0 m c (t.val - 1) (Nat.lt_of_le_of_lt (Nat.sub_le _ _) t.isLt)).2 S)
    (n : Fin 4) (i : Fin 64) (j : Fin 8) (e : Fin 128) :
    (outsAt0 m c t.val t.isLt).1 (ix2 (cat n i) (col j e))
      = gated ((tile X t.val j).out n ((tile X t.val j).pre (S j) n.val) i) (iblk m c 7 t (ix2 0 e))
        (iblk m c 3 t (ix2 (cat n i) (col j e))) e := by
  rw [congrArg Prod.fst (outsAt0_B m c t h0)]
  have key := out_B' (D := tile X t.val) c (grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := ms0_4 t) (harg7 := hs0_4 t) (arg8 := ms0_5 t) (harg8 := hs0_5 t) (arg9 := ms0_6 t) (harg9 := hs0_6 t) (arg10 := ms0_7 t) (harg10 := hs0_7 t) (arg11 := ms0_8 t) (harg11 := hs0_8 t) (arg12 := scM0_0) (harg12 := Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (fun h => h0 ((hcond0_0 t).mp h)) (idx t).2.2.2.2.2.2.2.2.2 (bholds h t) hS n i j e
  exact key

/-- What a point writes back, in the call's chunks. -/
theorem written (h : ArgsHold m c X) (t : Fin cfg0.N) (n : Fin 4) (i : Fin 64) (j : Fin 8) (e : Fin 128) :
    (outsAt0 m c t.val t.isLt).1 (ix2 (cat n i) (col j e))
      = gated (X.o j (t.val * 4 + n.val) i) (m ((c : Thread nD τ).loc main_arg6) (ix1 e))
        (m ((c : Thread nD τ).loc main_arg3) (ix2 (row (t.val * 4 + n.val) i) (col j e))) e := by
  rw [← blk7_at m c t e, ← trow_cat, ← blk3_at m c t, ← out_eq]
  by_cases h0 : t.val % 8 = 0
  · rw [X.st_start j _ (by omega)]
    exact written_A h t h0 n i j e
  · have hs := carried h (t.val - 1) (Nat.lt_of_le_of_lt (Nat.sub_le _ _) t.isLt)
    have he : (fun j => (tile X (t.val - 1) j).pre (X.st j ((t.val - 1) * 4)) 4) = fun j => X.st j (t.val * 4) := funext fun j => by
      rw [pre_last (t.val - 1) j (by omega)]
      exact congrArg (X.st j) (by omega)
    rw [he] at hs
    exact written_B h t h0 hs n i j e

/-- The kernel's result array. -/
theorem final (h : ArgsHold m c X) : (dats m 0 c).arrAt 8 cfg0.N = fun i : S32768x1024.Idx =>
    X.result (fun e => m ((c : Thread nD τ).loc main_arg6) (ix1 e)) (fun r e => m ((c : Thread nD τ).loc main_arg3) (ix2 r e)) (i 0) (i 1) := by
  refine (dats m 0 c).arrAt_eq_of_covers 8 _ (by decide +kernel) fun t hf y => ?_
  blk_simp
  rw [after0_8]
  have ht := lt128 t
  revert y
  intro (y : S256x1024.Idx)
  obtain ⟨r, d, rfl⟩ : ∃ (r : Fin 256) (d : Fin 1024), y = ix2 r d := ⟨y 0, y 1, ValueIdx.eq_ix2 y⟩
  obtain ⟨n, i, rfl⟩ : ∃ (n : Fin 4) (i : Fin 64), r = cat n i := ⟨⟨r.val / 64, by omega⟩, ⟨r.val % 64, by omega⟩, Fin.ext (by show r.val = r.val / 64 * 64 + r.val % 64; omega)⟩
  rw [← Gdn.col_parts d, written h t n i _ _]
  have he : (win0_8.blk t).view.emb (ix2 (cat n i) (col (Gdn.hd d) (Gdn.lc d)))
      = (ix2 (row (t.val * 4 + n.val) i) (col (Gdn.hd d) (Gdn.lc d)) : S32768x1024.Idx) := by
    rw [← trow_cat]
    have h' := trow_val t.val ht (cat n i)
    blk_ext [idx t]
    exact h'.symm
  rw [he]
  exact (Gdn.result_at X (Gdn.hd d) (t.val * 4 + n.val) (fun e => m ((c : Thread nD τ).loc main_arg6) (ix1 e))
    (fun r e => m ((c : Thread nD τ).loc main_arg3) (ix2 r e)) (by omega) i (Gdn.lc d)).symm

end Cert.KernelIdeal.Whole
end
-- ==== Proof.Cumsum.lean ====
module

public import proofs.«01_k».proof.Proof.Gen.ReferenceIdeal
public import proofs.«01_k».proof.Proof.Rows
public import Idealize.ShloMosaic.Lib.Pointwise

/-! The reference's running sum of the log decays, over the reals. -/

@[expose] public section

set_option maxRecDepth 16384

noncomputable section

namespace Cert.ReferenceIdeal.Whole

open Cert.ReferenceIdeal Cert.ReferenceIdeal.Gen
open Idealize.ShloMosaic Idealize.ShloMosaic.Tactic

/-- A fold that adds terms is the start plus their sum. -/
theorem foldl_add {α : Type} (l : List α) (f : α → EReal) : ∀ v : EReal, l.foldl (fun r n => r + f n) v = v + (l.map f).sum := by
  induction l with
  | nil => exact fun v => (add_zero v).symm
  | cons a l ih => exact fun v => (ih _).trans (by rw [List.map_cons, List.sum_cons, add_assoc])

/-- A window's positions. -/
abbrev CW : Shape := ⟨4, ![1, 1, 1, 64]⟩

/-- The window sum along the last axis, padded low by 63, is the running sum. -/
theorem cumsum_apply (x : FVec Ideal S16x8x32x64 .f32) (v : FVec Ideal S_ .f32) (hv : ∀ i, v i = 0)
    (h : S16x8x32x64.ReduceWindows ![1, 1, 1, 64] ![1, 1, 1, 1] ![0, 0, 0, 63] ![0, 0, 0, 0] S16x8x32x64) (hu : 0 < S_.numel)
    (b : Fin 16) (j : Fin 8) (n : Fin 32) (t : Fin 64) (g : Fin 64 → ℝ) (hg : ∀ s, x (ix4 b j n s) = ((g s : ℝ) : EReal)) :
    Host.reduceWindowAdd ![1, 1, 1, 64] ![1, 1, 1, 1] ![0, 0, 0, 63] ![0, 0, 0, 0] x v h hu (ix4 b j n t) = ((Gdn.gc g t : ℝ) : EReal) := by
  let c : Fin 64 := ⟨63 - t.val, by omega⟩
  let Fn : Fin 64 → EReal := fun p => if (p - c).val ≤ t.val then ((g (p - c) : ℝ) : EReal) else 0
  let U : CW.Idx → EReal := fun w => Fn (w 3)
  have hp : ∀ p : Fin 64, (p - c).val = (64 - (63 - t.val) + p.val) % 64 := fun p => rfl
  unfold Host.reduceWindowAdd
  show Host.reduceWindow (t := S16x8x32x64) (u := S_) (· + ·) ![1, 1, 1, 64] ![1, 1, 1, 1] ![0, 0, 0, 63] ![0, 0, 0, 0] x (fun _ => v (Shape.Idx.first hu)) h hu (ix4 b j n t) = _
  unfold Host.reduceWindow
  dsimp only
  rw [foldl_add, hv, zero_add]
  have h2 : ∀ l : List (Fin CW.numel), ∀ f : Fin CW.numel → EReal, (∀ p, f p = U (CW.rowMajor.symm p)) → (l.map f).sum = (l.map fun p => U (CW.rowMajor.symm p)).sum :=
    fun l f hf => congrArg (fun f => (l.map f).sum) (funext hf)
  refine (h2 _ _ fun p => ?_).trans ?_
  · let w0 : Fin 1 := CW.rowMajor.symm p 0
    let w1 : Fin 1 := CW.rowMajor.symm p 1
    let w2 : Fin 1 := CW.rowMajor.symm p 2
    let w3 : Fin 64 := CW.rowMajor.symm p 3
    have e3 := hp w3
    have l0 := w0.isLt
    have l1 := w1.isLt
    have l2 := w2.isLt
    show _ = if (w3 - c).val ≤ t.val then ((g (w3 - c) : ℝ) : EReal) else 0
    split
    · next hin =>
      have hin3 := hin 3
      replace hin3 : 63 ≤ t.val * 1 + w3.val ∧ t.val * 1 + w3.val - 63 < 64 := hin3
      rw [if_pos (by omega), ← hg]
      refine congrArg x (funext fun a => ?_)
      match a with
      | ⟨0, _⟩ => exact Fin.ext (by show b.val * 1 + w0.val - 0 = b.val; omega)
      | ⟨1, _⟩ => exact Fin.ext (by show j.val * 1 + w1.val - 0 = j.val; omega)
      | ⟨2, _⟩ => exact Fin.ext (by show n.val * 1 + w2.val - 0 = n.val; omega)
      | ⟨3, _⟩ => exact Fin.ext (by show t.val * 1 + w3.val - 63 = (w3 - c).val; omega)
    · next hin =>
      rw [if_neg]
      intro hc
      refine hin fun a => ?_
      match a with
      | ⟨0, _⟩ => show 0 ≤ b.val * 1 + w0.val ∧ b.val * 1 + w0.val - 0 < 16; omega
      | ⟨1, _⟩ => show 0 ≤ j.val * 1 + w1.val ∧ j.val * 1 + w1.val - 0 < 8; omega
      | ⟨2, _⟩ => show 0 ≤ n.val * 1 + w2.val ∧ n.val * 1 + w2.val - 0 < 32; omega
      | ⟨3, _⟩ => show 63 ≤ t.val * 1 + w3.val ∧ t.val * 1 + w3.val - 63 < 64; omega
  · rw [← Fin.sum_univ_def, Equiv.sum_comp CW.rowMajor.symm U, sum_idx4]
    simp only [Finset.univ_unique, Finset.sum_singleton]
    refine (Equiv.sum_comp (Equiv.subRight c) fun s : Fin 64 => if s.val ≤ t.val then ((g s : ℝ) : EReal) else 0).trans ?_
    unfold Gdn.gc
    rw [← Gdn.coe_sum]
    refine Finset.sum_congr rfl fun s _ => ?_
    split <;> rfl

end Cert.ReferenceIdeal.Whole
end
-- ==== Proof.RefPre.lean ====
module

public import proofs.«01_k».proof.Proof.RefRun
public import proofs.«01_k».proof.Proof.Cumsum
public import Idealize.ShloMosaic.Lib.Pointwise

/-! The reference's operations before its loops, over the reals. -/

@[expose] public section

set_option maxRecDepth 16384

noncomputable section

namespace Cert.ReferenceIdeal.Whole

open Cert.ReferenceIdeal Cert.ReferenceIdeal.Gen Cert.ReferenceIdeal.Lists Cert.ReferenceIdeal.RefRun
open Idealize.ShloMosaic Idealize.ShloMosaic.TcCoe Idealize.ShloMosaic.Tactic Idealize.ShloMosaic.StableHlo Idealize.SL.Sem
open Gdn (col gated Rows row)

/-- The buffers of the reference's one device. -/
abbrev Val := Valuation τ sig (Elt Ideal)

/-- The chunk `n` of batch entry `b`, counted through the call. -/
abbrev cn (b : Fin 16) (n : Fin 32) : ℕ := b.val * 32 + n.val

theorem keep0 (V : Val) (r : Ref sig .tc) (hr : r ∉ hostOps0_W) :
    after hostOps0 V (Proc.devRef .tc r) = V (Proc.devRef .tc r) :=
  after_of_writes_sub _ _ hostOps0_writes hr
theorem keep1 (V : Val) (r : Ref sig .tc) (hr : r ∉ hostOps0_1_W) :
    after hostOps0_1 V (Proc.devRef .tc r) = V (Proc.devRef .tc r) :=
  after_of_writes_sub _ _ hostOps0_1_writes hr
theorem keep2 (V : Val) (r : Ref sig .tc) (hr : r ∉ hostOps0_2_W) :
    after hostOps0_2 V (Proc.devRef .tc r) = V (Proc.devRef .tc r) :=
  after_of_writes_sub _ _ hostOps0_2_writes hr
theorem keep3 (V : Val) (r : Ref sig .tc) (hr : r ∉ hostOps0_3_W) :
    after hostOps0_3 V (Proc.devRef .tc r) = V (Proc.devRef .tc r) :=
  after_of_writes_sub _ _ hostOps0_3_writes hr
theorem keep4 (V : Val) (r : Ref sig .tc) (hr : r ∉ hostOps0_4_W) :
    after hostOps0_4 V (Proc.devRef .tc r) = V (Proc.devRef .tc r) :=
  after_of_writes_sub _ _ hostOps0_4_writes hr
theorem keep5 (V : Val) (r : Ref sig .tc) (hr : r ∉ hostOps0_5_W) :
    after hostOps0_5 V (Proc.devRef .tc r) = V (Proc.devRef .tc r) :=
  after_of_writes_sub _ _ hostOps0_5_writes hr
theorem keep6 (V : Val) (r : Ref sig .tc) (hr : r ∉ hostOps0_6_W) :
    after hostOps0_6 V (Proc.devRef .tc r) = V (Proc.devRef .tc r) :=
  after_of_writes_sub _ _ hostOps0_6_writes hr
theorem keep7 (V : Val) (r : Ref sig .tc) (hr : r ∉ hostOps0_7_W) :
    after hostOps0_7 V (Proc.devRef .tc r) = V (Proc.devRef .tc r) :=
  after_of_writes_sub _ _ hostOps0_7_writes hr
theorem keep8 (V : Val) (r : Ref sig .tc) (hr : r ∉ hostOps0_8_W) :
    after hostOps0_8 V (Proc.devRef .tc r) = V (Proc.devRef .tc r) :=
  after_of_writes_sub _ _ hostOps0_8_writes hr
theorem keep9 (V : Val) (r : Ref sig .tc) (hr : r ∉ hostOps0_9_W) :
    after hostOps0_9 V (Proc.devRef .tc r) = V (Proc.devRef .tc r) :=
  after_of_writes_sub _ _ hostOps0_9_writes hr
theorem keep10 (V : Val) (r : Ref sig .tc) (hr : r ∉ hostOps0_10_W) :
    after hostOps0_10 V (Proc.devRef .tc r) = V (Proc.devRef .tc r) :=
  after_of_writes_sub _ _ hostOps0_10_writes hr
theorem keep11 (V : Val) (r : Ref sig .tc) (hr : r ∉ hostOps0_11_W) :
    after hostOps0_11 V (Proc.devRef .tc r) = V (Proc.devRef .tc r) :=
  after_of_writes_sub _ _ hostOps0_11_writes hr
theorem keep12 (V : Val) (r : Ref sig .tc) (hr : r ∉ hostOps0_12_W) :
    after hostOps0_12 V (Proc.devRef .tc r) = V (Proc.devRef .tc r) :=
  after_of_writes_sub _ _ hostOps0_12_writes hr
theorem keep13 (V : Val) (r : Ref sig .tc) (hr : r ∉ hostOps0_13_W) :
    after hostOps0_13 V (Proc.devRef .tc r) = V (Proc.devRef .tc r) :=
  after_of_writes_sub _ _ hostOps0_13_writes hr
theorem keep14 (V : Val) (r : Ref sig .tc) (hr : r ∉ hostOps0_14_W) :
    after hostOps0_14 V (Proc.devRef .tc r) = V (Proc.devRef .tc r) :=
  after_of_writes_sub _ _ hostOps0_14_writes hr

variable (X : Rows) (V : Val)

/-- A chunk's decays between its rows. -/
def dec (g : Fin 64 → ℝ) (t s : Fin 64) : ℝ := if s.val ≤ t.val then Real.exp (Gdn.gc g t - Gdn.gc g s) else 0

/-- The sizes of an array's last two axes, compared. -/
def le1 (t s : Fin 64) : BitVec 1 := if s.val ≤ t.val then 1#1 else 0#1
def lt1 (t s : Fin 64) : BitVec 1 := if s.val < t.val then 1#1 else 0#1

theorem select_le {α : Type} (t s : Fin 64) (a b : α) : Scalar.select (le1 t s) a b = if s.val ≤ t.val then a else b := by
  unfold le1; split <;> rfl
theorem select_lt {α : Type} (t s : Fin 64) (a b : α) : Scalar.select (lt1 t s) a b = if s.val < t.val then a else b := by
  unfold lt1; split <;> rfl

theorem sge_le1 : ∀ t s : Fin 64, IntOp.cmpi CmpIPredicate.sge (BitVec.ofNat 32 t.val) (BitVec.ofNat 32 s.val) = le1 t s := by
  decide +kernel
theorem sgt_lt1 : ∀ t s : Fin 64, IntOp.cmpi CmpIPredicate.sgt (BitVec.ofNat 32 t.val) (BitVec.ofNat 32 s.val) = lt1 t s := by
  decide +kernel

theorem row_eq (b : Fin 16) (n : Fin 32) (t : Fin 64) (h : b.val * 2048 + n.val * 64 + t.val < 32768) :
    (⟨b.val * 2048 + n.val * 64 + t.val, h⟩ : Fin 32768) = row (cn b n) t := by
  refine Fin.ext ?_
  rw [Gdn.row_val (cn b n) (by show b.val * 32 + n.val < 512; omega)]
  show _ = (b.val * 32 + n.val) * 64 + t.val
  ring

section
variable (b : Fin 16) (j : Fin 8) (n : Fin 32) (t s : Fin 64) (d : Fin 128)

theorem s0_v6 (h : ∀ (r : Fin 32768) (e : Fin 1024), V (Proc.devRef .tc main_arg0) (ix2 r e) = ((X.q r e : ℝ) : EReal)) :
    after hostOps0 V (Proc.devRef .tc main_v6) (ix5 b j n t d) = ((X.cq j (cn b n) t d : ℝ) : EReal) := by
  after_reads_simp
  pointwise [row_eq, h]
  rfl

theorem s0_v8 (h : ∀ (r : Fin 32768) (e : Fin 1024), V (Proc.devRef .tc main_arg1) (ix2 r e) = ((X.k r e : ℝ) : EReal)) :
    after hostOps0 V (Proc.devRef .tc main_v8) (ix5 b j n t d) = ((X.ck j (cn b n) t d : ℝ) : EReal) := by
  after_reads_simp
  pointwise [row_eq, h]
  rfl

theorem s0_v10 (h : ∀ (r : Fin 32768) (e : Fin 1024), V (Proc.devRef .tc main_arg2) (ix2 r e) = ((X.v r e : ℝ) : EReal)) :
    after hostOps0 V (Proc.devRef .tc main_v10) (ix5 b j n t d) = ((X.cv j (cn b n) t d : ℝ) : EReal) := by
  after_reads_simp
  pointwise [row_eq, h]
  rfl

theorem s0_v12 (h : ∀ (r : Fin 32768) (e : Fin 8), V (Proc.devRef .tc main_arg5) (ix2 r e) = ((X.g r e : ℝ) : EReal)) :
    after hostOps0 V (Proc.devRef .tc main_v12) (ix4 b j n t) = ((X.cg j (cn b n) t : ℝ) : EReal) := by
  after_reads_simp
  pointwise [row_eq, h]
  rfl

theorem s0_v4 (r : Fin 2048) :
    after hostOps0 V (Proc.devRef .tc main_v4) (ix3 b r j) = V (Proc.devRef .tc main_arg4) (ix2 (⟨b.val * 2048 + r.val, by omega⟩ : Fin 32768) j) := by
  after_reads_simp
  pointwise

theorem s1_v13 (h : ∀ s, V (Proc.devRef .tc main_v12) (ix4 b j n s) = ((X.cg j (cn b n) s : ℝ) : EReal)) :
    after hostOps0_1 V (Proc.devRef .tc main_v13) (ix4 b j n t) = ((Gdn.gc (X.cg j (cn b n)) t : ℝ) : EReal) := by
  after_reads_simp
  simp only [TRef.ofBuf_toBuf]
  simp only [TRef.ofBuf, TRef.toBuf, cast_eq]
  exact cumsum_apply _ _ (fun i => by pointwise) _ _ b j n t _ h

theorem s2_v15 (h : ∀ r : Fin 2048, V (Proc.devRef .tc main_v4) (ix3 b r j) = ((X.be (⟨b.val * 2048 + r.val, by omega⟩ : Fin 32768) j : ℝ) : EReal)) :
    after hostOps0_2 V (Proc.devRef .tc main_v15) (ix4 b j n t) = ((X.cb j (cn b n) t : ℝ) : EReal) := by
  after_reads_simp
  pointwise [h]
  exact congrArg (fun r => ((X.be r j : ℝ) : EReal)) ((Fin.ext (add_assoc _ _ _).symm).trans (row_eq b n t (by omega)))

theorem s2_v21 : after hostOps0_2 V (Proc.devRef .tc main_v21) (ix2 t s) = le1 t s := by
  after_reads_simp
  pointwise [sge_le1]

theorem s2_v26 : after hostOps0_2 V (Proc.devRef .tc main_v26) (ix2 t s) = lt1 t s := by
  after_reads_simp
  pointwise [sgt_lt1]

theorem s2_v31 (h : ∀ s, V (Proc.devRef .tc main_v13) (ix4 b j n s) = ((Gdn.gc (X.cg j (cn b n)) s : ℝ) : EReal)) :
    after hostOps0_2 V (Proc.devRef .tc main_v31) (ix5 b j n t s)
      = ((Gdn.gc (X.cg j (cn b n)) t - Gdn.gc (X.cg j (cn b n)) s : ℝ) : EReal) := by
  after_reads_simp
  pointwise [h]
  rfl

theorem s2_cst : after hostOps0_2 V (Proc.devRef .tc main_cst) ix0 = (0 : EReal) := by
  after_reads_simp
  pointwise

theorem s3_v32 (h0 : V (Proc.devRef .tc main_cst) ix0 = (0 : EReal)) (h21 : ∀ t s, V (Proc.devRef .tc main_v21) (ix2 t s) = le1 t s)
    (h : V (Proc.devRef .tc main_v31) (ix5 b j n t s) = ((Gdn.gc (X.cg j (cn b n)) t - Gdn.gc (X.cg j (cn b n)) s : ℝ) : EReal)) :
    after hostOps0_3 V (Proc.devRef .tc main_v32) (ix5 b j n t s)
      = ((if s.val ≤ t.val then Gdn.gc (X.cg j (cn b n)) t - Gdn.gc (X.cg j (cn b n)) s else 0 : ℝ) : EReal) := by
  after_reads_simp
  simp only [TRef.ofBuf_toBuf]
  simp only [TRef.ofBuf, TRef.toBuf, cast_eq, id]
  pointwise [h21, h0, h]
  rw [select_le]
  split <;> rfl

theorem s4_v33 (h : V (Proc.devRef .tc main_v32) (ix5 b j n t s)
      = ((if s.val ≤ t.val then Gdn.gc (X.cg j (cn b n)) t - Gdn.gc (X.cg j (cn b n)) s else 0 : ℝ) : EReal)) :
    after hostOps0_4 V (Proc.devRef .tc main_v33) (ix5 b j n t s)
      = ((Real.exp (if s.val ≤ t.val then Gdn.gc (X.cg j (cn b n)) t - Gdn.gc (X.cg j (cn b n)) s else 0) : ℝ) : EReal) := by
  after_reads_simp
  pointwise [h, Ideal.exp_coe]

theorem s4_cst : after hostOps0_4 V (Proc.devRef .tc main_cst_0) ix0 = (0 : EReal) := by
  after_reads_simp
  pointwise

theorem s5_v34 (h0 : V (Proc.devRef .tc main_cst_0) ix0 = (0 : EReal)) (h21 : ∀ t s, V (Proc.devRef .tc main_v21) (ix2 t s) = le1 t s)
    (h : V (Proc.devRef .tc main_v33) (ix5 b j n t s)
      = ((Real.exp (if s.val ≤ t.val then Gdn.gc (X.cg j (cn b n)) t - Gdn.gc (X.cg j (cn b n)) s else 0) : ℝ) : EReal)) :
    after hostOps0_5 V (Proc.devRef .tc main_v34) (ix5 b j n t s) = ((dec (X.cg j (cn b n)) t s : ℝ) : EReal) := by
  after_reads_simp
  simp only [TRef.ofBuf_toBuf]
  simp only [TRef.ofBuf, TRef.toBuf, cast_eq, id]
  pointwise [h21, h0, h]
  rw [select_le]
  unfold dec
  split <;> rfl

theorem s6_v37 (h8 : ∀ t d, V (Proc.devRef .tc main_v8) (ix5 b j n t d) = ((X.ck j (cn b n) t d : ℝ) : EReal))
    (h15 : ∀ t, V (Proc.devRef .tc main_v15) (ix4 b j n t) = ((X.cb j (cn b n) t : ℝ) : EReal)) :
    after hostOps0_6 V (Proc.devRef .tc main_v37) (ix5 b j n t d) = ((X.ck j (cn b n) t d * X.cb j (cn b n) t : ℝ) : EReal) := by
  after_reads_simp
  pointwise [h8, h15]
  rfl

theorem s6_v39 (h8 : ∀ t d, V (Proc.devRef .tc main_v8) (ix5 b j n t d) = ((X.ck j (cn b n) t d : ℝ) : EReal))
    (h15 : ∀ t, V (Proc.devRef .tc main_v15) (ix4 b j n t) = ((X.cb j (cn b n) t : ℝ) : EReal))
    (h34 : V (Proc.devRef .tc main_v34) (ix5 b j n t s) = ((dec (X.cg j (cn b n)) t s : ℝ) : EReal)) :
    after hostOps0_6 V (Proc.devRef .tc main_v39) (ix5 b j n t s)
      = (((∑ d, X.ck j (cn b n) t d * X.cb j (cn b n) t * X.ck j (cn b n) s d) * dec (X.cg j (cn b n)) t s : ℝ) : EReal) := by
  after_reads_simp
  pointwise [h8, h15, h34]
  simp only [← EReal.coe_mul, Gdn.coe_sum]

theorem s6_cst : after hostOps0_6 V (Proc.devRef .tc main_cst_1) ix0 = (0 : EReal) := by
  after_reads_simp
  pointwise

theorem s7_v40 (h0 : V (Proc.devRef .tc main_cst_1) ix0 = (0 : EReal)) (h26 : ∀ t s, V (Proc.devRef .tc main_v26) (ix2 t s) = lt1 t s)
    (h : V (Proc.devRef .tc main_v39) (ix5 b j n t s)
      = (((∑ d, X.ck j (cn b n) t d * X.cb j (cn b n) t * X.ck j (cn b n) s d) * dec (X.cg j (cn b n)) t s : ℝ) : EReal)) :
    after hostOps0_7 V (Proc.devRef .tc main_v40) (ix5 b j n t s)
      = ((Gdn.low (X.ck j (cn b n)) (X.cb j (cn b n)) (X.cg j (cn b n)) t s : ℝ) : EReal) := by
  after_reads_simp
  simp only [TRef.ofBuf_toBuf]
  simp only [TRef.ofBuf, TRef.toBuf, cast_eq, id]
  pointwise [h26, h0, h]
  rw [select_lt]
  unfold dec Gdn.low
  split
  · rw [if_pos (by omega)]
  · rfl

theorem s8_v50_0 : after hostOps0_8 V (Proc.devRef .tc main_v50_0) = V (Proc.devRef .tc main_v40) := by
  after_reads_simp
  rfl

theorem s8_v50_1 (h10 : ∀ t d, V (Proc.devRef .tc main_v10) (ix5 b j n t d) = ((X.cv j (cn b n) t d : ℝ) : EReal))
    (h13 : ∀ s, V (Proc.devRef .tc main_v13) (ix4 b j n s) = ((Gdn.gc (X.cg j (cn b n)) s : ℝ) : EReal))
    (h15 : ∀ t, V (Proc.devRef .tc main_v15) (ix4 b j n t) = ((X.cb j (cn b n) t : ℝ) : EReal))
    (h37 : ∀ t d, V (Proc.devRef .tc main_v37) (ix5 b j n t d) = ((X.ck j (cn b n) t d * X.cb j (cn b n) t : ℝ) : EReal)) (e : Fin 256) :
    after hostOps0_8 V (Proc.devRef .tc main_v50_1) (ix5 b j n t e)
      = ((Gdn.rhs (X.ck j (cn b n)) (X.cv j (cn b n)) (X.cb j (cn b n)) (X.cg j (cn b n)) t e : ℝ) : EReal) := by
  after_reads_simp
  simp only [id]
  pointwise
  after_reads_simp
  pointwise [h10, h13, h15, h37, Ideal.exp_coe]
  unfold Gdn.rhs
  split <;> rfl

theorem s8_v50_3 : after hostOps0_8 V (Proc.devRef .tc main_v50_3) ix0 = 0#32 := by
  after_reads_simp
  simp only [id]
  pointwise

theorem s8_v50_4 (e : Fin 256) : after hostOps0_8 V (Proc.devRef .tc main_v50_4) (ix5 b j n t e) = (0 : EReal) := by
  after_reads_simp
  simp only [id]
  pointwise

end

/-- The launched arrays hold the real rows. -/
structure ArgsHold : Prop where
  q : ∀ (r : Fin 32768) (e : Fin 1024), V (Proc.devRef .tc main_arg0) (ix2 r e) = ((X.q r e : ℝ) : EReal)
  k : ∀ (r : Fin 32768) (e : Fin 1024), V (Proc.devRef .tc main_arg1) (ix2 r e) = ((X.k r e : ℝ) : EReal)
  v : ∀ (r : Fin 32768) (e : Fin 1024), V (Proc.devRef .tc main_arg2) (ix2 r e) = ((X.v r e : ℝ) : EReal)
  be : ∀ (r : Fin 32768) (j : Fin 8), V (Proc.devRef .tc main_arg4) (ix2 r j) = ((X.be r j : ℝ) : EReal)
  g : ∀ (r : Fin 32768) (j : Fin 8), V (Proc.devRef .tc main_arg5) (ix2 r j) = ((X.g r j : ℝ) : EReal)

/-- What the loops read of the stretches before them. -/
structure Pre : Prop where
  q : ∀ b j n t d, V (Proc.devRef .tc main_v6) (ix5 b j n t d) = ((X.cq j (cn b n) t d : ℝ) : EReal)
  k : ∀ b j n t d, V (Proc.devRef .tc main_v8) (ix5 b j n t d) = ((X.ck j (cn b n) t d : ℝ) : EReal)
  gc : ∀ b j n t, V (Proc.devRef .tc main_v13) (ix4 b j n t) = ((Gdn.gc (X.cg j (cn b n)) t : ℝ) : EReal)
  le : ∀ t s, V (Proc.devRef .tc main_v21) (ix2 t s) = le1 t s
  dec : ∀ b j n t s, V (Proc.devRef .tc main_v34) (ix5 b j n t s) = ((dec (X.cg j (cn b n)) t s : ℝ) : EReal)
  low : ∀ b j n t s, V (Proc.devRef .tc main_v50_0) (ix5 b j n t s)
    = ((Gdn.low (X.ck j (cn b n)) (X.cb j (cn b n)) (X.cg j (cn b n)) t s : ℝ) : EReal)
  rhs : ∀ b j n t e, V (Proc.devRef .tc main_v50_1) (ix5 b j n t e)
    = ((Gdn.rhs (X.ck j (cn b n)) (X.cv j (cn b n)) (X.cb j (cn b n)) (X.cg j (cn b n)) t e : ℝ) : EReal)
  ctr : V (Proc.devRef .tc main_v50_3) ix0 = 0#32
  zero : ∀ b j n t e, V (Proc.devRef .tc main_v50_4) (ix5 b j n t e) = (0 : EReal)

variable {X V}

/-- The buffers before each of the stretches. -/
def P1 (V : Val) : Val := after hostOps0 V
def P2 (V : Val) : Val := after hostOps0_1 (P1 V)
def P3 (V : Val) : Val := after hostOps0_2 (P2 V)
def P4 (V : Val) : Val := after hostOps0_3 (P3 V)
def P5 (V : Val) : Val := after hostOps0_4 (P4 V)
def P6 (V : Val) : Val := after hostOps0_5 (P5 V)
def P7 (V : Val) : Val := after hostOps0_6 (P6 V)
def P8 (V : Val) : Val := after hostOps0_7 (P7 V)
def P9 (V : Val) : Val := after hostOps0_8 (P8 V)

theorem keepP1 (V : Val) (r : Ref sig .tc) (hr : r ∉ hostOps0_1_W) : P2 V (Proc.devRef .tc r) = P1 V (Proc.devRef .tc r) := keep1 _ r hr
theorem keepP2 (V : Val) (r : Ref sig .tc) (hr : r ∉ hostOps0_2_W) : P3 V (Proc.devRef .tc r) = P2 V (Proc.devRef .tc r) := keep2 _ r hr
theorem keepP3 (V : Val) (r : Ref sig .tc) (hr : r ∉ hostOps0_3_W) : P4 V (Proc.devRef .tc r) = P3 V (Proc.devRef .tc r) := keep3 _ r hr
theorem keepP4 (V : Val) (r : Ref sig .tc) (hr : r ∉ hostOps0_4_W) : P5 V (Proc.devRef .tc r) = P4 V (Proc.devRef .tc r) := keep4 _ r hr
theorem keepP5 (V : Val) (r : Ref sig .tc) (hr : r ∉ hostOps0_5_W) : P6 V (Proc.devRef .tc r) = P5 V (Proc.devRef .tc r) := keep5 _ r hr
theorem keepP6 (V : Val) (r : Ref sig .tc) (hr : r ∉ hostOps0_6_W) : P7 V (Proc.devRef .tc r) = P6 V (Proc.devRef .tc r) := keep6 _ r hr
theorem keepP7 (V : Val) (r : Ref sig .tc) (hr : r ∉ hostOps0_7_W) : P8 V (Proc.devRef .tc r) = P7 V (Proc.devRef .tc r) := keep7 _ r hr
theorem keepP8 (V : Val) (r : Ref sig .tc) (hr : r ∉ hostOps0_8_W) : P9 V (Proc.devRef .tc r) = P8 V (Proc.devRef .tc r) := keep8 _ r hr

/-- The stretches before the loops establish it. -/
theorem pre_facts (h : ArgsHold X V) : Pre X (P9 V) := by
  have q1 := fun b j n t d => s0_v6 X V b j n t d h.q
  have k1 := fun b j n t d => s0_v8 X V b j n t d h.k
  have v1 := fun b j n t d => s0_v10 X V b j n t d h.v
  have g1 := fun b j n t => s0_v12 X V b j n t h.g
  have b1 := fun b j r => (s0_v4 V b j r).trans (h.be _ _)
  have gc2 := fun b j n t => s1_v13 X (P1 V) b j n t (fun s => g1 b j n s)
  have b2 := fun b j r => (congrFun (show P2 V (Proc.devRef .tc main_v4) = P1 V _ by rw [keepP1 V main_v4 (by decide +kernel)]) _).trans (b1 b j r)
  have b3 := fun b j n t => s2_v15 X (P2 V) b j n t (fun r => b2 b j r)
  have le3 := fun t s => s2_v21 (P2 V) t s
  have lt3 := fun t s => s2_v26 (P2 V) t s
  have d3 := fun b j n t s => s2_v31 X (P2 V) b j n t s (fun s => gc2 b j n s)
  have d4 := fun b j n t s => s3_v32 X (P3 V) b j n t s (s2_cst (P2 V)) le3 (d3 b j n t s)
  have d5 := fun b j n t s => s4_v33 X (P4 V) b j n t s (d4 b j n t s)
  have le5 := fun t s => (congrFun (show P5 V (Proc.devRef .tc main_v21) = P3 V _ by rw [keepP4 V main_v21 (by decide +kernel), keepP3 V main_v21 (by decide +kernel)]) _).trans (le3 t s)
  have d6 := fun b j n t s => s5_v34 X (P5 V) b j n t s (s4_cst (P4 V)) le5 (d5 b j n t s)
  have k6 := fun b j n t d => (congrFun (show P6 V (Proc.devRef .tc main_v8) = P1 V _ by rw [keepP5 V main_v8 (by decide +kernel), keepP4 V main_v8 (by decide +kernel), keepP3 V main_v8 (by decide +kernel), keepP2 V main_v8 (by decide +kernel), keepP1 V main_v8 (by decide +kernel)]) _).trans (k1 b j n t d)
  have b6 := fun b j n t => (congrFun (show P6 V (Proc.devRef .tc main_v15) = P3 V _ by rw [keepP5 V main_v15 (by decide +kernel), keepP4 V main_v15 (by decide +kernel), keepP3 V main_v15 (by decide +kernel)]) _).trans (b3 b j n t)
  have kb7 := fun b j n t d => s6_v37 X (P6 V) b j n t d (fun t d => k6 b j n t d) (fun t => b6 b j n t)
  have l7 := fun b j n t s => s6_v39 X (P6 V) b j n t s (fun t d => k6 b j n t d) (fun t => b6 b j n t) (d6 b j n t s)
  have lt7 := fun t s => (congrFun (show P7 V (Proc.devRef .tc main_v26) = P3 V _ by rw [keepP6 V main_v26 (by decide +kernel), keepP5 V main_v26 (by decide +kernel), keepP4 V main_v26 (by decide +kernel), keepP3 V main_v26 (by decide +kernel)]) _).trans (lt3 t s)
  have l8 := fun b j n t s => s7_v40 X (P7 V) b j n t s (s6_cst (P6 V)) lt7 (l7 b j n t s)
  have v8 := fun b j n t d => (congrFun (show P8 V (Proc.devRef .tc main_v10) = P1 V _ by rw [keepP7 V main_v10 (by decide +kernel), keepP6 V main_v10 (by decide +kernel), keepP5 V main_v10 (by decide +kernel), keepP4 V main_v10 (by decide +kernel), keepP3 V main_v10 (by decide +kernel), keepP2 V main_v10 (by decide +kernel), keepP1 V main_v10 (by decide +kernel)]) _).trans (v1 b j n t d)
  have gc8 := fun b j n t => (congrFun (show P8 V (Proc.devRef .tc main_v13) = P2 V _ by rw [keepP7 V main_v13 (by decide +kernel), keepP6 V main_v13 (by decide +kernel), keepP5 V main_v13 (by decide +kernel), keepP4 V main_v13 (by decide +kernel), keepP3 V main_v13 (by decide +kernel), keepP2 V main_v13 (by decide +kernel)]) _).trans (gc2 b j n t)
  have b8 := fun b j n t => (congrFun (show P8 V (Proc.devRef .tc main_v15) = P3 V _ by rw [keepP7 V main_v15 (by decide +kernel), keepP6 V main_v15 (by decide +kernel), keepP5 V main_v15 (by decide +kernel), keepP4 V main_v15 (by decide +kernel), keepP3 V main_v15 (by decide +kernel)]) _).trans (b3 b j n t)
  have kb8 := fun b j n t d => (congrFun (show P8 V (Proc.devRef .tc main_v37) = P7 V _ by rw [keepP7 V main_v37 (by decide +kernel)]) _).trans (kb7 b j n t d)
  exact {
    q := fun b j n t d => (congrFun (show P9 V (Proc.devRef .tc main_v6) = P1 V _ by rw [keepP8 V main_v6 (by decide +kernel), keepP7 V main_v6 (by decide +kernel), keepP6 V main_v6 (by decide +kernel), keepP5 V main_v6 (by decide +kernel), keepP4 V main_v6 (by decide +kernel), keepP3 V main_v6 (by decide +kernel), keepP2 V main_v6 (by decide +kernel), keepP1 V main_v6 (by decide +kernel)]) _).trans (q1 b j n t d)
    k := fun b j n t d => (congrFun (show P9 V (Proc.devRef .tc main_v8) = P6 V _ by rw [keepP8 V main_v8 (by decide +kernel), keepP7 V main_v8 (by decide +kernel), keepP6 V main_v8 (by decide +kernel)]) _).trans (k6 b j n t d)
    gc := fun b j n t => (congrFun (show P9 V (Proc.devRef .tc main_v13) = P8 V _ by rw [keepP8 V main_v13 (by decide +kernel)]) _).trans (gc8 b j n t)
    le := fun t s => (congrFun (show P9 V (Proc.devRef .tc main_v21) = P5 V _ by rw [keepP8 V main_v21 (by decide +kernel), keepP7 V main_v21 (by decide +kernel), keepP6 V main_v21 (by decide +kernel), keepP5 V main_v21 (by decide +kernel)]) _).trans (le5 t s)
    dec := fun b j n t s => (congrFun (show P9 V (Proc.devRef .tc main_v34) = P6 V _ by rw [keepP8 V main_v34 (by decide +kernel), keepP7 V main_v34 (by decide +kernel), keepP6 V main_v34 (by decide +kernel)]) _).trans (d6 b j n t s)
    low := fun b j n t s => (congrFun (s8_v50_0 (P8 V)) _).trans (l8 b j n t s)
    rhs := fun b j n t e => s8_v50_1 X (P8 V) b j n t (fun t d => v8 b j n t d) (fun s => gc8 b j n s) (fun t => b8 b j n t) (fun t d => kb8 b j n t d) e
    ctr := s8_v50_3 (P8 V)
    zero := fun b j n t e => s8_v50_4 (P8 V) b j n t e }

theorem afterL_pre (V : Val) : afterL preI V = P9 V := rfl

end Cert.ReferenceIdeal.Whole
end
-- ==== Proof.RefSolve.lean ====
module

public import proofs.«01_k».proof.Proof.RefPre

/-! The reference's forward substitution, over the reals: after 64 rows it holds the solutions. -/

@[expose] public section

set_option maxRecDepth 16384

noncomputable section

namespace Cert.ReferenceIdeal.Whole

open Cert.ReferenceIdeal Cert.ReferenceIdeal.Gen Cert.ReferenceIdeal.Lists Cert.ReferenceIdeal.RefRun
open Idealize.ShloMosaic Idealize.ShloMosaic.TcCoe Idealize.ShloMosaic.Tactic Idealize.ShloMosaic.StableHlo Idealize.SL.Sem
open Gdn (col gated Rows row)

/-- The solutions solve the system. -/
theorem solve_spec (l : Matrix (Fin 64) (Fin 64) ℝ) (hl : ∀ t j : Fin 64, t.val ≤ j.val → l t j = 0)
    (r : Matrix (Fin 64) (Fin 256) ℝ) (t : Fin 64) (e : Fin 256) : Gdn.solve l r t e + ∑ j, l t j * Gdn.solve l r j e = r t e := by
  have hd : (1 + l).det = 1 := by
    rw [Matrix.det_of_lowerTriangular]
    · refine Finset.prod_eq_one fun i _ => ?_
      rw [Matrix.add_apply, Matrix.one_apply_eq, hl i i le_rfl, add_zero]
    · intro i j hij
      have hij : i < j := hij
      rw [Matrix.add_apply, Matrix.one_apply_ne hij.ne, hl i j hij.le, add_zero]
  have hx : (1 + l) * Gdn.solve l r = r := by
    rw [Gdn.solve, ← Matrix.mul_assoc, Matrix.mul_nonsing_inv _ (by rw [hd]; exact isUnit_one), Matrix.one_mul]
  conv_rhs => rw [← hx]
  rw [Matrix.add_mul, Matrix.one_mul, Matrix.add_apply, Matrix.mul_apply]

/-- A row's index, as jax takes it, is its number. -/
theorem wrap_lt : ∀ k : Fin 64, (IntOp.cmpi CmpIPredicate.slt (BitVec.ofNat 32 k.val) 0#32) = 0#1 := by decide +kernel

/-- A row's number, clamped to a row, is itself. -/
theorem clamp_row : ∀ k : Fin 64, (min (max (BitVec.toInt (BitVec.ofNat 32 k.val)) 0) ((63 : ℕ) : Int)).toNat = k.val := by decide +kernel

/-- A start along an axis that the window fills is 0. -/
theorem _root_.Idealize.ShloMosaic.Host.clampedStart_full {s t : Shape} (ht : t.rank = s.rank) (start : Fin s.rank → Int) (a : Fin s.rank)
    (h : s.size a = t.size (a.cast ht.symm)) : Host.clampedStart s t ht start a = 0 := by
  unfold Host.clampedStart
  rw [h, Nat.sub_self]
  omega

/-- The starts of a row's window. -/
theorem clamp_low (h) (s : Fin 5 → Int) :
    Host.clampedStart S16x8x32x64x64 S16x8x32x1x64 h s 0 = 0 ∧ Host.clampedStart S16x8x32x64x64 S16x8x32x1x64 h s 1 = 0
    ∧ Host.clampedStart S16x8x32x64x64 S16x8x32x1x64 h s 2 = 0 ∧ Host.clampedStart S16x8x32x64x64 S16x8x32x1x64 h s 4 = 0
    ∧ Host.clampedStart S16x8x32x64x64 S16x8x32x1x64 h s 3 = (min (max (s 3) 0) ((63 : ℕ) : Int)).toNat := by
  refine ⟨?_, ?_, ?_, ?_, rfl⟩ <;> exact Host.clampedStart_full _ _ _ rfl
theorem clamp_rhs (h) (s : Fin 5 → Int) :
    Host.clampedStart S16x8x32x64x256 S16x8x32x1x256 h s 0 = 0 ∧ Host.clampedStart S16x8x32x64x256 S16x8x32x1x256 h s 1 = 0
    ∧ Host.clampedStart S16x8x32x64x256 S16x8x32x1x256 h s 2 = 0 ∧ Host.clampedStart S16x8x32x64x256 S16x8x32x1x256 h s 4 = 0
    ∧ Host.clampedStart S16x8x32x64x256 S16x8x32x1x256 h s 3 = (min (max (s 3) 0) ((63 : ℕ) : Int)).toNat := by
  refine ⟨?_, ?_, ?_, ?_, rfl⟩ <;> exact Host.clampedStart_full _ _ _ rfl

theorem toInt_row : ∀ k : Fin 64, BitVec.toInt (BitVec.ofNat 32 k.val) = (k.val : Int) := by decide +kernel

theorem first0 : Shape.Idx.first h_S_ = ix0 := by
  funext a; exact a.elim0

/-- A row of a system's matrix. -/
theorem row_low (x : S16x8x32x64x64.Idx → EReal) (s : Fin 5 → Int) (k : Fin 64) (hs : s 3 = (k.val : Int))
    (b : Fin 16) (j : Fin 8) (n : Fin 32) (d : Fin 64) :
    Host.dynamicSlice S16x8x32x1x64 x s sliceFits_S16x8x32x64x64_S16x8x32x1x64 (ix5 b j n (0 : Fin 1) d) = x (ix5 b j n k d) := by
  pointwise
  have hk := toInt_row k ▸ clamp_row k
  simp only [clamp_low, hs, hk, zero_add, add_zero]

/-- A row of a system's right-hand sides. -/
theorem row_rhs (x : S16x8x32x64x256.Idx → EReal) (s : Fin 5 → Int) (k : Fin 64) (hs : s 3 = (k.val : Int))
    (b : Fin 16) (j : Fin 8) (n : Fin 32) (e : Fin 256) :
    Host.dynamicSlice S16x8x32x1x256 x s sliceFits_S16x8x32x64x256_S16x8x32x1x256 (ix5 b j n (0 : Fin 1) e) = x (ix5 b j n k e) := by
  pointwise
  have hk := toInt_row k ▸ clamp_row k
  simp only [clamp_rhs, hs, hk, zero_add, add_zero]

/-- The rows with row `k` replaced. -/
theorem row_upd (x : S16x8x32x64x256.Idx → EReal) (u : S16x8x32x1x256.Idx → EReal) (s : Fin 5 → Int) (k : Fin 64) (hs : s 3 = (k.val : Int))
    (b : Fin 16) (j : Fin 8) (n : Fin 32) (t : Fin 64) (e : Fin 256) :
    Host.dynamicUpdateSlice x u s updateFits_S16x8x32x64x256_S16x8x32x1x256 (ix5 b j n t e)
      = if t = k then u (ix5 b j n (0 : Fin 1) e) else x (ix5 b j n t e) := by
  pointwise
  have hk := toInt_row k ▸ clamp_row k
  simp only [clamp_rhs, hs, hk, zero_add, Nat.sub_zero, Nat.zero_le, true_and, and_true]
  by_cases h : t = k
  · subst h
    rw [dif_pos ⟨b.2, j.2, n.2, ⟨le_rfl, Nat.lt_succ_self _⟩, e.2⟩, if_pos rfl]
    have h0 : (⟨t.val - t.val, by omega⟩ : Fin 1) = 0 := Subsingleton.elim _ _
    exact congrArg (fun a => u (ix5 b j n a e)) h0
  · rw [dif_neg (fun x => h (Fin.ext (by omega))), if_neg h]

/-- A row against the rows found so far. -/
theorem row_dot (l : FVec Ideal S16x8x32x1x64 .f32) (r : FVec Ideal S16x8x32x64x256 .f32) (b : Fin 16) (j : Fin 8) (n : Fin 32) (e : Fin 256) :
    (Host.dotGeneral dot_S16x8x32x1x64_S16x8x32x64x256_S16x8x32x1x256_4_3_3_4_012_012 none l r : FVec Ideal S16x8x32x1x256 .f32) (ix5 b j n (0 : Fin 1) e)
      = ∑ d : Fin 64, (l (ix5 b j n (0 : Fin 1) d) * r (ix5 b j n d e) : EReal) := by
  pointwise

variable (X : Rows) (V : Val)

/-- One trip: row `k` becomes its right-hand side less the row against the rows found so far. -/
theorem row_step (k : Fin 64) (hk : V (Proc.devRef .tc main_v50_3) ix0 = BitVec.ofNat 32 k.val)
    (b : Fin 16) (j : Fin 8) (n : Fin 32) (t : Fin 64) (e : Fin 256) :
    after while0Ops0 V (Proc.devRef .tc main_v50_4) (ix5 b j n t e)
      = if t = k then @HSub.hSub EReal EReal EReal _ (V (Proc.devRef .tc main_v50_1) (ix5 b j n k e))
          (∑ d : Fin 64, @HMul.hMul EReal EReal EReal _ (V (Proc.devRef .tc main_v50_0) (ix5 b j n k d)) (V (Proc.devRef .tc main_v50_4) (ix5 b j n d e)))
        else (V (Proc.devRef .tc main_v50_4) (ix5 b j n t e) : EReal) := by
  have hw : BitVec.toInt ((select (cmpi CmpIPredicate.slt (V (Proc.devRef .tc main_v50_3)) (constantI S_ 32 0#32))
      (addi (V (Proc.devRef .tc main_v50_3)) (constantI S_ 32 64#32)) (V (Proc.devRef .tc main_v50_3)) : S_.Idx → BitVec 32)
      (Shape.Idx.first h_S_)) = (k.val : Int) := by
    rw [first0]
    pointwise [hk, wrap_lt]
    exact toInt_row k
  after_reads_simp
  refine (row_upd (V (Proc.devRef .tc main_v50_4)) _ _ k ?_ b j n t e).trans ?_
  · show BitVec.toInt _ = _
    simp only [Matrix.cons_val]
    after_reads_simp
    exact hw
  refine congrArg₂ (fun a b => if t = k then a else b) ?_ rfl
  refine congrArg₂ (fun (a b : EReal) => a - b) (row_rhs _ _ k ?_ b j n e) ((row_dot _ _ b j n e).trans (Finset.sum_congr rfl fun d _ =>
    congrArg₂ (fun (a b : EReal) => a * b) (row_low _ _ k ?_ b j n d) rfl))
  · show BitVec.toInt _ = _
    simp only [Matrix.cons_val]
    after_reads_simp
    exact hw
  · show BitVec.toInt _ = _
    simp only [Matrix.cons_val]
    after_reads_simp
    exact hw

theorem ctr_step (k : ℕ) (hk : V (Proc.devRef .tc main_v50_3) ix0 = BitVec.ofNat 32 k) :
    after while0Ops0 V (Proc.devRef .tc main_v50_3) ix0 = BitVec.ofNat 32 (k + 1) := by
  after_reads_simp
  simp only [id]
  pointwise [hk]
  rw [BitVec.ofNat_add]
  rfl

/-- Before trip `k` of the forward substitution: its first `k` rows are the solutions' and the others are 0. -/
structure Solving (X : Rows) (k : ℕ) (V : Val) : Prop where
  q : ∀ b j n t d, V (Proc.devRef .tc main_v6) (ix5 b j n t d) = ((X.cq j (cn b n) t d : ℝ) : EReal)
  key : ∀ b j n t d, V (Proc.devRef .tc main_v8) (ix5 b j n t d) = ((X.ck j (cn b n) t d : ℝ) : EReal)
  gc : ∀ b j n t, V (Proc.devRef .tc main_v13) (ix4 b j n t) = ((Gdn.gc (X.cg j (cn b n)) t : ℝ) : EReal)
  le : ∀ t s, V (Proc.devRef .tc main_v21) (ix2 t s) = le1 t s
  dec : ∀ b j n t s, V (Proc.devRef .tc main_v34) (ix5 b j n t s) = ((dec (X.cg j (cn b n)) t s : ℝ) : EReal)
  low : ∀ b j n t s, V (Proc.devRef .tc main_v50_0) (ix5 b j n t s) = ((Gdn.low (X.ck j (cn b n)) (X.cb j (cn b n)) (X.cg j (cn b n)) t s : ℝ) : EReal)
  rhs : ∀ b j n t e, V (Proc.devRef .tc main_v50_1) (ix5 b j n t e)
    = ((Gdn.rhs (X.ck j (cn b n)) (X.cv j (cn b n)) (X.cb j (cn b n)) (X.cg j (cn b n)) t e : ℝ) : EReal)
  ctr : V (Proc.devRef .tc main_v50_3) ix0 = BitVec.ofNat 32 k
  rows : ∀ b j n t e, V (Proc.devRef .tc main_v50_4) (ix5 b j n t e)
    = ((if t.val < k then Gdn.sol (X.ck j (cn b n)) (X.cv j (cn b n)) (X.cb j (cn b n)) (X.cg j (cn b n)) t e else 0 : ℝ) : EReal)

theorem low_upper (k : Fin 64 → Fin 128 → ℝ) (be g : Fin 64 → ℝ) (t j : Fin 64) (h : t.val ≤ j.val) : Gdn.low k be g t j = 0 :=
  if_neg (by omega)

/-- A row of the solutions from the rows above it. -/
theorem sol_row (k v : Fin 64 → Fin 128 → ℝ) (be g : Fin 64 → ℝ) (t : Fin 64) (e : Fin 256) :
    Gdn.rhs k v be g t e - ∑ d : Fin 64, Gdn.low k be g t d * (if d.val < t.val then Gdn.sol k v be g d e else 0) = Gdn.sol k v be g t e := by
  have h := solve_spec (Gdn.low k be g) (low_upper k be g) (Gdn.rhs k v be g) t e
  rw [← h]
  have e1 : ∀ d : Fin 64, Gdn.low k be g t d * (if d.val < t.val then Gdn.sol k v be g d e else 0)
      = Gdn.low k be g t d * Gdn.solve (Gdn.low k be g) (Gdn.rhs k v be g) d e := by
    intro d
    by_cases hd : d.val < t.val
    · rw [if_pos hd]; rfl
    · rw [low_upper k be g t d (by omega), zero_mul, zero_mul]
  rw [Finset.sum_congr rfl fun d _ => e1 d, add_sub_cancel_right]
  rfl

theorem keep_step (V : Val) (r : Ref sig .tc) (hr : r ∉ while0Ops0_W) (hc : r ∉ ([main_while0c_c_15, main_while0c_v98] : List (Ref sig .tc))) :
    after while0Ops0 (after cond0 V) (Proc.devRef .tc r) = V (Proc.devRef .tc r) :=
  (after_of_writes_sub _ _ while0Ops0_writes hr).trans (after_of_writes_sub _ _ cond0_writes hc)

/-- One trip of the forward substitution. -/
theorem Solving.step {X : Rows} {V : Val} {k : ℕ} (h : Solving X k V) (hk : k < 64) : Solving X (k + 1) (after while0Ops0 (after cond0 V)) := by
  have kc : ∀ r, r ∉ ([main_while0c_c_15, main_while0c_v98] : List (Ref sig .tc)) → after cond0 V (Proc.devRef .tc r) = V (Proc.devRef .tc r) :=
    fun r hr => after_of_writes_sub _ _ cond0_writes hr
  have c3 : after cond0 V (Proc.devRef .tc main_v50_3) ix0 = BitVec.ofNat 32 k := (congrFun (kc main_v50_3 (by decide +kernel)) _).trans h.ctr
  exact {
    q := fun b j n t d => (congrFun (keep_step V main_v6 (by decide +kernel) (by decide +kernel)) _).trans (h.q b j n t d)
    key := fun b j n t d => (congrFun (keep_step V main_v8 (by decide +kernel) (by decide +kernel)) _).trans (h.key b j n t d)
    gc := fun b j n t => (congrFun (keep_step V main_v13 (by decide +kernel) (by decide +kernel)) _).trans (h.gc b j n t)
    le := fun t s => (congrFun (keep_step V main_v21 (by decide +kernel) (by decide +kernel)) _).trans (h.le t s)
    dec := fun b j n t s => (congrFun (keep_step V main_v34 (by decide +kernel) (by decide +kernel)) _).trans (h.dec b j n t s)
    low := fun b j n t s => (congrFun (keep_step V main_v50_0 (by decide +kernel) (by decide +kernel)) _).trans (h.low b j n t s)
    rhs := fun b j n t e => (congrFun (keep_step V main_v50_1 (by decide +kernel) (by decide +kernel)) _).trans (h.rhs b j n t e)
    ctr := ctr_step _ k c3
    rows := fun b j n t e => by
      refine (row_step _ ⟨k, hk⟩ c3 b j n t e).trans ?_
      rw [kc main_v50_0 (by decide +kernel), kc main_v50_1 (by decide +kernel), kc main_v50_4 (by decide +kernel)]
      by_cases ht : t = ⟨k, hk⟩
      · have ht' : t.val = k := by rw [ht]
        rw [if_pos ht, if_pos (by omega), h.rhs]
        simp only [h.low, h.rows, ← EReal.coe_mul, Gdn.coe_sum]
        refine Eq.trans (EReal.coe_sub _ _).symm (congrArg (fun r : ℝ => (r : EReal)) ?_)
        have s := sol_row (X.ck j (cn b n)) (X.cv j (cn b n)) (X.cb j (cn b n)) (X.cg j (cn b n)) t e
        rw [ht] at s ⊢
        exact s
      · have ht' : t.val ≠ k := fun x => ht (Fin.ext x)
        rw [if_neg ht, h.rows]
        refine congrArg (fun r : ℝ => (r : EReal)) ?_
        by_cases h2 : t.val < k
        · rw [if_pos h2, if_pos (by omega)]
        · rw [if_neg h2, if_neg (by omega)] }

theorem Pre.solving {X : Rows} {V : Val} (h : Pre X V) : Solving X 0 V where
  q := h.q
  key := h.k
  gc := h.gc
  le := h.le
  dec := h.dec
  low := h.low
  rhs := h.rhs
  ctr := h.ctr
  rows := fun b j n t e => (h.zero b j n t e).trans (by rw [if_neg (Nat.not_lt_zero _)]; rfl)

/-- Before each trip of the forward substitution, from where it is entered. -/
theorem solving_at {m : (ℓ : Loc nD τ sig) → Buf (Elt Ideal) ℓ} {c : Dev nD} (h : Solving X 0 (ent0 m c)) :
    ∀ k, k ≤ 64 → Solving X k (at0 m k c)
  | 0, _ => h
  | k + 1, hk => (solving_at h k (by omega)).step (by omega)

end Cert.ReferenceIdeal.Whole
end
-- ==== Proof.RefChunks.lean ====
module

public import proofs.«01_k».proof.Proof.RefSolve

/-! The reference's chunks, over the reals: what each chunk takes into the second loop, and the loop's state and outputs. -/

@[expose] public section

set_option maxRecDepth 16384

noncomputable section

namespace Cert.ReferenceIdeal.Whole

open Cert.ReferenceIdeal Cert.ReferenceIdeal.Gen Cert.ReferenceIdeal.Lists Cert.ReferenceIdeal.RefRun
open Idealize.ShloMosaic Idealize.ShloMosaic.TcCoe Idealize.ShloMosaic.Tactic Idealize.ShloMosaic.StableHlo Idealize.SL.Sem
open Gdn (col gated Rows row)

section
variable (X : Rows) (V : Val) (b : Fin 16) (j : Fin 8) (n : Fin 32) (t s : Fin 64) (d : Fin 128)

/-- The decay exponent of a chunk's last row is the chunk's. -/
theorem gc_last (g : Fin 64 → ℝ) : Gdn.gc g 63 = Gdn.gl g :=
  Finset.sum_congr rfl fun j _ => if_pos (by show j.val ≤ 63; omega)

theorem s9_v51 (r : ℝ) (h : V (Proc.devRef .tc main_v50_4) (ix5 b j n t (Gdn.lo d)) = ((r : ℝ) : EReal)) :
    after hostOps0_9 V (Proc.devRef .tc main_v51) (ix5 b j n t d) = ((r : ℝ) : EReal) := by
  after_reads_simp
  pointwise
  exact h

theorem s9_v52 (r : ℝ) (h : V (Proc.devRef .tc main_v50_4) (ix5 b j n t (Gdn.hi d)) = ((r : ℝ) : EReal)) :
    after hostOps0_9 V (Proc.devRef .tc main_v52) (ix5 b j n t d) = ((r : ℝ) : EReal) := by
  after_reads_simp
  pointwise
  exact h

theorem s9_v54 (hq : ∀ t d, V (Proc.devRef .tc main_v6) (ix5 b j n t d) = ((X.cq j (cn b n) t d : ℝ) : EReal))
    (hk : ∀ t d, V (Proc.devRef .tc main_v8) (ix5 b j n t d) = ((X.ck j (cn b n) t d : ℝ) : EReal))
    (hd : V (Proc.devRef .tc main_v34) (ix5 b j n t s) = ((dec (X.cg j (cn b n)) t s : ℝ) : EReal)) :
    after hostOps0_9 V (Proc.devRef .tc main_v54) (ix5 b j n t s)
      = (((∑ d : Fin 128, X.cq j (cn b n) t d * X.ck j (cn b n) s d) * dec (X.cg j (cn b n)) t s : ℝ) : EReal) := by
  after_reads_simp
  pointwise [hq, hk, hd]
  simp only [← EReal.coe_mul, Gdn.coe_sum]

theorem s9_cst : after hostOps0_9 V (Proc.devRef .tc main_cst_4) ix0 = (0 : EReal) := by
  after_reads_simp
  pointwise

theorem s10_v55 (g : Fin 64 → ℝ) (x : ℝ) (h0 : V (Proc.devRef .tc main_cst_4) ix0 = (0 : EReal))
    (h21 : ∀ t s, V (Proc.devRef .tc main_v21) (ix2 t s) = le1 t s)
    (h : V (Proc.devRef .tc main_v54) (ix5 b j n t s) = ((x * dec g t s : ℝ) : EReal)) :
    after hostOps0_10 V (Proc.devRef .tc main_v55) (ix5 b j n t s)
      = ((if s.val ≤ t.val then x * Real.exp (Gdn.gc g t - Gdn.gc g s) else 0 : ℝ) : EReal) := by
  after_reads_simp
  simp only [TRef.ofBuf_toBuf]
  simp only [TRef.ofBuf, TRef.toBuf, cast_eq, id]
  pointwise [h21, h0, h]
  rw [select_le]
  by_cases hst : s.val ≤ t.val
  · rw [if_pos hst, if_pos hst, dec, if_pos hst]
  · rw [if_neg hst, if_neg hst]; rfl

theorem s11_v78_0 (r : ℝ) (h : V (Proc.devRef .tc main_v51) (ix5 b j n t d) = ((r : ℝ) : EReal)) :
    after hostOps0_11 V (Proc.devRef .tc main_v78_0) (ix5 n b j t d) = ((r : ℝ) : EReal) := by
  after_reads_simp
  simp only [id]
  pointwise [h]

theorem s11_v78_1 (r : ℝ) (h : V (Proc.devRef .tc main_v52) (ix5 b j n t d) = ((r : ℝ) : EReal)) :
    after hostOps0_11 V (Proc.devRef .tc main_v78_1) (ix5 n b j t d) = ((r : ℝ) : EReal) := by
  after_reads_simp
  simp only [id]
  pointwise [h]

theorem s11_v78_2 (r : ℝ) (h : V (Proc.devRef .tc main_v55) (ix5 b j n t s) = ((r : ℝ) : EReal)) :
    after hostOps0_11 V (Proc.devRef .tc main_v78_2) (ix5 n b j t s) = ((r : ℝ) : EReal) := by
  after_reads_simp
  simp only [id]
  pointwise [h]

theorem s11_v78_3 (r g : ℝ) (h : V (Proc.devRef .tc main_v6) (ix5 b j n t d) = ((r : ℝ) : EReal))
    (hg : V (Proc.devRef .tc main_v13) (ix4 b j n t) = ((g : ℝ) : EReal)) :
    after hostOps0_11 V (Proc.devRef .tc main_v78_3) (ix5 n b j t d) = ((r * Real.exp g : ℝ) : EReal) := by
  after_reads_simp
  simp only [id]
  pointwise [h, hg, Ideal.exp_coe]
  rfl

theorem s11_v78_4 (r g gl : ℝ) (h : V (Proc.devRef .tc main_v8) (ix5 b j n t d) = ((r : ℝ) : EReal))
    (hg : V (Proc.devRef .tc main_v13) (ix4 b j n t) = ((g : ℝ) : EReal))
    (hl : V (Proc.devRef .tc main_v13) (ix4 b j n (63 : Fin 64)) = ((gl : ℝ) : EReal)) :
    after hostOps0_11 V (Proc.devRef .tc main_v78_4) (ix5 n b j t d) = ((r * Real.exp (gl - g) : ℝ) : EReal) := by
  after_reads_simp
  simp only [id]
  pointwise [h, hg]
  refine Eq.trans (congrArg (fun x : EReal => ((r : ℝ) : EReal) * Ideal.exp (x - ((g : ℝ) : EReal))) hl) ?_
  rw [← EReal.coe_sub, Ideal.exp_coe]
  rfl

theorem s11_v78_5 (gl : ℝ) (hl : V (Proc.devRef .tc main_v13) (ix4 b j n (63 : Fin 64)) = ((gl : ℝ) : EReal)) :
    after hostOps0_11 V (Proc.devRef .tc main_v78_5) (ix3 n b j) = ((Real.exp gl : ℝ) : EReal) := by
  after_reads_simp
  simp only [id]
  pointwise
  exact (congrArg Ideal.exp hl).trans (Ideal.exp_coe _)

theorem s11_v78_6 : after hostOps0_11 V (Proc.devRef .tc main_v78_6) ix0 = 0#32 := by
  after_reads_simp
  simp only [id]
  pointwise

theorem s11_v78_7 (e : Fin 128) : after hostOps0_11 V (Proc.devRef .tc main_v78_7) (ix4 b j d e) = (0 : EReal) := by
  after_reads_simp
  simp only [id]
  pointwise

theorem s11_v78_8 : after hostOps0_11 V (Proc.devRef .tc main_v78_8) (ix5 n b j t d) = (0 : EReal) := by
  after_reads_simp
  simp only [id]
  pointwise

end

theorem clamp_chunk : ∀ n : Fin 32, (min (max ((n.val : ℕ) : Int) 0) ((31 : ℕ) : Int)).toNat = n.val := by decide +kernel
theorem toInt_chunk : ∀ n : Fin 32, BitVec.toInt (BitVec.ofNat 32 n.val) = (n.val : Int) := by decide +kernel

/-- The starts of a chunk's window. -/
theorem clamp_rows (h) (s : Fin 5 → Int) :
    Host.clampedStart S32x16x8x64x128 S1x16x8x64x128 h s 1 = 0 ∧ Host.clampedStart S32x16x8x64x128 S1x16x8x64x128 h s 2 = 0
    ∧ Host.clampedStart S32x16x8x64x128 S1x16x8x64x128 h s 3 = 0 ∧ Host.clampedStart S32x16x8x64x128 S1x16x8x64x128 h s 4 = 0
    ∧ Host.clampedStart S32x16x8x64x128 S1x16x8x64x128 h s 0 = (min (max (s 0) 0) ((31 : ℕ) : Int)).toNat := by
  refine ⟨?_, ?_, ?_, ?_, rfl⟩ <;> exact Host.clampedStart_full _ _ _ rfl
theorem clamp_att (h) (s : Fin 5 → Int) :
    Host.clampedStart S32x16x8x64x64 S1x16x8x64x64 h s 1 = 0 ∧ Host.clampedStart S32x16x8x64x64 S1x16x8x64x64 h s 2 = 0
    ∧ Host.clampedStart S32x16x8x64x64 S1x16x8x64x64 h s 3 = 0 ∧ Host.clampedStart S32x16x8x64x64 S1x16x8x64x64 h s 4 = 0
    ∧ Host.clampedStart S32x16x8x64x64 S1x16x8x64x64 h s 0 = (min (max (s 0) 0) ((31 : ℕ) : Int)).toNat := by
  refine ⟨?_, ?_, ?_, ?_, rfl⟩ <;> exact Host.clampedStart_full _ _ _ rfl
theorem clamp_decay (h) (s : Fin 3 → Int) :
    Host.clampedStart S32x16x8 S1x16x8 h s 1 = 0 ∧ Host.clampedStart S32x16x8 S1x16x8 h s 2 = 0
    ∧ Host.clampedStart S32x16x8 S1x16x8 h s 0 = (min (max (s 0) 0) ((31 : ℕ) : Int)).toNat := by
  refine ⟨?_, ?_, rfl⟩ <;> exact Host.clampedStart_full _ _ _ rfl

/-- A chunk of the rows, of the attention, and of the decays. -/
theorem chunk_rows (x : S32x16x8x64x128.Idx → EReal) (s : Fin 5 → Int) (n : Fin 32) (hs : s 0 = (n.val : Int))
    (b : Fin 16) (j : Fin 8) (t : Fin 64) (d : Fin 128) :
    shapeCast S16x8x64x128 (Host.dynamicSlice S1x16x8x64x128 x s sliceFits_S32x16x8x64x128_S1x16x8x64x128)
      shapeCasts_S1x16x8x64x128_S16x8x64x128 (ix4 b j t d) = x (ix5 n b j t d) := by
  pointwise
  simp only [clamp_rows, hs, clamp_chunk, zero_add, add_zero]
theorem chunk_att (x : S32x16x8x64x64.Idx → EReal) (s : Fin 5 → Int) (n : Fin 32) (hs : s 0 = (n.val : Int))
    (b : Fin 16) (j : Fin 8) (t s' : Fin 64) :
    shapeCast S16x8x64x64 (Host.dynamicSlice S1x16x8x64x64 x s sliceFits_S32x16x8x64x64_S1x16x8x64x64)
      shapeCasts_S1x16x8x64x64_S16x8x64x64 (ix4 b j t s') = x (ix5 n b j t s') := by
  pointwise
  simp only [clamp_att, hs, clamp_chunk, zero_add, add_zero]
theorem chunk_decay (x : S32x16x8.Idx → EReal) (s : Fin 3 → Int) (n : Fin 32) (hs : s 0 = (n.val : Int)) (b : Fin 16) (j : Fin 8) :
    shapeCast S16x8 (Host.dynamicSlice S1x16x8 x s sliceFits_S32x16x8_S1x16x8) shapeCasts_S1x16x8_S16x8 (ix2 b j) = x (ix3 n b j) := by
  pointwise
  simp only [clamp_decay, hs, clamp_chunk, zero_add, add_zero]

/-- The outputs with chunk `n` replaced. -/
theorem chunk_upd (x : S32x16x8x64x128.Idx → EReal) (u : S16x8x64x128.Idx → EReal) (s : Fin 5 → Int) (n : Fin 32) (hs : s 0 = (n.val : Int))
    (n' : Fin 32) (b : Fin 16) (j : Fin 8) (t : Fin 64) (d : Fin 128) :
    Host.dynamicUpdateSlice x (broadcastInDim S1x16x8x64x128 ![1, 2, 3, 4] bcast_S16x8x64x128_S1x16x8x64x128_1_2_3_4 u) s
      updateFits_S32x16x8x64x128_S1x16x8x64x128 (ix5 n' b j t d) = if n' = n then u (ix4 b j t d) else x (ix5 n' b j t d) := by
  pointwise
  simp only [clamp_rows, hs, clamp_chunk, zero_add, Nat.sub_zero, Nat.zero_le, true_and, and_true]
  by_cases h : n' = n
  · subst h
    rw [dif_pos ⟨⟨le_rfl, Nat.lt_succ_self _⟩, b.2, j.2, t.2, d.2⟩, if_pos rfl]
  · rw [dif_neg (fun x => h (Fin.ext (by omega))), if_neg h]

section
variable (X : Rows) (V : Val) (b : Fin 16) (j : Fin 8) (n : Fin 32) (t s : Fin 64) (d e : Fin 128)

theorem idx_toInt {x : S_.Idx → BitVec 32} (hk : x ix0 = BitVec.ofNat 32 n.val) : BitVec.toInt (x (Shape.Idx.first h_S_)) = (n.val : Int) := by
  rw [first0, hk]
  exact toInt_chunk n

theorem b0_v98 (hk : V (Proc.devRef .tc main_v78_6) ix0 = BitVec.ofNat 32 n.val) :
    after while1Ops0 V (Proc.devRef .tc main_while1b_v98) (ix4 b j t d) = V (Proc.devRef .tc main_v78_0) (ix5 n b j t d) := by
  after_reads_simp
  refine chunk_rows (V (Proc.devRef .tc main_v78_0)) _ n ?_ b j t d
  show BitVec.toInt _ = _
  simp only [Matrix.cons_val]
  after_reads_simp
  exact idx_toInt n hk

theorem b1_v99 (hk : V (Proc.devRef .tc main_v78_6) ix0 = BitVec.ofNat 32 n.val) :
    after while1Ops0_1 V (Proc.devRef .tc main_while1b_v99) (ix4 b j t d) = V (Proc.devRef .tc main_v78_1) (ix5 n b j t d) := by
  after_reads_simp
  refine chunk_rows (V (Proc.devRef .tc main_v78_1)) _ n ?_ b j t d
  show BitVec.toInt _ = _
  simp only [Matrix.cons_val]
  after_reads_simp
  exact idx_toInt n hk

theorem b2_v100 (hk : V (Proc.devRef .tc main_v78_6) ix0 = BitVec.ofNat 32 n.val) :
    after while1Ops0_2 V (Proc.devRef .tc main_while1b_v100) (ix4 b j t s) = V (Proc.devRef .tc main_v78_2) (ix5 n b j t s) := by
  after_reads_simp
  refine chunk_att (V (Proc.devRef .tc main_v78_2)) _ n ?_ b j t s
  show BitVec.toInt _ = _
  simp only [Matrix.cons_val]
  after_reads_simp
  exact idx_toInt n hk

theorem b3_v101 (hk : V (Proc.devRef .tc main_v78_6) ix0 = BitVec.ofNat 32 n.val) :
    after while1Ops0_3 V (Proc.devRef .tc main_while1b_v101) (ix4 b j t d) = V (Proc.devRef .tc main_v78_3) (ix5 n b j t d) := by
  after_reads_simp
  refine chunk_rows (V (Proc.devRef .tc main_v78_3)) _ n ?_ b j t d
  show BitVec.toInt _ = _
  simp only [Matrix.cons_val]
  after_reads_simp
  exact idx_toInt n hk

theorem b4_v102 (hk : V (Proc.devRef .tc main_v78_6) ix0 = BitVec.ofNat 32 n.val) :
    after while1Ops0_4 V (Proc.devRef .tc main_while1b_v102) (ix4 b j t d) = V (Proc.devRef .tc main_v78_4) (ix5 n b j t d) := by
  after_reads_simp
  refine chunk_rows (V (Proc.devRef .tc main_v78_4)) _ n ?_ b j t d
  show BitVec.toInt _ = _
  simp only [Matrix.cons_val]
  after_reads_simp
  exact idx_toInt n hk

theorem b5_v103 (hk : V (Proc.devRef .tc main_v78_6) ix0 = BitVec.ofNat 32 n.val) :
    after while1Ops0_5 V (Proc.devRef .tc main_while1b_v103) (ix2 b j) = V (Proc.devRef .tc main_v78_5) (ix3 n b j) := by
  after_reads_simp
  refine chunk_decay (V (Proc.devRef .tc main_v78_5)) _ n ?_ b j
  show BitVec.toInt _ = _
  simp only [Matrix.cons_val]
  after_reads_simp
  exact idx_toInt n hk

theorem b7_v114 (n' : Fin 32) (hk : V (Proc.devRef .tc main_v78_6) ix0 = BitVec.ofNat 32 n.val) :
    after while1Ops0_7 V (Proc.devRef .tc main_while1b_v114) (ix5 n' b j t d)
      = if n' = n then V (Proc.devRef .tc main_while1b_v108) (ix4 b j t d) else V (Proc.devRef .tc main_v78_8) (ix5 n' b j t d) := by
  after_reads_simp
  refine chunk_upd (V (Proc.devRef .tc main_v78_8)) (V (Proc.devRef .tc main_while1b_v108)) _ n ?_ n' b j t d
  show BitVec.toInt _ = _
  simp only [Matrix.cons_val]
  after_reads_simp
  exact idx_toInt n hk

/-- A chunk's output and the state after it, from what the chunk takes in. -/
structure Chunk (q k v : Fin 64 → Fin 128 → ℝ) (be g : Fin 64 → ℝ) (S : Fin 128 → Fin 128 → ℝ) : Prop where
  u : ∀ t e, V (Proc.devRef .tc main_while1b_v98) (ix4 b j t e) = ((Gdn.sol k v be g t (Gdn.lo e) : ℝ) : EReal)
  w : ∀ t d, V (Proc.devRef .tc main_while1b_v99) (ix4 b j t d) = ((Gdn.sol k v be g t (Gdn.hi d) : ℝ) : EReal)
  a : ∀ t s, V (Proc.devRef .tc main_while1b_v100) (ix4 b j t s) = ((Gdn.att q k g t s : ℝ) : EReal)
  qd : ∀ t d, V (Proc.devRef .tc main_while1b_v101) (ix4 b j t d) = ((q t d * Real.exp (Gdn.gc g t) : ℝ) : EReal)
  kd : ∀ t d, V (Proc.devRef .tc main_while1b_v102) (ix4 b j t d) = ((k t d * Real.exp (Gdn.gl g - Gdn.gc g t) : ℝ) : EReal)
  cd : V (Proc.devRef .tc main_while1b_v103) (ix2 b j) = ((Real.exp (Gdn.gl g) : ℝ) : EReal)
  S : ∀ d e, V (Proc.devRef .tc main_v78_7) (ix4 b j d e) = ((S d e : ℝ) : EReal)

variable {q k v : Fin 64 → Fin 128 → ℝ} {be g : Fin 64 → ℝ} {S : Fin 128 → Fin 128 → ℝ}

theorem b6_v105 (h : Chunk V b j q k v be g S) :
    after while1Ops0_6 V (Proc.devRef .tc main_while1b_v105) (ix4 b j t e) = ((Gdn.upd k v be g S t e : ℝ) : EReal) := by
  after_reads_simp
  pointwise [h.u, h.w, h.S]
  simp only [← EReal.coe_mul, Gdn.coe_sum]
  rfl

theorem b6_v108 (h : Chunk V b j q k v be g S) :
    after while1Ops0_6 V (Proc.devRef .tc main_while1b_v108) (ix4 b j t e) = ((Gdn.out q k v be g S t e : ℝ) : EReal) := by
  after_reads_simp
  pointwise [h.u, h.w, h.S, h.a, h.qd]
  simp only [← EReal.coe_mul, Gdn.coe_sum, ← EReal.coe_sub]
  rfl

theorem b6_v113 (h : Chunk V b j q k v be g S) :
    after while1Ops0_6 V (Proc.devRef .tc main_while1b_v113) (ix4 b j d e) = ((Gdn.next k v be g S d e : ℝ) : EReal) := by
  after_reads_simp
  pointwise [h.u, h.w, h.S, h.kd, h.cd]
  simp only [← EReal.coe_mul, Gdn.coe_sum, ← EReal.coe_sub]
  rfl

theorem b8_v78_6 (k : ℕ) (hk : V (Proc.devRef .tc main_v78_6) ix0 = BitVec.ofNat 32 k) :
    after while1Ops0_8 V (Proc.devRef .tc main_v78_6) ix0 = BitVec.ofNat 32 (k + 1) := by
  after_reads_simp
  simp only [id]
  pointwise [hk]
  rw [BitVec.ofNat_add]
  rfl
theorem b8_v78_7 : after while1Ops0_8 V (Proc.devRef .tc main_v78_7) = V (Proc.devRef .tc main_while1b_v113) := by
  after_reads_simp
  rfl
theorem b8_v78_8 : after while1Ops0_8 V (Proc.devRef .tc main_v78_8) = V (Proc.devRef .tc main_while1b_v114) := by
  after_reads_simp
  rfl
end

end Cert.ReferenceIdeal.Whole
end
-- ==== Proof.RefLoop.lean ====
module

public import proofs.«01_k».proof.Proof.RefChunks

/-! The reference's second loop and its last operations, over the reals: its result is the gated delta rule's. -/

@[expose] public section

set_option maxRecDepth 16384

noncomputable section

namespace Cert.ReferenceIdeal.Whole

open Cert.ReferenceIdeal Cert.ReferenceIdeal.Gen Cert.ReferenceIdeal.Lists Cert.ReferenceIdeal.RefRun
open Idealize.ShloMosaic Idealize.ShloMosaic.TcCoe Idealize.ShloMosaic.Tactic Idealize.ShloMosaic.StableHlo Idealize.SL.Sem
open Gdn (col gated Rows row)

/-- What every chunk takes into the second loop. -/
structure Ready (X : Rows) (V : Val) : Prop where
  u : ∀ n b j t e, V (Proc.devRef .tc main_v78_0) (ix5 n b j t e)
    = ((Gdn.sol (X.ck j (cn b n)) (X.cv j (cn b n)) (X.cb j (cn b n)) (X.cg j (cn b n)) t (Gdn.lo e) : ℝ) : EReal)
  w : ∀ n b j t e, V (Proc.devRef .tc main_v78_1) (ix5 n b j t e)
    = ((Gdn.sol (X.ck j (cn b n)) (X.cv j (cn b n)) (X.cb j (cn b n)) (X.cg j (cn b n)) t (Gdn.hi e) : ℝ) : EReal)
  a : ∀ n b j t s, V (Proc.devRef .tc main_v78_2) (ix5 n b j t s)
    = ((Gdn.att (X.cq j (cn b n)) (X.ck j (cn b n)) (X.cg j (cn b n)) t s : ℝ) : EReal)
  qd : ∀ n b j t d, V (Proc.devRef .tc main_v78_3) (ix5 n b j t d)
    = ((X.cq j (cn b n) t d * Real.exp (Gdn.gc (X.cg j (cn b n)) t) : ℝ) : EReal)
  kd : ∀ n b j t d, V (Proc.devRef .tc main_v78_4) (ix5 n b j t d)
    = ((X.ck j (cn b n) t d * Real.exp (Gdn.gl (X.cg j (cn b n)) - Gdn.gc (X.cg j (cn b n)) t) : ℝ) : EReal)
  cd : ∀ n b j, V (Proc.devRef .tc main_v78_5) (ix3 n b j) = ((Real.exp (Gdn.gl (X.cg j (cn b n))) : ℝ) : EReal)

/-- Before trip `k` of the second loop: the state before chunk `k` of each head, and the outputs of the chunks before it. -/
structure Running (X : Rows) (k : ℕ) (V : Val) : Prop where
  ready : Ready X V
  ctr : V (Proc.devRef .tc main_v78_6) ix0 = BitVec.ofNat 32 k
  state : k < 32 → ∀ (b : Fin 16) j d e, V (Proc.devRef .tc main_v78_7) (ix4 b j d e) = ((X.st j (b.val * 32 + k) d e : ℝ) : EReal)
  outs : ∀ (n : Fin 32) b j t e, V (Proc.devRef .tc main_v78_8) (ix5 n b j t e) = ((if n.val < k then X.o j (cn b n) t e else 0 : ℝ) : EReal)

/-- From the solutions to the second loop. -/
theorem Solving.running {X : Rows} {V : Val} (h : Solving X 64 V) :
    Running X 0 (after hostOps0_11 (after hostOps0_10 (after hostOps0_9 V))) := by
  have rows : ∀ b j n t e, V (Proc.devRef .tc main_v50_4) (ix5 b j n t e)
      = ((Gdn.sol (X.ck j (cn b n)) (X.cv j (cn b n)) (X.cb j (cn b n)) (X.cg j (cn b n)) t e : ℝ) : EReal) :=
    fun b j n t e => (h.rows b j n t e).trans (by rw [if_pos t.2])
  have keep : ∀ r, r ∉ hostOps0_9_W → r ∉ hostOps0_10_W → after hostOps0_10 (after hostOps0_9 V) (Proc.devRef .tc r) = V (Proc.devRef .tc r) :=
    fun r h9 h10 => (keep10 _ r h10).trans (keep9 _ r h9)
  have gc := fun b j n t => (congrFun (keep main_v13 (by decide +kernel) (by decide +kernel)) _).trans (h.gc b j n t)
  have gl := fun b j n => (gc b j n 63).trans (congrArg (fun r : ℝ => (r : EReal)) (gc_last _))
  have le9 := fun t s => (congrFun (keep9 V main_v21 (by decide +kernel)) _).trans (h.le t s)
  exact {
    ready := {
      u := fun n b j t e => s11_v78_0 _ b j n t e _ ((congrFun (keep10 _ main_v51 (by decide +kernel)) _).trans (s9_v51 V b j n t e _ (rows b j n t _)))
      w := fun n b j t e => s11_v78_1 _ b j n t e _ ((congrFun (keep10 _ main_v52 (by decide +kernel)) _).trans (s9_v52 V b j n t e _ (rows b j n t _)))
      a := fun n b j t s => s11_v78_2 _ b j n t s _ (s10_v55 _ b j n t s _ _ (s9_cst V) le9
        (s9_v54 X V b j n t s (fun t d => h.q b j n t d) (fun t d => h.key b j n t d) (h.dec b j n t s)))
      qd := fun n b j t d => s11_v78_3 _ b j n t d _ _ ((congrFun (keep main_v6 (by decide +kernel) (by decide +kernel)) _).trans (h.q b j n t d)) (gc b j n t)
      kd := fun n b j t d => s11_v78_4 _ b j n t d _ _ _ ((congrFun (keep main_v8 (by decide +kernel) (by decide +kernel)) _).trans (h.key b j n t d)) (gc b j n t) (gl b j n)
      cd := fun n b j => s11_v78_5 _ b j n _ (gl b j n) }
    ctr := s11_v78_6 _
    state := fun _ b j d e => (s11_v78_7 _ b j d e).trans (by
      rw [X.st_start j (b.val * 32 + 0) (by omega)]
      rfl)
    outs := fun n b j t e => (s11_v78_8 _ b j n t e).trans (by rw [if_neg (Nat.not_lt_zero _)]; rfl) }

/-! ### One trip -/

theorem trip0 (V : Val) (r : Ref sig .tc) (hr : r ∉ while1Ops0_W) :
    after while1Ops0 V (Proc.devRef .tc r) = V (Proc.devRef .tc r) := after_of_writes_sub _ _ while1Ops0_writes hr
theorem trip1 (V : Val) (r : Ref sig .tc) (hr : r ∉ while1Ops0_1_W) :
    after while1Ops0_1 V (Proc.devRef .tc r) = V (Proc.devRef .tc r) := after_of_writes_sub _ _ while1Ops0_1_writes hr
theorem trip2 (V : Val) (r : Ref sig .tc) (hr : r ∉ while1Ops0_2_W) :
    after while1Ops0_2 V (Proc.devRef .tc r) = V (Proc.devRef .tc r) := after_of_writes_sub _ _ while1Ops0_2_writes hr
theorem trip3 (V : Val) (r : Ref sig .tc) (hr : r ∉ while1Ops0_3_W) :
    after while1Ops0_3 V (Proc.devRef .tc r) = V (Proc.devRef .tc r) := after_of_writes_sub _ _ while1Ops0_3_writes hr
theorem trip4 (V : Val) (r : Ref sig .tc) (hr : r ∉ while1Ops0_4_W) :
    after while1Ops0_4 V (Proc.devRef .tc r) = V (Proc.devRef .tc r) := after_of_writes_sub _ _ while1Ops0_4_writes hr
theorem trip5 (V : Val) (r : Ref sig .tc) (hr : r ∉ while1Ops0_5_W) :
    after while1Ops0_5 V (Proc.devRef .tc r) = V (Proc.devRef .tc r) := after_of_writes_sub _ _ while1Ops0_5_writes hr
theorem trip6 (V : Val) (r : Ref sig .tc) (hr : r ∉ while1Ops0_6_W) :
    after while1Ops0_6 V (Proc.devRef .tc r) = V (Proc.devRef .tc r) := after_of_writes_sub _ _ while1Ops0_6_writes hr
theorem trip7 (V : Val) (r : Ref sig .tc) (hr : r ∉ while1Ops0_7_W) :
    after while1Ops0_7 V (Proc.devRef .tc r) = V (Proc.devRef .tc r) := after_of_writes_sub _ _ while1Ops0_7_writes hr
theorem trip8 (V : Val) (r : Ref sig .tc) (hr : r ∉ while1Ops0_8_W) :
    after while1Ops0_8 V (Proc.devRef .tc r) = V (Proc.devRef .tc r) := after_of_writes_sub _ _ while1Ops0_8_writes hr

/-- The buffers through one trip. -/
def T0 (V : Val) : Val := after cond1 V
def T1 (V : Val) : Val := after while1Ops0 (T0 V)
def T2 (V : Val) : Val := after while1Ops0_1 (T1 V)
def T3 (V : Val) : Val := after while1Ops0_2 (T2 V)
def T4 (V : Val) : Val := after while1Ops0_3 (T3 V)
def T5 (V : Val) : Val := after while1Ops0_4 (T4 V)
def T6 (V : Val) : Val := after while1Ops0_5 (T5 V)
def T7 (V : Val) : Val := after while1Ops0_6 (T6 V)
def T8 (V : Val) : Val := after while1Ops0_7 (T7 V)
def T9 (V : Val) : Val := after while1Ops0_8 (T8 V)

/-- The parts of the trip that leave a buffer alone. -/
theorem T0_keep (V : Val) (r : Ref sig .tc) (hr : r ∉ ([main_while1c_c_19, main_while1c_v98] : List (Ref sig .tc))) :
    T0 V (Proc.devRef .tc r) = V (Proc.devRef .tc r) := after_of_writes_sub _ _ cond1_writes hr
theorem T1_keep (V : Val) (r : Ref sig .tc) (hr : r ∉ while1Ops0_W) : T1 V (Proc.devRef .tc r) = T0 V (Proc.devRef .tc r) := trip0 _ r hr
theorem T2_keep (V : Val) (r : Ref sig .tc) (hr : r ∉ while1Ops0_1_W) : T2 V (Proc.devRef .tc r) = T1 V (Proc.devRef .tc r) := trip1 _ r hr
theorem T3_keep (V : Val) (r : Ref sig .tc) (hr : r ∉ while1Ops0_2_W) : T3 V (Proc.devRef .tc r) = T2 V (Proc.devRef .tc r) := trip2 _ r hr
theorem T4_keep (V : Val) (r : Ref sig .tc) (hr : r ∉ while1Ops0_3_W) : T4 V (Proc.devRef .tc r) = T3 V (Proc.devRef .tc r) := trip3 _ r hr
theorem T5_keep (V : Val) (r : Ref sig .tc) (hr : r ∉ while1Ops0_4_W) : T5 V (Proc.devRef .tc r) = T4 V (Proc.devRef .tc r) := trip4 _ r hr
theorem T6_keep (V : Val) (r : Ref sig .tc) (hr : r ∉ while1Ops0_5_W) : T6 V (Proc.devRef .tc r) = T5 V (Proc.devRef .tc r) := trip5 _ r hr
theorem T7_keep (V : Val) (r : Ref sig .tc) (hr : r ∉ while1Ops0_6_W) : T7 V (Proc.devRef .tc r) = T6 V (Proc.devRef .tc r) := trip6 _ r hr
theorem T8_keep (V : Val) (r : Ref sig .tc) (hr : r ∉ while1Ops0_7_W) : T8 V (Proc.devRef .tc r) = T7 V (Proc.devRef .tc r) := trip7 _ r hr
theorem T9_keep (V : Val) (r : Ref sig .tc) (hr : r ∉ while1Ops0_8_W) : T9 V (Proc.devRef .tc r) = T8 V (Proc.devRef .tc r) := trip8 _ r hr

/-- One trip of the second loop. -/
theorem Running.step {X : Rows} {V : Val} {k : ℕ} (h : Running X k V) (hk : k < 32) : Running X (k + 1) (T9 V) := by
  have c0 : T0 V (Proc.devRef .tc main_v78_6) ix0 = BitVec.ofNat 32 (⟨k, hk⟩ : Fin 32).val := (congrFun (show T0 V (Proc.devRef .tc main_v78_6) = V _ by rw [T0_keep V main_v78_6 (by decide +kernel)]) _).trans h.ctr
  have c1 : T1 V (Proc.devRef .tc main_v78_6) ix0 = BitVec.ofNat 32 (⟨k, hk⟩ : Fin 32).val := (congrFun (show T1 V (Proc.devRef .tc main_v78_6) = V _ by rw [T1_keep V main_v78_6 (by decide +kernel), T0_keep V main_v78_6 (by decide +kernel)]) _).trans h.ctr
  have c2 : T2 V (Proc.devRef .tc main_v78_6) ix0 = BitVec.ofNat 32 (⟨k, hk⟩ : Fin 32).val := (congrFun (show T2 V (Proc.devRef .tc main_v78_6) = V _ by rw [T2_keep V main_v78_6 (by decide +kernel), T1_keep V main_v78_6 (by decide +kernel), T0_keep V main_v78_6 (by decide +kernel)]) _).trans h.ctr
  have c3 : T3 V (Proc.devRef .tc main_v78_6) ix0 = BitVec.ofNat 32 (⟨k, hk⟩ : Fin 32).val := (congrFun (show T3 V (Proc.devRef .tc main_v78_6) = V _ by rw [T3_keep V main_v78_6 (by decide +kernel), T2_keep V main_v78_6 (by decide +kernel), T1_keep V main_v78_6 (by decide +kernel), T0_keep V main_v78_6 (by decide +kernel)]) _).trans h.ctr
  have c4 : T4 V (Proc.devRef .tc main_v78_6) ix0 = BitVec.ofNat 32 (⟨k, hk⟩ : Fin 32).val := (congrFun (show T4 V (Proc.devRef .tc main_v78_6) = V _ by rw [T4_keep V main_v78_6 (by decide +kernel), T3_keep V main_v78_6 (by decide +kernel), T2_keep V main_v78_6 (by decide +kernel), T1_keep V main_v78_6 (by decide +kernel), T0_keep V main_v78_6 (by decide +kernel)]) _).trans h.ctr
  have c5 : T5 V (Proc.devRef .tc main_v78_6) ix0 = BitVec.ofNat 32 (⟨k, hk⟩ : Fin 32).val := (congrFun (show T5 V (Proc.devRef .tc main_v78_6) = V _ by rw [T5_keep V main_v78_6 (by decide +kernel), T4_keep V main_v78_6 (by decide +kernel), T3_keep V main_v78_6 (by decide +kernel), T2_keep V main_v78_6 (by decide +kernel), T1_keep V main_v78_6 (by decide +kernel), T0_keep V main_v78_6 (by decide +kernel)]) _).trans h.ctr
  have c6 : T6 V (Proc.devRef .tc main_v78_6) ix0 = BitVec.ofNat 32 (⟨k, hk⟩ : Fin 32).val := (congrFun (show T6 V (Proc.devRef .tc main_v78_6) = V _ by rw [T6_keep V main_v78_6 (by decide +kernel), T5_keep V main_v78_6 (by decide +kernel), T4_keep V main_v78_6 (by decide +kernel), T3_keep V main_v78_6 (by decide +kernel), T2_keep V main_v78_6 (by decide +kernel), T1_keep V main_v78_6 (by decide +kernel), T0_keep V main_v78_6 (by decide +kernel)]) _).trans h.ctr
  have c7 : T7 V (Proc.devRef .tc main_v78_6) ix0 = BitVec.ofNat 32 (⟨k, hk⟩ : Fin 32).val := (congrFun (show T7 V (Proc.devRef .tc main_v78_6) = V _ by rw [T7_keep V main_v78_6 (by decide +kernel), T6_keep V main_v78_6 (by decide +kernel), T5_keep V main_v78_6 (by decide +kernel), T4_keep V main_v78_6 (by decide +kernel), T3_keep V main_v78_6 (by decide +kernel), T2_keep V main_v78_6 (by decide +kernel), T1_keep V main_v78_6 (by decide +kernel), T0_keep V main_v78_6 (by decide +kernel)]) _).trans h.ctr
  have c8 : T8 V (Proc.devRef .tc main_v78_6) ix0 = BitVec.ofNat 32 k := (congrFun (show T8 V (Proc.devRef .tc main_v78_6) = V _ by rw [T8_keep V main_v78_6 (by decide +kernel), T7_keep V main_v78_6 (by decide +kernel), T6_keep V main_v78_6 (by decide +kernel), T5_keep V main_v78_6 (by decide +kernel), T4_keep V main_v78_6 (by decide +kernel), T3_keep V main_v78_6 (by decide +kernel), T2_keep V main_v78_6 (by decide +kernel), T1_keep V main_v78_6 (by decide +kernel), T0_keep V main_v78_6 (by decide +kernel)]) _).trans h.ctr
  have r0 := fun b j t e => (congrFun (show T6 V (Proc.devRef .tc main_while1b_v98) = T1 V _ by rw [T6_keep V main_while1b_v98 (by decide +kernel), T5_keep V main_while1b_v98 (by decide +kernel), T4_keep V main_while1b_v98 (by decide +kernel), T3_keep V main_while1b_v98 (by decide +kernel), T2_keep V main_while1b_v98 (by decide +kernel)]) _).trans ((b0_v98 (T0 V) b j ⟨k, hk⟩ t e c0).trans ((congrFun (show T0 V (Proc.devRef .tc main_v78_0) = V _ by rw [T0_keep V main_v78_0 (by decide +kernel)]) _).trans (h.ready.u ⟨k, hk⟩ b j t e)))
  have r1 := fun b j t e => (congrFun (show T6 V (Proc.devRef .tc main_while1b_v99) = T2 V _ by rw [T6_keep V main_while1b_v99 (by decide +kernel), T5_keep V main_while1b_v99 (by decide +kernel), T4_keep V main_while1b_v99 (by decide +kernel), T3_keep V main_while1b_v99 (by decide +kernel)]) _).trans ((b1_v99 (T1 V) b j ⟨k, hk⟩ t e c1).trans ((congrFun (show T1 V (Proc.devRef .tc main_v78_1) = V _ by rw [T1_keep V main_v78_1 (by decide +kernel), T0_keep V main_v78_1 (by decide +kernel)]) _).trans (h.ready.w ⟨k, hk⟩ b j t e)))
  have r2 := fun b j t e => (congrFun (show T6 V (Proc.devRef .tc main_while1b_v100) = T3 V _ by rw [T6_keep V main_while1b_v100 (by decide +kernel), T5_keep V main_while1b_v100 (by decide +kernel), T4_keep V main_while1b_v100 (by decide +kernel)]) _).trans ((b2_v100 (T2 V) b j ⟨k, hk⟩ t e c2).trans ((congrFun (show T2 V (Proc.devRef .tc main_v78_2) = V _ by rw [T2_keep V main_v78_2 (by decide +kernel), T1_keep V main_v78_2 (by decide +kernel), T0_keep V main_v78_2 (by decide +kernel)]) _).trans (h.ready.a ⟨k, hk⟩ b j t e)))
  have r3 := fun b j t e => (congrFun (show T6 V (Proc.devRef .tc main_while1b_v101) = T4 V _ by rw [T6_keep V main_while1b_v101 (by decide +kernel), T5_keep V main_while1b_v101 (by decide +kernel)]) _).trans ((b3_v101 (T3 V) b j ⟨k, hk⟩ t e c3).trans ((congrFun (show T3 V (Proc.devRef .tc main_v78_3) = V _ by rw [T3_keep V main_v78_3 (by decide +kernel), T2_keep V main_v78_3 (by decide +kernel), T1_keep V main_v78_3 (by decide +kernel), T0_keep V main_v78_3 (by decide +kernel)]) _).trans (h.ready.qd ⟨k, hk⟩ b j t e)))
  have r4 := fun b j t e => (congrFun (show T6 V (Proc.devRef .tc main_while1b_v102) = T5 V _ by rw [T6_keep V main_while1b_v102 (by decide +kernel)]) _).trans ((b4_v102 (T4 V) b j ⟨k, hk⟩ t e c4).trans ((congrFun (show T4 V (Proc.devRef .tc main_v78_4) = V _ by rw [T4_keep V main_v78_4 (by decide +kernel), T3_keep V main_v78_4 (by decide +kernel), T2_keep V main_v78_4 (by decide +kernel), T1_keep V main_v78_4 (by decide +kernel), T0_keep V main_v78_4 (by decide +kernel)]) _).trans (h.ready.kd ⟨k, hk⟩ b j t e)))
  have r5 := fun b j => (congrFun (show T6 V (Proc.devRef .tc main_while1b_v103) = T6 V _ by rfl) _).trans ((b5_v103 (T5 V) b j ⟨k, hk⟩ c5).trans ((congrFun (show T5 V (Proc.devRef .tc main_v78_5) = V _ by rw [T5_keep V main_v78_5 (by decide +kernel), T4_keep V main_v78_5 (by decide +kernel), T3_keep V main_v78_5 (by decide +kernel), T2_keep V main_v78_5 (by decide +kernel), T1_keep V main_v78_5 (by decide +kernel), T0_keep V main_v78_5 (by decide +kernel)]) _).trans (h.ready.cd ⟨k, hk⟩ b j)))
  have ch : ∀ (b : Fin 16) (j : Fin 8), Chunk (T6 V) b j (X.cq j (cn b ⟨k, hk⟩)) (X.ck j (cn b ⟨k, hk⟩)) (X.cv j (cn b ⟨k, hk⟩)) (X.cb j (cn b ⟨k, hk⟩))
      (X.cg j (cn b ⟨k, hk⟩)) (X.st j (b.val * 32 + k)) := fun b j => {
    u := r0 b j
    w := r1 b j
    a := r2 b j
    qd := r3 b j
    kd := r4 b j
    cd := r5 b j
    S := fun d e => (congrFun (show T6 V (Proc.devRef .tc main_v78_7) = V _ by rw [T6_keep V main_v78_7 (by decide +kernel), T5_keep V main_v78_7 (by decide +kernel), T4_keep V main_v78_7 (by decide +kernel), T3_keep V main_v78_7 (by decide +kernel), T2_keep V main_v78_7 (by decide +kernel), T1_keep V main_v78_7 (by decide +kernel), T0_keep V main_v78_7 (by decide +kernel)]) _).trans (h.state hk b j d e) }
  exact {
    ready := {
      u := fun n b j t e => (congrFun (show T9 V (Proc.devRef .tc main_v78_0) = V _ by rw [T9_keep V main_v78_0 (by decide +kernel), T8_keep V main_v78_0 (by decide +kernel), T7_keep V main_v78_0 (by decide +kernel), T6_keep V main_v78_0 (by decide +kernel), T5_keep V main_v78_0 (by decide +kernel), T4_keep V main_v78_0 (by decide +kernel), T3_keep V main_v78_0 (by decide +kernel), T2_keep V main_v78_0 (by decide +kernel), T1_keep V main_v78_0 (by decide +kernel), T0_keep V main_v78_0 (by decide +kernel)]) _).trans (h.ready.u n b j t e)
      w := fun n b j t e => (congrFun (show T9 V (Proc.devRef .tc main_v78_1) = V _ by rw [T9_keep V main_v78_1 (by decide +kernel), T8_keep V main_v78_1 (by decide +kernel), T7_keep V main_v78_1 (by decide +kernel), T6_keep V main_v78_1 (by decide +kernel), T5_keep V main_v78_1 (by decide +kernel), T4_keep V main_v78_1 (by decide +kernel), T3_keep V main_v78_1 (by decide +kernel), T2_keep V main_v78_1 (by decide +kernel), T1_keep V main_v78_1 (by decide +kernel), T0_keep V main_v78_1 (by decide +kernel)]) _).trans (h.ready.w n b j t e)
      a := fun n b j t e => (congrFun (show T9 V (Proc.devRef .tc main_v78_2) = V _ by rw [T9_keep V main_v78_2 (by decide +kernel), T8_keep V main_v78_2 (by decide +kernel), T7_keep V main_v78_2 (by decide +kernel), T6_keep V main_v78_2 (by decide +kernel), T5_keep V main_v78_2 (by decide +kernel), T4_keep V main_v78_2 (by decide +kernel), T3_keep V main_v78_2 (by decide +kernel), T2_keep V main_v78_2 (by decide +kernel), T1_keep V main_v78_2 (by decide +kernel), T0_keep V main_v78_2 (by decide +kernel)]) _).trans (h.ready.a n b j t e)
      qd := fun n b j t e => (congrFun (show T9 V (Proc.devRef .tc main_v78_3) = V _ by rw [T9_keep V main_v78_3 (by decide +kernel), T8_keep V main_v78_3 (by decide +kernel), T7_keep V main_v78_3 (by decide +kernel), T6_keep V main_v78_3 (by decide +kernel), T5_keep V main_v78_3 (by decide +kernel), T4_keep V main_v78_3 (by decide +kernel), T3_keep V main_v78_3 (by decide +kernel), T2_keep V main_v78_3 (by decide +kernel), T1_keep V main_v78_3 (by decide +kernel), T0_keep V main_v78_3 (by decide +kernel)]) _).trans (h.ready.qd n b j t e)
      kd := fun n b j t e => (congrFun (show T9 V (Proc.devRef .tc main_v78_4) = V _ by rw [T9_keep V main_v78_4 (by decide +kernel), T8_keep V main_v78_4 (by decide +kernel), T7_keep V main_v78_4 (by decide +kernel), T6_keep V main_v78_4 (by decide +kernel), T5_keep V main_v78_4 (by decide +kernel), T4_keep V main_v78_4 (by decide +kernel), T3_keep V main_v78_4 (by decide +kernel), T2_keep V main_v78_4 (by decide +kernel), T1_keep V main_v78_4 (by decide +kernel), T0_keep V main_v78_4 (by decide +kernel)]) _).trans (h.ready.kd n b j t e)
      cd := fun n b j => (congrFun (show T9 V (Proc.devRef .tc main_v78_5) = V _ by rw [T9_keep V main_v78_5 (by decide +kernel), T8_keep V main_v78_5 (by decide +kernel), T7_keep V main_v78_5 (by decide +kernel), T6_keep V main_v78_5 (by decide +kernel), T5_keep V main_v78_5 (by decide +kernel), T4_keep V main_v78_5 (by decide +kernel), T3_keep V main_v78_5 (by decide +kernel), T2_keep V main_v78_5 (by decide +kernel), T1_keep V main_v78_5 (by decide +kernel), T0_keep V main_v78_5 (by decide +kernel)]) _).trans (h.ready.cd n b j)
    }
    ctr := b8_v78_6 (T8 V) k c8
    state := fun hk1 b j d e => by
      have e1 := (congrFun (b8_v78_7 (T8 V)) (ix4 b j d e)).trans ((congrFun (show T8 V (Proc.devRef .tc main_while1b_v113) = T7 V _ by rw [T8_keep V main_while1b_v113 (by decide +kernel)]) _).trans (b6_v113 (T6 V) b j d e (ch b j)))
      refine e1.trans (congrArg (fun r : ℝ => (r : EReal)) ?_)
      rw [show b.val * 32 + (k + 1) = (b.val * 32 + k) + 1 from rfl, X.st_next j (b.val * 32 + k) (by omega)]
      rfl
    outs := fun n b j t e => by
      have e1 := (congrFun (b8_v78_8 (T8 V)) (ix5 n b j t e)).trans (b7_v114 (T7 V) b j ⟨k, hk⟩ t e n c7)
      refine e1.trans ?_
      by_cases hn : n = ⟨k, hk⟩
      · rw [if_pos hn]
        refine (b6_v108 (T6 V) b j t e (ch b j)).trans ?_
        rw [if_pos (by rw [hn]; exact Nat.lt_succ_self k), hn]
        rfl
      · rw [if_neg hn]
        have hn' : n.val ≠ k := fun x => hn (Fin.ext x)
        refine (congrFun (show T7 V (Proc.devRef .tc main_v78_8) = V _ by rw [T7_keep V main_v78_8 (by decide +kernel), T6_keep V main_v78_8 (by decide +kernel), T5_keep V main_v78_8 (by decide +kernel), T4_keep V main_v78_8 (by decide +kernel), T3_keep V main_v78_8 (by decide +kernel), T2_keep V main_v78_8 (by decide +kernel), T1_keep V main_v78_8 (by decide +kernel), T0_keep V main_v78_8 (by decide +kernel)]) _).trans ((h.outs n b j t e).trans (congrArg (fun r : ℝ => (r : EReal)) ?_))
        by_cases h2 : n.val < k
        · rw [if_pos h2, if_pos (by omega)]
        · rw [if_neg h2, if_neg (by omega)] }

/-- Before each trip of the second loop, from where it is entered. -/
theorem running_at {X : Rows} {m : (ℓ : Loc nD τ sig) → Buf (Elt Ideal) ℓ} {c : Dev nD} (h : Running X 0 (ent1 m c)) :
    ∀ k, k ≤ 32 → Running X k (at1 m k c)
  | 0, _ => h
  | k + 1, hk => (running_at h k (by omega)).step (by omega)

end Cert.ReferenceIdeal.Whole
end
-- ==== Proof.RefPost.lean ====
module

public import proofs.«01_k».proof.Proof.RefLoop

/-! The reference's last operations, and its result as the gated delta rule's. -/

@[expose] public section

set_option maxRecDepth 16384

noncomputable section

namespace Cert.ReferenceIdeal.Whole

open Cert.ReferenceIdeal Cert.ReferenceIdeal.Gen Cert.ReferenceIdeal.Lists Cert.ReferenceIdeal.RefRun
open Idealize.ShloMosaic Idealize.ShloMosaic.TcCoe Idealize.ShloMosaic.Tactic Idealize.ShloMosaic.StableHlo Idealize.SL.Sem
open Gdn (col gated Rows row)

variable (X : Rows) (V : Val)

/-- A row's norm and weight. -/
theorem s12_v94 (b : Fin 16) (j : Fin 8) (n : Fin 32) (t : Fin 64) (e : Fin 128) (o : Fin 128 → ℝ)
    (ho : ∀ e, V (Proc.devRef .tc main_v78_8) (ix5 n b j t e) = ((o e : ℝ) : EReal)) :
    after hostOps0_12 V (Proc.devRef .tc main_v94) (ix2 (row (cn b n) t) (col j e))
      = ((o e : ℝ) : EReal) * Ideal.rsqrt (Ideal.div (((∑ x : Fin 128, o x * o x : ℝ) : ℝ) : EReal) (Ideal.ofBits .f32 0x43000000#32)
          + Ideal.ofBits .f32 0x358637BD#32) * V (Proc.devRef .tc main_arg6) (ix1 e) := by
  after_reads_simp
  pointwise
  have hr := Gdn.row_val (cn b n) (by show b.val * 32 + n.val < 512; omega) t
  have hr' : (row (cn b n) t).val = b.val * 2048 + n.val * 64 + t.val := by rw [hr]; show (b.val * 32 + n.val) * 64 + t.val = _; ring
  have e1 : ∀ h, (⟨(row (cn b n) t).val % 2048 / 64, h⟩ : Fin 32) = n := fun h => Fin.ext (by show _ % 2048 / 64 = n.val; omega)
  have e2 : ∀ h, (⟨(row (cn b n) t).val / 2048, h⟩ : Fin 16) = b := fun h => Fin.ext (by show _ / 2048 = b.val; omega)
  have e3 : ∀ h, (⟨(row (cn b n) t).val % 2048 % 64, h⟩ : Fin 64) = t := fun h => Fin.ext (by show _ % 2048 % 64 = t.val; omega)
  have e4 : ∀ h, (⟨(j.val * 128 + e.val) / 128, h⟩ : Fin 8) = j := fun h => Fin.ext (by show _ / 128 = j.val; omega)
  have e5 : ∀ h, (⟨(j.val * 128 + e.val) % 128, h⟩ : Fin 128) = e := fun h => Fin.ext (by show _ % 128 = e.val; omega)
  simp only [e1, e2, e3, e4, e5, ho, ← EReal.coe_mul, Gdn.coe_sum]

theorem s13_v95 (r : Fin 32768) (e : Fin 1024) (z : EReal) (hz : V (Proc.devRef .tc main_arg3) (ix2 r e) = z) :
    after hostOps0_13 V (Proc.devRef .tc main_v95) (ix2 r e) = z * Ideal.div 1 (1 + Ideal.exp (-z)) := by
  after_reads_simp
  simp only [TRef.ofBuf_toBuf]
  simp only [TRef.ofBuf, TRef.toBuf, cast_eq, id]
  pointwise [hz]
  trace_state

theorem s14_v97 (r : Fin 32768) (e : Fin 1024) (x y : EReal) (hx : V (Proc.devRef .tc main_v94) (ix2 r e) = x)
    (hy : V (Proc.devRef .tc main_v95) (ix2 r e) = y) :
    after hostOps0_14 V (Proc.devRef .tc main_v97) (ix2 r e) = x * y := by
  after_reads_simp
  pointwise [hx, hy]

/-- The last operations give the gated delta rule's result. -/
theorem Outs.result {X : Rows} {V : Val}
    (h : ∀ (n : Fin 32) (b : Fin 16) (j : Fin 8) (t : Fin 64) (e : Fin 128), V (Proc.devRef .tc main_v78_8) (ix5 n b j t e)
      = ((if n.val < 32 then X.o j (cn b n) t e else 0 : ℝ) : EReal)) (go : Fin 128 → EReal) (z : Fin 32768 → Fin 1024 → EReal)
    (hgo : ∀ e, V (Proc.devRef .tc main_arg6) (ix1 e) = go e) (hz : ∀ r e, V (Proc.devRef .tc main_arg3) (ix2 r e) = z r e)
    (i : S32768x1024.Idx) :
    after hostOps0_14 (after hostOps0_13 (after hostOps0_12 V)) (Proc.devRef .tc main_v97) i = X.result go z (i 0) (i 1) := by
  have key : ∀ (b : Fin 16) (n : Fin 32) (t : Fin 64) (j : Fin 8) (e : Fin 128),
      after hostOps0_14 (after hostOps0_13 (after hostOps0_12 V)) (Proc.devRef .tc main_v97) (ix2 (row (cn b n) t) (col j e))
        = X.result go z (row (cn b n) t) (col j e) := by
    intro b n t j e
    have ho : ∀ e, V (Proc.devRef .tc main_v78_8) (ix5 n b j t e) = ((X.o j (cn b n) t e : ℝ) : EReal) :=
      fun e => (h n b j t e).trans (by rw [if_pos n.2])
    have x1 := s12_v94 V b j n t e (X.o j (cn b n) t) ho
    have x2 := (congrFun (keep13 (after hostOps0_12 V) main_v94 (by decide +kernel)) _).trans x1
    have z1 := s13_v95 (after hostOps0_12 V) (row (cn b n) t) (col j e) _ ((congrFun (keep12 V main_arg3 (by decide +kernel)) _).trans (hz _ _))
    refine (s14_v97 _ _ _ _ _ x2 z1).trans ?_
    rw [Gdn.result_at X j (cn b n) go z (by show b.val * 32 + n.val < 512; omega) t e, gated, hgo]
  have hb : (i 0).val < 32768 := (i 0).2
  have hc : (i 1).val < 1024 := (i 1).2
  have k1 := key ⟨(i 0).val / 2048, by omega⟩ ⟨(i 0).val % 2048 / 64, by omega⟩ ⟨(i 0).val % 64, by omega⟩ ⟨(i 1).val / 128, by omega⟩ ⟨(i 1).val % 128, by omega⟩
  have er : row (cn ⟨(i 0).val / 2048, by omega⟩ ⟨(i 0).val % 2048 / 64, by omega⟩) ⟨(i 0).val % 64, by omega⟩ = i 0 := by
    refine Fin.ext ?_
    rw [Gdn.row_val _ (by show (i 0).val / 2048 * 32 + (i 0).val % 2048 / 64 < 512; omega)]
    show ((i 0).val / 2048 * 32 + (i 0).val % 2048 / 64) * 64 + (i 0).val % 64 = (i 0).val
    omega
  have ec : col ⟨(i 1).val / 128, by omega⟩ ⟨(i 1).val % 128, by omega⟩ = i 1 := Gdn.col_parts (i 1)
  rw [er, ec] at k1
  have ei : (ix2 (i 0) (i 1) : S32768x1024.Idx) = i := by
    funext a
    refine Fin.cases rfl (fun a => ?_) a
    refine Fin.cases rfl (fun a => a.elim0) a
  exact (congrArg _ ei.symm).trans k1

theorem cond0_same (V : Val) (r : Ref sig .tc) (hr : r ∉ ([main_while0c_c_15, main_while0c_v98] : List (Ref sig .tc))) :
    after cond0 V (Proc.devRef .tc r) = V (Proc.devRef .tc r) := after_of_writes_sub _ _ cond0_writes hr

/-- The loops' last tests change nothing that is read after them. -/
theorem Solving.tested {X : Rows} {V : Val} {k : ℕ} (h : Solving X k V) : Solving X k (after cond0 V) where
  q := by rw [cond0_same V main_v6 (by decide +kernel)]; exact h.q
  key := by rw [cond0_same V main_v8 (by decide +kernel)]; exact h.key
  gc := by rw [cond0_same V main_v13 (by decide +kernel)]; exact h.gc
  le := by rw [cond0_same V main_v21 (by decide +kernel)]; exact h.le
  dec := by rw [cond0_same V main_v34 (by decide +kernel)]; exact h.dec
  low := by rw [cond0_same V main_v50_0 (by decide +kernel)]; exact h.low
  rhs := by rw [cond0_same V main_v50_1 (by decide +kernel)]; exact h.rhs
  ctr := by rw [cond0_same V main_v50_3 (by decide +kernel)]; exact h.ctr
  rows := by rw [cond0_same V main_v50_4 (by decide +kernel)]; exact h.rows

/-- The whole reference's result. -/
theorem final {X : Rows} {m : (ℓ : Loc nD τ sig) → Buf (Elt Ideal) ℓ} {c : Dev nD} (h : ArgsHold X (launchContents m c)) :
    fin m c (Proc.devRef .tc main_v97) = fun i : S32768x1024.Idx =>
      X.result (fun e => m ((c : Thread nD τ).loc main_arg6) (ix1 e)) (fun r e => m ((c : Thread nD τ).loc main_arg3) (ix2 r e)) (i 0) (i 1) := by
  have p1 := solving_at X (m := m) (c := c) (pre_facts h).solving 64 le_rfl
  have p2 : Running X 0 (ent1 m c) := p1.tested.running
  have p3 := running_at p2 32 le_rfl
  have keep : ∀ b : Ref sig .tc, b ∈ ([main_arg0, main_arg1, main_arg2, main_arg3, main_arg4, main_arg5, main_arg6] : List (Ref sig .tc)) →
      at1 m 32 c (Proc.devRef .tc b) = launchContents m c (Proc.devRef .tc b) := fun b hb =>
    ((postI_keep _ b (by revert b; decide +kernel)).trans (cond1_keep _ b (by revert b; decide +kernel))).symm.trans (fin_args m c b hb)
  have c8 : ∀ (n : Fin 32) (b : Fin 16) (j : Fin 8) (t : Fin 64) (e : Fin 128), T0 (at1 m 32 c) (Proc.devRef .tc main_v78_8) (ix5 n b j t e)
      = ((if n.val < 32 then X.o j (cn b n) t e else 0 : ℝ) : EReal) := fun n b j t e =>
    (congrFun (T0_keep (at1 m 32 c) main_v78_8 (by decide +kernel)) _).trans (p3.outs n b j t e)
  funext i
  refine Outs.result (X := X) (V := T0 (at1 m 32 c)) c8 _ _ (fun e => ?_) (fun r e => ?_) i
  · rw [T0_keep _ main_arg6 (by decide +kernel), keep main_arg6 (by decide +kernel)]
  · rw [T0_keep _ main_arg3 (by decide +kernel), keep main_arg3 (by decide +kernel)]

end Cert.ReferenceIdeal.Whole
end
-- ==== Proof.Algebraic.lean ====
/- The kernel and the reference compute the same result, where queries, keys, values, steps and decays are finite and no decay
   exponent is positive. -/
module

public import proofs.«01_k».proof.Defs
public import proofs.«01_k».proof.Proof.Frames
public import proofs.«01_k».proof.Proof.KernelVal
public import proofs.«01_k».proof.Proof.RefPost
public import proofs.«01_k».proof.Proof.Gen.Pre_finite_and_decaying
public import Idealize.ShloMosaic.Lib.IdealHost

@[expose] public section

set_option maxRecDepth 16384

noncomputable section

namespace Cert.Proof

open Idealize.ShloMosaic Idealize.ShloMosaic.StableHlo Idealize.SL.Sem
open Gdn (Rows)

theorem inf_word : Ideal.ofBits .f32 0x7F800000#32 = ⊤ := by simp [Ideal.ofBits, Ideal.ieee]

/-- What is below infinity in size is a real. -/
theorem real_of_lt {x : EReal} (h : Ideal.cmp .olt (max x (-x)) (Ideal.ofBits .f32 0x7F800000#32) = 1#1) : x = ((x.toReal : ℝ) : EReal) := by
  rw [inf_word] at h
  have hlt : max x (-x) < ⊤ := by
    by_contra hn
    simp [Ideal.cmp, hn] at h
  have h1 := (max_lt_iff.mp hlt).1
  have h2 := (max_lt_iff.mp hlt).2
  refine (EReal.coe_toReal h1.ne ?_).symm
  intro hb
  rw [hb] at h2
  simp at h2

/-- What is at most zero. -/
theorem nonpos_of_le {x : EReal} (h : Ideal.cmp .ole x (Ideal.ofBits .f32 0x00000000#32) = 1#1) : x ≤ 0 := by
  rw [Ideal.ofBits_zero_f32] at h
  by_contra hn
  simp [Ideal.cmp, hn] at h

theorem and_one {a b : BitVec 1} (h : IntOp.andi a b = 1#1) : a = 1#1 ∧ b = 1#1 := by
  revert a b; decide

variable {m : (ℓ : Loc Cert.KernelIdeal.nD Cert.KernelIdeal.τ Cert.KernelIdeal.sig) → Buf (Elt Ideal) ℓ}

open Cert.KernelIdeal in
/-- The reals in the arguments' arrays. -/
def rows (m : (ℓ : Loc nD τ sig) → Buf (Elt Ideal) ℓ) (c : Dev nD)
    (hg : ∀ r j, (show EReal from m ((c.tc : Thread nD τ).loc main_arg5) (ix2 (r : Fin 32768) (j : Fin 8))).toReal ≤ 0) : Rows where
  q r e := (show EReal from m ((c.tc : Thread nD τ).loc main_arg0) (ix2 r e)).toReal
  k r e := (show EReal from m ((c.tc : Thread nD τ).loc main_arg1) (ix2 r e)).toReal
  v r e := (show EReal from m ((c.tc : Thread nD τ).loc main_arg2) (ix2 r e)).toReal
  be r j := (show EReal from m ((c.tc : Thread nD τ).loc main_arg4) (ix2 r j)).toReal
  g r j := (show EReal from m ((c.tc : Thread nD τ).loc main_arg5) (ix2 r j)).toReal
  neg := hg

open Cert.KernelIdeal in
/-- Under the precondition the arguments hold reals, the decay exponents none above zero. -/
theorem holds (h : Cert.Pre_KernelIdeal_finite_and_decaying (hPre_finite_and_decaying := Cert.Pre_finite_and_decaying.Gen.facts) m) (c : Dev nD) :
    ∃ X : Rows, Cert.KernelIdeal.Whole.ArgsHold m c X := by
  obtain ⟨h0, h1, h2, h4, h5⟩ := h c
  have e0 : ∀ (r : Fin 32768) (e : Fin 1024), _ := fun r e => real_of_lt (x := m ((c.tc : Thread nD τ).loc main_arg0) (ix2 r e)) (congrFun h0 (ix2 r e))
  have e1 : ∀ (r : Fin 32768) (e : Fin 1024), _ := fun r e => real_of_lt (x := m ((c.tc : Thread nD τ).loc main_arg1) (ix2 r e)) (congrFun h1 (ix2 r e))
  have e2 : ∀ (r : Fin 32768) (e : Fin 1024), _ := fun r e => real_of_lt (x := m ((c.tc : Thread nD τ).loc main_arg2) (ix2 r e)) (congrFun h2 (ix2 r e))
  have e4 : ∀ (r : Fin 32768) (j : Fin 8), _ := fun r j => real_of_lt (x := m ((c.tc : Thread nD τ).loc main_arg4) (ix2 r j)) (congrFun h4 (ix2 r j))
  have h5' := fun (r : Fin 32768) (j : Fin 8) => and_one (congrFun h5 (ix2 r j))
  have e5 : ∀ (r : Fin 32768) (j : Fin 8), _ := fun r j => real_of_lt (x := m ((c.tc : Thread nD τ).loc main_arg5) (ix2 r j)) (h5' r j).1
  have n5 : ∀ (r : Fin 32768) (j : Fin 8), _ := fun r j => nonpos_of_le (x := m ((c.tc : Thread nD τ).loc main_arg5) (ix2 r j)) (h5' r j).2
  exact ⟨rows m c (fun r j => EReal.toReal_nonpos (n5 r j)), e0, e1, e2, e4, e5⟩

/-- The kernel and the reference leave the same array. -/
theorem algebraic : Cert.algebraic_KernelIdeal_ReferenceIdeal_pre_finite_and_decaying (hKernelIdeal := Cert.KernelIdeal.Gen.facts)
    (hReferenceIdeal := Cert.ReferenceIdeal.Gen.facts) (hPre_finite_and_decaying := Cert.Pre_finite_and_decaying.Gen.facts) := by
  intro m ρ m' ρ' hpre hagree
  refine ⟨_, (θ_run _ _ _).mono (fun _ h => h) (Cert.KernelIdeal.Value.run_blocks (F := Ideal) m ρ), ?_⟩
  refine (θ_run _ _ _).mono (fun _ h c => ⟨(h.1 c).1.trans ?_, (h.1 c).2⟩) (Cert.ReferenceIdeal.RefRun.run (F := Ideal) m' ρ')
  obtain ⟨X, hX⟩ := holds hpre c
  obtain ⟨a0, a1, a2, a3, a4, a5, a6⟩ := hagree c
  have hX' : Cert.ReferenceIdeal.Whole.ArgsHold X (launchContents m' c) :=
    ⟨fun r e => (congrFun a0 _).trans (hX.q r e), fun r e => (congrFun a1 _).trans (hX.k r e), fun r e => (congrFun a2 _).trans (hX.v r e),
      fun r j => (congrFun a4 _).trans (hX.be r j), fun r j => (congrFun a5 _).trans (hX.g r j)⟩
  refine (Cert.ReferenceIdeal.Whole.final hX').trans (Eq.trans ?_ (Cert.KernelIdeal.Whole.final hX).symm)
  funext i
  exact congrArg₂ (fun go z => X.result go z (i 0) (i 1)) (funext fun e => congrFun a6 _) (funext fun r => funext fun e => congrFun a3 _)

end Cert.Proof

end
-- ==== Proof.Ple.lean ====
module

public import proofs.«01_k».proof.Proof.Gen.Kernel2Ideal.Value
public import Idealize.ShloMosaic.Lib.Pipeline.ValueKit
public import Idealize.ShloMosaic.Lib.ValueIdx
public import Idealize.ShloMosaic.Lib.Pointwise
public import Idealize.ShloMosaic.Lib.IdealHost

/-! The residual layer's output over the extended reals, one row at a time, and what the kernel's stored term reads as. -/

@[expose] public section

set_option maxRecDepth 16384

noncomputable section

namespace Ple

open Idealize.ShloMosaic

/-- A row of the residual stream with the projected mixer row added. -/
def mixed (x y : Fin 1024 → EReal) (w : Fin 1024 → Fin 1024 → EReal) (e : Fin 1024) : EReal := x e + ∑ k, y k * w k e

/-- A row divided by its root mean square, times the norm's weights. -/
def normed (h n : Fin 1024 → EReal) (e : Fin 1024) : EReal :=
  h e * Ideal.rsqrt (Ideal.div (∑ k, h k * h k) (Ideal.ofBits .f32 0x44800000#32) + Ideal.ofBits .f32 0x358637BD#32) * n e

/-- The logistic function. -/
def sigm (z : EReal) : EReal := Ideal.div 1 (1 + Ideal.exp (-z))

/-- A row of the result. -/
def out (x y n : Fin 1024 → EReal) (p : Fin 256 → EReal) (w wg : Fin 1024 → Fin 1024 → EReal) (wp : Fin 256 → Fin 1024 → EReal)
    (e : Fin 1024) : EReal :=
  mixed x y w e + sigm (∑ k, normed (mixed x y w) n k * wg k e) * ∑ k, p k * wp k e

end Ple

namespace Cert.Kernel2Ideal.Whole

open Cert.Kernel2Ideal Cert.Kernel2Ideal.Gen
open Idealize.ShloMosaic Idealize.ShloMosaic.TcCoe Idealize.ShloMosaic.Tactic Idealize.SL.Sem

variable (v3 : FVec Ideal S1024x1024 .f32) (v4 v5 v23 : FVec Ideal S1024x1024 .bf16) (v8 : FVec Ideal S1x1x1024 .f32)
  (v32 : FVec Ideal S1024x256 .f32) (v35 : FVec Ideal S256x1024 .bf16)

/-- Two to the power of a multiple of the named constant is the exponential of the negation. -/
theorem exp2_named (z : EReal) : Ideal.exp2 (z * Named.named (F := Ideal) (φ := .f32) κ "neg_log2_e" 0xBFB8AA3B#32) = Ideal.exp (-z) := by
  have hk : (Named.named (F := Ideal) (φ := .f32) κ "neg_log2_e" 0xBFB8AA3B#32 : EReal) = ((-((Real.log 2)⁻¹) : ℝ) : EReal) :=
    IdealRules.named_const.ideal_named_scalar _ _ _ _ rfl
  have hl : 0 < Real.log 2 := Real.log_pos (by norm_num)
  rw [hk]
  induction z with
  | bot => rw [EReal.bot_mul_coe_of_neg (by simpa using hl)]; rfl
  | top => rw [EReal.top_mul_coe_of_neg (by simpa using hl)]; rfl
  | coe r =>
    rw [← EReal.coe_mul, ← EReal.coe_neg, Ideal.exp2_coe, Ideal.exp_coe]
    congr 1
    show (2 : ℝ) ^ (r * -(Real.log 2)⁻¹) = _
    rw [Real.rpow_def_of_pos (by norm_num)]
    congr 1
    field_simp

/-- The first sum of the body: the residual row with the projected mixer row. -/
theorem pay5_at (r e : Fin 1024) : k0_pay5 (F := Ideal) v3 v4 v5 (ix2 r e)
    = Ple.mixed (fun e => v3 (ix2 r e)) (fun k => v4 (ix2 r k)) (fun k e => v5 (ix2 k e)) e := by
  pointwise [k0_pay5]
  rfl

/-- The gate: the logistic function of the normed row's projection. -/
theorem pay6_at (r e : Fin 1024) : k0_pay6 (F := Ideal) v3 v4 v5 v8 v23 (ix2 r e)
    = Ple.sigm (∑ k : Fin 1024, Ple.normed (fun e => k0_pay5 (F := Ideal) v3 v4 v5 (ix2 r e)) (fun e => v8 (ix3 0 0 e)) k * v23 (ix2 k e)) := by
  pointwise [k0_pay6]
  exact congrArg (fun z => Ideal.div 1 (1 + z)) (exp2_named _)

/-- The stored sum. -/
theorem pay1_at (v7 v31 : FVec Ideal S1024x1024 .f32) (r e : Fin 1024) :
    k0_pay1 (F := Ideal) v7 v31 (k0_pay7 (F := Ideal) v32) v35 (ix2 r e)
    = v7 (ix2 r e) + v31 (ix2 r e) * ∑ k : Fin 256, v32 (ix2 r k) * v35 (ix2 k e) := by
  pointwise [k0_pay1, k0_pay7]

/-- A row of what a point stores. -/
theorem stored_at (r e : Fin 1024) :
    k0_pay1 (F := Ideal) (k0_pay5 (F := Ideal) v3 v4 v5) (k0_pay6 (F := Ideal) v3 v4 v5 v8 v23) (k0_pay7 (F := Ideal) v32) v35 (ix2 r e)
    = Ple.out (fun e => v3 (ix2 r e)) (fun k => v4 (ix2 r k)) (fun e => v8 (ix3 0 0 e)) (fun k => v32 (ix2 r k))
      (fun k e => v5 (ix2 k e)) (fun k e => v23 (ix2 k e)) (fun k e => v35 (ix2 k e)) e := by
  rw [pay1_at, pay6_at, pay5_at]
  simp only [pay5_at]
  rfl

/-- The copies of the weights the first point stores. -/
theorem pay2_at (v : FVec Ideal S1x1024x1024 .f32) (k e : Fin 1024) : k0_pay2 (F := Ideal) v (ix2 k e) = v (ix3 0 k e) := by
  pointwise [k0_pay2]
theorem pay3_at (v : FVec Ideal S1x1024x1024 .f32) (k e : Fin 1024) : k0_pay3 (F := Ideal) v (ix2 k e) = v (ix3 0 k e) := by
  pointwise [k0_pay3]
theorem pay4_at (v : FVec Ideal S1x256x1024 .f32) (k : Fin 256) (e : Fin 1024) : k0_pay4 (F := Ideal) v (ix2 k e) = v (ix3 0 k e) := by
  pointwise [k0_pay4]

theorem load_mat (arg : Memref sig .tc .vmem S1024x1024 .f32) (harg : arg.IsWhole) (x : FVec Ideal S1024x1024 .f32)
    (inb : ∀ a, (![0, 0] : Fin 2 → Nat) a + S1024x1024.size a ≤ S1024x1024.size a) :
    View.readAt (Elt Ideal) arg.view (Rect.unit (s := S1024x1024) ![0, 0] S1024x1024.size inb).toLoadRect (harg.unread x) = x := by
  rw [View.readAt_eq_ld, harg.read_unread]
  simp (disch := decide) only [View.ld_unit_lit']

theorem load_matb (arg : Memref sig .tc .vmem S1024x1024 .bf16) (harg : arg.IsWhole) (x : FVec Ideal S1024x1024 .bf16)
    (inb : ∀ a, (![0, 0] : Fin 2 → Nat) a + S1024x1024.size a ≤ S1024x1024.size a) :
    View.readAt (Elt Ideal) arg.view (Rect.unit (s := S1024x1024) ![0, 0] S1024x1024.size inb).toLoadRect (harg.unread x) = x := by
  rw [View.readAt_eq_ld, harg.read_unread]
  simp (disch := decide) only [View.ld_unit_lit']

theorem load_ple (arg : Memref sig .tc .vmem S1024x256 .f32) (harg : arg.IsWhole) (x : FVec Ideal S1024x256 .f32)
    (inb : ∀ a, (![0, 0] : Fin 2 → Nat) a + S1024x256.size a ≤ S1024x256.size a) :
    View.readAt (Elt Ideal) arg.view (Rect.unit (s := S1024x256) ![0, 0] S1024x256.size inb).toLoadRect (harg.unread x) = x := by
  rw [View.readAt_eq_ld, harg.read_unread]
  simp (disch := decide) only [View.ld_unit_lit']

theorem load_proj (arg : Memref sig .tc .vmem S256x1024 .bf16) (harg : arg.IsWhole) (x : FVec Ideal S256x1024 .bf16)
    (inb : ∀ a, (![0, 0] : Fin 2 → Nat) a + S256x1024.size a ≤ S256x1024.size a) :
    View.readAt (Elt Ideal) arg.view (Rect.unit (s := S256x1024) ![0, 0] S256x1024.size inb).toLoadRect (harg.unread x) = x := by
  rw [View.readAt_eq_ld, harg.read_unread]
  simp (disch := decide) only [View.ld_unit_lit']

theorem load_w (arg : Memref sig .tc .vmem S1x1024x1024 .f32) (harg : arg.IsWhole) (x : FVec Ideal S1x1024x1024 .f32)
    (inb : ∀ a, (![0, 0, 0] : Fin 3 → Nat) a + S1x1024x1024.size a ≤ S1x1024x1024.size a) :
    View.readAt (Elt Ideal) arg.view (Rect.unit (s := S1x1024x1024) ![0, 0, 0] S1x1024x1024.size inb).toLoadRect (harg.unread x) = x := by
  rw [View.readAt_eq_ld, harg.read_unread]
  simp (disch := decide) only [View.ld_unit_lit']

theorem load_n (arg : Memref sig .tc .vmem S1x1x1024 .f32) (harg : arg.IsWhole) (x : FVec Ideal S1x1x1024 .f32)
    (inb : ∀ a, (![0, 0, 0] : Fin 3 → Nat) a + S1x1x1024.size a ≤ S1x1x1024.size a) :
    View.readAt (Elt Ideal) arg.view (Rect.unit (s := S1x1x1024) ![0, 0, 0] S1x1x1024.size inb).toLoadRect (harg.unread x) = x := by
  rw [View.readAt_eq_ld, harg.read_unread]
  simp (disch := decide) only [View.ld_unit_lit']

theorem load_wp (arg : Memref sig .tc .vmem S1x256x1024 .f32) (harg : arg.IsWhole) (x : FVec Ideal S1x256x1024 .f32)
    (inb : ∀ a, (![0, 0, 0] : Fin 3 → Nat) a + S1x256x1024.size a ≤ S1x256x1024.size a) :
    View.readAt (Elt Ideal) arg.view (Rect.unit (s := S1x256x1024) ![0, 0, 0] S1x256x1024.size inb).toLoadRect (harg.unread x) = x := by
  rw [View.readAt_eq_ld, harg.read_unread]
  simp (disch := decide) only [View.ld_unit_lit']

/-- What a store of a whole buffer leaves is what the next load reads. -/
theorem reload_matb (arg : Memref sig .tc .vmem S1024x1024 .bf16) (v : FVec Ideal S1024x1024 .bf16)
    (inb inb' : ∀ a, (![0, 0] : Fin 2 → Nat) a + S1024x1024.size a ≤ S1024x1024.size a) :
    View.readCov (Val := Elt Ideal) arg.view [⟨Rect.unit (s := S1024x1024) ![0, 0] S1024x1024.size inb, v⟩]
      (Rect.unit (s := S1024x1024) ![0, 0] S1024x1024.size inb').toLoadRect = v := by
  funext j
  obtain ⟨r, e, rfl⟩ : ∃ (r : Fin 1024) (e : Fin 1024), j = ix2 r e := ⟨j 0, j 1, ValueIdx.eq_ix2 j⟩
  rw [View.readCov_eq_canon', View.canon_cons_unit_lit' inb _ _ (by decide)]
  pointwise

/-- What a store of a whole buffer leaves is what the next load reads. -/
theorem reload_proj (arg : Memref sig .tc .vmem S256x1024 .bf16) (v : FVec Ideal S256x1024 .bf16)
    (inb inb' : ∀ a, (![0, 0] : Fin 2 → Nat) a + S256x1024.size a ≤ S256x1024.size a) :
    View.readCov (Val := Elt Ideal) arg.view [⟨Rect.unit (s := S256x1024) ![0, 0] S256x1024.size inb, v⟩]
      (Rect.unit (s := S256x1024) ![0, 0] S256x1024.size inb').toLoadRect = v := by
  funext j
  obtain ⟨r, e, rfl⟩ : ∃ (r : Fin 256) (e : Fin 1024), j = ix2 r e := ⟨j 0, j 1, ValueIdx.eq_ix2 j⟩
  rw [View.readCov_eq_canon', View.canon_cons_unit_lit' inb _ _ (by decide)]
  pointwise

variable (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x256 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x256x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .bf16) (harg11 : arg11.IsWhole)
  (x0 : FVec Ideal S1024x1024 .f32) (x1 : FVec Ideal S1024x1024 .bf16) (x2 : FVec Ideal S1024x256 .f32) (x3 : FVec Ideal S1x1024x1024 .f32) (x4 : FVec Ideal S1x1x1024 .f32) (x5 : FVec Ideal S1x1024x1024 .f32) (x6 : FVec Ideal S1x256x1024 .f32) (xs0 : FVec Ideal S1024x1024 .bf16) (xs1 : FVec Ideal S1024x1024 .bf16) (xs2 : FVec Ideal S256x1024 .bf16)

/-- What a later point stores. -/
theorem out_B (hc0 : ¬cond0_0 i) : out0_B_7 (F := Ideal) c i arg1 harg1 arg2 harg2 arg3 harg3 arg4 harg4 arg5 harg5 arg6 harg6 arg7 harg7 arg8 harg8 arg9 harg9 arg10 harg10 arg11 harg11 hc0 x0 x1 x2 x3 x4 x5 x6 xs0 xs1 xs2
    = k0_pay1 (F := Ideal) (k0_pay5 (F := Ideal) x0 x1 xs0) (k0_pay6 (F := Ideal) x0 x1 xs0 x4 xs1) (k0_pay7 (F := Ideal) x2) xs2 := by
  have hL : (kernelRun0_B (F := Ideal) c i arg1 harg1 arg2 harg2 arg3 harg3 arg4 harg4 arg5 harg5 arg6 harg6 arg7 harg7 arg8 harg8 arg9 harg9 arg10 harg10 arg11 harg11 hc0 x0 x1 x2 x3 x4 x5 x6 xs0 xs1 xs2).1
      = [⟨Rect.unit (s := S1024x1024) ![0, 0] S1024x1024.size inb_S1024x1024_S1024x1024_0_0, k0_pay1 (F := Ideal) (k0_pay5 (F := Ideal) (View.readAt (Elt Ideal) arg1.view (Rect.unit (s := S1024x1024) ![0, 0] S1024x1024.size inb_S1024x1024_S1024x1024_0_0).toLoadRect (harg1.unread x0)) (View.readAt (Elt Ideal) arg2.view (Rect.unit (s := S1024x1024) ![0, 0] S1024x1024.size inb_S1024x1024_S1024x1024_0_0).toLoadRect (harg2.unread x1)) (View.readAt (Elt Ideal) arg9.view (Rect.unit (s := S1024x1024) ![0, 0] S1024x1024.size inb_S1024x1024_S1024x1024_0_0).toLoadRect (harg9.unread xs0))) (k0_pay6 (F := Ideal) (View.readAt (Elt Ideal) arg1.view (Rect.unit (s := S1024x1024) ![0, 0] S1024x1024.size inb_S1024x1024_S1024x1024_0_0).toLoadRect (harg1.unread x0)) (View.readAt (Elt Ideal) arg2.view (Rect.unit (s := S1024x1024) ![0, 0] S1024x1024.size inb_S1024x1024_S1024x1024_0_0).toLoadRect (harg2.unread x1)) (View.readAt (Elt Ideal) arg9.view (Rect.unit (s := S1024x1024) ![0, 0] S1024x1024.size inb_S1024x1024_S1024x1024_0_0).toLoadRect (harg9.unread xs0)) (View.readAt (Elt Ideal) arg5.view (Rect.unit (s := S1x1x1024) ![0, 0, 0] S1x1x1024.size inb_S1x1x1024_S1x1x1024_0_0_0).toLoadRect (harg5.unread x4)) (View.readAt (Elt Ideal) arg10.view (Rect.unit (s := S1024x1024) ![0, 0] S1024x1024.size inb_S1024x1024_S1024x1024_0_0).toLoadRect (harg10.unread xs1))) (k0_pay7 (F := Ideal) (View.readAt (Elt Ideal) arg3.view (Rect.unit (s := S1024x256) ![0, 0] S1024x256.size inb_S1024x256_S1024x256_0_0).toLoadRect (harg3.unread x2))) (View.readAt (Elt Ideal) arg11.view (Rect.unit (s := S256x1024) ![0, 0] S256x1024.size inb_S256x1024_S256x1024_0_0).toLoadRect (harg11.unread xs2))⟩] := by rfl
  unfold out0_B_7
  rw [hL, View.read_writes_junk_eq_canon]
  refine (View.canon_cons_unit_lit' inb_S1024x1024_S1024x1024_0_0 _ _ (by decide)).trans ?_
  rw [load_mat, load_matb, load_matb, load_matb, load_ple, load_proj, load_n]

/-- What the first point stores. -/
theorem out_A (hc0 : cond0_0 i) : out0_A_7 (F := Ideal) c i arg1 harg1 arg2 harg2 arg3 harg3 arg4 harg4 arg5 harg5 arg6 harg6 arg7 harg7 arg8 harg8 arg9 harg9 arg10 harg10 arg11 harg11 hc0 x0 x1 x2 x3 x4 x5 x6
    = k0_pay1 (F := Ideal) (k0_pay5 (F := Ideal) x0 x1 (k0_pay2 (F := Ideal) x3)) (k0_pay6 (F := Ideal) x0 x1 (k0_pay2 (F := Ideal) x3) x4 (k0_pay3 (F := Ideal) x5)) (k0_pay7 (F := Ideal) x2) (k0_pay4 (F := Ideal) x6) := by
  have hL : (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5 x6).1
      = [⟨Rect.unit (s := S1024x1024) ![0, 0] S1024x1024.size inb_S1024x1024_S1024x1024_0_0, k0_pay1 (F := Ideal) (k0_pay5 (F := Ideal) (View.readAt (Elt Ideal) arg1.view (Rect.unit (s := S1024x1024) ![0, 0] S1024x1024.size inb_S1024x1024_S1024x1024_0_0).toLoadRect (harg1.unread x0)) (View.readAt (Elt Ideal) arg2.view (Rect.unit (s := S1024x1024) ![0, 0] S1024x1024.size inb_S1024x1024_S1024x1024_0_0).toLoadRect (harg2.unread x1)) (View.readCov (Val := Elt Ideal) arg9.view [⟨Rect.unit (s := S1024x1024) ![0, 0] S1024x1024.size inb_S1024x1024_S1024x1024_0_0, (k0_pay2 (F := Ideal) (View.readAt (Elt Ideal) arg4.view (Rect.unit (s := S1x1024x1024) ![0, 0, 0] S1x1024x1024.size inb_S1x1024x1024_S1x1024x1024_0_0_0).toLoadRect (harg4.unread x3)))⟩] (Rect.unit (s := S1024x1024) ![0, 0] S1024x1024.size inb_S1024x1024_S1024x1024_0_0).toLoadRect)) (k0_pay6 (F := Ideal) (View.readAt (Elt Ideal) arg1.view (Rect.unit (s := S1024x1024) ![0, 0] S1024x1024.size inb_S1024x1024_S1024x1024_0_0).toLoadRect (harg1.unread x0)) (View.readAt (Elt Ideal) arg2.view (Rect.unit (s := S1024x1024) ![0, 0] S1024x1024.size inb_S1024x1024_S1024x1024_0_0).toLoadRect (harg2.unread x1)) (View.readCov (Val := Elt Ideal) arg9.view [⟨Rect.unit (s := S1024x1024) ![0, 0] S1024x1024.size inb_S1024x1024_S1024x1024_0_0, (k0_pay2 (F := Ideal) (View.readAt (Elt Ideal) arg4.view (Rect.unit (s := S1x1024x1024) ![0, 0, 0] S1x1024x1024.size inb_S1x1024x1024_S1x1024x1024_0_0_0).toLoadRect (harg4.unread x3)))⟩] (Rect.unit (s := S1024x1024) ![0, 0] S1024x1024.size inb_S1024x1024_S1024x1024_0_0).toLoadRect) (View.readAt (Elt Ideal) arg5.view (Rect.unit (s := S1x1x1024) ![0, 0, 0] S1x1x1024.size inb_S1x1x1024_S1x1x1024_0_0_0).toLoadRect (harg5.unread x4)) (View.readCov (Val := Elt Ideal) arg10.view [⟨Rect.unit (s := S1024x1024) ![0, 0] S1024x1024.size inb_S1024x1024_S1024x1024_0_0, (k0_pay3 (F := Ideal) (View.readAt (Elt Ideal) arg6.view (Rect.unit (s := S1x1024x1024) ![0, 0, 0] S1x1024x1024.size inb_S1x1024x1024_S1x1024x1024_0_0_0).toLoadRect (harg6.unread x5)))⟩] (Rect.unit (s := S1024x1024) ![0, 0] S1024x1024.size inb_S1024x1024_S1024x1024_0_0).toLoadRect)) (k0_pay7 (F := Ideal) (View.readAt (Elt Ideal) arg3.view (Rect.unit (s := S1024x256) ![0, 0] S1024x256.size inb_S1024x256_S1024x256_0_0).toLoadRect (harg3.unread x2))) (View.readCov (Val := Elt Ideal) arg11.view [⟨Rect.unit (s := S256x1024) ![0, 0] S256x1024.size inb_S256x1024_S256x1024_0_0, (k0_pay4 (F := Ideal) (View.readAt (Elt Ideal) arg7.view (Rect.unit (s := S1x256x1024) ![0, 0, 0] S1x256x1024.size inb_S1x256x1024_S1x256x1024_0_0_0).toLoadRect (harg7.unread x6)))⟩] (Rect.unit (s := S256x1024) ![0, 0] S256x1024.size inb_S256x1024_S256x1024_0_0).toLoadRect)⟩] := by rfl
  unfold out0_A_7
  rw [hL, View.read_writes_junk_eq_canon]
  refine (View.canon_cons_unit_lit' inb_S1024x1024_S1024x1024_0_0 _ _ (by decide)).trans ?_
  rw [reload_matb, reload_matb, reload_proj, load_mat, load_matb, load_ple, load_n, load_w, load_w, load_wp]

/-- A copy of the weights the first point leaves. -/
theorem copy_0 (hc0 : cond0_0 i) : sout0_A_0 (F := Ideal) c i arg1 harg1 arg2 harg2 arg3 harg3 arg4 harg4 arg5 harg5 arg6 harg6 arg7 harg7 arg8 harg8 arg9 harg9 arg10 harg10 arg11 harg11 hc0 x0 x1 x2 x3 x4 x5 x6 = k0_pay2 (F := Ideal) x3 := by
  have hL : (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5 x6).2.1
      = [⟨Rect.unit (s := S1024x1024) ![0, 0] S1024x1024.size inb_S1024x1024_S1024x1024_0_0, (k0_pay2 (F := Ideal) (View.readAt (Elt Ideal) arg4.view (Rect.unit (s := S1x1024x1024) ![0, 0, 0] S1x1024x1024.size inb_S1x1024x1024_S1x1024x1024_0_0_0).toLoadRect (harg4.unread x3)))⟩] := by rfl
  unfold sout0_A_0
  rw [hL, View.read_writes_junk_eq_canon]
  refine (View.canon_cons_unit_lit' inb_S1024x1024_S1024x1024_0_0 _ _ (by decide)).trans ?_
  rw [load_w]

/-- A copy of the weights the first point leaves. -/
theorem copy_1 (hc0 : cond0_0 i) : sout0_A_1 (F := Ideal) c i arg1 harg1 arg2 harg2 arg3 harg3 arg4 harg4 arg5 harg5 arg6 harg6 arg7 harg7 arg8 harg8 arg9 harg9 arg10 harg10 arg11 harg11 hc0 x0 x1 x2 x3 x4 x5 x6 = k0_pay3 (F := Ideal) x5 := by
  have hL : (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5 x6).2.2.1
      = [⟨Rect.unit (s := S1024x1024) ![0, 0] S1024x1024.size inb_S1024x1024_S1024x1024_0_0, (k0_pay3 (F := Ideal) (View.readAt (Elt Ideal) arg6.view (Rect.unit (s := S1x1024x1024) ![0, 0, 0] S1x1024x1024.size inb_S1x1024x1024_S1x1024x1024_0_0_0).toLoadRect (harg6.unread x5)))⟩] := by rfl
  unfold sout0_A_1
  rw [hL, View.read_writes_junk_eq_canon]
  refine (View.canon_cons_unit_lit' inb_S1024x1024_S1024x1024_0_0 _ _ (by decide)).trans ?_
  rw [load_w]

/-- A copy of the weights the first point leaves. -/
theorem copy_2 (hc0 : cond0_0 i) : sout0_A_2 (F := Ideal) c i arg1 harg1 arg2 harg2 arg3 harg3 arg4 harg4 arg5 harg5 arg6 harg6 arg7 harg7 arg8 harg8 arg9 harg9 arg10 harg10 arg11 harg11 hc0 x0 x1 x2 x3 x4 x5 x6 = k0_pay4 (F := Ideal) x6 := by
  have hL : (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5 x6).2.2.2.1
      = [⟨Rect.unit (s := S256x1024) ![0, 0] S256x1024.size inb_S256x1024_S256x1024_0_0, (k0_pay4 (F := Ideal) (View.readAt (Elt Ideal) arg7.view (Rect.unit (s := S1x256x1024) ![0, 0, 0] S1x256x1024.size inb_S1x256x1024_S1x256x1024_0_0_0).toLoadRect (harg7.unread x6)))⟩] := by rfl
  unfold sout0_A_2
  rw [hL, View.read_writes_junk_eq_canon]
  refine (View.canon_cons_unit_lit' inb_S256x1024_S256x1024_0_0 _ _ (by decide)).trans ?_
  rw [load_wp]

end Cert.Kernel2Ideal.Whole
end
-- ==== Proof.PleKernel.lean ====
module

public import proofs.«01_k».proof.Proof.Ple

/-! The residual layer's result array as the kernel leaves it. -/

@[expose] public section

set_option maxRecDepth 16384

noncomputable section

namespace Cert.Kernel2Ideal.Whole

open Cert.Kernel2Ideal Cert.Kernel2Ideal.Gen
open Idealize.ShloMosaic Idealize.ShloMosaic.TcCoe Idealize.ShloMosaic.Tactic Idealize.SL.Sem

variable (m : (ℓ : Loc nD τ sig) → Buf (Elt Ideal) ℓ) (c : Dev nD)

/-- The blocks the windows select. -/
theorem idx : ∀ t : Fin cfg0.N, win0_0.index t = ![t.val, 0] ∧ win0_1.index t = ![t.val, 0] ∧ win0_2.index t = ![96 + t.val, 0]
    ∧ win0_3.index t = ![1, 0, 0] ∧ win0_4.index t = ![3, 0, 0] ∧ win0_5.index t = ![3, 0, 0] ∧ win0_6.index t = ![3, 0, 0]
    ∧ win0_7.index t = ![t.val, 0] :=
  (by decide +kernel : ∀ t : Fin grid0.N, _)

/-- Row `r` of tile `T`. -/
def trow (T : ℕ) (r : Fin 1024) : Fin 32768 := Fin.ofNat 32768 (T * 1024 + r.val)

theorem trow_val (T : ℕ) (hT : T < 32) (r : Fin 1024) : (trow T r).val = T * 1024 + r.val := by
  show (T * 1024 + r.val) % 32768 = _
  exact Nat.mod_eq_of_lt (by omega)

theorem lt32 (t : Fin cfg0.N) : t.val < 32 := t.isLt

/-- A tile of the residual rows. -/
theorem blk0_at (t : Fin cfg0.N) (r e : Fin 1024) :
    iblk m c 0 t (ix2 r e) = m ((c : Thread nD τ).loc main_arg0) (ix2 (trow t.val r) e) := by
  have h := trow_val t.val (lt32 t) r
  blk_ext [iblk, V, idx t]

/-- A tile of the mixer rows. -/
theorem blk1_at (t : Fin cfg0.N) (r e : Fin 1024) :
    iblk m c 1 t (ix2 r e) = m ((c : Thread nD τ).loc main_arg1) (ix2 (trow t.val r) e) := by
  have h := trow_val t.val (lt32 t) r
  blk_ext [iblk, V, idx t]

/-- A row of the stacked embeddings. -/
theorem stack_at (x : FVec Ideal S4x32768x256 .f32) (i : Fin 131072) (r : Fin 32768) (k : Fin 256) (h : i.val = 98304 + r.val) :
    shapeCast S131072x256 x shapeCasts_S4x32768x256_S131072x256 (ix2 i k) = x (ix3 3 r k) := by
  pointwise
  have h1 : i.val / 32768 = 3 := by omega
  have h2 : i.val % 32768 = r.val := by omega
  refine congrArg x ?_
  refine congrArg₂ (fun a b => ix3 a b k) (Fin.ext ?_) (Fin.ext ?_)
  · exact h1
  · exact h2

/-- A tile of the last layer's embedding rows. -/
theorem blk2_at (t : Fin cfg0.N) (r : Fin 1024) (k : Fin 256) :
    iblk m c 2 t (ix2 r k) = m ((c : Thread nD τ).loc main_arg2) (ix3 3 (trow t.val r) k) := by
  have h := trow_val t.val (lt32 t) r
  have ht := lt32 t
  blk_simp [iblk]
  entry_read
  obtain ⟨i, hi⟩ : ∃ i : Fin 131072, i.val = 98304 + (trow t.val r).val := ⟨⟨98304 + (trow t.val r).val, by omega⟩, rfl⟩
  refine Eq.trans (congrArg (shapeCast S131072x256 (m ((c : Thread nD τ).loc main_arg2)) shapeCasts_S4x32768x256_S131072x256)
    (show _ = (ix2 i k : S131072x256.Idx) by blk_ext [idx t])) (stack_at _ i _ k hi)

/-- The projection's layer. -/
theorem blk3_at (t : Fin cfg0.N) (k e : Fin 1024) :
    iblk m c 3 t (ix3 0 k e) = m ((c : Thread nD τ).loc main_arg3) (ix3 1 k e) := by
  blk_ext [iblk, V, idx t]

/-- The norm's layer. -/
theorem blk4_at (t : Fin cfg0.N) (e : Fin 1024) :
    iblk m c 4 t (ix3 0 0 e) = m ((c : Thread nD τ).loc main_arg4) (ix2 3 e) := by
  blk_simp [iblk]
  entry_read
  refine Eq.trans (congrArg (shapeCast S4x1x1024 (m ((c : Thread nD τ).loc main_arg4)) shapeCasts_S4x1024_S4x1x1024)
    (show _ = (ix3 3 0 e : S4x1x1024.Idx) by blk_ext [idx t])) ?_
  pointwise

/-- The gate's layer. -/
theorem blk5_at (t : Fin cfg0.N) (k e : Fin 1024) :
    iblk m c 5 t (ix3 0 k e) = m ((c : Thread nD τ).loc main_arg5) (ix3 3 k e) := by
  blk_ext [iblk, V, idx t]

/-- The embedding projection's layer. -/
theorem blk6_at (t : Fin cfg0.N) (k : Fin 256) (e : Fin 1024) :
    iblk m c 6 t (ix3 0 k e) = m ((c : Thread nD τ).loc main_arg6) (ix3 3 k e) := by
  blk_ext [iblk, V, idx t]

/-- The copies of the weights every point finds are the layers' weights. -/
theorem carried : ∀ (n : ℕ) (hn : n < cfg0.N),
    (∀ k e : Fin 1024, (outsAt0 m c n hn).2.1 (ix2 k e) = m ((c : Thread nD τ).loc main_arg3) (ix3 1 k e))
    ∧ (∀ k e : Fin 1024, (outsAt0 m c n hn).2.2.1 (ix2 k e) = m ((c : Thread nD τ).loc main_arg5) (ix3 3 k e))
    ∧ (∀ (k : Fin 256) (e : Fin 1024), (outsAt0 m c n hn).2.2.2 (ix2 k e) = m ((c : Thread nD τ).loc main_arg6) (ix3 3 k e)) := by
  intro n
  induction n with
  | zero =>
    intro hn
    have h := outsAt0_A m c ⟨0, hn⟩ rfl
    dsimp only at h
    rw [h]
    dsimp only
    rw [copy_0, copy_1, copy_2]
    exact ⟨fun k e => (pay2_at _ k e).trans (blk3_at m c _ k e), fun k e => (pay3_at _ k e).trans (blk5_at m c _ k e),
      fun k e => (pay4_at _ k e).trans (blk6_at m c _ k e)⟩
  | succ n ih =>
    intro hn
    have hl : n + 1 < 32 := hn
    have h := outsAt0_B m c ⟨n + 1, hn⟩ (by dsimp only; omega)
    dsimp only at h
    rw [h]
    exact ih (Nat.lt_of_succ_lt hn)

/-- The row of the result at the arguments. -/
def resultRow (r : Fin 32768) (e : Fin 1024) : EReal :=
  Ple.out (fun e => m ((c : Thread nD τ).loc main_arg0) (ix2 r e)) (fun k => m ((c : Thread nD τ).loc main_arg1) (ix2 r k))
    (fun e => m ((c : Thread nD τ).loc main_arg4) (ix2 (3 : Fin 4) e)) (fun k => m ((c : Thread nD τ).loc main_arg2) (ix3 (3 : Fin 4) r k))
    (fun k e => m ((c : Thread nD τ).loc main_arg3) (ix3 (1 : Fin 2) k e)) (fun k e => m ((c : Thread nD τ).loc main_arg5) (ix3 (3 : Fin 4) k e))
    (fun k e => m ((c : Thread nD τ).loc main_arg6) (ix3 (3 : Fin 4) k e)) e

/-- What a point writes back. -/
theorem written (t : Fin cfg0.N) (r e : Fin 1024) : (outsAt0 m c t.val t.isLt).1 (ix2 r e) = resultRow m c (trow t.val r) e := by
  unfold resultRow
  simp only [← blk0_at, ← blk1_at, ← blk2_at, ← blk4_at m c t]
  have ht := lt32 t
  by_cases h0 : t.val % 32 = 0
  · rw [congrArg Prod.fst (outsAt0_A m c t h0)]
    dsimp only
    rw [out_A, stored_at]
    simp only [pay2_at, pay3_at, pay4_at, blk3_at, blk5_at, blk6_at]
  · rw [congrArg Prod.fst (outsAt0_B m c t h0)]
    dsimp only
    obtain ⟨h1, h2, h3⟩ := carried m c (t.val - 1) (Nat.lt_of_le_of_lt (Nat.sub_le _ _) t.isLt)
    rw [out_B, stored_at]
    simp only [h1, h2, h3]

/-- The kernel's result array. -/
theorem final : (dats m 0 c).arrAt 7 cfg0.N = fun i : S32768x1024.Idx => resultRow m c (i 0) (i 1) := by
  refine (dats m 0 c).arrAt_eq_of_covers 7 _ (by decide +kernel) fun t hf y => ?_
  blk_simp
  rw [after0_7]
  have ht := lt32 t
  revert y
  intro (y : S1024x1024.Idx)
  obtain ⟨r, e, rfl⟩ : ∃ (r e : Fin 1024), y = ix2 r e := ⟨y 0, y 1, ValueIdx.eq_ix2 y⟩
  rw [written m c t r e]
  have he : (win0_7.blk t).view.emb (ix2 r e) = (ix2 (trow t.val r) e : S32768x1024.Idx) := by
    have h' := trow_val t.val ht r
    blk_ext [idx t]
  rw [he]
  rfl

end Cert.Kernel2Ideal.Whole
end
-- ==== Proof.PleRef.lean ====
module

public import proofs.«01_k».proof.Proof.Ple
public import proofs.«01_k».proof.Proof.Gen.Reference2Ideal.Run
public import Idealize.ShloMosaic.Lib.IdealHost

/-! The reference's result of the residual layer, entry by entry. -/

@[expose] public section

set_option maxRecDepth 16384

noncomputable section

namespace Cert.Reference2Ideal.Whole

open Cert.Reference2Ideal Cert.Reference2Ideal.Gen
open Idealize.ShloMosaic Idealize.ShloMosaic.TcCoe Idealize.ShloMosaic.Tactic Idealize.SL.Sem

variable (x : FVec Ideal S32768x1024 .f32) (y : FVec Ideal S32768x1024 .bf16) (p : FVec Ideal S4x32768x256 .f32)
  (w : FVec Ideal S2x1024x1024 .f32) (n : FVec Ideal S4x1024 .f32) (wg : FVec Ideal S4x1024x1024 .f32) (wp : FVec Ideal S4x256x1024 .f32)

/-- The residual rows with the projected mixer rows, as the reference writes them. -/
def mixed : FVec Ideal S32768x1024 .f32 :=
  addf x (Host.dotGeneral dot_S32768x1024_S1024x1024_S32768x1024_1_0_0_1_n_n none (extf .f32 y bitsLt_bf16_f32) (shapeCast _ (extractStridedSlice S1x1024x1024 ![1, 0, 0] w slices_S2x1024x1024_S1x1024x1024_1_0_0) shapeCasts_S1x1024x1024_S1024x1024))

/-- Its entries. -/
theorem mixed_at (r : Fin 32768) (e : Fin 1024) : mixed x y w (ix2 r e)
    = Ple.mixed (fun e => x (ix2 r e)) (fun k => y (ix2 r k)) (fun k e => w (ix3 1 k e)) e := by
  pointwise [mixed]
  rfl

/-- The normed rows. -/
def normed (h : FVec Ideal S32768x1024 .f32) : FVec Ideal S32768x1024 .f32 :=
  mulf (mulf h (broadcastInDim S32768x1024 ![0, 1] bcast_S32768x1_S32768x1024_0_1 (Host.rsqrt (addf (Host.divf (broadcastInDim S32768x1 ![0] bcast_S32768_S32768x1_0 (Host.reduceAdd (mulf h h) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ (extractStridedSlice S1x1024 ![3, 0] n slices_S4x1024_S1x1024_3_0) shapeCasts_S1x1024_S1024)))

/-- Their entries. -/
theorem normed_at (h : FVec Ideal S32768x1024 .f32) (r : Fin 32768) (e : Fin 1024) : normed n h (ix2 r e)
    = Ple.normed (fun e => h (ix2 r e)) (fun e => n (ix2 3 e)) e := by
  pointwise [normed]
  rfl

/-- The gate. -/
def gate (h : FVec Ideal S32768x1024 .f32) : FVec Ideal S32768x1024 .f32 :=
  Host.divf (broadcastInDim S32768x1024 ![] bcast_S_S32768x1024 (constant S_ .f32 0x3F800000#32)) (addf (broadcastInDim S32768x1024 ![] bcast_S_S32768x1024 (constant S_ .f32 0x3F800000#32)) (Host.exp (Host.negf (Host.dotGeneral dot_S32768x1024_S1024x1024_S32768x1024_1_0_0_1_n_n none h (shapeCast _ (extractStridedSlice S1x1024x1024 ![3, 0, 0] wg slices_S4x1024x1024_S1x1024x1024_3_0_0) shapeCasts_S1x1024x1024_S1024x1024)))))

/-- Its entries. -/
theorem gate_at (h : FVec Ideal S32768x1024 .f32) (r : Fin 32768) (e : Fin 1024) : gate wg h (ix2 r e)
    = Ple.sigm (∑ k : Fin 1024, h (ix2 r k) * wg (ix3 3 k e)) := by
  pointwise [gate]
  rfl

/-- The projected embedding rows. -/
def ple : FVec Ideal S32768x1024 .f32 :=
  Host.dotGeneral dot_S32768x256_S256x1024_S32768x1024_1_0_0_1_n_n none (shapeCast _ (extractStridedSlice S1x32768x256 ![3, 0, 0] p slices_S4x32768x256_S1x32768x256_3_0_0) shapeCasts_S1x32768x256_S32768x256) (shapeCast _ (extractStridedSlice S1x256x1024 ![3, 0, 0] wp slices_S4x256x1024_S1x256x1024_3_0_0) shapeCasts_S1x256x1024_S256x1024)

/-- Their entries. -/
theorem ple_at (r : Fin 32768) (e : Fin 1024) : ple p wp (ix2 r e) = ∑ k : Fin 256, p (ix3 3 r k) * wp (ix3 3 k e) := by
  pointwise [ple]

/-- The reference's result. -/
def result : FVec Ideal S32768x1024 .f32 := addf (mixed x y w) (mulf (gate wg (normed n (mixed x y w))) (ple p wp))

/-- Its entries: the rows of the residual layer's output. -/
theorem result_at (r : Fin 32768) (e : Fin 1024) : result x y p w n wg wp (ix2 r e)
    = Ple.out (fun e => x (ix2 r e)) (fun k => y (ix2 r k)) (fun e => n (ix2 3 e)) (fun k => p (ix3 3 r k))
      (fun k e => w (ix3 1 k e)) (fun k e => wg (ix3 3 k e)) (fun k e => wp (ix3 3 k e)) e := by
  show mixed x y w (ix2 r e) + gate wg (normed n (mixed x y w)) (ix2 r e) * ple p wp (ix2 r e) = _
  rw [gate_at, ple_at, mixed_at]
  simp only [normed_at, mixed_at]
  rfl

variable (m : (ℓ : Loc nD τ sig) → Buf (Elt Ideal) ℓ) (ρ : Dev nD → PrngReg)

/-- Every execution of the reference ends with its result at that array, its arguments unchanged, and every counter at zero. -/
theorem run : θ_run (defs (F := Ideal)) (onTc (τ := τ) (main (F := Ideal))) ⟨m, fun _ => 0, ρ⟩ (fun r => (∀ c : Dev nD,
      r.2.mem ((c.tc : Thread nD τ).loc main_v35) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c => ⟨(h c).1.trans rfl, (h c).2⟩, sem_eq_zero_of_no_sems (by decide) r.2⟩)
    (Cert.Reference2Ideal.Value.run (F := Ideal) m ρ)

end Cert.Reference2Ideal.Whole
end
-- ==== Proof.PleClaims.lean ====
/- The claims of the residual layer's output: the frames of its three programs, the one named constant, and the kernel's result as
   the reference's. -/
module

public import proofs.«01_k».proof.Defs
public import proofs.«01_k».proof.Proof.Gen.Kernel2.Frame
public import proofs.«01_k».proof.Proof.Gen.Kernel2Ideal.Frame
public import proofs.«01_k».proof.Proof.PleKernel
public import proofs.«01_k».proof.Proof.PleRef

@[expose] public section

set_option maxRecDepth 16384

noncomputable section

namespace Cert.Proof

open Idealize.ShloMosaic Idealize.ShloMosaic.StableHlo Idealize.SL.Sem

/-- The reference of the residual layer's output runs to an end with its arguments unchanged and every counter at zero. -/
theorem frame_reference2 : Cert.quiescent_Reference2Ideal (hReference2Ideal := Cert.Reference2Ideal.Gen.facts) := fun m ρ _ =>
  (θ_run _ _ _).mono (fun _ h => ⟨fun c => (h.1 c).2, h.2⟩) (Cert.Reference2Ideal.Whole.run m ρ)

/-- The one named constant's word is the rounding of -1/log 2. -/
theorem preserves2 : Cert.preserves_Kernel2_Kernel2Ideal :=
  IdealRules.named_const.statement Cert.Kernel2Ideal.κ "neg_log2_e" .f32 0xBFB8AA3B#32 ((-((Real.log 2)⁻¹) : ℝ) : EReal) rfl

/-- The kernel and the reference leave the same array, at every argument. -/
theorem algebraic2 : Cert.algebraic_Kernel2Ideal_Reference2Ideal (hKernel2Ideal := Cert.Kernel2Ideal.Gen.facts)
    (hReference2Ideal := Cert.Reference2Ideal.Gen.facts) := by
  intro m ρ m' ρ' _ hagree
  refine ⟨_, (θ_run _ _ _).mono (fun _ h => h) (Cert.Kernel2Ideal.Value.run_blocks (F := Ideal) m ρ), ?_⟩
  refine (θ_run _ _ _).mono (fun _ h c => ⟨(h.1 c).1.trans ?_, (h.1 c).2⟩) (Cert.Reference2Ideal.Whole.run m' ρ')
  obtain ⟨a0, a1, a2, a3, a4, a5, a6⟩ := hagree c
  rw [a0, a1, a2, a3, a4, a5, a6]
  refine Eq.trans ?_ (Cert.Kernel2Ideal.Whole.final m c).symm
  funext i
  obtain ⟨r, e, rfl⟩ : ∃ (r : Fin 32768) (e : Fin 1024), i = ix2 r e := ⟨i 0, i 1, ValueIdx.eq_ix2 i⟩
  exact Cert.Reference2Ideal.Whole.result_at _ _ _ _ _ _ _ r e

end Cert.Proof

end
-- ==== Proof.Conv.lean ====
module

public import proofs.«01_k».proof.Proof.Ple
public import proofs.«01_k».proof.Proof.Gen.Kernel3Ideal.Value

/-! The input projection of a gated delta rule layer over the extended reals, and what the terms of its body read as. -/

@[expose] public section

set_option maxRecDepth 16384

noncomputable section

namespace Conv

open Idealize.ShloMosaic

/-- The product of an entry with its logistic function. -/
def silu (a : EReal) : EReal := a * Ple.sigm a

/-- A head's row divided by the root of its square sum, scaled. -/
def l2 (s : EReal) (y : Fin 128 → EReal) (e : Fin 128) : EReal :=
  y e * (Ideal.rsqrt ((∑ k, y k * y k) + Ideal.ofBits .f32 0x358637BD#32) * s)

/-- A head's row divided by the root of its square sum. -/
def unit (y : Fin 128 → EReal) (e : Fin 128) : EReal :=
  y e * Ideal.rsqrt ((∑ k, y k * y k) + Ideal.ofBits .f32 0x358637BD#32)

/-- The activated window sum: the newest row first. -/
def act (d c3 b0 c0 b1 c1 b2 c2 : EReal) : EReal := silu (d * c3 + b0 * c0 + b1 * c1 + b2 * c2)

/-- The soft ramp. -/
def ramp (z : EReal) : EReal := max z 0 + Ideal.log1p (Ideal.exp (0 - max z (-z)))

/-- A log decay. -/
def decay (a z : EReal) : EReal := (0 - Ideal.exp a) * ramp z

/-- Column `j` of head `h`. -/
def hcol (h : Fin 8) (j : Fin 128) : Fin 1024 := ⟨h.val * 128 + j.val, by omega⟩

theorem hcol_zero (j : Fin 128) : (⟨j.val, by omega⟩ : Fin 1024) = hcol 0 j := Fin.ext (by show j.val = 0 * 128 + j.val; omega)

/-- Column `e` of section `s`. -/
def sec (s : Fin 3) (e : Fin 1024) : Fin 3072 := ⟨s.val * 1024 + e.val, by omega⟩

theorem hcol_cases (e : Fin 1024) : ∃ (h : Fin 8) (j : Fin 128), e = hcol h j :=
  ⟨⟨e.val / 128, by omega⟩, ⟨e.val % 128, by omega⟩, Fin.ext (by show e.val = e.val / 128 * 128 + e.val % 128; omega)⟩

theorem sec_cases (e : Fin 3072) : ∃ (s : Fin 3) (j : Fin 1024), e = sec s j :=
  ⟨⟨e.val / 1024, by omega⟩, ⟨e.val % 1024, by omega⟩, Fin.ext (by show e.val = e.val / 1024 * 1024 + e.val % 1024; omega)⟩

end Conv

namespace Cert.Kernel3Ideal.Whole

open Cert.Kernel3Ideal Cert.Kernel3Ideal.Gen
open Idealize.ShloMosaic Idealize.ShloMosaic.TcCoe Idealize.ShloMosaic.Tactic Idealize.SL.Sem
open Conv

/-- Two to the power of a multiple of the named constant is the exponential of the negation. -/
theorem exp2_named (z : EReal) : Ideal.exp2 (z * Named.named (F := Ideal) (φ := .f32) κ "neg_log2_e" 0xBFB8AA3B#32) = Ideal.exp (-z) :=
  Cert.Kernel2Ideal.Whole.exp2_named z

variable (v5 : FVec Ideal S512x1024 .f32) (v6 : FVec Ideal S1x1024 .f32) (n : FVec Ideal S512x1024 .bf16) (w : FVec Ideal S1024x1024 .bf16)
  (c0 c1 c2 c3 : FVec Ideal S1x1024 .f32) (d b0 b1 b2 a : FVec Ideal S512x1024 .f32)

/-- The normed rows. -/
theorem pay23_at (r : Fin 512) (e : Fin 1024) : k0_pay23 (F := Ideal) v5 v6 (ix2 r e)
    = Ple.normed (fun e => v5 (ix2 r e)) (fun e => v6 (ix2 0 e)) e := by
  pointwise [k0_pay23]
  rfl

/-- The gate's rows. -/
theorem pay24_at (r : Fin 512) (e : Fin 1024) : k0_pay24 (F := Ideal) v5 v6 w (ix2 r e)
    = ∑ k : Fin 1024, k0_pay23 (F := Ideal) v5 v6 (ix2 r k) * w (ix2 k e) := by
  pointwise [k0_pay24]

/-- The narrow product. -/
theorem pay25_at (v24 : FVec Ideal S1024x128 .bf16) (r : Fin 512) (e : Fin 128) : k0_pay25 (F := Ideal) v5 v6 v24 (ix2 r e)
    = ∑ k : Fin 1024, k0_pay23 (F := Ideal) v5 v6 (ix2 r k) * v24 (ix2 k e) := by
  pointwise [k0_pay25]

/-- The step sizes. -/
theorem pay26_at (v24 : FVec Ideal S1024x128 .bf16) (r : Fin 512) (e : Fin 8) : k0_pay26 (F := Ideal) v5 v6 v24 (ix2 r e)
    = Ple.sigm (k0_pay25 (F := Ideal) v5 v6 v24 (ix2 r ⟨e.val, by omega⟩)) := by
  pointwise [k0_pay26]
  exact congrArg (fun z => Ideal.div 1 (1 + z)) (exp2_named _)

/-- The log decays. -/
theorem pay27_at (v25 : FVec Ideal S512x128 .f32) (v35 v41 : FVec Ideal S1x8 .f32) (r : Fin 512) (e : Fin 8) :
    k0_pay27 (F := Ideal) v25 v35 v41 (ix2 r e)
    = decay (v35 (ix2 0 e)) (v25 (ix2 r ⟨8 + e.val, by omega⟩) + v41 (ix2 0 e)) := by
  pointwise [k0_pay27]
  rfl

/-- The log decays as rows. -/
theorem pay33_at (v20 : FVec Ideal S512x1024 .bf16) (v56 : FVec Ideal S16x1024 .bf16) (v58 v64 : FVec Ideal S8x1 .f32) (e : Fin 8) (r : Fin 512) :
    k0_pay33 (F := Ideal) (k0_pay28 (F := Ideal) v58) (k0_pay30 (F := Ideal) v20 v56 v64) (k0_pay31 (F := Ideal) v20 v56 v64) (k0_pay32 (F := Ideal)) (ix2 e r)
    = decay (v58 (ix2 e 0)) ((∑ k : Fin 1024, v56 (ix2 ⟨8 + e.val, by omega⟩ k) * v20 (ix2 r k)) + v64 (ix2 e 0)) := by
  pointwise [k0_pay33, k0_pay28, k0_pay30, k0_pay31, k0_pay32, k0_pay29]
  rfl

/-- A section's product. -/
theorem pay36_at (r : Fin 512) (e : Fin 1024) : k0_pay36 (F := Ideal) n w (ix2 r e) = ∑ k : Fin 1024, n (ix2 r k) * w (ix2 k e) := by
  pointwise [k0_pay36, k0_pay35]
theorem pay54_at (r : Fin 512) (e : Fin 1024) : k0_pay54 (F := Ideal) n w (ix2 r e) = ∑ k : Fin 1024, n (ix2 r k) * w (ix2 k e) := by
  pointwise [k0_pay54, k0_pay53]
theorem pay70_at (r : Fin 512) (e : Fin 1024) : k0_pay70 (F := Ideal) n w (ix2 r e) = ∑ k : Fin 1024, n (ix2 r k) * w (ix2 k e) := by
  pointwise [k0_pay70, k0_pay69]

theorem pay1_at (v : FVec Ideal S8x1024 .f32) (r : Fin 8) (e : Fin 1024) : k0_pay1 (F := Ideal) v (ix2 r e) = v (ix2 r e) := by
  pointwise [k0_pay1]
theorem pay39_at (v : FVec Ideal S8x1024 .f32) (r : Fin 8) (e : Fin 1024) : k0_pay39 (F := Ideal) v (ix2 r e) = v (ix2 r e) := by
  pointwise [k0_pay39]
theorem pay55_at (v : FVec Ideal S8x1024 .f32) (r : Fin 8) (e : Fin 1024) : k0_pay55 (F := Ideal) v (ix2 r e) = v (ix2 r e) := by
  pointwise [k0_pay55]
theorem pay34_at (r : Fin 8) (e : Fin 3072) : k0_pay34 (F := Ideal) (ix2 r e) = 0 := by
  pointwise [k0_pay34]

/-- The activated window sum of the first section. -/
theorem act_q (r : Fin 512) (e : Fin 1024) :
    k0_pay40 (F := Ideal) (k0_pay37 (F := Ideal) n w c3 b0 c0 b1 c1) b2 (k0_pay38 (F := Ideal) c2) (ix2 r e)
    = act (∑ k : Fin 1024, n (ix2 r k) * w (ix2 k e)) (c3 (ix2 0 e)) (b0 (ix2 r e)) (c0 (ix2 0 e)) (b1 (ix2 r e)) (c1 (ix2 0 e)) (b2 (ix2 r e)) (c2 (ix2 0 e)) := by
  pointwise [k0_pay40, k0_pay37, k0_pay38, k0_pay35]
  exact congrArg (fun z => _ * Ideal.div 1 (1 + z)) (exp2_named _)

/-- The activated window sum of the second section. -/
theorem act_k (r : Fin 512) (e : Fin 1024) :
    k0_pay56 (F := Ideal) (k0_pay53 (F := Ideal) n w) c3 b0 c0 b1 c1 b2 c2 (ix2 r e)
    = act (∑ k : Fin 1024, n (ix2 r k) * w (ix2 k e)) (c3 (ix2 0 e)) (b0 (ix2 r e)) (c0 (ix2 0 e)) (b1 (ix2 r e)) (c1 (ix2 0 e)) (b2 (ix2 r e)) (c2 (ix2 0 e)) := by
  pointwise [k0_pay56, k0_pay53]
  exact congrArg (fun z => _ * Ideal.div 1 (1 + z)) (exp2_named _)

/-- The activated window sum of the third section. -/
theorem act_v (r : Fin 512) (e : Fin 1024) :
    k0_pay2 (F := Ideal) (k0_pay71 (F := Ideal) n w c3 b0 c0 b1 c1) b2 c2 (ix2 r e)
    = act (∑ k : Fin 1024, n (ix2 r k) * w (ix2 k e)) (c3 (ix2 0 e)) (b0 (ix2 r e)) (c0 (ix2 0 e)) (b1 (ix2 r e)) (c1 (ix2 0 e)) (b2 (ix2 r e)) (c2 (ix2 0 e)) := by
  pointwise [k0_pay2, k0_pay71, k0_pay69]
  exact congrArg (fun z => _ * Ideal.div 1 (1 + z)) (exp2_named _)

/-- The queries' scale, the root of 1/128 as the program has it. -/
abbrev qs : EReal := Ideal.ofBits .f32 0x3DB504F3#32

/-! The eight heads of the queries and of the keys. -/

theorem head_q0 (v102 v103 : FVec Ideal S512x1024 .f32) (v105 : FVec Ideal S1x1024 .f32) (r : Fin 512) (j : Fin 128) : k0_pay41 (F := Ideal) v102 v103 v105 (ix2 r j)
    = l2 qs (fun k => (k0_pay40 (F := Ideal) v102 v103 v105) (ix2 r (hcol 0 k))) j := by
  pointwise [k0_pay41]
  simp only [hcol_zero]
  rfl

theorem head_q1 (v102 v103 : FVec Ideal S512x1024 .f32) (v105 : FVec Ideal S1x1024 .f32) (r : Fin 512) (j : Fin 128) : k0_pay42 (F := Ideal) v102 v103 v105 (ix2 r j)
    = l2 qs (fun k => (k0_pay40 (F := Ideal) v102 v103 v105) (ix2 r (hcol 1 k))) j := by
  pointwise [k0_pay42]
  rfl

theorem head_q2 (v102 v103 : FVec Ideal S512x1024 .f32) (v105 : FVec Ideal S1x1024 .f32) (r : Fin 512) (j : Fin 128) : k0_pay44 (F := Ideal) (k0_pay43 (F := Ideal) v102 v103 v105) (ix2 r j)
    = l2 qs (fun k => (k0_pay40 (F := Ideal) v102 v103 v105) (ix2 r (hcol 2 k))) j := by
  pointwise [k0_pay44, k0_pay43]
  rfl

theorem head_q3  (r : Fin 512) (j : Fin 128) : k0_pay45 (F := Ideal) a (ix2 r j)
    = l2 qs (fun k => a (ix2 r (hcol 3 k))) j := by
  pointwise [k0_pay45]
  rfl

theorem head_q4  (r : Fin 512) (j : Fin 128) : k0_pay46 (F := Ideal) a (ix2 r j)
    = l2 qs (fun k => a (ix2 r (hcol 4 k))) j := by
  pointwise [k0_pay46]
  rfl

theorem head_q5  (r : Fin 512) (j : Fin 128) : k0_pay50 (F := Ideal) (k0_pay47 (F := Ideal) a) (k0_pay48 (F := Ideal) a) (k0_pay49 (F := Ideal)) (ix2 r j)
    = l2 qs (fun k => a (ix2 r (hcol 5 k))) j := by
  pointwise [k0_pay50, k0_pay47, k0_pay48, k0_pay49]
  rfl

theorem head_q6  (r : Fin 512) (j : Fin 128) : k0_pay51 (F := Ideal) a (ix2 r j)
    = l2 qs (fun k => a (ix2 r (hcol 6 k))) j := by
  pointwise [k0_pay51]
  rfl

theorem head_q7  (r : Fin 512) (j : Fin 128) : k0_pay52 (F := Ideal) a (ix2 r j)
    = l2 qs (fun k => a (ix2 r (hcol 7 k))) j := by
  pointwise [k0_pay52]
  rfl

theorem head_k0  (r : Fin 512) (j : Fin 128) : k0_pay59 (F := Ideal) (k0_pay57 (F := Ideal) d c3 b0 c0 b1 c1 b2 c2) (k0_pay58 (F := Ideal) d c3 b0 c0 b1 c1 b2 c2) (FloatOps.ofBits FTy.f32 897988541#32) (ix2 r j)
    = unit (fun k => (k0_pay56 (F := Ideal) d c3 b0 c0 b1 c1 b2 c2) (ix2 r (hcol 0 k))) j := by
  pointwise [k0_pay59, k0_pay57, k0_pay58]
  simp only [hcol_zero]
  rfl

theorem head_k1  (r : Fin 512) (j : Fin 128) : k0_pay60 (F := Ideal) a (ix2 r j)
    = unit (fun k => a (ix2 r (hcol 1 k))) j := by
  pointwise [k0_pay60]
  rfl

theorem head_k2  (r : Fin 512) (j : Fin 128) : k0_pay61 (F := Ideal) a (ix2 r j)
    = unit (fun k => a (ix2 r (hcol 2 k))) j := by
  pointwise [k0_pay61]
  rfl

theorem head_k3  (r : Fin 512) (j : Fin 128) : k0_pay64 (F := Ideal) (k0_pay62 (F := Ideal) a) (k0_pay63 (F := Ideal) a) (ix2 r j)
    = unit (fun k => a (ix2 r (hcol 3 k))) j := by
  pointwise [k0_pay64, k0_pay62, k0_pay63]
  rfl

theorem head_k4  (r : Fin 512) (j : Fin 128) : k0_pay65 (F := Ideal) a (ix2 r j)
    = unit (fun k => a (ix2 r (hcol 4 k))) j := by
  pointwise [k0_pay65]
  rfl

theorem head_k5  (r : Fin 512) (j : Fin 128) : k0_pay66 (F := Ideal) a (ix2 r j)
    = unit (fun k => a (ix2 r (hcol 5 k))) j := by
  pointwise [k0_pay66]
  rfl

theorem head_k6  (r : Fin 512) (j : Fin 128) : k0_pay67 (F := Ideal) a (ix2 r j)
    = unit (fun k => a (ix2 r (hcol 6 k))) j := by
  pointwise [k0_pay67]
  rfl

theorem head_k7  (r : Fin 512) (j : Fin 128) : k0_pay68 (F := Ideal) a (ix2 r j)
    = unit (fun k => a (ix2 r (hcol 7 k))) j := by
  pointwise [k0_pay68]
  rfl

end Cert.Kernel3Ideal.Whole
end
-- ==== Proof.ConvRun.lean ====
module

public import proofs.«01_k».proof.Proof.Conv
public import Idealize.ShloMosaic.Lib.WritesUnit

/-! What the buffers of the input projection's body hold, piece by piece. -/

@[expose] public section

set_option maxRecDepth 16384

noncomputable section

namespace Cert.Kernel3Ideal.Whole

open Cert.Kernel3Ideal Cert.Kernel3Ideal.Gen
open Idealize.ShloMosaic Idealize.ShloMosaic.TcCoe Idealize.ShloMosaic.Tactic Idealize.SL.Sem
open Conv

/-- A head's piece, read at one of its columns. -/
theorem piece_head {f : (Fin 128 → EReal) → Fin 128 → EReal} {a : FVec Ideal S512x1024 .f32} {P : FVec Ideal S512x128 .f32} (H : Fin 8)
    (hP : ∀ (r : Fin 512) (j : Fin 128), P (ix2 r j) = f (fun k => a (ix2 r (hcol H k))) j)
    (r : Fin 512) (h : Fin 8) (j : Fin 128) (x : S512x128.Idx) (h0 : r.val = (x 0).val) (h1 : h.val * 128 + j.val = H.val * 128 + (x 1).val) :
    P x = f (fun k => a (ix2 r (hcol h k))) j := by
  obtain ⟨r', j', rfl⟩ : ∃ (r' : Fin 512) (j' : Fin 128), x = ix2 r' j' := ⟨x 0, x 1, ValueIdx.eq_ix2 x⟩
  have e0 : r = r' := Fin.ext h0
  have h1' : h.val * 128 + j.val = H.val * 128 + j'.val := h1
  have e1 : h = H := Fin.ext (by omega)
  have e2 : j = j' := Fin.ext (by omega)
  rw [hP, e0, e1, e2]

/-- The eight heads' pieces together. -/
theorem heads_q (v102 v103 : FVec Ideal S512x1024 .f32) (v105 : FVec Ideal S1x1024 .f32) (r : Fin 512) (h : Fin 8) (j : Fin 128) :
    View.canon (Val := Elt Ideal) (e := .f32) [⟨Rect.unit (s := S512x1024) ![0, 896] S512x128.size inb_S512x1024_S512x128_0_896, k0_pay52 (F := Ideal) (k0_pay40 (F := Ideal) v102 v103 v105)⟩, ⟨Rect.unit (s := S512x1024) ![0, 768] S512x128.size inb_S512x1024_S512x128_0_768, k0_pay51 (F := Ideal) (k0_pay40 (F := Ideal) v102 v103 v105)⟩, ⟨Rect.unit (s := S512x1024) ![0, 640] S512x128.size inb_S512x1024_S512x128_0_640, k0_pay50 (F := Ideal) (k0_pay47 (F := Ideal) (k0_pay40 (F := Ideal) v102 v103 v105)) (k0_pay48 (F := Ideal) (k0_pay40 (F := Ideal) v102 v103 v105)) (k0_pay49 (F := Ideal))⟩, ⟨Rect.unit (s := S512x1024) ![0, 512] S512x128.size inb_S512x1024_S512x128_0_512, k0_pay46 (F := Ideal) (k0_pay40 (F := Ideal) v102 v103 v105)⟩, ⟨Rect.unit (s := S512x1024) ![0, 384] S512x128.size inb_S512x1024_S512x128_0_384, k0_pay45 (F := Ideal) (k0_pay40 (F := Ideal) v102 v103 v105)⟩, ⟨Rect.unit (s := S512x1024) ![0, 256] S512x128.size inb_S512x1024_S512x128_0_256, k0_pay44 (F := Ideal) (k0_pay43 (F := Ideal) v102 v103 v105)⟩, ⟨Rect.unit (s := S512x1024) ![0, 128] S512x128.size inb_S512x1024_S512x128_0_128, k0_pay42 (F := Ideal) v102 v103 v105⟩, ⟨Rect.unit (s := S512x1024) ![0, 0] S512x128.size inb_S512x1024_S512x128_0_0, k0_pay41 (F := Ideal) v102 v103 v105⟩] (ix2 r (hcol h j))
    = (l2 qs) (fun k => (k0_pay40 (F := Ideal) v102 v103 v105) (ix2 r (hcol h k))) j := by
  canon_tiles x hx
  case piece0 => exact piece_head (f := (l2 qs)) (a := (k0_pay40 (F := Ideal) v102 v103 v105)) 7 (fun r j => head_q7 _ r j) r h j x (hx0.trans (by omega)) (hx1.trans (by omega))
  case piece1 => exact piece_head (f := (l2 qs)) (a := (k0_pay40 (F := Ideal) v102 v103 v105)) 6 (fun r j => head_q6 _ r j) r h j x (hx0.trans (by omega)) (hx1.trans (by omega))
  case piece2 => exact piece_head (f := (l2 qs)) (a := (k0_pay40 (F := Ideal) v102 v103 v105)) 5 (fun r j => head_q5 _ r j) r h j x (hx0.trans (by omega)) (hx1.trans (by omega))
  case piece3 => exact piece_head (f := (l2 qs)) (a := (k0_pay40 (F := Ideal) v102 v103 v105)) 4 (fun r j => head_q4 _ r j) r h j x (hx0.trans (by omega)) (hx1.trans (by omega))
  case piece4 => exact piece_head (f := (l2 qs)) (a := (k0_pay40 (F := Ideal) v102 v103 v105)) 3 (fun r j => head_q3 _ r j) r h j x (hx0.trans (by omega)) (hx1.trans (by omega))
  case piece5 => exact piece_head (f := (l2 qs)) (a := (k0_pay40 (F := Ideal) v102 v103 v105)) 2 (fun r j => head_q2 _ _ _ r j) r h j x (hx0.trans (by omega)) (hx1.trans (by omega))
  case piece6 => exact piece_head (f := (l2 qs)) (a := (k0_pay40 (F := Ideal) v102 v103 v105)) 1 (fun r j => head_q1 _ _ _ r j) r h j x (hx0.trans (by omega)) (hx1.trans (by omega))
  case piece7 => exact piece_head (f := (l2 qs)) (a := (k0_pay40 (F := Ideal) v102 v103 v105)) 0 (fun r j => head_q0 _ _ _ r j) r h j x (hx0.trans (by omega)) (hx1.trans (by omega))

/-- The eight heads' pieces together. -/
theorem heads_k (d b0 b1 b2 : FVec Ideal S512x1024 .f32) (c0 c1 c2 c3 : FVec Ideal S1x1024 .f32) (r : Fin 512) (h : Fin 8) (j : Fin 128) :
    View.canon (Val := Elt Ideal) (e := .f32) [⟨Rect.unit (s := S512x1024) ![0, 896] S512x128.size inb_S512x1024_S512x128_0_896, k0_pay68 (F := Ideal) (k0_pay56 (F := Ideal) d c3 b0 c0 b1 c1 b2 c2)⟩, ⟨Rect.unit (s := S512x1024) ![0, 768] S512x128.size inb_S512x1024_S512x128_0_768, k0_pay67 (F := Ideal) (k0_pay56 (F := Ideal) d c3 b0 c0 b1 c1 b2 c2)⟩, ⟨Rect.unit (s := S512x1024) ![0, 640] S512x128.size inb_S512x1024_S512x128_0_640, k0_pay66 (F := Ideal) (k0_pay56 (F := Ideal) d c3 b0 c0 b1 c1 b2 c2)⟩, ⟨Rect.unit (s := S512x1024) ![0, 512] S512x128.size inb_S512x1024_S512x128_0_512, k0_pay65 (F := Ideal) (k0_pay56 (F := Ideal) d c3 b0 c0 b1 c1 b2 c2)⟩, ⟨Rect.unit (s := S512x1024) ![0, 384] S512x128.size inb_S512x1024_S512x128_0_384, k0_pay64 (F := Ideal) (k0_pay62 (F := Ideal) (k0_pay56 (F := Ideal) d c3 b0 c0 b1 c1 b2 c2)) (k0_pay63 (F := Ideal) (k0_pay56 (F := Ideal) d c3 b0 c0 b1 c1 b2 c2))⟩, ⟨Rect.unit (s := S512x1024) ![0, 256] S512x128.size inb_S512x1024_S512x128_0_256, k0_pay61 (F := Ideal) (k0_pay56 (F := Ideal) d c3 b0 c0 b1 c1 b2 c2)⟩, ⟨Rect.unit (s := S512x1024) ![0, 128] S512x128.size inb_S512x1024_S512x128_0_128, k0_pay60 (F := Ideal) (k0_pay56 (F := Ideal) d c3 b0 c0 b1 c1 b2 c2)⟩, ⟨Rect.unit (s := S512x1024) ![0, 0] S512x128.size inb_S512x1024_S512x128_0_0, k0_pay59 (F := Ideal) (k0_pay57 (F := Ideal) d c3 b0 c0 b1 c1 b2 c2) (k0_pay58 (F := Ideal) d c3 b0 c0 b1 c1 b2 c2) (FloatOps.ofBits FTy.f32 897988541#32)⟩] (ix2 r (hcol h j))
    = unit (fun k => (k0_pay56 (F := Ideal) d c3 b0 c0 b1 c1 b2 c2) (ix2 r (hcol h k))) j := by
  canon_tiles x hx
  case piece0 => exact piece_head (f := unit) (a := (k0_pay56 (F := Ideal) d c3 b0 c0 b1 c1 b2 c2)) 7 (fun r j => head_k7 _ r j) r h j x (hx0.trans (by omega)) (hx1.trans (by omega))
  case piece1 => exact piece_head (f := unit) (a := (k0_pay56 (F := Ideal) d c3 b0 c0 b1 c1 b2 c2)) 6 (fun r j => head_k6 _ r j) r h j x (hx0.trans (by omega)) (hx1.trans (by omega))
  case piece2 => exact piece_head (f := unit) (a := (k0_pay56 (F := Ideal) d c3 b0 c0 b1 c1 b2 c2)) 5 (fun r j => head_k5 _ r j) r h j x (hx0.trans (by omega)) (hx1.trans (by omega))
  case piece3 => exact piece_head (f := unit) (a := (k0_pay56 (F := Ideal) d c3 b0 c0 b1 c1 b2 c2)) 4 (fun r j => head_k4 _ r j) r h j x (hx0.trans (by omega)) (hx1.trans (by omega))
  case piece4 => exact piece_head (f := unit) (a := (k0_pay56 (F := Ideal) d c3 b0 c0 b1 c1 b2 c2)) 3 (fun r j => head_k3 _ r j) r h j x (hx0.trans (by omega)) (hx1.trans (by omega))
  case piece5 => exact piece_head (f := unit) (a := (k0_pay56 (F := Ideal) d c3 b0 c0 b1 c1 b2 c2)) 2 (fun r j => head_k2 _ r j) r h j x (hx0.trans (by omega)) (hx1.trans (by omega))
  case piece6 => exact piece_head (f := unit) (a := (k0_pay56 (F := Ideal) d c3 b0 c0 b1 c1 b2 c2)) 1 (fun r j => head_k1 _ r j) r h j x (hx0.trans (by omega)) (hx1.trans (by omega))
  case piece7 => exact piece_head (f := unit) (a := (k0_pay56 (F := Ideal) d c3 b0 c0 b1 c1 b2 c2)) 0 (fun r j => head_k0 _ _ _ _ _ _ _ _ r j) r h j x (hx0.trans (by omega)) (hx1.trans (by omega))

/-! The buffer of rows with the eight rows before them. -/

section Buf

variable (v : View sig .tc .vmem S520x3072 .f32) (f : v.ty.Contents (Elt Ideal)) (L0 : List (View.Piece (Elt Ideal) S520x3072 .f32))
  (d0 d1 d2 : FVec Ideal S512x1024 .f32) (q0 q1 q2 : FVec Ideal S8x1024 .f32)

/-- The pieces written up to the first section. -/
abbrev L1 : List (View.Piece (Elt Ideal) S520x3072 .f32) := ⟨Rect.unit (s := S520x3072) ![8, 0] S512x1024.size inb_S520x3072_S512x1024_8_0, d0⟩ :: L0
/-- The pieces written up to the second section. -/
abbrev L3 : List (View.Piece (Elt Ideal) S520x3072 .f32) := ⟨Rect.unit (s := S520x3072) ![8, 1024] S512x1024.size inb_S520x3072_S512x1024_8_1024, d1⟩ :: ⟨Rect.unit (s := S520x3072) ![0, 0] S8x1024.size inb_S520x3072_S8x1024_0_0, q0⟩ :: L1 L0 d0
/-- The pieces written up to the third section. -/
abbrev L5 : List (View.Piece (Elt Ideal) S520x3072 .f32) := ⟨Rect.unit (s := S520x3072) ![8, 2048] S512x1024.size inb_S520x3072_S512x1024_8_2048, d2⟩ :: ⟨Rect.unit (s := S520x3072) ![0, 1024] S8x1024.size inb_S520x3072_S8x1024_0_1024, q1⟩ :: L3 L0 d0 d1 q0
/-- All pieces. -/
abbrev L6 : List (View.Piece (Elt Ideal) S520x3072 .f32) := ⟨Rect.unit (s := S520x3072) ![0, 2048] S8x1024.size inb_S520x3072_S8x1024_0_2048, q2⟩ :: L5 L0 d0 d1 d2 q0 q1

/-- A row of the new rows or one of the eight before. -/
def stacked (d : Fin 512 → EReal) (p : Fin 8 → EReal) (i : Fin 520) : EReal :=
  if h : 8 ≤ i.val then d ⟨i.val - 8, by omega⟩ else p ⟨i.val, by omega⟩

theorem read_1 (i : Fin 520) (c : Fin 1024) : v.read (Elt Ideal) (v.writes (Elt Ideal) f (L1 L0 d0)) (ix2 i (sec 0 c))
    = stacked (fun r => d0 (ix2 r c)) (fun b => v.read (Elt Ideal) (v.writes (Elt Ideal) f L0) (ix2 ⟨b.val, by omega⟩ (sec 0 c))) i := by
  have hc : (sec 0 c).val = 0 * 1024 + c.val := rfl
  unfold stacked
  split
  · rename_i h
    exact View.read_writes_cons_unit_of_mem v f _ _ _ _ (ix2 (⟨i.val - 8, by omega⟩ : Fin 512) c) rfl
      (by intro a; fin_cases a; · show i.val = 8 + (i.val - 8); omega
          · show (sec 0 c).val = 0 + c.val; omega)
  · rename_i h
    exact View.read_writes_cons_unit_of_not_mem v f _ _ _ _ rfl 0 (Or.inl (by show i.val < 8; omega))

theorem read_3 (i : Fin 520) (c : Fin 1024) : v.read (Elt Ideal) (v.writes (Elt Ideal) f (L3 L0 d0 d1 q0)) (ix2 i (sec 1 c))
    = stacked (fun r => d1 (ix2 r c)) (fun b => v.read (Elt Ideal) (v.writes (Elt Ideal) f L0) (ix2 ⟨b.val, by omega⟩ (sec 1 c))) i := by
  have hc : (sec 1 c).val = 1 * 1024 + c.val := rfl
  unfold stacked
  split
  · rename_i h
    exact View.read_writes_cons_unit_of_mem v f _ _ _ _ (ix2 (⟨i.val - 8, by omega⟩ : Fin 512) c) rfl
      (by intro a; fin_cases a; · show i.val = 8 + (i.val - 8); omega
          · show (sec 1 c).val = 1024 + c.val; omega)
  · rename_i h
    refine (View.read_writes_cons_unit_of_not_mem v f _ _ _ _ rfl 0 (Or.inl (by show i.val < 8; omega))).trans ?_
    refine (View.read_writes_cons_unit_of_not_mem v f _ _ _ _ rfl 1 (Or.inr (by show 0 + 1024 ≤ (sec 1 c).val; omega))).trans ?_
    exact View.read_writes_cons_unit_of_not_mem v f _ _ _ _ rfl 0 (Or.inl (by show i.val < 8; omega))

theorem read_5 (i : Fin 520) (c : Fin 1024) : v.read (Elt Ideal) (v.writes (Elt Ideal) f (L5 L0 d0 d1 d2 q0 q1)) (ix2 i (sec 2 c))
    = stacked (fun r => d2 (ix2 r c)) (fun b => v.read (Elt Ideal) (v.writes (Elt Ideal) f L0) (ix2 ⟨b.val, by omega⟩ (sec 2 c))) i := by
  have hc : (sec 2 c).val = 2 * 1024 + c.val := rfl
  unfold stacked
  split
  · rename_i h
    exact View.read_writes_cons_unit_of_mem v f _ _ _ _ (ix2 (⟨i.val - 8, by omega⟩ : Fin 512) c) rfl
      (by intro a; fin_cases a; · show i.val = 8 + (i.val - 8); omega
          · show (sec 2 c).val = 2048 + c.val; omega)
  · rename_i h
    refine (View.read_writes_cons_unit_of_not_mem v f _ _ _ _ rfl 0 (Or.inl (by show i.val < 8; omega))).trans ?_
    refine (View.read_writes_cons_unit_of_not_mem v f _ _ _ _ rfl 1 (Or.inr (by show 1024 + 1024 ≤ (sec 2 c).val; omega))).trans ?_
    refine (View.read_writes_cons_unit_of_not_mem v f _ _ _ _ rfl 0 (Or.inl (by show i.val < 8; omega))).trans ?_
    refine (View.read_writes_cons_unit_of_not_mem v f _ _ _ _ rfl 1 (Or.inr (by show 0 + 1024 ≤ (sec 2 c).val; omega))).trans ?_
    exact View.read_writes_cons_unit_of_not_mem v f _ _ _ _ rfl 0 (Or.inl (by show i.val < 8; omega))

/-- The first eight rows that a point leaves are the ones it copies there. -/
theorem read_6_0 (b : Fin 8) (c : Fin 1024) : v.read (Elt Ideal) (v.writes (Elt Ideal) f (L6 L0 d0 d1 d2 q0 q1 q2)) (ix2 ⟨b.val, by omega⟩ (sec 0 c)) = q0 (ix2 b c) := by
  have hc : (sec 0 c).val = 0 * 1024 + c.val := rfl
  have hb := b.isLt
  refine (View.read_writes_cons_unit_of_not_mem v f _ _ _ _ rfl 1 (Or.inl (by show (sec 0 c).val < 2048; omega))).trans ?_
  refine (View.read_writes_cons_unit_of_not_mem v f _ _ _ _ rfl 1 (Or.inl (by show (sec 0 c).val < 2048; omega))).trans ?_
  refine (View.read_writes_cons_unit_of_not_mem v f _ _ _ _ rfl 1 (Or.inl (by show (sec 0 c).val < 1024; omega))).trans ?_
  refine (View.read_writes_cons_unit_of_not_mem v f _ _ _ _ rfl 1 (Or.inl (by show (sec 0 c).val < 1024; omega))).trans ?_
  exact View.read_writes_cons_unit_of_mem v f _ _ _ _ (ix2 b c) rfl
      (by intro a; fin_cases a; · show b.val = 0 + b.val; omega
          · show (sec 0 c).val = 0 + c.val; omega)
theorem read_6_1 (b : Fin 8) (c : Fin 1024) : v.read (Elt Ideal) (v.writes (Elt Ideal) f (L6 L0 d0 d1 d2 q0 q1 q2)) (ix2 ⟨b.val, by omega⟩ (sec 1 c)) = q1 (ix2 b c) := by
  have hc : (sec 1 c).val = 1 * 1024 + c.val := rfl
  have hb := b.isLt
  refine (View.read_writes_cons_unit_of_not_mem v f _ _ _ _ rfl 1 (Or.inl (by show (sec 1 c).val < 2048; omega))).trans ?_
  refine (View.read_writes_cons_unit_of_not_mem v f _ _ _ _ rfl 1 (Or.inl (by show (sec 1 c).val < 2048; omega))).trans ?_
  exact View.read_writes_cons_unit_of_mem v f _ _ _ _ (ix2 b c) rfl
      (by intro a; fin_cases a; · show b.val = 0 + b.val; omega
          · show (sec 1 c).val = 1024 + c.val; omega)
theorem read_6_2 (b : Fin 8) (c : Fin 1024) : v.read (Elt Ideal) (v.writes (Elt Ideal) f (L6 L0 d0 d1 d2 q0 q1 q2)) (ix2 ⟨b.val, by omega⟩ (sec 2 c)) = q2 (ix2 b c) := by
  have hc : (sec 2 c).val = 2 * 1024 + c.val := rfl
  have hb := b.isLt
  exact View.read_writes_cons_unit_of_mem v f _ _ _ _ (ix2 b c) rfl
      (by intro a; fin_cases a; · show b.val = 0 + b.val; omega
          · show (sec 2 c).val = 2048 + c.val; omega)

theorem load_5_0 (g : v.ty.Contents (Elt Ideal)) (r : Fin 512) (c : Fin 1024) :
    View.readAt (Elt Ideal) v (Rect.unit (s := S520x3072) ![5, 0] S512x1024.size inb_S520x3072_S512x1024_5_0).toLoadRect g (ix2 r c)
    = v.read (Elt Ideal) g (ix2 ⟨5 + r.val, by omega⟩ (sec 0 c)) := by
  refine congrArg (v.read (Elt Ideal) g) ?_
  funext a
  apply Fin.ext
  fin_cases a
  · show 5 + 1 * r.val = 5 + r.val; omega
  · show 0 + 1 * c.val = 0 * 1024 + c.val; omega

theorem load_5_1 (g : v.ty.Contents (Elt Ideal)) (r : Fin 512) (c : Fin 1024) :
    View.readAt (Elt Ideal) v (Rect.unit (s := S520x3072) ![5, 1024] S512x1024.size inb_S520x3072_S512x1024_5_1024).toLoadRect g (ix2 r c)
    = v.read (Elt Ideal) g (ix2 ⟨5 + r.val, by omega⟩ (sec 1 c)) := by
  refine congrArg (v.read (Elt Ideal) g) ?_
  funext a
  apply Fin.ext
  fin_cases a
  · show 5 + 1 * r.val = 5 + r.val; omega
  · show 1024 + 1 * c.val = 1 * 1024 + c.val; omega

theorem load_5_2 (g : v.ty.Contents (Elt Ideal)) (r : Fin 512) (c : Fin 1024) :
    View.readAt (Elt Ideal) v (Rect.unit (s := S520x3072) ![5, 2048] S512x1024.size inb_S520x3072_S512x1024_5_2048).toLoadRect g (ix2 r c)
    = v.read (Elt Ideal) g (ix2 ⟨5 + r.val, by omega⟩ (sec 2 c)) := by
  refine congrArg (v.read (Elt Ideal) g) ?_
  funext a
  apply Fin.ext
  fin_cases a
  · show 5 + 1 * r.val = 5 + r.val; omega
  · show 2048 + 1 * c.val = 2 * 1024 + c.val; omega

theorem load_6_0 (g : v.ty.Contents (Elt Ideal)) (r : Fin 512) (c : Fin 1024) :
    View.readAt (Elt Ideal) v (Rect.unit (s := S520x3072) ![6, 0] S512x1024.size inb_S520x3072_S512x1024_6_0).toLoadRect g (ix2 r c)
    = v.read (Elt Ideal) g (ix2 ⟨6 + r.val, by omega⟩ (sec 0 c)) := by
  refine congrArg (v.read (Elt Ideal) g) ?_
  funext a
  apply Fin.ext
  fin_cases a
  · show 6 + 1 * r.val = 6 + r.val; omega
  · show 0 + 1 * c.val = 0 * 1024 + c.val; omega

theorem load_6_1 (g : v.ty.Contents (Elt Ideal)) (r : Fin 512) (c : Fin 1024) :
    View.readAt (Elt Ideal) v (Rect.unit (s := S520x3072) ![6, 1024] S512x1024.size inb_S520x3072_S512x1024_6_1024).toLoadRect g (ix2 r c)
    = v.read (Elt Ideal) g (ix2 ⟨6 + r.val, by omega⟩ (sec 1 c)) := by
  refine congrArg (v.read (Elt Ideal) g) ?_
  funext a
  apply Fin.ext
  fin_cases a
  · show 6 + 1 * r.val = 6 + r.val; omega
  · show 1024 + 1 * c.val = 1 * 1024 + c.val; omega

theorem load_6_2 (g : v.ty.Contents (Elt Ideal)) (r : Fin 512) (c : Fin 1024) :
    View.readAt (Elt Ideal) v (Rect.unit (s := S520x3072) ![6, 2048] S512x1024.size inb_S520x3072_S512x1024_6_2048).toLoadRect g (ix2 r c)
    = v.read (Elt Ideal) g (ix2 ⟨6 + r.val, by omega⟩ (sec 2 c)) := by
  refine congrArg (v.read (Elt Ideal) g) ?_
  funext a
  apply Fin.ext
  fin_cases a
  · show 6 + 1 * r.val = 6 + r.val; omega
  · show 2048 + 1 * c.val = 2 * 1024 + c.val; omega

theorem load_7_0 (g : v.ty.Contents (Elt Ideal)) (r : Fin 512) (c : Fin 1024) :
    View.readAt (Elt Ideal) v (Rect.unit (s := S520x3072) ![7, 0] S512x1024.size inb_S520x3072_S512x1024_7_0).toLoadRect g (ix2 r c)
    = v.read (Elt Ideal) g (ix2 ⟨7 + r.val, by omega⟩ (sec 0 c)) := by
  refine congrArg (v.read (Elt Ideal) g) ?_
  funext a
  apply Fin.ext
  fin_cases a
  · show 7 + 1 * r.val = 7 + r.val; omega
  · show 0 + 1 * c.val = 0 * 1024 + c.val; omega

theorem load_7_1 (g : v.ty.Contents (Elt Ideal)) (r : Fin 512) (c : Fin 1024) :
    View.readAt (Elt Ideal) v (Rect.unit (s := S520x3072) ![7, 1024] S512x1024.size inb_S520x3072_S512x1024_7_1024).toLoadRect g (ix2 r c)
    = v.read (Elt Ideal) g (ix2 ⟨7 + r.val, by omega⟩ (sec 1 c)) := by
  refine congrArg (v.read (Elt Ideal) g) ?_
  funext a
  apply Fin.ext
  fin_cases a
  · show 7 + 1 * r.val = 7 + r.val; omega
  · show 1024 + 1 * c.val = 1 * 1024 + c.val; omega

theorem load_7_2 (g : v.ty.Contents (Elt Ideal)) (r : Fin 512) (c : Fin 1024) :
    View.readAt (Elt Ideal) v (Rect.unit (s := S520x3072) ![7, 2048] S512x1024.size inb_S520x3072_S512x1024_7_2048).toLoadRect g (ix2 r c)
    = v.read (Elt Ideal) g (ix2 ⟨7 + r.val, by omega⟩ (sec 2 c)) := by
  refine congrArg (v.read (Elt Ideal) g) ?_
  funext a
  apply Fin.ext
  fin_cases a
  · show 7 + 1 * r.val = 7 + r.val; omega
  · show 2048 + 1 * c.val = 2 * 1024 + c.val; omega

theorem load_last_0 (g : v.ty.Contents (Elt Ideal)) (b : Fin 8) (c : Fin 1024) :
    View.readAt (Elt Ideal) v (Rect.unit (s := S520x3072) ![512, 0] S8x1024.size inb_S520x3072_S8x1024_512_0).toLoadRect g (ix2 b c)
    = v.read (Elt Ideal) g (ix2 ⟨512 + b.val, by omega⟩ (sec 0 c)) := by
  refine congrArg (v.read (Elt Ideal) g) ?_
  funext a
  apply Fin.ext
  fin_cases a
  · show 512 + 1 * b.val = 512 + b.val; omega
  · show 0 + 1 * c.val = 0 * 1024 + c.val; omega

theorem load_last_1 (g : v.ty.Contents (Elt Ideal)) (b : Fin 8) (c : Fin 1024) :
    View.readAt (Elt Ideal) v (Rect.unit (s := S520x3072) ![512, 1024] S8x1024.size inb_S520x3072_S8x1024_512_1024).toLoadRect g (ix2 b c)
    = v.read (Elt Ideal) g (ix2 ⟨512 + b.val, by omega⟩ (sec 1 c)) := by
  refine congrArg (v.read (Elt Ideal) g) ?_
  funext a
  apply Fin.ext
  fin_cases a
  · show 512 + 1 * b.val = 512 + b.val; omega
  · show 1024 + 1 * c.val = 1 * 1024 + c.val; omega

theorem load_last_2 (g : v.ty.Contents (Elt Ideal)) (b : Fin 8) (c : Fin 1024) :
    View.readAt (Elt Ideal) v (Rect.unit (s := S520x3072) ![512, 2048] S8x1024.size inb_S520x3072_S8x1024_512_2048).toLoadRect g (ix2 b c)
    = v.read (Elt Ideal) g (ix2 ⟨512 + b.val, by omega⟩ (sec 2 c)) := by
  refine congrArg (v.read (Elt Ideal) g) ?_
  funext a
  apply Fin.ext
  fin_cases a
  · show 512 + 1 * b.val = 512 + b.val; omega
  · show 2048 + 1 * c.val = 2 * 1024 + c.val; omega

end Buf

end Cert.Kernel3Ideal.Whole
end
-- ==== Proof.ConvTile.lean ====
module

public import proofs.«01_k».proof.Proof.ConvRun

/-! A tile's activated window sums from the tile's rows, the weights and the eight rows before the tile. -/

@[expose] public section

set_option maxRecDepth 16384

noncomputable section

namespace Cert.Kernel3Ideal.Whole

open Cert.Kernel3Ideal Cert.Kernel3Ideal.Gen
open Idealize.ShloMosaic Idealize.ShloMosaic.TcCoe Idealize.ShloMosaic.Tactic Idealize.SL.Sem
open Conv

/-- A row's product with a column of the weights. -/
def dots (x0 : FVec Ideal S512x1024 .f32) (x1 : FVec Ideal S1x1024 .f32) (W : Fin 1024 → Fin 3072 → EReal) (r : Fin 512) (c : Fin 3072) : EReal :=
  ∑ k, Ple.normed (fun e => x0 (ix2 r e)) (fun e => x1 (ix2 0 e)) k * W k c

/-- The activated window sum of a row of the tile. -/
def tileAct (x0 : FVec Ideal S512x1024 .f32) (x1 : FVec Ideal S1x1024 .f32) (W : Fin 1024 → Fin 3072 → EReal) (cw : FVec Ideal S4x3072 .f32)
    (p : Fin 8 → Fin 3072 → EReal) (r : Fin 512) (c : Fin 3072) : EReal :=
  act (dots x0 x1 W r c) (cw (ix2 3 c))
    (stacked (fun r => dots x0 x1 W r c) (fun b => p b c) ⟨5 + r.val, by omega⟩) (cw (ix2 0 c))
    (stacked (fun r => dots x0 x1 W r c) (fun b => p b c) ⟨6 + r.val, by omega⟩) (cw (ix2 1 c))
    (stacked (fun r => dots x0 x1 W r c) (fun b => p b c) ⟨7 + r.val, by omega⟩) (cw (ix2 2 c))

theorem stacked_congr {d d' : Fin 512 → EReal} {p p' : Fin 8 → EReal} (hd : ∀ r, d r = d' r) (hp : ∀ b, p b = p' b) (i : Fin 520) :
    stacked d p i = stacked d' p' i := by rw [funext hd, funext hp]

section

variable {v5 x0 : FVec Ideal S512x1024 .f32} {v6 x1 : FVec Ideal S1x1024 .f32} {w : FVec Ideal S1024x1024 .bf16}
  {c0 c1 c2 c3 : FVec Ideal S1x1024 .f32} {b0 b1 b2 : FVec Ideal S512x1024 .f32} {W : Fin 1024 → Fin 3072 → EReal} {cw : FVec Ideal S4x3072 .f32}
  {p : Fin 8 → Fin 3072 → EReal}

/-- The product of a section, read from the loads. -/
theorem dot_of (h5 : v5 = x0) (h6 : v6 = x1) (s : Fin 3) (hw : ∀ k e, w (ix2 k e) = W k (sec s e)) (r : Fin 512) (e : Fin 1024) :
    ∑ k : Fin 1024, k0_pay23 (F := Ideal) v5 v6 (ix2 r k) * w (ix2 k e) = dots x0 x1 W r (sec s e) := by
  subst h5 h6
  simp only [pay23_at, hw]
  rfl

/-- The activated window sum of a section, read from the loads. -/
theorem act_q_of (h5 : v5 = x0) (h6 : v6 = x1) (hw : ∀ k e, w (ix2 k e) = W k (sec 0 e)) (hc0 : ∀ e, c0 (ix2 0 e) = cw (ix2 0 (sec 0 e))) (hc1 : ∀ e, c1 (ix2 0 e) = cw (ix2 1 (sec 0 e))) (hc2 : ∀ e, c2 (ix2 0 e) = cw (ix2 2 (sec 0 e))) (hc3 : ∀ e, c3 (ix2 0 e) = cw (ix2 3 (sec 0 e)))
    (hb0 : ∀ r e, b0 (ix2 r e) = stacked (fun r => dots x0 x1 W r (sec 0 e)) (fun b => p b (sec 0 e)) ⟨5 + r.val, by omega⟩) (hb1 : ∀ r e, b1 (ix2 r e) = stacked (fun r => dots x0 x1 W r (sec 0 e)) (fun b => p b (sec 0 e)) ⟨6 + r.val, by omega⟩) (hb2 : ∀ r e, b2 (ix2 r e) = stacked (fun r => dots x0 x1 W r (sec 0 e)) (fun b => p b (sec 0 e)) ⟨7 + r.val, by omega⟩) (r : Fin 512) (e : Fin 1024) :
    k0_pay40 (F := Ideal) (k0_pay37 (F := Ideal) (k0_pay23 (F := Ideal) v5 v6) w c3 b0 c0 b1 c1) b2 (k0_pay38 (F := Ideal) c2) (ix2 r e) = tileAct x0 x1 W cw p r (sec 0 e) := by
  rw [act_q, dot_of h5 h6 0 hw, hb0, hb1, hb2, hc0, hc1, hc2, hc3]
  rfl

/-- The activated window sum of a section, read from the loads. -/
theorem act_k_of (h5 : v5 = x0) (h6 : v6 = x1) (hw : ∀ k e, w (ix2 k e) = W k (sec 1 e)) (hc0 : ∀ e, c0 (ix2 0 e) = cw (ix2 0 (sec 1 e))) (hc1 : ∀ e, c1 (ix2 0 e) = cw (ix2 1 (sec 1 e))) (hc2 : ∀ e, c2 (ix2 0 e) = cw (ix2 2 (sec 1 e))) (hc3 : ∀ e, c3 (ix2 0 e) = cw (ix2 3 (sec 1 e)))
    (hb0 : ∀ r e, b0 (ix2 r e) = stacked (fun r => dots x0 x1 W r (sec 1 e)) (fun b => p b (sec 1 e)) ⟨5 + r.val, by omega⟩) (hb1 : ∀ r e, b1 (ix2 r e) = stacked (fun r => dots x0 x1 W r (sec 1 e)) (fun b => p b (sec 1 e)) ⟨6 + r.val, by omega⟩) (hb2 : ∀ r e, b2 (ix2 r e) = stacked (fun r => dots x0 x1 W r (sec 1 e)) (fun b => p b (sec 1 e)) ⟨7 + r.val, by omega⟩) (r : Fin 512) (e : Fin 1024) :
    k0_pay56 (F := Ideal) (k0_pay53 (F := Ideal) (k0_pay23 (F := Ideal) v5 v6) w) c3 b0 c0 b1 c1 b2 c2 (ix2 r e) = tileAct x0 x1 W cw p r (sec 1 e) := by
  rw [act_k, dot_of h5 h6 1 hw, hb0, hb1, hb2, hc0, hc1, hc2, hc3]
  rfl

/-- The activated window sum of a section, read from the loads. -/
theorem act_v_of (h5 : v5 = x0) (h6 : v6 = x1) (hw : ∀ k e, w (ix2 k e) = W k (sec 2 e)) (hc0 : ∀ e, c0 (ix2 0 e) = cw (ix2 0 (sec 2 e))) (hc1 : ∀ e, c1 (ix2 0 e) = cw (ix2 1 (sec 2 e))) (hc2 : ∀ e, c2 (ix2 0 e) = cw (ix2 2 (sec 2 e))) (hc3 : ∀ e, c3 (ix2 0 e) = cw (ix2 3 (sec 2 e)))
    (hb0 : ∀ r e, b0 (ix2 r e) = stacked (fun r => dots x0 x1 W r (sec 2 e)) (fun b => p b (sec 2 e)) ⟨5 + r.val, by omega⟩) (hb1 : ∀ r e, b1 (ix2 r e) = stacked (fun r => dots x0 x1 W r (sec 2 e)) (fun b => p b (sec 2 e)) ⟨6 + r.val, by omega⟩) (hb2 : ∀ r e, b2 (ix2 r e) = stacked (fun r => dots x0 x1 W r (sec 2 e)) (fun b => p b (sec 2 e)) ⟨7 + r.val, by omega⟩) (r : Fin 512) (e : Fin 1024) :
    k0_pay2 (F := Ideal) (k0_pay71 (F := Ideal) (k0_pay23 (F := Ideal) v5 v6) w c3 b0 c0 b1 c1) b2 c2 (ix2 r e) = tileAct x0 x1 W cw p r (sec 2 e) := by
  rw [act_v, dot_of h5 h6 2 hw, hb0, hb1, hb2, hc0, hc1, hc2, hc3]
  rfl

variable {v : View sig .tc .vmem S520x3072 .f32} {f : v.ty.Contents (Elt Ideal)} {L0 : List (View.Piece (Elt Ideal) S520x3072 .f32)}

theorem win_5_0  (h5 : v5 = x0) (h6 : v6 = x1) (hw : ∀ k e, w (ix2 k e) = W k (sec 0 e))
    (hp : ∀ (b : Fin 8) c, v.read (Elt Ideal) (v.writes (Elt Ideal) f L0) (ix2 ⟨b.val, by omega⟩ c) = p b c) (r : Fin 512) (e : Fin 1024) :
    View.readAt (Elt Ideal) v (Rect.unit (s := S520x3072) ![5, 0] S512x1024.size inb_S520x3072_S512x1024_5_0).toLoadRect
      (v.writes (Elt Ideal) f (L1 L0 (k0_pay36 (F := Ideal) (k0_pay23 (F := Ideal) v5 v6) w))) (ix2 r e)
    = stacked (fun r => dots x0 x1 W r (sec 0 e)) (fun b => p b (sec 0 e)) ⟨5 + r.val, by omega⟩ :=
  (load_5_0 v _ r e).trans ((read_1 v f L0 _ _ e).trans
    (stacked_congr (fun r => (pay36_at _ _ r e).trans (dot_of h5 h6 0 hw r e)) (fun b => hp b _) _))

theorem win_6_0  (h5 : v5 = x0) (h6 : v6 = x1) (hw : ∀ k e, w (ix2 k e) = W k (sec 0 e))
    (hp : ∀ (b : Fin 8) c, v.read (Elt Ideal) (v.writes (Elt Ideal) f L0) (ix2 ⟨b.val, by omega⟩ c) = p b c) (r : Fin 512) (e : Fin 1024) :
    View.readAt (Elt Ideal) v (Rect.unit (s := S520x3072) ![6, 0] S512x1024.size inb_S520x3072_S512x1024_6_0).toLoadRect
      (v.writes (Elt Ideal) f (L1 L0 (k0_pay36 (F := Ideal) (k0_pay23 (F := Ideal) v5 v6) w))) (ix2 r e)
    = stacked (fun r => dots x0 x1 W r (sec 0 e)) (fun b => p b (sec 0 e)) ⟨6 + r.val, by omega⟩ :=
  (load_6_0 v _ r e).trans ((read_1 v f L0 _ _ e).trans
    (stacked_congr (fun r => (pay36_at _ _ r e).trans (dot_of h5 h6 0 hw r e)) (fun b => hp b _) _))

theorem win_7_0  (h5 : v5 = x0) (h6 : v6 = x1) (hw : ∀ k e, w (ix2 k e) = W k (sec 0 e))
    (hp : ∀ (b : Fin 8) c, v.read (Elt Ideal) (v.writes (Elt Ideal) f L0) (ix2 ⟨b.val, by omega⟩ c) = p b c) (r : Fin 512) (e : Fin 1024) :
    View.readAt (Elt Ideal) v (Rect.unit (s := S520x3072) ![7, 0] S512x1024.size inb_S520x3072_S512x1024_7_0).toLoadRect
      (v.writes (Elt Ideal) f (L1 L0 (k0_pay36 (F := Ideal) (k0_pay23 (F := Ideal) v5 v6) w))) (ix2 r e)
    = stacked (fun r => dots x0 x1 W r (sec 0 e)) (fun b => p b (sec 0 e)) ⟨7 + r.val, by omega⟩ :=
  (load_7_0 v _ r e).trans ((read_1 v f L0 _ _ e).trans
    (stacked_congr (fun r => (pay36_at _ _ r e).trans (dot_of h5 h6 0 hw r e)) (fun b => hp b _) _))

theorem last_0  (h5 : v5 = x0) (h6 : v6 = x1) (hw : ∀ k e, w (ix2 k e) = W k (sec 0 e)) (b : Fin 8) (e : Fin 1024) :
    View.readAt (Elt Ideal) v (Rect.unit (s := S520x3072) ![512, 0] S8x1024.size inb_S520x3072_S8x1024_512_0).toLoadRect
      (v.writes (Elt Ideal) f (L1 L0 (k0_pay36 (F := Ideal) (k0_pay23 (F := Ideal) v5 v6) w))) (ix2 b e) = dots x0 x1 W ⟨504 + b.val, by omega⟩ (sec 0 e) := by
  refine (load_last_0 v _ b e).trans ((read_1 v f L0 _ _ e).trans ?_)
  unfold stacked
  rw [dif_pos (show 8 ≤ 512 + b.val by omega)]
  refine (pay36_at _ _ _ e).trans ?_
  rw [dot_of h5 h6 0 hw]
  exact congrArg (fun r => dots x0 x1 W r (sec 0 e)) (Fin.ext (by show 512 + b.val - 8 = 504 + b.val; omega))

theorem win_5_1 {d0 : FVec Ideal S512x1024 .f32} {q0 : FVec Ideal S8x1024 .f32} (h5 : v5 = x0) (h6 : v6 = x1) (hw : ∀ k e, w (ix2 k e) = W k (sec 1 e))
    (hp : ∀ (b : Fin 8) c, v.read (Elt Ideal) (v.writes (Elt Ideal) f L0) (ix2 ⟨b.val, by omega⟩ c) = p b c) (r : Fin 512) (e : Fin 1024) :
    View.readAt (Elt Ideal) v (Rect.unit (s := S520x3072) ![5, 1024] S512x1024.size inb_S520x3072_S512x1024_5_1024).toLoadRect
      (v.writes (Elt Ideal) f (L3 L0 d0 (k0_pay54 (F := Ideal) (k0_pay23 (F := Ideal) v5 v6) w) q0)) (ix2 r e)
    = stacked (fun r => dots x0 x1 W r (sec 1 e)) (fun b => p b (sec 1 e)) ⟨5 + r.val, by omega⟩ :=
  (load_5_1 v _ r e).trans ((read_3 v f L0 _ _ _ _ e).trans
    (stacked_congr (fun r => (pay54_at _ _ r e).trans (dot_of h5 h6 1 hw r e)) (fun b => hp b _) _))

theorem win_6_1 {d0 : FVec Ideal S512x1024 .f32} {q0 : FVec Ideal S8x1024 .f32} (h5 : v5 = x0) (h6 : v6 = x1) (hw : ∀ k e, w (ix2 k e) = W k (sec 1 e))
    (hp : ∀ (b : Fin 8) c, v.read (Elt Ideal) (v.writes (Elt Ideal) f L0) (ix2 ⟨b.val, by omega⟩ c) = p b c) (r : Fin 512) (e : Fin 1024) :
    View.readAt (Elt Ideal) v (Rect.unit (s := S520x3072) ![6, 1024] S512x1024.size inb_S520x3072_S512x1024_6_1024).toLoadRect
      (v.writes (Elt Ideal) f (L3 L0 d0 (k0_pay54 (F := Ideal) (k0_pay23 (F := Ideal) v5 v6) w) q0)) (ix2 r e)
    = stacked (fun r => dots x0 x1 W r (sec 1 e)) (fun b => p b (sec 1 e)) ⟨6 + r.val, by omega⟩ :=
  (load_6_1 v _ r e).trans ((read_3 v f L0 _ _ _ _ e).trans
    (stacked_congr (fun r => (pay54_at _ _ r e).trans (dot_of h5 h6 1 hw r e)) (fun b => hp b _) _))

theorem win_7_1 {d0 : FVec Ideal S512x1024 .f32} {q0 : FVec Ideal S8x1024 .f32} (h5 : v5 = x0) (h6 : v6 = x1) (hw : ∀ k e, w (ix2 k e) = W k (sec 1 e))
    (hp : ∀ (b : Fin 8) c, v.read (Elt Ideal) (v.writes (Elt Ideal) f L0) (ix2 ⟨b.val, by omega⟩ c) = p b c) (r : Fin 512) (e : Fin 1024) :
    View.readAt (Elt Ideal) v (Rect.unit (s := S520x3072) ![7, 1024] S512x1024.size inb_S520x3072_S512x1024_7_1024).toLoadRect
      (v.writes (Elt Ideal) f (L3 L0 d0 (k0_pay54 (F := Ideal) (k0_pay23 (F := Ideal) v5 v6) w) q0)) (ix2 r e)
    = stacked (fun r => dots x0 x1 W r (sec 1 e)) (fun b => p b (sec 1 e)) ⟨7 + r.val, by omega⟩ :=
  (load_7_1 v _ r e).trans ((read_3 v f L0 _ _ _ _ e).trans
    (stacked_congr (fun r => (pay54_at _ _ r e).trans (dot_of h5 h6 1 hw r e)) (fun b => hp b _) _))

theorem last_1 {d0 : FVec Ideal S512x1024 .f32} {q0 : FVec Ideal S8x1024 .f32} (h5 : v5 = x0) (h6 : v6 = x1) (hw : ∀ k e, w (ix2 k e) = W k (sec 1 e)) (b : Fin 8) (e : Fin 1024) :
    View.readAt (Elt Ideal) v (Rect.unit (s := S520x3072) ![512, 1024] S8x1024.size inb_S520x3072_S8x1024_512_1024).toLoadRect
      (v.writes (Elt Ideal) f (L3 L0 d0 (k0_pay54 (F := Ideal) (k0_pay23 (F := Ideal) v5 v6) w) q0)) (ix2 b e) = dots x0 x1 W ⟨504 + b.val, by omega⟩ (sec 1 e) := by
  refine (load_last_1 v _ b e).trans ((read_3 v f L0 _ _ _ _ e).trans ?_)
  unfold stacked
  rw [dif_pos (show 8 ≤ 512 + b.val by omega)]
  refine (pay54_at _ _ _ e).trans ?_
  rw [dot_of h5 h6 1 hw]
  exact congrArg (fun r => dots x0 x1 W r (sec 1 e)) (Fin.ext (by show 512 + b.val - 8 = 504 + b.val; omega))

theorem win_5_2 {d0 d1 : FVec Ideal S512x1024 .f32} {q0 q1 : FVec Ideal S8x1024 .f32} (h5 : v5 = x0) (h6 : v6 = x1) (hw : ∀ k e, w (ix2 k e) = W k (sec 2 e))
    (hp : ∀ (b : Fin 8) c, v.read (Elt Ideal) (v.writes (Elt Ideal) f L0) (ix2 ⟨b.val, by omega⟩ c) = p b c) (r : Fin 512) (e : Fin 1024) :
    View.readAt (Elt Ideal) v (Rect.unit (s := S520x3072) ![5, 2048] S512x1024.size inb_S520x3072_S512x1024_5_2048).toLoadRect
      (v.writes (Elt Ideal) f (L5 L0 d0 d1 (k0_pay70 (F := Ideal) (k0_pay23 (F := Ideal) v5 v6) w) q0 q1)) (ix2 r e)
    = stacked (fun r => dots x0 x1 W r (sec 2 e)) (fun b => p b (sec 2 e)) ⟨5 + r.val, by omega⟩ :=
  (load_5_2 v _ r e).trans ((read_5 v f L0 _ _ _ _ _ _ e).trans
    (stacked_congr (fun r => (pay70_at _ _ r e).trans (dot_of h5 h6 2 hw r e)) (fun b => hp b _) _))

theorem win_6_2 {d0 d1 : FVec Ideal S512x1024 .f32} {q0 q1 : FVec Ideal S8x1024 .f32} (h5 : v5 = x0) (h6 : v6 = x1) (hw : ∀ k e, w (ix2 k e) = W k (sec 2 e))
    (hp : ∀ (b : Fin 8) c, v.read (Elt Ideal) (v.writes (Elt Ideal) f L0) (ix2 ⟨b.val, by omega⟩ c) = p b c) (r : Fin 512) (e : Fin 1024) :
    View.readAt (Elt Ideal) v (Rect.unit (s := S520x3072) ![6, 2048] S512x1024.size inb_S520x3072_S512x1024_6_2048).toLoadRect
      (v.writes (Elt Ideal) f (L5 L0 d0 d1 (k0_pay70 (F := Ideal) (k0_pay23 (F := Ideal) v5 v6) w) q0 q1)) (ix2 r e)
    = stacked (fun r => dots x0 x1 W r (sec 2 e)) (fun b => p b (sec 2 e)) ⟨6 + r.val, by omega⟩ :=
  (load_6_2 v _ r e).trans ((read_5 v f L0 _ _ _ _ _ _ e).trans
    (stacked_congr (fun r => (pay70_at _ _ r e).trans (dot_of h5 h6 2 hw r e)) (fun b => hp b _) _))

theorem win_7_2 {d0 d1 : FVec Ideal S512x1024 .f32} {q0 q1 : FVec Ideal S8x1024 .f32} (h5 : v5 = x0) (h6 : v6 = x1) (hw : ∀ k e, w (ix2 k e) = W k (sec 2 e))
    (hp : ∀ (b : Fin 8) c, v.read (Elt Ideal) (v.writes (Elt Ideal) f L0) (ix2 ⟨b.val, by omega⟩ c) = p b c) (r : Fin 512) (e : Fin 1024) :
    View.readAt (Elt Ideal) v (Rect.unit (s := S520x3072) ![7, 2048] S512x1024.size inb_S520x3072_S512x1024_7_2048).toLoadRect
      (v.writes (Elt Ideal) f (L5 L0 d0 d1 (k0_pay70 (F := Ideal) (k0_pay23 (F := Ideal) v5 v6) w) q0 q1)) (ix2 r e)
    = stacked (fun r => dots x0 x1 W r (sec 2 e)) (fun b => p b (sec 2 e)) ⟨7 + r.val, by omega⟩ :=
  (load_7_2 v _ r e).trans ((read_5 v f L0 _ _ _ _ _ _ e).trans
    (stacked_congr (fun r => (pay70_at _ _ r e).trans (dot_of h5 h6 2 hw r e)) (fun b => hp b _) _))

theorem last_2 {d0 d1 : FVec Ideal S512x1024 .f32} {q0 q1 : FVec Ideal S8x1024 .f32} (h5 : v5 = x0) (h6 : v6 = x1) (hw : ∀ k e, w (ix2 k e) = W k (sec 2 e)) (b : Fin 8) (e : Fin 1024) :
    View.readAt (Elt Ideal) v (Rect.unit (s := S520x3072) ![512, 2048] S8x1024.size inb_S520x3072_S8x1024_512_2048).toLoadRect
      (v.writes (Elt Ideal) f (L5 L0 d0 d1 (k0_pay70 (F := Ideal) (k0_pay23 (F := Ideal) v5 v6) w) q0 q1)) (ix2 b e) = dots x0 x1 W ⟨504 + b.val, by omega⟩ (sec 2 e) := by
  refine (load_last_2 v _ b e).trans ((read_5 v f L0 _ _ _ _ _ _ e).trans ?_)
  unfold stacked
  rw [dif_pos (show 8 ≤ 512 + b.val by omega)]
  refine (pay70_at _ _ _ e).trans ?_
  rw [dot_of h5 h6 2 hw]
  exact congrArg (fun r => dots x0 x1 W r (sec 2 e)) (Fin.ext (by show 512 + b.val - 8 = 504 + b.val; omega))

/-- The zeros written before a sequence's first tile. -/
theorem zeros_at (b : Fin 8) (c : Fin 3072) : v.read (Elt Ideal) (v.writes (Elt Ideal) f [⟨Rect.unit (s := S520x3072) ![0, 0] S8x3072.size inb_S520x3072_S8x3072_0_0, k0_pay34 (F := Ideal)⟩]) (ix2 ⟨b.val, by omega⟩ c) = 0 :=
  (View.read_writes_cons_unit_of_mem v f _ _ _ _ (ix2 b c) rfl
      (by intro a; fin_cases a; · show b.val = 0 + b.val; omega
          · show c.val = 0 + c.val; omega)).trans (pay34_at b c)
end

/-! The loads. -/

theorem load_x (arg : Memref sig .tc .vmem S512x1024 .f32) (harg : arg.IsWhole) (x : FVec Ideal S512x1024 .f32)
    (inb : ∀ a, (![0, 0] : Fin 2 → Nat) a + S512x1024.size a ≤ S512x1024.size a) :
    View.readAt (Elt Ideal) arg.view (Rect.unit (s := S512x1024) ![0, 0] S512x1024.size inb).toLoadRect (harg.unread x) = x := by
  rw [View.readAt_eq_ld, harg.read_unread]
  simp (disch := decide) only [View.ld_unit_lit']

theorem load_n (arg : Memref sig .tc .vmem S1x1024 .f32) (harg : arg.IsWhole) (x : FVec Ideal S1x1024 .f32)
    (inb : ∀ a, (![0, 0] : Fin 2 → Nat) a + S1x1024.size a ≤ S1x1024.size a) :
    View.readAt (Elt Ideal) arg.view (Rect.unit (s := S1x1024) ![0, 0] S1x1024.size inb).toLoadRect (harg.unread x) = x := by
  rw [View.readAt_eq_ld, harg.read_unread]
  simp (disch := decide) only [View.ld_unit_lit']

theorem load_wb (arg : Memref sig .tc .vmem S1024x128 .bf16) (harg : arg.IsWhole) (x : FVec Ideal S1024x128 .bf16)
    (inb : ∀ a, (![0, 0] : Fin 2 → Nat) a + S1024x128.size a ≤ S1024x128.size a) :
    View.readAt (Elt Ideal) arg.view (Rect.unit (s := S1024x128) ![0, 0] S1024x128.size inb).toLoadRect (harg.unread x) = x := by
  rw [View.readAt_eq_ld, harg.read_unread]
  simp (disch := decide) only [View.ld_unit_lit']

theorem load_wz (arg : Memref sig .tc .vmem S1024x1024 .bf16) (harg : arg.IsWhole) (x : FVec Ideal S1024x1024 .bf16)
    (inb : ∀ a, (![0, 0] : Fin 2 → Nat) a + S1024x1024.size a ≤ S1024x1024.size a) :
    View.readAt (Elt Ideal) arg.view (Rect.unit (s := S1024x1024) ![0, 0] S1024x1024.size inb).toLoadRect (harg.unread x) = x := by
  rw [View.readAt_eq_ld, harg.read_unread]
  simp (disch := decide) only [View.ld_unit_lit']

theorem load_row (arg : Memref sig .tc .vmem S1x8 .f32) (harg : arg.IsWhole) (x : FVec Ideal S1x8 .f32)
    (inb : ∀ a, (![0, 0] : Fin 2 → Nat) a + S1x8.size a ≤ S1x8.size a) :
    View.readAt (Elt Ideal) arg.view (Rect.unit (s := S1x8) ![0, 0] S1x8.size inb).toLoadRect (harg.unread x) = x := by
  rw [View.readAt_eq_ld, harg.read_unread]
  simp (disch := decide) only [View.ld_unit_lit']

theorem load_col (arg : Memref sig .tc .vmem S8x1 .f32) (harg : arg.IsWhole) (x : FVec Ideal S8x1 .f32)
    (inb : ∀ a, (![0, 0] : Fin 2 → Nat) a + S8x1.size a ≤ S8x1.size a) :
    View.readAt (Elt Ideal) arg.view (Rect.unit (s := S8x1) ![0, 0] S8x1.size inb).toLoadRect (harg.unread x) = x := by
  rw [View.readAt_eq_ld, harg.read_unread]
  simp (disch := decide) only [View.ld_unit_lit']

theorem load_cw_0_0 (arg : Memref sig .tc .vmem S4x3072 .f32) (harg : arg.IsWhole) (x : FVec Ideal S4x3072 .f32) (e : Fin 1024) :
    View.readAt (Elt Ideal) arg.view (Rect.unit (s := S4x3072) ![0, 0] S1x1024.size inb_S4x3072_S1x1024_0_0).toLoadRect (harg.unread x) (ix2 0 e) = x (ix2 0 (sec 0 e)) := by
  rw [View.readAt_apply, harg.read_unread]
  refine congrArg x ?_
  funext a
  apply Fin.ext
  fin_cases a
  · rfl
  · show 0 + 1 * e.val = 0 * 1024 + e.val; omega

theorem load_cw_0_1 (arg : Memref sig .tc .vmem S4x3072 .f32) (harg : arg.IsWhole) (x : FVec Ideal S4x3072 .f32) (e : Fin 1024) :
    View.readAt (Elt Ideal) arg.view (Rect.unit (s := S4x3072) ![0, 1024] S1x1024.size inb_S4x3072_S1x1024_0_1024).toLoadRect (harg.unread x) (ix2 0 e) = x (ix2 0 (sec 1 e)) := by
  rw [View.readAt_apply, harg.read_unread]
  refine congrArg x ?_
  funext a
  apply Fin.ext
  fin_cases a
  · rfl
  · show 1024 + 1 * e.val = 1 * 1024 + e.val; omega

theorem load_cw_0_2 (arg : Memref sig .tc .vmem S4x3072 .f32) (harg : arg.IsWhole) (x : FVec Ideal S4x3072 .f32) (e : Fin 1024) :
    View.readAt (Elt Ideal) arg.view (Rect.unit (s := S4x3072) ![0, 2048] S1x1024.size inb_S4x3072_S1x1024_0_2048).toLoadRect (harg.unread x) (ix2 0 e) = x (ix2 0 (sec 2 e)) := by
  rw [View.readAt_apply, harg.read_unread]
  refine congrArg x ?_
  funext a
  apply Fin.ext
  fin_cases a
  · rfl
  · show 2048 + 1 * e.val = 2 * 1024 + e.val; omega

theorem load_cw_1_0 (arg : Memref sig .tc .vmem S4x3072 .f32) (harg : arg.IsWhole) (x : FVec Ideal S4x3072 .f32) (e : Fin 1024) :
    View.readAt (Elt Ideal) arg.view (Rect.unit (s := S4x3072) ![1, 0] S1x1024.size inb_S4x3072_S1x1024_1_0).toLoadRect (harg.unread x) (ix2 0 e) = x (ix2 1 (sec 0 e)) := by
  rw [View.readAt_apply, harg.read_unread]
  refine congrArg x ?_
  funext a
  apply Fin.ext
  fin_cases a
  · rfl
  · show 0 + 1 * e.val = 0 * 1024 + e.val; omega

theorem load_cw_1_1 (arg : Memref sig .tc .vmem S4x3072 .f32) (harg : arg.IsWhole) (x : FVec Ideal S4x3072 .f32) (e : Fin 1024) :
    View.readAt (Elt Ideal) arg.view (Rect.unit (s := S4x3072) ![1, 1024] S1x1024.size inb_S4x3072_S1x1024_1_1024).toLoadRect (harg.unread x) (ix2 0 e) = x (ix2 1 (sec 1 e)) := by
  rw [View.readAt_apply, harg.read_unread]
  refine congrArg x ?_
  funext a
  apply Fin.ext
  fin_cases a
  · rfl
  · show 1024 + 1 * e.val = 1 * 1024 + e.val; omega

theorem load_cw_1_2 (arg : Memref sig .tc .vmem S4x3072 .f32) (harg : arg.IsWhole) (x : FVec Ideal S4x3072 .f32) (e : Fin 1024) :
    View.readAt (Elt Ideal) arg.view (Rect.unit (s := S4x3072) ![1, 2048] S1x1024.size inb_S4x3072_S1x1024_1_2048).toLoadRect (harg.unread x) (ix2 0 e) = x (ix2 1 (sec 2 e)) := by
  rw [View.readAt_apply, harg.read_unread]
  refine congrArg x ?_
  funext a
  apply Fin.ext
  fin_cases a
  · rfl
  · show 2048 + 1 * e.val = 2 * 1024 + e.val; omega

theorem load_cw_2_0 (arg : Memref sig .tc .vmem S4x3072 .f32) (harg : arg.IsWhole) (x : FVec Ideal S4x3072 .f32) (e : Fin 1024) :
    View.readAt (Elt Ideal) arg.view (Rect.unit (s := S4x3072) ![2, 0] S1x1024.size inb_S4x3072_S1x1024_2_0).toLoadRect (harg.unread x) (ix2 0 e) = x (ix2 2 (sec 0 e)) := by
  rw [View.readAt_apply, harg.read_unread]
  refine congrArg x ?_
  funext a
  apply Fin.ext
  fin_cases a
  · rfl
  · show 0 + 1 * e.val = 0 * 1024 + e.val; omega

theorem load_cw_2_1 (arg : Memref sig .tc .vmem S4x3072 .f32) (harg : arg.IsWhole) (x : FVec Ideal S4x3072 .f32) (e : Fin 1024) :
    View.readAt (Elt Ideal) arg.view (Rect.unit (s := S4x3072) ![2, 1024] S1x1024.size inb_S4x3072_S1x1024_2_1024).toLoadRect (harg.unread x) (ix2 0 e) = x (ix2 2 (sec 1 e)) := by
  rw [View.readAt_apply, harg.read_unread]
  refine congrArg x ?_
  funext a
  apply Fin.ext
  fin_cases a
  · rfl
  · show 1024 + 1 * e.val = 1 * 1024 + e.val; omega

theorem load_cw_2_2 (arg : Memref sig .tc .vmem S4x3072 .f32) (harg : arg.IsWhole) (x : FVec Ideal S4x3072 .f32) (e : Fin 1024) :
    View.readAt (Elt Ideal) arg.view (Rect.unit (s := S4x3072) ![2, 2048] S1x1024.size inb_S4x3072_S1x1024_2_2048).toLoadRect (harg.unread x) (ix2 0 e) = x (ix2 2 (sec 2 e)) := by
  rw [View.readAt_apply, harg.read_unread]
  refine congrArg x ?_
  funext a
  apply Fin.ext
  fin_cases a
  · rfl
  · show 2048 + 1 * e.val = 2 * 1024 + e.val; omega

theorem load_cw_3_0 (arg : Memref sig .tc .vmem S4x3072 .f32) (harg : arg.IsWhole) (x : FVec Ideal S4x3072 .f32) (e : Fin 1024) :
    View.readAt (Elt Ideal) arg.view (Rect.unit (s := S4x3072) ![3, 0] S1x1024.size inb_S4x3072_S1x1024_3_0).toLoadRect (harg.unread x) (ix2 0 e) = x (ix2 3 (sec 0 e)) := by
  rw [View.readAt_apply, harg.read_unread]
  refine congrArg x ?_
  funext a
  apply Fin.ext
  fin_cases a
  · rfl
  · show 0 + 1 * e.val = 0 * 1024 + e.val; omega

theorem load_cw_3_1 (arg : Memref sig .tc .vmem S4x3072 .f32) (harg : arg.IsWhole) (x : FVec Ideal S4x3072 .f32) (e : Fin 1024) :
    View.readAt (Elt Ideal) arg.view (Rect.unit (s := S4x3072) ![3, 1024] S1x1024.size inb_S4x3072_S1x1024_3_1024).toLoadRect (harg.unread x) (ix2 0 e) = x (ix2 3 (sec 1 e)) := by
  rw [View.readAt_apply, harg.read_unread]
  refine congrArg x ?_
  funext a
  apply Fin.ext
  fin_cases a
  · rfl
  · show 1024 + 1 * e.val = 1 * 1024 + e.val; omega

theorem load_cw_3_2 (arg : Memref sig .tc .vmem S4x3072 .f32) (harg : arg.IsWhole) (x : FVec Ideal S4x3072 .f32) (e : Fin 1024) :
    View.readAt (Elt Ideal) arg.view (Rect.unit (s := S4x3072) ![3, 2048] S1x1024.size inb_S4x3072_S1x1024_3_2048).toLoadRect (harg.unread x) (ix2 0 e) = x (ix2 3 (sec 2 e)) := by
  rw [View.readAt_apply, harg.read_unread]
  refine congrArg x ?_
  funext a
  apply Fin.ext
  fin_cases a
  · rfl
  · show 2048 + 1 * e.val = 2 * 1024 + e.val; omega

theorem load_w_0 (arg : Memref sig .tc .vmem S1024x3072 .bf16) (harg : arg.IsWhole) (x : FVec Ideal S1024x3072 .bf16) (k e : Fin 1024) :
    View.readAt (Elt Ideal) arg.view (Rect.unit (s := S1024x3072) ![0, 0] S1024x1024.size inb_S1024x3072_S1024x1024_0_0).toLoadRect (harg.unread x) (ix2 k e) = x (ix2 k (sec 0 e)) := by
  rw [View.readAt_apply, harg.read_unread]
  refine congrArg x ?_
  funext a
  apply Fin.ext
  fin_cases a
  · show 0 + 1 * k.val = k.val; omega
  · show 0 + 1 * e.val = 0 * 1024 + e.val; omega

theorem load_w_1 (arg : Memref sig .tc .vmem S1024x3072 .bf16) (harg : arg.IsWhole) (x : FVec Ideal S1024x3072 .bf16) (k e : Fin 1024) :
    View.readAt (Elt Ideal) arg.view (Rect.unit (s := S1024x3072) ![0, 1024] S1024x1024.size inb_S1024x3072_S1024x1024_0_1024).toLoadRect (harg.unread x) (ix2 k e) = x (ix2 k (sec 1 e)) := by
  rw [View.readAt_apply, harg.read_unread]
  refine congrArg x ?_
  funext a
  apply Fin.ext
  fin_cases a
  · show 0 + 1 * k.val = k.val; omega
  · show 1024 + 1 * e.val = 1 * 1024 + e.val; omega

theorem load_w_2 (arg : Memref sig .tc .vmem S1024x3072 .bf16) (harg : arg.IsWhole) (x : FVec Ideal S1024x3072 .bf16) (k e : Fin 1024) :
    View.readAt (Elt Ideal) arg.view (Rect.unit (s := S1024x3072) ![0, 2048] S1024x1024.size inb_S1024x3072_S1024x1024_0_2048).toLoadRect (harg.unread x) (ix2 k e) = x (ix2 k (sec 2 e)) := by
  rw [View.readAt_apply, harg.read_unread]
  refine congrArg x ?_
  funext a
  apply Fin.ext
  fin_cases a
  · show 0 + 1 * k.val = k.val; omega
  · show 2048 + 1 * e.val = 2 * 1024 + e.val; omega

theorem load_wt (arg : Memref sig .tc .vmem S128x1024 .bf16) (harg : arg.IsWhole) (x : FVec Ideal S128x1024 .bf16) (i : Fin 16) (k : Fin 1024) :
    View.readAt (Elt Ideal) arg.view (Rect.unit (s := S128x1024) ![0, 0] S16x1024.size inb_S128x1024_S16x1024_0_0).toLoadRect (harg.unread x) (ix2 i k) = x (ix2 ⟨i.val, by omega⟩ k) := by
  rw [View.readAt_apply, harg.read_unread]
  refine congrArg x ?_
  funext a
  apply Fin.ext
  fin_cases a
  · show 0 + 1 * i.val = i.val; omega
  · show 0 + 1 * k.val = k.val; omega

end Cert.Kernel3Ideal.Whole
end
-- ==== Proof.ConvCases.lean ====
module

public import proofs.«01_k».proof.Proof.ConvTile

/-! What a point of the input projection leaves, case by case. -/

@[expose] public section

set_option maxRecDepth 16384

noncomputable section

namespace Cert.Kernel3Ideal.Whole

open Cert.Kernel3Ideal Cert.Kernel3Ideal.Gen
open Idealize.ShloMosaic Idealize.ShloMosaic.TcCoe Idealize.ShloMosaic.Tactic Idealize.SL.Sem
open Conv

/-! The weights that the first point copies. -/

section Weights

variable (a4 : Memref sig .tc .vmem S1x4112x1024 .f32) (w4 : a4.IsWhole) (x2 : FVec Ideal S1x4112x1024 .f32)

/-- A load of 256 weight rows. -/
theorem load_256 (off : ℕ) (inb : ∀ a, (![0, off, 0] : Fin 3 → ℕ) a + S1x256x1024.size a ≤ S1x4112x1024.size a) (hoff : off + 256 ≤ 4112) (e : Fin 256) (k : Fin 1024) :
    View.readAt (Elt Ideal) a4.view (Rect.unit (s := S1x4112x1024) ![0, off, 0] S1x256x1024.size inb).toLoadRect (w4.unread x2) (ix3 0 e k)
    = x2 (ix3 0 ⟨off + e.val, by omega⟩ k) := by
  rw [View.readAt_apply, w4.read_unread]
  refine congrArg x2 ?_
  funext a
  apply Fin.ext
  fin_cases a
  · rfl
  · show off + 1 * e.val = off + e.val; omega
  · show 0 + 1 * k.val = k.val; omega

/-- A load of 128 weight rows. -/
theorem load_128 (e : Fin 128) (k : Fin 1024) :
    View.readAt (Elt Ideal) a4.view (Rect.unit (s := S1x4112x1024) ![0, 3072, 0] S1x128x1024.size inb_S1x4112x1024_S1x128x1024_0_3072_0).toLoadRect (w4.unread x2) (ix3 0 e k)
    = x2 (ix3 0 ⟨3072 + e.val, by omega⟩ k) := by
  rw [View.readAt_apply, w4.read_unread]
  refine congrArg x2 ?_
  funext a
  apply Fin.ext
  fin_cases a
  · rfl
  · show 3072 + 1 * e.val = 3072 + e.val; omega
  · show 0 + 1 * k.val = k.val; omega

/-- A piece of transposed weights, read at one of its columns. -/
theorem piece_w {n : ℕ} {P : FVec Ideal S1024x256 .bf16} (base off : ℕ) (hb : base + off + 256 ≤ 4112)
    (hP : ∀ (k : Fin 1024) (e : Fin 256), P (ix2 k e) = x2 (ix3 0 ⟨base + off + e.val, by omega⟩ k))
    (k : Fin 1024) (c : Fin n) (hn : base + n ≤ 4112) (x : S1024x256.Idx) (h0 : k.val = (x 0).val) (h1 : c.val = off + (x 1).val) :
    P x = x2 (ix3 0 ⟨base + c.val, by omega⟩ k) := by
  obtain ⟨k', e', rfl⟩ : ∃ (k' : Fin 1024) (e' : Fin 256), x = ix2 k' e' := ⟨x 0, x 1, ValueIdx.eq_ix2 x⟩
  have e0 : k = k' := Fin.ext h0
  have h1' : c.val = off + e'.val := h1
  rw [hP, e0]
  exact congrArg (fun i => x2 (ix3 0 i k')) (Fin.ext (by show base + off + e'.val = base + c.val; omega))

theorem wq_0 (v : FVec Ideal S1x256x1024 .f32) (k : Fin 1024) (e : Fin 256) : k0_pay3 (F := Ideal) v (ix2 k e) = v (ix3 0 e k) := by
  pointwise [k0_pay3]

theorem wq_1 (v : FVec Ideal S1x256x1024 .f32) (k : Fin 1024) (e : Fin 256) : k0_pay4 (F := Ideal) v (ix2 k e) = v (ix3 0 e k) := by
  pointwise [k0_pay4]

theorem wq_2 (v : FVec Ideal S1x256x1024 .f32) (k : Fin 1024) (e : Fin 256) : k0_pay5 (F := Ideal) v (ix2 k e) = v (ix3 0 e k) := by
  pointwise [k0_pay5]

theorem wq_3 (v : FVec Ideal S1x256x1024 .f32) (k : Fin 1024) (e : Fin 256) : k0_pay6 (F := Ideal) v (ix2 k e) = v (ix3 0 e k) := by
  pointwise [k0_pay6]

theorem wq_4 (v : FVec Ideal S1x256x1024 .f32) (k : Fin 1024) (e : Fin 256) : k0_pay8 (F := Ideal) (k0_pay7 (F := Ideal) v) (ix2 k e) = v (ix3 0 e k) := by
  pointwise [k0_pay8, k0_pay7]

theorem wq_5 (v : FVec Ideal S1x256x1024 .f32) (k : Fin 1024) (e : Fin 256) : k0_pay9 (F := Ideal) v (ix2 k e) = v (ix3 0 e k) := by
  pointwise [k0_pay9]

theorem wq_6 (v : FVec Ideal S1x256x1024 .f32) (k : Fin 1024) (e : Fin 256) : k0_pay10 (F := Ideal) v (ix2 k e) = v (ix3 0 e k) := by
  pointwise [k0_pay10]

theorem wq_7 (v : FVec Ideal S1x256x1024 .f32) (k : Fin 1024) (e : Fin 256) : k0_pay11 (F := Ideal) v (ix2 k e) = v (ix3 0 e k) := by
  pointwise [k0_pay11]

theorem wq_8 (v : FVec Ideal S1x256x1024 .f32) (k : Fin 1024) (e : Fin 256) : k0_pay12 (F := Ideal) v (ix2 k e) = v (ix3 0 e k) := by
  pointwise [k0_pay12]

theorem wq_9 (v : FVec Ideal S1x256x1024 .f32) (k : Fin 1024) (e : Fin 256) : k0_pay13 (F := Ideal) v (ix2 k e) = v (ix3 0 e k) := by
  pointwise [k0_pay13]

theorem wq_10 (v : FVec Ideal S1x256x1024 .f32) (k : Fin 1024) (e : Fin 256) : k0_pay14 (F := Ideal) v (ix2 k e) = v (ix3 0 e k) := by
  pointwise [k0_pay14]

theorem wq_11 (v : FVec Ideal S1x256x1024 .f32) (k : Fin 1024) (e : Fin 256) : k0_pay15 (F := Ideal) v (ix2 k e) = v (ix3 0 e k) := by
  pointwise [k0_pay15]

/-- The copied columns together. -/
theorem wq_read (v : View sig .tc .vmem S1024x3072 .bf16) (k : Fin 1024) (c : Fin 3072) : v.read (Elt Ideal) (v.writes (Elt Ideal) v.junk [⟨Rect.unit (s := S1024x3072) ![0, 2816] S1024x256.size inb_S1024x3072_S1024x256_0_2816, k0_pay15 (F := Ideal) (View.readAt (Elt Ideal) a4.view (Rect.unit (s := S1x4112x1024) ![0, 2816, 0] S1x256x1024.size inb_S1x4112x1024_S1x256x1024_0_2816_0).toLoadRect (w4.unread x2))⟩,
      ⟨Rect.unit (s := S1024x3072) ![0, 2560] S1024x256.size inb_S1024x3072_S1024x256_0_2560, k0_pay14 (F := Ideal) (View.readAt (Elt Ideal) a4.view (Rect.unit (s := S1x4112x1024) ![0, 2560, 0] S1x256x1024.size inb_S1x4112x1024_S1x256x1024_0_2560_0).toLoadRect (w4.unread x2))⟩,
      ⟨Rect.unit (s := S1024x3072) ![0, 2304] S1024x256.size inb_S1024x3072_S1024x256_0_2304, k0_pay13 (F := Ideal) (View.readAt (Elt Ideal) a4.view (Rect.unit (s := S1x4112x1024) ![0, 2304, 0] S1x256x1024.size inb_S1x4112x1024_S1x256x1024_0_2304_0).toLoadRect (w4.unread x2))⟩,
      ⟨Rect.unit (s := S1024x3072) ![0, 2048] S1024x256.size inb_S1024x3072_S1024x256_0_2048, k0_pay12 (F := Ideal) (View.readAt (Elt Ideal) a4.view (Rect.unit (s := S1x4112x1024) ![0, 2048, 0] S1x256x1024.size inb_S1x4112x1024_S1x256x1024_0_2048_0).toLoadRect (w4.unread x2))⟩,
      ⟨Rect.unit (s := S1024x3072) ![0, 1792] S1024x256.size inb_S1024x3072_S1024x256_0_1792, k0_pay11 (F := Ideal) (View.readAt (Elt Ideal) a4.view (Rect.unit (s := S1x4112x1024) ![0, 1792, 0] S1x256x1024.size inb_S1x4112x1024_S1x256x1024_0_1792_0).toLoadRect (w4.unread x2))⟩,
      ⟨Rect.unit (s := S1024x3072) ![0, 1536] S1024x256.size inb_S1024x3072_S1024x256_0_1536, k0_pay10 (F := Ideal) (View.readAt (Elt Ideal) a4.view (Rect.unit (s := S1x4112x1024) ![0, 1536, 0] S1x256x1024.size inb_S1x4112x1024_S1x256x1024_0_1536_0).toLoadRect (w4.unread x2))⟩,
      ⟨Rect.unit (s := S1024x3072) ![0, 1280] S1024x256.size inb_S1024x3072_S1024x256_0_1280, k0_pay9 (F := Ideal) (View.readAt (Elt Ideal) a4.view (Rect.unit (s := S1x4112x1024) ![0, 1280, 0] S1x256x1024.size inb_S1x4112x1024_S1x256x1024_0_1280_0).toLoadRect (w4.unread x2))⟩,
      ⟨Rect.unit (s := S1024x3072) ![0, 1024] S1024x256.size inb_S1024x3072_S1024x256_0_1024, k0_pay8 (F := Ideal) (k0_pay7 (F := Ideal) (View.readAt (Elt Ideal) a4.view (Rect.unit (s := S1x4112x1024) ![0, 1024, 0] S1x256x1024.size inb_S1x4112x1024_S1x256x1024_0_1024_0).toLoadRect (w4.unread x2)))⟩,
      ⟨Rect.unit (s := S1024x3072) ![0, 768] S1024x256.size inb_S1024x3072_S1024x256_0_768, k0_pay6 (F := Ideal) (View.readAt (Elt Ideal) a4.view (Rect.unit (s := S1x4112x1024) ![0, 768, 0] S1x256x1024.size inb_S1x4112x1024_S1x256x1024_0_768_0).toLoadRect (w4.unread x2))⟩,
      ⟨Rect.unit (s := S1024x3072) ![0, 512] S1024x256.size inb_S1024x3072_S1024x256_0_512, k0_pay5 (F := Ideal) (View.readAt (Elt Ideal) a4.view (Rect.unit (s := S1x4112x1024) ![0, 512, 0] S1x256x1024.size inb_S1x4112x1024_S1x256x1024_0_512_0).toLoadRect (w4.unread x2))⟩,
      ⟨Rect.unit (s := S1024x3072) ![0, 256] S1024x256.size inb_S1024x3072_S1024x256_0_256, k0_pay4 (F := Ideal) (View.readAt (Elt Ideal) a4.view (Rect.unit (s := S1x4112x1024) ![0, 256, 0] S1x256x1024.size inb_S1x4112x1024_S1x256x1024_0_256_0).toLoadRect (w4.unread x2))⟩,
      ⟨Rect.unit (s := S1024x3072) ![0, 0] S1024x256.size inb_S1024x3072_S1024x256_0_0, k0_pay3 (F := Ideal) (View.readAt (Elt Ideal) a4.view (Rect.unit (s := S1x4112x1024) ![0, 0, 0] S1x256x1024.size inb_S1x4112x1024_S1x256x1024_0_0_0).toLoadRect (w4.unread x2))⟩]) (ix2 k c)
    = x2 (ix3 0 ⟨0 + c.val, by omega⟩ k) := by
  rw [View.read_writes_junk_eq_canon]
  canon_tiles x hx

  case piece0 => exact piece_w x2 0 2816 (by omega) (fun k e => (wq_11 _ k e).trans (load_256 a4 w4 x2 2816 _ (by omega) e k)) k c (by omega) x (hx0.trans (by omega)) (hx1.trans (by omega))
  case piece1 => exact piece_w x2 0 2560 (by omega) (fun k e => (wq_10 _ k e).trans (load_256 a4 w4 x2 2560 _ (by omega) e k)) k c (by omega) x (hx0.trans (by omega)) (hx1.trans (by omega))
  case piece2 => exact piece_w x2 0 2304 (by omega) (fun k e => (wq_9 _ k e).trans (load_256 a4 w4 x2 2304 _ (by omega) e k)) k c (by omega) x (hx0.trans (by omega)) (hx1.trans (by omega))
  case piece3 => exact piece_w x2 0 2048 (by omega) (fun k e => (wq_8 _ k e).trans (load_256 a4 w4 x2 2048 _ (by omega) e k)) k c (by omega) x (hx0.trans (by omega)) (hx1.trans (by omega))
  case piece4 => exact piece_w x2 0 1792 (by omega) (fun k e => (wq_7 _ k e).trans (load_256 a4 w4 x2 1792 _ (by omega) e k)) k c (by omega) x (hx0.trans (by omega)) (hx1.trans (by omega))
  case piece5 => exact piece_w x2 0 1536 (by omega) (fun k e => (wq_6 _ k e).trans (load_256 a4 w4 x2 1536 _ (by omega) e k)) k c (by omega) x (hx0.trans (by omega)) (hx1.trans (by omega))
  case piece6 => exact piece_w x2 0 1280 (by omega) (fun k e => (wq_5 _ k e).trans (load_256 a4 w4 x2 1280 _ (by omega) e k)) k c (by omega) x (hx0.trans (by omega)) (hx1.trans (by omega))
  case piece7 => exact piece_w x2 0 1024 (by omega) (fun k e => (wq_4 _ k e).trans (load_256 a4 w4 x2 1024 _ (by omega) e k)) k c (by omega) x (hx0.trans (by omega)) (hx1.trans (by omega))
  case piece8 => exact piece_w x2 0 768 (by omega) (fun k e => (wq_3 _ k e).trans (load_256 a4 w4 x2 768 _ (by omega) e k)) k c (by omega) x (hx0.trans (by omega)) (hx1.trans (by omega))
  case piece9 => exact piece_w x2 0 512 (by omega) (fun k e => (wq_2 _ k e).trans (load_256 a4 w4 x2 512 _ (by omega) e k)) k c (by omega) x (hx0.trans (by omega)) (hx1.trans (by omega))
  case piece10 => exact piece_w x2 0 256 (by omega) (fun k e => (wq_1 _ k e).trans (load_256 a4 w4 x2 256 _ (by omega) e k)) k c (by omega) x (hx0.trans (by omega)) (hx1.trans (by omega))
  case piece11 => exact piece_w x2 0 0 (by omega) (fun k e => (wq_0 _ k e).trans (load_256 a4 w4 x2 0 _ (by omega) e k)) k c (by omega) x (hx0.trans (by omega)) (hx1.trans (by omega))
theorem wz_0 (v : FVec Ideal S1x256x1024 .f32) (k : Fin 1024) (e : Fin 256) : k0_pay19 (F := Ideal) v (ix2 k e) = v (ix3 0 e k) := by
  pointwise [k0_pay19]

theorem wz_1 (v : FVec Ideal S1x256x1024 .f32) (k : Fin 1024) (e : Fin 256) : k0_pay20 (F := Ideal) v (ix2 k e) = v (ix3 0 e k) := by
  pointwise [k0_pay20]

theorem wz_2 (v : FVec Ideal S1x256x1024 .f32) (k : Fin 1024) (e : Fin 256) : k0_pay21 (F := Ideal) v (ix2 k e) = v (ix3 0 e k) := by
  pointwise [k0_pay21]

theorem wz_3 (v : FVec Ideal S1x256x1024 .f32) (k : Fin 1024) (e : Fin 256) : k0_pay22 (F := Ideal) v (ix2 k e) = v (ix3 0 e k) := by
  pointwise [k0_pay22]

/-- The copied columns together. -/
theorem wz_read (v : View sig .tc .vmem S1024x1024 .bf16) (k : Fin 1024) (c : Fin 1024) : v.read (Elt Ideal) (v.writes (Elt Ideal) v.junk [⟨Rect.unit (s := S1024x1024) ![0, 768] S1024x256.size inb_S1024x1024_S1024x256_0_768, k0_pay22 (F := Ideal) (View.readAt (Elt Ideal) a4.view (Rect.unit (s := S1x4112x1024) ![0, 3856, 0] S1x256x1024.size inb_S1x4112x1024_S1x256x1024_0_3856_0).toLoadRect (w4.unread x2))⟩,
      ⟨Rect.unit (s := S1024x1024) ![0, 512] S1024x256.size inb_S1024x1024_S1024x256_0_512, k0_pay21 (F := Ideal) (View.readAt (Elt Ideal) a4.view (Rect.unit (s := S1x4112x1024) ![0, 3600, 0] S1x256x1024.size inb_S1x4112x1024_S1x256x1024_0_3600_0).toLoadRect (w4.unread x2))⟩,
      ⟨Rect.unit (s := S1024x1024) ![0, 256] S1024x256.size inb_S1024x1024_S1024x256_0_256, k0_pay20 (F := Ideal) (View.readAt (Elt Ideal) a4.view (Rect.unit (s := S1x4112x1024) ![0, 3344, 0] S1x256x1024.size inb_S1x4112x1024_S1x256x1024_0_3344_0).toLoadRect (w4.unread x2))⟩,
      ⟨Rect.unit (s := S1024x1024) ![0, 0] S1024x256.size inb_S1024x1024_S1024x256_0_0, k0_pay19 (F := Ideal) (View.readAt (Elt Ideal) a4.view (Rect.unit (s := S1x4112x1024) ![0, 3088, 0] S1x256x1024.size inb_S1x4112x1024_S1x256x1024_0_3088_0).toLoadRect (w4.unread x2))⟩]) (ix2 k c)
    = x2 (ix3 0 ⟨3088 + c.val, by omega⟩ k) := by
  rw [View.read_writes_junk_eq_canon]
  canon_tiles x hx

  case piece0 => exact piece_w x2 3088 768 (by omega) (fun k e => (wz_3 _ k e).trans (load_256 a4 w4 x2 3856 _ (by omega) e k)) k c (by omega) x (hx0.trans (by omega)) (hx1.trans (by omega))
  case piece1 => exact piece_w x2 3088 512 (by omega) (fun k e => (wz_2 _ k e).trans (load_256 a4 w4 x2 3600 _ (by omega) e k)) k c (by omega) x (hx0.trans (by omega)) (hx1.trans (by omega))
  case piece2 => exact piece_w x2 3088 256 (by omega) (fun k e => (wz_1 _ k e).trans (load_256 a4 w4 x2 3344 _ (by omega) e k)) k c (by omega) x (hx0.trans (by omega)) (hx1.trans (by omega))
  case piece3 => exact piece_w x2 3088 0 (by omega) (fun k e => (wz_0 _ k e).trans (load_256 a4 w4 x2 3088 _ (by omega) e k)) k c (by omega) x (hx0.trans (by omega)) (hx1.trans (by omega))

theorem wb_read (v : View sig .tc .vmem S1024x128 .bf16) (k : Fin 1024) (e : Fin 128) : v.read (Elt Ideal) (v.writes (Elt Ideal) v.junk
    [⟨Rect.unit (s := S1024x128) ![0, 0] S1024x128.size inb_S1024x128_S1024x128_0_0, k0_pay18 (F := Ideal) (View.readAt (Elt Ideal) a4.view (Rect.unit (s := S1x4112x1024) ![0, 3072, 0] S1x128x1024.size inb_S1x4112x1024_S1x128x1024_0_3072_0).toLoadRect (w4.unread x2))⟩]) (ix2 k e)
    = x2 (ix3 0 ⟨3072 + e.val, by omega⟩ k) := by
  rw [View.read_writes_junk_eq_canon, View.canon_cons_unit_lit' inb_S1024x128_S1024x128_0_0 _ _ (by decide)]
  refine Eq.trans ?_ (load_128 a4 w4 x2 e k)
  pointwise [k0_pay18, k0_pay16]

theorem wt_read (v : View sig .tc .vmem S128x1024 .bf16) (e : Fin 128) (k : Fin 1024) : v.read (Elt Ideal) (v.writes (Elt Ideal) v.junk
    [⟨Rect.unit (s := S128x1024) ![0, 0] S128x1024.size inb_S128x1024_S128x1024_0_0, k0_pay17 (F := Ideal) (View.readAt (Elt Ideal) a4.view (Rect.unit (s := S1x4112x1024) ![0, 3072, 0] S1x128x1024.size inb_S1x4112x1024_S1x128x1024_0_3072_0).toLoadRect (w4.unread x2))⟩]) (ix2 e k)
    = x2 (ix3 0 ⟨3072 + e.val, by omega⟩ k) := by
  rw [View.read_writes_junk_eq_canon, View.canon_cons_unit_lit' inb_S128x1024_S128x1024_0_0 _ _ (by decide)]
  refine Eq.trans ?_ (load_128 a4 w4 x2 e k)
  pointwise [k0_pay17, k0_pay16]

end Weights

theorem at_w_0 (v : View sig .tc .vmem S1024x3072 .bf16) (g : v.ty.Contents (Elt Ideal)) (k : Fin 1024) (e : Fin 1024) :
    View.readAt (Elt Ideal) v (Rect.unit (s := S1024x3072) ![0, 0] S1024x1024.size inb_S1024x3072_S1024x1024_0_0).toLoadRect g (ix2 k e) = v.read (Elt Ideal) g (ix2 k (sec 0 e)) := by
  refine congrArg (v.read (Elt Ideal) g) ?_
  funext a
  apply Fin.ext
  fin_cases a
  · show 0 + 1 * k.val = k.val; omega
  · show 0 + 1 * e.val = 0 * 1024 + e.val; omega

theorem at_w_1 (v : View sig .tc .vmem S1024x3072 .bf16) (g : v.ty.Contents (Elt Ideal)) (k : Fin 1024) (e : Fin 1024) :
    View.readAt (Elt Ideal) v (Rect.unit (s := S1024x3072) ![0, 1024] S1024x1024.size inb_S1024x3072_S1024x1024_0_1024).toLoadRect g (ix2 k e) = v.read (Elt Ideal) g (ix2 k (sec 1 e)) := by
  refine congrArg (v.read (Elt Ideal) g) ?_
  funext a
  apply Fin.ext
  fin_cases a
  · show 0 + 1 * k.val = k.val; omega
  · show 1024 + 1 * e.val = 1 * 1024 + e.val; omega

theorem at_w_2 (v : View sig .tc .vmem S1024x3072 .bf16) (g : v.ty.Contents (Elt Ideal)) (k : Fin 1024) (e : Fin 1024) :
    View.readAt (Elt Ideal) v (Rect.unit (s := S1024x3072) ![0, 2048] S1024x1024.size inb_S1024x3072_S1024x1024_0_2048).toLoadRect g (ix2 k e) = v.read (Elt Ideal) g (ix2 k (sec 2 e)) := by
  refine congrArg (v.read (Elt Ideal) g) ?_
  funext a
  apply Fin.ext
  fin_cases a
  · show 0 + 1 * k.val = k.val; omega
  · show 2048 + 1 * e.val = 2 * 1024 + e.val; omega

theorem at_wb (v : View sig .tc .vmem S1024x128 .bf16) (g : v.ty.Contents (Elt Ideal)) (k : Fin 1024) (e : Fin 128) :
    View.readAt (Elt Ideal) v (Rect.unit (s := S1024x128) ![0, 0] S1024x128.size inb_S1024x128_S1024x128_0_0).toLoadRect g (ix2 k e) = v.read (Elt Ideal) g (ix2 k e) := by
  refine congrArg (v.read (Elt Ideal) g) ?_
  funext a
  apply Fin.ext
  fin_cases a
  · show 0 + 1 * k.val = k.val; omega
  · show 0 + 1 * e.val = e.val; omega

theorem at_wz (v : View sig .tc .vmem S1024x1024 .bf16) (g : v.ty.Contents (Elt Ideal)) (k : Fin 1024) (e : Fin 1024) :
    View.readAt (Elt Ideal) v (Rect.unit (s := S1024x1024) ![0, 0] S1024x1024.size inb_S1024x1024_S1024x1024_0_0).toLoadRect g (ix2 k e) = v.read (Elt Ideal) g (ix2 k e) := by
  refine congrArg (v.read (Elt Ideal) g) ?_
  funext a
  apply Fin.ext
  fin_cases a
  · show 0 + 1 * k.val = k.val; omega
  · show 0 + 1 * e.val = e.val; omega

theorem at_wt (v : View sig .tc .vmem S128x1024 .bf16) (g : v.ty.Contents (Elt Ideal)) (k : Fin 16) (e : Fin 1024) :
    View.readAt (Elt Ideal) v (Rect.unit (s := S128x1024) ![0, 0] S16x1024.size inb_S128x1024_S16x1024_0_0).toLoadRect g (ix2 k e) = v.read (Elt Ideal) g (ix2 (⟨k.val, by omega⟩ : Fin 128) e) := by
  refine congrArg (v.read (Elt Ideal) g) ?_
  funext a
  apply Fin.ext
  fin_cases a
  · show 0 + 1 * k.val = k.val; omega
  · show 0 + 1 * e.val = e.val; omega

/-- The rows kept from the tile before. -/
theorem rows_kept (a17 : Memref sig .tc .vmem S520x3072 .f32) (w17 : a17.IsWhole) (xs0 : FVec Ideal S520x3072 .f32) (b : Fin 8) (c : Fin 3072) :
    a17.view.read (Elt Ideal) (a17.view.writes (Elt Ideal) (w17.unread xs0) []) (ix2 ⟨b.val, by omega⟩ c) = xs0 (ix2 ⟨b.val, by omega⟩ c) := by
  show a17.view.read (Elt Ideal) (w17.unread xs0) _ = _
  rw [w17.read_unread]

/-- Rows agree if their sections do. -/
theorem rows_of {X Y : Fin 3072 → EReal} (h0 : ∀ e, X (sec 0 e) = Y (sec 0 e)) (h1 : ∀ e, X (sec 1 e) = Y (sec 1 e)) (h2 : ∀ e, X (sec 2 e) = Y (sec 2 e)) (e : Fin 3072) : X e = Y e := by
  obtain ⟨s, j, rfl⟩ := sec_cases e
  fin_cases s
  · exact h0 j
  · exact h1 j
  · exact h2 j

section Cases

variable (c : Dev nD) (i : grid0.Coords) (a2 : Memref sig .tc .vmem S512x1024 .f32) (w2 : a2.IsWhole) (a3 : Memref sig .tc .vmem S1x1024 .f32) (w3 : a3.IsWhole) (a4 : Memref sig .tc .vmem S1x4112x1024 .f32) (w4 : a4.IsWhole) (a5 : Memref sig .tc .vmem S4x3072 .f32) (w5 : a5.IsWhole) (a6 : Memref sig .tc .vmem S1x8 .f32) (w6 : a6.IsWhole) (a7 : Memref sig .tc .vmem S1x8 .f32) (w7 : a7.IsWhole) (a8 : Memref sig .tc .vmem S8x1 .f32) (w8 : a8.IsWhole) (a9 : Memref sig .tc .vmem S8x1 .f32) (w9 : a9.IsWhole) (a10 : Memref sig .tc .vmem S512x1024 .f32) (w10 : a10.IsWhole) (a11 : Memref sig .tc .vmem S512x1024 .f32) (w11 : a11.IsWhole) (a12 : Memref sig .tc .vmem S512x1024 .f32) (w12 : a12.IsWhole) (a13 : Memref sig .tc .vmem S512x8 .f32) (w13 : a13.IsWhole) (a14 : Memref sig .tc .vmem S512x8 .f32) (w14 : a14.IsWhole) (a15 : Memref sig .tc .vmem S8x512 .f32) (w15 : a15.IsWhole) (a16 : Memref sig .tc .vmem S512x1024 .f32) (w16 : a16.IsWhole) (a17 : Memref sig .tc .vmem S520x3072 .f32) (w17 : a17.IsWhole) (a18 : Memref sig .tc .vmem S1024x3072 .bf16) (w18 : a18.IsWhole) (a19 : Memref sig .tc .vmem S1024x128 .bf16) (w19 : a19.IsWhole) (a20 : Memref sig .tc .vmem S128x1024 .bf16) (w20 : a20.IsWhole) (a21 : Memref sig .tc .vmem S1024x1024 .bf16) (w21 : a21.IsWhole)
  (x0 : FVec Ideal S512x1024 .f32) (x1 : FVec Ideal S1x1024 .f32) (x2 : FVec Ideal S1x4112x1024 .f32) (x3 : FVec Ideal S4x3072 .f32) (x4 : FVec Ideal S1x8 .f32) (x5 : FVec Ideal S1x8 .f32) (x6 : FVec Ideal S8x1 .f32) (x7 : FVec Ideal S8x1 .f32) (xs0 : FVec Ideal S520x3072 .f32) (xs1 : FVec Ideal S1024x3072 .bf16) (xs2 : FVec Ideal S1024x128 .bf16) (xs3 : FVec Ideal S128x1024 .bf16) (xs4 : FVec Ideal S1024x1024 .bf16)
/-- A tile's step sizes. -/
def tileBeta (WB : Fin 1024 → Fin 128 → EReal) (r : Fin 512) (e : Fin 8) : EReal :=
  Ple.sigm (∑ k, Ple.normed (fun e => x0 (ix2 r e)) (fun e => x1 (ix2 0 e)) k * WB k ⟨e.val, by omega⟩)
/-- A tile's log decays. -/
def tileG (WB : Fin 1024 → Fin 128 → EReal) (r : Fin 512) (e : Fin 8) : EReal :=
  decay (x4 (ix2 0 e)) ((∑ k, Ple.normed (fun e => x0 (ix2 r e)) (fun e => x1 (ix2 0 e)) k * WB k ⟨8 + e.val, by omega⟩) + x5 (ix2 0 e))
/-- A tile's log decays, as rows. -/
def tileGt (WT : Fin 128 → Fin 1024 → EReal) (e : Fin 8) (r : Fin 512) : EReal :=
  decay (x6 (ix2 e 0)) ((∑ k, WT ⟨8 + e.val, by omega⟩ k * Ple.normed (fun e => x0 (ix2 r e)) (fun e => x1 (ix2 0 e)) k) + x7 (ix2 e 0))
/-- A tile's gate rows. -/
def tileZ (WZ : Fin 1024 → Fin 1024 → EReal) (r : Fin 512) (e : Fin 1024) : EReal :=
  ∑ k, Ple.normed (fun e => x0 (ix2 r e)) (fun e => x1 (ix2 0 e)) k * WZ k e

section
variable {x0 x1 x4 x5 x6 x7}
variable {v5 : FVec Ideal S512x1024 .f32} {v6 : FVec Ideal S1x1024 .f32} (h5 : v5 = x0) (h6 : v6 = x1)
include h5 h6
theorem beta_of {v24 : FVec Ideal S1024x128 .bf16} {WB : Fin 1024 → Fin 128 → EReal} (hw : ∀ k e, v24 (ix2 k e) = WB k e) (r : Fin 512) (e : Fin 8) :
    k0_pay26 (F := Ideal) v5 v6 v24 (ix2 r e) = tileBeta x0 x1 WB r e := by
  rw [pay26_at, pay25_at]; simp only [pay23_at, hw, h5, h6]; rfl
theorem g_of {v24 : FVec Ideal S1024x128 .bf16} {WB : Fin 1024 → Fin 128 → EReal} {a d : FVec Ideal S1x8 .f32} (hw : ∀ k e, v24 (ix2 k e) = WB k e) (h4 : a = x4) (h5' : d = x5) (r : Fin 512) (e : Fin 8) :
    k0_pay27 (F := Ideal) (k0_pay25 (F := Ideal) v5 v6 v24) a d (ix2 r e) = tileG x0 x1 x4 x5 WB r e := by
  rw [pay27_at, pay25_at]; simp only [pay23_at, hw, h5, h6, h4, h5']; rfl
theorem gt_of {v56 : FVec Ideal S16x1024 .bf16} {WT : Fin 128 → Fin 1024 → EReal} {a d : FVec Ideal S8x1 .f32} (hw : ∀ (i : Fin 16) k, v56 (ix2 i k) = WT ⟨i.val, by omega⟩ k) (h4 : a = x6) (h5' : d = x7) (e : Fin 8) (r : Fin 512) :
    k0_pay33 (F := Ideal) (k0_pay28 (F := Ideal) a) (k0_pay30 (F := Ideal) (k0_pay23 (F := Ideal) v5 v6) v56 d) (k0_pay31 (F := Ideal) (k0_pay23 (F := Ideal) v5 v6) v56 d) (k0_pay32 (F := Ideal)) (ix2 e r) = tileGt x0 x1 x6 x7 WT e r := by
  rw [pay33_at]; simp only [pay23_at, hw, h5, h6, h4, h5']; rfl
theorem z_of {v21 : FVec Ideal S1024x1024 .bf16} {WZ : Fin 1024 → Fin 1024 → EReal} (hw : ∀ k e, v21 (ix2 k e) = WZ k e) (r : Fin 512) (e : Fin 1024) :
    k0_pay24 (F := Ideal) v5 v6 v21 (ix2 r e) = tileZ x0 x1 WZ r e := by
  rw [pay24_at]; simp only [pay23_at, hw, h5, h6]; rfl
end

/-- A later tile's queries. -/
theorem B_q (hc0 : ¬cond0_0 i) (hc1 : ¬cond0_1 i) (r : Fin 512) (h : Fin 8) (j : Fin 128) : out0_B_8 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs0 xs1 xs2 xs3 xs4 (ix2 r (hcol h j))
    = l2 qs (fun k => tileAct x0 x1 (fun k c => xs1 (ix2 k c)) x3 (fun b c => xs0 (ix2 (⟨b.val, by omega⟩ : Fin 520) c)) r (sec 0 (hcol h k))) j := by
  unfold out0_B_8
  rw [View.read_writes_junk_eq_canon]
  refine (heads_q _ _ _ r h j).trans ?_
  refine congrArg (fun y => l2 qs y j) (funext fun k => ?_)
  exact act_q_of (load_x a2 w2 x0 _) (load_n a3 w3 x1 _) (load_w_0 a18 w18 xs1) (load_cw_0_0 a5 w5 x3) (load_cw_1_0 a5 w5 x3) (load_cw_2_0 a5 w5 x3) (load_cw_3_0 a5 w5 x3)
    (win_5_0 (load_x a2 w2 x0 _) (load_n a3 w3 x1 _) (load_w_0 a18 w18 xs1) (rows_kept a17 w17 xs0))
    (win_6_0 (load_x a2 w2 x0 _) (load_n a3 w3 x1 _) (load_w_0 a18 w18 xs1) (rows_kept a17 w17 xs0))
    (win_7_0 (load_x a2 w2 x0 _) (load_n a3 w3 x1 _) (load_w_0 a18 w18 xs1) (rows_kept a17 w17 xs0)) r _

/-- A later tile's keys. -/
theorem B_k (hc0 : ¬cond0_0 i) (hc1 : ¬cond0_1 i) (r : Fin 512) (h : Fin 8) (j : Fin 128) : out0_B_9 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs0 xs1 xs2 xs3 xs4 (ix2 r (hcol h j))
    = unit (fun k => tileAct x0 x1 (fun k c => xs1 (ix2 k c)) x3 (fun b c => xs0 (ix2 (⟨b.val, by omega⟩ : Fin 520) c)) r (sec 1 (hcol h k))) j := by
  unfold out0_B_9
  rw [View.read_writes_junk_eq_canon]
  refine (heads_k _ _ _ _ _ _ _ _ r h j).trans ?_
  refine congrArg (fun y => unit y j) (funext fun k => ?_)
  exact act_k_of (load_x a2 w2 x0 _) (load_n a3 w3 x1 _) (load_w_1 a18 w18 xs1) (load_cw_0_1 a5 w5 x3) (load_cw_1_1 a5 w5 x3) (load_cw_2_1 a5 w5 x3) (load_cw_3_1 a5 w5 x3)
    (win_5_1 (load_x a2 w2 x0 _) (load_n a3 w3 x1 _) (load_w_1 a18 w18 xs1) (rows_kept a17 w17 xs0))
    (win_6_1 (load_x a2 w2 x0 _) (load_n a3 w3 x1 _) (load_w_1 a18 w18 xs1) (rows_kept a17 w17 xs0))
    (win_7_1 (load_x a2 w2 x0 _) (load_n a3 w3 x1 _) (load_w_1 a18 w18 xs1) (rows_kept a17 w17 xs0)) r _

/-- A later tile's values. -/
theorem B_v (hc0 : ¬cond0_0 i) (hc1 : ¬cond0_1 i) (r : Fin 512) (e : Fin 1024) : out0_B_10 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs0 xs1 xs2 xs3 xs4 (ix2 r e)
    = tileAct x0 x1 (fun k c => xs1 (ix2 k c)) x3 (fun b c => xs0 (ix2 (⟨b.val, by omega⟩ : Fin 520) c)) r (sec 2 e) := by
  unfold out0_B_10
  rw [View.read_writes_junk_eq_canon]
  refine (congrFun (View.canon_cons_unit_lit' inb_S512x1024_S512x1024_0_0 _ _ (by decide)) _).trans ?_
  exact act_v_of (load_x a2 w2 x0 _) (load_n a3 w3 x1 _) (load_w_2 a18 w18 xs1) (load_cw_0_2 a5 w5 x3) (load_cw_1_2 a5 w5 x3) (load_cw_2_2 a5 w5 x3) (load_cw_3_2 a5 w5 x3)
    (win_5_2 (load_x a2 w2 x0 _) (load_n a3 w3 x1 _) (load_w_2 a18 w18 xs1) (rows_kept a17 w17 xs0))
    (win_6_2 (load_x a2 w2 x0 _) (load_n a3 w3 x1 _) (load_w_2 a18 w18 xs1) (rows_kept a17 w17 xs0))
    (win_7_2 (load_x a2 w2 x0 _) (load_n a3 w3 x1 _) (load_w_2 a18 w18 xs1) (rows_kept a17 w17 xs0)) r e

/-- A later tile's step sizes. -/
theorem B_beta (hc0 : ¬cond0_0 i) (hc1 : ¬cond0_1 i) (r : Fin 512) (e : Fin 8) : out0_B_11 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs0 xs1 xs2 xs3 xs4 (ix2 r e)
    = tileBeta x0 x1 (fun k e => xs2 (ix2 k e)) r e := by
  unfold out0_B_11
  rw [View.read_writes_junk_eq_canon]
  refine (congrFun (View.canon_cons_unit_lit' inb_S512x8_S512x8_0_0 _ _ (by decide)) _).trans ?_
  exact beta_of (load_x a2 w2 x0 _) (load_n a3 w3 x1 _) (fun k e => congrFun (load_wb a19 w19 xs2 _) (ix2 k e)) r e

/-- A later tile's log decays. -/
theorem B_g (hc0 : ¬cond0_0 i) (hc1 : ¬cond0_1 i) (r : Fin 512) (e : Fin 8) : out0_B_12 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs0 xs1 xs2 xs3 xs4 (ix2 r e)
    = tileG x0 x1 x4 x5 (fun k e => xs2 (ix2 k e)) r e := by
  unfold out0_B_12
  rw [View.read_writes_junk_eq_canon]
  refine (congrFun (View.canon_cons_unit_lit' inb_S512x8_S512x8_0_0 _ _ (by decide)) _).trans ?_
  exact g_of (load_x a2 w2 x0 _) (load_n a3 w3 x1 _) (fun k e => congrFun (load_wb a19 w19 xs2 _) (ix2 k e)) (load_row a6 w6 x4 _) (load_row a7 w7 x5 _) r e

/-- A later tile's log decays as rows. -/
theorem B_gt (hc0 : ¬cond0_0 i) (hc1 : ¬cond0_1 i) (e : Fin 8) (r : Fin 512) : out0_B_13 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs0 xs1 xs2 xs3 xs4 (ix2 e r)
    = tileGt x0 x1 x6 x7 (fun e k => xs3 (ix2 e k)) e r := by
  unfold out0_B_13
  rw [View.read_writes_junk_eq_canon]
  refine (congrFun (View.canon_cons_unit_lit' inb_S8x512_S8x512_0_0 _ _ (by decide)) _).trans ?_
  exact gt_of (load_x a2 w2 x0 _) (load_n a3 w3 x1 _) (load_wt a20 w20 xs3) (load_col a8 w8 x6 _) (load_col a9 w9 x7 _) e r

/-- A later tile's gate rows. -/
theorem B_z (hc0 : ¬cond0_0 i) (hc1 : ¬cond0_1 i) (r : Fin 512) (e : Fin 1024) : out0_B_14 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs0 xs1 xs2 xs3 xs4 (ix2 r e)
    = tileZ x0 x1 (fun k e => xs4 (ix2 k e)) r e := by
  unfold out0_B_14
  rw [View.read_writes_junk_eq_canon]
  refine (congrFun (View.canon_cons_unit_lit' inb_S512x1024_S512x1024_0_0 _ _ (by decide)) _).trans ?_
  exact z_of (load_x a2 w2 x0 _) (load_n a3 w3 x1 _) (fun k e => congrFun (load_wz a21 w21 xs4 _) (ix2 k e)) r e

theorem B_buf_0 (hc0 : ¬cond0_0 i) (hc1 : ¬cond0_1 i) (b : Fin 8) (e : Fin 1024) : sout0_B_0 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs0 xs1 xs2 xs3 xs4 (ix2 ⟨b.val, by omega⟩ (sec 0 e))
    = dots x0 x1 (fun k c => xs1 (ix2 k c)) ⟨504 + b.val, by omega⟩ (sec 0 e) := by
  unfold sout0_B_0
  exact (read_6_0 _ _ _ _ _ _ _ _ _ b e).trans ((pay39_at _ b e).trans (last_0 (load_x a2 w2 x0 _) (load_n a3 w3 x1 _) (load_w_0 a18 w18 xs1) b e))

theorem B_buf_1 (hc0 : ¬cond0_0 i) (hc1 : ¬cond0_1 i) (b : Fin 8) (e : Fin 1024) : sout0_B_0 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs0 xs1 xs2 xs3 xs4 (ix2 ⟨b.val, by omega⟩ (sec 1 e))
    = dots x0 x1 (fun k c => xs1 (ix2 k c)) ⟨504 + b.val, by omega⟩ (sec 1 e) := by
  unfold sout0_B_0
  exact (read_6_1 _ _ _ _ _ _ _ _ _ b e).trans ((pay55_at _ b e).trans (last_1 (load_x a2 w2 x0 _) (load_n a3 w3 x1 _) (load_w_1 a18 w18 xs1) b e))

theorem B_buf_2 (hc0 : ¬cond0_0 i) (hc1 : ¬cond0_1 i) (b : Fin 8) (e : Fin 1024) : sout0_B_0 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs0 xs1 xs2 xs3 xs4 (ix2 ⟨b.val, by omega⟩ (sec 2 e))
    = dots x0 x1 (fun k c => xs1 (ix2 k c)) ⟨504 + b.val, by omega⟩ (sec 2 e) := by
  unfold sout0_B_0
  exact (read_6_2 _ _ _ _ _ _ _ _ _ b e).trans ((pay1_at _ b e).trans (last_2 (load_x a2 w2 x0 _) (load_n a3 w3 x1 _) (load_w_2 a18 w18 xs1) b e))

/-- A later tile's last eight rows. -/
theorem B_buf (hc0 : ¬cond0_0 i) (hc1 : ¬cond0_1 i) (b : Fin 8) (e : Fin 3072) : sout0_B_0 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs0 xs1 xs2 xs3 xs4 (ix2 ⟨b.val, by omega⟩ e)
    = dots x0 x1 (fun k c => xs1 (ix2 k c)) ⟨504 + b.val, by omega⟩ e :=
  rows_of (X := fun e => sout0_B_0 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs0 xs1 xs2 xs3 xs4 (ix2 ⟨b.val, by omega⟩ e)) (Y := fun e => dots x0 x1 (fun k c => xs1 (ix2 k c)) ⟨504 + b.val, by omega⟩ e) (B_buf_0 c i a2 w2 a3 w3 a4 w4 a5 w5 a6 w6 a7 w7 a8 w8 a9 w9 a10 w10 a11 w11 a12 w12 a13 w13 a14 w14 a15 w15 a16 w16 a17 w17 a18 w18 a19 w19 a20 w20 a21 w21 x0 x1 x2 x3 x4 x5 x6 x7 xs0 xs1 xs2 xs3 xs4 hc0 hc1 b) (B_buf_1 c i a2 w2 a3 w3 a4 w4 a5 w5 a6 w6 a7 w7 a8 w8 a9 w9 a10 w10 a11 w11 a12 w12 a13 w13 a14 w14 a15 w15 a16 w16 a17 w17 a18 w18 a19 w19 a20 w20 a21 w21 x0 x1 x2 x3 x4 x5 x6 x7 xs0 xs1 xs2 xs3 xs4 hc0 hc1 b) (B_buf_2 c i a2 w2 a3 w3 a4 w4 a5 w5 a6 w6 a7 w7 a8 w8 a9 w9 a10 w10 a11 w11 a12 w12 a13 w13 a14 w14 a15 w15 a16 w16 a17 w17 a18 w18 a19 w19 a20 w20 a21 w21 x0 x1 x2 x3 x4 x5 x6 x7 xs0 xs1 xs2 xs3 xs4 hc0 hc1 b) e

/-- A sequence's first tile's queries. -/
theorem C_q (hc0 : ¬cond0_0 i) (hc1 : cond0_1 i) (r : Fin 512) (h : Fin 8) (j : Fin 128) : out0_C_8 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs1 xs2 xs3 xs4 (ix2 r (hcol h j))
    = l2 qs (fun k => tileAct x0 x1 (fun k c => xs1 (ix2 k c)) x3 (fun _ _ => 0) r (sec 0 (hcol h k))) j := by
  unfold out0_C_8
  rw [View.read_writes_junk_eq_canon]
  refine (heads_q _ _ _ r h j).trans ?_
  refine congrArg (fun y => l2 qs y j) (funext fun k => ?_)
  exact act_q_of (load_x a2 w2 x0 _) (load_n a3 w3 x1 _) (load_w_0 a18 w18 xs1) (load_cw_0_0 a5 w5 x3) (load_cw_1_0 a5 w5 x3) (load_cw_2_0 a5 w5 x3) (load_cw_3_0 a5 w5 x3)
    (win_5_0 (load_x a2 w2 x0 _) (load_n a3 w3 x1 _) (load_w_0 a18 w18 xs1) zeros_at)
    (win_6_0 (load_x a2 w2 x0 _) (load_n a3 w3 x1 _) (load_w_0 a18 w18 xs1) zeros_at)
    (win_7_0 (load_x a2 w2 x0 _) (load_n a3 w3 x1 _) (load_w_0 a18 w18 xs1) zeros_at) r _

/-- A sequence's first tile's keys. -/
theorem C_k (hc0 : ¬cond0_0 i) (hc1 : cond0_1 i) (r : Fin 512) (h : Fin 8) (j : Fin 128) : out0_C_9 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs1 xs2 xs3 xs4 (ix2 r (hcol h j))
    = unit (fun k => tileAct x0 x1 (fun k c => xs1 (ix2 k c)) x3 (fun _ _ => 0) r (sec 1 (hcol h k))) j := by
  unfold out0_C_9
  rw [View.read_writes_junk_eq_canon]
  refine (heads_k _ _ _ _ _ _ _ _ r h j).trans ?_
  refine congrArg (fun y => unit y j) (funext fun k => ?_)
  exact act_k_of (load_x a2 w2 x0 _) (load_n a3 w3 x1 _) (load_w_1 a18 w18 xs1) (load_cw_0_1 a5 w5 x3) (load_cw_1_1 a5 w5 x3) (load_cw_2_1 a5 w5 x3) (load_cw_3_1 a5 w5 x3)
    (win_5_1 (load_x a2 w2 x0 _) (load_n a3 w3 x1 _) (load_w_1 a18 w18 xs1) zeros_at)
    (win_6_1 (load_x a2 w2 x0 _) (load_n a3 w3 x1 _) (load_w_1 a18 w18 xs1) zeros_at)
    (win_7_1 (load_x a2 w2 x0 _) (load_n a3 w3 x1 _) (load_w_1 a18 w18 xs1) zeros_at) r _

/-- A sequence's first tile's values. -/
theorem C_v (hc0 : ¬cond0_0 i) (hc1 : cond0_1 i) (r : Fin 512) (e : Fin 1024) : out0_C_10 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs1 xs2 xs3 xs4 (ix2 r e)
    = tileAct x0 x1 (fun k c => xs1 (ix2 k c)) x3 (fun _ _ => 0) r (sec 2 e) := by
  unfold out0_C_10
  rw [View.read_writes_junk_eq_canon]
  refine (congrFun (View.canon_cons_unit_lit' inb_S512x1024_S512x1024_0_0 _ _ (by decide)) _).trans ?_
  exact act_v_of (load_x a2 w2 x0 _) (load_n a3 w3 x1 _) (load_w_2 a18 w18 xs1) (load_cw_0_2 a5 w5 x3) (load_cw_1_2 a5 w5 x3) (load_cw_2_2 a5 w5 x3) (load_cw_3_2 a5 w5 x3)
    (win_5_2 (load_x a2 w2 x0 _) (load_n a3 w3 x1 _) (load_w_2 a18 w18 xs1) zeros_at)
    (win_6_2 (load_x a2 w2 x0 _) (load_n a3 w3 x1 _) (load_w_2 a18 w18 xs1) zeros_at)
    (win_7_2 (load_x a2 w2 x0 _) (load_n a3 w3 x1 _) (load_w_2 a18 w18 xs1) zeros_at) r e

/-- A sequence's first tile's step sizes. -/
theorem C_beta (hc0 : ¬cond0_0 i) (hc1 : cond0_1 i) (r : Fin 512) (e : Fin 8) : out0_C_11 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs1 xs2 xs3 xs4 (ix2 r e)
    = tileBeta x0 x1 (fun k e => xs2 (ix2 k e)) r e := by
  unfold out0_C_11
  rw [View.read_writes_junk_eq_canon]
  refine (congrFun (View.canon_cons_unit_lit' inb_S512x8_S512x8_0_0 _ _ (by decide)) _).trans ?_
  exact beta_of (load_x a2 w2 x0 _) (load_n a3 w3 x1 _) (fun k e => congrFun (load_wb a19 w19 xs2 _) (ix2 k e)) r e

/-- A sequence's first tile's log decays. -/
theorem C_g (hc0 : ¬cond0_0 i) (hc1 : cond0_1 i) (r : Fin 512) (e : Fin 8) : out0_C_12 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs1 xs2 xs3 xs4 (ix2 r e)
    = tileG x0 x1 x4 x5 (fun k e => xs2 (ix2 k e)) r e := by
  unfold out0_C_12
  rw [View.read_writes_junk_eq_canon]
  refine (congrFun (View.canon_cons_unit_lit' inb_S512x8_S512x8_0_0 _ _ (by decide)) _).trans ?_
  exact g_of (load_x a2 w2 x0 _) (load_n a3 w3 x1 _) (fun k e => congrFun (load_wb a19 w19 xs2 _) (ix2 k e)) (load_row a6 w6 x4 _) (load_row a7 w7 x5 _) r e

/-- A sequence's first tile's log decays as rows. -/
theorem C_gt (hc0 : ¬cond0_0 i) (hc1 : cond0_1 i) (e : Fin 8) (r : Fin 512) : out0_C_13 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs1 xs2 xs3 xs4 (ix2 e r)
    = tileGt x0 x1 x6 x7 (fun e k => xs3 (ix2 e k)) e r := by
  unfold out0_C_13
  rw [View.read_writes_junk_eq_canon]
  refine (congrFun (View.canon_cons_unit_lit' inb_S8x512_S8x512_0_0 _ _ (by decide)) _).trans ?_
  exact gt_of (load_x a2 w2 x0 _) (load_n a3 w3 x1 _) (load_wt a20 w20 xs3) (load_col a8 w8 x6 _) (load_col a9 w9 x7 _) e r

/-- A sequence's first tile's gate rows. -/
theorem C_z (hc0 : ¬cond0_0 i) (hc1 : cond0_1 i) (r : Fin 512) (e : Fin 1024) : out0_C_14 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs1 xs2 xs3 xs4 (ix2 r e)
    = tileZ x0 x1 (fun k e => xs4 (ix2 k e)) r e := by
  unfold out0_C_14
  rw [View.read_writes_junk_eq_canon]
  refine (congrFun (View.canon_cons_unit_lit' inb_S512x1024_S512x1024_0_0 _ _ (by decide)) _).trans ?_
  exact z_of (load_x a2 w2 x0 _) (load_n a3 w3 x1 _) (fun k e => congrFun (load_wz a21 w21 xs4 _) (ix2 k e)) r e

theorem C_buf_0 (hc0 : ¬cond0_0 i) (hc1 : cond0_1 i) (b : Fin 8) (e : Fin 1024) : sout0_C_0 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs1 xs2 xs3 xs4 (ix2 ⟨b.val, by omega⟩ (sec 0 e))
    = dots x0 x1 (fun k c => xs1 (ix2 k c)) ⟨504 + b.val, by omega⟩ (sec 0 e) := by
  unfold sout0_C_0
  exact (read_6_0 _ _ _ _ _ _ _ _ _ b e).trans ((pay39_at _ b e).trans (last_0 (load_x a2 w2 x0 _) (load_n a3 w3 x1 _) (load_w_0 a18 w18 xs1) b e))

theorem C_buf_1 (hc0 : ¬cond0_0 i) (hc1 : cond0_1 i) (b : Fin 8) (e : Fin 1024) : sout0_C_0 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs1 xs2 xs3 xs4 (ix2 ⟨b.val, by omega⟩ (sec 1 e))
    = dots x0 x1 (fun k c => xs1 (ix2 k c)) ⟨504 + b.val, by omega⟩ (sec 1 e) := by
  unfold sout0_C_0
  exact (read_6_1 _ _ _ _ _ _ _ _ _ b e).trans ((pay55_at _ b e).trans (last_1 (load_x a2 w2 x0 _) (load_n a3 w3 x1 _) (load_w_1 a18 w18 xs1) b e))

theorem C_buf_2 (hc0 : ¬cond0_0 i) (hc1 : cond0_1 i) (b : Fin 8) (e : Fin 1024) : sout0_C_0 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs1 xs2 xs3 xs4 (ix2 ⟨b.val, by omega⟩ (sec 2 e))
    = dots x0 x1 (fun k c => xs1 (ix2 k c)) ⟨504 + b.val, by omega⟩ (sec 2 e) := by
  unfold sout0_C_0
  exact (read_6_2 _ _ _ _ _ _ _ _ _ b e).trans ((pay1_at _ b e).trans (last_2 (load_x a2 w2 x0 _) (load_n a3 w3 x1 _) (load_w_2 a18 w18 xs1) b e))

/-- A sequence's first tile's last eight rows. -/
theorem C_buf (hc0 : ¬cond0_0 i) (hc1 : cond0_1 i) (b : Fin 8) (e : Fin 3072) : sout0_C_0 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs1 xs2 xs3 xs4 (ix2 ⟨b.val, by omega⟩ e)
    = dots x0 x1 (fun k c => xs1 (ix2 k c)) ⟨504 + b.val, by omega⟩ e :=
  rows_of (X := fun e => sout0_C_0 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 xs1 xs2 xs3 xs4 (ix2 ⟨b.val, by omega⟩ e)) (Y := fun e => dots x0 x1 (fun k c => xs1 (ix2 k c)) ⟨504 + b.val, by omega⟩ e) (C_buf_0 c i a2 w2 a3 w3 a4 w4 a5 w5 a6 w6 a7 w7 a8 w8 a9 w9 a10 w10 a11 w11 a12 w12 a13 w13 a14 w14 a15 w15 a16 w16 a17 w17 a18 w18 a19 w19 a20 w20 a21 w21 x0 x1 x2 x3 x4 x5 x6 x7 xs1 xs2 xs3 xs4 hc0 hc1 b) (C_buf_1 c i a2 w2 a3 w3 a4 w4 a5 w5 a6 w6 a7 w7 a8 w8 a9 w9 a10 w10 a11 w11 a12 w12 a13 w13 a14 w14 a15 w15 a16 w16 a17 w17 a18 w18 a19 w19 a20 w20 a21 w21 x0 x1 x2 x3 x4 x5 x6 x7 xs1 xs2 xs3 xs4 hc0 hc1 b) (C_buf_2 c i a2 w2 a3 w3 a4 w4 a5 w5 a6 w6 a7 w7 a8 w8 a9 w9 a10 w10 a11 w11 a12 w12 a13 w13 a14 w14 a15 w15 a16 w16 a17 w17 a18 w18 a19 w19 a20 w20 a21 w21 x0 x1 x2 x3 x4 x5 x6 x7 xs1 xs2 xs3 xs4 hc0 hc1 b) e

/-- The first point's queries. -/
theorem A_q (hc0 : cond0_0 i) (hc1 : cond0_1 i) (r : Fin 512) (h : Fin 8) (j : Fin 128) : out0_A_8 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 (ix2 r (hcol h j))
    = l2 qs (fun k => tileAct x0 x1 (fun k c => x2 (ix3 0 ⟨0 + c.val, by omega⟩ k)) x3 (fun _ _ => 0) r (sec 0 (hcol h k))) j := by
  unfold out0_A_8
  rw [View.read_writes_junk_eq_canon]
  refine (heads_q _ _ _ r h j).trans ?_
  refine congrArg (fun y => l2 qs y j) (funext fun k => ?_)
  exact act_q_of (load_x a2 w2 x0 _) (load_n a3 w3 x1 _) (fun k e => (at_w_0 a18.view _ k e).trans (wq_read a4 w4 x2 a18.view k _)) (load_cw_0_0 a5 w5 x3) (load_cw_1_0 a5 w5 x3) (load_cw_2_0 a5 w5 x3) (load_cw_3_0 a5 w5 x3)
    (win_5_0 (load_x a2 w2 x0 _) (load_n a3 w3 x1 _) (fun k e => (at_w_0 a18.view _ k e).trans (wq_read a4 w4 x2 a18.view k _)) zeros_at)
    (win_6_0 (load_x a2 w2 x0 _) (load_n a3 w3 x1 _) (fun k e => (at_w_0 a18.view _ k e).trans (wq_read a4 w4 x2 a18.view k _)) zeros_at)
    (win_7_0 (load_x a2 w2 x0 _) (load_n a3 w3 x1 _) (fun k e => (at_w_0 a18.view _ k e).trans (wq_read a4 w4 x2 a18.view k _)) zeros_at) r _

/-- The first point's keys. -/
theorem A_k (hc0 : cond0_0 i) (hc1 : cond0_1 i) (r : Fin 512) (h : Fin 8) (j : Fin 128) : out0_A_9 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 (ix2 r (hcol h j))
    = unit (fun k => tileAct x0 x1 (fun k c => x2 (ix3 0 ⟨0 + c.val, by omega⟩ k)) x3 (fun _ _ => 0) r (sec 1 (hcol h k))) j := by
  unfold out0_A_9
  rw [View.read_writes_junk_eq_canon]
  refine (heads_k _ _ _ _ _ _ _ _ r h j).trans ?_
  refine congrArg (fun y => unit y j) (funext fun k => ?_)
  exact act_k_of (load_x a2 w2 x0 _) (load_n a3 w3 x1 _) (fun k e => (at_w_1 a18.view _ k e).trans (wq_read a4 w4 x2 a18.view k _)) (load_cw_0_1 a5 w5 x3) (load_cw_1_1 a5 w5 x3) (load_cw_2_1 a5 w5 x3) (load_cw_3_1 a5 w5 x3)
    (win_5_1 (load_x a2 w2 x0 _) (load_n a3 w3 x1 _) (fun k e => (at_w_1 a18.view _ k e).trans (wq_read a4 w4 x2 a18.view k _)) zeros_at)
    (win_6_1 (load_x a2 w2 x0 _) (load_n a3 w3 x1 _) (fun k e => (at_w_1 a18.view _ k e).trans (wq_read a4 w4 x2 a18.view k _)) zeros_at)
    (win_7_1 (load_x a2 w2 x0 _) (load_n a3 w3 x1 _) (fun k e => (at_w_1 a18.view _ k e).trans (wq_read a4 w4 x2 a18.view k _)) zeros_at) r _

/-- The first point's values. -/
theorem A_v (hc0 : cond0_0 i) (hc1 : cond0_1 i) (r : Fin 512) (e : Fin 1024) : out0_A_10 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 (ix2 r e)
    = tileAct x0 x1 (fun k c => x2 (ix3 0 ⟨0 + c.val, by omega⟩ k)) x3 (fun _ _ => 0) r (sec 2 e) := by
  unfold out0_A_10
  rw [View.read_writes_junk_eq_canon]
  refine (congrFun (View.canon_cons_unit_lit' inb_S512x1024_S512x1024_0_0 _ _ (by decide)) _).trans ?_
  exact act_v_of (load_x a2 w2 x0 _) (load_n a3 w3 x1 _) (fun k e => (at_w_2 a18.view _ k e).trans (wq_read a4 w4 x2 a18.view k _)) (load_cw_0_2 a5 w5 x3) (load_cw_1_2 a5 w5 x3) (load_cw_2_2 a5 w5 x3) (load_cw_3_2 a5 w5 x3)
    (win_5_2 (load_x a2 w2 x0 _) (load_n a3 w3 x1 _) (fun k e => (at_w_2 a18.view _ k e).trans (wq_read a4 w4 x2 a18.view k _)) zeros_at)
    (win_6_2 (load_x a2 w2 x0 _) (load_n a3 w3 x1 _) (fun k e => (at_w_2 a18.view _ k e).trans (wq_read a4 w4 x2 a18.view k _)) zeros_at)
    (win_7_2 (load_x a2 w2 x0 _) (load_n a3 w3 x1 _) (fun k e => (at_w_2 a18.view _ k e).trans (wq_read a4 w4 x2 a18.view k _)) zeros_at) r e

/-- The first point's step sizes. -/
theorem A_beta (hc0 : cond0_0 i) (hc1 : cond0_1 i) (r : Fin 512) (e : Fin 8) : out0_A_11 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 (ix2 r e)
    = tileBeta x0 x1 (fun k e => x2 (ix3 0 ⟨3072 + e.val, by omega⟩ k)) r e := by
  unfold out0_A_11
  rw [View.read_writes_junk_eq_canon]
  refine (congrFun (View.canon_cons_unit_lit' inb_S512x8_S512x8_0_0 _ _ (by decide)) _).trans ?_
  exact beta_of (load_x a2 w2 x0 _) (load_n a3 w3 x1 _) (fun k e => (at_wb a19.view _ k e).trans (wb_read a4 w4 x2 a19.view k e)) r e

/-- The first point's log decays. -/
theorem A_g (hc0 : cond0_0 i) (hc1 : cond0_1 i) (r : Fin 512) (e : Fin 8) : out0_A_12 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 (ix2 r e)
    = tileG x0 x1 x4 x5 (fun k e => x2 (ix3 0 ⟨3072 + e.val, by omega⟩ k)) r e := by
  unfold out0_A_12
  rw [View.read_writes_junk_eq_canon]
  refine (congrFun (View.canon_cons_unit_lit' inb_S512x8_S512x8_0_0 _ _ (by decide)) _).trans ?_
  exact g_of (load_x a2 w2 x0 _) (load_n a3 w3 x1 _) (fun k e => (at_wb a19.view _ k e).trans (wb_read a4 w4 x2 a19.view k e)) (load_row a6 w6 x4 _) (load_row a7 w7 x5 _) r e

/-- The first point's log decays as rows. -/
theorem A_gt (hc0 : cond0_0 i) (hc1 : cond0_1 i) (e : Fin 8) (r : Fin 512) : out0_A_13 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 (ix2 e r)
    = tileGt x0 x1 x6 x7 (fun e k => x2 (ix3 0 ⟨3072 + e.val, by omega⟩ k)) e r := by
  unfold out0_A_13
  rw [View.read_writes_junk_eq_canon]
  refine (congrFun (View.canon_cons_unit_lit' inb_S8x512_S8x512_0_0 _ _ (by decide)) _).trans ?_
  exact gt_of (load_x a2 w2 x0 _) (load_n a3 w3 x1 _) (fun e k => (at_wt a20.view _ e k).trans (wt_read a4 w4 x2 a20.view _ k)) (load_col a8 w8 x6 _) (load_col a9 w9 x7 _) e r

/-- The first point's gate rows. -/
theorem A_z (hc0 : cond0_0 i) (hc1 : cond0_1 i) (r : Fin 512) (e : Fin 1024) : out0_A_14 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 (ix2 r e)
    = tileZ x0 x1 (fun k e => x2 (ix3 0 ⟨3088 + e.val, by omega⟩ k)) r e := by
  unfold out0_A_14
  rw [View.read_writes_junk_eq_canon]
  refine (congrFun (View.canon_cons_unit_lit' inb_S512x1024_S512x1024_0_0 _ _ (by decide)) _).trans ?_
  exact z_of (load_x a2 w2 x0 _) (load_n a3 w3 x1 _) (fun k e => (at_wz a21.view _ k e).trans (wz_read a4 w4 x2 a21.view k e)) r e

theorem A_buf_0 (hc0 : cond0_0 i) (hc1 : cond0_1 i) (b : Fin 8) (e : Fin 1024) : sout0_A_0 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 (ix2 ⟨b.val, by omega⟩ (sec 0 e))
    = dots x0 x1 (fun k c => x2 (ix3 0 ⟨0 + c.val, by omega⟩ k)) ⟨504 + b.val, by omega⟩ (sec 0 e) := by
  unfold sout0_A_0
  exact (read_6_0 _ _ _ _ _ _ _ _ _ b e).trans ((pay39_at _ b e).trans (last_0 (load_x a2 w2 x0 _) (load_n a3 w3 x1 _) (fun k e => (at_w_0 a18.view _ k e).trans (wq_read a4 w4 x2 a18.view k _)) b e))

theorem A_buf_1 (hc0 : cond0_0 i) (hc1 : cond0_1 i) (b : Fin 8) (e : Fin 1024) : sout0_A_0 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 (ix2 ⟨b.val, by omega⟩ (sec 1 e))
    = dots x0 x1 (fun k c => x2 (ix3 0 ⟨0 + c.val, by omega⟩ k)) ⟨504 + b.val, by omega⟩ (sec 1 e) := by
  unfold sout0_A_0
  exact (read_6_1 _ _ _ _ _ _ _ _ _ b e).trans ((pay55_at _ b e).trans (last_1 (load_x a2 w2 x0 _) (load_n a3 w3 x1 _) (fun k e => (at_w_1 a18.view _ k e).trans (wq_read a4 w4 x2 a18.view k _)) b e))

theorem A_buf_2 (hc0 : cond0_0 i) (hc1 : cond0_1 i) (b : Fin 8) (e : Fin 1024) : sout0_A_0 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 (ix2 ⟨b.val, by omega⟩ (sec 2 e))
    = dots x0 x1 (fun k c => x2 (ix3 0 ⟨0 + c.val, by omega⟩ k)) ⟨504 + b.val, by omega⟩ (sec 2 e) := by
  unfold sout0_A_0
  exact (read_6_2 _ _ _ _ _ _ _ _ _ b e).trans ((pay1_at _ b e).trans (last_2 (load_x a2 w2 x0 _) (load_n a3 w3 x1 _) (fun k e => (at_w_2 a18.view _ k e).trans (wq_read a4 w4 x2 a18.view k _)) b e))

/-- The first point's last eight rows. -/
theorem A_buf (hc0 : cond0_0 i) (hc1 : cond0_1 i) (b : Fin 8) (e : Fin 3072) : sout0_A_0 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 (ix2 ⟨b.val, by omega⟩ e)
    = dots x0 x1 (fun k c => x2 (ix3 0 ⟨0 + c.val, by omega⟩ k)) ⟨504 + b.val, by omega⟩ e :=
  rows_of (X := fun e => sout0_A_0 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 (ix2 ⟨b.val, by omega⟩ e)) (Y := fun e => dots x0 x1 (fun k c => x2 (ix3 0 ⟨0 + c.val, by omega⟩ k)) ⟨504 + b.val, by omega⟩ e) (A_buf_0 c i a2 w2 a3 w3 a4 w4 a5 w5 a6 w6 a7 w7 a8 w8 a9 w9 a10 w10 a11 w11 a12 w12 a13 w13 a14 w14 a15 w15 a16 w16 a17 w17 a18 w18 a19 w19 a20 w20 a21 w21 x0 x1 x2 x3 x4 x5 x6 x7 hc0 hc1 b) (A_buf_1 c i a2 w2 a3 w3 a4 w4 a5 w5 a6 w6 a7 w7 a8 w8 a9 w9 a10 w10 a11 w11 a12 w12 a13 w13 a14 w14 a15 w15 a16 w16 a17 w17 a18 w18 a19 w19 a20 w20 a21 w21 x0 x1 x2 x3 x4 x5 x6 x7 hc0 hc1 b) (A_buf_2 c i a2 w2 a3 w3 a4 w4 a5 w5 a6 w6 a7 w7 a8 w8 a9 w9 a10 w10 a11 w11 a12 w12 a13 w13 a14 w14 a15 w15 a16 w16 a17 w17 a18 w18 a19 w19 a20 w20 a21 w21 x0 x1 x2 x3 x4 x5 x6 x7 hc0 hc1 b) e

theorem A_w (hc0 : cond0_0 i) (hc1 : cond0_1 i) (k : Fin 1024) (e : Fin 3072) : sout0_A_1 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 (ix2 k e) = x2 (ix3 0 ⟨0 + e.val, by omega⟩ k) := by
  unfold sout0_A_1
  exact wq_read a4 w4 x2 VS0_1 k e
theorem A_wb (hc0 : cond0_0 i) (hc1 : cond0_1 i) (k : Fin 1024) (e : Fin 128) : sout0_A_2 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 (ix2 k e) = x2 (ix3 0 ⟨3072 + e.val, by omega⟩ k) := by
  unfold sout0_A_2
  exact wb_read a4 w4 x2 VS0_2 k e
theorem A_wt (hc0 : cond0_0 i) (hc1 : cond0_1 i) (e : Fin 128) (k : Fin 1024) : sout0_A_3 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 (ix2 e k) = x2 (ix3 0 ⟨3072 + e.val, by omega⟩ k) := by
  unfold sout0_A_3
  exact wt_read a4 w4 x2 VS0_3 e k
theorem A_wz (hc0 : cond0_0 i) (hc1 : cond0_1 i) (k e : Fin 1024) : sout0_A_4 (F := Ideal) c i a2 w2 a3 w3 a4 w4 a5 w5 a6 w6 a7 w7 a8 w8 a9 w9 a10 w10 a11 w11 a12 w12 a13 w13 a14 w14 a15 w15 a16 w16 a17 w17 a18 w18 a19 w19 a20 w20 a21 w21 hc0 hc1 x0 x1 x2 x3 x4 x5 x6 x7 (ix2 k e) = x2 (ix3 0 ⟨3088 + e.val, by omega⟩ k) := by
  unfold sout0_A_4
  exact wz_read a4 w4 x2 VS0_4 k e

end Cases

end Cert.Kernel3Ideal.Whole
end
-- ==== Proof.ConvRows.lean ====
module

public import proofs.«01_k».proof.Proof.ConvCases

/-! The rows of the input projection over the whole arrays, and the blocks that a point is given. -/

@[expose] public section

set_option maxRecDepth 16384

noncomputable section

namespace Conv

open Idealize.ShloMosaic

variable (X : Fin 32768 → Fin 1024 → EReal) (N : Fin 1024 → EReal) (W : Fin 1024 → Fin 4112 → EReal) (C : Fin 4 → Fin 3072 → EReal) (A D : Fin 8 → EReal)

/-- A projected entry. -/
def pre (R : Fin 32768) (c : Fin 4112) : EReal := ∑ k, Ple.normed (X R) N k * W k c

/-- The entry `d` rows before, zero where the sequence has no such row. -/
def tap (d : ℕ) (R : Fin 32768) (c : Fin 3072) : EReal := if d ≤ R.val % 2048 then pre X N W ⟨R.val - d, by omega⟩ ⟨c.val, by omega⟩ else 0

/-- The activated window sum. -/
def conv (R : Fin 32768) (c : Fin 3072) : EReal :=
  act (pre X N W R ⟨c.val, by omega⟩) (C 3 c) (tap X N W 3 R c) (C 0 c) (tap X N W 2 R c) (C 1 c) (tap X N W 1 R c) (C 2 c)

/-- A query's entry. -/
def rowQ (R : Fin 32768) (e : Fin 1024) : EReal :=
  l2 (Ideal.ofBits .f32 0x3DB504F3#32) (fun k => conv X N W C R (sec 0 (hcol ⟨e.val / 128, by omega⟩ k))) ⟨e.val % 128, by omega⟩
/-- A key's entry. -/
def rowK (R : Fin 32768) (e : Fin 1024) : EReal :=
  unit (fun k => conv X N W C R (sec 1 (hcol ⟨e.val / 128, by omega⟩ k))) ⟨e.val % 128, by omega⟩
/-- A value's entry. -/
def rowV (R : Fin 32768) (e : Fin 1024) : EReal := conv X N W C R (sec 2 e)
/-- A step size. -/
def rowBeta (R : Fin 32768) (e : Fin 8) : EReal := Ple.sigm (pre X N W R ⟨3072 + e.val, by omega⟩)
/-- A log decay. -/
def rowG (R : Fin 32768) (e : Fin 8) : EReal := decay (A e) (pre X N W R ⟨3080 + e.val, by omega⟩ + D e)
/-- A gate's entry. -/
def rowZ (R : Fin 32768) (e : Fin 1024) : EReal := pre X N W R ⟨3088 + e.val, by omega⟩

theorem hcol_div (h : Fin 8) (j : Fin 128) : (⟨(hcol h j).val / 128, by omega⟩ : Fin 8) = h := Fin.ext (by show (h.val * 128 + j.val) / 128 = h.val; omega)
theorem hcol_mod (h : Fin 8) (j : Fin 128) : (⟨(hcol h j).val % 128, by omega⟩ : Fin 128) = j := Fin.ext (by show (h.val * 128 + j.val) % 128 = j.val; omega)

theorem rowQ_hcol (R : Fin 32768) (h : Fin 8) (j : Fin 128) : rowQ X N W C R (hcol h j) = l2 (Ideal.ofBits .f32 0x3DB504F3#32) (fun k => conv X N W C R (sec 0 (hcol h k))) j := by
  unfold rowQ; rw [hcol_div, hcol_mod]
theorem rowK_hcol (R : Fin 32768) (h : Fin 8) (j : Fin 128) : rowK X N W C R (hcol h j) = unit (fun k => conv X N W C R (sec 1 (hcol h k))) j := by
  unfold rowK; rw [hcol_div, hcol_mod]

end Conv

namespace Cert.Kernel3Ideal.Whole

open Cert.Kernel3Ideal Cert.Kernel3Ideal.Gen Conv
open Idealize.ShloMosaic Idealize.ShloMosaic.TcCoe Idealize.ShloMosaic.Tactic Idealize.SL.Sem

variable (m : (ℓ : Loc nD τ sig) → Buf (Elt Ideal) ℓ) (c : Dev nD)

/-- The blocks the windows select. -/
theorem idx : ∀ t : Fin cfg0.N, win0_0.index t = ![t.val, 0] ∧ win0_1.index t = ![0, 0] ∧ win0_2.index t = ![1, 0, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0] ∧ win0_12.index t = ![t.val, 0]
    ∧ win0_13.index t = ![0, t.val] ∧ win0_14.index t = ![t.val, 0] :=
  (by decide +kernel : ∀ t : Fin grid0.N, _)

/-- Row `r` of tile `T`. -/
def trow (T : ℕ) (r : Fin 512) : Fin 32768 := Fin.ofNat 32768 (T * 512 + r.val)

theorem trow_val (T : ℕ) (hT : T < 64) (r : Fin 512) : (trow T r).val = T * 512 + r.val := by
  show (T * 512 + r.val) % 32768 = _
  exact Nat.mod_eq_of_lt (by omega)

theorem lt64 (t : Fin cfg0.N) : t.val < 64 := t.isLt

/-- A tile of the rows. -/
theorem blk0_at (t : Fin cfg0.N) (r : Fin 512) (e : Fin 1024) :
    iblk m c 0 t (ix2 r e) = m ((c : Thread nD τ).loc main_arg0) (ix2 (trow t.val r) e) := by
  have h := trow_val t.val (lt64 t) r
  blk_ext [iblk, V, idx t]

/-- The norm's row. -/
theorem blk1_at (t : Fin cfg0.N) (e : Fin 1024) :
    iblk m c 1 t (ix2 0 e) = m ((c : Thread nD τ).loc main_arg1) (ix2 3 e) := by
  blk_simp [iblk]
  entry_read
  rw [show (win0_1.blk t).view.emb (ix2 0 e) = (ix2 0 e : S1x1024.Idx) by blk_ext [idx t]]
  pointwise

/-- The layer's weights, a column a row. -/
theorem blk2_at (t : Fin cfg0.N) (e : Fin 4112) (k : Fin 1024) :
    iblk m c 2 t (ix3 0 e k) = m ((c : Thread nD τ).loc main_arg2) (ix3 1 k e) := by
  blk_simp [iblk]
  entry_read
  rw [show (win0_2.blk t).view.emb (ix3 0 e k) = (ix3 1 e k : S2x4112x1024.Idx) by blk_ext [idx t]]
  pointwise

/-- The window's weights. -/
theorem blk3_at (t : Fin cfg0.N) (i : Fin 4) (e : Fin 3072) :
    iblk m c 3 t (ix2 i e) = m ((c : Thread nD τ).loc main_arg3) (ix3 1 i e) := by
  blk_simp [iblk]
  entry_read
  rw [show (win0_3.blk t).view.emb (ix2 i e) = (ix2 i e : S4x3072.Idx) by blk_ext [idx t]]
  pointwise

/-- The decay's rates. -/
theorem blk4_at (t : Fin cfg0.N) (e : Fin 8) :
    iblk m c 4 t (ix2 0 e) = m ((c : Thread nD τ).loc main_arg4) (ix2 1 e) := by
  blk_simp [iblk]
  entry_read
  rw [show (win0_4.blk t).view.emb (ix2 0 e) = (ix2 0 e : S1x8.Idx) by blk_ext [idx t]]
  pointwise

/-- The decay's offsets. -/
theorem blk5_at (t : Fin cfg0.N) (e : Fin 8) :
    iblk m c 5 t (ix2 0 e) = m ((c : Thread nD τ).loc main_arg5) (ix2 1 e) := by
  blk_simp [iblk]
  entry_read
  rw [show (win0_5.blk t).view.emb (ix2 0 e) = (ix2 0 e : S1x8.Idx) by blk_ext [idx t]]
  pointwise

/-- The decay's rates as a column. -/
theorem blk6_at (t : Fin cfg0.N) (e : Fin 8) :
    iblk m c 6 t (ix2 e 0) = m ((c : Thread nD τ).loc main_arg4) (ix2 1 e) := by
  blk_simp [iblk]
  entry_read
  rw [show (win0_6.blk t).view.emb (ix2 e 0) = (ix2 e 0 : S8x1.Idx) by blk_ext [idx t]]
  pointwise

/-- The decay's offsets as a column. -/
theorem blk7_at (t : Fin cfg0.N) (e : Fin 8) :
    iblk m c 7 t (ix2 e 0) = m ((c : Thread nD τ).loc main_arg5) (ix2 1 e) := by
  blk_simp [iblk]
  entry_read
  rw [show (win0_7.blk t).view.emb (ix2 e 0) = (ix2 e 0 : S8x1.Idx) by blk_ext [idx t]]
  pointwise

end Cert.Kernel3Ideal.Whole
end
-- ==== Proof.ConvKernel.lean ====
module

public import proofs.«01_k».proof.Proof.ConvRows

/-! The result arrays of the input projection as the kernel leaves them. -/

@[expose] public section

set_option maxRecDepth 16384

noncomputable section

namespace Cert.Kernel3Ideal.Whole

open Cert.Kernel3Ideal Cert.Kernel3Ideal.Gen Conv
open Idealize.ShloMosaic Idealize.ShloMosaic.TcCoe Idealize.ShloMosaic.Tactic Idealize.SL.Sem

variable (m : (ℓ : Loc nD τ sig) → Buf (Elt Ideal) ℓ) (c : Dev nD)

/-- The rows. -/
def aX : Fin 32768 → Fin 1024 → EReal := fun R e => m ((c : Thread nD τ).loc main_arg0) (ix2 R e)
/-- The norm's row. -/
def aN : Fin 1024 → EReal := fun e => m ((c : Thread nD τ).loc main_arg1) (ix2 (3 : Fin 4) e)
/-- The layer's weights. -/
def aW : Fin 1024 → Fin 4112 → EReal := fun k e => m ((c : Thread nD τ).loc main_arg2) (ix3 (1 : Fin 2) k e)
/-- The window's weights. -/
def aC : Fin 4 → Fin 3072 → EReal := fun i e => m ((c : Thread nD τ).loc main_arg3) (ix3 (1 : Fin 2) i e)
/-- The decay's rates. -/
def aA : Fin 8 → EReal := fun e => m ((c : Thread nD τ).loc main_arg4) (ix2 (1 : Fin 2) e)
/-- The decay's offsets. -/
def aD : Fin 8 → EReal := fun e => m ((c : Thread nD τ).loc main_arg5) (ix2 (1 : Fin 2) e)

/-- The projection of a tile's rows. -/
abbrev P : Fin 32768 → Fin 4112 → EReal := pre (aX m c) (aN m c) (aW m c)

theorem normed_blk (t : Fin cfg0.N) (r : Fin 512) : Ple.normed (fun e => iblk m c 0 t (ix2 r e)) (fun e => iblk m c 1 t (ix2 0 e)) = Ple.normed (aX m c (trow t.val r)) (aN m c) := by
  refine congrArg₂ Ple.normed (funext fun e => blk0_at m c t r e) (funext fun e => blk1_at m c t e)

/-- A tile's projection. -/
theorem dots_blk (t : Fin cfg0.N) {W : Fin 1024 → Fin 3072 → EReal} (hW : ∀ k e, W k e = aW m c k ⟨e.val, by omega⟩) (r : Fin 512) (e : Fin 3072) :
    dots (iblk m c 0 t) (iblk m c 1 t) W r e = P m c (trow t.val r) ⟨e.val, by omega⟩ := by
  unfold dots
  rw [normed_blk]
  exact Finset.sum_congr rfl fun k _ => congrArg _ (hW k e)

/-- What a point finds in the eight rows before its tile. -/
def before (t : ℕ) (b : Fin 8) (e : Fin 3072) : EReal := if t % 4 = 0 then 0 else P m c (trow (t - 1) ⟨504 + b.val, by omega⟩) ⟨e.val, by omega⟩

/-- The buffer's rows are the earlier rows. -/
theorem stacked_tap (t : Fin cfg0.N) {p : Fin 8 → Fin 3072 → EReal} (hp : ∀ b e, p b e = before m c t.val b e)
    (d : ℕ) (r : Fin 512) (e : Fin 3072) (i : Fin 520) (hd : 1 ≤ d ∧ d ≤ 3) (hi : i.val + d = 8 + r.val) :
    stacked (fun r => P m c (trow t.val r) ⟨e.val, by omega⟩) (fun b => p b e) i = tap (aX m c) (aN m c) (aW m c) d (trow t.val r) e := by
  have hv := trow_val t.val (lt64 t) r
  have ht := lt64 t
  have hr := r.isLt
  unfold stacked tap
  by_cases h : 8 ≤ i.val
  · rw [dif_pos h, if_pos (by omega)]
    refine congrArg (fun R => P m c R ⟨e.val, by omega⟩) (Fin.ext ?_)
    rw [trow_val _ ht]
    show t.val * 512 + (i.val - 8) = (trow t.val r).val - d
    omega
  · rw [dif_neg h]
    refine (hp _ e).trans ?_
    unfold before
    by_cases h4 : t.val % 4 = 0
    · rw [if_pos h4, if_neg (by omega)]
    · rw [if_neg h4, if_pos (by omega)]
      refine congrArg (fun R => P m c R ⟨e.val, by omega⟩) (Fin.ext ?_)
      rw [trow_val _ (by omega)]
      show (t.val - 1) * 512 + (504 + i.val) = (trow t.val r).val - d
      omega

/-- A tile's window sum is the convolution. -/
theorem tileAct_blk (t : Fin cfg0.N) {W : Fin 1024 → Fin 3072 → EReal} (hW : ∀ k e, W k e = aW m c k ⟨e.val, by omega⟩)
    {p : Fin 8 → Fin 3072 → EReal} (hp : ∀ b e, p b e = before m c t.val b e) (r : Fin 512) (e : Fin 3072) :
    tileAct (iblk m c 0 t) (iblk m c 1 t) W (iblk m c 3 t) p r e = conv (aX m c) (aN m c) (aW m c) (aC m c) (trow t.val r) e := by
  unfold tileAct conv
  simp only [dots_blk m c t hW, blk3_at m c t]
  rw [stacked_tap m c t hp 3 r e _ (by omega) (by dsimp only; omega), stacked_tap m c t hp 2 r e _ (by omega) (by dsimp only; omega),
    stacked_tap m c t hp 1 r e _ (by omega) (by dsimp only; omega)]
  rfl

theorem beta_blk (t : Fin cfg0.N) {W : Fin 1024 → Fin 128 → EReal} (hW : ∀ k (e : Fin 128), W k e = aW m c k ⟨3072 + e.val, by omega⟩) (r : Fin 512) (e : Fin 8) :
    tileBeta (iblk m c 0 t) (iblk m c 1 t) W r e = rowBeta (aX m c) (aN m c) (aW m c) (trow t.val r) e := by
  unfold tileBeta
  rw [normed_blk]
  exact congrArg Ple.sigm (Finset.sum_congr rfl fun k _ => congrArg _ (hW k _))

theorem g_blk (t : Fin cfg0.N) {W : Fin 1024 → Fin 128 → EReal} (hW : ∀ k (e : Fin 128), W k e = aW m c k ⟨3072 + e.val, by omega⟩) (r : Fin 512) (e : Fin 8) :
    tileG (iblk m c 0 t) (iblk m c 1 t) (iblk m c 4 t) (iblk m c 5 t) W r e = rowG (aX m c) (aN m c) (aW m c) (aA m c) (aD m c) (trow t.val r) e := by
  unfold tileG
  rw [normed_blk]
  refine congrArg₂ decay (blk4_at m c t e) (congrArg₂ (· + ·) (Finset.sum_congr rfl fun k _ => congrArg _ ((hW k _).trans ?_)) (blk5_at m c t e))
  exact congrArg (aW m c k) (Fin.ext (by show 3072 + (8 + e.val) = 3080 + e.val; omega))

theorem gt_blk (t : Fin cfg0.N) {W : Fin 128 → Fin 1024 → EReal} (hW : ∀ (e : Fin 128) k, W e k = aW m c k ⟨3072 + e.val, by omega⟩) (e : Fin 8) (r : Fin 512) :
    tileGt (iblk m c 0 t) (iblk m c 1 t) (iblk m c 6 t) (iblk m c 7 t) W e r = rowG (aX m c) (aN m c) (aW m c) (aA m c) (aD m c) (trow t.val r) e := by
  unfold tileGt
  rw [normed_blk]
  refine congrArg₂ decay (blk6_at m c t e) (congrArg₂ (· + ·) (Finset.sum_congr rfl fun k _ => (mul_comm _ _).trans (congrArg _ ((hW _ k).trans ?_))) (blk7_at m c t e))
  exact congrArg (aW m c k) (Fin.ext (by show 3072 + (8 + e.val) = 3080 + e.val; omega))

theorem z_blk (t : Fin cfg0.N) {W : Fin 1024 → Fin 1024 → EReal} (hW : ∀ k (e : Fin 1024), W k e = aW m c k ⟨3088 + e.val, by omega⟩) (r : Fin 512) (e : Fin 1024) :
    tileZ (iblk m c 0 t) (iblk m c 1 t) W r e = rowZ (aX m c) (aN m c) (aW m c) (trow t.val r) e := by
  unfold tileZ
  rw [normed_blk]
  exact Finset.sum_congr rfl fun k _ => congrArg _ (hW k e)

theorem first_w (t : Fin cfg0.N) (k : Fin 1024) (e : Fin 3072) : iblk m c 2 t (ix3 0 ⟨0 + e.val, by omega⟩ k) = aW m c k ⟨e.val, by omega⟩ :=
  (blk2_at m c t _ k).trans (congrArg (aW m c k) (Fin.ext (Nat.zero_add _)))

theorem cond_4 (t : ℕ) (h : t % 64 = 0) : t % 4 = 0 := by omega

/-- The copies of the weights that every point finds are the layer's weights, and the eight rows that it finds are the last of the tile before. -/
theorem carried : ∀ (n : ℕ) (hn : n < cfg0.N),
    (∀ (b : Fin 8) (e : Fin 3072), (outsAt0 m c n hn).2.2.2.2.2.2.2.1 (ix2 ⟨b.val, by omega⟩ e) = P m c (trow n ⟨504 + b.val, by omega⟩) ⟨e.val, by omega⟩)
    ∧ (∀ (k : Fin 1024) (e : Fin 3072), (outsAt0 m c n hn).2.2.2.2.2.2.2.2.1 (ix2 k e) = aW m c k ⟨e.val, by omega⟩)
    ∧ (∀ (k : Fin 1024) (e : Fin 128), (outsAt0 m c n hn).2.2.2.2.2.2.2.2.2.1 (ix2 k e) = aW m c k ⟨3072 + e.val, by omega⟩)
    ∧ (∀ (e : Fin 128) (k : Fin 1024), (outsAt0 m c n hn).2.2.2.2.2.2.2.2.2.2.1 (ix2 e k) = aW m c k ⟨3072 + e.val, by omega⟩)
    ∧ (∀ k e : Fin 1024, (outsAt0 m c n hn).2.2.2.2.2.2.2.2.2.2.2 (ix2 k e) = aW m c k ⟨3088 + e.val, by omega⟩) := by
  intro n
  induction n with
  | zero =>
    intro hn
    have h := outsAt0_A m c ⟨0, hn⟩ rfl rfl
    dsimp only at h
    rw [h]
    dsimp only
    refine ⟨fun b e => ?_, fun k e => ?_, fun k e => ?_, fun e k => ?_, fun k e => ?_⟩
    · rw [A_buf]
      exact dots_blk m c ⟨0, hn⟩ (first_w m c _) _ e
    · rw [A_w]; exact first_w m c _ k e
    · rw [A_wb]; exact blk2_at m c _ _ k
    · rw [A_wt]; exact blk2_at m c _ _ k
    · rw [A_wz]; exact blk2_at m c _ _ k
  | succ n ih =>
    intro hn
    have hl : n + 1 < 64 := hn
    obtain ⟨-, i1, i2, i3, i4⟩ := ih (Nat.lt_of_succ_lt hn)
    by_cases h4 : (n + 1) % 4 = 0
    · have h := outsAt0_C m c ⟨n + 1, hn⟩ (by dsimp only; omega) h4
      dsimp only at h
      rw [h]
      dsimp only
      refine ⟨fun b e => ?_, i1, i2, i3, i4⟩
      rw [C_buf]
      exact dots_blk m c ⟨n + 1, hn⟩ i1 _ e
    · have h := outsAt0_B m c ⟨n + 1, hn⟩ (by dsimp only; omega) h4
      dsimp only at h
      rw [h]
      dsimp only
      refine ⟨fun b e => ?_, i1, i2, i3, i4⟩
      rw [B_buf]
      exact dots_blk m c ⟨n + 1, hn⟩ i1 _ e

/-- A sequence starts with zeros. -/
theorem before_zero (t : Fin cfg0.N) (h : t.val % 4 = 0) (b : Fin 8) (e : Fin 3072) : (0 : EReal) = before m c t.val b e := by
  unfold before; rw [if_pos h]

/-- What a point writes back: q. -/
theorem written_q (t : Fin cfg0.N) (r : Fin 512) (e : Fin 1024) : (outsAt0 m c t.val t.isLt).1 (ix2 r e) = rowQ (aX m c) (aN m c) (aW m c) (aC m c) (trow t.val r) e := by
  have ht := lt64 t
  obtain ⟨h, j, rfl⟩ := hcol_cases e
  by_cases h0 : t.val % 64 = 0
  · rw [congrArg (fun p => p.1) (outsAt0_A m c t h0 (cond_4 _ h0))]
    dsimp only
    rw [A_q, rowQ_hcol]
    exact congrArg (fun y => l2 (Ideal.ofBits .f32 0x3DB504F3#32) y j) (funext fun k => tileAct_blk m c t (first_w m c t) (before_zero m c t (cond_4 _ h0)) r _)
  obtain ⟨i0, i1, i2, i3, i4⟩ := carried m c (t.val - 1) (Nat.lt_of_le_of_lt (Nat.sub_le _ _) t.isLt)
  by_cases h1 : t.val % 4 = 0
  · rw [congrArg (fun p => p.1) (outsAt0_C m c t h0 h1)]
    dsimp only
    rw [C_q, rowQ_hcol]
    exact congrArg (fun y => l2 (Ideal.ofBits .f32 0x3DB504F3#32) y j) (funext fun k => tileAct_blk m c t i1 (before_zero m c t h1) r _)
  · rw [congrArg (fun p => p.1) (outsAt0_B m c t h0 h1)]
    dsimp only
    have hp : ∀ b e, (outsAt0 m c (t.val - 1) (Nat.lt_of_le_of_lt (Nat.sub_le _ _) t.isLt)).2.2.2.2.2.2.2.1 (ix2 (⟨b.val, by omega⟩ : Fin 520) e) = before m c t.val b e := fun b e => by
      unfold before; rw [if_neg h1]; exact i0 b e
    rw [B_q, rowQ_hcol]
    exact congrArg (fun y => l2 (Ideal.ofBits .f32 0x3DB504F3#32) y j) (funext fun k => tileAct_blk m c t i1 hp r _)

/-- The kernel's result array: q. -/
theorem final_q : (dats m 0 c).arrAt 8 cfg0.N = fun i : S32768x1024.Idx => rowQ (aX m c) (aN m c) (aW m c) (aC m c) (i 0) (i 1) := by
  refine (dats m 0 c).arrAt_eq_of_covers 8 _ (by decide +kernel) fun t hf y => ?_
  blk_simp
  rw [after0_8]
  have ht := lt64 t
  revert y
  intro (y : S512x1024.Idx)
  obtain ⟨r, e, rfl⟩ : ∃ (r : Fin 512) (e : Fin 1024), y = ix2 r e := ⟨y 0, y 1, ValueIdx.eq_ix2 y⟩
  rw [written_q m c t r e]
  have he : (win0_8.blk t).view.emb (ix2 r e) = (ix2 (trow t.val r) e : S32768x1024.Idx) := by
    have h' := trow_val t.val ht r
    blk_ext [idx t]
  rw [he]
  rfl

/-- What a point writes back: k. -/
theorem written_k (t : Fin cfg0.N) (r : Fin 512) (e : Fin 1024) : (outsAt0 m c t.val t.isLt).2.1 (ix2 r e) = rowK (aX m c) (aN m c) (aW m c) (aC m c) (trow t.val r) e := by
  have ht := lt64 t
  obtain ⟨h, j, rfl⟩ := hcol_cases e
  by_cases h0 : t.val % 64 = 0
  · rw [congrArg (fun p => p.2.1) (outsAt0_A m c t h0 (cond_4 _ h0))]
    dsimp only
    rw [A_k, rowK_hcol]
    exact congrArg (fun y => unit y j) (funext fun k => tileAct_blk m c t (first_w m c t) (before_zero m c t (cond_4 _ h0)) r _)
  obtain ⟨i0, i1, i2, i3, i4⟩ := carried m c (t.val - 1) (Nat.lt_of_le_of_lt (Nat.sub_le _ _) t.isLt)
  by_cases h1 : t.val % 4 = 0
  · rw [congrArg (fun p => p.2.1) (outsAt0_C m c t h0 h1)]
    dsimp only
    rw [C_k, rowK_hcol]
    exact congrArg (fun y => unit y j) (funext fun k => tileAct_blk m c t i1 (before_zero m c t h1) r _)
  · rw [congrArg (fun p => p.2.1) (outsAt0_B m c t h0 h1)]
    dsimp only
    have hp : ∀ b e, (outsAt0 m c (t.val - 1) (Nat.lt_of_le_of_lt (Nat.sub_le _ _) t.isLt)).2.2.2.2.2.2.2.1 (ix2 (⟨b.val, by omega⟩ : Fin 520) e) = before m c t.val b e := fun b e => by
      unfold before; rw [if_neg h1]; exact i0 b e
    rw [B_k, rowK_hcol]
    exact congrArg (fun y => unit y j) (funext fun k => tileAct_blk m c t i1 hp r _)

/-- The kernel's result array: k. -/
theorem final_k : (dats m 0 c).arrAt 9 cfg0.N = fun i : S32768x1024.Idx => rowK (aX m c) (aN m c) (aW m c) (aC m c) (i 0) (i 1) := by
  refine (dats m 0 c).arrAt_eq_of_covers 9 _ (by decide +kernel) fun t hf y => ?_
  blk_simp
  rw [after0_9]
  have ht := lt64 t
  revert y
  intro (y : S512x1024.Idx)
  obtain ⟨r, e, rfl⟩ : ∃ (r : Fin 512) (e : Fin 1024), y = ix2 r e := ⟨y 0, y 1, ValueIdx.eq_ix2 y⟩
  rw [written_k m c t r e]
  have he : (win0_9.blk t).view.emb (ix2 r e) = (ix2 (trow t.val r) e : S32768x1024.Idx) := by
    have h' := trow_val t.val ht r
    blk_ext [idx t]
  rw [he]
  rfl

/-- What a point writes back: v. -/
theorem written_v (t : Fin cfg0.N) (r : Fin 512) (e : Fin 1024) : (outsAt0 m c t.val t.isLt).2.2.1 (ix2 r e) = rowV (aX m c) (aN m c) (aW m c) (aC m c) (trow t.val r) e := by
  have ht := lt64 t
  by_cases h0 : t.val % 64 = 0
  · rw [congrArg (fun p => p.2.2.1) (outsAt0_A m c t h0 (cond_4 _ h0))]
    dsimp only
    rw [A_v]
    exact tileAct_blk m c t (first_w m c t) (before_zero m c t (cond_4 _ h0)) r _
  obtain ⟨i0, i1, i2, i3, i4⟩ := carried m c (t.val - 1) (Nat.lt_of_le_of_lt (Nat.sub_le _ _) t.isLt)
  by_cases h1 : t.val % 4 = 0
  · rw [congrArg (fun p => p.2.2.1) (outsAt0_C m c t h0 h1)]
    dsimp only
    rw [C_v]
    exact tileAct_blk m c t i1 (before_zero m c t h1) r _
  · rw [congrArg (fun p => p.2.2.1) (outsAt0_B m c t h0 h1)]
    dsimp only
    have hp : ∀ b e, (outsAt0 m c (t.val - 1) (Nat.lt_of_le_of_lt (Nat.sub_le _ _) t.isLt)).2.2.2.2.2.2.2.1 (ix2 (⟨b.val, by omega⟩ : Fin 520) e) = before m c t.val b e := fun b e => by
      unfold before; rw [if_neg h1]; exact i0 b e
    rw [B_v]
    exact tileAct_blk m c t i1 hp r _

/-- The kernel's result array: v. -/
theorem final_v : (dats m 0 c).arrAt 10 cfg0.N = fun i : S32768x1024.Idx => rowV (aX m c) (aN m c) (aW m c) (aC m c) (i 0) (i 1) := by
  refine (dats m 0 c).arrAt_eq_of_covers 10 _ (by decide +kernel) fun t hf y => ?_
  blk_simp
  rw [after0_10]
  have ht := lt64 t
  revert y
  intro (y : S512x1024.Idx)
  obtain ⟨r, e, rfl⟩ : ∃ (r : Fin 512) (e : Fin 1024), y = ix2 r e := ⟨y 0, y 1, ValueIdx.eq_ix2 y⟩
  rw [written_v m c t r e]
  have he : (win0_10.blk t).view.emb (ix2 r e) = (ix2 (trow t.val r) e : S32768x1024.Idx) := by
    have h' := trow_val t.val ht r
    blk_ext [idx t]
  rw [he]
  rfl

/-- What a point writes back: beta. -/
theorem written_beta (t : Fin cfg0.N) (r : Fin 512) (e : Fin 8) : (outsAt0 m c t.val t.isLt).2.2.2.1 (ix2 r e) = rowBeta (aX m c) (aN m c) (aW m c) (trow t.val r) e := by
  have ht := lt64 t
  by_cases h0 : t.val % 64 = 0
  · rw [congrArg (fun p => p.2.2.2.1) (outsAt0_A m c t h0 (cond_4 _ h0))]
    dsimp only
    rw [A_beta]
    exact beta_blk m c t (fun k e => blk2_at m c t _ k) r e
  obtain ⟨i0, i1, i2, i3, i4⟩ := carried m c (t.val - 1) (Nat.lt_of_le_of_lt (Nat.sub_le _ _) t.isLt)
  by_cases h1 : t.val % 4 = 0
  · rw [congrArg (fun p => p.2.2.2.1) (outsAt0_C m c t h0 h1)]
    dsimp only
    rw [C_beta]
    exact beta_blk m c t i2 r e
  · rw [congrArg (fun p => p.2.2.2.1) (outsAt0_B m c t h0 h1)]
    dsimp only
    have hp : ∀ b e, (outsAt0 m c (t.val - 1) (Nat.lt_of_le_of_lt (Nat.sub_le _ _) t.isLt)).2.2.2.2.2.2.2.1 (ix2 (⟨b.val, by omega⟩ : Fin 520) e) = before m c t.val b e := fun b e => by
      unfold before; rw [if_neg h1]; exact i0 b e
    rw [B_beta]
    exact beta_blk m c t i2 r e

/-- The kernel's result array: beta. -/
theorem final_beta : (dats m 0 c).arrAt 11 cfg0.N = fun i : S32768x8.Idx => rowBeta (aX m c) (aN m c) (aW m c) (i 0) (i 1) := by
  refine (dats m 0 c).arrAt_eq_of_covers 11 _ (by decide +kernel) fun t hf y => ?_
  blk_simp
  rw [after0_11]
  have ht := lt64 t
  revert y
  intro (y : S512x8.Idx)
  obtain ⟨r, e, rfl⟩ : ∃ (r : Fin 512) (e : Fin 8), y = ix2 r e := ⟨y 0, y 1, ValueIdx.eq_ix2 y⟩
  rw [written_beta m c t r e]
  have he : (win0_11.blk t).view.emb (ix2 r e) = (ix2 (trow t.val r) e : S32768x8.Idx) := by
    have h' := trow_val t.val ht r
    blk_ext [idx t]
  rw [he]
  rfl

/-- What a point writes back: g. -/
theorem written_g (t : Fin cfg0.N) (r : Fin 512) (e : Fin 8) : (outsAt0 m c t.val t.isLt).2.2.2.2.1 (ix2 r e) = rowG (aX m c) (aN m c) (aW m c) (aA m c) (aD m c) (trow t.val r) e := by
  have ht := lt64 t
  by_cases h0 : t.val % 64 = 0
  · rw [congrArg (fun p => p.2.2.2.2.1) (outsAt0_A m c t h0 (cond_4 _ h0))]
    dsimp only
    rw [A_g]
    exact g_blk m c t (fun k e => blk2_at m c t _ k) r e
  obtain ⟨i0, i1, i2, i3, i4⟩ := carried m c (t.val - 1) (Nat.lt_of_le_of_lt (Nat.sub_le _ _) t.isLt)
  by_cases h1 : t.val % 4 = 0
  · rw [congrArg (fun p => p.2.2.2.2.1) (outsAt0_C m c t h0 h1)]
    dsimp only
    rw [C_g]
    exact g_blk m c t i2 r e
  · rw [congrArg (fun p => p.2.2.2.2.1) (outsAt0_B m c t h0 h1)]
    dsimp only
    have hp : ∀ b e, (outsAt0 m c (t.val - 1) (Nat.lt_of_le_of_lt (Nat.sub_le _ _) t.isLt)).2.2.2.2.2.2.2.1 (ix2 (⟨b.val, by omega⟩ : Fin 520) e) = before m c t.val b e := fun b e => by
      unfold before; rw [if_neg h1]; exact i0 b e
    rw [B_g]
    exact g_blk m c t i2 r e

/-- The kernel's result array: g. -/
theorem final_g : (dats m 0 c).arrAt 12 cfg0.N = fun i : S32768x8.Idx => rowG (aX m c) (aN m c) (aW m c) (aA m c) (aD m c) (i 0) (i 1) := by
  refine (dats m 0 c).arrAt_eq_of_covers 12 _ (by decide +kernel) fun t hf y => ?_
  blk_simp
  rw [after0_12]
  have ht := lt64 t
  revert y
  intro (y : S512x8.Idx)
  obtain ⟨r, e, rfl⟩ : ∃ (r : Fin 512) (e : Fin 8), y = ix2 r e := ⟨y 0, y 1, ValueIdx.eq_ix2 y⟩
  rw [written_g m c t r e]
  have he : (win0_12.blk t).view.emb (ix2 r e) = (ix2 (trow t.val r) e : S32768x8.Idx) := by
    have h' := trow_val t.val ht r
    blk_ext [idx t]
  rw [he]
  rfl

/-- What a point writes back: gt. -/
theorem written_gt (t : Fin cfg0.N) (e : Fin 8) (r : Fin 512) : (outsAt0 m c t.val t.isLt).2.2.2.2.2.1 (ix2 e r) = rowG (aX m c) (aN m c) (aW m c) (aA m c) (aD m c) (trow t.val r) e := by
  have ht := lt64 t
  by_cases h0 : t.val % 64 = 0
  · rw [congrArg (fun p => p.2.2.2.2.2.1) (outsAt0_A m c t h0 (cond_4 _ h0))]
    dsimp only
    rw [A_gt]
    exact gt_blk m c t (fun e k => blk2_at m c t _ k) e r
  obtain ⟨i0, i1, i2, i3, i4⟩ := carried m c (t.val - 1) (Nat.lt_of_le_of_lt (Nat.sub_le _ _) t.isLt)
  by_cases h1 : t.val % 4 = 0
  · rw [congrArg (fun p => p.2.2.2.2.2.1) (outsAt0_C m c t h0 h1)]
    dsimp only
    rw [C_gt]
    exact gt_blk m c t i3 e r
  · rw [congrArg (fun p => p.2.2.2.2.2.1) (outsAt0_B m c t h0 h1)]
    dsimp only
    have hp : ∀ b e, (outsAt0 m c (t.val - 1) (Nat.lt_of_le_of_lt (Nat.sub_le _ _) t.isLt)).2.2.2.2.2.2.2.1 (ix2 (⟨b.val, by omega⟩ : Fin 520) e) = before m c t.val b e := fun b e => by
      unfold before; rw [if_neg h1]; exact i0 b e
    rw [B_gt]
    exact gt_blk m c t i3 e r

/-- The kernel's result array: gt. -/
theorem final_gt : (dats m 0 c).arrAt 13 cfg0.N = fun i : S8x32768.Idx => rowG (aX m c) (aN m c) (aW m c) (aA m c) (aD m c) (i 1) (i 0) := by
  refine (dats m 0 c).arrAt_eq_of_covers 13 _ (by decide +kernel) fun t hf y => ?_
  blk_simp
  rw [after0_13]
  have ht := lt64 t
  revert y
  intro (y : S8x512.Idx)
  obtain ⟨e, r, rfl⟩ : ∃ (e : Fin 8) (r : Fin 512), y = ix2 e r := ⟨y 0, y 1, ValueIdx.eq_ix2 y⟩
  rw [written_gt m c t e r]
  have he : (win0_13.blk t).view.emb (ix2 e r) = (ix2 e (trow t.val r) : S8x32768.Idx) := by
    have h' := trow_val t.val ht r
    blk_ext [idx t]
  rw [he]
  rfl

/-- What a point writes back: z. -/
theorem written_z (t : Fin cfg0.N) (r : Fin 512) (e : Fin 1024) : (outsAt0 m c t.val t.isLt).2.2.2.2.2.2.1 (ix2 r e) = rowZ (aX m c) (aN m c) (aW m c) (trow t.val r) e := by
  have ht := lt64 t
  by_cases h0 : t.val % 64 = 0
  · rw [congrArg (fun p => p.2.2.2.2.2.2.1) (outsAt0_A m c t h0 (cond_4 _ h0))]
    dsimp only
    rw [A_z]
    exact z_blk m c t (fun k e => blk2_at m c t _ k) r e
  obtain ⟨i0, i1, i2, i3, i4⟩ := carried m c (t.val - 1) (Nat.lt_of_le_of_lt (Nat.sub_le _ _) t.isLt)
  by_cases h1 : t.val % 4 = 0
  · rw [congrArg (fun p => p.2.2.2.2.2.2.1) (outsAt0_C m c t h0 h1)]
    dsimp only
    rw [C_z]
    exact z_blk m c t i4 r e
  · rw [congrArg (fun p => p.2.2.2.2.2.2.1) (outsAt0_B m c t h0 h1)]
    dsimp only
    have hp : ∀ b e, (outsAt0 m c (t.val - 1) (Nat.lt_of_le_of_lt (Nat.sub_le _ _) t.isLt)).2.2.2.2.2.2.2.1 (ix2 (⟨b.val, by omega⟩ : Fin 520) e) = before m c t.val b e := fun b e => by
      unfold before; rw [if_neg h1]; exact i0 b e
    rw [B_z]
    exact z_blk m c t i4 r e

/-- The kernel's result array: z. -/
theorem final_z : (dats m 0 c).arrAt 14 cfg0.N = fun i : S32768x1024.Idx => rowZ (aX m c) (aN m c) (aW m c) (i 0) (i 1) := by
  refine (dats m 0 c).arrAt_eq_of_covers 14 _ (by decide +kernel) fun t hf y => ?_
  blk_simp
  rw [after0_14]
  have ht := lt64 t
  revert y
  intro (y : S512x1024.Idx)
  obtain ⟨r, e, rfl⟩ : ∃ (r : Fin 512) (e : Fin 1024), y = ix2 r e := ⟨y 0, y 1, ValueIdx.eq_ix2 y⟩
  rw [written_z m c t r e]
  have he : (win0_14.blk t).view.emb (ix2 r e) = (ix2 (trow t.val r) e : S32768x1024.Idx) := by
    have h' := trow_val t.val ht r
    blk_ext [idx t]
  rw [he]
  rfl

end Cert.Kernel3Ideal.Whole
end
-- ==== Proof.ConvRef.lean ====
module

public import proofs.«01_k».proof.Proof.ConvRows
public import proofs.«01_k».proof.Proof.Gen.Reference3Ideal.Run
public import Idealize.ShloMosaic.Lib.IdealHost

/-! The reference's results of the input projection, entry by entry. -/

@[expose] public section

set_option maxRecDepth 16384

noncomputable section

namespace Cert.Reference3Ideal.Whole

open Cert.Reference3Ideal Cert.Reference3Ideal.Gen Conv
open Idealize.ShloMosaic Idealize.ShloMosaic.TcCoe Idealize.ShloMosaic.Tactic Idealize.SL.Sem

/-- Row `s` of sequence `b`. -/
def flat (b : Fin 16) (s : Fin 2048) : Fin 32768 := ⟨b.val * 2048 + s.val, by omega⟩

theorem flat_cases (R : Fin 32768) : ∃ (b : Fin 16) (s : Fin 2048), R = flat b s :=
  ⟨⟨R.val / 2048, by omega⟩, ⟨R.val % 2048, by omega⟩, Fin.ext (by show R.val = R.val / 2048 * 2048 + R.val % 2048; omega)⟩

theorem flat_mod (b : Fin 16) (s : Fin 2048) : (flat b s).val % 2048 = s.val := by
  show (b.val * 2048 + s.val) % 2048 = s.val
  omega

theorem cast_x (x : FVec Ideal S32768x1024 .f32) (b : Fin 16) (s : Fin 2048) (e : Fin 1024) :
    shapeCast S16x2048x1024 x shapeCasts_S32768x1024_S16x2048x1024 (ix3 b s e) = x (ix2 (flat b s) e) := by
  pointwise
  rfl

theorem flat_div (b : Fin 16) (s : Fin 2048) (h : (flat b s).val / 2048 < 16) : (⟨(flat b s).val / 2048, h⟩ : Fin 16) = b :=
  Fin.ext (by show (b.val * 2048 + s.val) / 2048 = b.val; omega)

theorem flat_rem (b : Fin 16) (s : Fin 2048) (h : (flat b s).val % 2048 < 2048) : (⟨(flat b s).val % 2048, h⟩ : Fin 2048) = s :=
  Fin.ext (flat_mod b s)

theorem cast_v (y : FVec Ideal S16x2048x1024 .f32) (b : Fin 16) (s : Fin 2048) (e : Fin 1024) :
    shapeCast S32768x1024 y shapeCasts_S16x2048x1024_S32768x1024 (ix2 (flat b s) e) = y (ix3 b s e) := by
  pointwise
  rw [flat_div, flat_rem]

theorem cast_8 (y : FVec Ideal S16x2048x8 .f32) (b : Fin 16) (s : Fin 2048) (e : Fin 8) :
    shapeCast S32768x8 y shapeCasts_S16x2048x8_S32768x8 (ix2 (flat b s) e) = y (ix3 b s e) := by
  pointwise
  rw [flat_div, flat_rem]

theorem cast_q (y : FVec Ideal S16x2048x8x128 .f32) (b : Fin 16) (s : Fin 2048) (h : Fin 8) (j : Fin 128) :
    shapeCast S32768x1024 y shapeCasts_S16x2048x8x128_S32768x1024 (ix2 (flat b s) (hcol h j)) = y (ix4 b s h j) := by
  pointwise
  rw [flat_div, flat_rem, hcol_div, hcol_mod]

theorem cast_h (y : FVec Ideal S16x2048x1024 .f32) (b : Fin 16) (s : Fin 2048) (h : Fin 8) (j : Fin 128) :
    shapeCast S16x2048x8x128 y shapeCasts_S16x2048x1024_S16x2048x8x128 (ix4 b s h j) = y (ix3 b s (hcol h j)) := by
  pointwise
  rfl

/-- The rows with three zero rows before. -/
def padded (y : FVec Ideal S16x2048x3072 .f32) : FVec Ideal S16x2051x3072 .f32 :=
  pad S16x2051x3072 ![0, 3, 0] ![0, 0, 0] ![0, 0, 0] y (sitofp .f32 (constantI S_ 32 0#32)) pads_S16x2048x3072_S16x2051x3072_000_300_000 h_S_

theorem fill_zero : (FloatOps.sitofp (F := Ideal) .f32 (0#32)) = 0 := by
  show (((0#32 : BitVec 32).toInt : ℝ) : EReal) = 0
  simp

/-- Their entries. -/
theorem padded_at (y : FVec Ideal S16x2048x3072 .f32) (b : Fin 16) (s : Fin 2051) (e : Fin 3072) :
    padded y (ix3 b s e) = if h : 3 ≤ s.val then y (ix3 b ⟨s.val - 3, by omega⟩ e) else 0 := by
  pointwise [padded]
  by_cases h : 3 ≤ s.val
  · rw [dif_pos ⟨h, by omega⟩, dif_pos h]
  · rw [dif_neg (fun g => h g.1), dif_neg h]
    exact fill_zero

/-- The soft ramp of an array. -/
def soft (y : FVec Ideal S16x2048x8 .f32) : FVec Ideal S16x2048x8 .f32 :=
  select (cmpf .une (subf y (broadcastInDim S16x2048x8 ![] bcast_S_S16x2048x8 (constant S_ .f32 0x00000000#32))) (subf y (broadcastInDim S16x2048x8 ![] bcast_S_S16x2048x8 (constant S_ .f32 0x00000000#32)))) (addf y (broadcastInDim S16x2048x8 ![] bcast_S_S16x2048x8 (constant S_ .f32 0x00000000#32))) (addf (maximumf y (broadcastInDim S16x2048x8 ![] bcast_S_S16x2048x8 (constant S_ .f32 0x00000000#32))) (Host.log1p (Host.exp (Host.negf (Host.absf (subf y (broadcastInDim S16x2048x8 ![] bcast_S_S16x2048x8 (constant S_ .f32 0x00000000#32))))))))

/-- Its entries. -/
theorem soft_at (y : FVec Ideal S16x2048x8 .f32) (b : Fin 16) (s : Fin 2048) (e : Fin 8) : soft y (ix3 b s e) = ramp (y (ix3 b s e)) := by
  pointwise [soft]
  rw [if_neg (fun h => h rfl)]
  unfold ramp
  rw [zero_sub]
  rfl

variable (x : FVec Ideal S32768x1024 .f32) (n : FVec Ideal S4x1024 .f32) (w : FVec Ideal S2x1024x4112 .f32) (cw : FVec Ideal S2x4x3072 .f32)
  (al : FVec Ideal S2x8 .f32) (dt : FVec Ideal S2x8 .f32)

/-- The normed rows. -/
def normed : FVec Ideal S16x2048x1024 .f32 :=
  mulf (mulf (shapeCast S16x2048x1024 x shapeCasts_S32768x1024_S16x2048x1024) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (shapeCast S16x2048x1024 x shapeCasts_S32768x1024_S16x2048x1024) (shapeCast S16x2048x1024 x shapeCasts_S32768x1024_S16x2048x1024)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast S1024 (extractStridedSlice S1x1024 ![3, 0] n slices_S4x1024_S1x1024_3_0) shapeCasts_S1x1024_S1024)))

/-- Their entries. -/
theorem normed_at (b : Fin 16) (s : Fin 2048) (e : Fin 1024) : normed x n (ix3 b s e)
    = Ple.normed (fun e => x (ix2 (flat b s) e)) (fun e => n (ix2 3 e)) e := by
  pointwise [normed]
  rfl

/-- The projected rows. -/
def proj : FVec Ideal S16x2048x4112 .f32 :=
  Host.dotGeneral dot_S16x2048x1024_S1024x4112_S16x2048x4112_2_0_01_1_n_n none (normed x n) (shapeCast S1024x4112 (extractStridedSlice S1x1024x4112 ![1, 0, 0] w slices_S2x1024x4112_S1x1024x4112_1_0_0) shapeCasts_S1x1024x4112_S1024x4112)

/-- The projection's entries. -/
abbrev P : Fin 32768 → Fin 4112 → EReal := pre (fun R e => x (ix2 R e)) (fun e => n (ix2 (3 : Fin 4) e)) (fun k e => w (ix3 (1 : Fin 2) k e))

/-- Their entries. -/
theorem proj_at (b : Fin 16) (s : Fin 2048) (e : Fin 4112) : proj x n w (ix3 b s e) = P x n w (flat b s) e := by
  pointwise [proj]
  exact Finset.sum_congr rfl fun k _ => congrArg (· * w (ix3 1 k e)) (normed_at x n b s k)

/-- The projected queries, keys and values. -/
def qkv : FVec Ideal S16x2048x3072 .f32 := extractStridedSlice S16x2048x3072 ![0, 0, 0] (proj x n w) slices_S16x2048x4112_S16x2048x3072_0_0_0

theorem qkv_at (b : Fin 16) (s : Fin 2048) (e : Fin 3072) : qkv x n w (ix3 b s e) = P x n w (flat b s) ⟨e.val, by omega⟩ := by
  refine Eq.trans ?_ (proj_at x n w b s _)
  pointwise [qkv]

/-- The padded rows are the earlier rows. -/
theorem tap_at (d : ℕ) (b : Fin 16) (s : Fin 2048) (i : Fin 2051) (hi : i.val + d = 3 + s.val) (e : Fin 3072) :
    padded (qkv x n w) (ix3 b i e) = tap (fun R e => x (ix2 R e)) (fun e => n (ix2 (3 : Fin 4) e)) (fun k e => w (ix3 (1 : Fin 2) k e)) d (flat b s) e := by
  rw [padded_at]
  unfold tap
  have hs := flat_mod b s
  by_cases h : 3 ≤ i.val
  · rw [dif_pos h, if_pos (by omega), qkv_at]
    refine congrArg (fun R => P x n w R ⟨e.val, by omega⟩) (Fin.ext ?_)
    show b.val * 2048 + (i.val - 3) = b.val * 2048 + s.val - d
    omega
  · rw [dif_neg h, if_neg (by omega)]

/-- The window's term 0. -/
def term_0 (y : FVec Ideal S16x2051x3072 .f32) : FVec Ideal S16x2048x3072 .f32 :=
  mulf (extractStridedSlice S16x2048x3072 ![0, 0, 0] y slices_S16x2051x3072_S16x2048x3072_0_0_0) (broadcastInDim S16x2048x3072 ![0, 1, 2] bcast_S1x1x3072_S16x2048x3072_0_1_2 (broadcastInDim S1x1x3072 ![2] bcast_S3072_S1x1x3072_2 (shapeCast S3072 (extractStridedSlice S1x3072 ![0, 0] (shapeCast S4x3072 (extractStridedSlice S1x4x3072 ![1, 0, 0] cw slices_S2x4x3072_S1x4x3072_1_0_0) shapeCasts_S1x4x3072_S4x3072) slices_S4x3072_S1x3072_0_0) shapeCasts_S1x3072_S3072)))

theorem term_0_at (y : FVec Ideal S16x2051x3072 .f32) (b : Fin 16) (s : Fin 2048) (e : Fin 3072) :
    term_0 cw y (ix3 b s e) = y (ix3 b ⟨0 + s.val, by omega⟩ e) * cw (ix3 1 0 e) := by
  pointwise [term_0]
  try rfl

/-- The window's term 1. -/
def term_1 (y : FVec Ideal S16x2051x3072 .f32) : FVec Ideal S16x2048x3072 .f32 :=
  mulf (extractStridedSlice S16x2048x3072 ![0, 1, 0] y slices_S16x2051x3072_S16x2048x3072_0_1_0) (broadcastInDim S16x2048x3072 ![0, 1, 2] bcast_S1x1x3072_S16x2048x3072_0_1_2 (broadcastInDim S1x1x3072 ![2] bcast_S3072_S1x1x3072_2 (shapeCast S3072 (extractStridedSlice S1x3072 ![1, 0] (shapeCast S4x3072 (extractStridedSlice S1x4x3072 ![1, 0, 0] cw slices_S2x4x3072_S1x4x3072_1_0_0) shapeCasts_S1x4x3072_S4x3072) slices_S4x3072_S1x3072_1_0) shapeCasts_S1x3072_S3072)))

theorem term_1_at (y : FVec Ideal S16x2051x3072 .f32) (b : Fin 16) (s : Fin 2048) (e : Fin 3072) :
    term_1 cw y (ix3 b s e) = y (ix3 b ⟨1 + s.val, by omega⟩ e) * cw (ix3 1 1 e) := by
  pointwise [term_1]
  try rfl

/-- The window's term 2. -/
def term_2 (y : FVec Ideal S16x2051x3072 .f32) : FVec Ideal S16x2048x3072 .f32 :=
  mulf (extractStridedSlice S16x2048x3072 ![0, 2, 0] y slices_S16x2051x3072_S16x2048x3072_0_2_0) (broadcastInDim S16x2048x3072 ![0, 1, 2] bcast_S1x1x3072_S16x2048x3072_0_1_2 (broadcastInDim S1x1x3072 ![2] bcast_S3072_S1x1x3072_2 (shapeCast S3072 (extractStridedSlice S1x3072 ![2, 0] (shapeCast S4x3072 (extractStridedSlice S1x4x3072 ![1, 0, 0] cw slices_S2x4x3072_S1x4x3072_1_0_0) shapeCasts_S1x4x3072_S4x3072) slices_S4x3072_S1x3072_2_0) shapeCasts_S1x3072_S3072)))

theorem term_2_at (y : FVec Ideal S16x2051x3072 .f32) (b : Fin 16) (s : Fin 2048) (e : Fin 3072) :
    term_2 cw y (ix3 b s e) = y (ix3 b ⟨2 + s.val, by omega⟩ e) * cw (ix3 1 2 e) := by
  pointwise [term_2]
  try rfl

/-- The window's term 3. -/
def term_3 (y : FVec Ideal S16x2051x3072 .f32) : FVec Ideal S16x2048x3072 .f32 :=
  mulf (extractStridedSlice S16x2048x3072 ![0, 3, 0] y slices_S16x2051x3072_S16x2048x3072_0_3_0) (broadcastInDim S16x2048x3072 ![0, 1, 2] bcast_S1x1x3072_S16x2048x3072_0_1_2 (broadcastInDim S1x1x3072 ![2] bcast_S3072_S1x1x3072_2 (shapeCast S3072 (extractStridedSlice S1x3072 ![3, 0] (shapeCast S4x3072 (extractStridedSlice S1x4x3072 ![1, 0, 0] cw slices_S2x4x3072_S1x4x3072_1_0_0) shapeCasts_S1x4x3072_S4x3072) slices_S4x3072_S1x3072_3_0) shapeCasts_S1x3072_S3072)))

theorem term_3_at (y : FVec Ideal S16x2051x3072 .f32) (b : Fin 16) (s : Fin 2048) (e : Fin 3072) :
    term_3 cw y (ix3 b s e) = y (ix3 b ⟨3 + s.val, by omega⟩ e) * cw (ix3 1 3 e) := by
  pointwise [term_3]
  try rfl

/-- The window's sum. -/
def window : FVec Ideal S16x2048x3072 .f32 :=
  addf (addf (addf (addf (broadcastInDim S16x2048x3072 ![] bcast_S_S16x2048x3072 (constant S_ .f32 0x00000000#32)) (term_0 cw (padded (qkv x n w)))) (term_1 cw (padded (qkv x n w)))) (term_2 cw (padded (qkv x n w)))) (term_3 cw (padded (qkv x n w)))

/-- The product with the logistic function, of an array. -/
def swish (y : FVec Ideal S16x2048x3072 .f32) : FVec Ideal S16x2048x3072 .f32 :=
  mulf y (Host.divf (broadcastInDim S16x2048x3072 ![] bcast_S_S16x2048x3072 (constant S_ .f32 0x3F800000#32)) (addf (broadcastInDim S16x2048x3072 ![] bcast_S_S16x2048x3072 (constant S_ .f32 0x3F800000#32)) (Host.exp (Host.negf y))))

theorem swish_at (y : FVec Ideal S16x2048x3072 .f32) (b : Fin 16) (s : Fin 2048) (e : Fin 3072) : swish y (ix3 b s e) = silu (y (ix3 b s e)) := by
  pointwise [swish]
  rfl

/-- The activated window sum's entries. -/
theorem conv_at (b : Fin 16) (s : Fin 2048) (e : Fin 3072) : swish (window x n w cw) (ix3 b s e) = conv (fun R e => x (ix2 R e)) (fun e => n (ix2 (3 : Fin 4) e)) (fun k e => w (ix3 (1 : Fin 2) k e)) (fun i e => cw (ix3 (1 : Fin 2) i e)) (flat b s) e := by
  rw [swish_at]
  unfold conv act
  refine congrArg silu ?_
  have h0 : (broadcastInDim S16x2048x3072 ![] bcast_S_S16x2048x3072 (constant (F := Ideal) S_ .f32 0x00000000#32)) (ix3 b s e) = 0 := by pointwise
  show (broadcastInDim S16x2048x3072 ![] bcast_S_S16x2048x3072 (constant (F := Ideal) S_ .f32 0x00000000#32)) (ix3 b s e)
    + term_0 cw (padded (qkv x n w)) (ix3 b s e) + term_1 cw (padded (qkv x n w)) (ix3 b s e) + term_2 cw (padded (qkv x n w)) (ix3 b s e) + term_3 cw (padded (qkv x n w)) (ix3 b s e) = _
  rw [h0, term_0_at, term_1_at, term_2_at, term_3_at, zero_add, tap_at x n w 3 b s _ (by dsimp only; omega), tap_at x n w 2 b s _ (by dsimp only; omega),
    tap_at x n w 1 b s _ (by dsimp only; omega), tap_at x n w 0 b s _ (by dsimp only; omega)]
  have hz : tap (fun R e => x (ix2 R e)) (fun e => n (ix2 (3 : Fin 4) e)) (fun k e => w (ix3 (1 : Fin 2) k e)) 0 (flat b s) e = P x n w (flat b s) ⟨e.val, by omega⟩ := by
    unfold tap
    rw [if_pos (Nat.zero_le _)]
    rfl
  rw [hz, add_comm, ← add_assoc, ← add_assoc]

/-- The heads of section 0. -/
def headsQ (y : FVec Ideal S16x2048x3072 .f32) : FVec Ideal S16x2048x8x128 .f32 := (shapeCast S16x2048x8x128 (extractStridedSlice S16x2048x1024 ![0, 0, 0] y slices_S16x2048x3072_S16x2048x1024_0_0_0) shapeCasts_S16x2048x1024_S16x2048x8x128)

theorem headsQ_at (y : FVec Ideal S16x2048x3072 .f32) (b : Fin 16) (s : Fin 2048) (h : Fin 8) (j : Fin 128) : headsQ y (ix4 b s h j) = y (ix3 b s (sec 0 (hcol h j))) := by
  unfold headsQ
  rw [cast_h]
  pointwise
  refine congrArg (fun i => y (ix3 b s i)) (Fin.ext ?_)
  show _ = 0 * 1024 + (hcol h j).val
  simp

/-- The heads of section 1. -/
def headsK (y : FVec Ideal S16x2048x3072 .f32) : FVec Ideal S16x2048x8x128 .f32 := (shapeCast S16x2048x8x128 (extractStridedSlice S16x2048x1024 ![0, 0, 1024] y slices_S16x2048x3072_S16x2048x1024_0_0_1024) shapeCasts_S16x2048x1024_S16x2048x8x128)

theorem headsK_at (y : FVec Ideal S16x2048x3072 .f32) (b : Fin 16) (s : Fin 2048) (h : Fin 8) (j : Fin 128) : headsK y (ix4 b s h j) = y (ix3 b s (sec 1 (hcol h j))) := by
  unfold headsK
  rw [cast_h]
  pointwise
  refine congrArg (fun i => y (ix3 b s i)) (Fin.ext ?_)
  show _ = 1 * 1024 + (hcol h j).val
  simp

/-- Rows divided by the roots of their square sums. -/
def units (y : FVec Ideal S16x2048x8x128 .f32) : FVec Ideal S16x2048x8x128 .f32 :=
  mulf y (broadcastInDim S16x2048x8x128 ![0, 1, 2, 3] bcast_S16x2048x8x1_S16x2048x8x128_0_1_2_3 (Host.rsqrt (addf (broadcastInDim S16x2048x8x1 ![0, 1, 2] bcast_S16x2048x8_S16x2048x8x1_0_1_2 (Host.reduceAdd (mulf y y) (constant S_ .f32 0x00000000#32) reducesTo_S16x2048x8x128_S16x2048x8_d3 h_S_)) (broadcastInDim S16x2048x8x1 ![] bcast_S_S16x2048x8x1 (constant S_ .f32 0x358637BD#32)))))

theorem units_at (y : FVec Ideal S16x2048x8x128 .f32) (b : Fin 16) (s : Fin 2048) (h : Fin 8) (j : Fin 128) :
    units y (ix4 b s h j) = unit (fun k => y (ix4 b s h k)) j := by
  pointwise [units]
  rfl

/-- The queries. -/
def outQ : FVec Ideal S32768x1024 .f32 :=
  shapeCast S32768x1024 (mulf (units (headsQ (swish (window x n w cw)))) (broadcastInDim S16x2048x8x128 ![] bcast_S_S16x2048x8x128 (constant S_ .f32 0x3DB504F3#32))) shapeCasts_S16x2048x8x128_S32768x1024
/-- The keys. -/
def outK : FVec Ideal S32768x1024 .f32 :=
  shapeCast S32768x1024 (units (headsK (swish (window x n w cw)))) shapeCasts_S16x2048x8x128_S32768x1024
/-- The values. -/
def outV : FVec Ideal S32768x1024 .f32 :=
  shapeCast S32768x1024 (extractStridedSlice S16x2048x1024 ![0, 0, 2048] (swish (window x n w cw)) slices_S16x2048x3072_S16x2048x1024_0_0_2048) shapeCasts_S16x2048x1024_S32768x1024
/-- The step sizes. -/
def outBeta : FVec Ideal S32768x8 .f32 :=
  shapeCast S32768x8 (Host.divf (broadcastInDim S16x2048x8 ![] bcast_S_S16x2048x8 (constant S_ .f32 0x3F800000#32)) (addf (broadcastInDim S16x2048x8 ![] bcast_S_S16x2048x8 (constant S_ .f32 0x3F800000#32)) (Host.exp (Host.negf (extractStridedSlice S16x2048x8 ![0, 0, 3072] (proj x n w) slices_S16x2048x4112_S16x2048x8_0_0_3072))))) shapeCasts_S16x2048x8_S32768x8
/-- The log decays. -/
def outG : FVec Ideal S32768x8 .f32 :=
  shapeCast S32768x8 (mulf (broadcastInDim S16x2048x8 ![0, 1, 2] bcast_S1x1x8_S16x2048x8_0_1_2 (broadcastInDim S1x1x8 ![2] bcast_S8_S1x1x8_2 (Host.negf (Host.exp (shapeCast S8 (extractStridedSlice S1x8 ![1, 0] al slices_S2x8_S1x8_1_0) shapeCasts_S1x8_S8))))) (soft (addf (extractStridedSlice S16x2048x8 ![0, 0, 3080] (proj x n w) slices_S16x2048x4112_S16x2048x8_0_0_3080) (broadcastInDim S16x2048x8 ![0, 1, 2] bcast_S1x1x8_S16x2048x8_0_1_2 (broadcastInDim S1x1x8 ![2] bcast_S8_S1x1x8_2 (shapeCast S8 (extractStridedSlice S1x8 ![1, 0] dt slices_S2x8_S1x8_1_0) shapeCasts_S1x8_S8)))))) shapeCasts_S16x2048x8_S32768x8
/-- The log decays as rows. -/
def outGt : FVec Ideal S8x32768 .f32 := transpose S8x32768 [1, 0] (outG x n w al dt) transposes_S32768x8_S8x32768_1_0
/-- The gate's rows. -/
def outZ : FVec Ideal S32768x1024 .f32 :=
  shapeCast S32768x1024 (extractStridedSlice S16x2048x1024 ![0, 0, 3088] (proj x n w) slices_S16x2048x4112_S16x2048x1024_0_0_3088) shapeCasts_S16x2048x1024_S32768x1024

/-- The queries' entries. -/
theorem outQ_at (R : Fin 32768) (e : Fin 1024) : outQ x n w cw (ix2 R e) = rowQ (fun R e => x (ix2 R e)) (fun e => n (ix2 (3 : Fin 4) e)) (fun k e => w (ix3 (1 : Fin 2) k e)) (fun i e => cw (ix3 (1 : Fin 2) i e)) R e := by
  obtain ⟨b, s, rfl⟩ := flat_cases R
  obtain ⟨h, j, rfl⟩ := hcol_cases e
  unfold outQ
  rw [cast_q, rowQ_hcol]
  have h0 : (broadcastInDim S16x2048x8x128 ![] bcast_S_S16x2048x8x128 (constant (F := Ideal) S_ .f32 0x3DB504F3#32)) (ix4 b s h j) = Ideal.ofBits .f32 0x3DB504F3#32 := by pointwise
  show units (headsQ (swish (window x n w cw))) (ix4 b s h j) * (broadcastInDim S16x2048x8x128 ![] bcast_S_S16x2048x8x128 (constant (F := Ideal) S_ .f32 0x3DB504F3#32)) (ix4 b s h j) = _
  rw [h0, units_at]
  simp only [headsQ_at, conv_at]
  exact mul_assoc _ _ _

/-- The keys' entries. -/
theorem outK_at (R : Fin 32768) (e : Fin 1024) : outK x n w cw (ix2 R e) = rowK (fun R e => x (ix2 R e)) (fun e => n (ix2 (3 : Fin 4) e)) (fun k e => w (ix3 (1 : Fin 2) k e)) (fun i e => cw (ix3 (1 : Fin 2) i e)) R e := by
  obtain ⟨b, s, rfl⟩ := flat_cases R
  obtain ⟨h, j, rfl⟩ := hcol_cases e
  unfold outK
  rw [cast_q, rowK_hcol, units_at]
  simp only [headsK_at, conv_at]

/-- The values' entries. -/
theorem outV_at (R : Fin 32768) (e : Fin 1024) : outV x n w cw (ix2 R e) = rowV (fun R e => x (ix2 R e)) (fun e => n (ix2 (3 : Fin 4) e)) (fun k e => w (ix3 (1 : Fin 2) k e)) (fun i e => cw (ix3 (1 : Fin 2) i e)) R e := by
  obtain ⟨b, s, rfl⟩ := flat_cases R
  unfold outV
  rw [cast_v]
  refine Eq.trans ?_ (conv_at x n w cw b s (sec 2 e))
  pointwise
  rfl

/-- The step sizes' entries. -/
theorem outBeta_at (R : Fin 32768) (e : Fin 8) : outBeta x n w (ix2 R e) = rowBeta (fun R e => x (ix2 R e)) (fun e => n (ix2 (3 : Fin 4) e)) (fun k e => w (ix3 (1 : Fin 2) k e)) R e := by
  obtain ⟨b, s, rfl⟩ := flat_cases R
  unfold outBeta
  rw [cast_8]
  pointwise
  rw [proj_at]
  rfl

/-- The log decays' entries. -/
theorem outG_at (R : Fin 32768) (e : Fin 8) : outG x n w al dt (ix2 R e) = rowG (fun R e => x (ix2 R e)) (fun e => n (ix2 (3 : Fin 4) e)) (fun k e => w (ix3 (1 : Fin 2) k e)) (fun e => al (ix2 (1 : Fin 2) e)) (fun e => dt (ix2 (1 : Fin 2) e)) R e := by
  obtain ⟨b, s, rfl⟩ := flat_cases R
  unfold outG
  rw [cast_8]
  refine (congrArg₂ (fun a b : EReal => a * b) (x' := -(Ideal.exp (al (ix2 1 e)))) (by pointwise) (soft_at _ b s e)).trans ?_
  unfold rowG decay
  rw [zero_sub]
  refine congrArg (fun z => -(Ideal.exp (al (ix2 1 e))) * ramp z) ?_
  pointwise
  rw [proj_at]

/-- The log decays as rows' entries. -/
theorem outGt_at (e : Fin 8) (R : Fin 32768) : outGt x n w al dt (ix2 e R) = rowG (fun R e => x (ix2 R e)) (fun e => n (ix2 (3 : Fin 4) e)) (fun k e => w (ix3 (1 : Fin 2) k e)) (fun e => al (ix2 (1 : Fin 2) e)) (fun e => dt (ix2 (1 : Fin 2) e)) R e := by
  refine Eq.trans ?_ (outG_at x n w al dt R e)
  pointwise [outGt]

/-- The gate rows' entries. -/
theorem outZ_at (R : Fin 32768) (e : Fin 1024) : outZ x n w (ix2 R e) = rowZ (fun R e => x (ix2 R e)) (fun e => n (ix2 (3 : Fin 4) e)) (fun k e => w (ix3 (1 : Fin 2) k e)) R e := by
  obtain ⟨b, s, rfl⟩ := flat_cases R
  unfold outZ
  rw [cast_v]
  refine Eq.trans ?_ (proj_at x n w b s _)
  pointwise

variable (m : (ℓ : Loc nD τ sig) → Buf (Elt Ideal) ℓ) (ρ : Dev nD → PrngReg)

/-- Every execution of the reference ends with its results at those arrays, its arguments unchanged, and every counter at zero. -/
theorem run : θ_run (defs (F := Ideal)) (onTc (τ := τ) (main (F := Ideal))) ⟨m, fun _ => 0, ρ⟩ (fun r => (∀ c : Dev nD,
      r.2.mem ((c.tc : Thread nD τ).loc main_v99) = outQ (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v100) = outK (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v101) = outV (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v102) = outBeta (m ((c.tc : Thread nD τ).loc main_arg0)) (m ((c.tc : Thread nD τ).loc main_arg1)) (m ((c.tc : Thread nD τ).loc main_arg2))
      ∧ r.2.mem ((c.tc : Thread nD τ).loc main_v98) = outG (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v103) = outGt (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v104) = outZ (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => ⟨(h c).1.trans rfl, (h c).2.1.trans rfl, (h c).2.2.1.trans rfl, (h c).2.2.2.1.trans rfl, (h c).2.2.2.2.1.trans rfl,
      (h c).2.2.2.2.2.1.trans rfl, (h c).2.2.2.2.2.2.1.trans rfl, (h c).2.2.2.2.2.2.2⟩, sem_eq_zero_of_no_sems (by decide) r.2⟩)
    (Cert.Reference3Ideal.Value.run (F := Ideal) m ρ)

end Cert.Reference3Ideal.Whole
end
-- ==== Proof.ConvClaims.lean ====
/- The claims of the input projection: the frames of its programs, the one named constant, and the kernel's seven results as the
   reference's. -/
module

public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.ConvKernel
public import proofs.«01_k».proof.Proof.ConvRef

@[expose] public section

set_option maxRecDepth 16384

noncomputable section

namespace Cert.Proof

open Idealize.ShloMosaic Idealize.ShloMosaic.StableHlo Idealize.SL.Sem

/-- The reference of the input projection runs to an end with its arguments unchanged and every counter at zero. -/
theorem frame_reference3 : Cert.quiescent_Reference3Ideal (hReference3Ideal := Cert.Reference3Ideal.Gen.facts) := fun m ρ _ =>
  (θ_run _ _ _).mono (fun _ h => ⟨fun c => (h.1 c).2.2.2.2.2.2.2, h.2⟩) (Cert.Reference3Ideal.Whole.run m ρ)

/-- The one named constant's word is the rounding of -1/log 2. -/
theorem preserves3 : Cert.preserves_Kernel3_Kernel3Ideal :=
  IdealRules.named_const.statement Cert.Kernel3Ideal.κ "neg_log2_e" .f32 0xBFB8AA3B#32 ((-((Real.log 2)⁻¹) : ℝ) : EReal) rfl

section

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ)

/-- The two programs are given the same arrays. -/
def Agree (c : Dev Cert.Kernel3Ideal.nD) : Prop :=
  m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
  ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
  ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
  ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
  ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
  ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)

variable (c : Dev Cert.Kernel3Ideal.nD)

/-- The two programs' queries. -/
theorem agree_q (h : Agree m m' c) : Cert.Reference3Ideal.Whole.outQ (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))
    = (Cert.Kernel3Ideal.Gen.dats m 0 c).arrAt 8 Cert.Kernel3Ideal.cfg0.N := by
  obtain ⟨a0, a1, a2, a3, a4, a5⟩ := h
  rw [a0, a1, a2, a3]
  refine Eq.trans ?_ (Cert.Kernel3Ideal.Whole.final_q m c).symm
  funext i
  obtain ⟨r, e, rfl⟩ : ∃ (r : Fin 32768) (e : Fin 1024), i = ix2 r e := ⟨i 0, i 1, ValueIdx.eq_ix2 i⟩
  exact Cert.Reference3Ideal.Whole.outQ_at _ _ _ _ r e

/-- The two programs' keys. -/
theorem agree_k (h : Agree m m' c) : Cert.Reference3Ideal.Whole.outK (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))
    = (Cert.Kernel3Ideal.Gen.dats m 0 c).arrAt 9 Cert.Kernel3Ideal.cfg0.N := by
  obtain ⟨a0, a1, a2, a3, a4, a5⟩ := h
  rw [a0, a1, a2, a3]
  refine Eq.trans ?_ (Cert.Kernel3Ideal.Whole.final_k m c).symm
  funext i
  obtain ⟨r, e, rfl⟩ : ∃ (r : Fin 32768) (e : Fin 1024), i = ix2 r e := ⟨i 0, i 1, ValueIdx.eq_ix2 i⟩
  exact Cert.Reference3Ideal.Whole.outK_at _ _ _ _ r e

/-- The two programs' values. -/
theorem agree_v (h : Agree m m' c) : Cert.Reference3Ideal.Whole.outV (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))
    = (Cert.Kernel3Ideal.Gen.dats m 0 c).arrAt 10 Cert.Kernel3Ideal.cfg0.N := by
  obtain ⟨a0, a1, a2, a3, a4, a5⟩ := h
  rw [a0, a1, a2, a3]
  refine Eq.trans ?_ (Cert.Kernel3Ideal.Whole.final_v m c).symm
  funext i
  obtain ⟨r, e, rfl⟩ : ∃ (r : Fin 32768) (e : Fin 1024), i = ix2 r e := ⟨i 0, i 1, ValueIdx.eq_ix2 i⟩
  exact Cert.Reference3Ideal.Whole.outV_at _ _ _ _ r e

/-- The two programs' step sizes. -/
theorem agree_beta (h : Agree m m' c) : Cert.Reference3Ideal.Whole.outBeta (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))
    = (Cert.Kernel3Ideal.Gen.dats m 0 c).arrAt 11 Cert.Kernel3Ideal.cfg0.N := by
  obtain ⟨a0, a1, a2, a3, a4, a5⟩ := h
  rw [a0, a1, a2]
  refine Eq.trans ?_ (Cert.Kernel3Ideal.Whole.final_beta m c).symm
  funext i
  obtain ⟨r, e, rfl⟩ : ∃ (r : Fin 32768) (e : Fin 8), i = ix2 r e := ⟨i 0, i 1, ValueIdx.eq_ix2 i⟩
  exact Cert.Reference3Ideal.Whole.outBeta_at _ _ _ r e

/-- The two programs' log decays. -/
theorem agree_g (h : Agree m m' c) : Cert.Reference3Ideal.Whole.outG (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5))
    = (Cert.Kernel3Ideal.Gen.dats m 0 c).arrAt 12 Cert.Kernel3Ideal.cfg0.N := by
  obtain ⟨a0, a1, a2, a3, a4, a5⟩ := h
  rw [a0, a1, a2, a4, a5]
  refine Eq.trans ?_ (Cert.Kernel3Ideal.Whole.final_g m c).symm
  funext i
  obtain ⟨r, e, rfl⟩ : ∃ (r : Fin 32768) (e : Fin 8), i = ix2 r e := ⟨i 0, i 1, ValueIdx.eq_ix2 i⟩
  exact Cert.Reference3Ideal.Whole.outG_at _ _ _ _ _ r e

/-- The two programs' log decays as rows. -/
theorem agree_gt (h : Agree m m' c) : Cert.Reference3Ideal.Whole.outGt (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5))
    = (Cert.Kernel3Ideal.Gen.dats m 0 c).arrAt 13 Cert.Kernel3Ideal.cfg0.N := by
  obtain ⟨a0, a1, a2, a3, a4, a5⟩ := h
  rw [a0, a1, a2, a4, a5]
  refine Eq.trans ?_ (Cert.Kernel3Ideal.Whole.final_gt m c).symm
  funext i
  obtain ⟨r, e, rfl⟩ : ∃ (r : Fin 8) (e : Fin 32768), i = ix2 r e := ⟨i 0, i 1, ValueIdx.eq_ix2 i⟩
  exact Cert.Reference3Ideal.Whole.outGt_at _ _ _ _ _ r e

/-- The two programs' gate's rows. -/
theorem agree_z (h : Agree m m' c) : Cert.Reference3Ideal.Whole.outZ (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))
    = (Cert.Kernel3Ideal.Gen.dats m 0 c).arrAt 14 Cert.Kernel3Ideal.cfg0.N := by
  obtain ⟨a0, a1, a2, a3, a4, a5⟩ := h
  rw [a0, a1, a2]
  refine Eq.trans ?_ (Cert.Kernel3Ideal.Whole.final_z m c).symm
  funext i
  obtain ⟨r, e, rfl⟩ : ∃ (r : Fin 32768) (e : Fin 1024), i = ix2 r e := ⟨i 0, i 1, ValueIdx.eq_ix2 i⟩
  exact Cert.Reference3Ideal.Whole.outZ_at _ _ _ r e

end

/-- The kernel and the reference leave the same arrays, at every argument. -/
theorem algebraic3 : Cert.algebraic_Kernel3Ideal_Reference3Ideal (hKernel3Ideal := Cert.Kernel3Ideal.Gen.facts)
    (hReference3Ideal := Cert.Reference3Ideal.Gen.facts) := by
  intro m ρ m' ρ' _ hagree
  refine ⟨_, _, _, _, _, _, _, (θ_run _ _ _).mono (fun _ h => h) (Cert.Kernel3Ideal.Value.run_blocks (F := Ideal) m ρ), ?_⟩
  refine (θ_run _ _ _).mono (fun _ h c => ⟨(h.1 c).1.trans (agree_q m m' c (hagree c)), (h.1 c).2.1.trans (agree_k m m' c (hagree c)), (h.1 c).2.2.1.trans (agree_v m m' c (hagree c)), (h.1 c).2.2.2.1.trans (agree_beta m m' c (hagree c)), (h.1 c).2.2.2.2.1.trans (agree_g m m' c (hagree c)), (h.1 c).2.2.2.2.2.1.trans (agree_gt m m' c (hagree c)), (h.1 c).2.2.2.2.2.2.1.trans (agree_z m m' c (hagree c)), (h.1 c).2.2.2.2.2.2.2⟩) (Cert.Reference3Ideal.Whole.run m' ρ')

end Cert.Proof

end
-- ==== Proof.lean ====
/- The claim: the frames of the programs, the named constants, and each kernel's result as its reference's. -/
module

public import proofs.«01_k».proof.Defs
public import proofs.«01_k».proof.Proof.Frames
public import proofs.«01_k».proof.Proof.Algebraic
public import proofs.«01_k».proof.Proof.PleClaims
public import proofs.«01_k».proof.Proof.ConvClaims
public import proofs.«01_k».proof.Proof.Gen.KernelIdeal.Value
public import proofs.«01_k».proof.Proof.Gen.Kernel2Ideal.Value
public import proofs.«01_k».proof.Proof.Gen.Reference2Ideal.Run
public import proofs.«01_k».proof.Proof.Gen.Pre_finite_and_decaying
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite_and_decaying.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  preserves, algebraic, preserves2, algebraic2, preserves3, algebraic3⟩

end Cert.Proof

end
